-- ==== Defs.lean ====
def Pre_Kernel [hPre_rows_apart : Cert.Pre_rows_apart.Facts] (m : (ℓ : Loc Cert.Kernel.nD Cert.Kernel.τ Cert.Kernel.sig) → Buf (Elt Bits) ℓ) : Prop :=
  ∀ c : Dev Cert.Kernel.nD,
    (Cert.Pre_rows_apart.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_rows_apart : Cert.Pre_rows_apart.Facts] (m : (ℓ : Loc Cert.KernelIdeal.nD Cert.KernelIdeal.τ Cert.KernelIdeal.sig) → Buf (Elt Ideal) ℓ) : Prop :=
  ∀ c : Dev Cert.KernelIdeal.nD,
    (Cert.Pre_rows_apart.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_rows_apart : Cert.Pre_rows_apart.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_apart.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Reference [hPre_rows_apart : Cert.Pre_rows_apart.Facts] (m : (ℓ : Loc Cert.Reference.nD Cert.Reference.τ Cert.Reference.sig) → Buf (Elt Bits) ℓ) : Prop :=
  ∀ c : Dev Cert.Reference.nD,
    (Cert.Pre_rows_apart.fn (F := Bits) (m ((c.tc : Thread Cert.Reference.nD Cert.Reference.τ).loc Cert.Reference.main_arg0)) (m ((c.tc : Thread Cert.Reference.nD Cert.Reference.τ).loc Cert.Reference.main_arg1))) = (fun _ => 1#1)

def Pre_Kernel2 [hPre_experts_in_range : Cert.Pre_experts_in_range.Facts] (m : (ℓ : Loc Cert.Kernel2.nD Cert.Kernel2.τ Cert.Kernel2.sig) → Buf (Elt Bits) ℓ) : Prop :=
  ∀ c : Dev Cert.Kernel2.nD,
    (Cert.Pre_experts_in_range.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5)) (m ((c.tc : Thread Cert.Kernel2.nD Cert.Kernel2.τ).loc Cert.Kernel2.main_arg6))) = (fun _ => 1#1)

def Pre_Kernel2Ideal [hPre_experts_in_range : Cert.Pre_experts_in_range.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_experts_in_range.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))) = (fun _ => 1#1)

def Pre_Reference2Ideal [hPre_experts_in_range : Cert.Pre_experts_in_range.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_experts_in_range.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))) = (fun _ => 1#1)

def Pre_Kernel3 [hPre_rows_in_range : Cert.Pre_rows_in_range.Facts] (m : (ℓ : Loc Cert.Kernel3.nD Cert.Kernel3.τ Cert.Kernel3.sig) → Buf (Elt Bits) ℓ) : Prop :=
  ∀ c : Dev Cert.Kernel3.nD,
    (Cert.Pre_rows_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_rows_in_range : Cert.Pre_rows_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_rows_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal [hPre_rows_in_range : Cert.Pre_rows_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_rows_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def quiescent_Kernel [hKernel : Cert.Kernel.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_rows_apart : Cert.Pre_rows_apart.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Reference [hReference : Cert.Reference.Facts] [hPre_rows_apart : Cert.Pre_rows_apart.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_Kernel2 [hKernel2 : Cert.Kernel2.Facts] [hPre_experts_in_range : Cert.Pre_experts_in_range.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] [hPre_experts_in_range : Cert.Pre_experts_in_range.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] [hPre_rows_in_range : Cert.Pre_rows_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] [hPre_rows_in_range : Cert.Pre_rows_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def preserves_Kernel_KernelIdeal : Prop :=
  True

def bitexact_Kernel_Reference [hKernel : Cert.Kernel.Facts] [hReference : Cert.Reference.Facts] [hPre_rows_apart : Cert.Pre_rows_apart.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v21) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def algebraic_KernelIdeal_ReferenceIdeal [hKernelIdeal : Cert.KernelIdeal.Facts] [hReferenceIdeal : Cert.ReferenceIdeal.Facts] [hPre_rows_apart : Cert.Pre_rows_apart.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] [hPre_experts_in_range : Cert.Pre_experts_in_range.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v95) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] [hPre_rows_in_range : Cert.Pre_rows_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v27) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v3) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v28) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v57) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v118) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v150) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v48) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v40) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v3_0)) (v1 : (c : Dev Cert.Kernel11Ideal.nD) → Buf (Elt Ideal) ((c.tc : Thread Cert.Kernel11Ideal.nD Cert.Kernel11Ideal.τ).loc Cert.Kernel11Ideal.main_v3_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3_0) = v0 c
          ∧ r.2.mem ((c.tc : Thread Cert.Kernel11Ideal.nD Cert.Kernel11Ideal.τ).loc Cert.Kernel11Ideal.main_v3_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_v61) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hPre_rows_apart : Cert.Pre_rows_apart.Facts) (hPre_experts_in_range : Cert.Pre_experts_in_range.Facts) (hPre_rows_in_range : Cert.Pre_rows_in_range.Facts),
    quiescent_Kernel (hKernel := hKernel) (hPre_rows_apart := hPre_rows_apart)
    ∧ quiescent_KernelIdeal (hKernelIdeal := hKernelIdeal) (hPre_rows_apart := hPre_rows_apart)
    ∧ quiescent_ReferenceIdeal (hReferenceIdeal := hReferenceIdeal) (hPre_rows_apart := hPre_rows_apart)
    ∧ quiescent_Reference (hReference := hReference) (hPre_rows_apart := hPre_rows_apart)
    ∧ quiescent_Kernel2 (hKernel2 := hKernel2) (hPre_experts_in_range := hPre_experts_in_range)
    ∧ quiescent_Kernel2Ideal (hKernel2Ideal := hKernel2Ideal) (hPre_experts_in_range := hPre_experts_in_range)
    ∧ quiescent_Reference2Ideal (hReference2Ideal := hReference2Ideal) (hPre_experts_in_range := hPre_experts_in_range)
    ∧ quiescent_Kernel3 (hKernel3 := hKernel3) (hPre_rows_in_range := hPre_rows_in_range)
    ∧ quiescent_Kernel3Ideal (hKernel3Ideal := hKernel3Ideal) (hPre_rows_in_range := hPre_rows_in_range)
    ∧ quiescent_Reference3Ideal (hReference3Ideal := hReference3Ideal) (hPre_rows_in_range := hPre_rows_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ preserves_Kernel_KernelIdeal
    ∧ bitexact_Kernel_Reference (hKernel := hKernel) (hReference := hReference) (hPre_rows_apart := hPre_rows_apart)
    ∧ algebraic_KernelIdeal_ReferenceIdeal (hKernelIdeal := hKernelIdeal) (hReferenceIdeal := hReferenceIdeal) (hPre_rows_apart := hPre_rows_apart)
    ∧ preserves_Kernel2_Kernel2Ideal
    ∧ algebraic_Kernel2Ideal_Reference2Ideal (hKernel2Ideal := hKernel2Ideal) (hReference2Ideal := hReference2Ideal) (hPre_experts_in_range := hPre_experts_in_range)
    ∧ preserves_Kernel3_Kernel3Ideal
    ∧ algebraic_Kernel3Ideal_Reference3Ideal (hKernel3Ideal := hKernel3Ideal) (hReference3Ideal := hReference3Ideal) (hPre_rows_in_range := hPre_rows_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
-- ==== Pre_experts_in_range.lean ====
abbrev S292 : Shape := ⟨1, ![292]⟩
abbrev S1 : Shape := ⟨1, ![1]⟩
abbrev S74752x2048 : Shape := ⟨2, ![74752, 2048]⟩
abbrev S4x32x2048x1536 : Shape := ⟨4, ![4, 32, 2048, 1536]⟩
abbrev S32x1536 : Shape := ⟨2, ![32, 1536]⟩
abbrev S4x32x768x2048 : Shape := ⟨4, ![4, 32, 768, 2048]⟩
abbrev S32x2048 : Shape := ⟨2, ![32, 2048]⟩
abbrev S_ : Shape := ⟨0, ![]⟩

class Facts : Prop where
  bcast_S_S292 : S_.BroadcastsInDim S292 (![] : Fin 0 → Fin S292.rank)
  reducesTo_S292_S_d0 : S292.ReducesTo [0] S_
  h_S_ : 0 < S_.numel

variable [Facts]

def fn {F : FTy → Type} [FloatOps F] (main_arg0 : IVec S292 32) (main_arg1 : IVec S1 32) (main_arg2 : FVec F S74752x2048 .f32) (main_arg3 : FVec F S4x32x2048x1536 .f32) (main_arg4 : FVec F S32x1536 .f32) (main_arg5 : FVec F S4x32x768x2048 .f32) (main_arg6 : FVec F S32x2048 .f32) : IVec S_ 1 :=
  let main_c : IVec S_ 32 := constantI S_ 32 0#32
  let main_v0 : IVec S292 32 := broadcastInDim S292 ![] bcast_S_S292 main_c
  let main_v1 : IVec S292 1 := cmpi .sge main_arg0 main_v0
  let main_c_0 : IVec S_ 32 := constantI S_ 32 32#32
  let main_v2 : IVec S292 32 := broadcastInDim S292 ![] bcast_S_S292 main_c_0
  let main_v3 : IVec S292 1 := cmpi .slt main_arg0 main_v2
  let main_v4 : IVec S292 1 := andi main_v1 main_v3
  let main_c_1 : IVec S_ 1 := constantI S_ 1 1#1
  let main_v5 : IVec S_ 1 := (fun x v => Host.reduce IntOp.andi x v reducesTo_S292_S_d0 h_S_) main_v4 main_c_1
  main_v5
-- ==== Pre_rows_apart.lean ====
abbrev S67584 : Shape := ⟨1, ![67584]⟩
abbrev S16896x2048 : Shape := ⟨2, ![16896, 2048]⟩
abbrev S66560 : Shape := ⟨1, ![66560]⟩
abbrev S_ : Shape := ⟨0, ![]⟩
abbrev S66559 : Shape := ⟨1, ![66559]⟩

class Facts : Prop where
  slices_S67584_S66560_0 : S67584.Slices ![0] S66560
  bcast_S_S66560 : S_.BroadcastsInDim S66560 (![] : Fin 0 → Fin S66560.rank)
  reducesTo_S66560_S_d0 : S66560.ReducesTo [0] S_
  h_S_ : 0 < S_.numel
  slices_S66560_S66559_1 : S66560.Slices ![1] S66559
  slices_S66560_S66559_0 : S66560.Slices ![0] S66559
  reducesTo_S66559_S_d0 : S66559.ReducesTo [0] S_

variable [Facts]

def comparator_i32_d0 : BitVec 32 → BitVec 32 → BitVec 1 :=
  fun l r =>
    let v1 := IntOp.cmpi .slt l r
    v1
def fn_sort {F : FTy → Type} [FloatOps F] (arg0 : IVec S66560 32) : IVec S66560 32 :=
  let v0 : IVec S66560 32 := (fun x => Host.sort S66560 0 comparator_i32_d0 x) arg0
  v0

def fn {F : FTy → Type} [FloatOps F] (main_arg0 : IVec S67584 32) (main_arg1 : FVec F S16896x2048 .f32) : IVec S_ 1 :=
  let main_v0 : IVec S66560 32 := (extractStridedSlice S66560 ![0] · slices_S67584_S66560_0) main_arg0
  let main_v1 : IVec S66560 32 := fn_sort (F := F) main_v0
  let main_c : IVec S_ 32 := constantI S_ 32 0#32
  let main_v2 : IVec S66560 32 := broadcastInDim S66560 ![] bcast_S_S66560 main_c
  let main_v3 : IVec S66560 1 := cmpi .sge main_v0 main_v2
  let main_c_0 : IVec S_ 32 := constantI S_ 32 74752#32
  let main_v4 : IVec S66560 32 := broadcastInDim S66560 ![] bcast_S_S66560 main_c_0
  let main_v5 : IVec S66560 1 := cmpi .slt main_v0 main_v4
  let main_v6 : IVec S66560 1 := andi main_v3 main_v5
  let main_c_1 : IVec S_ 1 := constantI S_ 1 1#1
  let main_v7 : IVec S_ 1 := (fun x v => Host.reduce IntOp.andi x v reducesTo_S66560_S_d0 h_S_) main_v6 main_c_1
  let main_v8 : IVec S66559 32 := (extractStridedSlice S66559 ![1] · slices_S66560_S66559_1) main_v1
  let main_v9 : IVec S66559 32 := (extractStridedSlice S66559 ![0] · slices_S66560_S66559_0) main_v1
  let main_v10 : IVec S66559 1 := cmpi .sgt main_v8 main_v9
  let main_c_2 : IVec S_ 1 := constantI S_ 1 1#1
  let main_v11 : IVec S_ 1 := (fun x v => Host.reduce IntOp.andi x v reducesTo_S66559_S_d0 h_S_) main_v10 main_c_2
  let main_v12 : IVec S_ 1 := andi main_v7 main_v11
  main_v12
-- ==== Pre_rows_in_range.lean ====
abbrev S67584 : Shape := ⟨1, ![67584]⟩
abbrev S16896x128 : Shape := ⟨2, ![16896, 128]⟩
abbrev S16896x2048 : Shape := ⟨2, ![16896, 2048]⟩
abbrev S2x1x12288 : Shape := ⟨3, ![2, 1, 12288]⟩
abbrev S74752x2048 : Shape := ⟨2, ![74752, 2048]⟩
abbrev S_ : Shape := ⟨0, ![]⟩

class Facts : Prop where
  bcast_S_S67584 : S_.BroadcastsInDim S67584 (![] : Fin 0 → Fin S67584.rank)
  reducesTo_S67584_S_d0 : S67584.ReducesTo [0] S_
  h_S_ : 0 < S_.numel

variable [Facts]

def fn {F : FTy → Type} [FloatOps F] (main_arg0 : IVec S67584 32) (main_arg1 : FVec F S16896x128 .f32) (main_arg2 : FVec F S16896x2048 .f32) (main_arg3 : FVec F S2x1x12288 .f32) (main_arg4 : FVec F S74752x2048 .f32) : IVec S_ 1 :=
  let main_c : IVec S_ 32 := constantI S_ 32 0#32
  let main_v0 : IVec S67584 32 := broadcastInDim S67584 ![] bcast_S_S67584 main_c
  let main_v1 : IVec S67584 1 := cmpi .sge main_arg0 main_v0
  let main_c_0 : IVec S_ 32 := constantI S_ 32 74752#32
  let main_v2 : IVec S67584 32 := broadcastInDim S67584 ![] bcast_S_S67584 main_c_0
  let main_v3 : IVec S67584 1 := cmpi .slt main_arg0 main_v2
  let main_v4 : IVec S67584 1 := andi main_v1 main_v3
  let main_c_1 : IVec S_ 1 := constantI S_ 1 1#1
  let main_v5 : IVec S_ 1 := (fun x v => Host.reduce IntOp.andi x v reducesTo_S67584_S_d0 h_S_) main_v4 main_c_1
  main_v5
-- ==== Kernel.lean ====
abbrev S67584 : Shape := ⟨1, ![67584]⟩
abbrev S16896x2048 : Shape := ⟨2, ![16896, 2048]⟩
abbrev S_ : Shape := ⟨0, ![]⟩
abbrev S74752x2048 : Shape := ⟨2, ![74752, 2048]⟩
abbrev S1024 : Shape := ⟨1, ![1024]⟩
abbrev S256x2048 : Shape := ⟨2, ![256, 2048]⟩
abbrev S1 : Shape := ⟨1, ![1]⟩
abbrev S1x2048 : Shape := ⟨2, ![1, 2048]⟩

abbrev nBuf : Space → Nat
  | .hbm => 4
  | .vmem => 2
  | .smem => 2
  | _ => 0

abbrev bufTy : (tb : Table) → Fin (tcTables nBuf tb) → BufTy
  | .hbm, ⟨0, _⟩ => ⟨S67584, .i32⟩
  | .hbm, ⟨1, _⟩ => ⟨S16896x2048, .f32⟩
  | .hbm, ⟨2, _⟩ => ⟨S_, .f32⟩
  | .hbm, ⟨3, _⟩ => ⟨S74752x2048, .f32⟩
  | .local _ .vmem, ⟨0, _⟩ => ⟨S256x2048, .f32⟩
  | .local _ .vmem, ⟨1, _⟩ => ⟨S256x2048, .f32⟩
  | .local _ .smem, ⟨0, _⟩ => ⟨S1024, .i32⟩
  | .local _ .smem, ⟨1, _⟩ => ⟨S1024, .i32⟩
  | _, _ => ⟨S67584, .i32⟩

abbrev bufScoped : (cs : CoreSpace) → Fin (nBuf (.core cs)) → Bool
  | .vmem, ⟨0, _⟩ => true
  | .vmem, ⟨1, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![65], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32 : BitVec 32 := 4#32
  let v2 : BitVec 32 := Scalar.muli arg6 c4_i32
  let c0_i32_4 : BitVec 32 := 0#32
  let v3 : BitVec 32 := Scalar.addi v2 c0_i32_4
  let v4 : Index := Scalar.indexCast v3
  ![v4.toNat]
def k0_off2 (v5 : BitVec 32) : Fin 2 → Nat :=
  let c0_i32_5 : BitVec 32 := 0#32
  ![v5.toNat, 0]

def k0_chk1 (v5 : BitVec 32) : Prop :=
  (∀ a, (k0_off2 v5) a + S1x2048.size a ≤ S74752x2048.size a)
theorem k0_off2_inb : ∀ (v5 : BitVec 32) (k0_hw1 : k0_chk1 v5), ∀ a, (k0_off2 v5) a + S1x2048.size a ≤ S74752x2048.size a := fun v5 k0_hw1 => k0_hw1

def k0_off3 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_6 : BitVec 32 := 0#32
  ![arg6.toNat, 0]
def k0_off4 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_7 : BitVec 32 := 4#32
  let v8 : BitVec 32 := Scalar.muli arg6 c4_i32_7
  let c1_i32_8 : BitVec 32 := 1#32
  let v9 : BitVec 32 := Scalar.addi v8 c1_i32_8
  let v10 : Index := Scalar.indexCast v9
  ![v10.toNat]
def k0_off5 (v11 : BitVec 32) : Fin 2 → Nat :=
  let c0_i32_9 : BitVec 32 := 0#32
  ![v11.toNat, 0]

def k0_chk2 (v11 : BitVec 32) : Prop :=
  (∀ a, (k0_off5 v11) a + S1x2048.size a ≤ S74752x2048.size a)
theorem k0_off5_inb : ∀ (v11 : BitVec 32) (k0_hw2 : k0_chk2 v11), ∀ a, (k0_off5 v11) a + S1x2048.size a ≤ S74752x2048.size a := fun v11 k0_hw2 => k0_hw2

def k0_off6 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_10 : BitVec 32 := 0#32
  ![arg6.toNat, 0]
def k0_off7 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_11 : BitVec 32 := 4#32
  let v14 : BitVec 32 := Scalar.muli arg6 c4_i32_11
  let c2_i32 : BitVec 32 := 2#32
  let v15 : BitVec 32 := Scalar.addi v14 c2_i32
  let v16 : Index := Scalar.indexCast v15
  ![v16.toNat]
def k0_off8 (v17 : BitVec 32) : Fin 2 → Nat :=
  let c0_i32_12 : BitVec 32 := 0#32
  ![v17.toNat, 0]

def k0_chk3 (v17 : BitVec 32) : Prop :=
  (∀ a, (k0_off8 v17) a + S1x2048.size a ≤ S74752x2048.size a)
theorem k0_off8_inb : ∀ (v17 : BitVec 32) (k0_hw3 : k0_chk3 v17), ∀ a, (k0_off8 v17) a + S1x2048.size a ≤ S74752x2048.size a := fun v17 k0_hw3 => k0_hw3

def k0_off9 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_13 : BitVec 32 := 0#32
  ![arg6.toNat, 0]
def k0_off10 (k0_t1 : Fin k0_t1_loop.trips) : Fin 1 → Nat :=
  let c0_i32 : BitVec 32 := 0#32
  let c1_i32 : BitVec 32 := 1#32
  let arg6 : BitVec 32 := Scf.iv c0_i32 c1_i32 k0_t1
  let c4_i32_14 : BitVec 32 := 4#32
  let v20 : BitVec 32 := Scalar.muli arg6 c4_i32_14
  let c3_i32 : BitVec 32 := 3#32
  let v21 : BitVec 32 := Scalar.addi v20 c3_i32
  let v22 : Index := Scalar.indexCast v21
  ![v22.toNat]
def k0_off11 (v23 : BitVec 32) : Fin 2 → Nat :=
  let c0_i32_15 : BitVec 32 := 0#32
  ![v23.toNat, 0]

def k0_chk4 (v23 : BitVec 32) : Prop :=
  (∀ a, (k0_off11 v23) a + S1x2048.size a ≤ S74752x2048.size a)
theorem k0_off11_inb : ∀ (v23 : BitVec 32) (k0_hw4 : k0_chk4 v23), ∀ a, (k0_off11 v23) a + S1x2048.size a ≤ S74752x2048.size a := fun v23 k0_hw4 => k0_hw4

def k0_off12 (k0_t1 : Fin k0_t1_loop.trips) : Fin 2 → Nat :=
  let c0_i32 : BitVec 32 := 0#32
  let c1_i32 : BitVec 32 := 1#32
  let arg6 : BitVec 32 := Scf.iv c0_i32 c1_i32 k0_t1
  let c0_i32_16 : BitVec 32 := 0#32
  ![arg6.toNat, 0]
@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S67584 : Shape := ⟨1, ![67584]⟩
abbrev S16896x2048 : Shape := ⟨2, ![16896, 2048]⟩
abbrev S16640 : Shape := ⟨1, ![16640]⟩
abbrev S16640x4 : Shape := ⟨2, ![16640, 4]⟩
abbrev S66560 : Shape := ⟨1, ![66560]⟩
abbrev S_ : Shape := ⟨0, ![]⟩
abbrev S74752 : Shape := ⟨1, ![74752]⟩
abbrev S66560x1 : Shape := ⟨2, ![66560, 1]⟩
abbrev S16640x2048 : Shape := ⟨2, ![16640, 2048]⟩
abbrev S1x2048 : Shape := ⟨2, ![1, 2048]⟩
abbrev S16641x2048 : Shape := ⟨2, ![16641, 2048]⟩
abbrev S74752x1 : Shape := ⟨2, ![74752, 1]⟩
abbrev S74752x2048 : Shape := ⟨2, ![74752, 2048]⟩

abbrev nBuf : Space → Nat
  | .hbm => 30
  | .vmem => 0
  | .smem => 0
  | _ => 0

abbrev bufTy : (tb : Table) → Fin (tcTables nBuf tb) → BufTy
  | .hbm, ⟨0, _⟩ => ⟨S67584, .i32⟩
  | .hbm, ⟨1, _⟩ => ⟨S16896x2048, .f32⟩
  | .hbm, ⟨2, _⟩ => ⟨S16640, .i32⟩
  | .hbm, ⟨3, _⟩ => ⟨S16640x4, .i32⟩
  | .hbm, ⟨4, _⟩ => ⟨S66560, .i32⟩
  | .hbm, ⟨5, _⟩ => ⟨S_, .i32⟩
  | .hbm, ⟨6, _⟩ => ⟨S74752, .i32⟩
  | .hbm, ⟨7, _⟩ => ⟨S66560, .i32⟩
  | .hbm, ⟨8, _⟩ => ⟨S_, .i32⟩
  | .hbm, ⟨9, _⟩ => ⟨S66560, .i32⟩
  | .hbm, ⟨10, _⟩ => ⟨S66560, .i1⟩
  | .hbm, ⟨11, _⟩ => ⟨S_, .i32⟩
  | .hbm, ⟨12, _⟩ => ⟨S66560, .i32⟩
  | .hbm, ⟨13, _⟩ => ⟨S66560, .i32⟩
  | .hbm, ⟨14, _⟩ => ⟨S66560, .i32⟩
  | .hbm, ⟨15, _⟩ => ⟨S66560x1, .i32⟩
  | .hbm, ⟨16, _⟩ => ⟨S74752, .i32⟩
  | .hbm, ⟨17, _⟩ => ⟨S16640x2048, .f32⟩
  | .hbm, ⟨18, _⟩ => ⟨S_, .f32⟩
  | .hbm, ⟨19, _⟩ => ⟨S1x2048, .f32⟩
  | .hbm, ⟨20, _⟩ => ⟨S16641x2048, .f32⟩
  | .hbm, ⟨21, _⟩ => ⟨S_, .i32⟩
  | .hbm, ⟨22, _⟩ => ⟨S74752, .i32⟩
  | .hbm, ⟨23, _⟩ => ⟨S74752, .i1⟩
  | .hbm, ⟨24, _⟩ => ⟨S_, .i32⟩
  | .hbm, ⟨25, _⟩ => ⟨S74752, .i32⟩
  | .hbm, ⟨26, _⟩ => ⟨S74752, .i32⟩
  | .hbm, ⟨27, _⟩ => ⟨S74752, .i32⟩
  | .hbm, ⟨28, _⟩ => ⟨S74752x1, .i32⟩
  | .hbm, ⟨29, _⟩ => ⟨S74752x2048, .f32⟩
  | _, _ => ⟨S67584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_v3 : Ref sig .tc := ⟨.hbm, 6, rfl⟩
abbrev main_v4 : Ref sig .tc := ⟨.hbm, 7, rfl⟩
abbrev main_c_0 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_c_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩

abbrev nD : Nat := 1
abbrev τ : Topo := Topo.v7x

variable {F : FTy → Type} [FloatOps F]
-- ==== Kernel2.lean ====
abbrev S292 : Shape := ⟨1, ![292]⟩
abbrev S1 : Shape := ⟨1, ![1]⟩
abbrev S74752x2048 : Shape := ⟨2, ![74752, 2048]⟩
abbrev S4x32x2048x1536 : Shape := ⟨4, ![4, 32, 2048, 1536]⟩
abbrev S32x1536 : Shape := ⟨2, ![32, 1536]⟩
abbrev S4x32x768x2048 : Shape := ⟨4, ![4, 32, 768, 2048]⟩
abbrev S32x2048 : Shape := ⟨2, ![32, 2048]⟩
abbrev S32x1x1536 : Shape := ⟨3, ![32, 1, 1536]⟩
abbrev S32x1x2048 : Shape := ⟨3, ![32, 1, 2048]⟩
abbrev S256x2048 : Shape := ⟨2, ![256, 2048]⟩
abbrev S1x1x2048x1536 : Shape := ⟨4, ![1, 1, 2048, 1536]⟩
abbrev S1x1x1536 : Shape := ⟨3, ![1, 1, 1536]⟩
abbrev S1x1x768x2048 : Shape := ⟨4, ![1, 1, 768, 2048]⟩
abbrev S1x1x2048 : Shape := ⟨3, ![1, 1, 2048]⟩
abbrev S2048x1536 : Shape := ⟨2, ![2048, 1536]⟩
abbrev S256x1536 : Shape := ⟨2, ![256, 1536]⟩
abbrev S1x1536 : Shape := ⟨2, ![1, 1536]⟩
abbrev S256x768 : Shape := ⟨2, ![256, 768]⟩
abbrev S768x2048 : Shape := ⟨2, ![768, 2048]⟩
abbrev S1x2048 : Shape := ⟨2, ![1, 2048]⟩

abbrev nBuf : Space → Nat
  | .hbm => 8
  | .vmem => 12
  | .smem => 2
  | _ => 0

abbrev bufTy : (tb : Table) → Fin (tcTables nBuf tb) → BufTy
  | .hbm, ⟨0, _⟩ => ⟨S74752x2048, .f32⟩
  | .hbm, ⟨1, _⟩ => ⟨S4x32x2048x1536, .f32⟩
  | .hbm, ⟨2, _⟩ => ⟨S32x1536, .f32⟩
  | .hbm, ⟨3, _⟩ => ⟨S4x32x768x2048, .f32⟩
  | .hbm, ⟨4, _⟩ => ⟨S32x2048, .f32⟩
  | .hbm, ⟨5, _⟩ => ⟨S32x1x1536, .f32⟩
  | .hbm, ⟨6, _⟩ => ⟨S32x1x2048, .f32⟩
  | .hbm, ⟨7, _⟩ => ⟨S74752x2048, .f32⟩
  | .local _ .vmem, ⟨0, _⟩ => ⟨S256x2048, .f32⟩
  | .local _ .vmem, ⟨1, _⟩ => ⟨S256x2048, .f32⟩
  | .local _ .vmem, ⟨2, _⟩ => ⟨S1x1x2048x1536, .f32⟩
  | .local _ .vmem, ⟨3, _⟩ => ⟨S1x1x2048x1536, .f32⟩
  | .local _ .vmem, ⟨4, _⟩ => ⟨S1x1x1536, .f32⟩
  | .local _ .vmem, ⟨5, _⟩ => ⟨S1x1x1536, .f32⟩
  | .local _ .vmem, ⟨6, _⟩ => ⟨S1x1x768x2048, .f32⟩
  | .local _ .vmem, ⟨7, _⟩ => ⟨S1x1x768x2048, .f32⟩
  | .local _ .vmem, ⟨8, _⟩ => ⟨S1x1x2048, .f32⟩
  | .local _ .vmem, ⟨9, _⟩ => ⟨S1x1x2048, .f32⟩
  | .local _ .vmem, ⟨10, _⟩ => ⟨S256x2048, .f32⟩
  | .local _ .vmem, ⟨11, _⟩ => ⟨S256x2048, .f32⟩
  | .local _ .smem, ⟨0, _⟩ => ⟨S292, .i32⟩
  | .local _ .smem, ⟨1, _⟩ => ⟨S1, .i32⟩
  | _, _ => ⟨S74752x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![292], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_2 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S292.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  let c0_i32_2 : BitVec 32 := 0#32
  ![c0_i32.toNat, v1.toNat, c0_i32_0.toNat, c0_i32_1.toNat]

def cc0_transform_4 (k0_off1_inb : ∀ i : grid0.Coords, ∀ a, (k0_off1 i) a + S1.size a ≤ S292.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S292) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x2048x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x768x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S292 : Shape := ⟨1, ![292]⟩
abbrev S1 : Shape := ⟨1, ![1]⟩
abbrev S74752x2048 : Shape := ⟨2, ![74752, 2048]⟩
abbrev S4x32x2048x1536 : Shape := ⟨4, ![4, 32, 2048, 1536]⟩
abbrev S32x1536 : Shape := ⟨2, ![32, 1536]⟩
abbrev S4x32x768x2048 : Shape := ⟨4, ![4, 32, 768, 2048]⟩
abbrev S32x2048 : Shape := ⟨2, ![32, 2048]⟩
abbrev S1x32x2048x1536 : Shape := ⟨4, ![1, 32, 2048, 1536]⟩
abbrev S32x2048x1536 : Shape := ⟨3, ![32, 2048, 1536]⟩
abbrev S1x32x768x2048 : Shape := ⟨4, ![1, 32, 768, 2048]⟩
abbrev S32x768x2048 : Shape := ⟨3, ![32, 768, 2048]⟩
abbrev S292x256x2048 : Shape := ⟨3, ![292, 256, 2048]⟩
abbrev S_ : Shape := ⟨0, ![]⟩
abbrev S292x1 : Shape := ⟨2, ![292, 1]⟩
abbrev S292x3 : Shape := ⟨2, ![292, 3]⟩
abbrev S292x1x2048x1536 : Shape := ⟨4, ![292, 1, 2048, 1536]⟩
abbrev S292x2048x1536 : Shape := ⟨3, ![292, 2048, 1536]⟩
abbrev S292x256x1536 : Shape := ⟨3, ![292, 256, 1536]⟩
abbrev S292x2 : Shape := ⟨2, ![292, 2]⟩
abbrev S292x1x1536 : Shape := ⟨3, ![292, 1, 1536]⟩
abbrev S292x1536 : Shape := ⟨2, ![292, 1536]⟩
abbrev S292x256x768 : Shape := ⟨3, ![292, 256, 768]⟩
abbrev S292x1x768x2048 : Shape := ⟨4, ![292, 1, 768, 2048]⟩
abbrev S292x768x2048 : Shape := ⟨3, ![292, 768, 2048]⟩
abbrev S292x1x2048 : Shape := ⟨3, ![292, 1, 2048]⟩
abbrev S292x2048 : Shape := ⟨2, ![292, 2048]⟩
abbrev S292x1x1 : Shape := ⟨3, ![292, 1, 1]⟩

abbrev nBuf : Space → Nat
  | .hbm => 157
  | .vmem => 0
  | .smem => 0
  | _ => 0

abbrev hbmTy0_0 (i : Nat) : BufTy := match i % 128 with
  | 0 => ⟨S292, .i32⟩
  | 1 => ⟨S1, .i32⟩
  | 2 => ⟨S74752x2048, .f32⟩
  | 3 => ⟨S4x32x2048x1536, .f32⟩
  | 4 => ⟨S32x1536, .f32⟩
  | 5 => ⟨S4x32x768x2048, .f32⟩
  | 6 => ⟨S32x2048, .f32⟩
  | 7 => ⟨S1x32x2048x1536, .f32⟩
  | 8 => ⟨S32x2048x1536, .f32⟩
  | 9 => ⟨S1x32x768x2048, .f32⟩
  | 10 => ⟨S32x768x2048, .f32⟩
  | 11 => ⟨S292x256x2048, .f32⟩
  | 12 => ⟨S_, .i32⟩
  | 13 => ⟨S292, .i32⟩
  | 14 => ⟨S292, .i1⟩
  | 15 => ⟨S_, .i32⟩
  | 16 => ⟨S292, .i32⟩
  | 17 => ⟨S292, .i32⟩
  | 18 => ⟨S292, .i32⟩
  | 19 => ⟨S_, .i32⟩
  | 20 => ⟨S_, .i32⟩
  | 21 => ⟨S_, .i1⟩
  | 22 => ⟨S_, .i32⟩
  | 23 => ⟨S_, .i32⟩
  | 24 => ⟨S_, .i32⟩
  | 25 => ⟨S_, .i32⟩
  | 26 => ⟨S_, .i32⟩
  | 27 => ⟨S_, .i32⟩
  | 28 => ⟨S_, .i32⟩
  | 29 => ⟨S_, .i1⟩
  | 30 => ⟨S_, .i32⟩
  | 31 => ⟨S_, .i32⟩
  | 32 => ⟨S_, .i32⟩
  | 33 => ⟨S_, .i32⟩
  | 34 => ⟨S_, .i32⟩
  | 35 => ⟨S292x1, .i32⟩
  | 36 => ⟨S292x1, .i32⟩
  | 37 => ⟨S292x1, .i32⟩
  | 38 => ⟨S292x3, .i32⟩
  | 39 => ⟨S292x1x2048x1536, .f32⟩
  | 40 => ⟨S292x2048x1536, .f32⟩
  | 41 => ⟨S292x256x1536, .f32⟩
  | 42 => ⟨S_, .i32⟩
  | 43 => ⟨S292, .i32⟩
  | 44 => ⟨S292, .i1⟩
  | 45 => ⟨S_, .i32⟩
  | 46 => ⟨S292, .i32⟩
  | 47 => ⟨S292, .i32⟩
  | 48 => ⟨S292, .i32⟩
  | 49 => ⟨S_, .i32⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S292x1, .i32⟩
  | 58 => ⟨S292x1, .i32⟩
  | 59 => ⟨S292x2, .i32⟩
  | 60 => ⟨S292x1x1536, .f32⟩
  | 61 => ⟨S292x1536, .f32⟩
  | 62 => ⟨S292x1x1536, .f32⟩
  | 63 => ⟨S292x256x1536, .f32⟩
  | 64 => ⟨S292x256x1536, .f32⟩
  | 65 => ⟨S292x256x768, .f32⟩
  | 66 => ⟨S292x256x768, .f32⟩
  | 67 => ⟨S_, .f32⟩
  | 68 => ⟨S292x256x768, .f32⟩
  | 69 => ⟨S292x256x768, .f32⟩
  | 70 => ⟨S_, .f32⟩
  | 71 => ⟨S_, .f32⟩
  | 72 => ⟨S_, .f32⟩
  | 73 => ⟨S292x256x768, .f32⟩
  | 74 => ⟨S292x256x768, .f32⟩
  | 75 => ⟨S_, .f32⟩
  | 76 => ⟨S292x256x768, .f32⟩
  | 77 => ⟨S292x256x768, .f32⟩
  | 78 => ⟨S_, .f32⟩
  | 79 => ⟨S292x256x768, .f32⟩
  | 80 => ⟨S292x256x768, .f32⟩
  | 81 => ⟨S292x256x768, .f32⟩
  | 82 => ⟨S292x256x768, .f32⟩
  | 83 => ⟨S_, .f32⟩
  | 84 => ⟨S292x256x768, .f32⟩
  | 85 => ⟨S292x256x768, .f32⟩
  | 86 => ⟨S_, .f32⟩
  | 87 => ⟨S292x256x768, .f32⟩
  | 88 => ⟨S292x256x768, .f32⟩
  | 89 => ⟨S292x256x768, .f32⟩
  | 90 => ⟨S_, .f32⟩
  | 91 => ⟨S292x256x768, .f32⟩
  | 92 => ⟨S292x256x768, .f32⟩
  | 93 => ⟨S292x256x768, .f32⟩
  | 94 => ⟨S_, .i32⟩
  | 95 => ⟨S292, .i32⟩
  | 96 => ⟨S292, .i1⟩
  | 97 => ⟨S_, .i32⟩
  | 98 => ⟨S292, .i32⟩
  | 99 => ⟨S292, .i32⟩
  | 100 => ⟨S292, .i32⟩
  | 101 => ⟨S_, .i32⟩
  | 102 => ⟨S_, .i32⟩
  | 103 => ⟨S_, .i1⟩
  | 104 => ⟨S_, .i32⟩
  | 105 => ⟨S_, .i32⟩
  | 106 => ⟨S_, .i32⟩
  | 107 => ⟨S_, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S_, .i32⟩
  | 115 => ⟨S_, .i32⟩
  | 116 => ⟨S_, .i32⟩
  | 117 => ⟨S292x1, .i32⟩
  | 118 => ⟨S292x1, .i32⟩
  | 119 => ⟨S292x1, .i32⟩
  | 120 => ⟨S292x3, .i32⟩
  | 121 => ⟨S292x1x768x2048, .f32⟩
  | 122 => ⟨S292x768x2048, .f32⟩
  | 123 => ⟨S292x256x2048, .f32⟩
  | 124 => ⟨S_, .i32⟩
  | 125 => ⟨S292, .i32⟩
  | 126 => ⟨S292, .i1⟩
  | 127 => ⟨S_, .i32⟩
  | _ => ⟨S292, .i32⟩

abbrev hbmTy0_1 (i : Nat) : BufTy := match i % 128 with
  | 0 => ⟨S292, .i32⟩
  | 1 => ⟨S292, .i32⟩
  | 2 => ⟨S292, .i32⟩
  | 3 => ⟨S_, .i32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S_, .i32⟩
  | 11 => ⟨S292x1, .i32⟩
  | 12 => ⟨S292x1, .i32⟩
  | 13 => ⟨S292x2, .i32⟩
  | 14 => ⟨S292x1x2048, .f32⟩
  | 15 => ⟨S292x2048, .f32⟩
  | 16 => ⟨S292x1x2048, .f32⟩
  | 17 => ⟨S292x256x2048, .f32⟩
  | 18 => ⟨S292x256x2048, .f32⟩
  | 19 => ⟨S292, .i32⟩
  | 20 => ⟨S292, .i32⟩
  | 21 => ⟨S292, .i1⟩
  | 22 => ⟨S292x1x1, .i1⟩
  | 23 => ⟨S_, .f32⟩
  | 24 => ⟨S_, .f32⟩
  | 25 => ⟨S292x256x2048, .i1⟩
  | 26 => ⟨S292x256x2048, .f32⟩
  | 27 => ⟨S292x256x2048, .f32⟩
  | 28 => ⟨S74752x2048, .f32⟩
  | _ => ⟨S292, .i32⟩

abbrev hbmTy (i : Nat) : BufTy := match i / 128 with
  | 0 => hbmTy0_0 i
  | 1 => hbmTy0_1 i
  | _ => ⟨S292, .i32⟩

abbrev bufTy : (tb : Table) → Fin (tcTables nBuf tb) → BufTy
  | .hbm, ⟨i, _⟩ => hbmTy i
  | _, _ => ⟨S292, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_c_1 : Ref sig .tc := ⟨.hbm, 19, rfl⟩
abbrev main_c_2 : Ref sig .tc := ⟨.hbm, 20, rfl⟩
abbrev main_v10 : Ref sig .tc := ⟨.hbm, 21, rfl⟩
abbrev main_c_3 : Ref sig .tc := ⟨.hbm, 22, rfl⟩
abbrev main_c_4 : Ref sig .tc := ⟨.hbm, 23, rfl⟩
abbrev main_v11 : Ref sig .tc := ⟨.hbm, 24, rfl⟩
abbrev main_c_5 : Ref sig .tc := ⟨.hbm, 25, rfl⟩
abbrev main_v12 : Ref sig .tc := ⟨.hbm, 26, rfl⟩
abbrev main_c_6 : Ref sig .tc := ⟨.hbm, 27, rfl⟩
abbrev main_c_7 : Ref sig .tc := ⟨.hbm, 28, rfl⟩
abbrev main_v13 : Ref sig .tc := ⟨.hbm, 29, rfl⟩
abbrev main_c_8 : Ref sig .tc := ⟨.hbm, 30, rfl⟩
abbrev main_c_9 : Ref sig .tc := ⟨.hbm, 31, rfl⟩
abbrev main_v14 : Ref sig .tc := ⟨.hbm, 32, rfl⟩
abbrev main_c_10 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_11 : Ref sig .tc := ⟨.hbm, 42, rfl⟩
abbrev main_v23 : Ref sig .tc := ⟨.hbm, 43, rfl⟩
abbrev main_v24 : Ref sig .tc := ⟨.hbm, 44, rfl⟩
abbrev main_c_12 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_13 : Ref sig .tc := ⟨.hbm, 49, rfl⟩
abbrev main_c_14 : Ref sig .tc := ⟨.hbm, 50, rfl⟩
abbrev main_v28 : Ref sig .tc := ⟨.hbm, 51, rfl⟩
abbrev main_c_15 : Ref sig .tc := ⟨.hbm, 52, rfl⟩
abbrev main_c_16 : Ref sig .tc := ⟨.hbm, 53, rfl⟩
abbrev main_v29 : Ref sig .tc := ⟨.hbm, 54, rfl⟩
abbrev main_c_17 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst : Ref sig .tc := ⟨.hbm, 67, rfl⟩
abbrev main_v41 : Ref sig .tc := ⟨.hbm, 68, rfl⟩
abbrev main_v42 : Ref sig .tc := ⟨.hbm, 69, rfl⟩
abbrev main_cst_18 : Ref sig .tc := ⟨.hbm, 70, rfl⟩
abbrev main_cst_19 : Ref sig .tc := ⟨.hbm, 71, rfl⟩
abbrev main_call0_v0 : Ref sig .tc := ⟨.hbm, 72, rfl⟩
abbrev main_call0_v1 : Ref sig .tc := ⟨.hbm, 73, rfl⟩
abbrev main_call0_v2 : Ref sig .tc := ⟨.hbm, 74, rfl⟩
abbrev main_call0_v3 : Ref sig .tc := ⟨.hbm, 75, rfl⟩
abbrev main_call0_v4 : Ref sig .tc := ⟨.hbm, 76, rfl⟩
abbrev main_v43 : Ref sig .tc := ⟨.hbm, 77, rfl⟩
abbrev main_cst_20 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_cst_21 : Ref sig .tc := ⟨.hbm, 83, rfl⟩
abbrev main_v48 : Ref sig .tc := ⟨.hbm, 84, rfl⟩
abbrev main_v49 : Ref sig .tc := ⟨.hbm, 85, rfl⟩
abbrev main_cst_22 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_23 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_c_24 : Ref sig .tc := ⟨.hbm, 94, rfl⟩
abbrev main_v56 : Ref sig .tc := ⟨.hbm, 95, rfl⟩
abbrev main_v57 : Ref sig .tc := ⟨.hbm, 96, rfl⟩
abbrev main_c_25 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_26 : Ref sig .tc := ⟨.hbm, 101, rfl⟩
abbrev main_c_27 : Ref sig .tc := ⟨.hbm, 102, rfl⟩
abbrev main_v61 : Ref sig .tc := ⟨.hbm, 103, rfl⟩
abbrev main_c_28 : Ref sig .tc := ⟨.hbm, 104, rfl⟩
abbrev main_c_29 : Ref sig .tc := ⟨.hbm, 105, rfl⟩
abbrev main_v62 : Ref sig .tc := ⟨.hbm, 106, rfl⟩
abbrev main_c_30 : Ref sig .tc := ⟨.hbm, 107, rfl⟩
abbrev main_v63 : Ref sig .tc := ⟨.hbm, 108, rfl⟩
abbrev main_c_31 : Ref sig .tc := ⟨.hbm, 109, rfl⟩
abbrev main_c_32 : Ref sig .tc := ⟨.hbm, 110, rfl⟩
abbrev main_v64 : Ref sig .tc := ⟨.hbm, 111, rfl⟩
abbrev main_c_33 : Ref sig .tc := ⟨.hbm, 112, rfl⟩
abbrev main_c_34 : Ref sig .tc := ⟨.hbm, 113, rfl⟩
abbrev main_v65 : Ref sig .tc := ⟨.hbm, 114, rfl⟩
abbrev main_c_35 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_c_36 : Ref sig .tc := ⟨.hbm, 124, rfl⟩
abbrev main_v74 : Ref sig .tc := ⟨.hbm, 125, rfl⟩
abbrev main_v75 : Ref sig .tc := ⟨.hbm, 126, rfl⟩
abbrev main_c_37 : Ref sig .tc := ⟨.hbm, 127, rfl⟩
abbrev main_v76 : Ref sig .tc := ⟨.hbm, 128, rfl⟩
abbrev main_v77 : Ref sig .tc := ⟨.hbm, 129, rfl⟩
abbrev main_v78 : Ref sig .tc := ⟨.hbm, 130, rfl⟩
abbrev main_c_38 : Ref sig .tc := ⟨.hbm, 131, rfl⟩
abbrev main_c_39 : Ref sig .tc := ⟨.hbm, 132, rfl⟩
abbrev main_v79 : Ref sig .tc := ⟨.hbm, 133, rfl⟩
abbrev main_c_40 : Ref sig .tc := ⟨.hbm, 134, rfl⟩
abbrev main_c_41 : Ref sig .tc := ⟨.hbm, 135, rfl⟩
abbrev main_v80 : Ref sig .tc := ⟨.hbm, 136, rfl⟩
abbrev main_c_42 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_v86 : Ref sig .tc := ⟨.hbm, 143, rfl⟩
abbrev main_v87 : Ref sig .tc := ⟨.hbm, 144, rfl⟩
abbrev main_v88 : Ref sig .tc := ⟨.hbm, 145, rfl⟩
abbrev main_v89 : Ref sig .tc := ⟨.hbm, 146, rfl⟩
abbrev main_v90 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_cst_43 : Ref sig .tc := ⟨.hbm, 151, rfl⟩
abbrev main_call1_v0 : Ref sig .tc := ⟨.hbm, 152, rfl⟩
abbrev main_call1_v1 : Ref sig .tc := ⟨.hbm, 153, rfl⟩
abbrev main_call1_v2 : Ref sig .tc := ⟨.hbm, 154, rfl⟩
abbrev main_v94 : Ref sig .tc := ⟨.hbm, 155, rfl⟩
abbrev main_v95 : Ref sig .tc := ⟨.hbm, 156, rfl⟩

abbrev nD : Nat := 1
abbrev τ : Topo := Topo.v7x

variable {F : FTy → Type} [FloatOps F]
-- ==== Kernel3.lean ====
abbrev S67584 : Shape := ⟨1, ![67584]⟩
abbrev S16896x128 : Shape := ⟨2, ![16896, 128]⟩
abbrev S16896x2048 : Shape := ⟨2, ![16896, 2048]⟩
abbrev S2x1x12288 : Shape := ⟨3, ![2, 1, 12288]⟩
abbrev S74752x2048 : Shape := ⟨2, ![74752, 2048]⟩
abbrev S1024 : Shape := ⟨1, ![1024]⟩
abbrev S256x128 : Shape := ⟨2, ![256, 128]⟩
abbrev S256x2048 : Shape := ⟨2, ![256, 2048]⟩
abbrev S1x1x2048 : Shape := ⟨3, ![1, 1, 2048]⟩
abbrev S4x256x2048 : Shape := ⟨3, ![4, 256, 2048]⟩
abbrev S_ : Shape := ⟨0, ![]⟩
abbrev S1 : Shape := ⟨1, ![1]⟩
abbrev S1x2048 : Shape := ⟨2, ![1, 2048]⟩
abbrev S256x1 : Shape := ⟨2, ![256, 1]⟩
abbrev S1x256x2048 : Shape := ⟨3, ![1, 256, 2048]⟩

abbrev nBuf : Space → Nat
  | .hbm => 6
  | .vmem => 9
  | .smem => 2
  | _ => 0

abbrev bufTy : (tb : Table) → Fin (tcTables nBuf tb) → BufTy
  | .hbm, ⟨0, _⟩ => ⟨S67584, .i32⟩
  | .hbm, ⟨1, _⟩ => ⟨S16896x128, .f32⟩
  | .hbm, ⟨2, _⟩ => ⟨S16896x2048, .f32⟩
  | .hbm, ⟨3, _⟩ => ⟨S2x1x12288, .f32⟩
  | .hbm, ⟨4, _⟩ => ⟨S74752x2048, .f32⟩
  | .hbm, ⟨5, _⟩ => ⟨S16896x2048, .f32⟩
  | .local _ .vmem, ⟨0, _⟩ => ⟨S256x128, .f32⟩
  | .local _ .vmem, ⟨1, _⟩ => ⟨S256x128, .f32⟩
  | .local _ .vmem, ⟨2, _⟩ => ⟨S256x2048, .f32⟩
  | .local _ .vmem, ⟨3, _⟩ => ⟨S256x2048, .f32⟩
  | .local _ .vmem, ⟨4, _⟩ => ⟨S1x1x2048, .f32⟩
  | .local _ .vmem, ⟨5, _⟩ => ⟨S1x1x2048, .f32⟩
  | .local _ .vmem, ⟨6, _⟩ => ⟨S256x2048, .f32⟩
  | .local _ .vmem, ⟨7, _⟩ => ⟨S256x2048, .f32⟩
  | .local _ .vmem, ⟨8, _⟩ => ⟨S4x256x2048, .f32⟩
  | .local _ .smem, ⟨0, _⟩ => ⟨S1024, .i32⟩
  | .local _ .smem, ⟨1, _⟩ => ⟨S1024, .i32⟩
  | _, _ => ⟨S67584, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_stg0_0 : Ref sig .tc := ⟨.smem, 0, rfl⟩
abbrev cc0_stg0_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![66], ![false]⟩

@[reducible] def k0_t1_loop : Scf.Loop 32 :=
  let c0_i32 : BitVec 32 := 0#32
  let c256_i32 : BitVec 32 := 256#32
  let v0 : BitVec 32 := Scalar.addi c0_i32 c256_i32
  let c1_i32 : BitVec 32 := 1#32
  ⟨c0_i32, v0, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32 : BitVec 32 := 4#32
  let v33 : BitVec 32 := Scalar.muli arg9 c4_i32
  let c0_i32_21 : BitVec 32 := 0#32
  let v34 : BitVec 32 := Scalar.addi v33 c0_i32_21
  let v35 : Index := Scalar.indexCast v34
  ![v35.toNat]
def k0_off2 (k0_t1 : Fin k0_t1_loop.trips) : Fin 3 → Nat :=
  let c0_i32_22 : BitVec 32 := 0#32
  let c0_i32 : BitVec 32 := 0#32
  let c1_i32 : BitVec 32 := 1#32
  let arg9 : BitVec 32 := Scf.iv c0_i32 c1_i32 k0_t1
  let c0_i32_23 : BitVec 32 := 0#32
  ![0, arg9.toNat, 0]
def k0_off3 (v36 : BitVec 32) : Fin 2 → Nat :=
  let c0_i32_24 : BitVec 32 := 0#32
  ![v36.toNat, 0]

def k0_chk1 (v36 : BitVec 32) : Prop :=
  (∀ a, (k0_off3 v36) a + S1x2048.size a ≤ S74752x2048.size a)
theorem k0_off3_inb : ∀ (v36 : BitVec 32) (k0_hw1 : k0_chk1 v36), ∀ a, (k0_off3 v36) a + S1x2048.size a ≤ S74752x2048.size a := fun v36 k0_hw1 => k0_hw1

def k0_off4 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_25 : BitVec 32 := 4#32
  let v40 : BitVec 32 := Scalar.muli arg9 c4_i32_25
  let c1_i32_26 : BitVec 32 := 1#32
  let v41 : BitVec 32 := Scalar.addi v40 c1_i32_26
  let v42 : Index := Scalar.indexCast v41
  ![v42.toNat]
def k0_off5 (k0_t1 : Fin k0_t1_loop.trips) : Fin 3 → Nat :=
  let c1_i32_27 : BitVec 32 := 1#32
  let c0_i32 : BitVec 32 := 0#32
  let c1_i32 : BitVec 32 := 1#32
  let arg9 : BitVec 32 := Scf.iv c0_i32 c1_i32 k0_t1
  let c0_i32_28 : BitVec 32 := 0#32
  ![1, arg9.toNat, 0]
def k0_off6 (v43 : BitVec 32) : Fin 2 → Nat :=
  let c0_i32_29 : BitVec 32 := 0#32
  ![v43.toNat, 0]

def k0_chk2 (v43 : BitVec 32) : Prop :=
  (∀ a, (k0_off6 v43) a + S1x2048.size a ≤ S74752x2048.size a)
theorem k0_off6_inb : ∀ (v43 : BitVec 32) (k0_hw2 : k0_chk2 v43), ∀ a, (k0_off6 v43) a + S1x2048.size a ≤ S74752x2048.size a := fun v43 k0_hw2 => k0_hw2

def k0_off7 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_30 : BitVec 32 := 4#32
  let v47 : BitVec 32 := Scalar.muli arg9 c4_i32_30
  let c2_i32 : BitVec 32 := 2#32
  let v48 : BitVec 32 := Scalar.addi v47 c2_i32
  let v49 : Index := Scalar.indexCast v48
  ![v49.toNat]
def k0_off8 (k0_t1 : Fin k0_t1_loop.trips) : Fin 3 → Nat :=
  let c2_i32_31 : BitVec 32 := 2#32
  let c0_i32 : BitVec 32 := 0#32
  let c1_i32 : BitVec 32 := 1#32
  let arg9 : BitVec 32 := Scf.iv c0_i32 c1_i32 k0_t1
  let c0_i32_32 : BitVec 32 := 0#32
  ![2, arg9.toNat, 0]
def k0_off9 (v50 : BitVec 32) : Fin 2 → Nat :=
  let c0_i32_33 : BitVec 32 := 0#32
  ![v50.toNat, 0]

def k0_chk3 (v50 : BitVec 32) : Prop :=
  (∀ a, (k0_off9 v50) a + S1x2048.size a ≤ S74752x2048.size a)
theorem k0_off9_inb : ∀ (v50 : BitVec 32) (k0_hw3 : k0_chk3 v50), ∀ a, (k0_off9 v50) a + S1x2048.size a ≤ S74752x2048.size a := fun v50 k0_hw3 => k0_hw3

def k0_off10 (k0_t1 : Fin k0_t1_loop.trips) : Fin 1 → Nat :=
  let c0_i32 : BitVec 32 := 0#32
  let c1_i32 : BitVec 32 := 1#32
  let arg9 : BitVec 32 := Scf.iv c0_i32 c1_i32 k0_t1
  let c4_i32_34 : BitVec 32 := 4#32
  let v54 : BitVec 32 := Scalar.muli arg9 c4_i32_34
  let c3_i32 : BitVec 32 := 3#32
  let v55 : BitVec 32 := Scalar.addi v54 c3_i32
  let v56 : Index := Scalar.indexCast v55
  ![v56.toNat]
def k0_off11 (k0_t1 : Fin k0_t1_loop.trips) : Fin 3 → Nat :=
  let c3_i32_35 : BitVec 32 := 3#32
  let c0_i32 : BitVec 32 := 0#32
  let c1_i32 : BitVec 32 := 1#32
  let arg9 : BitVec 32 := Scf.iv c0_i32 c1_i32 k0_t1
  let c0_i32_36 : BitVec 32 := 0#32
  ![3, arg9.toNat, 0]
def k0_off12 (v57 : BitVec 32) : Fin 2 → Nat :=
  let c0_i32_37 : BitVec 32 := 0#32
  ![v57.toNat, 0]

def k0_chk4 (v57 : BitVec 32) : Prop :=
  (∀ a, (k0_off12 v57) a + S1x2048.size a ≤ S74752x2048.size a)
theorem k0_off12_inb : ∀ (v57 : BitVec 32) (k0_hw4 : k0_chk4 v57), ∀ a, (k0_off12 v57) a + S1x2048.size a ≤ S74752x2048.size a := fun v57 k0_hw4 => k0_hw4

@[reducible] def k0_t2_loop : Scf.Loop 32 :=
  let c0_i32_1 : BitVec 32 := 0#32
  let c256_i32_2 : BitVec 32 := 256#32
  let v1 : BitVec 32 := Scalar.addi c0_i32_1 c256_i32_2
  let c1_i32_3 : BitVec 32 := 1#32
  ⟨c0_i32_1, v1, c1_i32_3⟩
def cc0_transform_0 (i : grid0.Coords) : Fin 1 → Nat :=
  let arg0 : BitVec 32 := BitVec.ofNat 32 (i 0).val
  let c0_i32 : BitVec 32 := 0#32
  ![arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c64_i32 : BitVec 32 := 64#32
  let v0 : BitVec 1 := Scalar.cmpi .slt arg0 c64_i32
  let c0_i32 : BitVec 32 := 0#32
  let c1_i32 : BitVec 32 := 1#32
  let v1 : BitVec 32 := Scalar.select v0 c0_i32 c1_i32
  let c0_i32_0 : BitVec 32 := 0#32
  let c5_i32 : BitVec 32 := 5#32
  let c0_i32_1 : BitVec 32 := 0#32
  ![v1.toNat, c0_i32_0.toNat, c5_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .smem S1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference3Ideal.lean ====
abbrev S67584 : Shape := ⟨1, ![67584]⟩
abbrev S16896x128 : Shape := ⟨2, ![16896, 128]⟩
abbrev S16896x2048 : Shape := ⟨2, ![16896, 2048]⟩
abbrev S2x1x12288 : Shape := ⟨3, ![2, 1, 12288]⟩
abbrev S74752x2048 : Shape := ⟨2, ![74752, 2048]⟩
abbrev S16896x4 : Shape := ⟨2, ![16896, 4]⟩
abbrev S_ : Shape := ⟨0, ![]⟩
abbrev S16896x4x1 : Shape := ⟨3, ![16896, 4, 1]⟩
abbrev S16896x4x2048 : Shape := ⟨3, ![16896, 4, 2048]⟩
abbrev S1x1x2048 : Shape := ⟨3, ![1, 1, 2048]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 36
  | .vmem => 0
  | .smem => 0
  | _ => 0

abbrev bufTy : (tb : Table) → Fin (tcTables nBuf tb) → BufTy
  | .hbm, ⟨0, _⟩ => ⟨S67584, .i32⟩
  | .hbm, ⟨1, _⟩ => ⟨S16896x128, .f32⟩
  | .hbm, ⟨2, _⟩ => ⟨S16896x2048, .f32⟩
  | .hbm, ⟨3, _⟩ => ⟨S2x1x12288, .f32⟩
  | .hbm, ⟨4, _⟩ => ⟨S74752x2048, .f32⟩
  | .hbm, ⟨5, _⟩ => ⟨S16896x4, .i32⟩
  | .hbm, ⟨6, _⟩ => ⟨S_, .i32⟩
  | .hbm, ⟨7, _⟩ => ⟨S16896x4, .i32⟩
  | .hbm, ⟨8, _⟩ => ⟨S16896x4, .i1⟩
  | .hbm, ⟨9, _⟩ => ⟨S_, .i32⟩
  | .hbm, ⟨10, _⟩ => ⟨S16896x4, .i32⟩
  | .hbm, ⟨11, _⟩ => ⟨S16896x4, .i32⟩
  | .hbm, ⟨12, _⟩ => ⟨S16896x4, .i32⟩
  | .hbm, ⟨13, _⟩ => ⟨S16896x4x1, .i32⟩
  | .hbm, ⟨14, _⟩ => ⟨S16896x4x2048, .f32⟩
  | .hbm, ⟨15, _⟩ => ⟨S16896x4, .f32⟩
  | .hbm, ⟨16, _⟩ => ⟨S16896x4x1, .f32⟩
  | .hbm, ⟨17, _⟩ => ⟨S16896x4x2048, .f32⟩
  | .hbm, ⟨18, _⟩ => ⟨S16896x4x2048, .f32⟩
  | .hbm, ⟨19, _⟩ => ⟨S_, .f32⟩
  | .hbm, ⟨20, _⟩ => ⟨S16896x2048, .f32⟩
  | .hbm, ⟨21, _⟩ => ⟨S1x1x2048, .f32⟩
  | .hbm, ⟨22, _⟩ => ⟨S1x2048, .f32⟩
  | .hbm, ⟨23, _⟩ => ⟨S1x1x2048, .f32⟩
  | .hbm, ⟨24, _⟩ => ⟨S1x2048, .f32⟩
  | .hbm, ⟨25, _⟩ => ⟨S16384x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S512x2048, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S16896x2048, .f32⟩
  | _, _ => ⟨S67584, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel4.lean ====
abbrev S16896x2048 : Shape := ⟨2, ![16896, 2048]⟩
abbrev S2048x2048 : Shape := ⟨2, ![2048, 2048]⟩
abbrev S2x1x12288 : Shape := ⟨3, ![2, 1, 12288]⟩
abbrev S_ : Shape := ⟨0, ![]⟩
abbrev S2048 : Shape := ⟨1, ![2048]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S1x1x1024 : Shape := ⟨3, ![1, 1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S2x1x12288, .f32⟩
  | .hbm, ⟨4, _⟩ => ⟨S2048x2048, .bf16⟩
  | .hbm, ⟨5, _⟩ => ⟨S_, .f32⟩
  | .hbm, ⟨6, _⟩ => ⟨S2048, .f32⟩
  | .hbm, ⟨7, _⟩ => ⟨S1x2048, .f32⟩
  | .hbm, ⟨8, _⟩ => ⟨S16896x2048, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .f32⟩
  | .local _ .vmem, ⟨11, _⟩ => ⟨S512x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![33, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c4_i32 : BitVec 32 := 4#32
  let v2 : BitVec 32 := Scalar.addi c4_i32 arg1
  let c0_i32_0 : BitVec 32 := 0#32
  let c0_i32_1 : BitVec 32 := 0#32
  ![v1.toNat, c0_i32_0.toNat, v2.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S16896x2048 : Shape := ⟨2, ![16896, 2048]⟩
abbrev S2048x2048 : Shape := ⟨2, ![2048, 2048]⟩
abbrev S2x1x12288 : Shape := ⟨3, ![2, 1, 12288]⟩
abbrev S1x1x2048 : Shape := ⟨3, ![1, 1, 2048]⟩
abbrev S1x2048 : Shape := ⟨2, ![1, 2048]⟩
abbrev S16384x2048 : Shape := ⟨2, ![16384, 2048]⟩
abbrev S512x2048 : Shape := ⟨2, ![512, 2048]⟩

abbrev nBuf : Space → Nat
  | .hbm => 22
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S2048x2048, .f32⟩
  | .hbm, ⟨2, _⟩ => ⟨S16896x2048, .f32⟩
  | .hbm, ⟨3, _⟩ => ⟨S2x1x12288, .f32⟩
  | .hbm, ⟨4, _⟩ => ⟨S16896x2048, .f32⟩
  | .hbm, ⟨5, _⟩ => ⟨S1x1x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S16384x2048, .f32⟩
  | .hbm, ⟨10, _⟩ => ⟨S16384x2048, .f32⟩
  | .hbm, ⟨11, _⟩ => ⟨S512x2048, .f32⟩
  | .hbm, ⟨12, _⟩ => ⟨S512x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S16384x2048, .f32⟩
  | .hbm, ⟨17, _⟩ => ⟨S512x2048, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== Kernel5.lean ====
abbrev S16896x2048 : Shape := ⟨2, ![16896, 2048]⟩
abbrev S2048 : Shape := ⟨1, ![2048]⟩
abbrev S2048x2048 : Shape := ⟨2, ![2048, 2048]⟩
abbrev S2x1x12288 : Shape := ⟨3, ![2, 1, 12288]⟩
abbrev S1x2048 : Shape := ⟨2, ![1, 2048]⟩
abbrev S512x2048 : Shape := ⟨2, ![512, 2048]⟩
abbrev S2048x1024 : Shape := ⟨2, ![2048, 1024]⟩
abbrev S1x1024 : Shape := ⟨2, ![1, 1024]⟩
abbrev S512x1024 : Shape := ⟨2, ![512, 1024]⟩
abbrev S1x1x1024 : Shape := ⟨3, ![1, 1, 1024]⟩

abbrev nBuf : Space → Nat
  | .hbm => 12
  | .vmem => 17
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .f32⟩
  | .hbm, ⟨2, _⟩ => ⟨S16896x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S16896x2048, .f32⟩
  | .hbm, ⟨7, _⟩ => ⟨S2x1x12288, .f32⟩
  | .hbm, ⟨8, _⟩ => ⟨S2048x2048, .bf16⟩
  | .hbm, ⟨9, _⟩ => ⟨S1x2048, .f32⟩
  | .hbm, ⟨10, _⟩ => ⟨S1x2048, .f32⟩
  | .hbm, ⟨11, _⟩ => ⟨S16896x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S1x1x1024, .f32⟩
  | .local _ .vmem, ⟨14, _⟩ => ⟨S1x1x1024, .f32⟩
  | .local _ .vmem, ⟨15, _⟩ => ⟨S512x1024, .f32⟩
  | .local _ .vmem, ⟨16, _⟩ => ⟨S512x1024, .f32⟩
  | _, _ => ⟨S16896x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![33, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c4_i32 : BitVec 32 := 4#32
  let v2 : BitVec 32 := Scalar.addi c4_i32 arg1
  let c0_i32_0 : BitVec 32 := 0#32
  let c0_i32_1 : BitVec 32 := 0#32
  ![v1.toNat, c0_i32_0.toNat, v2.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference5Ideal.lean ====
abbrev S16896x2048 : Shape := ⟨2, ![16896, 2048]⟩
abbrev S2048 : Shape := ⟨1, ![2048]⟩
abbrev S2048x2048 : Shape := ⟨2, ![2048, 2048]⟩
abbrev S2x1x12288 : Shape := ⟨3, ![2, 1, 12288]⟩
abbrev S1x2048 : Shape := ⟨2, ![1, 2048]⟩
abbrev S1x1x2048 : Shape := ⟨3, ![1, 1, 2048]⟩
abbrev S16384x2048 : Shape := ⟨2, ![16384, 2048]⟩
abbrev S512x2048 : Shape := ⟨2, ![512, 2048]⟩

abbrev nBuf : Space → Nat
  | .hbm => 37
  | .vmem => 0
  | .smem => 0
  | _ => 0

abbrev bufTy : (tb : Table) → Fin (tcTables nBuf tb) → BufTy
  | .hbm, ⟨0, _⟩ => ⟨S16896x2048, .bf16⟩
  | .hbm, ⟨1, _⟩ => ⟨S16896x2048, .f32⟩
  | .hbm, ⟨2, _⟩ => ⟨S16896x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S16896x2048, .f32⟩
  | .hbm, ⟨7, _⟩ => ⟨S2x1x12288, .f32⟩
  | .hbm, ⟨8, _⟩ => ⟨S16896x2048, .f32⟩
  | .hbm, ⟨9, _⟩ => ⟨S1x2048, .f32⟩
  | .hbm, ⟨10, _⟩ => ⟨S16896x2048, .f32⟩
  | .hbm, ⟨11, _⟩ => ⟨S16896x2048, .f32⟩
  | .hbm, ⟨12, _⟩ => ⟨S16896x2048, .f32⟩
  | .hbm, ⟨13, _⟩ => ⟨S16896x2048, .f32⟩
  | .hbm, ⟨14, _⟩ => ⟨S1x1x2048, .f32⟩
  | .hbm, ⟨15, _⟩ => ⟨S1x2048, .f32⟩
  | .hbm, ⟨16, _⟩ => ⟨S1x1x2048, .f32⟩
  | .hbm, ⟨17, _⟩ => ⟨S1x2048, .f32⟩
  | .hbm, ⟨18, _⟩ => ⟨S16384x2048, .f32⟩
  | .hbm, ⟨19, _⟩ => ⟨S16384x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S512x2048, .f32⟩
  | .hbm, ⟨24, _⟩ => ⟨S512x2048, .f32⟩
  | .hbm, ⟨25, _⟩ => ⟨S1x2048, .f32⟩
  | .hbm, ⟨26, _⟩ => ⟨S512x2048, .f32⟩
  | .hbm, ⟨27, _⟩ => ⟨S512x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S16384x2048, .f32⟩
  | .hbm, ⟨32, _⟩ => ⟨S512x2048, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S16896x2048, .f32⟩
  | _, _ => ⟨S16896x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩

abbrev nD : Nat := 1
abbrev τ : Topo := Topo.v7x

variable {F : FTy → Type} [FloatOps F]
-- ==== Kernel6.lean ====
abbrev S16896x2048 : Shape := ⟨2, ![16896, 2048]⟩
abbrev S2048 : Shape := ⟨1, ![2048]⟩
abbrev S2x1x12288 : Shape := ⟨3, ![2, 1, 12288]⟩
abbrev S2048x6144 : Shape := ⟨2, ![2048, 6144]⟩
abbrev S6144 : Shape := ⟨1, ![6144]⟩
abbrev S1x2048 : Shape := ⟨2, ![1, 2048]⟩
abbrev S1x6144 : Shape := ⟨2, ![1, 6144]⟩
abbrev S16896x6144 : Shape := ⟨2, ![16896, 6144]⟩
abbrev S512x2048 : Shape := ⟨2, ![512, 2048]⟩
abbrev S1x1x2048 : Shape := ⟨3, ![1, 1, 2048]⟩
abbrev S2048x1024 : Shape := ⟨2, ![2048, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S2048x6144, .f32⟩
  | .hbm, ⟨4, _⟩ => ⟨S6144, .f32⟩
  | .hbm, ⟨5, _⟩ => ⟨S2048x6144, .bf16⟩
  | .hbm, ⟨6, _⟩ => ⟨S1x2048, .f32⟩
  | .hbm, ⟨7, _⟩ => ⟨S1x6144, .f32⟩
  | .hbm, ⟨8, _⟩ => ⟨S16896x6144, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![33, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c1_i32_1 : BitVec 32 := 1#32
  let c0_i32_2 : BitVec 32 := 0#32
  ![v1.toNat, c0_i32_0.toNat, c1_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S16896x2048 : Shape := ⟨2, ![16896, 2048]⟩
abbrev S2048 : Shape := ⟨1, ![2048]⟩
abbrev S2x1x12288 : Shape := ⟨3, ![2, 1, 12288]⟩
abbrev S2048x6144 : Shape := ⟨2, ![2048, 6144]⟩
abbrev S6144 : Shape := ⟨1, ![6144]⟩
abbrev S1x1x2048 : Shape := ⟨3, ![1, 1, 2048]⟩
abbrev S1x2048 : Shape := ⟨2, ![1, 2048]⟩
abbrev S16384x2048 : Shape := ⟨2, ![16384, 2048]⟩
abbrev S_ : Shape := ⟨0, ![]⟩
abbrev S16384 : Shape := ⟨1, ![16384]⟩
abbrev S16384x1 : Shape := ⟨2, ![16384, 1]⟩
abbrev S512x2048 : Shape := ⟨2, ![512, 2048]⟩
abbrev S512 : Shape := ⟨1, ![512]⟩
abbrev S512x1 : Shape := ⟨2, ![512, 1]⟩
abbrev S16384x6144 : Shape := ⟨2, ![16384, 6144]⟩
abbrev S1x6144 : Shape := ⟨2, ![1, 6144]⟩
abbrev S512x6144 : Shape := ⟨2, ![512, 6144]⟩
abbrev S16896x6144 : Shape := ⟨2, ![16896, 6144]⟩

abbrev nBuf : Space → Nat
  | .hbm => 71
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S2048x6144, .f32⟩
  | .hbm, ⟨4, _⟩ => ⟨S6144, .f32⟩
  | .hbm, ⟨5, _⟩ => ⟨S1x1x2048, .f32⟩
  | .hbm, ⟨6, _⟩ => ⟨S1x2048, .f32⟩
  | .hbm, ⟨7, _⟩ => ⟨S1x1x2048, .f32⟩
  | .hbm, ⟨8, _⟩ => ⟨S1x2048, .f32⟩
  | .hbm, ⟨9, _⟩ => ⟨S1x1x2048, .f32⟩
  | .hbm, ⟨10, _⟩ => ⟨S1x2048, .f32⟩
  | .hbm, ⟨11, _⟩ => ⟨S1x1x2048, .f32⟩
  | .hbm, ⟨12, _⟩ => ⟨S1x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S16384x2048, .f32⟩
  | .hbm, ⟨34, _⟩ => ⟨S16384x2048, .f32⟩
  | .hbm, ⟨35, _⟩ => ⟨S16384x2048, .f32⟩
  | .hbm, ⟨36, _⟩ => ⟨S16384x2048, .f32⟩
  | .hbm, ⟨37, _⟩ => ⟨S512x2048, .f32⟩
  | .hbm, ⟨38, _⟩ => ⟨S512x2048, .f32⟩
  | .hbm, ⟨39, _⟩ => ⟨S_, .f32⟩
  | .hbm, ⟨40, _⟩ => ⟨S512, .f32⟩
  | .hbm, ⟨41, _⟩ => ⟨S512x1, .f32⟩
  | .hbm, ⟨42, _⟩ => ⟨S_, .f32⟩
  | .hbm, ⟨43, _⟩ => ⟨S512x1, .f32⟩
  | .hbm, ⟨44, _⟩ => ⟨S512x1, .f32⟩
  | .hbm, ⟨45, _⟩ => ⟨S_, .f32⟩
  | .hbm, ⟨46, _⟩ => ⟨S512x1, .f32⟩
  | .hbm, ⟨47, _⟩ => ⟨S512x1, .f32⟩
  | .hbm, ⟨48, _⟩ => ⟨S512x1, .f32⟩
  | .hbm, ⟨49, _⟩ => ⟨S512x2048, .f32⟩
  | .hbm, ⟨50, _⟩ => ⟨S512x2048, .f32⟩
  | .hbm, ⟨51, _⟩ => ⟨S1x2048, .f32⟩
  | .hbm, ⟨52, _⟩ => ⟨S512x2048, .f32⟩
  | .hbm, ⟨53, _⟩ => ⟨S512x2048, .f32⟩
  | .hbm, ⟨54, _⟩ => ⟨S_, .f32⟩
  | .hbm, ⟨55, _⟩ => ⟨S1x2048, .f32⟩
  | .hbm, ⟨56, _⟩ => ⟨S1x2048, .f32⟩
  | .hbm, ⟨57, _⟩ => ⟨S512x2048, .f32⟩
  | .hbm, ⟨58, _⟩ => ⟨S512x2048, .f32⟩
  | .hbm, ⟨59, _⟩ => ⟨S512x2048, .f32⟩
  | .hbm, ⟨60, _⟩ => ⟨S512x2048, .f32⟩
  | .hbm, ⟨61, _⟩ => ⟨S16384x6144, .f32⟩
  | .hbm, ⟨62, _⟩ => ⟨S1x6144, .f32⟩
  | .hbm, ⟨63, _⟩ => ⟨S16384x6144, .f32⟩
  | .hbm, ⟨64, _⟩ => ⟨S16384x6144, .f32⟩
  | .hbm, ⟨65, _⟩ => ⟨S512x6144, .f32⟩
  | .hbm, ⟨66, _⟩ => ⟨S1x6144, .f32⟩
  | .hbm, ⟨67, _⟩ => ⟨S512x6144, .f32⟩
  | .hbm, ⟨68, _⟩ => ⟨S512x6144, .f32⟩
  | .hbm, ⟨69, _⟩ => ⟨S16896x6144, .f32⟩
  | .hbm, ⟨70, _⟩ => ⟨S16896x6144, .bf16⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_v32 : Ref sig .tc := ⟨.hbm, 43, rfl⟩
abbrev main_v33 : Ref sig .tc := ⟨.hbm, 44, rfl⟩
abbrev main_cst_5 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_6 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel7.lean ====
abbrev S16896x2048 : Shape := ⟨2, ![16896, 2048]⟩
abbrev S2048 : Shape := ⟨1, ![2048]⟩
abbrev S2x1x12288 : Shape := ⟨3, ![2, 1, 12288]⟩
abbrev S2048x4096 : Shape := ⟨2, ![2048, 4096]⟩
abbrev S4096 : Shape := ⟨1, ![4096]⟩
abbrev S1x4096 : Shape := ⟨2, ![1, 4096]⟩
abbrev S1x2048 : Shape := ⟨2, ![1, 2048]⟩
abbrev S512x2048 : Shape := ⟨2, ![512, 2048]⟩
abbrev S1x1x2048 : Shape := ⟨3, ![1, 1, 2048]⟩
abbrev S2048x512 : Shape := ⟨2, ![2048, 512]⟩
abbrev S1x512 : Shape := ⟨2, ![1, 512]⟩
abbrev S512x512 : Shape := ⟨2, ![512, 512]⟩
abbrev S1x1x512 : Shape := ⟨3, ![1, 1, 512]⟩
abbrev S512 : Shape := ⟨1, ![512]⟩
abbrev S512x1 : Shape := ⟨2, ![512, 1]⟩

abbrev nBuf : Space → Nat
  | .hbm => 12
  | .vmem => 25
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S16896x2048, .f32⟩
  | .hbm, ⟨4, _⟩ => ⟨S2048, .f32⟩
  | .hbm, ⟨5, _⟩ => ⟨S2048x4096, .f32⟩
  | .hbm, ⟨6, _⟩ => ⟨S4096, .f32⟩
  | .hbm, ⟨7, _⟩ => ⟨S2048x4096, .bf16⟩
  | .hbm, ⟨8, _⟩ => ⟨S1x4096, .f32⟩
  | .hbm, ⟨9, _⟩ => ⟨S1x2048, .f32⟩
  | .hbm, ⟨10, _⟩ => ⟨S1x2048, .f32⟩
  | .hbm, ⟨11, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | .local _ .vmem, ⟨10, _⟩ => ⟨S2048x512, .bf16⟩
  | .local _ .vmem, ⟨11, _⟩ => ⟨S2048x512, .bf16⟩
  | .local _ .vmem, ⟨12, _⟩ => ⟨S2048x512, .bf16⟩
  | .local _ .vmem, ⟨13, _⟩ => ⟨S2048x512, .bf16⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S512x512, .f32⟩
  | .local _ .vmem, ⟨19, _⟩ => ⟨S512x512, .f32⟩
  | .local _ .vmem, ⟨20, _⟩ => ⟨S1x1x512, .f32⟩
  | .local _ .vmem, ⟨21, _⟩ => ⟨S1x1x512, .f32⟩
  | .local _ .vmem, ⟨22, _⟩ => ⟨S512x512, .f32⟩
  | .local _ .vmem, ⟨23, _⟩ => ⟨S512x512, .f32⟩
  | .local _ .vmem, ⟨24, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c1_i32_1 : BitVec 32 := 1#32
  let c0_i32_2 : BitVec 32 := 0#32
  ![v1.toNat, c0_i32_0.toNat, c1_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![c0_i32.toNat, v0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c8_i32 : BitVec 32 := 8#32
  let v2 : BitVec 32 := Scalar.addi c8_i32 arg1
  let c0_i32_0 : BitVec 32 := 0#32
  let c0_i32_1 : BitVec 32 := 0#32
  ![v1.toNat, c0_i32_0.toNat, v2.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S2048x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference7Ideal.lean ====
abbrev S16896x2048 : Shape := ⟨2, ![16896, 2048]⟩
abbrev S2048 : Shape := ⟨1, ![2048]⟩
abbrev S2x1x12288 : Shape := ⟨3, ![2, 1, 12288]⟩
abbrev S2048x4096 : Shape := ⟨2, ![2048, 4096]⟩
abbrev S4096 : Shape := ⟨1, ![4096]⟩
abbrev S16384x2048 : Shape := ⟨2, ![16384, 2048]⟩
abbrev S1x1x12288 : Shape := ⟨3, ![1, 1, 12288]⟩
abbrev S1x12288 : Shape := ⟨2, ![1, 12288]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x4096 : Shape := ⟨2, ![16384, 4096]⟩
abbrev S1x4096 : Shape := ⟨2, ![1, 4096]⟩
abbrev S512x2048 : Shape := ⟨2, ![512, 2048]⟩
abbrev S512 : Shape := ⟨1, ![512]⟩
abbrev S512x1 : Shape := ⟨2, ![512, 1]⟩
abbrev S512x4096 : Shape := ⟨2, ![512, 4096]⟩

abbrev nBuf : Space → Nat
  | .hbm => 146
  | .vmem => 0
  | .smem => 0
  | _ => 0

abbrev hbmTy0_0 (i : Nat) : BufTy := match i % 128 with
  | 0 => ⟨S16896x2048, .f32⟩
  | 1 => ⟨S2048, .f32⟩
  | 2 => ⟨S2x1x12288, .f32⟩
  | 3 => ⟨S16896x2048, .f32⟩
  | 4 => ⟨S2048, .f32⟩
  | 5 => ⟨S2048x4096, .f32⟩
  | 6 => ⟨S4096, .f32⟩
  | 7 => ⟨S16384x2048, .f32⟩
  | 8 => ⟨S16384x2048, .f32⟩
  | 9 => ⟨S1x1x12288, .f32⟩
  | 10 => ⟨S1x12288, .f32⟩
  | 11 => ⟨S1x2048, .f32⟩
  | 12 => ⟨S1x2048, .f32⟩
  | 13 => ⟨S1x2048, .f32⟩
  | 14 => ⟨S16384x2048, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | 30 => ⟨S_, .f32⟩
  | 31 => ⟨S1x2048, .f32⟩
  | 32 => ⟨S1x2048, .f32⟩
  | 33 => ⟨S16384x2048, .f32⟩
  | 34 => ⟨S16384x2048, .f32⟩
  | 35 => ⟨S16384x2048, .f32⟩
  | 36 => ⟨S16384x2048, .f32⟩
  | 37 => ⟨S1x2048, .f32⟩
  | 38 => ⟨S16384x2048, .f32⟩
  | 39 => ⟨S16384x2048, .f32⟩
  | 40 => ⟨S16384x2048, .f32⟩
  | 41 => ⟨S16384x2048, .f32⟩
  | 42 => ⟨S16384x2048, .f32⟩
  | 43 => ⟨S_, .f32⟩
  | 44 => ⟨S16384x2048, .f32⟩
  | 45 => ⟨S16384x2048, .f32⟩
  | 46 => ⟨S16384x2048, .f32⟩
  | 47 => ⟨S_, .f32⟩
  | 48 => ⟨S16384x2048, .f32⟩
  | 49 => ⟨S16384x2048, .f32⟩
  | 50 => ⟨S16384x2048, .f32⟩
  | 51 => ⟨S_, .f32⟩
  | 52 => ⟨S16384x2048, .f32⟩
  | 53 => ⟨S16384x2048, .f32⟩
  | 54 => ⟨S_, .f32⟩
  | 55 => ⟨S16384x2048, .f32⟩
  | 56 => ⟨S16384x2048, .f32⟩
  | 57 => ⟨S16384x2048, .f32⟩
  | 58 => ⟨S16384x4096, .f32⟩
  | 59 => ⟨S1x4096, .f32⟩
  | 60 => ⟨S16384x4096, .f32⟩
  | 61 => ⟨S16384x4096, .f32⟩
  | 62 => ⟨S16384x2048, .f32⟩
  | 63 => ⟨S16384x2048, .f32⟩
  | 64 => ⟨S16384x2048, .f32⟩
  | 65 => ⟨S16384x2048, .f32⟩
  | 66 => ⟨S_, .f32⟩
  | 67 => ⟨S16384x2048, .f32⟩
  | 68 => ⟨S16384x2048, .f32⟩
  | 69 => ⟨S_, .f32⟩
  | 70 => ⟨S16384x2048, .f32⟩
  | 71 => ⟨S16384x2048, .f32⟩
  | 72 => ⟨S16384x2048, .f32⟩
  | 73 => ⟨S16384x2048, .f32⟩
  | 74 => ⟨S16384x2048, .f32⟩
  | 75 => ⟨S16384x2048, .f32⟩
  | 76 => ⟨S512x2048, .f32⟩
  | 77 => ⟨S512x2048, .f32⟩
  | 78 => ⟨S1x1x12288, .f32⟩
  | 79 => ⟨S1x12288, .f32⟩
  | 80 => ⟨S1x2048, .f32⟩
  | 81 => ⟨S1x2048, .f32⟩
  | 82 => ⟨S1x2048, .f32⟩
  | 83 => ⟨S512x2048, .f32⟩
  | 84 => ⟨S_, .f32⟩
  | 85 => ⟨S512, .f32⟩
  | 86 => ⟨S512x1, .f32⟩
  | 87 => ⟨S_, .f32⟩
  | 88 => ⟨S512x1, .f32⟩
  | 89 => ⟨S512x1, .f32⟩
  | 90 => ⟨S_, .f32⟩
  | 91 => ⟨S512x1, .f32⟩
  | 92 => ⟨S512x1, .f32⟩
  | 93 => ⟨S512x1, .f32⟩
  | 94 => ⟨S512x2048, .f32⟩
  | 95 => ⟨S512x2048, .f32⟩
  | 96 => ⟨S1x2048, .f32⟩
  | 97 => ⟨S512x2048, .f32⟩
  | 98 => ⟨S512x2048, .f32⟩
  | 99 => ⟨S_, .f32⟩
  | 100 => ⟨S1x2048, .f32⟩
  | 101 => ⟨S1x2048, .f32⟩
  | 102 => ⟨S512x2048, .f32⟩
  | 103 => ⟨S512x2048, .f32⟩
  | 104 => ⟨S512x2048, .f32⟩
  | 105 => ⟨S512x2048, .f32⟩
  | 106 => ⟨S1x2048, .f32⟩
  | 107 => ⟨S512x2048, .f32⟩
  | 108 => ⟨S512x2048, .f32⟩
  | 109 => ⟨S512x2048, .f32⟩
  | 110 => ⟨S512x2048, .f32⟩
  | 111 => ⟨S512x2048, .f32⟩
  | 112 => ⟨S_, .f32⟩
  | 113 => ⟨S512x2048, .f32⟩
  | 114 => ⟨S512x2048, .f32⟩
  | 115 => ⟨S512x2048, .f32⟩
  | 116 => ⟨S_, .f32⟩
  | 117 => ⟨S512x2048, .f32⟩
  | 118 => ⟨S512x2048, .f32⟩
  | 119 => ⟨S512x2048, .f32⟩
  | 120 => ⟨S_, .f32⟩
  | 121 => ⟨S512x2048, .f32⟩
  | 122 => ⟨S512x2048, .f32⟩
  | 123 => ⟨S_, .f32⟩
  | 124 => ⟨S512x2048, .f32⟩
  | 125 => ⟨S512x2048, .f32⟩
  | 126 => ⟨S512x2048, .f32⟩
  | 127 => ⟨S512x4096, .f32⟩
  | _ => ⟨S16896x2048, .f32⟩

abbrev hbmTy0_1 (i : Nat) : BufTy := match i % 128 with
  | 0 => ⟨S1x4096, .f32⟩
  | 1 => ⟨S512x4096, .f32⟩
  | 2 => ⟨S512x4096, .f32⟩
  | 3 => ⟨S512x2048, .f32⟩
  | 4 => ⟨S512x2048, .f32⟩
  | 5 => ⟨S512x2048, .f32⟩
  | 6 => ⟨S512x2048, .f32⟩
  | 7 => ⟨S_, .f32⟩
  | 8 => ⟨S512x2048, .f32⟩
  | 9 => ⟨S512x2048, .f32⟩
  | 10 => ⟨S_, .f32⟩
  | 11 => ⟨S512x2048, .f32⟩
  | 12 => ⟨S512x2048, .f32⟩
  | 13 => ⟨S512x2048, .f32⟩
  | 14 => ⟨S512x2048, .f32⟩
  | 15 => ⟨S512x2048, .f32⟩
  | 16 => ⟨S512x2048, .f32⟩
  | 17 => ⟨S16896x2048, .f32⟩
  | _ => ⟨S16896x2048, .f32⟩

abbrev hbmTy (i : Nat) : BufTy := match i / 128 with
  | 0 => hbmTy0_0 i
  | 1 => hbmTy0_1 i
  | _ => ⟨S16896x2048, .f32⟩

abbrev bufTy : (tb : Table) → Fin (tcTables nBuf tb) → BufTy
  | .hbm, ⟨i, _⟩ => hbmTy i
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_cst_7 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_cst_9 : Ref sig .tc := ⟨.hbm, 84, rfl⟩
abbrev main_v67 : Ref sig .tc := ⟨.hbm, 85, rfl⟩
abbrev main_v68 : Ref sig .tc := ⟨.hbm, 86, rfl⟩
abbrev main_cst_10 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_cst_12 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_cst_13 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_cst_14 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_15 : Ref sig .tc := ⟨.hbm, 120, rfl⟩
abbrev main_v97 : Ref sig .tc := ⟨.hbm, 121, rfl⟩
abbrev main_v98 : Ref sig .tc := ⟨.hbm, 122, rfl⟩
abbrev main_cst_16 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_cst_17 : Ref sig .tc := ⟨.hbm, 135, rfl⟩
abbrev main_v110 : Ref sig .tc := ⟨.hbm, 136, rfl⟩
abbrev main_v111 : Ref sig .tc := ⟨.hbm, 137, rfl⟩
abbrev main_cst_18 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩

abbrev nD : Nat := 1
abbrev τ : Topo := Topo.v7x

variable {F : FTy → Type} [FloatOps F]
-- ==== Kernel8.lean ====
abbrev S16896x2048 : Shape := ⟨2, ![16896, 2048]⟩
abbrev S2048 : Shape := ⟨1, ![2048]⟩
abbrev S2x1x12288 : Shape := ⟨3, ![2, 1, 12288]⟩
abbrev S2048x3072 : Shape := ⟨2, ![2048, 3072]⟩
abbrev S128 : Shape := ⟨1, ![128]⟩
abbrev S16384x64 : Shape := ⟨2, ![16384, 64]⟩
abbrev S16384x128 : Shape := ⟨2, ![16384, 128]⟩
abbrev S1x2048 : Shape := ⟨2, ![1, 2048]⟩
abbrev S1x128 : Shape := ⟨2, ![1, 128]⟩
abbrev S16896x3072 : Shape := ⟨2, ![16896, 3072]⟩
abbrev S512x2048 : Shape := ⟨2, ![512, 2048]⟩
abbrev S1x1x2048 : Shape := ⟨3, ![1, 1, 2048]⟩
abbrev S2048x512 : Shape := ⟨2, ![2048, 512]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 16
  | .vmem => 18
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S2048x3072, .f32⟩
  | .hbm, ⟨4, _⟩ => ⟨S128, .f32⟩
  | .hbm, ⟨5, _⟩ => ⟨S128, .f32⟩
  | .hbm, ⟨6, _⟩ => ⟨S16384x64, .f32⟩
  | .hbm, ⟨7, _⟩ => ⟨S16384x64, .f32⟩
  | .hbm, ⟨8, _⟩ => ⟨S16384x128, .f32⟩
  | .hbm, ⟨9, _⟩ => ⟨S16384x64, .f32⟩
  | .hbm, ⟨10, _⟩ => ⟨S16384x128, .f32⟩
  | .hbm, ⟨11, _⟩ => ⟨S2048x3072, .bf16⟩
  | .hbm, ⟨12, _⟩ => ⟨S1x2048, .f32⟩
  | .hbm, ⟨13, _⟩ => ⟨S1x128, .f32⟩
  | .hbm, ⟨14, _⟩ => ⟨S1x128, .f32⟩
  | .hbm, ⟨15, _⟩ => ⟨S16896x3072, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x128, .f32⟩
  | .local _ .vmem, ⟨10, _⟩ => ⟨S1x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x512, .bf16⟩
  | .local _ .vmem, ⟨16, _⟩ => ⟨S512x512, .bf16⟩
  | .local _ .vmem, ⟨17, _⟩ => ⟨S512x2048, .bf16⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![33, 6], ![false, false]⟩

def k0_cond2 (i : grid0.Coords) : BitVec 1 :=
  let arg1 : BitVec 32 := BitVec.ofNat 32 (i 1).val
  let c5_i32 : BitVec 32 := 5#32
  let v7 : BitVec 1 := Scalar.cmpi .slt arg1 c5_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg1 : BitVec 32 := BitVec.ofNat 32 (i 1).val
  let c5_i32_5 : BitVec 32 := 5#32
  let v10 : BitVec 1 := Scalar.cmpi .eq arg1 c5_i32_5
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c1_i32_1 : BitVec 32 := 1#32
  let c0_i32_2 : BitVec 32 := 0#32
  ![v1.toNat, c0_i32_0.toNat, c1_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Reference8Ideal.lean ====
abbrev S16896x2048 : Shape := ⟨2, ![16896, 2048]⟩
abbrev S2048 : Shape := ⟨1, ![2048]⟩
abbrev S2x1x12288 : Shape := ⟨3, ![2, 1, 12288]⟩
abbrev S2048x3072 : Shape := ⟨2, ![2048, 3072]⟩
abbrev S128 : Shape := ⟨1, ![128]⟩
abbrev S16384x64 : Shape := ⟨2, ![16384, 64]⟩
abbrev S16384x1x64 : Shape := ⟨3, ![16384, 1, 64]⟩
abbrev S16384x2048 : Shape := ⟨2, ![16384, 2048]⟩
abbrev S1x1x12288 : Shape := ⟨3, ![1, 1, 12288]⟩
abbrev S1x12288 : Shape := ⟨2, ![1, 12288]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x3072 : Shape := ⟨2, ![16384, 3072]⟩
abbrev S16384x512 : Shape := ⟨2, ![16384, 512]⟩
abbrev S16384x16x128 : Shape := ⟨3, ![16384, 16, 128]⟩
abbrev S16384x16 : Shape := ⟨2, ![16384, 16]⟩
abbrev S16384x16x1 : Shape := ⟨3, ![16384, 16, 1]⟩
abbrev S1x1x128 : Shape := ⟨3, ![1, 1, 128]⟩
abbrev S16384x4x128 : Shape := ⟨3, ![16384, 4, 128]⟩
abbrev S16384x4 : Shape := ⟨2, ![16384, 4]⟩
abbrev S16384x4x1 : Shape := ⟨3, ![16384, 4, 1]⟩
abbrev S16384x16x64 : Shape := ⟨3, ![16384, 16, 64]⟩
abbrev S16384x4x64 : Shape := ⟨3, ![16384, 4, 64]⟩
abbrev S16384x24x128 : Shape := ⟨3, ![16384, 24, 128]⟩
abbrev S512x2048 : Shape := ⟨2, ![512, 2048]⟩
abbrev S512 : Shape := ⟨1, ![512]⟩
abbrev S512x1 : Shape := ⟨2, ![512, 1]⟩
abbrev S512x3072 : Shape := ⟨2, ![512, 3072]⟩
abbrev S512x512 : Shape := ⟨2, ![512, 512]⟩
abbrev S512x16x128 : Shape := ⟨3, ![512, 16, 128]⟩
abbrev S512x16 : Shape := ⟨2, ![512, 16]⟩
abbrev S512x16x1 : Shape := ⟨3, ![512, 16, 1]⟩
abbrev S512x4x128 : Shape := ⟨3, ![512, 4, 128]⟩
abbrev S512x4 : Shape := ⟨2, ![512, 4]⟩
abbrev S512x4x1 : Shape := ⟨3, ![512, 4, 1]⟩
abbrev S512x24x128 : Shape := ⟨3, ![512, 24, 128]⟩
abbrev S16896x24x128 : Shape := ⟨3, ![16896, 24, 128]⟩
abbrev S16896x3072 : Shape := ⟨2, ![16896, 3072]⟩

abbrev nBuf : Space → Nat
  | .hbm => 181
  | .vmem => 0
  | .smem => 0
  | _ => 0

abbrev hbmTy0_0 (i : Nat) : BufTy := match i % 128 with
  | 0 => ⟨S16896x2048, .f32⟩
  | 1 => ⟨S2048, .f32⟩
  | 2 => ⟨S2x1x12288, .f32⟩
  | 3 => ⟨S2048x3072, .f32⟩
  | 4 => ⟨S128, .f32⟩
  | 5 => ⟨S128, .f32⟩
  | 6 => ⟨S16384x64, .f32⟩
  | 7 => ⟨S16384x64, .f32⟩
  | 8 => ⟨S16384x1x64, .f32⟩
  | 9 => ⟨S16384x1x64, .f32⟩
  | 10 => ⟨S16384x2048, .f32⟩
  | 11 => ⟨S1x1x12288, .f32⟩
  | 12 => ⟨S1x12288, .f32⟩
  | 13 => ⟨S1x2048, .f32⟩
  | 14 => ⟨S1x2048, .f32⟩
  | 15 => ⟨S16384x2048, .f32⟩
  | 16 => ⟨S_, .f32⟩
  | 17 => ⟨S16384, .f32⟩
  | 18 => ⟨S16384x1, .f32⟩
  | 19 => ⟨S_, .f32⟩
  | 20 => ⟨S16384x1, .f32⟩
  | 21 => ⟨S16384x1, .f32⟩
  | 22 => ⟨S_, .f32⟩
  | 23 => ⟨S16384x1, .f32⟩
  | 24 => ⟨S16384x1, .f32⟩
  | 25 => ⟨S16384x1, .f32⟩
  | 26 => ⟨S16384x2048, .f32⟩
  | 27 => ⟨S16384x2048, .f32⟩
  | 28 => ⟨S1x2048, .f32⟩
  | 29 => ⟨S16384x2048, .f32⟩
  | 30 => ⟨S16384x2048, .f32⟩
  | 31 => ⟨S_, .f32⟩
  | 32 => ⟨S1x2048, .f32⟩
  | 33 => ⟨S1x2048, .f32⟩
  | 34 => ⟨S16384x2048, .f32⟩
  | 35 => ⟨S16384x2048, .f32⟩
  | 36 => ⟨S16384x2048, .f32⟩
  | 37 => ⟨S16384x2048, .f32⟩
  | 38 => ⟨S16384x3072, .f32⟩
  | 39 => ⟨S16384x2048, .f32⟩
  | 40 => ⟨S16384x512, .f32⟩
  | 41 => ⟨S16384x512, .f32⟩
  | 42 => ⟨S16384x16x128, .f32⟩
  | 43 => ⟨S16384x16x128, .f32⟩
  | 44 => ⟨S_, .f32⟩
  | 45 => ⟨S16384x16, .f32⟩
  | 46 => ⟨S16384x16x1, .f32⟩
  | 47 => ⟨S_, .f32⟩
  | 48 => ⟨S16384x16x1, .f32⟩
  | 49 => ⟨S16384x16x1, .f32⟩
  | 50 => ⟨S_, .f32⟩
  | 51 => ⟨S16384x16x1, .f32⟩
  | 52 => ⟨S16384x16x1, .f32⟩
  | 53 => ⟨S16384x16x1, .f32⟩
  | 54 => ⟨S16384x16x128, .f32⟩
  | 55 => ⟨S16384x16x128, .f32⟩
  | 56 => ⟨S1x1x128, .f32⟩
  | 57 => ⟨S16384x16x128, .f32⟩
  | 58 => ⟨S16384x16x128, .f32⟩
  | 59 => ⟨S16384x4x128, .f32⟩
  | 60 => ⟨S16384x4x128, .f32⟩
  | 61 => ⟨S_, .f32⟩
  | 62 => ⟨S16384x4, .f32⟩
  | 63 => ⟨S16384x4x1, .f32⟩
  | 64 => ⟨S_, .f32⟩
  | 65 => ⟨S16384x4x1, .f32⟩
  | 66 => ⟨S16384x4x1, .f32⟩
  | 67 => ⟨S_, .f32⟩
  | 68 => ⟨S16384x4x1, .f32⟩
  | 69 => ⟨S16384x4x1, .f32⟩
  | 70 => ⟨S16384x4x1, .f32⟩
  | 71 => ⟨S16384x4x128, .f32⟩
  | 72 => ⟨S16384x4x128, .f32⟩
  | 73 => ⟨S1x1x128, .f32⟩
  | 74 => ⟨S16384x4x128, .f32⟩
  | 75 => ⟨S16384x4x128, .f32⟩
  | 76 => ⟨S16384x4x128, .f32⟩
  | 77 => ⟨S16384x16x64, .f32⟩
  | 78 => ⟨S16384x16x64, .f32⟩
  | 79 => ⟨S16384x16x64, .f32⟩
  | 80 => ⟨S16384x16x64, .f32⟩
  | 81 => ⟨S16384x16x64, .f32⟩
  | 82 => ⟨S16384x16x64, .f32⟩
  | 83 => ⟨S16384x16x64, .f32⟩
  | 84 => ⟨S16384x16x64, .f32⟩
  | 85 => ⟨S16384x16x64, .f32⟩
  | 86 => ⟨S16384x16x64, .f32⟩
  | 87 => ⟨S16384x16x64, .f32⟩
  | 88 => ⟨S16384x16x64, .f32⟩
  | 89 => ⟨S16384x16x128, .f32⟩
  | 90 => ⟨S16384x4x64, .f32⟩
  | 91 => ⟨S16384x4x64, .f32⟩
  | 92 => ⟨S16384x4x64, .f32⟩
  | 93 => ⟨S16384x4x64, .f32⟩
  | 94 => ⟨S16384x4x64, .f32⟩
  | 95 => ⟨S16384x4x64, .f32⟩
  | 96 => ⟨S16384x4x64, .f32⟩
  | 97 => ⟨S16384x4x64, .f32⟩
  | 98 => ⟨S16384x4x64, .f32⟩
  | 99 => ⟨S16384x4x64, .f32⟩
  | 100 => ⟨S16384x4x64, .f32⟩
  | 101 => ⟨S16384x4x64, .f32⟩
  | 102 => ⟨S16384x4x128, .f32⟩
  | 103 => ⟨S_, .f32⟩
  | 104 => ⟨S16384x16x128, .f32⟩
  | 105 => ⟨S16384x16x128, .f32⟩
  | 106 => ⟨S16384x24x128, .f32⟩
  | 107 => ⟨S512x2048, .f32⟩
  | 108 => ⟨S1x1x12288, .f32⟩
  | 109 => ⟨S1x12288, .f32⟩
  | 110 => ⟨S1x2048, .f32⟩
  | 111 => ⟨S1x2048, .f32⟩
  | 112 => ⟨S512x2048, .f32⟩
  | 113 => ⟨S_, .f32⟩
  | 114 => ⟨S512, .f32⟩
  | 115 => ⟨S512x1, .f32⟩
  | 116 => ⟨S_, .f32⟩
  | 117 => ⟨S512x1, .f32⟩
  | 118 => ⟨S512x1, .f32⟩
  | 119 => ⟨S_, .f32⟩
  | 120 => ⟨S512x1, .f32⟩
  | 121 => ⟨S512x1, .f32⟩
  | 122 => ⟨S512x1, .f32⟩
  | 123 => ⟨S512x2048, .f32⟩
  | 124 => ⟨S512x2048, .f32⟩
  | 125 => ⟨S1x2048, .f32⟩
  | 126 => ⟨S512x2048, .f32⟩
  | 127 => ⟨S512x2048, .f32⟩
  | _ => ⟨S16896x2048, .f32⟩

abbrev hbmTy0_1 (i : Nat) : BufTy := match i % 128 with
  | 0 => ⟨S_, .f32⟩
  | 1 => ⟨S1x2048, .f32⟩
  | 2 => ⟨S1x2048, .f32⟩
  | 3 => ⟨S512x2048, .f32⟩
  | 4 => ⟨S512x2048, .f32⟩
  | 5 => ⟨S512x2048, .f32⟩
  | 6 => ⟨S512x2048, .f32⟩
  | 7 => ⟨S512x3072, .f32⟩
  | 8 => ⟨S512x2048, .f32⟩
  | 9 => ⟨S512x512, .f32⟩
  | 10 => ⟨S512x512, .f32⟩
  | 11 => ⟨S512x16x128, .f32⟩
  | 12 => ⟨S512x16x128, .f32⟩
  | 13 => ⟨S_, .f32⟩
  | 14 => ⟨S512x16, .f32⟩
  | 15 => ⟨S512x16x1, .f32⟩
  | 16 => ⟨S_, .f32⟩
  | 17 => ⟨S512x16x1, .f32⟩
  | 18 => ⟨S512x16x1, .f32⟩
  | 19 => ⟨S_, .f32⟩
  | 20 => ⟨S512x16x1, .f32⟩
  | 21 => ⟨S512x16x1, .f32⟩
  | 22 => ⟨S512x16x1, .f32⟩
  | 23 => ⟨S512x16x128, .f32⟩
  | 24 => ⟨S512x16x128, .f32⟩
  | 25 => ⟨S1x1x128, .f32⟩
  | 26 => ⟨S512x16x128, .f32⟩
  | 27 => ⟨S512x16x128, .f32⟩
  | 28 => ⟨S512x4x128, .f32⟩
  | 29 => ⟨S512x4x128, .f32⟩
  | 30 => ⟨S_, .f32⟩
  | 31 => ⟨S512x4, .f32⟩
  | 32 => ⟨S512x4x1, .f32⟩
  | 33 => ⟨S_, .f32⟩
  | 34 => ⟨S512x4x1, .f32⟩
  | 35 => ⟨S512x4x1, .f32⟩
  | 36 => ⟨S_, .f32⟩
  | 37 => ⟨S512x4x1, .f32⟩
  | 38 => ⟨S512x4x1, .f32⟩
  | 39 => ⟨S512x4x1, .f32⟩
  | 40 => ⟨S512x4x128, .f32⟩
  | 41 => ⟨S512x4x128, .f32⟩
  | 42 => ⟨S1x1x128, .f32⟩
  | 43 => ⟨S512x4x128, .f32⟩
  | 44 => ⟨S512x4x128, .f32⟩
  | 45 => ⟨S512x4x128, .f32⟩
  | 46 => ⟨S_, .f32⟩
  | 47 => ⟨S512x16x128, .f32⟩
  | 48 => ⟨S512x16x128, .f32⟩
  | 49 => ⟨S512x24x128, .f32⟩
  | 50 => ⟨S16896x24x128, .f32⟩
  | 51 => ⟨S16896x3072, .f32⟩
  | 52 => ⟨S16896x3072, .bf16⟩
  | _ => ⟨S16896x2048, .f32⟩

abbrev hbmTy (i : Nat) : BufTy := match i / 128 with
  | 0 => hbmTy0_0 i
  | 1 => hbmTy0_1 i
  | _ => ⟨S16896x2048, .f32⟩

abbrev bufTy : (tb : Table) → Fin (tcTables nBuf tb) → BufTy
  | .hbm, ⟨i, _⟩ => hbmTy i
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_2 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_3 : Ref sig .tc := ⟨.hbm, 44, rfl⟩
abbrev main_v32 : Ref sig .tc := ⟨.hbm, 45, rfl⟩
abbrev main_v33 : Ref sig .tc := ⟨.hbm, 46, rfl⟩
abbrev main_cst_4 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_cst_9 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_cst_10 : Ref sig .tc := ⟨.hbm, 113, rfl⟩
abbrev main_v94 : Ref sig .tc := ⟨.hbm, 114, rfl⟩
abbrev main_v95 : Ref sig .tc := ⟨.hbm, 115, rfl⟩
abbrev main_cst_11 : Ref sig .tc := ⟨.hbm, 116, rfl⟩
abbrev main_v96 : Ref sig .tc := ⟨.hbm, 117, rfl⟩
abbrev main_v97 : Ref sig .tc := ⟨.hbm, 118, rfl⟩
abbrev main_cst_12 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_cst_13 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩
abbrev main_cst_14 : Ref sig .tc := ⟨.hbm, 141, rfl⟩
abbrev main_v118 : Ref sig .tc := ⟨.hbm, 142, rfl⟩
abbrev main_v119 : Ref sig .tc := ⟨.hbm, 143, rfl⟩
abbrev main_cst_15 : Ref sig .tc := ⟨.hbm, 144, rfl⟩
abbrev main_v120 : Ref sig .tc := ⟨.hbm, 145, rfl⟩
abbrev main_v121 : Ref sig .tc := ⟨.hbm, 146, rfl⟩
abbrev main_cst_16 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_17 : Ref sig .tc := ⟨.hbm, 158, rfl⟩
abbrev main_v132 : Ref sig .tc := ⟨.hbm, 159, rfl⟩
abbrev main_v133 : Ref sig .tc := ⟨.hbm, 160, rfl⟩
abbrev main_cst_18 : Ref sig .tc := ⟨.hbm, 161, rfl⟩
abbrev main_v134 : Ref sig .tc := ⟨.hbm, 162, rfl⟩
abbrev main_v135 : Ref sig .tc := ⟨.hbm, 163, rfl⟩
abbrev main_cst_19 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_cst_20 : Ref sig .tc := ⟨.hbm, 174, rfl⟩
abbrev main_v145 : Ref sig .tc := ⟨.hbm, 175, rfl⟩
abbrev main_v146 : Ref sig .tc := ⟨.hbm, 176, rfl⟩
abbrev main_v147 : Ref sig .tc := ⟨.hbm, 177, rfl⟩
abbrev main_v148 : Ref sig .tc := ⟨.hbm, 178, rfl⟩
abbrev main_v149 : Ref sig .tc := ⟨.hbm, 179, rfl⟩
abbrev main_v150 : Ref sig .tc := ⟨.hbm, 180, rfl⟩

abbrev nD : Nat := 1
abbrev τ : Topo := Topo.v7x

variable {F : FTy → Type} [FloatOps F]
-- ==== Kernel9.lean ====
abbrev S16896x2048 : Shape := ⟨2, ![16896, 2048]⟩
abbrev S2048 : Shape := ⟨1, ![2048]⟩
abbrev S2x1x12288 : Shape := ⟨3, ![2, 1, 12288]⟩
abbrev S1x2048 : Shape := ⟨2, ![1, 2048]⟩
abbrev S512x2048 : Shape := ⟨2, ![512, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 5
  | .vmem => 9
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S1x2048, .f32⟩
  | .hbm, ⟨4, _⟩ => ⟨S16896x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S512x2048, .f32⟩
  | .local _ .vmem, ⟨8, _⟩ => ⟨S512x2048, .f32⟩
  | _, _ => ⟨S16896x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![33, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c1_i32_1 : BitVec 32 := 1#32
  let c0_i32_2 : BitVec 32 := 0#32
  ![v1.toNat, c0_i32_0.toNat, c1_i32_1.toNat]

def cc0_transform_3 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 1 := Scalar.cmpi .slt arg0 c32_i32
  let c0_i32 : BitVec 32 := 0#32
  let c1_i32 : BitVec 32 := 1#32
  let v1 : BitVec 32 := Scalar.select v0 c0_i32 c1_i32
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference9Ideal.lean ====
abbrev S16896x2048 : Shape := ⟨2, ![16896, 2048]⟩
abbrev S2048 : Shape := ⟨1, ![2048]⟩
abbrev S2x1x12288 : Shape := ⟨3, ![2, 1, 12288]⟩
abbrev S16384x2048 : Shape := ⟨2, ![16384, 2048]⟩
abbrev S1x1x12288 : Shape := ⟨3, ![1, 1, 12288]⟩
abbrev S1x12288 : Shape := ⟨2, ![1, 12288]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S512x2048 : Shape := ⟨2, ![512, 2048]⟩
abbrev S512 : Shape := ⟨1, ![512]⟩
abbrev S512x1 : Shape := ⟨2, ![512, 1]⟩

abbrev nBuf : Space → Nat
  | .hbm => 60
  | .vmem => 0
  | .smem => 0
  | _ => 0

abbrev bufTy : (tb : Table) → Fin (tcTables nBuf tb) → BufTy
  | .hbm, ⟨0, _⟩ => ⟨S16896x2048, .f32⟩
  | .hbm, ⟨1, _⟩ => ⟨S2048, .f32⟩
  | .hbm, ⟨2, _⟩ => ⟨S2x1x12288, .f32⟩
  | .hbm, ⟨3, _⟩ => ⟨S16384x2048, .f32⟩
  | .hbm, ⟨4, _⟩ => ⟨S1x1x12288, .f32⟩
  | .hbm, ⟨5, _⟩ => ⟨S1x12288, .f32⟩
  | .hbm, ⟨6, _⟩ => ⟨S1x2048, .f32⟩
  | .hbm, ⟨7, _⟩ => ⟨S1x2048, .f32⟩
  | .hbm, ⟨8, _⟩ => ⟨S16384x2048, .f32⟩
  | .hbm, ⟨9, _⟩ => ⟨S_, .f32⟩
  | .hbm, ⟨10, _⟩ => ⟨S16384, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S16384x1, .f32⟩
  | .hbm, ⟨19, _⟩ => ⟨S16384x2048, .f32⟩
  | .hbm, ⟨20, _⟩ => ⟨S16384x2048, .f32⟩
  | .hbm, ⟨21, _⟩ => ⟨S1x2048, .f32⟩
  | .hbm, ⟨22, _⟩ => ⟨S16384x2048, .f32⟩
  | .hbm, ⟨23, _⟩ => ⟨S16384x2048, .f32⟩
  | .hbm, ⟨24, _⟩ => ⟨S_, .f32⟩
  | .hbm, ⟨25, _⟩ => ⟨S1x2048, .f32⟩
  | .hbm, ⟨26, _⟩ => ⟨S1x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S512x2048, .f32⟩
  | .hbm, ⟨32, _⟩ => ⟨S1x1x12288, .f32⟩
  | .hbm, ⟨33, _⟩ => ⟨S1x12288, .f32⟩
  | .hbm, ⟨34, _⟩ => ⟨S1x2048, .f32⟩
  | .hbm, ⟨35, _⟩ => ⟨S1x2048, .f32⟩
  | .hbm, ⟨36, _⟩ => ⟨S512x2048, .f32⟩
  | .hbm, ⟨37, _⟩ => ⟨S_, .f32⟩
  | .hbm, ⟨38, _⟩ => ⟨S512, .f32⟩
  | .hbm, ⟨39, _⟩ => ⟨S512x1, .f32⟩
  | .hbm, ⟨40, _⟩ => ⟨S_, .f32⟩
  | .hbm, ⟨41, _⟩ => ⟨S512x1, .f32⟩
  | .hbm, ⟨42, _⟩ => ⟨S512x1, .f32⟩
  | .hbm, ⟨43, _⟩ => ⟨S_, .f32⟩
  | .hbm, ⟨44, _⟩ => ⟨S512x1, .f32⟩
  | .hbm, ⟨45, _⟩ => ⟨S512x1, .f32⟩
  | .hbm, ⟨46, _⟩ => ⟨S512x1, .f32⟩
  | .hbm, ⟨47, _⟩ => ⟨S512x2048, .f32⟩
  | .hbm, ⟨48, _⟩ => ⟨S512x2048, .f32⟩
  | .hbm, ⟨49, _⟩ => ⟨S1x2048, .f32⟩
  | .hbm, ⟨50, _⟩ => ⟨S512x2048, .f32⟩
  | .hbm, ⟨51, _⟩ => ⟨S512x2048, .f32⟩
  | .hbm, ⟨52, _⟩ => ⟨S_, .f32⟩
  | .hbm, ⟨53, _⟩ => ⟨S1x2048, .f32⟩
  | .hbm, ⟨54, _⟩ => ⟨S1x2048, .f32⟩
  | .hbm, ⟨55, _⟩ => ⟨S512x2048, .f32⟩
  | .hbm, ⟨56, _⟩ => ⟨S512x2048, .f32⟩
  | .hbm, ⟨57, _⟩ => ⟨S512x2048, .f32⟩
  | .hbm, ⟨58, _⟩ => ⟨S512x2048, .f32⟩
  | .hbm, ⟨59, _⟩ => ⟨S16896x2048, .f32⟩
  | _, _ => ⟨S16896x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_3 : Ref sig .tc := ⟨.hbm, 37, rfl⟩
abbrev main_v30 : Ref sig .tc := ⟨.hbm, 38, rfl⟩
abbrev main_v31 : Ref sig .tc := ⟨.hbm, 39, rfl⟩
abbrev main_cst_4 : Ref sig .tc := ⟨.hbm, 40, rfl⟩
abbrev main_v32 : Ref sig .tc := ⟨.hbm, 41, rfl⟩
abbrev main_v33 : Ref sig .tc := ⟨.hbm, 42, rfl⟩
abbrev main_cst_5 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_6 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩

abbrev nD : Nat := 1
abbrev τ : Topo := Topo.v7x

variable {F : FTy → Type} [FloatOps F]
-- ==== Kernel10.lean ====
abbrev S8x2048 : Shape := ⟨2, ![8, 2048]⟩
abbrev S4x2048x12288 : Shape := ⟨3, ![4, 2048, 12288]⟩
abbrev S4x12288 : Shape := ⟨2, ![4, 12288]⟩
abbrev S4x1x12288 : Shape := ⟨3, ![4, 1, 12288]⟩
abbrev S4x8x12288 : Shape := ⟨3, ![4, 8, 12288]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 5
  | .vmem => 7
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S4x1x12288, .f32⟩
  | .hbm, ⟨4, _⟩ => ⟨S4x8x12288, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference10Ideal.lean ====
abbrev S8x2048 : Shape := ⟨2, ![8, 2048]⟩
abbrev S4x2048x12288 : Shape := ⟨3, ![4, 2048, 12288]⟩
abbrev S4x12288 : Shape := ⟨2, ![4, 12288]⟩
abbrev S_ : Shape := ⟨0, ![]⟩
abbrev S1x2048x12288 : Shape := ⟨3, ![1, 2048, 12288]⟩
abbrev S2048x12288 : Shape := ⟨2, ![2048, 12288]⟩
abbrev S8x12288 : Shape := ⟨2, ![8, 12288]⟩
abbrev S1x12288 : Shape := ⟨2, ![1, 12288]⟩
abbrev S12288 : Shape := ⟨1, ![12288]⟩
abbrev S1x8x12288 : Shape := ⟨3, ![1, 8, 12288]⟩
abbrev S4x8x12288 : Shape := ⟨3, ![4, 8, 12288]⟩

abbrev nBuf : Space → Nat
  | .hbm => 76
  | .vmem => 0
  | .smem => 0
  | _ => 0

abbrev bufTy : (tb : Table) → Fin (tcTables nBuf tb) → BufTy
  | .hbm, ⟨0, _⟩ => ⟨S8x2048, .f32⟩
  | .hbm, ⟨1, _⟩ => ⟨S4x2048x12288, .f32⟩
  | .hbm, ⟨2, _⟩ => ⟨S4x12288, .f32⟩
  | .hbm, ⟨3, _⟩ => ⟨S8x2048, .f32⟩
  | .hbm, ⟨4, _⟩ => ⟨S8x2048, .f32⟩
  | .hbm, ⟨5, _⟩ => ⟨S_, .f32⟩
  | .hbm, ⟨6, _⟩ => ⟨S8x2048, .f32⟩
  | .hbm, ⟨7, _⟩ => ⟨S8x2048, .f32⟩
  | .hbm, ⟨8, _⟩ => ⟨S_, .f32⟩
  | .hbm, ⟨9, _⟩ => ⟨S8x2048, .f32⟩
  | .hbm, ⟨10, _⟩ => ⟨S8x2048, .f32⟩
  | .hbm, ⟨11, _⟩ => ⟨S8x2048, .f32⟩
  | .hbm, ⟨12, _⟩ => ⟨S1x2048x12288, .f32⟩
  | .hbm, ⟨13, _⟩ => ⟨S2048x12288, .f32⟩
  | .hbm, ⟨14, _⟩ => ⟨S8x12288, .f32⟩
  | .hbm, ⟨15, _⟩ => ⟨S1x12288, .f32⟩
  | .hbm, ⟨16, _⟩ => ⟨S12288, .f32⟩
  | .hbm, ⟨17, _⟩ => ⟨S1x12288, .f32⟩
  | .hbm, ⟨18, _⟩ => ⟨S8x12288, .f32⟩
  | .hbm, ⟨19, _⟩ => ⟨S8x12288, .f32⟩
  | .hbm, ⟨20, _⟩ => ⟨S8x2048, .f32⟩
  | .hbm, ⟨21, _⟩ => ⟨S8x2048, .f32⟩
  | .hbm, ⟨22, _⟩ => ⟨S_, .f32⟩
  | .hbm, ⟨23, _⟩ => ⟨S8x2048, .f32⟩
  | .hbm, ⟨24, _⟩ => ⟨S8x2048, .f32⟩
  | .hbm, ⟨25, _⟩ => ⟨S_, .f32⟩
  | .hbm, ⟨26, _⟩ => ⟨S8x2048, .f32⟩
  | .hbm, ⟨27, _⟩ => ⟨S8x2048, .f32⟩
  | .hbm, ⟨28, _⟩ => ⟨S8x2048, .f32⟩
  | .hbm, ⟨29, _⟩ => ⟨S1x2048x12288, .f32⟩
  | .hbm, ⟨30, _⟩ => ⟨S2048x12288, .f32⟩
  | .hbm, ⟨31, _⟩ => ⟨S8x12288, .f32⟩
  | .hbm, ⟨32, _⟩ => ⟨S1x12288, .f32⟩
  | .hbm, ⟨33, _⟩ => ⟨S12288, .f32⟩
  | .hbm, ⟨34, _⟩ => ⟨S1x12288, .f32⟩
  | .hbm, ⟨35, _⟩ => ⟨S8x12288, .f32⟩
  | .hbm, ⟨36, _⟩ => ⟨S8x12288, .f32⟩
  | .hbm, ⟨37, _⟩ => ⟨S8x2048, .f32⟩
  | .hbm, ⟨38, _⟩ => ⟨S8x2048, .f32⟩
  | .hbm, ⟨39, _⟩ => ⟨S_, .f32⟩
  | .hbm, ⟨40, _⟩ => ⟨S8x2048, .f32⟩
  | .hbm, ⟨41, _⟩ => ⟨S8x2048, .f32⟩
  | .hbm, ⟨42, _⟩ => ⟨S_, .f32⟩
  | .hbm, ⟨43, _⟩ => ⟨S8x2048, .f32⟩
  | .hbm, ⟨44, _⟩ => ⟨S8x2048, .f32⟩
  | .hbm, ⟨45, _⟩ => ⟨S8x2048, .f32⟩
  | .hbm, ⟨46, _⟩ => ⟨S1x2048x12288, .f32⟩
  | .hbm, ⟨47, _⟩ => ⟨S2048x12288, .f32⟩
  | .hbm, ⟨48, _⟩ => ⟨S8x12288, .f32⟩
  | .hbm, ⟨49, _⟩ => ⟨S1x12288, .f32⟩
  | .hbm, ⟨50, _⟩ => ⟨S12288, .f32⟩
  | .hbm, ⟨51, _⟩ => ⟨S1x12288, .f32⟩
  | .hbm, ⟨52, _⟩ => ⟨S8x12288, .f32⟩
  | .hbm, ⟨53, _⟩ => ⟨S8x12288, .f32⟩
  | .hbm, ⟨54, _⟩ => ⟨S8x2048, .f32⟩
  | .hbm, ⟨55, _⟩ => ⟨S8x2048, .f32⟩
  | .hbm, ⟨56, _⟩ => ⟨S_, .f32⟩
  | .hbm, ⟨57, _⟩ => ⟨S8x2048, .f32⟩
  | .hbm, ⟨58, _⟩ => ⟨S8x2048, .f32⟩
  | .hbm, ⟨59, _⟩ => ⟨S_, .f32⟩
  | .hbm, ⟨60, _⟩ => ⟨S8x2048, .f32⟩
  | .hbm, ⟨61, _⟩ => ⟨S8x2048, .f32⟩
  | .hbm, ⟨62, _⟩ => ⟨S8x2048, .f32⟩
  | .hbm, ⟨63, _⟩ => ⟨S1x2048x12288, .f32⟩
  | .hbm, ⟨64, _⟩ => ⟨S2048x12288, .f32⟩
  | .hbm, ⟨65, _⟩ => ⟨S8x12288, .f32⟩
  | .hbm, ⟨66, _⟩ => ⟨S1x12288, .f32⟩
  | .hbm, ⟨67, _⟩ => ⟨S12288, .f32⟩
  | .hbm, ⟨68, _⟩ => ⟨S1x12288, .f32⟩
  | .hbm, ⟨69, _⟩ => ⟨S8x12288, .f32⟩
  | .hbm, ⟨70, _⟩ => ⟨S8x12288, .f32⟩
  | .hbm, ⟨71, _⟩ => ⟨S1x8x12288, .f32⟩
  | .hbm, ⟨72, _⟩ => ⟨S1x8x12288, .f32⟩
  | .hbm, ⟨73, _⟩ => ⟨S1x8x12288, .f32⟩
  | .hbm, ⟨74, _⟩ => ⟨S1x8x12288, .f32⟩
  | .hbm, ⟨75, _⟩ => ⟨S4x8x12288, .f32⟩
  | _, _ => ⟨S8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_call1_v0 : Ref sig .tc := ⟨.hbm, 20, rfl⟩
abbrev main_call1_v1 : Ref sig .tc := ⟨.hbm, 21, rfl⟩
abbrev main_call1_cst : Ref sig .tc := ⟨.hbm, 22, rfl⟩
abbrev main_call1_v2 : Ref sig .tc := ⟨.hbm, 23, rfl⟩
abbrev main_call1_v3 : Ref sig .tc := ⟨.hbm, 24, rfl⟩
abbrev main_call1_cst_0 : Ref sig .tc := ⟨.hbm, 25, rfl⟩
abbrev main_call1_v4 : Ref sig .tc := ⟨.hbm, 26, rfl⟩
abbrev main_call1_v5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_cst : Ref sig .tc := ⟨.hbm, 39, rfl⟩
abbrev main_call2_v2 : Ref sig .tc := ⟨.hbm, 40, rfl⟩
abbrev main_call2_v3 : Ref sig .tc := ⟨.hbm, 41, rfl⟩
abbrev main_call2_cst_0 : Ref sig .tc := ⟨.hbm, 42, rfl⟩
abbrev main_call2_v4 : Ref sig .tc := ⟨.hbm, 43, rfl⟩
abbrev main_call2_v5 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call3_v0 : Ref sig .tc := ⟨.hbm, 54, rfl⟩
abbrev main_call3_v1 : Ref sig .tc := ⟨.hbm, 55, rfl⟩
abbrev main_call3_cst : Ref sig .tc := ⟨.hbm, 56, rfl⟩
abbrev main_call3_v2 : Ref sig .tc := ⟨.hbm, 57, rfl⟩
abbrev main_call3_v3 : Ref sig .tc := ⟨.hbm, 58, rfl⟩
abbrev main_call3_cst_0 : Ref sig .tc := ⟨.hbm, 59, rfl⟩
abbrev main_call3_v4 : Ref sig .tc := ⟨.hbm, 60, rfl⟩
abbrev main_call3_v5 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩

abbrev nD : Nat := 1
abbrev τ : Topo := Topo.v7x

variable {F : FTy → Type} [FloatOps F]
-- ==== Kernel11.lean ====
abbrev S16896x6144 : Shape := ⟨2, ![16896, 6144]⟩
abbrev S3x6144 : Shape := ⟨2, ![3, 6144]⟩
abbrev S6144 : Shape := ⟨1, ![6144]⟩
abbrev S3x3x2048 : Shape := ⟨3, ![3, 3, 2048]⟩
abbrev S3x1x2048 : Shape := ⟨3, ![3, 1, 2048]⟩
abbrev S16896x2048 : Shape := ⟨2, ![16896, 2048]⟩
abbrev S512x512 : Shape := ⟨2, ![512, 512]⟩
abbrev S16x512 : Shape := ⟨2, ![16, 512]⟩
abbrev S3x3x512 : Shape := ⟨3, ![3, 3, 512]⟩
abbrev S3x1x512 : Shape := ⟨3, ![3, 1, 512]⟩
abbrev S512x1 : Shape := ⟨2, ![512, 1]⟩
abbrev S1x512 : Shape := ⟨2, ![1, 512]⟩
abbrev S1x3x512 : Shape := ⟨3, ![1, 3, 512]⟩
abbrev S3x512 : Shape := ⟨2, ![3, 512]⟩
abbrev S1x1x512 : Shape := ⟨3, ![1, 1, 512]⟩

abbrev nBuf : Space → Nat
  | .hbm => 8
  | .vmem => 26
  | .smem => 0
  | _ => 0

abbrev bufTy : (tb : Table) → Fin (tcTables nBuf tb) → BufTy
  | .hbm, ⟨0, _⟩ => ⟨S16896x6144, .bf16⟩
  | .hbm, ⟨1, _⟩ => ⟨S3x6144, .f32⟩
  | .hbm, ⟨2, _⟩ => ⟨S6144, .f32⟩
  | .hbm, ⟨3, _⟩ => ⟨S3x3x2048, .f32⟩
  | .hbm, ⟨4, _⟩ => ⟨S3x3x2048, .f32⟩
  | .hbm, ⟨5, _⟩ => ⟨S3x1x2048, .f32⟩
  | .hbm, ⟨6, _⟩ => ⟨S16896x2048, .bf16⟩
  | .hbm, ⟨7, _⟩ => ⟨S16896x2048, .f32⟩
  | .local _ .vmem, ⟨0, _⟩ => ⟨S512x512, .bf16⟩
  | .local _ .vmem, ⟨1, _⟩ => ⟨S512x512, .bf16⟩
  | .local _ .vmem, ⟨2, _⟩ => ⟨S16x512, .bf16⟩
  | .local _ .vmem, ⟨3, _⟩ => ⟨S16x512, .bf16⟩
  | .local _ .vmem, ⟨4, _⟩ => ⟨S16x512, .bf16⟩
  | .local _ .vmem, ⟨5, _⟩ => ⟨S16x512, .bf16⟩
  | .local _ .vmem, ⟨6, _⟩ => ⟨S512x512, .bf16⟩
  | .local _ .vmem, ⟨7, _⟩ => ⟨S512x512, .bf16⟩
  | .local _ .vmem, ⟨8, _⟩ => ⟨S16x512, .bf16⟩
  | .local _ .vmem, ⟨9, _⟩ => ⟨S16x512, .bf16⟩
  | .local _ .vmem, ⟨10, _⟩ => ⟨S16x512, .bf16⟩
  | .local _ .vmem, ⟨11, _⟩ => ⟨S16x512, .bf16⟩
  | .local _ .vmem, ⟨12, _⟩ => ⟨S512x512, .bf16⟩
  | .local _ .vmem, ⟨13, _⟩ => ⟨S512x512, .bf16⟩
  | .local _ .vmem, ⟨14, _⟩ => ⟨S16x512, .bf16⟩
  | .local _ .vmem, ⟨15, _⟩ => ⟨S16x512, .bf16⟩
  | .local _ .vmem, ⟨16, _⟩ => ⟨S16x512, .bf16⟩
  | .local _ .vmem, ⟨17, _⟩ => ⟨S16x512, .bf16⟩
  | .local _ .vmem, ⟨18, _⟩ => ⟨S3x3x512, .f32⟩
  | .local _ .vmem, ⟨19, _⟩ => ⟨S3x3x512, .f32⟩
  | .local _ .vmem, ⟨20, _⟩ => ⟨S3x1x512, .f32⟩
  | .local _ .vmem, ⟨21, _⟩ => ⟨S3x1x512, .f32⟩
  | .local _ .vmem, ⟨22, _⟩ => ⟨S512x512, .bf16⟩
  | .local _ .vmem, ⟨23, _⟩ => ⟨S512x512, .bf16⟩
  | .local _ .vmem, ⟨24, _⟩ => ⟨S512x512, .f32⟩
  | .local _ .vmem, ⟨25, _⟩ => ⟨S512x512, .f32⟩
  | _, _ => ⟨S16896x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![33, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let v3 : BitVec 32 := Scalar.addi c0_i32_0 arg1
  let c0_i32_1 : BitVec 32 := 0#32
  ![v2.toNat, v3.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c0_i32 : BitVec 32 := 0#32
  let v3 : BitVec 32 := Scalar.addi c0_i32 arg1
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let v3 : BitVec 32 := Scalar.addi c4_i32 arg1
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c4_i32 : BitVec 32 := 4#32
  let v3 : BitVec 32 := Scalar.addi c4_i32 arg1
  let c0_i32 : BitVec 32 := 0#32
  ![v2.toNat, v3.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c8_i32 : BitVec 32 := 8#32
  let v3 : BitVec 32 := Scalar.addi c8_i32 arg1
  let c0_i32_0 : BitVec 32 := 0#32
  ![v2.toNat, v3.toNat]

def cc0_transform_8 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c1055_i32 : BitVec 32 := 1055#32
  let v2 : BitVec 32 := Scalar.minsi v1 c1055_i32
  let c8_i32 : BitVec 32 := 8#32
  let v3 : BitVec 32 := Scalar.addi c8_i32 arg1
  let c0_i32 : BitVec 32 := 0#32
  ![v2.toNat, v3.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S16x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S16x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S16x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S16x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S3x3x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S3x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference11Ideal.lean ====
abbrev S16896x6144 : Shape := ⟨2, ![16896, 6144]⟩
abbrev S3x6144 : Shape := ⟨2, ![3, 6144]⟩
abbrev S6144 : Shape := ⟨1, ![6144]⟩
abbrev S16384x6144 : Shape := ⟨2, ![16384, 6144]⟩
abbrev S_ : Shape := ⟨0, ![]⟩
abbrev S1x6144 : Shape := ⟨2, ![1, 6144]⟩
abbrev S16386x6144 : Shape := ⟨2, ![16386, 6144]⟩
abbrev S256x6144 : Shape := ⟨2, ![256, 6144]⟩
abbrev S257x6144 : Shape := ⟨2, ![257, 6144]⟩
abbrev S514x6144 : Shape := ⟨2, ![514, 6144]⟩
abbrev S512x6144 : Shape := ⟨2, ![512, 6144]⟩
abbrev S16896x2048 : Shape := ⟨2, ![16896, 2048]⟩

abbrev nBuf : Space → Nat
  | .hbm => 69
  | .vmem => 0
  | .smem => 0
  | _ => 0

abbrev bufTy : (tb : Table) → Fin (tcTables nBuf tb) → BufTy
  | .hbm, ⟨0, _⟩ => ⟨S16896x6144, .bf16⟩
  | .hbm, ⟨1, _⟩ => ⟨S3x6144, .f32⟩
  | .hbm, ⟨2, _⟩ => ⟨S6144, .f32⟩
  | .hbm, ⟨3, _⟩ => ⟨S16384x6144, .bf16⟩
  | .hbm, ⟨4, _⟩ => ⟨S_, .f32⟩
  | .hbm, ⟨5, _⟩ => ⟨S1x6144, .f32⟩
  | .hbm, ⟨6, _⟩ => ⟨S16384x6144, .f32⟩
  | .hbm, ⟨7, _⟩ => ⟨S_, .f32⟩
  | .hbm, ⟨8, _⟩ => ⟨S1x6144, .f32⟩
  | .hbm, ⟨9, _⟩ => ⟨S16386x6144, .f32⟩
  | .hbm, ⟨10, _⟩ => ⟨S16384x6144, .f32⟩
  | .hbm, ⟨11, _⟩ => ⟨S1x6144, .f32⟩
  | .hbm, ⟨12, _⟩ => ⟨S6144, .f32⟩
  | .hbm, ⟨13, _⟩ => ⟨S1x6144, .f32⟩
  | .hbm, ⟨14, _⟩ => ⟨S16384x6144, .f32⟩
  | .hbm, ⟨15, _⟩ => ⟨S16384x6144, .f32⟩
  | .hbm, ⟨16, _⟩ => ⟨S16384x6144, .f32⟩
  | .hbm, ⟨17, _⟩ => ⟨S1x6144, .f32⟩
  | .hbm, ⟨18, _⟩ => ⟨S6144, .f32⟩
  | .hbm, ⟨19, _⟩ => ⟨S1x6144, .f32⟩
  | .hbm, ⟨20, _⟩ => ⟨S16384x6144, .f32⟩
  | .hbm, ⟨21, _⟩ => ⟨S16384x6144, .f32⟩
  | .hbm, ⟨22, _⟩ => ⟨S16384x6144, .f32⟩
  | .hbm, ⟨23, _⟩ => ⟨S16384x6144, .f32⟩
  | .hbm, ⟨24, _⟩ => ⟨S1x6144, .f32⟩
  | .hbm, ⟨25, _⟩ => ⟨S6144, .f32⟩
  | .hbm, ⟨26, _⟩ => ⟨S1x6144, .f32⟩
  | .hbm, ⟨27, _⟩ => ⟨S16384x6144, .f32⟩
  | .hbm, ⟨28, _⟩ => ⟨S16384x6144, .f32⟩
  | .hbm, ⟨29, _⟩ => ⟨S16384x6144, .f32⟩
  | .hbm, ⟨30, _⟩ => ⟨S1x6144, .f32⟩
  | .hbm, ⟨31, _⟩ => ⟨S16384x6144, .f32⟩
  | .hbm, ⟨32, _⟩ => ⟨S16384x6144, .f32⟩
  | .hbm, ⟨33, _⟩ => ⟨S256x6144, .bf16⟩
  | .hbm, ⟨34, _⟩ => ⟨S_, .f32⟩
  | .hbm, ⟨35, _⟩ => ⟨S1x6144, .f32⟩
  | .hbm, ⟨36, _⟩ => ⟨S256x6144, .f32⟩
  | .hbm, ⟨37, _⟩ => ⟨S_, .f32⟩
  | .hbm, ⟨38, _⟩ => ⟨S257x6144, .f32⟩
  | .hbm, ⟨39, _⟩ => ⟨S514x6144, .f32⟩
  | .hbm, ⟨40, _⟩ => ⟨S512x6144, .f32⟩
  | .hbm, ⟨41, _⟩ => ⟨S1x6144, .f32⟩
  | .hbm, ⟨42, _⟩ => ⟨S6144, .f32⟩
  | .hbm, ⟨43, _⟩ => ⟨S1x6144, .f32⟩
  | .hbm, ⟨44, _⟩ => ⟨S512x6144, .f32⟩
  | .hbm, ⟨45, _⟩ => ⟨S512x6144, .f32⟩
  | .hbm, ⟨46, _⟩ => ⟨S512x6144, .f32⟩
  | .hbm, ⟨47, _⟩ => ⟨S1x6144, .f32⟩
  | .hbm, ⟨48, _⟩ => ⟨S6144, .f32⟩
  | .hbm, ⟨49, _⟩ => ⟨S1x6144, .f32⟩
  | .hbm, ⟨50, _⟩ => ⟨S512x6144, .f32⟩
  | .hbm, ⟨51, _⟩ => ⟨S512x6144, .f32⟩
  | .hbm, ⟨52, _⟩ => ⟨S512x6144, .f32⟩
  | .hbm, ⟨53, _⟩ => ⟨S512x6144, .f32⟩
  | .hbm, ⟨54, _⟩ => ⟨S1x6144, .f32⟩
  | .hbm, ⟨55, _⟩ => ⟨S6144, .f32⟩
  | .hbm, ⟨56, _⟩ => ⟨S1x6144, .f32⟩
  | .hbm, ⟨57, _⟩ => ⟨S512x6144, .f32⟩
  | .hbm, ⟨58, _⟩ => ⟨S512x6144, .f32⟩
  | .hbm, ⟨59, _⟩ => ⟨S512x6144, .f32⟩
  | .hbm, ⟨60, _⟩ => ⟨S1x6144, .f32⟩
  | .hbm, ⟨61, _⟩ => ⟨S512x6144, .f32⟩
  | .hbm, ⟨62, _⟩ => ⟨S512x6144, .f32⟩
  | .hbm, ⟨63, _⟩ => ⟨S16896x6144, .f32⟩
  | .hbm, ⟨64, _⟩ => ⟨S16896x2048, .f32⟩
  | .hbm, ⟨65, _⟩ => ⟨S16896x2048, .f32⟩
  | .hbm, ⟨66, _⟩ => ⟨S16896x2048, .f32⟩
  | .hbm, ⟨67, _⟩ => ⟨S16896x2048, .bf16⟩
  | .hbm, ⟨68, _⟩ => ⟨S16896x2048, .f32⟩
  | _, _ => ⟨S16896x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_cst_1 : Ref sig .tc := ⟨.hbm, 34, rfl⟩
abbrev main_v29 : Ref sig .tc := ⟨.hbm, 35, rfl⟩
abbrev main_v30 : Ref sig .tc := ⟨.hbm, 36, rfl⟩
abbrev main_cst_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_v61 : Ref sig .tc := ⟨.hbm, 68, rfl⟩

abbrev nD : Nat := 1
abbrev τ : Topo := Topo.v7x

variable {F : FTy → Type} [FloatOps F]
-- ==== Proof.Issue.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.FrameValue
public import Idealize.ShloMosaic.Lib.Batch
public import Idealize.ShloMosaic.Lib.Ring
public import Idealize.ShloMosaic.Lib.Tactic
public import Idealize.ShloMosaic.Lib.WordCmp
public import Idealize.ShloMosaic.Lib.ValueIdxCore

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending Batch)

variable {F : FTy → Type} [FloatOps F]

local notation "𝕄" => MT nD τ sig Unit (Elt F) ℕ (Pipeline.UD sig nD τ) ℕ

/-- The units one row's copy credits. -/
def rowU : ℕ := ((Memref.whole main_v0).slice (Rect.unit (s := S74752x2048) ![0, 0] S1x2048.size inb_S74752x2048_S1x2048_0_0) (fun _ => rfl)).view.dmaCredit

/-- The elements of one row of the result. -/
def rowSet (c : Dev nD) (r : ℕ) : Finset (Idx ((c : Thread nD τ).loc main_v0)) :=
  Finset.univ.filter fun x => (x 0).val = r

theorem t1_trips : k0_t1_loop.trips = 256 := by decide +kernel

/-- The word of one copy's row, of the words the block of the table holds. -/
def wordAt (dw : Vec F S1024 .i32) (j : Fin 1024) : BitVec 32 := dw (Idealize.ShloMosaic.ValueIdx.ix1 j)

theorem off3_eq : ∀ t : Fin k0_t1_loop.trips, k0_off3 t = ![t.val, 0] := by decide +kernel
theorem off1_eq : ∀ t : Fin k0_t1_loop.trips, k0_off1 t = ![4 * t.val] := by decide +kernel
theorem off4_eq : ∀ t : Fin k0_t1_loop.trips, k0_off4 t = ![4 * t.val + 1] := by decide +kernel
theorem off7_eq : ∀ t : Fin k0_t1_loop.trips, k0_off7 t = ![4 * t.val + 2] := by decide +kernel
theorem off10_eq : ∀ t : Fin k0_t1_loop.trips, k0_off10 t = ![4 * t.val + 3] := by decide +kernel

theorem rowInb (t : Fin 256) : ∀ a, (![t.val, 0] : Fin 2 → Nat) a + S1x2048.size a ≤ S256x2048.size a := by
  have := t.isLt
  intro a; fin_cases a
  · show t.val + 1 ≤ 256; omega
  · show 0 + 2048 ≤ 2048; omega

/-- The elements of one row of the block. -/
def srcSet (c : Dev nD) (arg2 : Memref sig .tc .vmem S256x2048 .f32) (t : Fin 256) : Finset (Idx (arg2.view.loc (c : Thread nD τ))) :=
  (arg2.slice (Rect.unit (s := S256x2048) ![t.val, 0] S1x2048.size (rowInb t)) (fun _ => rfl)).view.set

/-- One row of the block. -/
def srcPt (c : Dev nD) (arg2 : Memref sig .tc .vmem S256x2048 .f32) (f2 : Buf (Elt F) (arg2.view.loc (c : Thread nD τ)))
    (q : PosShare TreeShare) (t : Fin 256) : sProp 𝕄 :=
  arg2.view.loc (c : Thread nD τ) ↦[srcSet c arg2 t]{q} f2

/-- One copy of a row: the row's word is read, its row of the result is in range, the copy is started. -/
def copyProg (arg1 : Memref sig .tc .smem S1024 .i32) (arg2 : Memref sig .tc .vmem S256x2048 .f32) (arg5 : DmaSems sig S_)
    (o1 : Fin 1 → Nat) (b1 : ∀ a, o1 a + S1.size a ≤ S1024.size a)
    (chk : BitVec 32 → Prop) (dec : ∀ v, Decidable (chk v))
    (o2 : BitVec 32 → Fin 2 → Nat) (b2 : ∀ v, chk v → ∀ a, o2 v a + S1x2048.size a ≤ S74752x2048.size a)
    (o3 : Fin 2 → Nat) (b3 : ∀ a, o3 a + S1x2048.size a ≤ S256x2048.size a)
    (k : Prog (TpuEff nD τ sig (Elt F) Λ₀ .tc) Unit) : Prog (TpuEff nD τ sig (Elt F) Λ₀ .tc) Unit :=
  smemLoadElt arg1 (Rect.unit (s := S1024) o1 S1.size b1) (View.loads_smem_one rfl numel1_S1) (Shape.Idx.first (numel1_S1.symm ▸ Nat.one_pos))
    fun v => .op (TpuEff.assume (chk v) (dec v)) fun hv =>
    .op (.enqueueDma (arg2.slice (Rect.unit (s := S256x2048) o3 S1x2048.size b3) (fun _ => rfl))
      (.here ((Memref.whole main_v0).slice (Rect.unit (s := S74752x2048) (o2 v) S1x2048.size (b2 v hv.down)) (fun _ => rfl)))
      (.dma arg5.sem) (View.wordExact_bits rfl) (View.wordExact_bits rfl) ⟨Or.inl rfl, trivial⟩) fun _ => k

theorem t1_body_eq (i : grid0.Coords) (arg1 : Memref sig .tc .smem S1024 .i32) (harg1 : arg1.IsWhole)
    (arg2 : Memref sig .tc .vmem S256x2048 .f32) (harg2 : arg2.IsWhole) (h3 h4) (arg5 : DmaSems sig S_) (t : Fin k0_t1_loop.trips) :
    k0_t1_body (F := F) i arg1 harg1 arg2 harg2 (Memref.whole main_v0) h3 (Memref.whole main_v0) h4 arg5 t ()
      = copyProg arg1 arg2 arg5 (k0_off1 t) (k0_off1_inb t) k0_chk1 k0_chk1.dec k0_off2 k0_off2_inb (k0_off3 t) (k0_off3_inb t)
        (copyProg arg1 arg2 arg5 (k0_off4 t) (k0_off4_inb t) k0_chk2 k0_chk2.dec k0_off5 k0_off5_inb (k0_off6 t) (k0_off6_inb t)
        (copyProg arg1 arg2 arg5 (k0_off7 t) (k0_off7_inb t) k0_chk3 k0_chk3.dec k0_off8 k0_off8_inb (k0_off9 t) (k0_off9_inb t)
        (copyProg arg1 arg2 arg5 (k0_off10 t) (k0_off10_inb t) k0_chk4 k0_chk4.dec k0_off11 k0_off11_inb (k0_off12 t) (k0_off12_inb t)
        (pure ())))) := rfl

/-- The rows held for one copy, the row of the result at `G`. -/
def rowPt (c : Dev nD) (G : Buf (Elt F) ((c : Thread nD τ).loc main_v0)) (r : ℕ) : sProp 𝕄 :=
  (c : Thread nD τ).loc main_v0 ↦[rowSet c r]{fullShare} G

theorem rowSet_eq (c : Dev nD) (o : Fin 2 → Nat) (b : ∀ a, o a + S1x2048.size a ≤ S74752x2048.size a) (r : ℕ) (ho : o = ![r, 0]) :
    ((Memref.whole main_v0).slice (Rect.unit (s := S74752x2048) o S1x2048.size b) (fun _ => rfl)).view.set = rowSet c r := by
  subst ho
  show ((View.whole main_v0).slice (Rect.unit (s := S74752x2048) ![r, 0] S1x2048.size b)).set = _
  rw [View.set_slice_whole]
  ext x
  rw [Rect.mem_set_unit]
  have h1 : (x 1).val < 2048 := (x 1).isLt
  simp only [rowSet, Finset.mem_filter, Finset.mem_univ, true_and]
  constructor
  · intro h; have := h 0; simp at this; omega
  · intro h a; fin_cases a
    · simp; omega
    · simp; exact h1

/-- A copied row holds the block's row. -/
theorem landed (c : Dev nD) (arg2 : Memref sig .tc .vmem S256x2048 .f32) (f2 : Buf (Elt F) (arg2.view.loc (c : Thread nD τ)))
    (G0 G1 : Buf (Elt F) ((c : Thread nD τ).loc main_v0)) (t : Fin 256) (r : ℕ)
    (o2 : Fin 2 → Nat) (b2 : ∀ a, o2 a + S1x2048.size a ≤ S74752x2048.size a)
    (o3 : Fin 2 → Nat) (b3 : ∀ a, o3 a + S1x2048.size a ≤ S256x2048.size a)
    (ho2 : o2 = ![r, 0]) (ho3 : o3 = ![t.val, 0])
    (hG : ∀ x : S74752x2048.Idx, (x 0).val = r → G1 x = arg2.view.read (Elt F) f2 (Idealize.ShloMosaic.ValueIdx.ix2 t (x 1)))
    (x : S74752x2048.Idx) (hx : (x 0).val = r) :
    ((Memref.whole main_v0).slice (Rect.unit (s := S74752x2048) o2 S1x2048.size b2) (fun _ => rfl)).view.write (Elt F) G0
          (ReadAs.same.apply ((arg2.slice (Rect.unit (s := S256x2048) o3 S1x2048.size b3) (fun _ => rfl)).view.read (Elt F) f2)) Finset.univ x = G1 x := by
  subst ho2 ho3
  have h1 : (x 1).val < 2048 := (x 1).isLt
  have e : x = ((Memref.whole main_v0).slice (Rect.unit (s := S74752x2048) ![r, 0] S1x2048.size b2) (fun _ => rfl)).view.emb
      (Idealize.ShloMosaic.ValueIdx.ix2 (n0 := 1) (n1 := 2048) 0 (x 1)) := by
    funext a
    apply Fin.ext
    fin_cases a
    · show (x 0).val = r + 1 * 0
      omega
    · show (x 1).val = 0 + 1 * (x 1).val
      omega
  rw [hG x hx]
  conv_lhs => rw [e]
  rw [View.write_emb_of_mem _ _ (Finset.mem_univ _)]
  show arg2.view.read (Elt F) f2 _ = _
  congr 1
  funext a
  apply Fin.ext
  fin_cases a
  · show t.val + 1 * 0 = t.val
    omega
  · show 0 + 1 * (x 1).val = (x 1).val
    omega

theorem amount_eq (o : Fin 2 → Nat) (b : ∀ a, o a + S1x2048.size a ≤ S74752x2048.size a) (s : DmaSem sig) :
    ((Memref.whole main_v0).slice (Rect.unit (s := S74752x2048) o S1x2048.size b) (fun _ => rfl)).view.amount (.dma s) = rowU := rfl

/-- One copy's step. -/
theorem copy_step (c : Dev nD) (arg1 : Memref sig .tc .smem S1024 .i32) (arg2 : Memref sig .tc .vmem S256x2048 .f32) (arg5 : DmaSems sig S_)
    (o1 : Fin 1 → Nat) (b1 : ∀ a, o1 a + S1.size a ≤ S1024.size a)
    (chk : BitVec 32 → Prop) (dec : ∀ v, Decidable (chk v))
    (o2 : BitVec 32 → Fin 2 → Nat) (b2 : ∀ v, chk v → ∀ a, o2 v a + S1x2048.size a ≤ S74752x2048.size a)
    (o3 : Fin 2 → Nat) (b3 : ∀ a, o3 a + S1x2048.size a ≤ S256x2048.size a)
    (k : Prog (TpuEff nD τ sig (Elt F) Λ₀ .tc) Unit) (Q : Unit → sProp 𝕄)
    (f1 : Buf (Elt F) (arg1.view.loc (c : Thread nD τ))) (f2 : Buf (Elt F) (arg2.view.loc (c : Thread nD τ)))
    (q1 q : PosShare TreeShare)
    (G0 G1 : Buf (Elt F) ((c : Thread nD τ).loc main_v0)) (D : Fin 1024 → sProp 𝕄)
    (j : ℕ) (hj : j < 1024) (t : Fin 256) (w : BitVec 32)
    (ho1 : o1 = ![j]) (ho2 : ∀ v, o2 v = ![v.toNat, 0]) (ho3 : o3 = ![t.val, 0])
    (hchk : ∀ v : BitVec 32, v.toNat < 74752 → chk v)
    (hw : arg1.view.read (Elt F) f1 (Idealize.ShloMosaic.ValueIdx.ix1 ⟨j, hj⟩) = w) (hlt : w.toNat < 74752)
    (hG : ∀ x : S74752x2048.Idx, (x 0).val = w.toNat → G1 x = arg2.view.read (Elt F) f2 (Idealize.ShloMosaic.ValueIdx.ix2 t (x 1)))
    (hD : iprop(rowPt c G1 w.toNat
        ∗ srcPt c arg2 f2 q t) ⊢ D ⟨j, hj⟩) :
    iprop((arg1.view.loc (c : Thread nD τ) ↦[arg1.view.set]{q1} f1) ∗ rowPt c G0 w.toNat
        ∗ srcPt c arg2 f2 q t
        ∗ Batch (countersEmb (U := Pipeline.UD sig nD τ)) (c : Thread nD τ) (.dma arg5.sem) () rowU D j 0)
      ⊢ iprop((iprop((arg1.view.loc (c : Thread nD τ) ↦[arg1.view.set]{q1} f1)
          ∗ Batch (countersEmb (U := Pipeline.UD sig nD τ)) (c : Thread nD τ) (.dma arg5.sem) () rowU D (j + 1) 0)
          -∗ wp frame (wpE (defs₀ (F := F)) Variants.none (c : Thread nD τ) none) Set.univ k Q)
        -∗ wp frame (wpE (defs₀ (F := F)) Variants.none (c : Thread nD τ) none) Set.univ
            (copyProg arg1 arg2 arg5 o1 b1 chk dec o2 b2 o3 b3 k) Q) := by
  subst ho3
  unfold srcPt srcSet at hD ⊢
  have hread : ∀ x, (arg1.access (Rect.unit (s := S1024) o1 S1.size b1)).read (Elt F) f1 x = w := by
    intro x
    rw [← hw]
    show arg1.view.read (Elt F) f1 _ = _
    congr 1
    subst ho1
    funext a
    apply Fin.ext
    have hx : (x 0).val < 1 := (x 0).isLt
    fin_cases a
    show j + 1 * (x 0).val = j
    omega
  have hset : (arg1.access (Rect.unit (s := S1024) o1 S1.size b1)).set ⊆ arg1.view.set := View.set_slice_subset _ _
  have hdel : iprop(((c : Thread nD τ).loc main_v0 ↦[rowSet c w.toNat]{fullShare}
        (((Memref.whole main_v0).slice (Rect.unit (s := S74752x2048) (o2 w) S1x2048.size (b2 w (hchk w hlt))) (fun _ => rfl)).view.write (Elt F) G0
          (ReadAs.same.apply ((arg2.slice (Rect.unit (s := S256x2048) ![t.val, 0] S1x2048.size b3) (fun _ => rfl)).view.read (Elt F) f2)) Finset.univ))
      ∗ (arg2.view.loc (c : Thread nD τ) ↦[(arg2.slice (Rect.unit (s := S256x2048) ![t.val, 0] S1x2048.size b3) (fun _ => rfl)).view.set]{q} f2)) ⊢ D ⟨j, hj⟩ := by
    have e : ((c : Thread nD τ).loc main_v0 ↦[rowSet c w.toNat]{fullShare}
        (((Memref.whole main_v0).slice (Rect.unit (s := S74752x2048) (o2 w) S1x2048.size (b2 w (hchk w hlt))) (fun _ => rfl)).view.write (Elt F) G0
          (ReadAs.same.apply ((arg2.slice (Rect.unit (s := S256x2048) ![t.val, 0] S1x2048.size b3) (fun _ => rfl)).view.read (Elt F) f2)) Finset.univ) : sProp 𝕄)
        = rowPt c G1 w.toNat := by
      unfold rowPt
      refine pointsTo_congr fun x hx => ?_
      exact landed c arg2 f2 G0 G1 t w.toNat (o2 w) _ _ b3 (ho2 w) rfl hG x (Finset.mem_filter.1 hx).2
    rw [e]
    exact hD
  iintro ⟨H1, Hd, Hs, HB⟩ Hk
  unfold copyProg
  iapply (wp_smemLoadElt Variants.none (c : Thread nD τ) none Set.univ hset) $$ H1
  iintro H1
  rw [hread]
  iapply (wp_assume Variants.none (c : Thread nD τ) none Set.univ (hchk w hlt))
  have hb := Transfers.wp_dmaBatch (c := (c : Thread nD τ)) (countersEmb (U := Pipeline.UD sig nD τ)) Variants.none none () rowU (defs := defs₀ (F := F))
    (src := arg2.slice (Rect.unit (s := S256x2048) ![t.val, 0] S1x2048.size b3) (fun _ => rfl))
    (dst := (Memref.whole main_v0).slice (Rect.unit (s := S74752x2048) (o2 w) S1x2048.size (b2 w (hchk w hlt))) (fun _ => rfl))
    (via := ReadAs.same) (sm := .dma arg5.sem) (hsrc := View.wordExact_bits rfl) (hdst := View.wordExact_bits rfl) (hsem := ⟨Or.inl rfl, trivial⟩)
    (k := fun _ => k) (Q := Q)
    (amount_eq _ _ _)
    (q := q) (fs := f2) (fd := G0) (Sd := rowSet c w.toNat)
    (Finset.Subset.antisymm_iff.1 (rowSet_eq c _ _ _ (ho2 w))).1 hj (Nat.zero_le _) (D := D) hdel
  unfold rowPt
  iapply hb $$ [Hs Hd HB]
  · isplitl [Hs]; · iexact Hs
    isplitl [Hd]; · iexact Hd
    iexact HB
  iintro HB
  iapply Hk
  isplitl [H1]; · iexact H1
  iexact HB

end Cert.KernelIdeal.Hand
end
-- ==== Proof.Body.lean ====
module

public import proofs.«01_k».proof.Proof.Issue

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending Batch shareTokN shareDrop)

variable {F : FTy → Type} [FloatOps F]

local notation "𝕄" => MT nD τ sig Unit (Elt F) ℕ (Pipeline.UD sig nD τ) ℕ

theorem t2_trips : k0_t2_loop.trips = 256 := by decide +kernel

/-- The row a copy takes from the block. -/
def rowOf (j : Fin 1024) : Fin 256 := ⟨j.val / 4, by omega⟩

section
variable (c : Dev nD) (arg1 : Memref sig .tc .smem S1024 .i32) (arg2 : Memref sig .tc .vmem S256x2048 .f32) (arg5 : DmaSems sig S_)
    (f1 : Buf (Elt F) (arg1.view.loc (c : Thread nD τ))) (f2 : Buf (Elt F) (arg2.view.loc (c : Thread nD τ)))

/-- The row of the result a copy goes to. -/
def wd (j : Fin 1024) : ℕ := (show BitVec 32 from arg1.view.read (Elt F) f1 (Idealize.ShloMosaic.ValueIdx.ix1 j)).toNat

/-- What one copy holds: its row of the result at `G`, and a share of its row of the block. -/
def pairPt (G : Buf (Elt F) ((c : Thread nD τ).loc main_v0)) (j : Fin 1024) : sProp 𝕄 :=
  iprop(rowPt c G (wd c arg1 f1 j) ∗ srcPt c arg2 f2 (shareTokN fullShare j.val) (rowOf j))

instance pairPt_storable (G : Buf (Elt F) ((c : Thread nD τ).loc main_v0)) (j : Fin 1024) :
    Storable (upEmb : UEmb _ 𝕄) (pairPt c arg1 arg2 f1 f2 G j) := by
  unfold pairPt rowPt srcPt; infer_instance

/-- The copies in flight. -/
abbrev flights (G1 : Buf (Elt F) ((c : Thread nD τ).loc main_v0)) (k u : ℕ) : sProp 𝕄 :=
  Batch (countersEmb (U := Pipeline.UD sig nD τ)) (c : Thread nD τ) (.dma arg5.sem) () rowU (pairPt c arg1 arg2 f1 f2 G1) k u

variable (G0 G1 : Buf (Elt F) ((c : Thread nD τ).loc main_v0))

/-- Before a trip of the first loop. -/
def issueAt (k : ℕ) (_ : Unit) : sProp 𝕄 :=
  iprop((arg1.view.loc (c : Thread nD τ) ↦[arg1.view.set]{fullShare} f1) ∗ flights c arg1 arg2 arg5 f1 f2 G1 (4 * k) 0
    ∗ bigSep (pending (n := 1024) (4 * k)) (pairPt c arg1 arg2 f1 f2 G0))

/-- Before a trip of the second loop. -/
def drainAt (k : ℕ) (_ : Unit) : sProp 𝕄 :=
  iprop(flights c arg1 arg2 arg5 f1 f2 G1 1024 (4 * k * rowU) ∗ ∃ W, owes (c : Thread nD τ) 0 W)

theorem issue_trip (i : grid0.Coords) (harg1 : arg1.IsWhole) (harg2 : arg2.IsWhole) (h3 h4)
    (hlt : ∀ j, wd c arg1 f1 j < 74752)
    (hG : ∀ j (x : S74752x2048.Idx), (x 0).val = wd c arg1 f1 j → G1 x = arg2.view.read (Elt F) f2 (Idealize.ShloMosaic.ValueIdx.ix2 (rowOf j) (x 1)))
    (t : Fin k0_t1_loop.trips) (acc : Unit) :
    issueAt c arg1 arg2 arg5 f1 f2 G0 G1 t acc ⊢ wp frame (wpE (defs₀ (F := F)) Variants.none (c : Thread nD τ) none) Set.univ
      (k0_t1_body (F := F) i arg1 harg1 arg2 harg2 (Memref.whole main_v0) h3 (Memref.whole main_v0) h4 arg5 t acc)
      (issueAt c arg1 arg2 arg5 f1 f2 G0 G1 (t.val + 1)) := by
  have ht : t.val < 256 := lt_of_lt_of_eq t.isLt t1_trips
  have hro : ∀ (j : ℕ) (h1 : 4 * t.val ≤ j) (h2 : j < 4 * t.val + 4), rowOf ⟨j, by omega⟩ = (⟨t.val, ht⟩ : Fin 256) := fun j h1 h2 => Fin.ext (show j / 4 = t.val by omega)
  rw [t1_body_eq]
  unfold issueAt
  rw [Transfers.bigSep_pending_step _ (4 * t.val) (by omega), Transfers.bigSep_pending_step _ (4 * t.val + 1) (by omega),
    Transfers.bigSep_pending_step _ (4 * t.val + 1 + 1) (by omega), Transfers.bigSep_pending_step _ (4 * t.val + 1 + 1 + 1) (by omega),
    show 4 * (t.val + 1) = 4 * t.val + 1 + 1 + 1 + 1 by omega]
  have stp := fun (j : ℕ) (h1 : 4 * t.val ≤ j) (h2 : j < 4 * t.val + 4) o1 b1 chk dec o2 b2 o3 b3 k (ho1 : o1 = ![j]) (ho2 : ∀ v : BitVec 32, o2 v = ![v.toNat, 0]) (ho3 : o3 = ![t.val, 0]) (hchk : ∀ v : BitVec 32, v.toNat < 74752 → chk v) =>
    copy_step c arg1 arg2 arg5 o1 b1 chk dec o2 b2 o3 b3 k (issueAt c arg1 arg2 arg5 f1 f2 G0 G1 (t.val + 1)) f1 f2 fullShare (shareTokN fullShare j) G0 G1
      (pairPt c arg1 arg2 f1 f2 G1) j (by omega) ⟨t.val, ht⟩
      (show BitVec 32 from arg1.view.read (Elt F) f1 (Idealize.ShloMosaic.ValueIdx.ix1 ⟨j, by omega⟩)) ho1 ho2 ho3 hchk rfl (hlt _)
      (fun x hx => (hG ⟨j, by omega⟩ x hx).trans (by rw [hro j h1 h2]))
      (by
        have e := hro j h1 h2
        unfold pairPt
        rw [e]; exact .rfl)
  have hp : ∀ (j : ℕ) (h1 : 4 * t.val ≤ j) (h2 : j < 4 * t.val + 4), pairPt c arg1 arg2 f1 f2 G0 ⟨j, by omega⟩
      = iprop(rowPt c G0 (show BitVec 32 from arg1.view.read (Elt F) f1 (Idealize.ShloMosaic.ValueIdx.ix1 ⟨j, by omega⟩)).toNat
          ∗ srcPt c arg2 f2 (shareTokN fullShare j) ⟨t.val, ht⟩) := by
    intro j h1 h2
    unfold pairPt
    rw [hro j h1 h2]; rfl
  rw [hp _ (by omega) (by omega), hp _ (by omega) (by omega), hp _ (by omega) (by omega), hp _ (by omega) (by omega)]
  have hck : ∀ v : BitVec 32, v.toNat < 74752 → ∀ a : Fin 2, (![v.toNat, 0] : Fin 2 → Nat) a + S1x2048.size a ≤ S74752x2048.size a := by
    intro v hv a; fin_cases a
    · show v.toNat + 1 ≤ 74752; omega
    · show 0 + 2048 ≤ 2048; omega
  iintro ⟨H1, HB, ⟨Hd0, Hs0⟩, ⟨Hd1, Hs1⟩, ⟨Hd2, Hs2⟩, ⟨Hd3, Hs3⟩, HP⟩
  iapply (stp (4 * t.val) (by omega) (by omega) _ _ _ _ _ _ _ _ _ (off1_eq t) (fun _ => rfl) (off3_eq t) hck) $$ [H1 HB Hd0 Hs0]
  · isplitl [H1]; · iexact H1
    isplitl [Hd0]; · iexact Hd0
    isplitl [Hs0]; · iexact Hs0
    iexact HB
  iintro ⟨H1, HB⟩
  iapply (stp (4 * t.val + 1) (by omega) (by omega) _ _ _ _ _ _ _ _ _ (off4_eq t) (fun _ => rfl) (off3_eq t) hck) $$ [H1 HB Hd1 Hs1]
  · isplitl [H1]; · iexact H1
    isplitl [Hd1]; · iexact Hd1
    isplitl [Hs1]; · iexact Hs1
    iexact HB
  iintro ⟨H1, HB⟩
  iapply (stp (4 * t.val + 1 + 1) (by omega) (by omega) _ _ _ _ _ _ _ _ _ (off7_eq t) (fun _ => rfl) (off3_eq t) hck) $$ [H1 HB Hd2 Hs2]
  · isplitl [H1]; · iexact H1
    isplitl [Hd2]; · iexact Hd2
    isplitl [Hs2]; · iexact Hs2
    iexact HB
  iintro ⟨H1, HB⟩
  iapply (stp (4 * t.val + 1 + 1 + 1) (by omega) (by omega) _ _ _ _ _ _ _ _ _ (off10_eq t) (fun _ => rfl) (off3_eq t) hck) $$ [H1 HB Hd3 Hs3]
  · isplitl [H1]; · iexact H1
    isplitl [Hd3]; · iexact Hd3
    isplitl [Hs3]; · iexact Hs3
    iexact HB
  iintro ⟨H1, HB⟩
  sl_step
  unfold issueAt
  rw [show 4 * (t.val + 1) = 4 * t.val + 1 + 1 + 1 + 1 by omega]
  isplitl [H1]; · iexact H1
  isplitl [HB]; · iexact HB
  iexact HP

/-- One wait for a row's units. -/
def waitProg (arg2 : Memref sig .tc .vmem S256x2048 .f32) (arg5 : DmaSems sig S_)
    (k : Prog (TpuEff nD τ sig (Elt F) Λ₀ .tc) Unit) : Prog (TpuEff nD τ sig (Elt F) Λ₀ .tc) Unit :=
  .op (.waitDma2 arg5.sem (arg2.slice (Rect.unit (s := S256x2048) ![0, 0] S1x2048.size inb_S256x2048_S1x2048_0_0) (fun _ => rfl))
    ((Memref.whole main_v0).slice (Rect.unit (s := S74752x2048) ![0, 0] S1x2048.size inb_S74752x2048_S1x2048_0_0) (fun _ => rfl))
    (View.wordExact_bits rfl) (View.wordExact_bits rfl)) fun _ => k

theorem wait_step (m : ℕ) (hm : m < 1024) (W : Waits sig Unit) (k : Prog (TpuEff nD τ sig (Elt F) Λ₀ .tc) Unit) (Q : Unit → sProp 𝕄) :
    iprop(flights c arg1 arg2 arg5 f1 f2 G1 1024 (m * rowU) ∗ owes (c : Thread nD τ) 0 W)
      ⊢ iprop((iprop(flights c arg1 arg2 arg5 f1 f2 G1 1024 ((m + 1) * rowU) ∗ owes (c : Thread nD τ) 0 (insert (SemLoc.dma arg5.sem, ()) W))
          -∗ wp frame (wpE (defs₀ (F := F)) Variants.none (c : Thread nD τ) none) Set.univ k Q)
        -∗ wp frame (wpE (defs₀ (F := F)) Variants.none (c : Thread nD τ) none) Set.univ (waitProg arg2 arg5 k) Q) := by
  have hu : m * rowU + 1 * rowU ≤ rowU * 1024 := by
    rw [← Nat.add_mul, Nat.mul_comm rowU]
    exact Nat.mul_le_mul_right _ (by omega)
  have h := Transfers.wp_waitBatchMul (c := (c : Thread nD τ)) (defs := defs₀ (F := F)) (countersEmb (U := Pipeline.UD sig nD τ)) Variants.none none (sem := arg5.sem)
      (srcw := arg2.slice (Rect.unit (s := S256x2048) ![0, 0] S1x2048.size inb_S256x2048_S1x2048_0_0) (fun _ => rfl))
      (dstw := (Memref.whole main_v0).slice (Rect.unit (s := S74752x2048) ![0, 0] S1x2048.size inb_S74752x2048_S1x2048_0_0) (fun _ => rfl))
      (hsrc := View.wordExact_bits rfl) (hdst := View.wordExact_bits rfl) (k := fun _ => k) (Q := Q)
      () (N := rowU) 1 (Nat.one_mul _).symm (D := pairPt c arg1 arg2 f1 f2 G1) (j := 1024) (u := m * rowU) hu (W := W)
  rw [← Nat.add_mul] at h
  exact h

theorem t2_body_eq (i : grid0.Coords) (harg1 : arg1.IsWhole) (harg2 : arg2.IsWhole) (h3 h4) (t : Fin k0_t2_loop.trips) :
    k0_t2_body (F := F) i arg1 harg1 arg2 harg2 (Memref.whole main_v0) h3 (Memref.whole main_v0) h4 arg5 t ()
      = waitProg arg2 arg5 (waitProg arg2 arg5 (waitProg arg2 arg5 (waitProg arg2 arg5 (pure ())))) := rfl

theorem rowU_pos : 0 < rowU := by unfold rowU; exact View.dmaCredit_pos _ (by show 0 < Shape.numel S1x2048; decide)

theorem drain_trip (i : grid0.Coords) (harg1 : arg1.IsWhole) (harg2 : arg2.IsWhole) (h3 h4)
    (t : Fin k0_t2_loop.trips) (acc : Unit) :
    drainAt c arg1 arg2 arg5 f1 f2 G1 t acc ⊢ wp frame (wpE (defs₀ (F := F)) Variants.none (c : Thread nD τ) none) Set.univ
      (k0_t2_body (F := F) i arg1 harg1 arg2 harg2 (Memref.whole main_v0) h3 (Memref.whole main_v0) h4 arg5 t acc)
      (drainAt c arg1 arg2 arg5 f1 f2 G1 (t.val + 1)) := by
  have ht : t.val < 256 := lt_of_lt_of_eq t.isLt t2_trips
  rw [t2_body_eq]
  unfold drainAt
  iintro ⟨HB, ⟨%W, HO⟩⟩
  iapply (wait_step c arg1 arg2 arg5 f1 f2 G1 (4 * t.val) (by omega) W _ _) $$ [HB HO]
  · isplitl [HB]; · iexact HB
    iexact HO
  iintro ⟨HB, HO⟩
  iapply (wait_step c arg1 arg2 arg5 f1 f2 G1 (4 * t.val + 1) (by omega) _ _ _) $$ [HB HO]
  · isplitl [HB]; · iexact HB
    iexact HO
  iintro ⟨HB, HO⟩
  iapply (wait_step c arg1 arg2 arg5 f1 f2 G1 (4 * t.val + 1 + 1) (by omega) _ _ _) $$ [HB HO]
  · isplitl [HB]; · iexact HB
    iexact HO
  iintro ⟨HB, HO⟩
  iapply (wait_step c arg1 arg2 arg5 f1 f2 G1 (4 * t.val + 1 + 1 + 1) (by omega) _ _ _) $$ [HB HO]
  · isplitl [HB]; · iexact HB
    iexact HO
  iintro ⟨HB, HO⟩
  sl_step
  rw [show 4 * (t.val + 1) = 4 * t.val + 1 + 1 + 1 + 1 by omega]
  isplitl [HB]; · iexact HB
  iexists _; iexact HO

/-- The rows the copies go to, together. -/
def hit : Finset (Idx ((c : Thread nD τ).loc main_v0)) := Finset.univ.biUnion fun j : Fin 1024 => rowSet c (wd c arg1 f1 j)

/-- The shares' rest: the block less one row, and the block's last share. -/
def restPt : sProp 𝕄 :=
  iprop((arg2.view.loc (c : Thread nD τ) ↦[arg2.view.set]{shareDrop fullShare 1024} f2)
    ∗ bigSep (Finset.univ : Finset (Fin 1024)) fun j => arg2.view.loc (c : Thread nD τ) ↦[arg2.view.set \ srcSet c arg2 (rowOf j)]{shareTokN fullShare j.val} f2)

theorem split_eq (hinj : Function.Injective (wd c arg1 f1)) (G : Buf (Elt F) ((c : Thread nD τ).loc main_v0)) :
    iprop(((c : Thread nD τ).loc main_v0 ↦[Finset.univ]{fullShare} G) ∗ (arg2.view.loc (c : Thread nD τ) ↦[arg2.view.set]{fullShare} f2))
      ⊣⊢ iprop(bigSep Finset.univ (pairPt c arg1 arg2 f1 f2 G)
        ∗ ((c : Thread nD τ).loc main_v0 ↦[Finset.univ \ hit c arg1 f1]{fullShare} G) ∗ restPt c arg2 f2) := by
  have h1 : ((c : Thread nD τ).loc main_v0 ↦[Finset.univ]{fullShare} G : sProp 𝕄)
      ⊣⊢ iprop(((c : Thread nD τ).loc main_v0 ↦[hit c arg1 f1]{fullShare} G) ∗ ((c : Thread nD τ).loc main_v0 ↦[Finset.univ \ hit c arg1 f1]{fullShare} G)) :=
    pointsTo_split_subset (Finset.subset_univ _)
  have h2 : ((c : Thread nD τ).loc main_v0 ↦[hit c arg1 f1]{fullShare} G : sProp 𝕄) = bigSep Finset.univ fun j => rowPt c G (wd c arg1 f1 j) := by
    unfold hit rowPt
    refine pointsTo_biUnion _ _ fun j _ j' _ hne => ?_
    rw [Finset.disjoint_left]
    intro x hx hx'
    exact hne (hinj ((Finset.mem_filter.1 hx).2.symm.trans (Finset.mem_filter.1 hx').2))
  have h3 := Transfers.pointsTo_toks_range (Val := Elt F) (Ix := Unit) (Name := ℕ) (U := Pipeline.UD sig nD τ) (Lvl := ℕ) (ℓ := arg2.view.loc (c : Thread nD τ)) (S := arg2.view.set) (f := f2) fullShare 1024
  have h4 : bigSep (Finset.range 1024) (fun i => (arg2.view.loc (c : Thread nD τ) ↦[arg2.view.set]{shareTokN fullShare i} f2 : sProp 𝕄))
      = bigSep (Finset.univ : Finset (Fin 1024)) fun j => (arg2.view.loc (c : Thread nD τ) ↦[arg2.view.set]{shareTokN fullShare j.val} f2 : sProp 𝕄) :=
    (Ring.bigSep_fin_eq_range 1024 _ _ fun _ _ => rfl).symm
  have h5 : ∀ j : Fin 1024, (arg2.view.loc (c : Thread nD τ) ↦[arg2.view.set]{shareTokN fullShare j.val} f2 : sProp 𝕄)
      = iprop(srcPt c arg2 f2 (shareTokN fullShare j.val) (rowOf j) ∗ (arg2.view.loc (c : Thread nD τ) ↦[arg2.view.set \ srcSet c arg2 (rowOf j)]{shareTokN fullShare j.val} f2)) := by
    intro j
    have hs : srcSet c arg2 (rowOf j) ⊆ arg2.view.set := View.set_slice_subset _ _
    have h := pointsTo_split_subset (Val := Elt F) (Ix := Unit) (Name := ℕ) (U := Pipeline.UD sig nD τ) (Lvl := ℕ) (q := shareTokN fullShare j.val) (f := f2) hs
    exact BI.equiv_iff.mp ⟨h.1, h.2⟩
  rw [h4] at h3
  have h6 : (bigSep (Finset.univ : Finset (Fin 1024)) fun j => (arg2.view.loc (c : Thread nD τ) ↦[arg2.view.set]{shareTokN fullShare j.val} f2 : sProp 𝕄))
      = iprop((bigSep Finset.univ fun j : Fin 1024 => srcPt c arg2 f2 (shareTokN fullShare j.val) (rowOf j))
        ∗ bigSep Finset.univ fun j : Fin 1024 => (arg2.view.loc (c : Thread nD τ) ↦[arg2.view.set \ srcSet c arg2 (rowOf j)]{shareTokN fullShare j.val} f2)) := by
    rw [show (fun j : Fin 1024 => (arg2.view.loc (c : Thread nD τ) ↦[arg2.view.set]{shareTokN fullShare j.val} f2 : sProp 𝕄)) = _ from funext h5]
    exact BI.bigSep_sep _ _ _
  rw [h6] at h3
  have h7 : bigSep Finset.univ (pairPt c arg1 arg2 f1 f2 G) = iprop((bigSep Finset.univ fun j => rowPt c G (wd c arg1 f1 j))
      ∗ bigSep Finset.univ fun j : Fin 1024 => srcPt c arg2 f2 (shareTokN fullShare j.val) (rowOf j)) := BI.bigSep_sep _ _ _
  rw [h7, ← h2]
  unfold restPt
  constructor
  · iintro ⟨HA, HB⟩
    ihave HA := h1.1 $$ HA
    ihave HB := h3.1 $$ HB
    icases HA with ⟨HA1, HA2⟩
    icases HB with ⟨HB1, HB2, HB3⟩
    isplitl [HA1 HB2]
    · isplitl [HA1] <;> iassumption
    isplitl [HA2]; · iexact HA2
    isplitl [HB1] <;> iassumption
  · iintro ⟨⟨HA1, HB2⟩, HA2, HB1, HB3⟩
    isplitl [HA1 HA2]
    · iapply h1.2
      isplitl [HA1] <;> iassumption
    · iapply h3.2
      isplitl [HB1]; · iexact HB1
      isplitl [HB2] <;> iassumption

/-- One grid point: the result's rows named by the block's words take the block's rows. -/
theorem body_run (i : grid0.Coords) (harg1 : arg1.IsWhole) (harg2 : arg2.IsWhole) (h3 h4)
    (hlt : ∀ j, wd c arg1 f1 j < 74752) (hinj : Function.Injective (wd c arg1 f1))
    (hG : ∀ j (x : S74752x2048.Idx), (x 0).val = wd c arg1 f1 j → G1 x = arg2.view.read (Elt F) f2 (Idealize.ShloMosaic.ValueIdx.ix2 (rowOf j) (x 1)))
    (hG0 : ∀ x : S74752x2048.Idx, (∀ j, (x 0).val ≠ wd c arg1 f1 j) → G0 x = G1 x) (Wt : Waits sig Unit) :
    (iprop((arg1.view.loc (c : Thread nD τ) ↦[arg1.view.set]{fullShare} f1) ∗ (arg2.view.loc (c : Thread nD τ) ↦[arg2.view.set]{fullShare} f2)
        ∗ ((c : Thread nD τ).loc main_v0 ↦[Finset.univ]{fullShare} G0) ∗ semVal ((c : Thread nD τ), SemLoc.dma arg5.sem) 0 ∗ owes (c : Thread nD τ) 0 Wt) : sProp 𝕄)
      ⊢ wp frame (wpE (defs₀ (F := F)) Variants.none (c : Thread nD τ) none) Set.univ
        (cc0_moe_dispatch_skel (F := F) i arg1 harg1 arg2 harg2 (Memref.whole main_v0) h3 (Memref.whole main_v0) h4 arg5)
        (fun _ => iprop((arg1.view.loc (c : Thread nD τ) ↦[arg1.view.set]{fullShare} f1) ∗ (arg2.view.loc (c : Thread nD τ) ↦[arg2.view.set]{fullShare} f2)
          ∗ ((c : Thread nD τ).loc main_v0 ↦[Finset.univ]{fullShare} G1) ∗ semVal ((c : Thread nD τ), SemLoc.dma arg5.sem) 0 ∗ ∃ W, owes (c : Thread nD τ) 0 W)) := by
  have hrest : ((c : Thread nD τ).loc main_v0 ↦[Finset.univ \ hit c arg1 f1]{fullShare} G0 : sProp 𝕄)
      = ((c : Thread nD τ).loc main_v0 ↦[Finset.univ \ hit c arg1 f1]{fullShare} G1) := by
    refine pointsTo_congr fun x hx => hG0 x fun j hj => ?_
    exact (Finset.mem_sdiff.1 hx).2 (Finset.mem_biUnion.2 ⟨j, Finset.mem_univ _, Finset.mem_filter.2 ⟨Finset.mem_univ _, hj⟩⟩)
  iintro ⟨H1, H2, HV, Hc, HO⟩
  ihave HS := (split_eq c arg1 arg2 f1 f2 hinj G0).1 $$ [HV H2]
  · isplitl [HV] <;> iassumption
  rw [hrest]
  icases HS with ⟨HP, HR, HT⟩
  imod (Transfers.batch_alloc' (Lvl := ℕ) (countersEmb (U := Pipeline.UD sig nD τ)) (c : Thread nD τ) () rowU (pairPt c arg1 arg2 f1 f2 G1) (sm := .dma arg5.sem) (E := Set.univ)) $$ Hc with HB
  unfold cc0_moe_dispatch_skel
  iapply (Scf.wp_for_bind (M := 𝕄) Idealize.ShloMosaic.frame (wpE (defs₀ (F := F)) Variants.none (c : Thread nD τ) none) Set.univ _ _ _ k0_t1_ok () _
    (issueAt c arg1 arg2 arg5 f1 f2 G0 G1) (issue_trip c arg1 arg2 arg5 f1 f2 G0 G1 i harg1 harg2 h3 h4 hlt hG)) $$ [H1 HB HP]
  · unfold issueAt
    isplitl [H1]; · iexact H1
    isplitl [HB]; · iexact HB
    iapply (Entails.of_eq (Transfers.bigSep_pending_zero (pairPt c arg1 arg2 f1 f2 G0)))
    iexact HP
  iintro %acc HI
  unfold issueAt
  icases HI with ⟨H1, HB, -⟩
  iapply (Scf.wp_for_bind (M := 𝕄) Idealize.ShloMosaic.frame (wpE (defs₀ (F := F)) Variants.none (c : Thread nD τ) none) Set.univ _ _ _ k0_t2_ok () _
    (drainAt c arg1 arg2 arg5 f1 f2 G1) (drain_trip c arg1 arg2 arg5 f1 f2 G1 i harg1 harg2 h3 h4)) $$ [HB HO]
  · unfold drainAt
    rw [show 4 * 0 * rowU = 0 by rw [Nat.mul_zero, Nat.zero_mul], show 4 * Scf.trips k0_t1_loop.lb k0_t1_loop.ub k0_t1_loop.st = 1024 from congrArg (4 * ·) t1_trips]
    isplitl [HB]; · iexact HB
    iexists _; iexact HO
  iintro %acc2 HD
  unfold drainAt
  icases HD with ⟨HB, HO⟩
  rw [show 4 * Scf.trips k0_t2_loop.lb k0_t2_loop.ub k0_t2_loop.st * rowU = rowU * 1024 from (congrArg (4 * · * rowU) t2_trips).trans (Nat.mul_comm _ _)]
  imod (Transfers.batch_collect' (countersEmb (U := Pipeline.UD sig nD τ)) (c : Thread nD τ) rowU_pos) $$ HB with ⟨HP, Hc⟩
  sl_step
  ihave HS := (split_eq c arg1 arg2 f1 f2 hinj G1).2 $$ [HP HR HT]
  · isplitl [HP]; · iexact HP
    isplitl [HR] <;> iassumption
  icases HS with ⟨HV, H2⟩
  isplitl [H1]; · iexact H1
  isplitl [H2]; · iexact H2
  isplitl [HV]; · iexact HV
  isplitl [Hc]; · iexact Hc
  iexact HO

end

end Cert.KernelIdeal.Hand
end
-- ==== Proof.Run.lean ====
module

public import proofs.«01_k».proof.Proof.Body
public import proofs.«01_k».proof.Proof.Gen.KernelIdeal.Frame

/-! # The launch: 65 grid points, the result buffer after each, and the frame -/

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The row copy `j` of the whole call writes: the `j`-th word of the argument. -/
def dst (c : Dev nD) (j : Fin 66560) : ℕ :=
  (show BitVec 32 from m ((c : Thread nD τ).loc main_arg0) (ix1 (⟨j.val, by omega⟩ : Fin 67584))).toNat

/-- What the call asks of its words: rows of the result, no two the same. -/
def Good : Prop := ∀ c, (∀ j, dst m c j < 74752) ∧ Function.Injective (dst m c)

/-- Token `j / 4`'s row of the hidden states, at column `k`. -/
def hrow (c : Dev nD) (j : Fin 66560) (k : Fin 2048) : F .f32 :=
  m ((c : Thread nD τ).loc main_arg1) (ix2 (⟨j.val / 4, by omega⟩ : Fin 16896) k)

open Classical in
/-- The result's buffer after `n` grid points: the rows written so far, over the zeros it began as. -/
def stage (n : ℕ) (c : Dev nD) : S74752x2048.Idx → F .f32 := fun x =>
  if h : ∃ j : Fin 66560, j.val < 1024 * n ∧ dst m c j = (x 0).val then hrow m c h.choose (x 1)
  else (V m c main_v0 : S74752x2048.Idx → F .f32) x

theorem stage_hit (hg : Good m) (n : ℕ) (c : Dev nD) (x : S74752x2048.Idx) (j : Fin 66560) (hj : j.val < 1024 * n)
    (hx : dst m c j = (x 0).val) : stage m n c x = hrow m c j (x 1) := by
  have h : ∃ j : Fin 66560, j.val < 1024 * n ∧ dst m c j = (x 0).val := ⟨j, hj, hx⟩
  unfold stage
  rw [dif_pos h]
  rw [(hg c).2 (h.choose_spec.2.trans hx.symm)]

theorem stage_miss (n : ℕ) (c : Dev nD) (x : S74752x2048.Idx) (h : ∀ j : Fin 66560, j.val < 1024 * n → dst m c j ≠ (x 0).val) :
    stage m n c x = (V m c main_v0 : S74752x2048.Idx → F .f32) x := by
  unfold stage
  rw [dif_neg]
  rintro ⟨j, h1, h2⟩; exact h j h1 h2

theorem idx_facts (t : Fin cfg0.N) : win0_0.index t (0 : Fin 1) = t.val ∧ win0_1.index t (0 : Fin 2) = t.val ∧ win0_1.index t (1 : Fin 2) = 0 := by
  have := (by decide +kernel : ∀ t : Fin 65, win0_0.index t (0 : Fin 1) = t.val ∧ win0_1.index t (0 : Fin 2) = t.val ∧ win0_1.index t (1 : Fin 2) = 0)
  exact this t

/-- The copy of point `t` with number `j` within the point. -/
def gl (t : Fin cfg0.N) (j : Fin 1024) : Fin 66560 := ⟨1024 * t.val + j.val, by
  have h : t.val < 65 := t.isLt
  omega⟩

theorem iblk0_apply (c : Dev nD) (t : Fin cfg0.N) (j : Fin 1024) :
    (show BitVec 32 from iblk m c 0 t (ix1 j)).toNat = dst m c (gl t j) := by
  unfold dst
  show (show BitVec 32 from V m c main_arg0 (((cfg0.win 0).blk t).view.emb (ix1 j))).toNat = _
  rw [V_main_arg0]
  rw [show ((cfg0.win 0).blk t).view.emb (ix1 j) = ix1 (⟨(gl t j).val, by omega⟩ : Fin 67584) from funext fun (a : Fin 1) => by
    obtain rfl : a = 0 := Subsingleton.elim _ _
    apply Fin.ext
    show win0_0.index t (0 : Fin 1) * 1024 + 1 * j.val = 1024 * t.val + j.val
    rw [(idx_facts t).1]; omega]

theorem iblk1_apply (c : Dev nD) (t : Fin cfg0.N) (j : Fin 1024) (k : Fin 2048) :
    iblk m c 1 t (ix2 (rowOf j) k) = hrow m c (gl t j) k := by
  unfold hrow
  show V m c main_arg1 (((cfg0.win 1).blk t).view.emb (ix2 (rowOf j) k)) = _
  rw [V_main_arg1]
  congr 1
  funext a; apply Fin.ext
  match a with
  | ⟨0, _⟩ =>
    show win0_1.index t (0 : Fin 2) * 256 + 1 * (j.val / 4) = (1024 * t.val + j.val) / 4
    rw [(idx_facts t).2.1]; omega
  | ⟨1, _⟩ =>
    show win0_1.index t (1 : Fin 2) * 2048 + 1 * k.val = k.val
    rw [(idx_facts t).2.2]; omega

/-! ## The proof data -/

/-- The one semaphore the body waits on. -/
def osem0 : Fin 1 → SemLoc sig := ![SemLoc.dma 4]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 4) 0 := by
  rw [Pipeline.ownSems0_eq_of_list c osem0 [0] (by decide) (by decide)]; rfl

def R0 : Finset (Ref sig .tc) := {main_v0}
theorem H0_sub : (∅ : Finset (Ref sig .tc)) ⊆ Pipeline.restRefs sig spec0 := Finset.empty_subset _
theorem R0_sub : R0 ⊆ Pipeline.restRefs sig spec0 \ ∅ := by decide

/-- The unscoped buffers after `n` points: the result at its stage, every other as the region found it. -/
def Gat (n : ℕ) (c : Dev nD) (b : Ref sig .tc) : Buf (Elt F) ((c : Thread nD τ).loc b) :=
  if h : b = main_v0 then h ▸ (stage m n c : Buf (Elt F) ((c : Thread nD τ).loc main_v0)) else V m c b

theorem Gat_v0 (n : ℕ) (c : Dev nD) : Gat m n c main_v0 = (stage m n c : Buf (Elt F) ((c : Thread nD τ).loc main_v0)) := by
  unfold Gat; rw [dif_pos rfl]

theorem routed_eq (c : Dev nD) (W : (b : Ref sig .tc) → Buf (Elt F) ((c : Thread nD τ).loc b)) :
    (Pipeline.routed R0 c W : sProp 𝕄)
      = ((c : Thread nD τ).loc main_v0 ↦{fullShare} W main_v0) := by
  unfold Pipeline.routed R0
  exact bigSep_singleton

theorem Phi_eq (n : ℕ) (c : Dev nD) :
    (Pipeline.ΦDRG osem0 spec0 ∅ R0 (V m) (Gat m n) c : sProp 𝕄)
      = iprop((BI.emp : sProp 𝕄) ∗ (∃ r, prngReg c r) ∗ semVal ((c : Thread nD τ), SemLoc.dma 4) 0
          ∗ (bigSep (∅ : Finset (Ref sig .tc)) fun b => ((c : Thread nD τ).loc b) ↦{fullShare} V m c b)
          ∗ ((c : Thread nD τ).loc main_v0 ↦{fullShare} (stage m n c : Buf (Elt F) ((c : Thread nD τ).loc main_v0)))) := by
  rw [Pipeline.ΦDRG_eq, scopedRest0_eq, ownSems00_eq, routed_eq, Gat_v0]

/-- The proof data on core `c`: the arrays as the region finds them, each window's block left in place, the
    result's buffer at its stage, nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG osem0 spec0 ∅ R0 (V m) (Gat m t.val) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at point `t`, on buffers that read as the point's blocks. -/
theorem body_at (hg : Good m) (c : Dev nD) (t : Fin cfg0.N) (f1 : Buf (Elt F) ((st0_0 t).view.loc (c : Thread nD τ)))
    (f2 : Buf (Elt F) ((st0_1 t).view.loc (c : Thread nD τ))) (h1 : (st0_0 t).view.read (Elt F) f1 = iblk m c 0 t)
    (h2 : (st0_1 t).view.read (Elt F) f2 = iblk m c 1 t) (Wt : Waits sig Unit) :
    (iprop(((st0_0 t).view.loc (c : Thread nD τ) ↦[(st0_0 t).view.set]{fullShare} f1) ∗ ((st0_1 t).view.loc (c : Thread nD τ) ↦[(st0_1 t).view.set]{fullShare} f2)
        ∗ ((c : Thread nD τ).loc main_v0 ↦[Finset.univ]{fullShare} (stage m t.val c : Buf (Elt F) ((c : Thread nD τ).loc main_v0))) ∗ semVal ((c : Thread nD τ), SemLoc.dma 4) 0 ∗ owes (c : Thread nD τ) 0 Wt) : sProp 𝕄)
      ⊢ wp frame (wpE (defs₀ (F := F)) Variants.none (c : Thread nD τ) none) Set.univ (bodyAt0 t)
        (fun _ => iprop(((st0_0 t).view.loc (c : Thread nD τ) ↦[(st0_0 t).view.set]{fullShare} f1) ∗ ((st0_1 t).view.loc (c : Thread nD τ) ↦[(st0_1 t).view.set]{fullShare} f2)
          ∗ ((c : Thread nD τ).loc main_v0 ↦[Finset.univ]{fullShare} (stage m (t.val + 1) c : Buf (Elt F) ((c : Thread nD τ).loc main_v0))) ∗ semVal ((c : Thread nD τ), SemLoc.dma 4) 0 ∗ ∃ W, owes (c : Thread nD τ) 0 W)) := by
  have hw : ∀ j, wd c (st0_0 t) f1 j = dst m c (gl t j) := fun j => by
    rw [← iblk0_apply, ← h1]; rfl
  have ht : t.val < 65 := t.isLt
  unfold bodyAt0
  rw [cc0_moe_dispatch_eq_skeleton]
  refine body_run c (st0_0 t) (st0_1 t) cc0_scratch0 f1 f2 _ _ (grid0.coords t) (hstage0_0 ((cfg0.slots t 0).cast nbuf0_0)) (hstage0_1 ((cfg0.slots t 1).cast nbuf0_1)) _ _ ?_ ?_ ?_ ?_ Wt
  · intro j; rw [hw]; exact (hg c).1 _
  · intro j j' h
    rw [hw, hw] at h
    have := congrArg Fin.val ((hg c).2 h)
    apply Fin.ext; simp only [gl] at this; omega
  · intro j x hx
    rw [hw] at hx
    rw [h2]
    refine Eq.trans ?_ (iblk1_apply m c t j (x 1)).symm
    refine stage_hit m hg _ c x (gl t j) ?_ hx.symm
    show 1024 * t.val + j.val < 1024 * (t.val + 1)
    omega
  · intro x hx
    by_cases h : ∃ j : Fin 66560, j.val < 1024 * t.val ∧ dst m c j = (x 0).val
    · obtain ⟨j, hj, he⟩ := h
      exact (stage_hit m hg _ c x j hj he).trans (stage_hit m hg _ c x j (by omega) he).symm
    · refine (stage_miss m _ c x fun j hj he => h ⟨j, hj, he⟩).trans (stage_miss m _ c x fun j hj he => ?_).symm
      by_cases hlt : j.val < 1024 * t.val
      · exact h ⟨j, hlt, he⟩
      · refine hx ⟨j.val - 1024 * t.val, by omega⟩ ?_
        rw [hw, ← he]
        congr 1
        apply Fin.ext
        show j.val = 1024 * t.val + (j.val - 1024 * t.val)
        omega

theorem sound_body (hg : Good m) (c : Dev nD) (t : Fin cfg0.N) :
    bodyPre m c t ⊢ wp frame (wpE (defs₀ (F := F)) Variants.none c none) Set.univ (bodyAt0 t) (fun _ => bodyPost m c t) := by
  unfold bodyPre bodyPost
  rw [after0_0, after0_1]
  simp only [before0_0, before0_1]
  rw [show (dats m 0 c).Φ t.castSucc = Pipeline.ΦDRG osem0 spec0 ∅ R0 (V m) (Gat m t.val) c from rfl,
    show (dats m 0 c).Φ t.succ = Pipeline.ΦDRG osem0 spec0 ∅ R0 (V m) (Gat m (t.val + 1)) c from rfl, Phi_eq, Phi_eq]
  unfold Dat.owesAt Pipeline.owesWithin
  rw [show (dats m 0 c).owed t.castSucc = 0 from rfl, show (dats m 0 c).owed t.succ = 0 from rfl]
  unfold owns
  iintro ⟨⟨He, Hg, Hq, Hh, Hv⟩, ⟨%W, -, HW⟩, ⟨%d0, ⟨%f1, %h1, H0⟩⟩, ⟨%d1, ⟨%f2, %h2, H1⟩⟩⟩
  iapply (wp_wand _ _ _) $$ [H0 H1 Hv Hq HW]
  · iapply (body_at m hg c t f1 f2 h1 h2 W)
    isplitl [H0]; · iexact H0
    isplitl [H1]; · iexact H1
    isplitl [Hv]; · iexact Hv
    isplitl [Hq]; · iexact Hq
    iexact HW
  iintro %_ ⟨H0, H1, Hv, Hq, ⟨%W', HW'⟩⟩
  isplitl [He Hg Hq Hh Hv]
  · isplitl [He]; · iexact He
    isplitl [Hg]; · iexact Hg
    isplitl [Hq]; · iexact Hq
    isplitl [Hh]; · iexact Hh
    iexact Hv
  isplitl [HW']
  · iexists W'; isplitr; · ipureintro; exact fun _ _ => Or.inl trivial
    iexact HW'
  isplitl [H0]
  · iexists f1; isplitr; · ipureintro; exact h1
    iexact H0
  · iexists f2; isplitr; · ipureintro; exact h2
    iexact H1

theorem defs₀_row (t : Fin cfg0.N) :
    defs₀ (F := F) .tc cfg0.body (cfg0.bodyArgs t (cfg0.slots t)) = bodyAt0 t := by
  unfold defs₀; rw [Defs.onTc_tc]

theorem body_obligation (hg : Good m) (c : Dev nD) : BodyObligation (dats (F := F) m 0 c) (defs₀ (F := F)) Variants.none () Set.univ := fun t => by
  rw [bigSep_W0, bigSep_W0, defs₀_row]
  exact triple_restated (sound_body m hg c t) rfl .rfl fun _ => .rfl

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

theorem stage_zero (c : Dev nD) : stage m 0 c = (V m c main_v0 : S74752x2048.Idx → F .f32) :=
  funext fun x => stage_miss m 0 c x fun j hj => absurd hj (by omega)

theorem Gat_zero : Gat m 0 = V m := by
  funext c b
  unfold Gat
  split
  · next h => subst h; exact stage_zero m c
  · rfl

set_option backward.isDefEq.respectTransparency.types false in
theorem run_main (hg : Good m) : θ_run defs (onTc (τ := τ) (main (F := F))) (s₀ m ρ)
    (fun r => Pipeline.FramePostRG cfgs (dats m) 0 R0 (V m) (Gat m 65) r ∧ r.2.sem = fun _ => 0) :=
  Pipeline.θ_run_frame_dmaRG (Q' := _) cfgs (dats m) (0 : Fin 1) launch0 osem0 defs₀ Variants.none ownSemFacts0 ∅ R0 H0_sub R0_sub m ρ main
    (hbody := fun c => (body_obligation m hg c).loose) (hshare := fun c => (dats m 0 c).share_full fun _ => rfl)
    (howed := fun _ _ => rfl) (V := V m) (hmain := hmainD m Variants.none) (hA := A_eq m) (G := Gat m 65)
    (hin := fun c => Entails.of_eq (by show _ = Pipeline.ΦDRG osem0 spec0 ∅ R0 (V m) (Gat m 0) c; rw [Gat_zero]))
    (hout := fun _ => .rfl)

/-- The run, read at the argument arrays and the result. -/
theorem run_all (hg : Good m) : θ_run defs (onTc (τ := τ) (main (F := F))) ⟨m, fun _ => 0, ρ⟩ (fun r => (∀ c : Dev nD,
      r.2.mem ((c.tc : Thread nD τ).loc main_v0) = (stage m 65 c : Buf (Elt F) ((c : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨
      (h.1.2 c main_v0 (Finset.mem_singleton_self _)).trans (Gat_v0 m 65 c),
      ((h.1.1 c).1 0).trans (((dats m 0 c).arrAt_in 0 rfl _).trans ((A_eq m c 0).trans (V_main_arg0 m c))),
      ((h.1.1 c).1 1).trans (((dats m 0 c).arrAt_in 1 rfl _).trans ((A_eq m c 1).trans (V_main_arg1 m c)))⟩, h.2⟩) (run_main m ρ hg)

end Cert.KernelIdeal.Hand

end
-- ==== Proof.Pre.lean ====
module

public import proofs.«01_k».proof.Pre_rows_apart
public import Idealize.ShloMosaic.Lib.ReduceAll
public import Idealize.ShloMosaic.Lib.SortFacts
public import Idealize.ShloMosaic.Lib.ValueIdxCore

/-! # What the precondition says: the words are rows of the sorted array, and no two of them agree -/

@[expose] public section

set_option maxRecDepth 16384

noncomputable section

namespace Cert.Pre_rows_apart.Hand

open Cert.Pre_rows_apart
open Idealize.ShloMosaic
open Idealize.ShloMosaic.ValueIdx (ix1 ix2)

theorem facts : Cert.Pre_rows_apart.Facts where
  slices_S67584_S66560_0 := by decide
  bcast_S_S66560 := by decide
  reducesTo_S66560_S_d0 := by decide
  h_S_ := by decide
  slices_S66560_S66559_1 := by decide
  slices_S66560_S66559_0 := by decide
  reducesTo_S66559_S_d0 := by decide

instance : Subsingleton S_.Idx := ⟨fun a b => funext fun i => i.elim0⟩

/-- Word `j` of the argument. -/
def word (a : IVec S67584 32) (j : Fin 66560) : BitVec 32 := a (ix1 (⟨j.val, by omega⟩ : Fin 67584))

theorem slice_at (h : S67584.Slices ![0] S66560) (a : IVec S67584 32) (j : Fin 66560) :
    extractStridedSlice S66560 ![0] a h (ix1 j) = word a j := by
  unfold extractStridedSlice word
  congr 1
  funext x
  obtain rfl : x = 0 := Subsingleton.elim _ _
  apply Fin.ext
  show 0 + j.val = j.val
  omega

theorem slice1_at (o : ℕ) (h : S66560.Slices ![o] S66559) (x : IVec S66560 32) (k : Fin 66560) {j : Fin 66559} (hk : k.val = o + j.val) :
    extractStridedSlice S66559 ![o] x h (ix1 j) = x (ix1 k) := by
  unfold extractStridedSlice
  congr 1
  funext a
  obtain rfl : a = 0 := Subsingleton.elim _ _
  exact Fin.ext hk.symm

/-- Words that rise strictly when sorted are pairwise different. -/
theorem sorted_injective {n : ℕ} (w : Fin (n + 1) → BitVec 32) (σ : Fin (n + 1) → Fin (n + 1)) (hσ : Function.Surjective σ)
    (h : ∀ k : Fin n, (w (σ k.castSucc)).toInt < (w (σ k.succ)).toInt) : Function.Injective w := by
  have hm : StrictMono fun k => (w (σ k)).toInt := Fin.strictMono_iff_lt_succ.2 h
  intro a b hab
  obtain ⟨k, rfl⟩ := hσ a
  obtain ⟨l, rfl⟩ := hσ b
  rw [hm.injective (show (w (σ k)).toInt = (w (σ l)).toInt by rw [hab])]

theorem sort_at (x : IVec S66560 32) : ∃ σ : Fin 66560 → Fin 66560, Function.Surjective σ ∧
    ∀ k, Host.sort S66560 0 comparator_i32_d0 x (ix1 k) = x (ix1 (σ k)) := by
  refine ⟨sortedFrom (fun k k' => comparator_i32_d0 (x (ix1 k)) (x (ix1 k')) == 1#1), sortedFrom_surjective _, fun k => ?_⟩
  have ha : ∀ (k j : Fin 66560), (ix1 k : S66560.Idx).along 0 j = ix1 j := fun k j => by
    funext a
    obtain rfl : a = 0 := Subsingleton.elim _ _
    exact Function.update_self (f := (ix1 k : S66560.Idx)) (0 : Fin 1) j
  unfold Host.sort
  rw [dif_pos (show 0 < S66560.rank from Nat.one_pos)]
  dsimp only
  exact (congrArg x (ha _ _)).trans (by simp only [show ∀ j, (ix1 k : S66560.Idx).along ⟨0, Nat.one_pos⟩ j = ix1 j from ha k]; rfl)

theorem good [Facts] {F : FTy → Type} [FloatOps F] (a : IVec S67584 32) (h : FVec F S16896x2048 .f32)
    (hp : fn (F := F) a h = fun _ => 1#1) :
    (∀ j, (word a j).toNat < 74752) ∧ Function.Injective fun j => (word a j).toNat := by
  have e := congrFun hp (fun i => i.elim0)
  unfold fn at e
  dsimp only at e
  obtain ⟨e1, e2⟩ := IntOp.andi_eq_one.1 e
  have h1 := fun i => Host.reduce_andi_all _ _ _ _ _ e1 i
  have h2 := fun i => Host.reduce_andi_all _ _ _ _ _ e2 i
  constructor
  · intro j
    obtain ⟨p, q⟩ := IntOp.andi_eq_one.1 (h1 (ix1 j))
    have p' := IntOp.cmpi_sge.1 p
    have q' := IntOp.cmpi_slt.1 q
    rw [slice_at] at p' q'
    have hz : (broadcastInDim S66560 ![] Facts.bcast_S_S66560 (constantI S_ 32 0#32) (ix1 j)).toInt = 0 := rfl
    have hn : (broadcastInDim S66560 ![] Facts.bcast_S_S66560 (constantI S_ 32 74752#32) (ix1 j)).toInt = 74752 := rfl
    rw [hz] at p'
    rw [hn] at q'
    rw [BitVec.toInt_eq_toNat_cond] at p' q'
    have := (word a j).isLt
    split at p' <;> omega
  · have hw : Function.Injective (word a) := by
      obtain ⟨σ, hσ, hs⟩ := sort_at (extractStridedSlice S66560 ![0] a Facts.slices_S67584_S66560_0)
      refine sorted_injective (n := 66559) (word a) σ hσ fun k => ?_
      have r := IntOp.cmpi_sgt.1 (h2 (ix1 k))
      rw [slice1_at _ _ _ k.castSucc (by show k.val = 0 + k.val; omega), slice1_at _ _ _ k.succ (by show k.val + 1 = 1 + k.val; omega)] at r
      unfold fn_sort at r
      dsimp only at r
      rw [hs, hs, slice_at, slice_at] at r
      exact r
    exact fun x y hxy => hw (BitVec.eq_of_toNat_eq hxy)

end Cert.Pre_rows_apart.Hand

end
-- ==== Proof.Value.lean ====
module

public import proofs.«01_k».proof.Proof.Gen.ReferenceIdeal
public import Idealize.ShloMosaic.Lib.Routing.OpsSet
public import Idealize.ShloMosaic.Lib.Affine
public import Idealize.ShloMosaic.Lib.Pipeline.Value
public import Idealize.ShloMosaic.Lib.ValueIdxCore

/-! # The reference's result, row by row

Row `r` of the sorted array is token `j / 4`'s row where copy `j` goes to `r`, and zero where no copy does. -/

@[expose] public section

set_option maxRecDepth 16384

noncomputable section

namespace Cert.ReferenceIdeal.Hand

open Cert.ReferenceIdeal Cert.ReferenceIdeal.Gen
open Idealize.ShloMosaic
open Idealize.ShloMosaic.ValueIdx (ix1 ix2)

variable {F : FTy → Type} [FloatOps F]

/-- Copy `i` of the reference's scatter lands at `x` exactly when its word, read signed, is `x`. -/
theorem lands (idx : IVec S66560x1 32) (i : Fin 66560) (x : Fin 74752) :
    scatter_S74752_S66560x1_S66560_n_0_0_1.resultIdx? (ix1 i) idx = some (ix1 x) ↔ (idx (ix2 i (0 : Fin 1))).toInt = (x.val : Int) := by
  have hwin : scatter_S74752_S66560x1_S66560_n_0_0_1.window (ix1 i) 0 = 0 := by
    unfold ScatterDims.window
    exact dif_neg fun h => (of_decide_eq_true (List.mem_filter.1 h).2) (List.mem_singleton.2 rfl)
  have hstart : scatter_S74752_S66560x1_S66560_n_0_0_1.start (ix1 i) idx 0 = (idx (ix2 i (0 : Fin 1))).toInt := by
    unfold ScatterDims.start
    rw [dif_pos (show (0 : Fin 1) ∈ scatter_S74752_S66560x1_S66560_n_0_0_1.scatterDimsToOperandDims from List.mem_singleton.2 rfl)]
    congr 2
    funext b
    apply Fin.ext
    match b with
    | ⟨0, _⟩ => rfl
    | ⟨1, _⟩ => rfl
  have hx := x.isLt
  unfold ScatterDims.resultIdx?
  split
  · next h =>
    have h0 := h 0
    constructor
    · intro e
      have e0 := congrArg Fin.val (congrFun (Option.some.inj e) 0)
      change (scatter_S74752_S66560x1_S66560_n_0_0_1.start (ix1 i) idx 0 + (scatter_S74752_S66560x1_S66560_n_0_0_1.window (ix1 i) 0 : Int)).toNat = x.val at e0
      rw [hstart, hwin] at e0 h0
      have := h0.1
      omega
    · intro e
      refine congrArg some (funext fun a => Fin.ext ?_)
      obtain rfl : a = 0 := Subsingleton.elim _ _
      show (scatter_S74752_S66560x1_S66560_n_0_0_1.start (ix1 i) idx 0 + (scatter_S74752_S66560x1_S66560_n_0_0_1.window (ix1 i) 0 : Int)).toNat = x.val
      rw [hstart, hwin, e]
      omega
  · next h =>
    constructor
    · intro e; cases e
    · intro e
      refine (h fun a => ?_).elim
      obtain rfl : a = 0 := Subsingleton.elim _ _
      show 0 ≤ scatter_S74752_S66560x1_S66560_n_0_0_1.start (ix1 i) idx 0 + (scatter_S74752_S66560x1_S66560_n_0_0_1.window (ix1 i) 0 : Int)
        ∧ scatter_S74752_S66560x1_S66560_n_0_0_1.start (ix1 i) idx 0 + (scatter_S74752_S66560x1_S66560_n_0_0_1.window (ix1 i) 0 : Int) < (74752 : Int)
      rw [hstart, hwin, e]
      omega

/-- The reference's take of whole rows: row `p` is the table's row at the word `p` holds, clamped into the table. -/
theorem take_rows {α : Type} (x : S16641x2048.Idx → α) (idx : IVec S74752x1 32) (p : Fin 74752) (k : Fin 2048) :
    Host.gather gather_S16641x2048_S74752x1_S74752x2048_1_0_n_n_0_1_12048 x idx (ix2 p k)
      = x (ix2 (⟨min (idx (ix2 p (0 : Fin 1))).toInt.toNat 16640, by omega⟩ : Fin 16641) k) := by
  unfold Host.gather
  congr 1
  funext a
  refine Fin.ext ?_
  show gather_S16641x2048_S74752x1_S74752x2048_1_0_n_n_0_1_12048.start (ix2 p k) idx a + gather_S16641x2048_S74752x1_S74752x2048_1_0_n_n_0_1_12048.batchCoord (ix2 p k) a
      + gather_S16641x2048_S74752x1_S74752x2048_1_0_n_n_0_1_12048.offCoord (ix2 p k) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16641x2048_S74752x1_S74752x2048_1_0_n_n_0_1_12048.startIndexMap from List.mem_singleton.mpr rfl)]
    have hsi : gather_S16641x2048_S74752x1_S74752x2048_1_0_n_n_0_1_12048.siIdx (ix2 p k) ⟨List.idxOf (0 : Fin 2) gather_S16641x2048_S74752x1_S74752x2048_1_0_n_n_0_1_12048.startIndexMap,
        List.idxOf_lt_length_iff.2 (List.mem_singleton.mpr rfl)⟩ = ix2 p (0 : Fin 1) := by
      funext b; refine Fin.ext ?_
      match b with
      | ⟨0, _⟩ => rfl
      | ⟨1, _⟩ => rfl
    rw [hsi]
    rfl
  · have hs : gather_S16641x2048_S74752x1_S74752x2048_1_0_n_n_0_1_12048.start (ix2 p k) idx 1 = 0 := by
      unfold GatherDims.start
      exact dif_neg (by decide)
    rw [hs]
    simp only [Nat.zero_add, Nat.add_zero]
    unfold GatherDims.offCoord
    rw [dif_pos (show (1 : Fin 2) ∈ gather_S16641x2048_S74752x1_S74752x2048_1_0_n_n_0_1_12048.sKept from (GatherDims.mem_sKept _ _).mpr ⟨by decide, by decide⟩)]
    rfl

/-- The words that the copies go to, the tokens they come from, and each row's token. -/
def words (a : IVec S67584 32) : IVec S66560 32 := extractStridedSlice S66560 ![0] a slices_S67584_S66560_0
def toks : IVec S66560 32 := shapeCast _ (broadcastInDim S16640x4 ![0] bcast_S16640_S16640x4_0 (iotaInDim S16640 32 0)) shapeCasts_S16640x4_S66560
def wrapped (a : IVec S67584 32) : IVec S66560x1 32 :=
  broadcastInDim S66560x1 ![0] bcast_S66560_S66560x1_0 (select (cmpi .slt (words a) (broadcastInDim S66560 ![] bcast_S_S66560 (constantI S_ 32 0#32)))
    (addi (words a) (broadcastInDim S66560 ![] bcast_S_S66560 (constantI S_ 32 74752#32))) (words a))
def srcs (a : IVec S67584 32) : IVec S74752 32 :=
  Host.scatter scatter_S74752_S66560x1_S66560_n_0_0_1 (fun _ b => b) (broadcastInDim S74752 ![] bcast_S_S74752 (constantI S_ 32 16640#32)) (wrapped a) toks
def table (h : FVec F S16896x2048 .f32) : FVec F S16641x2048 .f32 :=
  concatenate S16641x2048 0 [⟨S16640x2048, (extractStridedSlice S16640x2048 ![0, 0] h slices_S16896x2048_S16640x2048_0_0)⟩, ⟨S1x2048, (broadcastInDim S1x2048 ![] bcast_S_S1x2048 (constant S_ .f32 0x00000000#32))⟩] concatenates_S16640x2048_S1x2048_S16641x2048_d0
/-- The reference's result. -/
def result (a : IVec S67584 32) (h : FVec F S16896x2048 .f32) : FVec F S74752x2048 .f32 :=
  Host.gather gather_S16641x2048_S74752x1_S74752x2048_1_0_n_n_0_1_12048 (table h)
    (broadcastInDim S74752x1 ![0] bcast_S74752_S74752x1_0 (select (cmpi .slt (srcs a) (broadcastInDim S74752 ![] bcast_S_S74752 (constantI S_ 32 0#32)))
      (addi (srcs a) (broadcastInDim S74752 ![] bcast_S_S74752 (constantI S_ 32 16641#32))) (srcs a)))

theorem words_at (a : IVec S67584 32) (j : Fin 66560) : words a (ix1 j) = a (ix1 (⟨j.val, by omega⟩ : Fin 67584)) := by
  unfold words extractStridedSlice
  congr 1
  funext x
  obtain rfl : x = 0 := Subsingleton.elim _ _
  apply Fin.ext
  show 0 + j.val = j.val
  omega

theorem toks_at (j : Fin 66560) : toks (ix1 j) = BitVec.ofNat 32 (j.val / 4) := by
  unfold toks
  rw [shapeCast_apply _ _ _ (ix2 (⟨j.val / 4, by omega⟩ : Fin 16640) (⟨j.val % 4, by omega⟩ : Fin 4)) (by
    rw [Shape.rowMajor_val_two, Shape.rowMajor_val_one]
    show j.val / 4 * 4 + j.val % 4 = j.val
    omega)]
  rw [broadcastInDim_apply _ _ _ _ (ix1 (⟨j.val / 4, by omega⟩ : Fin 16640)) (fun x => by
    obtain rfl : x = 0 := Subsingleton.elim _ _
    rw [if_neg (by decide)]; rfl)]
  rfl

theorem toInt_small (w : BitVec 32) (h : w.toNat < 2 ^ 31) : w.toInt = (w.toNat : Int) := by
  rw [BitVec.toInt_eq_toNat_cond, if_pos (by omega)]

theorem not_neg (w : BitVec 32) (h : w.toNat < 2 ^ 31) : ¬ IntOp.cmpi .slt w 0#32 = 1#1 := by
  rw [IntOp.cmpi_slt, toInt_small w h]
  show ¬ (w.toNat : Int) < 0
  omega

theorem wrapped_at (a : IVec S67584 32) (j : Fin 66560) (hj : (words a (ix1 j)).toNat < 74752) :
    wrapped a (ix2 j (0 : Fin 1)) = words a (ix1 j) := by
  unfold wrapped
  rw [broadcastInDim_apply _ _ _ _ (ix1 j) (fun x => by
    obtain rfl : x = 0 := Subsingleton.elim _ _
    rw [if_neg (by decide)]; rfl)]
  generalize words a = w at hj
  show (if IntOp.cmpi .slt (w (ix1 j)) 0#32 = 1#1 then _ else w (ix1 j)) = _
  exact if_neg (not_neg _ (by omega))

theorem srcs_hit (a : IVec S67584 32) (hlt : ∀ j, (words a (ix1 j)).toNat < 74752) (hinj : Function.Injective fun j => (words a (ix1 j)).toNat)
    (j : Fin 66560) (r : Fin 74752) (hr : (words a (ix1 j)).toNat = r.val) : srcs a (ix1 r) = BitVec.ofNat 32 (j.val / 4) := by
  unfold srcs
  refine Routing.scatter_set_hit _ _ _ _ _ _ (fun k hk => ?_) (ix1 j) ?_
  · obtain ⟨k, rfl⟩ : ∃ k' : Fin 66560, k = ix1 k' := ⟨k 0, funext fun x => by obtain rfl : x = 0 := Subsingleton.elim _ _; rfl⟩
    rw [lands, wrapped_at a k (hlt k), toInt_small _ (by have := hlt k; omega)] at hk
    rw [hinj (a₁ := k) (a₂ := j) (by show (words a (ix1 k)).toNat = (words a (ix1 j)).toNat; omega)]
    exact toks_at j
  · rw [lands, wrapped_at a j (hlt j), toInt_small _ (by have := hlt j; omega), hr]

theorem srcs_miss (a : IVec S67584 32) (hlt : ∀ j, (words a (ix1 j)).toNat < 74752)
    (r : Fin 74752) (hr : ∀ j, (words a (ix1 j)).toNat ≠ r.val) : srcs a (ix1 r) = 16640#32 := by
  unfold srcs
  refine (Routing.scatter_set_miss _ _ _ _ _ fun k hk => ?_).trans rfl
  obtain ⟨k, rfl⟩ : ∃ k' : Fin 66560, k = ix1 k' := ⟨k 0, funext fun x => by obtain rfl : x = 0 := Subsingleton.elim _ _; rfl⟩
  rw [lands, wrapped_at a k (hlt k), toInt_small _ (by have := hlt k; omega)] at hk
  exact hr k (by omega)

theorem table_tok (h : FVec F S16896x2048 .f32) (t : Fin 16640) (k : Fin 2048) (t' : Fin 16641) (ht : t'.val = t.val) :
    table h (ix2 t' k) = h (ix2 (⟨t.val, by omega⟩ : Fin 16896) k) := by
  unfold table
  refine (concatenate_pair_apply_left (t := S16641x2048) (s₁ := S16640x2048) (s₂ := S1x2048) (0 : Fin 2) _ _ _ _ rfl (ix2 t k) (fun b => by
    match b with
    | ⟨0, _⟩ => exact ht.symm
    | ⟨1, _⟩ => rfl)).trans ?_
  unfold extractStridedSlice
  congr 1
  funext b
  apply Fin.ext
  match b with
  | ⟨0, _⟩ => show 0 + t.val = t.val; omega
  | ⟨1, _⟩ => show 0 + k.val = k.val; omega

theorem table_zero (h : FVec F S16896x2048 .f32) (k : Fin 2048) (t' : Fin 16641) (ht : t'.val = 16640) :
    table h (ix2 t' k) = FloatOps.ofBits .f32 0x00000000#32 := by
  unfold table
  exact (concatenate_pair_apply_right (t := S16641x2048) (s₁ := S16640x2048) (s₂ := S1x2048) (0 : Fin 2) _ _ _ _ rfl rfl (ix2 (0 : Fin 1) k) (fun b hb => by
    match b with
    | ⟨0, _⟩ => exact absurd rfl hb
    | ⟨1, _⟩ => rfl) (by show 0 + 16640 = t'.val; omega)).trans rfl

theorem result_at (a : IVec S67584 32) (h : FVec F S16896x2048 .f32) (r : Fin 74752) (k : Fin 2048) (n : ℕ) (hn : n ≤ 16640)
    (hs : srcs a (ix1 r) = BitVec.ofNat 32 n) : result a h (ix2 r k) = table h (ix2 (⟨n, by omega⟩ : Fin 16641) k) := by
  have hb : (BitVec.ofNat 32 n).toNat = n := by rw [BitVec.toNat_ofNat]; exact Nat.mod_eq_of_lt (by omega)
  unfold result
  have hsel : (broadcastInDim S74752x1 ![0] bcast_S74752_S74752x1_0 (select (cmpi .slt (srcs a) (broadcastInDim S74752 ![] bcast_S_S74752 (constantI S_ 32 0#32)))
      (addi (srcs a) (broadcastInDim S74752 ![] bcast_S_S74752 (constantI S_ 32 16641#32))) (srcs a))) (ix2 r (0 : Fin 1)) = BitVec.ofNat 32 n := by
    rw [broadcastInDim_apply _ _ _ _ (ix1 r) (fun x => by
      obtain rfl : x = 0 := Subsingleton.elim _ _
      rw [if_neg (by decide)]; rfl)]
    generalize srcs a = w at hs
    show (if IntOp.cmpi .slt (w (ix1 r)) 0#32 = 1#1 then _ else w (ix1 r)) = _
    rw [if_neg (not_neg _ (by rw [hs, hb]; omega)), hs]
  refine (take_rows _ _ r k).trans (congrArg (table h) (congrArg (fun z => ix2 z k) (Fin.ext ?_)))
  refine (congrArg (fun z : BitVec 32 => min z.toInt.toNat 16640) hsel).trans ?_
  show min (BitVec.ofNat 32 n).toInt.toNat 16640 = n
  rw [toInt_small _ (by rw [hb]; omega), hb]
  omega

theorem result_hit (a : IVec S67584 32) (h : FVec F S16896x2048 .f32) (hlt : ∀ j, (words a (ix1 j)).toNat < 74752)
    (hinj : Function.Injective fun j => (words a (ix1 j)).toNat) (j : Fin 66560) (r : Fin 74752) (hr : (words a (ix1 j)).toNat = r.val) (k : Fin 2048) :
    result a h (ix2 r k) = h (ix2 (⟨j.val / 4, by omega⟩ : Fin 16896) k) := by
  rw [result_at a h r k (j.val / 4) (by omega) (srcs_hit a hlt hinj j r hr)]
  exact table_tok h (⟨j.val / 4, by omega⟩ : Fin 16640) k _ rfl

theorem result_miss (a : IVec S67584 32) (h : FVec F S16896x2048 .f32) (hlt : ∀ j, (words a (ix1 j)).toNat < 74752)
    (r : Fin 74752) (hr : ∀ j, (words a (ix1 j)).toNat ≠ r.val) (k : Fin 2048) :
    result a h (ix2 r k) = FloatOps.ofBits .f32 0x00000000#32 := by
  rw [result_at a h r k 16640 (by omega) (srcs_miss a hlt r hr)]
  exact table_zero h k _ rfl

end Cert.ReferenceIdeal.Hand

end
-- ==== Proof.FfnBody.lean ====
module

public import proofs.«01_k».proof.Proof.Gen.Kernel2Ideal.Launch
public import proofs.«01_k».proof.Proof.Gen.Kernel2Ideal.Skeleton
public import Idealize.ShloMosaic.Lib.Exec
public import Idealize.ShloMosaic.Lib.Affine
public import Idealize.ShloMosaic.Lib.Tactic
public import Idealize.ShloMosaic.Lib.Pipeline.Value
public import Idealize.ShloMosaic.Lib.Pipeline.FrameBody
public import Idealize.ShloMosaic.Lib.ValueIdxCore
public import Idealize.ShloMosaic.Lib.VecWindow

/-! # One grid point of the feed-forward call: what its body leaves in the result's block -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type} [FloatOps F]

local notation "𝕄" => MT nD τ sig Unit (Elt F) ℕ (UR sig nD τ) ℕ

/-- The two tables, whole. -/
abbrev tab0 : Memref sig .tc .smem S292 .i32 := Memref.whole main_arg0
abbrev tab1 : Memref sig .tc .smem S1 .i32 := Memref.whole main_arg1

/-- What one point computes of its blocks: the clamped gated unit of a product, times the second matrix, plus its bias. -/
def unit (x : FVec F S256x2048 .f32) (wg : FVec F S1x1x2048x1536 .f32) (bg : FVec F S1x1x1536 .f32)
    (wd : FVec F S1x1x768x2048 .f32) (bd : FVec F S1x1x2048 .f32) : FVec F S256x2048 .f32 :=
  k0_pay1 (k0_pay3 x wg bg wd) bd

theorem flag_iff (b : Bool) : (BitVec.ofBool (BitVec.setWidth 32 (BitVec.ofBool b) != 0#32) = 1#1) ↔ b = true := by
  cases b <;> decide

theorem cond1_iff (i : grid0.Coords) (w : BitVec 32) : k0_cond1 i w = 1#1 ↔ (BitVec.ofNat 32 (i 0).val).slt w = true := flag_iff _

/-- Exactly one of the body's two branches is taken. -/
theorem cond_iff (i : grid0.Coords) (w : BitVec 32) : k0_cond2 i w = 1#1 ↔ ¬ k0_cond1 i w = 1#1 := by
  rw [cond1_iff]
  refine (flag_iff _).trans ?_
  have e : w.sle (BitVec.ofNat 32 (i 0).val) = !((BitVec.ofNat 32 (i 0).val).slt w) := BitVec.sle_eq_not_slt
  rw [e]
  simp

theorem left_block (v : View sig .tc .vmem S256x2048 .f32) (f : v.ty.Contents (Elt F)) (inb : ∀ a, (![0, 0] : Fin 2 → ℕ) a + S256x2048.size a ≤ S256x2048.size a)
    (w : S256x2048.Idx → Elt F .f32) : v.read (Elt F) (v.writes (Elt F) f [⟨Rect.unit (s := S256x2048) ![0, 0] S256x2048.size inb, w⟩]) = w := by
  have h0 : (![0, 0] : Fin 2 → ℕ) = fun _ => 0 := by funext a; match a with | 0 => rfl | 1 => rfl
  rw [View.read_writes_eq_canon _ _ _ (fun y => ⟨_, List.mem_singleton_self _, View.mem_set_unit_zero h0 inb y⟩)]
  exact View.canon_unit_zero h0 inb w

/-- The word the body reads of the second table. -/
def count (T1 : S1.Idx → Elt F .i32) : BitVec 32 :=
  View.readAt (Elt F) tab1.view (Rect.unit (s := S1) ![0] S1.size inb_S1_S1_0).toLoadRect T1 (Shape.Idx.first (numel1_S1.symm ▸ Nat.one_pos))

open Classical in
/-- What the body leaves in the result's block: the feed-forward where the block is in use, zeros where it is not. -/
def leaves (i : grid0.Coords) (T1 : S1.Idx → Elt F .i32) (x : FVec F S256x2048 .f32) (wg : FVec F S1x1x2048x1536 .f32) (bg : FVec F S1x1x1536 .f32)
    (wd : FVec F S1x1x768x2048 .f32) (bd : FVec F S1x1x2048 .f32) : FVec F S256x2048 .f32 :=
  if k0_cond1 i (count T1) = 1#1 then unit x wg bg wd bd else k0_pay2

set_option maxHeartbeats 8000000 in
theorem body_run (c : Dev nD) (i : grid0.Coords) (arg3 : Memref sig .tc .vmem S256x2048 .f32) (harg3 : arg3.IsWhole) (arg4 : Memref sig .tc .vmem S1x1x2048x1536 .f32) (harg4 : arg4.IsWhole)
    (arg5 : Memref sig .tc .vmem S1x1x1536 .f32) (harg5 : arg5.IsWhole) (arg6 : Memref sig .tc .vmem S1x1x768x2048 .f32) (harg6 : arg6.IsWhole)
    (arg7 : Memref sig .tc .vmem S1x1x2048 .f32) (harg7 : arg7.IsWhole) (arg8 : Memref sig .tc .vmem S256x2048 .f32) (harg8 : arg8.IsWhole)
    (T0 : S292.Idx → Elt F .i32) (T1 : S1.Idx → Elt F .i32)
    (x0 : S256x2048.Idx → Elt F .f32) (x1 : S1x1x2048x1536.Idx → Elt F .f32) (x2 : S1x1x1536.Idx → Elt F .f32) (x3 : S1x1x768x2048.Idx → Elt F .f32) (x4 : S1x1x2048.Idx → Elt F .f32)
    (K : PUnit → sProp 𝕄) :
    iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tab0.view.loc (c : Thread nD τ) ↦{fullShare.right} T0)
          ∗ (tab1.view.loc (c : Thread nD τ) ↦{fullShare.right} T1)
          ∗ (∃ d, owns (c : Thread nD τ) arg8 fullShare d)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tab0.view.loc (c : Thread nD τ) ↦{fullShare.right} T0)
              ∗ (tab1.view.loc (c : Thread nD τ) ↦{fullShare.right} T1)
              ∗ owns (c : Thread nD τ) arg8 fullShare (leaves i T1 x0 x1 x2 x3 x4)) -∗ K ⟨⟩))
      ⊢ wp frame (wpE (defs₀ (F := F)) Variants.none c none) Set.univ (cc0_expert_ffn i tab0 (Memref.isWhole_whole _) tab1 (Memref.isWhole_whole _) arg3 harg3 arg4 harg4 arg5 harg5 arg6 harg6 arg7 harg7 arg8 harg8) K := by
  unfold owns
  rw [cc0_expert_ffn_eq_skeleton]; unfold cc0_expert_ffn_skel
  rw [k0_part1_eq_skeleton]; unfold k0_part1_skel
  iintro ⟨H0, H1, H2, H3, H4, HT0, HT1, ⟨%d5, %f5, -, HO5⟩, Hk⟩
  have hT0 : tab0.IsWhole := Memref.isWhole_whole _
  have hT1 : tab1.IsWhole := Memref.isWhole_whole _
  by_cases h1 : k0_cond1 i (count T1) = 1#1
  · have h2 : ¬ k0_cond2 i (count T1) = 1#1 := fun h => (cond_iff _ _).1 h h1
    unfold leaves
    rw [if_pos h1]
    unfold count at h1 h2
    sl_exec! (disch := first | (guard_target = ¬(k0_cond2 _ _ = _); exact h2) | (guard_target = k0_cond1 _ _ = _; exact h1))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; isplitr; swap
    · iexact HO5
    · ipureintro
      refine (left_block _ _ _ _).trans ?_
      exact congr (congrArg k0_pay1 (congr (congr (congr (congrArg k0_pay3 (View.readAt_rep_full _ _ inb_S256x2048_S256x2048_0_0))
        (View.readAt_rep_full _ _ inb_S1x1x2048x1536_S1x1x2048x1536_0_0_0_0)) (View.readAt_rep_full _ _ inb_S1x1x1536_S1x1x1536_0_0_0))
        (View.readAt_rep_full _ _ inb_S1x1x768x2048_S1x1x768x2048_0_0_0_0))) (View.readAt_rep_full _ _ inb_S1x1x2048_S1x1x2048_0_0_0)
  · have h2 : k0_cond2 i (count T1) = 1#1 := (cond_iff _ _).2 h1
    unfold leaves
    rw [if_neg h1]
    unfold count at h1 h2
    sl_exec! (disch := first | (guard_target = ¬(k0_cond1 _ _ = _); exact h1) | (guard_target = k0_cond2 _ _ = _; exact h2))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    iexists _; isplitr; swap
    · iexact HO5
    · ipureintro
      exact left_block _ _ _ _

end Cert.Kernel2Ideal.Hand

end
-- ==== Proof.FfnRun.lean ====
module

public import proofs.«01_k».proof.Proof.FfnBody
public import Idealize.ShloMosaic.Lib.Pipeline.Frame
public import Idealize.ShloMosaic.Lib.Pipeline.TableIdle
public import Idealize.ShloMosaic.Lib.StableHlo.Run
public import Idealize.ShloMosaic.Adequacy
public import Idealize.ShloMosaic.Init

/-! # The launch of the feed-forward call: its tables, its blocks, and the array it leaves -/

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3 ix4)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The tables -/

/-- The expert whose matrices block `b` is multiplied by. -/
def word (c : Dev nD) (b : Fin 292) : BitVec 32 := m ((c : Thread nD τ).loc main_arg0) (ix1 b)

/-- What the call asks of its table: experts, of which there are 32. -/
def Good : Prop := ∀ c b, (word m c b).toNat < 32

/-- The tables' contents when the call starts. -/
def pf : pre0.Contents (Elt F) := fun j => m (((0 : Dev nD) : Thread nD τ).loc (pre0.ref j))

/-- A grid point's coordinate as a block number. -/
def blk (i : grid0.Coords) : Fin 292 := i 0

theorem coord_nat (i : grid0.Coords) : (BitVec.ofNat 32 (i 0).val).toNat = (blk i).val := by
  have h : (i 0).val < 292 := (blk i).isLt
  rw [BitVec.toNat_ofNat]
  exact Nat.mod_eq_of_lt (by omega)

theorem at_word (off : Fin 1 → ℕ) (i : grid0.Coords) (hv : off 0 = (blk i).val) (inb : ∀ a, off a + S1.size a ≤ S292.size a) (h1 : S1.numel = 1) :
    (pf m).at 0 (Rect.unit (s := S292) off S1.size inb) h1 = word m 0 (blk i) := by
  unfold Pipeline.Prefetch.Contents.at pf word
  refine congrArg (m (((0 : Dev nD) : Thread nD τ).loc main_arg0)) (funext fun (a : Fin 1) => ?_)
  obtain rfl : a = 0 := Subsingleton.elim _ _
  apply Fin.ext
  show off 0 + 1 * 0 = (blk i).val
  omega

theorem map1 (i : grid0.Coords) : cc0_transform_1 k0_off1_inb numel1_S1 (pf m) i = ![0, (word m 0 (blk i)).toNat, 0, 0] :=
  congrArg (fun w : BitVec 32 => (![0, w.toNat, 0, 0] : Fin 4 → ℕ)) (at_word m (k0_off1 i) i (coord_nat i) (k0_off1_inb i) numel1_S1)
theorem map2 (i : grid0.Coords) : cc0_transform_2 k0_off1_inb numel1_S1 (pf m) i = ![(word m 0 (blk i)).toNat, 0, 0] :=
  congrArg (fun w : BitVec 32 => (![w.toNat, 0, 0] : Fin 3 → ℕ)) (at_word m (k0_off1 i) i (coord_nat i) (k0_off1_inb i) numel1_S1)
theorem map3 (i : grid0.Coords) : cc0_transform_3 k0_off1_inb numel1_S1 (pf m) i = ![0, (word m 0 (blk i)).toNat, 0, 0] :=
  congrArg (fun w : BitVec 32 => (![0, w.toNat, 0, 0] : Fin 4 → ℕ)) (at_word m (k0_off1 i) i (coord_nat i) (k0_off1_inb i) numel1_S1)
theorem map4 (i : grid0.Coords) : cc0_transform_4 k0_off1_inb numel1_S1 (pf m) i = ![(word m 0 (blk i)).toNat, 0, 0] :=
  congrArg (fun w : BitVec 32 => (![w.toNat, 0, 0] : Fin 3 → ℕ)) (at_word m (k0_off1 i) i (coord_nat i) (k0_off1_inb i) numel1_S1)
theorem map0 (i : grid0.Coords) : cc0_transform_0 i = ![(blk i).val, 0] := by
  unfold cc0_transform_0
  dsimp only
  rw [coord_nat]; rfl
theorem map5 (i : grid0.Coords) : cc0_transform_5 i = ![(blk i).val, 0] := by
  unfold cc0_transform_5
  dsimp only
  rw [coord_nat]; rfl

theorem ok (hg : Good m) : ok0 (pf m) := by
  refine ⟨fun i => ⟨?_, .inl rfl⟩, fun i => ⟨?_, .inl rfl⟩, fun i => ⟨?_, .inl rfl⟩, fun i => ⟨?_, .inl rfl⟩⟩ <;>
    have h := hg 0 (blk i)
  · rw [map1]; intro (a : Fin 4)
    match a with
    | 0 => show (0 + 1) * 1 ≤ 4; omega
    | 1 => show ((word m 0 (blk i)).toNat + 1) * 1 ≤ 32; omega
    | 2 => show (0 + 1) * 2048 ≤ 2048; omega
    | 3 => show (0 + 1) * 1536 ≤ 1536; omega
  · rw [map2]; intro (a : Fin 3)
    match a with
    | 0 => show ((word m 0 (blk i)).toNat + 1) * 1 ≤ 32; omega
    | 1 => show (0 + 1) * 1 ≤ 1; omega
    | 2 => show (0 + 1) * 1536 ≤ 1536; omega
  · rw [map3]; intro (a : Fin 4)
    match a with
    | 0 => show (0 + 1) * 1 ≤ 4; omega
    | 1 => show ((word m 0 (blk i)).toNat + 1) * 1 ≤ 32; omega
    | 2 => show (0 + 1) * 768 ≤ 768; omega
    | 3 => show (0 + 1) * 2048 ≤ 2048; omega
  · rw [map4]; intro (a : Fin 3)
    match a with
    | 0 => show ((word m 0 (blk i)).toNat + 1) * 1 ≤ 32; omega
    | 1 => show (0 + 1) * 1 ≤ 1; omega
    | 2 => show (0 + 1) * 2048 ≤ 2048; omega

variable (hg : Good m)

/-- The pipeline at these tables. -/
def adm : (pcfg0 (F := F)).Adm := ⟨pf m, ok m hg⟩
abbrev cfgA : Cfg sig Λ₀ := cfg0 (F := F) (adm m hg)
abbrev pcs : Fin 1 → Cfg sig Λ₀ := Pipeline.pin (pcfgs (F := F)) fun _ => adm m hg
abbrev crd (t : Fin (cfgA m hg).N) : (cfgA m hg).grid.Coords := (cfgA m hg).grid.coords t

/-- The buffers when the call starts, the two biases reshaped. -/
abbrev V (c : Dev nD) (b : Ref sig .tc) : Buf (Elt F) ((c : Thread nD τ).loc b) := StableHlo.after hostOps0 (fun b => m (c, b)) b

theorem V_arg0 (c : Dev nD) : V m c main_arg0 = m ((c : Thread nD τ).loc main_arg0) := by
  unfold V hostOps0
  after_results <;> rfl
theorem V_arg1 (c : Dev nD) : V m c main_arg1 = m ((c : Thread nD τ).loc main_arg1) := by
  unfold V hostOps0
  after_results <;> rfl
theorem V_arg2 (c : Dev nD) : V m c main_arg2 = m ((c : Thread nD τ).loc main_arg2) := by
  unfold V hostOps0
  after_results <;> rfl
theorem V_arg3 (c : Dev nD) : V m c main_arg3 = m ((c : Thread nD τ).loc main_arg3) := by
  unfold V hostOps0
  after_results <;> rfl
theorem V_arg4 (c : Dev nD) : V m c main_arg4 = m ((c : Thread nD τ).loc main_arg4) := by
  unfold V hostOps0
  after_results <;> rfl
theorem V_arg5 (c : Dev nD) : V m c main_arg5 = m ((c : Thread nD τ).loc main_arg5) := by
  unfold V hostOps0
  after_results <;> rfl
theorem V_arg6 (c : Dev nD) : V m c main_arg6 = m ((c : Thread nD τ).loc main_arg6) := by
  unfold V hostOps0
  after_results <;> rfl
theorem V_v0 (c : Dev nD) : V m c main_v0 = (shapeCast S32x1x1536 (m ((c : Thread nD τ).loc main_arg4) : S32x1536.Idx → F .f32) shapeCasts_S32x1536_S32x1x1536 : S32x1x1536.Idx → F .f32) := by
  unfold V hostOps0
  after_results <;> rfl
theorem V_v1 (c : Dev nD) : V m c main_v1 = (shapeCast S32x1x2048 (m ((c : Thread nD τ).loc main_arg6) : S32x2048.Idx → F .f32) shapeCasts_S32x2048_S32x1x2048 : S32x1x2048.Idx → F .f32) := by
  unfold V hostOps0
  after_results <;> rfl

theorem V_pre (c : Dev nD) (j : Fin 2) : V m c (pre0.ref j) = (adm m hg).1 j := by
  obtain rfl : c = 0 := Subsingleton.elim _ _
  match j with
  | 0 => exact V_arg0 m 0
  | 1 => exact V_arg1 m 0

/-! ## The blocks -/

abbrev ms0 (t : Fin (cfgA m hg).N) : Memref sig .tc .vmem S256x2048 .f32 := spec0_0.stage ((cfgA m hg).slots t (0 : Fin 6))
abbrev ms1 (t : Fin (cfgA m hg).N) : Memref sig .tc .vmem S1x1x2048x1536 .f32 := spec0_1.stage ((cfgA m hg).slots t (1 : Fin 6))
abbrev ms2 (t : Fin (cfgA m hg).N) : Memref sig .tc .vmem S1x1x1536 .f32 := spec0_2.stage ((cfgA m hg).slots t (2 : Fin 6))
abbrev ms3 (t : Fin (cfgA m hg).N) : Memref sig .tc .vmem S1x1x768x2048 .f32 := spec0_3.stage ((cfgA m hg).slots t (3 : Fin 6))
abbrev ms4 (t : Fin (cfgA m hg).N) : Memref sig .tc .vmem S1x1x2048 .f32 := spec0_4.stage ((cfgA m hg).slots t (4 : Fin 6))
abbrev ms5 (t : Fin (cfgA m hg).N) : Memref sig .tc .vmem S256x2048 .f32 := spec0_5.stage ((cfgA m hg).slots t (5 : Fin 6))
abbrev hs0 (t : Fin (cfgA m hg).N) : (ms0 m hg t).IsWhole := hstage0_0 (((cfgA m hg).slots t (0 : Fin 6)).cast nbuf0_0)
abbrev hs1 (t : Fin (cfgA m hg).N) : (ms1 m hg t).IsWhole := hstage0_1 (((cfgA m hg).slots t (1 : Fin 6)).cast nbuf0_1)
abbrev hs2 (t : Fin (cfgA m hg).N) : (ms2 m hg t).IsWhole := hstage0_2 (((cfgA m hg).slots t (2 : Fin 6)).cast nbuf0_2)
abbrev hs3 (t : Fin (cfgA m hg).N) : (ms3 m hg t).IsWhole := hstage0_3 (((cfgA m hg).slots t (3 : Fin 6)).cast nbuf0_3)
abbrev hs4 (t : Fin (cfgA m hg).N) : (ms4 m hg t).IsWhole := hstage0_4 (((cfgA m hg).slots t (4 : Fin 6)).cast nbuf0_4)
abbrev hs5 (t : Fin (cfgA m hg).N) : (ms5 m hg t).IsWhole := hstage0_5 (((cfgA m hg).slots t (5 : Fin 6)).cast nbuf0_5)

/-- Window `w`'s block at point `t`, read off its array. -/
def iblk (c : Dev nD) (w : Fin (cfgA m hg).W) (t : Fin (cfgA m hg).N) : (((cfgA m hg).win w).xblock (crd m hg t)).Idx → Elt F ((cfgA m hg).win w).elt :=
  (((cfgA m hg).win w).blk t).view.read (Elt F) (V m c (Pipeline.arrRef spec0 w))

/-- What point `t` leaves in the result's block. -/
def oblk (c : Dev nD) (t : Fin (cfgA m hg).N) : S256x2048.Idx → Elt F .f32 :=
  leaves (crd m hg t) (pf m 1) (iblk m hg c (0 : Fin 6) t) (iblk m hg c (1 : Fin 6) t) (iblk m hg c (2 : Fin 6) t) (iblk m hg c (3 : Fin 6) t) (iblk m hg c (4 : Fin 6) t)

/-- The proof data: the arrays as the call finds them, each input's block left in place, the result's block as the body leaves it. -/
def dats (_ : Fin 1) (c : Dev nD) : Dat τ (Elt F) Unit ℕ (UR sig nD τ) ℕ (cfgA m hg) c where
  A w := V m c (Pipeline.arrRef spec0 w)
  after w t := match w with
    | ⟨0, _⟩ => iblk m hg c (0 : Fin 6) t
    | ⟨1, _⟩ => iblk m hg c (1 : Fin 6) t
    | ⟨2, _⟩ => iblk m hg c (2 : Fin 6) t
    | ⟨3, _⟩ => iblk m hg c (3 : Fin 6) t
    | ⟨4, _⟩ => iblk m hg c (4 : Fin 6) t
    | ⟨5, _⟩ => oblk m hg c t
  Φ _ := iprop(Pipeline.ΦA spec0 c ∗ Pipeline.ΦT pre0 (pf m) c)
  q _ := fullShare
  owed _ := 0

theorem after0 (c : Dev nD) (t : Fin (cfgA m hg).N) : (dats m hg 0 c).after (0 : Fin 6) t = iblk m hg c (0 : Fin 6) t := rfl
theorem after1 (c : Dev nD) (t : Fin (cfgA m hg).N) : (dats m hg 0 c).after (1 : Fin 6) t = iblk m hg c (1 : Fin 6) t := rfl
theorem after2 (c : Dev nD) (t : Fin (cfgA m hg).N) : (dats m hg 0 c).after (2 : Fin 6) t = iblk m hg c (2 : Fin 6) t := rfl
theorem after3 (c : Dev nD) (t : Fin (cfgA m hg).N) : (dats m hg 0 c).after (3 : Fin 6) t = iblk m hg c (3 : Fin 6) t := rfl
theorem after4 (c : Dev nD) (t : Fin (cfgA m hg).N) : (dats m hg 0 c).after (4 : Fin 6) t = iblk m hg c (4 : Fin 6) t := rfl
theorem after5 (c : Dev nD) (t : Fin (cfgA m hg).N) : (dats m hg 0 c).after (5 : Fin 6) t = oblk m hg c t := rfl

theorem before0 (c : Dev nD) (t : Fin (cfgA m hg).N) (d) : (dats m hg 0 c).before (0 : Fin 6) t d = iblk m hg c (0 : Fin 6) t :=
  ((dats m hg 0 c).before_in_eq_fetched (0 : Fin 6) rfl (fun _ => rfl) (fun _ _ _ => rfl) (fun t => by rw [after0]; unfold Dat.blockOf iblk; rfl) t d).trans
    (by unfold Dat.fetched Dat.blockOf iblk; rfl)
theorem before1 (c : Dev nD) (t : Fin (cfgA m hg).N) (d) : (dats m hg 0 c).before (1 : Fin 6) t d = iblk m hg c (1 : Fin 6) t :=
  ((dats m hg 0 c).before_in_eq_fetched (1 : Fin 6) rfl (fun _ => rfl) (fun _ _ _ => rfl) (fun t => by rw [after1]; unfold Dat.blockOf iblk; rfl) t d).trans
    (by unfold Dat.fetched Dat.blockOf iblk; rfl)
theorem before2 (c : Dev nD) (t : Fin (cfgA m hg).N) (d) : (dats m hg 0 c).before (2 : Fin 6) t d = iblk m hg c (2 : Fin 6) t :=
  ((dats m hg 0 c).before_in_eq_fetched (2 : Fin 6) rfl (fun _ => rfl) (fun _ _ _ => rfl) (fun t => by rw [after2]; unfold Dat.blockOf iblk; rfl) t d).trans
    (by unfold Dat.fetched Dat.blockOf iblk; rfl)
theorem before3 (c : Dev nD) (t : Fin (cfgA m hg).N) (d) : (dats m hg 0 c).before (3 : Fin 6) t d = iblk m hg c (3 : Fin 6) t :=
  ((dats m hg 0 c).before_in_eq_fetched (3 : Fin 6) rfl (fun _ => rfl) (fun _ _ _ => rfl) (fun t => by rw [after3]; unfold Dat.blockOf iblk; rfl) t d).trans
    (by unfold Dat.fetched Dat.blockOf iblk; rfl)
theorem before4 (c : Dev nD) (t : Fin (cfgA m hg).N) (d) : (dats m hg 0 c).before (4 : Fin 6) t d = iblk m hg c (4 : Fin 6) t :=
  ((dats m hg 0 c).before_in_eq_fetched (4 : Fin 6) rfl (fun _ => rfl) (fun _ _ _ => rfl) (fun t => by rw [after4]; unfold Dat.blockOf iblk; rfl) t d).trans
    (by unfold Dat.fetched Dat.blockOf iblk; rfl)

/-- The result's block is written at every point. -/
theorem live (t : Fin (cfgA m hg).N) : (cfgA m hg).idle (5 : Fin 6) ((cfgA m hg).grid.coords t) = false := by
  show (!(k0_cond1 (crd m hg t) ((pf m).atD 1 ![0]) == 1#1) && !(k0_cond2 (crd m hg t) ((pf m).atD 1 ![0]) == 1#1)) = false
  generalize (pf m).atD 1 ![0] = w
  have h := cond_iff (crd m hg t) w
  by_cases h1 : k0_cond1 (crd m hg t) w = 1#1
  · simp [h1]
  · simp [h.2 h1]

/-- The tables, one by one. -/
theorem tables_eq (c : Dev nD) :
    (Pipeline.ΦT (U := UR sig nD τ) pre0 (pf m) c : sProp 𝕄)
      = iprop((tab0.view.loc (c : Thread nD τ) ↦{fullShare.right} (pf m 0)) ∗ (tab1.view.loc (c : Thread nD τ) ↦{fullShare.right} (pf m 1))) := by
  unfold Pipeline.ΦT Pipeline.prefHeld
  rw [show (Finset.univ : Finset (Fin 2)) = insert (0 : Fin 2) {(1 : Fin 2)} from by decide, bigSep_insert (by decide), bigSep_singleton]
  rfl

set_option maxHeartbeats 4000000 in
theorem body_obligation (c : Dev nD) : BodyObligation (dats m hg 0 c) (defs₀ (F := F)) Variants.none () Set.univ := fun t => by
  rw [bigSep_W0, bigSep_W0]
  rewrite [live m hg t]
  simp only [before0, before1, before2, before3, before4, after0, after1, after2, after3, after4, after5]
  rewrite [show (dats m hg 0 c).Φ t.succ = iprop(Pipeline.ΦA spec0 c ∗ Pipeline.ΦT pre0 (pf m) c) from rfl,
    show (dats m hg 0 c).Φ t.castSucc = iprop(Pipeline.ΦA spec0 c ∗ Pipeline.ΦT pre0 (pf m) c) from rfl,
    show (dats m hg 0 c).owesAt () t.succ = (dats m hg 0 c).owesAt () t.castSucc from rfl]
  rw [tables_eq]
  iintro ⟨⟨HA, HT0, HT1⟩, Ho, ⟨%d0, H0⟩, ⟨%d1, H1⟩, ⟨%d2, H2⟩, ⟨%d3, H3⟩, ⟨%d4, H4⟩, ⟨%d5, H5⟩⟩
  have hb := body_run c (crd m hg t) (ms0 m hg t) (hs0 m hg t) (ms1 m hg t) (hs1 m hg t) (ms2 m hg t) (hs2 m hg t) (ms3 m hg t) (hs3 m hg t) (ms4 m hg t) (hs4 m hg t) (ms5 m hg t) (hs5 m hg t)
    (pf m 0) (pf m 1) (iblk m hg c (0 : Fin 6) t) (iblk m hg c (1 : Fin 6) t) (iblk m hg c (2 : Fin 6) t) (iblk m hg c (3 : Fin 6) t) (iblk m hg c (4 : Fin 6) t)
  iapply (hb _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [HT0]; · iexact HT0
  isplitl [HT1]; · iexact HT1
  isplitl [H5]; · iexists _; iexact H5
  iintro ⟨H0, H1, H2, H3, H4, HT0, HT1, H5⟩
  isplitl [HA HT0 HT1]
  · isplitl [HA]
    · iexact HA
    isplitl [HT0]
    · iexact HT0
    iexact HT1
  isplitl [Ho]; · iexact Ho
  isplitl [H0]
  · iapply owns_of_rep; iexact H0
  isplitl [H1]
  · iapply owns_of_rep; iexact H1
  isplitl [H2]
  · iapply owns_of_rep; iexact H2
  isplitl [H3]
  · iapply owns_of_rep; iexact H3
  isplitl [H4]
  · iapply owns_of_rep; iexact H4
  iexact H5

theorem share_eq (c : Dev nD) (w : Fin (cfgA m hg).W) : (dats m hg 0 c).share w = fullShare := by unfold Dat.share; split <;> rfl

set_option backward.isDefEq.respectTransparency.types false in
set_option maxHeartbeats 4000000 in
/-- The launch: it ends, with every array as the points leave it. -/
theorem run_raw : θ_run (defs (F := F)) (onTc (τ := τ) (main (F := F))) (s₀ m ρ)
    (fun r => Pipeline.FramePost (pcs m hg) (dats m hg) 0 (V m) r ∧ r.2.sem = fun _ => 0) :=
  Pipeline.θ_run_frameP pcfgs (fun _ => adm m hg) (dats m hg) 0 launch0 defs₀ Variants.none m ρ main
    (hbody := fun c => (body_obligation m hg c).loose) (hshare := share_eq m hg) (howed := fun _ _ => rfl)
    (V := V m)
    (hmain := Pipeline.hmainP_prefix pcfgs 0 defs₀ Variants.none m main hostOps0 hostOps0_sub ⟨rfl, rfl⟩ main_chain)
    (hA := fun _ _ => rfl) (hpf := V_pre m hg) (hΦ := fun _ _ => rfl)
    (Q' := _) (hQ' := fun _ h => h)

end Cert.Kernel2Ideal.Hand

end
-- ==== Proof.FfnUnit.lean ====
module

public import proofs.«01_k».proof.Proof.FfnBody
public import Idealize.ShloMosaic.Lib.MatmulPlain
public import Idealize.ShloMosaic.Lib.IdealHost
public import Idealize.ShloMosaic.Lib.Pipeline.Value
public import Idealize.ShloMosaic.Lib.ValueIdx
public import Idealize.ShloMosaic.PureOps.Ideal.Laws

/-! # One expert's feed-forward of one row, over the extended reals -/

@[expose] public section

set_option maxRecDepth 16384

noncomputable section

namespace Cert.Ffn

open Idealize.ShloMosaic
open scoped BigOperators

/-- One column of the first product: a row against a column of the matrix, plus the bias. -/
def lin {K N : ℕ} (x : Fin K → EReal) (w : Fin K → Fin N → EReal) (b : Fin N → EReal) (n : Fin N) : EReal :=
  (∑ k : Fin K, x k * w k n) + b n

/-- The clamped gated unit: gate `g` capped at 7, times the logistic of 1.702 times it, times the linear part clamped to ±7 plus one. -/
def act (g l : EReal) : EReal :=
  min g (Ideal.ofBits .f32 0x40E00000#32)
      * Ideal.div (Ideal.ofBits .f32 0x3F800000#32)
          (Ideal.ofBits .f32 0x3F800000#32 + Ideal.exp (-(Ideal.ofBits .f32 0x3FD9DB23#32 * min g (Ideal.ofBits .f32 0x40E00000#32))))
    * (min (Ideal.ofBits .f32 0x40E00000#32) (max (Ideal.ofBits .f32 0xC0E00000#32) l) + Ideal.ofBits .f32 0x3F800000#32)

/-- The first half of the columns are gates, the second half linear parts. -/
def gateCol (j : Fin 768) : Fin 1536 := ⟨j.val, by omega⟩
def linCol (j : Fin 768) : Fin 1536 := ⟨768 + j.val, by omega⟩

/-- The feed-forward of one row, at one column. -/
def ffn (x : Fin 2048 → EReal) (wg : Fin 2048 → Fin 1536 → EReal) (bg : Fin 1536 → EReal) (wd : Fin 768 → Fin 2048 → EReal) (bd : Fin 2048 → EReal)
    (n : Fin 2048) : EReal :=
  lin (fun j => act (lin x wg bg (gateCol j)) (lin x wg bg (linCol j))) wd bd n

theorem scale_neg : Ideal.ofBits .f32 0xBFD9DB23#32 = -Ideal.ofBits .f32 0x3FD9DB23#32 := by
  simp [Ideal.ofBits, Ideal.ieee, -EReal.coe_mul, -EReal.coe_neg]
  norm_num [← EReal.coe_neg]

theorem zero_eq : Ideal.ofBits .f32 0x00000000#32 = 0 := by simp [Ideal.ofBits, Ideal.ieee]

end Cert.Ffn

namespace Cert.Kernel2Ideal.Hand

open Cert.Kernel2Ideal Cert.Kernel2Ideal.Gen Cert.Ffn
open Idealize.ShloMosaic
open Idealize.ShloMosaic.ValueIdx (ix1 ix2 ix3 ix4)
open scoped BigOperators

/-- The sum before the gate, at row `r` and column `n`. -/
def pre (x : FVec Ideal S256x2048 .f32) (wg : FVec Ideal S1x1x2048x1536 .f32) (bg : FVec Ideal S1x1x1536 .f32) : FVec Ideal S256x1536 .f32 :=
  addf (matmul dot_S256x2048_S2048x1536_S256x1536_1_0_0_1_n_n none (truncf .bf16 x bitsLt_bf16_f32)
      (truncf .bf16 (shapeCast S2048x1536 wg shapeCasts_S1x1x2048x1536_S2048x1536) bitsLt_bf16_f32) (constant S256x1536 .f32 0x00000000#32))
    (broadcastTo S256x1536 (shapeCast S1x1536 bg shapeCasts_S1x1x1536_S1x1536) broadcasts_S1x1536_S256x1536)

theorem cast_wg (wg : FVec Ideal S1x1x2048x1536 .f32) (k : Fin 2048) (n : Fin 1536) :
    shapeCast S2048x1536 wg shapeCasts_S1x1x2048x1536_S2048x1536 (ix2 k n) = wg (ix4 (0 : Fin 1) (0 : Fin 1) k n) :=
  shapeCast_apply wg _ _ _ (by
    rw [Shape.rowMajor_val_two, Shape.rowMajor_val_four]
    show (((0 * 1 + 0) * 2048 + k.val) * 1536 + n.val) = k.val * 1536 + n.val
    omega)
theorem cast_wd (wd : FVec Ideal S1x1x768x2048 .f32) (k : Fin 768) (n : Fin 2048) :
    shapeCast S768x2048 wd shapeCasts_S1x1x768x2048_S768x2048 (ix2 k n) = wd (ix4 (0 : Fin 1) (0 : Fin 1) k n) :=
  shapeCast_apply wd _ _ _ (by
    rw [Shape.rowMajor_val_two, Shape.rowMajor_val_four]
    show (((0 * 1 + 0) * 768 + k.val) * 2048 + n.val) = k.val * 2048 + n.val
    omega)
theorem row_bg (bg : FVec Ideal S1x1x1536 .f32) (r : Fin 256) (n : Fin 1536) :
    broadcastTo S256x1536 (shapeCast S1x1536 bg shapeCasts_S1x1x1536_S1x1536) broadcasts_S1x1536_S256x1536 (ix2 r n) = bg (ix3 (0 : Fin 1) (0 : Fin 1) n) := by
  refine (broadcastTo_apply _ _ _ (ix2 (0 : Fin 1) n) fun (a : Fin 2) => ?_).trans (shapeCast_apply bg _ _ _ ?_)
  · match a with
    | ⟨0, _⟩ => rfl
    | ⟨1, _⟩ => rfl
  · rw [Shape.rowMajor_val_two, Shape.rowMajor_val_three]
    show ((0 * 1 + 0) * 1536 + n.val) = 0 * 1536 + n.val
    omega
theorem row_bd (bd : FVec Ideal S1x1x2048 .f32) (r : Fin 256) (n : Fin 2048) :
    broadcastTo S256x2048 (shapeCast S1x2048 bd shapeCasts_S1x1x2048_S1x2048) broadcasts_S1x2048_S256x2048 (ix2 r n) = bd (ix3 (0 : Fin 1) (0 : Fin 1) n) := by
  refine (broadcastTo_apply _ _ _ (ix2 (0 : Fin 1) n) fun (a : Fin 2) => ?_).trans (shapeCast_apply bd _ _ _ ?_)
  · match a with
    | ⟨0, _⟩ => rfl
    | ⟨1, _⟩ => rfl
  · rw [Shape.rowMajor_val_two, Shape.rowMajor_val_three]
    show ((0 * 1 + 0) * 2048 + n.val) = 0 * 2048 + n.val
    omega

theorem pre_apply (x : FVec Ideal S256x2048 .f32) (wg : FVec Ideal S1x1x2048x1536 .f32) (bg : FVec Ideal S1x1x1536 .f32) (r : Fin 256) (n : Fin 1536) :
    pre x wg bg (ix2 r n)
      = lin (fun k => x (ix2 r k)) (fun k n => wg (ix4 (0 : Fin 1) (0 : Fin 1) k n)) (fun n => bg (ix3 (0 : Fin 1) (0 : Fin 1) n)) n := by
  unfold lin
  refine congr (congrArg HAdd.hAdd ?_) (row_bg bg r n)
  refine (Ideal.matmul_plain_apply (M := 256) (K := 2048) (N := 1536) none _ _ _ r n).trans ?_
  refine (congrArg (· + _) zero_eq).trans ((zero_add _).trans ?_)
  exact Finset.sum_congr rfl fun k _ => congrArg (x (ix2 r k) * ·) (cast_wg wg k n)

/-- The gated part, an array. -/
def gated (p : FVec Ideal S256x1536 .f32) : FVec Ideal S256x768 .f32 :=
  mulf (mulf (minimumf (extractStridedSlice S256x768 ![0, 0] p slices_S256x1536_o0_0_S256x768) (broadcast S256x768 (Scalar.ofBits .f32 0x40E00000#32)))
      (divf (broadcast S256x768 (Scalar.ofBits .f32 0x3F800000#32))
        (addf (broadcast S256x768 (Scalar.ofBits .f32 0x3F800000#32))
          (exp (mulf (broadcast S256x768 (Scalar.ofBits .f32 0xBFD9DB23#32))
            (minimumf (extractStridedSlice S256x768 ![0, 0] p slices_S256x1536_o0_0_S256x768) (broadcast S256x768 (Scalar.ofBits .f32 0x40E00000#32))))))))
    (addf (minimumf (broadcast S256x768 (Scalar.ofBits .f32 0x40E00000#32))
        (maximumf (broadcast S256x768 (Scalar.ofBits .f32 0xC0E00000#32)) (extractStridedSlice S256x768 ![0, 768] p slices_S256x1536_o0_768_S256x768)))
      (broadcast S256x768 (Scalar.ofBits .f32 0x3F800000#32)))

theorem gated_apply (p : FVec Ideal S256x1536 .f32) (r : Fin 256) (j : Fin 768) :
    gated p (ix2 r j) = act (p (ix2 r (gateCol j))) (p (ix2 r (linCol j))) := by
  have e1 : extractStridedSlice S256x768 ![0, 0] p slices_S256x1536_o0_0_S256x768 (ix2 r j) = p (ix2 r (gateCol j)) :=
    extractStridedSlice_apply _ p _ _ _ fun (a : Fin 2) => by
      match a with
      | ⟨0, _⟩ => show r.val = 0 + r.val; omega
      | ⟨1, _⟩ => show j.val = 0 + j.val; omega
  have e2 : extractStridedSlice S256x768 ![0, 768] p slices_S256x1536_o0_768_S256x768 (ix2 r j) = p (ix2 r (linCol j)) :=
    extractStridedSlice_apply _ p _ _ _ fun (a : Fin 2) => by
      match a with
      | ⟨0, _⟩ => show r.val = 0 + r.val; omega
      | ⟨1, _⟩ => rfl
  rw [← e1, ← e2]
  unfold act
  rw [← EReal.neg_mul, ← scale_neg]
  rfl

theorem unit_apply (x : FVec Ideal S256x2048 .f32) (wg : FVec Ideal S1x1x2048x1536 .f32) (bg : FVec Ideal S1x1x1536 .f32)
    (wd : FVec Ideal S1x1x768x2048 .f32) (bd : FVec Ideal S1x1x2048 .f32) (r : Fin 256) (n : Fin 2048) :
    unit x wg bg wd bd (ix2 r n)
      = ffn (fun k => x (ix2 r k)) (fun k n => wg (ix4 (0 : Fin 1) (0 : Fin 1) k n)) (fun n => bg (ix3 (0 : Fin 1) (0 : Fin 1) n))
          (fun k n => wd (ix4 (0 : Fin 1) (0 : Fin 1) k n)) (fun n => bd (ix3 (0 : Fin 1) (0 : Fin 1) n)) n := by
  have e : unit x wg bg wd bd = addf (matmul dot_S256x768_S768x2048_S256x2048_1_0_0_1_n_n none (truncf .bf16 (gated (pre x wg bg)) bitsLt_bf16_f32)
      (truncf .bf16 (shapeCast S768x2048 wd shapeCasts_S1x1x768x2048_S768x2048) bitsLt_bf16_f32) (constant S256x2048 .f32 0x00000000#32))
    (broadcastTo S256x2048 (shapeCast S1x2048 bd shapeCasts_S1x1x2048_S1x2048) broadcasts_S1x2048_S256x2048) := rfl
  rw [e]
  unfold ffn
  conv_rhs => unfold lin
  refine congr (congrArg HAdd.hAdd ?_) (row_bd bd r n)
  refine (Ideal.matmul_plain_apply (M := 256) (K := 768) (N := 2048) none _ _ _ r n).trans ?_
  refine (congrArg (· + _) zero_eq).trans ((zero_add _).trans ?_)
  refine Finset.sum_congr rfl fun k _ => congr (congrArg HMul.hMul ?_) (cast_wd wd k n)
  exact (gated_apply (pre x wg bg) r k).trans (congr (congrArg act (pre_apply x wg bg r (gateCol k))) (pre_apply x wg bg r (linCol k)))

end Cert.Kernel2Ideal.Hand

end
-- ==== Proof.FfnFinal.lean ====
module

public import proofs.«01_k».proof.Proof.FfnRun
public import proofs.«01_k».proof.Proof.FfnUnit
public import Idealize.ShloMosaic.Lib.Pipeline.ValueKit.Geometry
public import Idealize.ShloMosaic.Lib.Pipeline.Covers

/-! # The array the feed-forward call leaves, row by row -/

@[expose] public section

set_option maxRecDepth 16384

noncomputable section

namespace Cert.Kernel2Ideal.Hand

open Cert.Kernel2Ideal Cert.Kernel2Ideal.Gen Cert.Ffn
open Idealize.ShloMosaic Idealize.ShloMosaic.TcCoe
open Idealize.SL Idealize.SL.Sem
open Idealize.ShloMosaic.Pipeline (Dat Cfg Window)
open Idealize.ShloMosaic.ValueIdx (ix1 ix2 ix3 ix4 eq_ix2)
open scoped BigOperators

variable {F : FTy → Type} [FloatOps F]

theorem rest_main_arg0 : main_arg0 ∈ Pipeline.restRefs sig spec0 := by decide
theorem rest_main_arg1 : main_arg1 ∈ Pipeline.restRefs sig spec0 := by decide
theorem rest_main_arg4 : main_arg4 ∈ Pipeline.restRefs sig spec0 := by decide
theorem rest_main_arg6 : main_arg6 ∈ Pipeline.restRefs sig spec0 := by decide

/-- The launch, read at the arguments. -/
theorem run_args (m : (ℓ : Loc nD τ sig) → Buf (Elt F) ℓ) (ρ : Dev nD → PrngReg) (hg : Good m) :
    θ_run (defs (F := F)) (onTc (τ := τ) (main (F := F))) (s₀ m ρ) (fun r => (∀ c : Dev nD,
      r.2.mem ((c.tc : Thread nD τ).loc main_v2) = (dats m hg 0 c).arrAt (5 : Fin 6) (cfgA m hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨
      (h.1 c).1 (5 : Fin 6),
      ((h.1 c).2 main_arg0 rest_main_arg0).trans (V_arg0 m c),
      ((h.1 c).2 main_arg1 rest_main_arg1).trans (V_arg1 m c),
      ((h.1 c).1 (0 : Fin 6)).trans (((dats m hg 0 c).arrAt_in (0 : Fin 6) rfl _).trans (V_arg2 m c)),
      ((h.1 c).1 (1 : Fin 6)).trans (((dats m hg 0 c).arrAt_in (1 : Fin 6) rfl _).trans (V_arg3 m c)),
      ((h.1 c).2 main_arg4 rest_main_arg4).trans (V_arg4 m c),
      ((h.1 c).1 (3 : Fin 6)).trans (((dats m hg 0 c).arrAt_in (3 : Fin 6) rfl _).trans (V_arg5 m c)),
      ((h.1 c).2 main_arg6 rest_main_arg6).trans (V_arg6 m c)⟩, h.2⟩) (run_raw m ρ hg)

/-! ## The result over the extended reals -/

variable (m : (ℓ : Loc nD τ sig) → Buf (Elt Ideal) ℓ) (hg : Good m)

/-- A block's expert. -/
def expert (c : Dev nD) (b : Fin 292) : Fin 32 := ⟨(word m c b).toNat, hg c b⟩

/-- Row `r` of block `b`, among all the rows. -/
def rowOf (b : Fin 292) (r : Fin 256) : Fin 74752 := ⟨b.val * 256 + r.val, by omega⟩

/-- The arguments as arrays. -/
def argX (c : Dev nD) : S74752x2048.Idx → EReal := m ((c.tc : Thread nD τ).loc main_arg2)
def argWg (c : Dev nD) : S4x32x2048x1536.Idx → EReal := m ((c.tc : Thread nD τ).loc main_arg3)
def argBg (c : Dev nD) : S32x1536.Idx → EReal := m ((c.tc : Thread nD τ).loc main_arg4)
def argWd (c : Dev nD) : S4x32x768x2048.Idx → EReal := m ((c.tc : Thread nD τ).loc main_arg5)
def argBd (c : Dev nD) : S32x2048.Idx → EReal := m ((c.tc : Thread nD τ).loc main_arg6)
def used (c : Dev nD) : BitVec 32 := m ((c.tc : Thread nD τ).loc main_arg1) (ix1 (0 : Fin 1))

open Classical in
/-- One element of the result: of row `R`, in block `b`, at column `n`. -/
def elem (c : Dev nD) (b : Fin 292) (R : Fin 74752) (n : Fin 2048) : EReal :=
  if IntOp.cmpi .slt (BitVec.ofNat 32 b.val) (used m c) = 1#1 then
    ffn (fun k => argX m c (ix2 R k)) (fun k n => argWg m c (ix4 (0 : Fin 4) (expert m hg c b) k n)) (fun n => argBg m c (ix2 (expert m hg c b) n))
      (fun k n => argWd m c (ix4 (0 : Fin 4) (expert m hg c b) k n)) (fun n => argBd m c (ix2 (expert m hg c b) n)) n
  else Ideal.ofBits .f32 0x00000000#32

/-- The result. -/
def fin (c : Dev nD) : S74752x2048.Idx → EReal := fun i =>
  elem m hg c (⟨(i 0).val / 256, by have h : (i 0).val < 74752 := (i 0).isLt; omega⟩ : Fin 292) (i 0) (i 1)

theorem iblk0 (c : Dev nD) (t : Fin (cfgA m hg).N) (r : Fin 256) (k : Fin 2048) :
    iblk m hg c (0 : Fin 6) t (ix2 r k) = argX m c (ix2 (rowOf (blk (crd m hg t)) r) k) := by
  unfold iblk argX
  refine Eq.trans (congrFun (V_arg2 m c) _) (congrArg (m ((c.tc : Thread nD τ).loc main_arg2)) (funext fun (a : Fin 2) => Fin.ext ?_))
  refine (Window.rect_emb_val ((cfgA m hg).win (0 : Fin 6)) t (ix2 r k) a rfl).trans ?_
  refine (congrArg (· * _ + _) (congrFun (map0 (crd m hg t)) a)).trans ?_
  match a with
  | ⟨0, _⟩ => rfl
  | ⟨1, _⟩ => show 0 * 2048 + k.val = k.val; omega

theorem iblk1 (c : Dev nD) (t : Fin (cfgA m hg).N) (k : Fin 2048) (n : Fin 1536) :
    iblk m hg c (1 : Fin 6) t (ix4 (0 : Fin 1) (0 : Fin 1) k n) = argWg m c (ix4 (0 : Fin 4) (expert m hg c (blk (crd m hg t))) k n) := by
  obtain rfl : c = 0 := Subsingleton.elim _ _
  unfold iblk argWg
  refine Eq.trans (congrFun (V_arg3 m 0) _) (congrArg (m (((0 : Dev nD).tc : Thread nD τ).loc main_arg3)) (funext fun (a : Fin 4) => Fin.ext ?_))
  refine (Window.rect_emb_val ((cfgA m hg).win (1 : Fin 6)) t (ix4 (0 : Fin 1) (0 : Fin 1) k n) a rfl).trans ?_
  refine (congrArg (· * _ + _) (congrFun (map1 m (crd m hg t)) a)).trans ?_
  match a with
  | ⟨0, _⟩ => rfl
  | ⟨1, _⟩ => show (word m 0 (blk (crd m hg t))).toNat * 1 + 0 = (word m 0 (blk (crd m hg t))).toNat; omega
  | ⟨2, _⟩ => show 0 * 2048 + k.val = k.val; omega
  | ⟨3, _⟩ => show 0 * 1536 + n.val = n.val; omega

theorem iblk3 (c : Dev nD) (t : Fin (cfgA m hg).N) (k : Fin 768) (n : Fin 2048) :
    iblk m hg c (3 : Fin 6) t (ix4 (0 : Fin 1) (0 : Fin 1) k n) = argWd m c (ix4 (0 : Fin 4) (expert m hg c (blk (crd m hg t))) k n) := by
  obtain rfl : c = 0 := Subsingleton.elim _ _
  unfold iblk argWd
  refine Eq.trans (congrFun (V_arg5 m 0) _) (congrArg (m (((0 : Dev nD).tc : Thread nD τ).loc main_arg5)) (funext fun (a : Fin 4) => Fin.ext ?_))
  refine (Window.rect_emb_val ((cfgA m hg).win (3 : Fin 6)) t (ix4 (0 : Fin 1) (0 : Fin 1) k n) a rfl).trans ?_
  refine (congrArg (· * _ + _) (congrFun (map3 m (crd m hg t)) a)).trans ?_
  match a with
  | ⟨0, _⟩ => rfl
  | ⟨1, _⟩ => show (word m 0 (blk (crd m hg t))).toNat * 1 + 0 = (word m 0 (blk (crd m hg t))).toNat; omega
  | ⟨2, _⟩ => show 0 * 768 + k.val = k.val; omega
  | ⟨3, _⟩ => show 0 * 2048 + n.val = n.val; omega

theorem iblk2 (c : Dev nD) (t : Fin (cfgA m hg).N) (n : Fin 1536) :
    iblk m hg c (2 : Fin 6) t (ix3 (0 : Fin 1) (0 : Fin 1) n) = argBg m c (ix2 (expert m hg c (blk (crd m hg t))) n) := by
  obtain rfl : c = 0 := Subsingleton.elim _ _
  unfold iblk argBg
  refine Eq.trans (congrFun (V_v0 m 0) _) (shapeCast_apply _ _ _ _ ?_)
  have e : (((cfgA m hg).win (2 : Fin 6)).blk t).view.emb (ix3 (0 : Fin 1) (0 : Fin 1) n) = (ix3 (expert m hg 0 (blk (crd m hg t))) (0 : Fin 1) n : S32x1x1536.Idx) := by
    refine funext fun (a : Fin 3) => Fin.ext ?_
    refine (Window.rect_emb_val ((cfgA m hg).win (2 : Fin 6)) t (ix3 (0 : Fin 1) (0 : Fin 1) n) a rfl).trans ?_
    refine (congrArg (· * _ + _) (congrFun (map2 m (crd m hg t)) a)).trans ?_
    match a with
    | ⟨0, _⟩ => show (word m 0 (blk (crd m hg t))).toNat * 1 + 0 = (word m 0 (blk (crd m hg t))).toNat; omega
    | ⟨1, _⟩ => rfl
    | ⟨2, _⟩ => show 0 * 1536 + n.val = n.val; omega
  refine Eq.trans ?_ (congrArg (fun j => (S32x1x1536.rowMajor j).val) e).symm
  generalize expert m hg 0 (blk (crd m hg t)) = q
  show (S32x1536.rowMajor (ix2 q n)).val = _
  rw [Shape.rowMajor_val_two, Shape.rowMajor_val_three]
  show q.val * 1536 + n.val = (q.val * 1 + 0) * 1536 + n.val
  omega

theorem iblk4 (c : Dev nD) (t : Fin (cfgA m hg).N) (n : Fin 2048) :
    iblk m hg c (4 : Fin 6) t (ix3 (0 : Fin 1) (0 : Fin 1) n) = argBd m c (ix2 (expert m hg c (blk (crd m hg t))) n) := by
  obtain rfl : c = 0 := Subsingleton.elim _ _
  unfold iblk argBd
  refine Eq.trans (congrFun (V_v1 m 0) _) (shapeCast_apply _ _ _ _ ?_)
  have e : (((cfgA m hg).win (4 : Fin 6)).blk t).view.emb (ix3 (0 : Fin 1) (0 : Fin 1) n) = (ix3 (expert m hg 0 (blk (crd m hg t))) (0 : Fin 1) n : S32x1x2048.Idx) := by
    refine funext fun (a : Fin 3) => Fin.ext ?_
    refine (Window.rect_emb_val ((cfgA m hg).win (4 : Fin 6)) t (ix3 (0 : Fin 1) (0 : Fin 1) n) a rfl).trans ?_
    refine (congrArg (· * _ + _) (congrFun (map4 m (crd m hg t)) a)).trans ?_
    match a with
    | ⟨0, _⟩ => show (word m 0 (blk (crd m hg t))).toNat * 1 + 0 = (word m 0 (blk (crd m hg t))).toNat; omega
    | ⟨1, _⟩ => rfl
    | ⟨2, _⟩ => show 0 * 2048 + n.val = n.val; omega
  refine Eq.trans ?_ (congrArg (fun j => (S32x1x2048.rowMajor j).val) e).symm
  generalize expert m hg 0 (blk (crd m hg t)) = q
  show (S32x2048.rowMajor (ix2 q n)).val = _
  rw [Shape.rowMajor_val_two, Shape.rowMajor_val_three]
  show q.val * 2048 + n.val = (q.val * 1 + 0) * 2048 + n.val
  omega

theorem count_eq (c : Dev nD) : count (F := Ideal) (pf m 1) = used m c := by
  obtain rfl : c = 0 := Subsingleton.elim _ _
  unfold count used
  refine congrArg (m (((0 : Dev nD).tc : Thread nD τ).loc main_arg1)) (funext fun (a : Fin 1) => ?_)
  obtain rfl : a = 0 := Subsingleton.elim _ _
  rfl

theorem oblk_at (c : Dev nD) (t : Fin (cfgA m hg).N) (r : Fin 256) (n : Fin 2048) :
    oblk m hg c t (ix2 r n) = elem m hg c (blk (crd m hg t)) (rowOf (blk (crd m hg t)) r) n := by
  have hc : k0_cond1 (crd m hg t) (count (F := Ideal) (pf m 1)) = 1#1 ↔ IntOp.cmpi .slt (BitVec.ofNat 32 (blk (crd m hg t)).val) (used m c) = 1#1 := by
    rw [cond1_iff, count_eq m c]
    unfold IntOp.cmpi
    exact (by simp : ∀ b : Bool, b = true ↔ BitVec.ofBool b = 1#1) _
  unfold oblk leaves elem
  by_cases h : k0_cond1 (crd m hg t) (count (F := Ideal) (pf m 1)) = 1#1
  · rw [if_pos h, if_pos (hc.1 h)]
    refine (unit_apply _ _ _ _ _ r n).trans ?_
    congr 1
    · exact funext fun k => iblk0 m hg c t r k
    · exact funext fun k => funext fun n => iblk1 m hg c t k n
    · exact funext fun n => iblk2 m hg c t n
    · exact funext fun k => funext fun n => iblk3 m hg c t k n
    · exact funext fun n => iblk4 m hg c t n
  · rw [if_neg h, if_neg fun h' => h (hc.2 h')]
    rfl

theorem emb5 (t : Fin (cfgA m hg).N) (r : Fin 256) (n : Fin 2048) :
    (((cfgA m hg).win (5 : Fin 6)).blk t).view.emb (ix2 r n) = (ix2 (rowOf (blk (crd m hg t)) r) n : S74752x2048.Idx) := by
  refine funext fun (a : Fin 2) => Fin.ext ?_
  refine (Window.rect_emb_val ((cfgA m hg).win (5 : Fin 6)) t (ix2 r n) a rfl).trans ?_
  refine (congrArg (· * _ + _) (congrFun (map5 (crd m hg t)) a)).trans ?_
  match a with
  | ⟨0, _⟩ => rfl
  | ⟨1, _⟩ => show 0 * 2048 + n.val = n.val; omega

theorem blk_crd (t : Fin (cfgA m hg).N) : (blk (crd m hg t)).val = t.val := by
  have ht : t.val < 292 := t.isLt
  refine (Pipeline.Grid.coords_val (G := grid0) t 0 (S := 1) (B := 292) (by decide) rfl).trans ?_
  omega

theorem flush5 (t : Fin (cfgA m hg).N) : ((cfgA m hg).win (5 : Fin 6)).flush t = true := by
  rw [Window.flush_out _ rfl]
  have ht : t.val < 292 := t.isLt
  by_cases h : t.val + 1 = 292
  · exact Or.inl h
  · refine Or.inr ⟨show t.val + 1 < 292 by omega, fun e => ?_⟩
    have e1 := (congrFun (map5 (crd m hg ⟨t.val + 1, show t.val + 1 < 292 by omega⟩)) 0).symm.trans ((congrFun e (0 : Fin 2)).trans (congrFun (map5 (crd m hg t)) 0))
    have e2 : (blk (crd m hg ⟨t.val + 1, show t.val + 1 < 292 by omega⟩)).val = (blk (crd m hg t)).val := e1
    rw [blk_crd, blk_crd] at e2
    simp at e2

/-- The array the launch leaves is the result. -/
theorem final (c : Dev nD) : (dats m hg 0 c).arrAt (5 : Fin 6) (cfgA m hg).N = fin m hg c := by
  refine Dat.arrAt_eq_of_emb (dats m hg 0 c) (5 : Fin 6) (fin m hg c) (fun t _ y => ?_) (fun i => ?_)
  · obtain ⟨r, n, rfl⟩ : ∃ (r : Fin 256) (n : Fin 2048), y = ix2 r n := ⟨y 0, y 1, eq_ix2 _⟩
    refine Eq.trans (oblk_at m hg c t r n) ((congrArg (fin m hg c) (emb5 m hg t r n)).trans ?_).symm
    unfold fin
    refine congrArg (fun b => elem m hg c b (rowOf (blk (crd m hg t)) r) n) (Fin.ext ?_)
    show ((blk (crd m hg t)).val * 256 + r.val) / 256 = (blk (crd m hg t)).val
    omega
  · obtain ⟨R, n, rfl⟩ : ∃ (R : Fin 74752) (n : Fin 2048), i = ix2 R n := ⟨i 0, i 1, eq_ix2 _⟩
    have hR := R.isLt
    refine ⟨⟨R.val / 256, show R.val / 256 < 292 by omega⟩, flush5 m hg _, ?_⟩
    have e := emb5 m hg ⟨R.val / 256, show R.val / 256 < 292 by omega⟩ (⟨R.val % 256, by omega⟩ : Fin 256) n
    have e' : (ix2 (rowOf (blk (crd m hg ⟨R.val / 256, show R.val / 256 < 292 by omega⟩)) (⟨R.val % 256, by omega⟩ : Fin 256)) n : S74752x2048.Idx) = ix2 R n := by
      refine congrArg (fun q => (ix2 q n : S74752x2048.Idx)) (Fin.ext ?_)
      show (blk (crd m hg ⟨R.val / 256, _⟩)).val * 256 + R.val % 256 = R.val
      rw [blk_crd]
      show R.val / 256 * 256 + R.val % 256 = R.val
      omega
    rw [← e', ← e]
    exact View.emb_mem_set _ _

end Cert.Kernel2Ideal.Hand

end
-- ==== Proof.FfnFrame.lean ====
module

public import proofs.«01_k».proof.Proof.Gen.Kernel2
public import proofs.«01_k».proof.Proof.FfnFinal

/-! # The feed-forward call at the hardware's floats: the program as printed runs as the other one does -/

@[expose] public section

set_option maxRecDepth 16384

noncomputable section

namespace Cert.Kernel2Ideal.Hand

open Cert.Kernel2Ideal Cert.Kernel2Ideal.Gen
open Idealize.ShloMosaic Idealize.ShloMosaic.TcCoe
open Idealize.SL Idealize.SL.Sem

/-- The two programs call the same body. -/
theorem bodies_same : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, _ => rfl
theorem pcfgs_same : Cert.Kernel2.pcfgs (F := Bits) = Cert.Kernel2Ideal.pcfgs (F := Bits) := rfl
theorem defs_same : Cert.Kernel2.defs (F := Bits) = Cert.Kernel2Ideal.defs (F := Bits) := congrArg (Pipeline.defs Cert.Kernel2Ideal.pcfgs) bodies_same

theorem run_kernel (m : (ℓ : Loc nD τ sig) → Buf (Elt Bits) ℓ) (ρ : Dev nD → PrngReg) (hg : Good m) :
    θ_run (Cert.Kernel2.defs (F := Bits)) (onTc (τ := τ) (Cert.Kernel2.main (F := Bits))) ⟨m, fun _ => 0, ρ⟩ (fun r => (∀ c : Dev nD,
      r.2.mem ((c.tc : Thread nD τ).loc main_v2) = (dats m hg 0 c).arrAt (5 : Fin 6) (cfgA m hg).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_same]
  exact run_args (F := Bits) m ρ hg

end Cert.Kernel2Ideal.Hand

end
-- ==== Proof.FfnPre.lean ====
module

public import proofs.«01_k».proof.Pre_experts_in_range
public import Idealize.ShloMosaic.Lib.ReduceAll
public import Idealize.ShloMosaic.Lib.SortFacts
public import Idealize.ShloMosaic.Lib.ValueIdxCore

/-! # What the precondition says: every block's expert is one of the 32 -/

@[expose] public section

set_option maxRecDepth 16384

noncomputable section

namespace Cert.Pre_experts_in_range.Hand

open Cert.Pre_experts_in_range
open Idealize.ShloMosaic
open Idealize.ShloMosaic.ValueIdx (ix1)

theorem facts : Cert.Pre_experts_in_range.Facts where
  bcast_S_S292 := by decide
  reducesTo_S292_S_d0 := by decide
  h_S_ := by decide

instance : Subsingleton S_.Idx := ⟨fun a b => funext fun i => i.elim0⟩

theorem good [Facts] {F : FTy → Type} [FloatOps F] (e : IVec S292 32) (u : IVec S1 32) (x : FVec F S74752x2048 .f32) (wg : FVec F S4x32x2048x1536 .f32)
    (bg : FVec F S32x1536 .f32) (wd : FVec F S4x32x768x2048 .f32) (bd : FVec F S32x2048 .f32)
    (hp : fn (F := F) e u x wg bg wd bd = fun _ => 1#1) (b : Fin 292) : (e (ix1 b)).toNat < 32 := by
  have h := congrFun hp (fun i => i.elim0)
  unfold fn at h
  dsimp only at h
  obtain ⟨p, q⟩ := IntOp.andi_eq_one.1 (Host.reduce_andi_all _ _ _ _ _ h (ix1 b))
  have p' := IntOp.cmpi_sge.1 p
  have q' := IntOp.cmpi_slt.1 q
  have hz : (broadcastInDim S292 ![] Facts.bcast_S_S292 (constantI S_ 32 0#32) (ix1 b)).toInt = 0 := rfl
  have hn : (broadcastInDim S292 ![] Facts.bcast_S_S292 (constantI S_ 32 32#32) (ix1 b)).toInt = 32 := rfl
  rw [hz] at p'
  rw [hn] at q'
  rw [BitVec.toInt_eq_toNat_cond] at p' q'
  have := (e (ix1 b)).isLt
  split at p' <;> omega

end Cert.Pre_experts_in_range.Hand

end
-- ==== Proof.FfnRef.lean ====
module

public import proofs.«01_k».proof.Proof.Gen.Reference2Ideal.Run
public import proofs.«01_k».proof.Proof.FfnUnit
public import Idealize.ShloMosaic.Lib.StackMember
public import Idealize.ShloMosaic.Lib.Affine

/-! # The reference's feed-forward, row by row

Row `r` of block `b` is the feed-forward of that row under the matrices of the block's expert, and zero past the last used block. -/

@[expose] public section

set_option maxRecDepth 16384

noncomputable section

namespace Cert.Reference2Ideal.Hand

open Cert.Reference2Ideal Cert.Reference2Ideal.Gen Cert.Ffn
open Idealize.ShloMosaic
open Idealize.ShloMosaic.ValueIdx (ix0 ix1 ix2 ix3 ix4)
open Idealize.ShloMosaic.StackMember (dotGeneral_stack_apply)
open scoped BigOperators

/-- The start of a slice that is as long as its axis is zero; on the expert's axis it is the index clamped into the experts. -/
theorem gather_matrix {K N : ℕ} {α : Type}
    (wf : GatherDims.WF (⟨3, ![32, K, N]⟩ : Shape) (⟨2, ![292, 3]⟩ : Shape) (⟨4, ![292, 1, K, N]⟩ : Shape) [1, 2, 3] [] [] [0, 1, 2] [] 1 ![1, K, N])
    (x : (⟨3, ![32, K, N]⟩ : Shape).Idx → α) (idx : IVec (⟨2, ![292, 3]⟩ : Shape) 32) (b : Fin 292) (k : Fin K) (n : Fin N) (e : Fin 32)
    (he : (idx (ix2 b (0 : Fin 3))).toInt = (e.val : Int)) :
    Host.gather (⟨[1, 2, 3], [], [], [], [0, 1, 2], 1, ![1, K, N], wf⟩ : GatherDims _ _ _) x idx (ix4 b (0 : Fin 1) k n) = x (ix3 e k n) := by
  let d : GatherDims (⟨3, ![32, K, N]⟩ : Shape) (⟨2, ![292, 3]⟩ : Shape) (⟨4, ![292, 1, K, N]⟩ : Shape) := ⟨[1, 2, 3], [], [], [], [0, 1, 2], 1, ![1, K, N], wf⟩
  have hmap : ∀ a : Fin 3, a ∈ d.startIndexMap := fun a => by
    show a ∈ ([0, 1, 2] : List (Fin 3)); revert a; decide
  have hkept : ∀ a : Fin 3, a ∈ d.sKept := fun a => (GatherDims.mem_sKept _ _).mpr ⟨List.not_mem_nil, List.not_mem_nil⟩
  have hsi : d.siIdx (ix4 b (0 : Fin 1) k n) ⟨List.idxOf (0 : Fin 3) d.startIndexMap, List.idxOf_lt_length_iff.2 (hmap 0)⟩ = ix2 b (0 : Fin 3) := by
    funext c; refine Fin.ext ?_
    match c with
    | ⟨0, _⟩ => rfl
    | ⟨1, _⟩ => rfl
  have h0 : d.start (ix4 b (0 : Fin 1) k n) idx 0 = e.val := by
    unfold GatherDims.start
    rw [dif_pos (hmap 0), hsi, he]
    show min (e.val : Int).toNat 31 = e.val
    omega
  have h1 : d.start (ix4 b (0 : Fin 1) k n) idx 1 = 0 := by
    unfold GatherDims.start
    rw [dif_pos (hmap 1)]
    refine Nat.le_zero.1 ((Nat.min_le_right _ _).trans ?_)
    show K - K ≤ 0
    omega
  have h2 : d.start (ix4 b (0 : Fin 1) k n) idx 2 = 0 := by
    unfold GatherDims.start
    rw [dif_pos (hmap 2)]
    refine Nat.le_zero.1 ((Nat.min_le_right _ _).trans ?_)
    show N - N ≤ 0
    omega
  show x (d.operandIdx (ix4 b (0 : Fin 1) k n) idx) = _
  refine congrArg x (funext fun a => Fin.ext ?_)
  show d.start (ix4 b (0 : Fin 1) k n) idx a + d.batchCoord (ix4 b (0 : Fin 1) k n) a + d.offCoord (ix4 b (0 : Fin 1) k n) a = _
  rw [GatherDims.batchCoord_eq_zero _ _ _ List.not_mem_nil]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  unfold GatherDims.offCoord
  rw [dif_pos (hkept a)]
  rcases h012 with rfl | rfl | rfl
  · rw [h0]; rfl
  · rw [h1, Nat.zero_add]; rfl
  · rw [h2, Nat.zero_add]; rfl

/-- The same for a bias row. -/
theorem gather_row {N : ℕ} {α : Type}
    (wf : GatherDims.WF (⟨2, ![32, N]⟩ : Shape) (⟨2, ![292, 2]⟩ : Shape) (⟨3, ![292, 1, N]⟩ : Shape) [1, 2] [] [] [0, 1] [] 1 ![1, N])
    (x : (⟨2, ![32, N]⟩ : Shape).Idx → α) (idx : IVec (⟨2, ![292, 2]⟩ : Shape) 32) (b : Fin 292) (n : Fin N) (e : Fin 32)
    (he : (idx (ix2 b (0 : Fin 2))).toInt = (e.val : Int)) :
    Host.gather (⟨[1, 2], [], [], [], [0, 1], 1, ![1, N], wf⟩ : GatherDims _ _ _) x idx (ix3 b (0 : Fin 1) n) = x (ix2 e n) := by
  let d : GatherDims (⟨2, ![32, N]⟩ : Shape) (⟨2, ![292, 2]⟩ : Shape) (⟨3, ![292, 1, N]⟩ : Shape) := ⟨[1, 2], [], [], [], [0, 1], 1, ![1, N], wf⟩
  have hmap : ∀ a : Fin 2, a ∈ d.startIndexMap := fun a => by
    show a ∈ ([0, 1] : List (Fin 2)); revert a; decide
  have hkept : ∀ a : Fin 2, a ∈ d.sKept := fun a => (GatherDims.mem_sKept _ _).mpr ⟨List.not_mem_nil, List.not_mem_nil⟩
  have hsi : d.siIdx (ix3 b (0 : Fin 1) n) ⟨List.idxOf (0 : Fin 2) d.startIndexMap, List.idxOf_lt_length_iff.2 (hmap 0)⟩ = ix2 b (0 : Fin 2) := by
    funext c; refine Fin.ext ?_
    match c with
    | ⟨0, _⟩ => rfl
    | ⟨1, _⟩ => rfl
  have h0 : d.start (ix3 b (0 : Fin 1) n) idx 0 = e.val := by
    unfold GatherDims.start
    rw [dif_pos (hmap 0), hsi, he]
    show min (e.val : Int).toNat 31 = e.val
    omega
  have h1 : d.start (ix3 b (0 : Fin 1) n) idx 1 = 0 := by
    unfold GatherDims.start
    rw [dif_pos (hmap 1)]
    refine Nat.le_zero.1 ((Nat.min_le_right _ _).trans ?_)
    show N - N ≤ 0
    omega
  show x (d.operandIdx (ix3 b (0 : Fin 1) n) idx) = _
  refine congrArg x (funext fun a => Fin.ext ?_)
  show d.start (ix3 b (0 : Fin 1) n) idx a + d.batchCoord (ix3 b (0 : Fin 1) n) a + d.offCoord (ix3 b (0 : Fin 1) n) a = _
  rw [GatherDims.batchCoord_eq_zero _ _ _ List.not_mem_nil]
  have h01 : a = 0 ∨ a = 1 := by
    match a with
    | ⟨0, _⟩ => exact Or.inl rfl
    | ⟨1, _⟩ => exact Or.inr rfl
  unfold GatherDims.offCoord
  rw [dif_pos (hkept a)]
  rcases h01 with rfl | rfl
  · rw [h0]; rfl
  · rw [h1, Nat.zero_add]; rfl

/-- Each block's expert, as the starts of the slices taken. -/
def wrapped (e : IVec S292 32) : IVec S292x1 32 :=
  broadcastInDim S292x1 ![0] bcast_S292_S292x1_0 (select (cmpi .slt e (broadcastInDim S292 ![] bcast_S_S292 (constantI S_ 32 0#32)))
    (addi e (broadcastInDim S292 ![] bcast_S_S292 (constantI S_ 32 32#32))) e)
def rest (k : BitVec 32) : IVec S292x1 32 :=
  broadcastInDim S292x1 ![] bcast_S_S292x1 (select (cmpi .slt (constantI S_ 32 0#32) (constantI S_ 32 0#32)) (addi (constantI S_ 32 0#32) (constantI S_ 32 k)) (constantI S_ 32 0#32))
def starts3 (e : IVec S292 32) (p q : BitVec 32) : IVec S292x3 32 :=
  concatenate S292x3 1 [⟨S292x1, wrapped e⟩, ⟨S292x1, rest p⟩, ⟨S292x1, rest q⟩] concatenates_S292x1_S292x1_S292x1_S292x3_d1
def starts2 (e : IVec S292 32) (p : BitVec 32) : IVec S292x2 32 :=
  concatenate S292x2 1 [⟨S292x1, wrapped e⟩, ⟨S292x1, rest p⟩] concatenates_S292x1_S292x1_S292x2_d1

theorem wrapped_at (e : IVec S292 32) (b : Fin 292) (hb : (e (ix1 b)).toNat < 32) : wrapped e (ix2 b (0 : Fin 1)) = e (ix1 b) := by
  unfold wrapped
  rw [broadcastInDim_apply _ _ _ _ (ix1 b) (fun x => by
    obtain rfl : x = 0 := Subsingleton.elim _ _
    rw [if_neg (by decide)]; rfl)]
  show (if IntOp.cmpi .slt (e (ix1 b)) 0#32 = 1#1 then _ else e (ix1 b)) = _
  refine if_neg ?_
  rw [IntOp.cmpi_slt, BitVec.toInt_eq_toNat_cond, if_pos (by omega)]
  show ¬ ((e (ix1 b)).toNat : Int) < 0
  omega

theorem starts3_at (e : IVec S292 32) (p q : BitVec 32) (b : Fin 292) (hb : (e (ix1 b)).toNat < 32) :
    (starts3 e p q (ix2 b (0 : Fin 3))).toInt = ((⟨(e (ix1 b)).toNat, hb⟩ : Fin 32).val : Int) := by
  have h : starts3 e p q (ix2 b (0 : Fin 3)) = e (ix1 b) := by
    refine Eq.trans ?_ (wrapped_at e b hb)
    unfold starts3
    exact concatenate_apply_piece (t := S292x3) (1 : Fin 2) [⟨S292x1, wrapped e⟩, ⟨S292x1, rest p⟩, ⟨S292x1, rest q⟩] _ (ix2 b (0 : Fin 3)) 0 (Nat.succ_pos 2) S292x1 (wrapped e) rfl rfl 0 rfl (ix2 b (0 : Fin 1))
      (fun c hc => match c with
        | ⟨0, _⟩ => rfl
        | ⟨1, _⟩ => rfl) rfl
  rw [h, BitVec.toInt_eq_toNat_cond, if_pos (by omega)]

theorem starts2_at (e : IVec S292 32) (p : BitVec 32) (b : Fin 292) (hb : (e (ix1 b)).toNat < 32) :
    (starts2 e p (ix2 b (0 : Fin 2))).toInt = ((⟨(e (ix1 b)).toNat, hb⟩ : Fin 32).val : Int) := by
  have h : starts2 e p (ix2 b (0 : Fin 2)) = e (ix1 b) := by
    refine Eq.trans ?_ (wrapped_at e b hb)
    unfold starts2
    exact concatenate_apply_piece (t := S292x2) (1 : Fin 2) [⟨S292x1, wrapped e⟩, ⟨S292x1, rest p⟩] _ (ix2 b (0 : Fin 2)) 0 (Nat.succ_pos 1) S292x1 (wrapped e) rfl rfl 0 rfl (ix2 b (0 : Fin 1))
      (fun c hc => match c with
        | ⟨0, _⟩ => rfl
        | ⟨1, _⟩ => rfl) rfl
  rw [h, BitVec.toInt_eq_toNat_cond, if_pos (by omega)]

/-- Each block's matrices and biases. -/
def upW (e : IVec S292 32) (w : FVec Ideal S4x32x2048x1536 .f32) : FVec Ideal S292x2048x1536 .f32 :=
  shapeCast _ (Host.gather gather_S32x2048x1536_S292x3_S292x1x2048x1536_123_n_n_n_012_1_120481536
    (shapeCast _ (extractStridedSlice S1x32x2048x1536 ![0, 0, 0, 0] w slices_S4x32x2048x1536_S1x32x2048x1536_0_0_0_0) shapeCasts_S1x32x2048x1536_S32x2048x1536)
    (starts3 e 2048#32 1536#32)) shapeCasts_S292x1x2048x1536_S292x2048x1536
def upB (e : IVec S292 32) (w : FVec Ideal S32x1536 .f32) : FVec Ideal S292x256x1536 .f32 :=
  broadcastInDim S292x256x1536 ![0, 1, 2] bcast_S292x1x1536_S292x256x1536_0_1_2 (broadcastInDim S292x1x1536 ![0, 2] bcast_S292x1536_S292x1x1536_0_2
    (shapeCast _ (Host.gather gather_S32x1536_S292x2_S292x1x1536_12_n_n_n_01_1_11536 w (starts2 e 1536#32)) shapeCasts_S292x1x1536_S292x1536))
def dnW (e : IVec S292 32) (w : FVec Ideal S4x32x768x2048 .f32) : FVec Ideal S292x768x2048 .f32 :=
  shapeCast _ (Host.gather gather_S32x768x2048_S292x3_S292x1x768x2048_123_n_n_n_012_1_17682048
    (shapeCast _ (extractStridedSlice S1x32x768x2048 ![0, 0, 0, 0] w slices_S4x32x768x2048_S1x32x768x2048_0_0_0_0) shapeCasts_S1x32x768x2048_S32x768x2048)
    (starts3 e 768#32 2048#32)) shapeCasts_S292x1x768x2048_S292x768x2048
def dnB (e : IVec S292 32) (w : FVec Ideal S32x2048 .f32) : FVec Ideal S292x256x2048 .f32 :=
  broadcastInDim S292x256x2048 ![0, 1, 2] bcast_S292x1x2048_S292x256x2048_0_1_2 (broadcastInDim S292x1x2048 ![0, 2] bcast_S292x2048_S292x1x2048_0_2
    (shapeCast _ (Host.gather gather_S32x2048_S292x2_S292x1x2048_12_n_n_n_01_1_12048 w (starts2 e 2048#32)) shapeCasts_S292x1x2048_S292x2048))

theorem upW_at (e : IVec S292 32) (w : FVec Ideal S4x32x2048x1536 .f32) (b : Fin 292) (hb : (e (ix1 b)).toNat < 32) (k : Fin 2048) (n : Fin 1536) :
    upW e w (ix3 b k n) = w (ix4 (0 : Fin 4) (⟨(e (ix1 b)).toNat, hb⟩ : Fin 32) k n) := by
  unfold upW
  refine (shapeCast_apply _ _ _ (ix4 b (0 : Fin 1) k n) ?_).trans ((gather_matrix _ _ _ b k n _ (starts3_at e _ _ b hb)).trans ?_)
  · rw [Shape.rowMajor_val_three, Shape.rowMajor_val_four]
    show (((b.val * 1 + 0) * 2048 + k.val) * 1536 + n.val) = (b.val * 2048 + k.val) * 1536 + n.val
    omega
  generalize (⟨(e (ix1 b)).toNat, hb⟩ : Fin 32) = q
  refine (shapeCast_apply _ _ _ (ix4 (0 : Fin 1) q k n) ?_).trans (extractStridedSlice_apply _ w _ _ _ fun (a : Fin 4) => ?_)
  · rw [Shape.rowMajor_val_three, Shape.rowMajor_val_four]
    show (((0 * 32 + q.val) * 2048 + k.val) * 1536 + n.val) = (q.val * 2048 + k.val) * 1536 + n.val
    omega
  · match a with
    | ⟨0, _⟩ => rfl
    | ⟨1, _⟩ => show q.val = 0 + q.val; omega
    | ⟨2, _⟩ => show k.val = 0 + k.val; omega
    | ⟨3, _⟩ => show n.val = 0 + n.val; omega

theorem dnW_at (e : IVec S292 32) (w : FVec Ideal S4x32x768x2048 .f32) (b : Fin 292) (hb : (e (ix1 b)).toNat < 32) (k : Fin 768) (n : Fin 2048) :
    dnW e w (ix3 b k n) = w (ix4 (0 : Fin 4) (⟨(e (ix1 b)).toNat, hb⟩ : Fin 32) k n) := by
  unfold dnW
  refine (shapeCast_apply _ _ _ (ix4 b (0 : Fin 1) k n) ?_).trans ((gather_matrix _ _ _ b k n _ (starts3_at e _ _ b hb)).trans ?_)
  · rw [Shape.rowMajor_val_three, Shape.rowMajor_val_four]
    show (((b.val * 1 + 0) * 768 + k.val) * 2048 + n.val) = (b.val * 768 + k.val) * 2048 + n.val
    omega
  generalize (⟨(e (ix1 b)).toNat, hb⟩ : Fin 32) = q
  refine (shapeCast_apply _ _ _ (ix4 (0 : Fin 1) q k n) ?_).trans (extractStridedSlice_apply _ w _ _ _ fun (a : Fin 4) => ?_)
  · rw [Shape.rowMajor_val_three, Shape.rowMajor_val_four]
    show (((0 * 32 + q.val) * 768 + k.val) * 2048 + n.val) = (q.val * 768 + k.val) * 2048 + n.val
    omega
  · match a with
    | ⟨0, _⟩ => rfl
    | ⟨1, _⟩ => show q.val = 0 + q.val; omega
    | ⟨2, _⟩ => show k.val = 0 + k.val; omega
    | ⟨3, _⟩ => show n.val = 0 + n.val; omega

theorem upB_at (e : IVec S292 32) (w : FVec Ideal S32x1536 .f32) (b : Fin 292) (hb : (e (ix1 b)).toNat < 32) (r : Fin 256) (n : Fin 1536) :
    upB e w (ix3 b r n) = w (ix2 (⟨(e (ix1 b)).toNat, hb⟩ : Fin 32) n) := by
  unfold upB
  refine (broadcastInDim_apply _ _ _ _ (ix3 b (0 : Fin 1) n) fun (a : Fin 3) => ?_).trans
    ((broadcastInDim_apply _ _ _ _ (ix2 b n) fun (a : Fin 2) => ?_).trans
      ((shapeCast_apply _ _ _ (ix3 b (0 : Fin 1) n) ?_).trans (gather_row _ _ _ b n _ (starts2_at e _ b hb))))
  · match a with
    | ⟨0, _⟩ => rfl
    | ⟨1, _⟩ => rfl
    | ⟨2, _⟩ => rfl
  · match a with
    | ⟨0, _⟩ => rfl
    | ⟨1, _⟩ => rfl
  · rw [Shape.rowMajor_val_three, Shape.rowMajor_val_two]
    show ((b.val * 1 + 0) * 1536 + n.val) = b.val * 1536 + n.val
    omega

theorem dnB_at (e : IVec S292 32) (w : FVec Ideal S32x2048 .f32) (b : Fin 292) (hb : (e (ix1 b)).toNat < 32) (r : Fin 256) (n : Fin 2048) :
    dnB e w (ix3 b r n) = w (ix2 (⟨(e (ix1 b)).toNat, hb⟩ : Fin 32) n) := by
  unfold dnB
  refine (broadcastInDim_apply _ _ _ _ (ix3 b (0 : Fin 1) n) fun (a : Fin 3) => ?_).trans
    ((broadcastInDim_apply _ _ _ _ (ix2 b n) fun (a : Fin 2) => ?_).trans
      ((shapeCast_apply _ _ _ (ix3 b (0 : Fin 1) n) ?_).trans (gather_row _ _ _ b n _ (starts2_at e _ b hb))))
  · match a with
    | ⟨0, _⟩ => rfl
    | ⟨1, _⟩ => rfl
    | ⟨2, _⟩ => rfl
  · match a with
    | ⟨0, _⟩ => rfl
    | ⟨1, _⟩ => rfl
  · rw [Shape.rowMajor_val_three, Shape.rowMajor_val_two]
    show ((b.val * 1 + 0) * 2048 + n.val) = b.val * 2048 + n.val
    omega

/-- Row `r` of block `b`, among all the rows. -/
def rowOf (b : Fin 292) (r : Fin 256) : Fin 74752 := ⟨b.val * 256 + r.val, by omega⟩

/-- The first product of every block, with its bias. -/
def pre (e : IVec S292 32) (x : FVec Ideal S74752x2048 .f32) (wg : FVec Ideal S4x32x2048x1536 .f32) (bg : FVec Ideal S32x1536 .f32) : FVec Ideal S292x256x1536 .f32 :=
  addf (Host.dotGeneral dot_S292x256x2048_S292x2048x1536_S292x256x1536_2_1_1_2_0_0 none (shapeCast _ x shapeCasts_S74752x2048_S292x256x2048) (upW e wg)) (upB e bg)

theorem rows_at (x : FVec Ideal S74752x2048 .f32) (b : Fin 292) (r : Fin 256) (k : Fin 2048) :
    shapeCast S292x256x2048 x shapeCasts_S74752x2048_S292x256x2048 (ix3 b r k) = x (ix2 (rowOf b r) k) :=
  shapeCast_apply x _ _ _ (by
    rw [Shape.rowMajor_val_three, Shape.rowMajor_val_two]
    rfl)

theorem pre_at (e : IVec S292 32) (x : FVec Ideal S74752x2048 .f32) (wg : FVec Ideal S4x32x2048x1536 .f32) (bg : FVec Ideal S32x1536 .f32)
    (b : Fin 292) (hb : (e (ix1 b)).toNat < 32) (r : Fin 256) (n : Fin 1536) :
    pre e x wg bg (ix3 b r n) = lin (fun k => x (ix2 (rowOf b r) k)) (fun k n => wg (ix4 (0 : Fin 4) (⟨(e (ix1 b)).toNat, hb⟩ : Fin 32) k n))
      (fun n => bg (ix2 (⟨(e (ix1 b)).toNat, hb⟩ : Fin 32) n)) n := by
  unfold lin
  refine congr (congrArg HAdd.hAdd ?_) (upB_at e bg b hb r n)
  refine (dotGeneral_stack_apply (G := 292) (m := 256) (k := 2048) (n := 1536) _ none _ _ b r n).trans ?_
  exact Finset.sum_congr rfl fun k _ => congr (congrArg HMul.hMul (rows_at x b r k)) (upW_at e wg b hb k n)

/-- The gated part. -/
def gated (p : FVec Ideal S292x256x1536 .f32) : FVec Ideal S292x256x768 .f32 :=
  mulf (mulf (minimumf (extractStridedSlice S292x256x768 ![0, 0, 0] p slices_S292x256x1536_S292x256x768_0_0_0) (broadcastInDim S292x256x768 ![] bcast_S_S292x256x768 (constant S_ .f32 0x40E00000#32)))
      (Host.divf (broadcastInDim S292x256x768 ![] bcast_S_S292x256x768 (constant S_ .f32 0x3F800000#32))
        (addf (broadcastInDim S292x256x768 ![] bcast_S_S292x256x768 (constant S_ .f32 0x3F800000#32))
          (Host.exp (Host.negf (mulf (broadcastInDim S292x256x768 ![] bcast_S_S292x256x768 (constant S_ .f32 0x3FD9DB23#32))
            (minimumf (extractStridedSlice S292x256x768 ![0, 0, 0] p slices_S292x256x1536_S292x256x768_0_0_0) (broadcastInDim S292x256x768 ![] bcast_S_S292x256x768 (constant S_ .f32 0x40E00000#32)))))))))
    (addf (minimumf (broadcastInDim S292x256x768 ![] bcast_S_S292x256x768 (id (constant S_ .f32 0x40E00000#32)))
        (maximumf (broadcastInDim S292x256x768 ![] bcast_S_S292x256x768 (id (constant S_ .f32 0xC0E00000#32))) (extractStridedSlice S292x256x768 ![0, 0, 768] p slices_S292x256x1536_S292x256x768_0_0_768)))
      (broadcastInDim S292x256x768 ![] bcast_S_S292x256x768 (constant S_ .f32 0x3F800000#32)))

theorem gated_at (p : FVec Ideal S292x256x1536 .f32) (b : Fin 292) (r : Fin 256) (j : Fin 768) :
    gated p (ix3 b r j) = act (p (ix3 b r (gateCol j))) (p (ix3 b r (linCol j))) := by
  have e1 : extractStridedSlice S292x256x768 ![0, 0, 0] p slices_S292x256x1536_S292x256x768_0_0_0 (ix3 b r j) = p (ix3 b r (gateCol j)) :=
    extractStridedSlice_apply _ p _ _ _ fun (a : Fin 3) => by
      match a with
      | ⟨0, _⟩ => show b.val = 0 + b.val; omega
      | ⟨1, _⟩ => show r.val = 0 + r.val; omega
      | ⟨2, _⟩ => show j.val = 0 + j.val; omega
  have e2 : extractStridedSlice S292x256x768 ![0, 0, 768] p slices_S292x256x1536_S292x256x768_0_0_768 (ix3 b r j) = p (ix3 b r (linCol j)) :=
    extractStridedSlice_apply _ p _ _ _ fun (a : Fin 3) => by
      match a with
      | ⟨0, _⟩ => show b.val = 0 + b.val; omega
      | ⟨1, _⟩ => show r.val = 0 + r.val; omega
      | ⟨2, _⟩ => rfl
  rw [← e1, ← e2]
  rfl

/-- The second product of every block, with its bias. -/
def post (e : IVec S292 32) (x : FVec Ideal S74752x2048 .f32) (wg : FVec Ideal S4x32x2048x1536 .f32) (bg : FVec Ideal S32x1536 .f32)
    (wd : FVec Ideal S4x32x768x2048 .f32) (bd : FVec Ideal S32x2048 .f32) : FVec Ideal S292x256x2048 .f32 :=
  addf (Host.dotGeneral dot_S292x256x768_S292x768x2048_S292x256x2048_2_1_1_2_0_0 none (gated (pre e x wg bg)) (dnW e wd)) (dnB e bd)

theorem post_at (e : IVec S292 32) (x : FVec Ideal S74752x2048 .f32) (wg : FVec Ideal S4x32x2048x1536 .f32) (bg : FVec Ideal S32x1536 .f32)
    (wd : FVec Ideal S4x32x768x2048 .f32) (bd : FVec Ideal S32x2048 .f32) (b : Fin 292) (hb : (e (ix1 b)).toNat < 32) (r : Fin 256) (n : Fin 2048) :
    post e x wg bg wd bd (ix3 b r n)
      = ffn (fun k => x (ix2 (rowOf b r) k)) (fun k n => wg (ix4 (0 : Fin 4) (⟨(e (ix1 b)).toNat, hb⟩ : Fin 32) k n))
          (fun n => bg (ix2 (⟨(e (ix1 b)).toNat, hb⟩ : Fin 32) n)) (fun k n => wd (ix4 (0 : Fin 4) (⟨(e (ix1 b)).toNat, hb⟩ : Fin 32) k n))
          (fun n => bd (ix2 (⟨(e (ix1 b)).toNat, hb⟩ : Fin 32) n)) n := by
  unfold ffn
  conv_rhs => unfold lin
  refine congr (congrArg HAdd.hAdd ?_) (dnB_at e bd b hb r n)
  refine (dotGeneral_stack_apply (G := 292) (m := 256) (k := 768) (n := 2048) _ none _ _ b r n).trans ?_
  refine Finset.sum_congr rfl fun k _ => congr (congrArg HMul.hMul ?_) (dnW_at e wd b hb k n)
  exact (gated_at _ b r k).trans (congr (congrArg act (pre_at e x wg bg b hb r (gateCol k))) (pre_at e x wg bg b hb r (linCol k)))

/-- The reference's result. -/
def result (e : IVec S292 32) (u : IVec S1 32) (x : FVec Ideal S74752x2048 .f32) (wg : FVec Ideal S4x32x2048x1536 .f32) (bg : FVec Ideal S32x1536 .f32)
    (wd : FVec Ideal S4x32x768x2048 .f32) (bd : FVec Ideal S32x2048 .f32) : FVec Ideal S74752x2048 .f32 :=
  shapeCast _ (select (broadcastInDim S292x256x2048 ![0, 1, 2] bcast_S292x1x1_S292x256x2048_0_1_2 (broadcastInDim S292x1x1 ![0] bcast_S292_S292x1x1_0
      (cmpi .slt (iotaInDim S292 32 0) (broadcastInDim S292 ![0] bcast_S1_S292_0 u))))
    (post e x wg bg wd bd) (broadcastInDim S292x256x2048 ![] bcast_S_S292x256x2048 (id (constant S_ .f32 0x00000000#32)))) shapeCasts_S292x256x2048_S74752x2048

theorem used_at (u : IVec S1 32) (b : Fin 292) (r : Fin 256) (n : Fin 2048) :
    broadcastInDim S292x256x2048 ![0, 1, 2] bcast_S292x1x1_S292x256x2048_0_1_2 (broadcastInDim S292x1x1 ![0] bcast_S292_S292x1x1_0
      (cmpi .slt (iotaInDim S292 32 0) (broadcastInDim S292 ![0] bcast_S1_S292_0 u))) (ix3 b r n)
      = IntOp.cmpi .slt (BitVec.ofNat 32 b.val) (u (ix1 (0 : Fin 1))) := by
  refine (broadcastInDim_apply _ _ _ _ (ix3 b (0 : Fin 1) (0 : Fin 1)) fun (a : Fin 3) => ?_).trans
    ((broadcastInDim_apply _ _ _ _ (ix1 b) fun (a : Fin 1) => ?_).trans ?_)
  · match a with
    | ⟨0, _⟩ => rfl
    | ⟨1, _⟩ => rfl
    | ⟨2, _⟩ => rfl
  · match a with
    | ⟨0, _⟩ => rfl
  · refine congrArg (IntOp.cmpi .slt (BitVec.ofNat 32 b.val)) (broadcastInDim_apply _ _ _ _ (ix1 (0 : Fin 1)) fun (a : Fin 1) => ?_)
    match a with
    | ⟨0, _⟩ => rfl

theorem result_at (e : IVec S292 32) (u : IVec S1 32) (x : FVec Ideal S74752x2048 .f32) (wg : FVec Ideal S4x32x2048x1536 .f32) (bg : FVec Ideal S32x1536 .f32)
    (wd : FVec Ideal S4x32x768x2048 .f32) (bd : FVec Ideal S32x2048 .f32) (b : Fin 292) (hb : (e (ix1 b)).toNat < 32) (r : Fin 256) (n : Fin 2048) :
    result e u x wg bg wd bd (ix2 (rowOf b r) n)
      = if IntOp.cmpi .slt (BitVec.ofNat 32 b.val) (u (ix1 (0 : Fin 1))) = 1#1 then
          ffn (fun k => x (ix2 (rowOf b r) k)) (fun k n => wg (ix4 (0 : Fin 4) (⟨(e (ix1 b)).toNat, hb⟩ : Fin 32) k n))
            (fun n => bg (ix2 (⟨(e (ix1 b)).toNat, hb⟩ : Fin 32) n)) (fun k n => wd (ix4 (0 : Fin 4) (⟨(e (ix1 b)).toNat, hb⟩ : Fin 32) k n))
            (fun n => bd (ix2 (⟨(e (ix1 b)).toNat, hb⟩ : Fin 32) n)) n
        else Ideal.ofBits .f32 0x00000000#32 := by
  unfold result
  refine (shapeCast_apply _ _ _ (ix3 b r n) (by rw [Shape.rowMajor_val_three, Shape.rowMajor_val_two]; rfl)).trans ?_
  rw [← post_at e x wg bg wd bd b hb r n, ← used_at u b r n]
  rfl

theorem res_eq (m : (ℓ : Loc nD τ sig) → Buf (Elt Ideal) ℓ) (c : Dev nD) :
    Value.res_main_v95 (F := Ideal) m c = result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := rfl

end Cert.Reference2Ideal.Hand

end
-- ==== Proof.CombIssue.lean ====
module

public import proofs.«01_k».proof.Proof.Gen.Kernel3Ideal.Launch
public import proofs.«01_k».proof.Proof.Gen.Kernel3Ideal.Skeleton
public import proofs.«01_k».proof.Proof.Gen.Kernel3Ideal.Loops
public import proofs.«01_k».proof.Proof.Gen.Kernel3Ideal.Points
public import Idealize.ShloMosaic.Lib.Pipeline.FrameBody
public import Idealize.ShloMosaic.Lib.Pipeline.FrameValue
public import Idealize.ShloMosaic.Lib.Pipeline.Value
public import Idealize.ShloMosaic.Lib.Batch
public import Idealize.ShloMosaic.Lib.Ring
public import Idealize.ShloMosaic.Lib.Tactic
public import Idealize.ShloMosaic.Lib.WordCmp
public import Idealize.ShloMosaic.Lib.ValueIdxCore
public import Idealize.ShloMosaic.Lib.VecWindow

/-! # The combine: one copy of an expert's row into the scratch buffer -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending Batch)
open Idealize.ShloMosaic.ValueIdx (ix1 ix2 ix3)

variable {F : FTy → Type} [FloatOps F]

local notation "𝕄" => MT nD τ sig Unit (Elt F) ℕ (Pipeline.UD sig nD τ) ℕ

/-- The experts' rows and the scratch buffer, whole. -/
abbrev yM : Memref sig .tc .hbm S74752x2048 .f32 := Memref.whole main_arg4
abbrev sM : Memref sig .tc .vmem S4x256x2048 .f32 := Memref.whole cc0_scratch0

/-- The row of the scratch buffer at offset `o`. -/
abbrev slot (o : Fin 3 → Nat) (b : ∀ a, o a + S1x1x2048.size a ≤ S4x256x2048.size a) : Memref sig .tc .vmem S1x2048 .f32 :=
  (sM.slice (Rect.unit (s := S4x256x2048) o S1x1x2048.size b) (fun _ => rfl)).squeeze S1x2048 squeezes_S1x1x2048_S1x2048

/-- The expert's row at offset `o`. -/
abbrev yrow (o : Fin 2 → Nat) (b : ∀ a, o a + S1x2048.size a ≤ S74752x2048.size a) : Memref sig .tc .hbm S1x2048 .f32 :=
  yM.slice (Rect.unit (s := S74752x2048) o S1x2048.size b) (fun _ => rfl)

/-- The units one row's copy credits. -/
def rowU : ℕ := (slot ![0, 0, 0] inb_S4x256x2048_S1x1x2048_0_0_0).view.dmaCredit

theorem rowU_pos : 0 < rowU := by unfold rowU; exact View.dmaCredit_pos _ (by show 0 < Shape.numel S1x2048; decide)

/-- The elements of row `t` of slab `k` of the scratch buffer. -/
def slotSet (c : Dev nD) (k t : ℕ) : Finset (Idx ((c : Thread nD τ).loc cc0_scratch0)) :=
  Finset.univ.filter fun x => (x 0).val = k ∧ (x 1).val = t

/-- The elements of one expert row. -/
def yset (c : Dev nD) (r : ℕ) : Finset (Idx ((c : Thread nD τ).loc main_arg4)) :=
  Finset.univ.filter fun x => (x 0).val = r

theorem t1_trips : k0_t1_loop.trips = 256 := by decide +kernel
theorem t2_trips : k0_t2_loop.trips = 256 := by decide +kernel

theorem off1_eq : ∀ t : Fin k0_t1_loop.trips, k0_off1 t = ![4 * t.val] := by decide +kernel
theorem off4_eq : ∀ t : Fin k0_t1_loop.trips, k0_off4 t = ![4 * t.val + 1] := by decide +kernel
theorem off7_eq : ∀ t : Fin k0_t1_loop.trips, k0_off7 t = ![4 * t.val + 2] := by decide +kernel
theorem off10_eq : ∀ t : Fin k0_t1_loop.trips, k0_off10 t = ![4 * t.val + 3] := by decide +kernel
theorem off2_eq : ∀ t : Fin k0_t1_loop.trips, k0_off2 t = ![0, t.val, 0] := by decide +kernel
theorem off5_eq : ∀ t : Fin k0_t1_loop.trips, k0_off5 t = ![1, t.val, 0] := by decide +kernel
theorem off8_eq : ∀ t : Fin k0_t1_loop.trips, k0_off8 t = ![2, t.val, 0] := by decide +kernel
theorem off11_eq : ∀ t : Fin k0_t1_loop.trips, k0_off11 t = ![3, t.val, 0] := by decide +kernel

/-- One copy: the word is read, the row it names is in range, the copy is started. -/
def copyProg (arg1 : Memref sig .tc .smem S1024 .i32) (arg8 : DmaSems sig S_)
    (o1 : Fin 1 → Nat) (b1 : ∀ a, o1 a + S1.size a ≤ S1024.size a)
    (chk : BitVec 32 → Prop) (dec : ∀ v, Decidable (chk v))
    (o2 : BitVec 32 → Fin 2 → Nat) (b2 : ∀ v, chk v → ∀ a, o2 v a + S1x2048.size a ≤ S74752x2048.size a)
    (o3 : Fin 3 → Nat) (b3 : ∀ a, o3 a + S1x1x2048.size a ≤ S4x256x2048.size a)
    (k : Prog (TpuEff nD τ sig (Elt F) Λ₀ .tc) Unit) : Prog (TpuEff nD τ sig (Elt F) Λ₀ .tc) Unit :=
  smemLoadElt arg1 (Rect.unit (s := S1024) o1 S1.size b1) (View.loads_smem_one rfl numel1_S1) (Shape.Idx.first (numel1_S1.symm ▸ Nat.one_pos))
    fun v => .op (TpuEff.assume (chk v) (dec v)) fun hv =>
    .op (.enqueueDma (yrow (o2 v) (b2 v hv.down)) (.here (slot o3 b3))
      (.dma arg8.sem) (View.wordExact_bits rfl) ((View.wordExact_bits rfl).reshape _ _) ⟨Or.inl rfl, trivial⟩) fun _ => k

theorem t1_body_eq (i : grid0.Coords) (arg1 : Memref sig .tc .smem S1024 .i32) (harg1 : arg1.IsWhole) (arg2 harg2 arg3 harg3 arg4 harg4 h5 arg6 harg6 h7)
    (arg8 : DmaSems sig S_) (t : Fin k0_t1_loop.trips) :
    k0_t1_body (F := F) i arg1 harg1 arg2 harg2 arg3 harg3 arg4 harg4 yM h5 arg6 harg6 sM h7 arg8 t ()
      = copyProg arg1 arg8 (k0_off1 t) (k0_off1_inb t) k0_chk1 k0_chk1.dec k0_off3 k0_off3_inb (k0_off2 t) (k0_off2_inb t)
        (copyProg arg1 arg8 (k0_off4 t) (k0_off4_inb t) k0_chk2 k0_chk2.dec k0_off6 k0_off6_inb (k0_off5 t) (k0_off5_inb t)
        (copyProg arg1 arg8 (k0_off7 t) (k0_off7_inb t) k0_chk3 k0_chk3.dec k0_off9 k0_off9_inb (k0_off8 t) (k0_off8_inb t)
        (copyProg arg1 arg8 (k0_off10 t) (k0_off10_inb t) k0_chk4 k0_chk4.dec k0_off12 k0_off12_inb (k0_off11 t) (k0_off11_inb t)
        (pure ())))) := rfl

/-- A row of the scratch buffer, at `G`. -/
def slotPt (c : Dev nD) (G : Buf (Elt F) ((c : Thread nD τ).loc cc0_scratch0)) (k t : ℕ) : sProp 𝕄 :=
  (c : Thread nD τ).loc cc0_scratch0 ↦[slotSet c k t]{fullShare} G

/-- A share of one expert row. -/
def yPt (c : Dev nD) (y : Buf (Elt F) ((c : Thread nD τ).loc main_arg4)) (q : PosShare TreeShare) (r : ℕ) : sProp 𝕄 :=
  (c : Thread nD τ).loc main_arg4 ↦[yset c r]{q} y

theorem yset_eq (c : Dev nD) (o : Fin 2 → Nat) (b : ∀ a, o a + S1x2048.size a ≤ S74752x2048.size a) (r : ℕ) (ho : o = ![r, 0]) :
    (yrow o b).view.set = yset c r := by
  subst ho
  show ((View.whole main_arg4).slice (Rect.unit (s := S74752x2048) ![r, 0] S1x2048.size b)).set = _
  rw [View.set_slice_whole]
  ext x
  rw [Rect.mem_set_unit]
  have h1 : (x 1).val < 2048 := (x 1).isLt
  simp only [yset, Finset.mem_filter, Finset.mem_univ, true_and]
  constructor
  · intro h; have := h 0; simp at this; omega
  · intro h a; fin_cases a
    · simp; omega
    · simp; exact h1

theorem slotSet_eq (c : Dev nD) (o : Fin 3 → Nat) (b : ∀ a, o a + S1x1x2048.size a ≤ S4x256x2048.size a) (k t : ℕ) (ho : o = ![k, t, 0]) :
    (slot o b).view.set = slotSet c k t := by
  subst ho
  refine (View.set_reshape _ _).trans ?_
  show ((View.whole cc0_scratch0).slice (Rect.unit (s := S4x256x2048) ![k, t, 0] S1x1x2048.size b)).set = _
  rw [View.set_slice_whole]
  ext x
  rw [Rect.mem_set_unit]
  have h2 : (x 2).val < 2048 := (x 2).isLt
  simp only [slotSet, Finset.mem_filter, Finset.mem_univ, true_and]
  constructor
  · intro h
    have h0 := h 0; have h1 := h 1
    simp at h0 h1; omega
  · rintro ⟨e0, e1⟩ a; fin_cases a
    · simp; omega
    · simp; omega
    · simp; exact h2

/-- A place of a squeezed row: its element of the scratch buffer. -/
theorem slot_emb (k t : ℕ) (b : ∀ a, (![k, t, 0] : Fin 3 → Nat) a + S1x1x2048.size a ≤ S4x256x2048.size a) (x : S4x256x2048.Idx)
    (h0 : (x 0).val = k) (h1 : (x 1).val = t) :
    (slot ![k, t, 0] b).view.emb (ix2 (n0 := 1) (n1 := 2048) 0 (x 2)) = x := by
  have e : Shape.reshapeEquiv (squeezes_S1x1x2048_S1x2048.numel_eq) (ix2 (n0 := 1) (n1 := 2048) 0 (x 2)) = (ix3 (n0 := 1) (n1 := 1) (n2 := 2048) 0 0 (x 2) : S1x1x2048.Idx) := by
    refine Shape.reshapeEquiv_eq_of_rowMajor _ ?_
    show (S1x1x2048.rowMajor (ix3 (n0 := 1) (n1 := 1) (n2 := 2048) 0 0 (x 2))).val = (S1x2048.rowMajor (ix2 (n0 := 1) (n1 := 2048) 0 (x 2))).val
    rw [Shape.rowMajor_val_three, Shape.rowMajor_val_two]
    show (0 * 1 + 0) * 2048 + (x 2).val = 0 * 2048 + (x 2).val
    omega
  show (sM.slice (Rect.unit (s := S4x256x2048) ![k, t, 0] S1x1x2048.size b) (fun _ => rfl)).view.emb (Shape.reshapeEquiv _ _) = x
  refine (congrArg _ e).trans ?_
  funext a
  apply Fin.ext
  fin_cases a
  · show k + 1 * 0 = (x 0).val
    omega
  · show t + 1 * 0 = (x 1).val
    omega
  · show 0 + 1 * (x 2).val = (x 2).val
    omega

/-- A copied row of the scratch buffer holds the expert's row. -/
theorem landed (c : Dev nD) (y : Buf (Elt F) ((c : Thread nD τ).loc main_arg4))
    (G0 G1 : Buf (Elt F) ((c : Thread nD τ).loc cc0_scratch0)) (k t r : ℕ) (hr : r < 74752)
    (o2 : Fin 2 → Nat) (b2 : ∀ a, o2 a + S1x2048.size a ≤ S74752x2048.size a)
    (o3 : Fin 3 → Nat) (b3 : ∀ a, o3 a + S1x1x2048.size a ≤ S4x256x2048.size a)
    (ho2 : o2 = ![r, 0]) (ho3 : o3 = ![k, t, 0])
    (hG : ∀ x : S4x256x2048.Idx, (x 0).val = k → (x 1).val = t → G1 x = y (ix2 (⟨r, hr⟩ : Fin 74752) (x 2)))
    (x : S4x256x2048.Idx) (h0 : (x 0).val = k) (h1 : (x 1).val = t) :
    (slot o3 b3).view.write (Elt F) G0 (ReadAs.same.apply ((yrow o2 b2).view.read (Elt F) y)) Finset.univ x = G1 x := by
  subst ho2 ho3
  rw [hG x h0 h1]
  conv_lhs => rw [← slot_emb k t b3 x h0 h1]
  rw [View.write_emb_of_mem _ _ (Finset.mem_univ _)]
  show y _ = _
  congr 1
  funext a
  apply Fin.ext
  fin_cases a
  · show r + 1 * 0 = r
    omega
  · show 0 + 1 * (x 2).val = (x 2).val
    omega

theorem amount_eq (o : Fin 3 → Nat) (b : ∀ a, o a + S1x1x2048.size a ≤ S4x256x2048.size a) (s : DmaSem sig) :
    (slot o b).view.amount (.dma s) = rowU := rfl

/-- One copy's step. -/
theorem copy_step (c : Dev nD) (arg1 : Memref sig .tc .smem S1024 .i32) (arg8 : DmaSems sig S_)
    (o1 : Fin 1 → Nat) (b1 : ∀ a, o1 a + S1.size a ≤ S1024.size a)
    (chk : BitVec 32 → Prop) (dec : ∀ v, Decidable (chk v))
    (o2 : BitVec 32 → Fin 2 → Nat) (b2 : ∀ v, chk v → ∀ a, o2 v a + S1x2048.size a ≤ S74752x2048.size a)
    (o3 : Fin 3 → Nat) (b3 : ∀ a, o3 a + S1x1x2048.size a ≤ S4x256x2048.size a)
    (k : Prog (TpuEff nD τ sig (Elt F) Λ₀ .tc) Unit) (Q : Unit → sProp 𝕄)
    (f1 : Buf (Elt F) (arg1.view.loc (c : Thread nD τ))) (y : Buf (Elt F) ((c : Thread nD τ).loc main_arg4))
    (q1 q : PosShare TreeShare)
    (G0 G1 : Buf (Elt F) ((c : Thread nD τ).loc cc0_scratch0)) (D : Fin 1024 → sProp 𝕄)
    (j : ℕ) (hj : j < 1024) (p t : ℕ) (w : BitVec 32)
    (ho1 : o1 = ![j]) (ho2 : ∀ v, o2 v = ![v.toNat, 0]) (ho3 : o3 = ![p, t, 0])
    (hchk : ∀ v : BitVec 32, v.toNat < 74752 → chk v)
    (hw : arg1.view.read (Elt F) f1 (ix1 ⟨j, hj⟩) = w) (hlt : w.toNat < 74752)
    (hG : ∀ x : S4x256x2048.Idx, (x 0).val = p → (x 1).val = t → G1 x = y (ix2 (⟨w.toNat, hlt⟩ : Fin 74752) (x 2)))
    (hD : iprop(slotPt c G1 p t ∗ yPt c y q w.toNat) ⊢ D ⟨j, hj⟩) :
    iprop((arg1.view.loc (c : Thread nD τ) ↦[arg1.view.set]{q1} f1) ∗ slotPt c G0 p t ∗ yPt c y q w.toNat
        ∗ Batch (countersEmb (U := Pipeline.UD sig nD τ)) (c : Thread nD τ) (.dma arg8.sem) () rowU D j 0)
      ⊢ iprop((iprop((arg1.view.loc (c : Thread nD τ) ↦[arg1.view.set]{q1} f1)
          ∗ Batch (countersEmb (U := Pipeline.UD sig nD τ)) (c : Thread nD τ) (.dma arg8.sem) () rowU D (j + 1) 0)
          -∗ wp frame (wpE (defs₀ (F := F)) Variants.none (c : Thread nD τ) none) Set.univ k Q)
        -∗ wp frame (wpE (defs₀ (F := F)) Variants.none (c : Thread nD τ) none) Set.univ
            (copyProg arg1 arg8 o1 b1 chk dec o2 b2 o3 b3 k) Q) := by
  have hread : ∀ x, (arg1.access (Rect.unit (s := S1024) o1 S1.size b1)).read (Elt F) f1 x = w := by
    intro x
    rw [← hw]
    show arg1.view.read (Elt F) f1 _ = _
    congr 1
    subst ho1
    funext a
    apply Fin.ext
    have hx : (x 0).val < 1 := (x 0).isLt
    fin_cases a
    show j + 1 * (x 0).val = j
    omega
  have hset : (arg1.access (Rect.unit (s := S1024) o1 S1.size b1)).set ⊆ arg1.view.set := View.set_slice_subset _ _
  have hys := yset_eq c (o2 w) (b2 w (hchk w hlt)) w.toNat (ho2 w)
  have hdel : iprop(((c : Thread nD τ).loc cc0_scratch0 ↦[slotSet c p t]{fullShare}
        ((slot o3 b3).view.write (Elt F) G0 (ReadAs.same.apply ((yrow (o2 w) (b2 w (hchk w hlt))).view.read (Elt F) y)) Finset.univ))
      ∗ ((c : Thread nD τ).loc main_arg4 ↦[(yrow (o2 w) (b2 w (hchk w hlt))).view.set]{q} y)) ⊢ D ⟨j, hj⟩ := by
    have e : ((c : Thread nD τ).loc cc0_scratch0 ↦[slotSet c p t]{fullShare}
        ((slot o3 b3).view.write (Elt F) G0 (ReadAs.same.apply ((yrow (o2 w) (b2 w (hchk w hlt))).view.read (Elt F) y)) Finset.univ) : sProp 𝕄)
        = slotPt c G1 p t := by
      unfold slotPt
      refine pointsTo_congr fun x hx => ?_
      have hx := (Finset.mem_filter.1 hx).2
      exact landed c y G0 G1 p t w.toNat hlt (o2 w) _ o3 b3 (ho2 w) ho3 hG x hx.1 hx.2
    rw [e, hys]
    exact hD
  iintro ⟨H1, Hd, Hs, HB⟩ Hk
  unfold copyProg
  iapply (wp_smemLoadElt Variants.none (c : Thread nD τ) none Set.univ hset) $$ H1
  iintro H1
  rw [hread]
  iapply (wp_assume Variants.none (c : Thread nD τ) none Set.univ (hchk w hlt))
  have hb := Transfers.wp_dmaBatch (c := (c : Thread nD τ)) (countersEmb (U := Pipeline.UD sig nD τ)) Variants.none none () rowU (defs := defs₀ (F := F))
    (src := yrow (o2 w) (b2 w (hchk w hlt)))
    (dst := slot o3 b3)
    (via := ReadAs.same) (sm := .dma arg8.sem) (hsrc := View.wordExact_bits rfl) (hdst := (View.wordExact_bits rfl).reshape _ _) (hsem := ⟨Or.inl rfl, trivial⟩)
    (k := fun _ => k) (Q := Q)
    (amount_eq _ _ _)
    (q := q) (fs := y) (fd := G0) (Sd := slotSet c p t)
    (Finset.Subset.antisymm_iff.1 (slotSet_eq c _ b3 p t ho3)).1 hj (Nat.zero_le _) (D := D) hdel
  unfold slotPt yPt
  iapply hb $$ [Hs Hd HB]
  · isplitl [Hs]
    · iapply (Entails.of_eq (congrArg (fun S => ((c : Thread nD τ).loc main_arg4 ↦[S]{q} y : sProp 𝕄)) hys.symm))
      iexact Hs
    isplitl [Hd]; · iexact Hd
    iexact HB
  iintro HB
  iapply Hk
  isplitl [H1]; · iexact H1
  iexact HB

end Cert.Kernel3Ideal.Hand
end
-- ==== Proof.CombBody.lean ====
module

public import proofs.«01_k».proof.Proof.CombIssue

/-! # The combine: one grid point's body -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Transfers (pending Batch shareTokN shareDrop)
open Idealize.ShloMosaic.ValueIdx (ix1 ix2 ix3)

variable {F : FTy → Type} [FloatOps F]

local notation "𝕄" => MT nD τ sig Unit (Elt F) ℕ (Pipeline.UD sig nD τ) ℕ

section
variable (c : Dev nD) (arg1 : Memref sig .tc .smem S1024 .i32) (arg8 : DmaSems sig S_)
    (f1 : Buf (Elt F) (arg1.view.loc (c : Thread nD τ))) (y : Buf (Elt F) ((c : Thread nD τ).loc main_arg4))

/-- The expert row a copy takes. -/
def wd (j : Fin 1024) : ℕ := (show BitVec 32 from arg1.view.read (Elt F) f1 (ix1 j)).toNat

/-- What one copy holds: its row of the scratch buffer at `G`, and a share of the expert's row. -/
def pairPt (G : Buf (Elt F) ((c : Thread nD τ).loc cc0_scratch0)) (j : Fin 1024) : sProp 𝕄 :=
  iprop(slotPt c G (j.val % 4) (j.val / 4) ∗ yPt c y (shareTokN fullShare j.val) (wd c arg1 f1 j))

instance pairPt_storable (G : Buf (Elt F) ((c : Thread nD τ).loc cc0_scratch0)) (j : Fin 1024) :
    Storable (upEmb : UEmb _ 𝕄) (pairPt c arg1 f1 y G j) := by
  unfold pairPt slotPt yPt; infer_instance

/-- The copies in flight. -/
abbrev flights (G1 : Buf (Elt F) ((c : Thread nD τ).loc cc0_scratch0)) (k u : ℕ) : sProp 𝕄 :=
  Batch (countersEmb (U := Pipeline.UD sig nD τ)) (c : Thread nD τ) (.dma arg8.sem) () rowU (pairPt c arg1 f1 y G1) k u

variable (G0 G1 : Buf (Elt F) ((c : Thread nD τ).loc cc0_scratch0))

/-- Before a trip of the first loop. -/
def issueAt (k : ℕ) (_ : Unit) : sProp 𝕄 :=
  iprop((arg1.view.loc (c : Thread nD τ) ↦[arg1.view.set]{fullShare} f1) ∗ flights c arg1 arg8 f1 y G1 (4 * k) 0
    ∗ bigSep (pending (n := 1024) (4 * k)) (pairPt c arg1 f1 y G0))

/-- Before a trip of the second loop. -/
def drainAt (k : ℕ) (_ : Unit) : sProp 𝕄 :=
  iprop(flights c arg1 arg8 f1 y G1 1024 (4 * k * rowU) ∗ ∃ W, owes (c : Thread nD τ) 0 W)

theorem issue_trip (i : grid0.Coords) (harg1 : arg1.IsWhole) (arg2 harg2 arg3 harg3 arg4 harg4 h5 arg6 harg6 h7)
    (hlt : ∀ j, wd c arg1 f1 j < 74752)
    (hG : ∀ (j : Fin 1024) (x : S4x256x2048.Idx), (x 0).val = j.val % 4 → (x 1).val = j.val / 4 →
      G1 x = y (ix2 (⟨wd c arg1 f1 j, hlt j⟩ : Fin 74752) (x 2)))
    (t : Fin k0_t1_loop.trips) (acc : Unit) :
    issueAt c arg1 arg8 f1 y G0 G1 t acc ⊢ wp frame (wpE (defs₀ (F := F)) Variants.none (c : Thread nD τ) none) Set.univ
      (k0_t1_body (F := F) i arg1 harg1 arg2 harg2 arg3 harg3 arg4 harg4 yM h5 arg6 harg6 sM h7 arg8 t acc)
      (issueAt c arg1 arg8 f1 y G0 G1 (t.val + 1)) := by
  have ht : t.val < 256 := lt_of_lt_of_eq t.isLt t1_trips
  rw [t1_body_eq]
  unfold issueAt
  rw [Transfers.bigSep_pending_step _ (4 * t.val) (by omega), Transfers.bigSep_pending_step _ (4 * t.val + 1) (by omega),
    Transfers.bigSep_pending_step _ (4 * t.val + 1 + 1) (by omega), Transfers.bigSep_pending_step _ (4 * t.val + 1 + 1 + 1) (by omega),
    show 4 * (t.val + 1) = 4 * t.val + 1 + 1 + 1 + 1 by omega]
  have hp : ∀ (G : Buf (Elt F) ((c : Thread nD τ).loc cc0_scratch0)) (j p : ℕ) (hj : j < 1024) (h1 : j % 4 = p) (h2 : j / 4 = t.val), pairPt c arg1 f1 y G ⟨j, hj⟩
      = iprop(slotPt c G p t.val ∗ yPt c y (shareTokN fullShare j) (show BitVec 32 from arg1.view.read (Elt F) f1 (ix1 ⟨j, hj⟩)).toNat) := by
    intro G j p hj h1 h2
    subst h1
    unfold pairPt
    rw [← h2]
    rfl
  have stp := fun (j p : ℕ) (hj : j < 1024) (h1 : j % 4 = p) (h2 : j / 4 = t.val) o1 b1 chk dec o2 b2 o3 b3 k (ho1 : o1 = ![j]) (ho2 : ∀ v : BitVec 32, o2 v = ![v.toNat, 0]) (ho3 : o3 = ![p, t.val, 0]) (hchk : ∀ v : BitVec 32, v.toNat < 74752 → chk v) =>
    copy_step c arg1 arg8 o1 b1 chk dec o2 b2 o3 b3 k (issueAt c arg1 arg8 f1 y G0 G1 (t.val + 1)) f1 y fullShare (shareTokN fullShare j) G0 G1
      (pairPt c arg1 f1 y G1) j hj p t.val
      (show BitVec 32 from arg1.view.read (Elt F) f1 (ix1 ⟨j, hj⟩)) ho1 ho2 ho3 hchk rfl (hlt ⟨j, hj⟩)
      (fun x e0 e1 => hG ⟨j, hj⟩ x (e0.trans h1.symm) (e1.trans h2.symm))
      (Entails.of_eq (hp G1 j p hj h1 h2).symm)
  rw [hp G0 _ 0 _ (by omega) (by omega), hp G0 _ 1 _ (by omega) (by omega), hp G0 _ 2 _ (by omega) (by omega), hp G0 _ 3 _ (by omega) (by omega)]
  have hck : ∀ v : BitVec 32, v.toNat < 74752 → ∀ a : Fin 2, (![v.toNat, 0] : Fin 2 → Nat) a + S1x2048.size a ≤ S74752x2048.size a := by
    intro v hv a; fin_cases a
    · show v.toNat + 1 ≤ 74752; omega
    · show 0 + 2048 ≤ 2048; omega
  iintro ⟨H1, HB, ⟨Hd0, Hs0⟩, ⟨Hd1, Hs1⟩, ⟨Hd2, Hs2⟩, ⟨Hd3, Hs3⟩, HP⟩
  iapply (stp (4 * t.val) 0 (by omega) (by omega) (by omega) _ _ _ _ _ _ _ _ _ (off1_eq t) (fun _ => rfl) (off2_eq t) hck) $$ [H1 HB Hd0 Hs0]
  · isplitl [H1]; · iexact H1
    isplitl [Hd0]; · iexact Hd0
    isplitl [Hs0]; · iexact Hs0
    iexact HB
  iintro ⟨H1, HB⟩
  iapply (stp (4 * t.val + 1) 1 (by omega) (by omega) (by omega) _ _ _ _ _ _ _ _ _ (off4_eq t) (fun _ => rfl) (off5_eq t) hck) $$ [H1 HB Hd1 Hs1]
  · isplitl [H1]; · iexact H1
    isplitl [Hd1]; · iexact Hd1
    isplitl [Hs1]; · iexact Hs1
    iexact HB
  iintro ⟨H1, HB⟩
  iapply (stp (4 * t.val + 1 + 1) 2 (by omega) (by omega) (by omega) _ _ _ _ _ _ _ _ _ (off7_eq t) (fun _ => rfl) (off8_eq t) hck) $$ [H1 HB Hd2 Hs2]
  · isplitl [H1]; · iexact H1
    isplitl [Hd2]; · iexact Hd2
    isplitl [Hs2]; · iexact Hs2
    iexact HB
  iintro ⟨H1, HB⟩
  iapply (stp (4 * t.val + 1 + 1 + 1) 3 (by omega) (by omega) (by omega) _ _ _ _ _ _ _ _ _ (off10_eq t) (fun _ => rfl) (off11_eq t) hck) $$ [H1 HB Hd3 Hs3]
  · isplitl [H1]; · iexact H1
    isplitl [Hd3]; · iexact Hd3
    isplitl [Hs3]; · iexact Hs3
    iexact HB
  iintro ⟨H1, HB⟩
  sl_step
  unfold issueAt
  rw [show 4 * (t.val + 1) = 4 * t.val + 1 + 1 + 1 + 1 by omega]
  isplitl [H1]; · iexact H1
  isplitl [HB]; · iexact HB
  iexact HP

/-- One wait for a row's units. -/
def waitProg (arg8 : DmaSems sig S_) (p : ℕ) (b : ∀ a, (![p, 0, 0] : Fin 3 → Nat) a + S1x1x2048.size a ≤ S4x256x2048.size a)
    (k : Prog (TpuEff nD τ sig (Elt F) Λ₀ .tc) Unit) : Prog (TpuEff nD τ sig (Elt F) Λ₀ .tc) Unit :=
  .op (.waitDma2 arg8.sem (yrow ![0, 0] inb_S74752x2048_S1x2048_0_0) (slot ![p, 0, 0] b)
    (View.wordExact_bits rfl) ((View.wordExact_bits rfl).reshape _ _)) fun _ => k

theorem wait_step (m : ℕ) (hm : m < 1024) (p : ℕ) (b : ∀ a, (![p, 0, 0] : Fin 3 → Nat) a + S1x1x2048.size a ≤ S4x256x2048.size a)
    (W : Waits sig Unit) (k : Prog (TpuEff nD τ sig (Elt F) Λ₀ .tc) Unit) (Q : Unit → sProp 𝕄) :
    iprop(flights c arg1 arg8 f1 y G1 1024 (m * rowU) ∗ owes (c : Thread nD τ) 0 W)
      ⊢ iprop((iprop(flights c arg1 arg8 f1 y G1 1024 ((m + 1) * rowU) ∗ owes (c : Thread nD τ) 0 (insert (SemLoc.dma arg8.sem, ()) W))
          -∗ wp frame (wpE (defs₀ (F := F)) Variants.none (c : Thread nD τ) none) Set.univ k Q)
        -∗ wp frame (wpE (defs₀ (F := F)) Variants.none (c : Thread nD τ) none) Set.univ (waitProg arg8 p b k) Q) := by
  have hu : m * rowU + 1 * rowU ≤ rowU * 1024 := by
    rw [← Nat.add_mul, Nat.mul_comm rowU]
    exact Nat.mul_le_mul_right _ (by omega)
  have h := Transfers.wp_waitBatchMul (c := (c : Thread nD τ)) (defs := defs₀ (F := F)) (countersEmb (U := Pipeline.UD sig nD τ)) Variants.none none (sem := arg8.sem)
      (srcw := yrow ![0, 0] inb_S74752x2048_S1x2048_0_0)
      (dstw := slot ![p, 0, 0] b)
      (hsrc := View.wordExact_bits rfl) (hdst := (View.wordExact_bits rfl).reshape _ _) (k := fun _ => k) (Q := Q)
      () (N := rowU) 1 (Nat.one_mul _).symm (D := pairPt c arg1 f1 y G1) (j := 1024) (u := m * rowU) hu (W := W)
  rw [← Nat.add_mul] at h
  exact h

theorem t2_body_eq (i : grid0.Coords) (harg1 : arg1.IsWhole) (arg2 harg2 arg3 harg3 arg4 harg4 h5 arg6 harg6 h7) (t : Fin k0_t2_loop.trips) :
    k0_t2_body (F := F) i arg1 harg1 arg2 harg2 arg3 harg3 arg4 harg4 yM h5 arg6 harg6 sM h7 arg8 t ()
      = waitProg arg8 0 inb_S4x256x2048_S1x1x2048_0_0_0 (waitProg arg8 1 inb_S4x256x2048_S1x1x2048_1_0_0
        (waitProg arg8 2 inb_S4x256x2048_S1x1x2048_2_0_0 (waitProg arg8 3 inb_S4x256x2048_S1x1x2048_3_0_0 (pure ())))) := rfl

theorem drain_trip (i : grid0.Coords) (harg1 : arg1.IsWhole) (arg2 harg2 arg3 harg3 arg4 harg4 h5 arg6 harg6 h7)
    (t : Fin k0_t2_loop.trips) (acc : Unit) :
    drainAt c arg1 arg8 f1 y G1 t acc ⊢ wp frame (wpE (defs₀ (F := F)) Variants.none (c : Thread nD τ) none) Set.univ
      (k0_t2_body (F := F) i arg1 harg1 arg2 harg2 arg3 harg3 arg4 harg4 yM h5 arg6 harg6 sM h7 arg8 t acc)
      (drainAt c arg1 arg8 f1 y G1 (t.val + 1)) := by
  have ht : t.val < 256 := lt_of_lt_of_eq t.isLt t2_trips
  rw [t2_body_eq]
  unfold drainAt
  iintro ⟨HB, ⟨%W, HO⟩⟩
  iapply (wait_step c arg1 arg8 f1 y G1 (4 * t.val) (by omega) _ _ W _ _) $$ [HB HO]
  · isplitl [HB]; · iexact HB
    iexact HO
  iintro ⟨HB, HO⟩
  iapply (wait_step c arg1 arg8 f1 y G1 (4 * t.val + 1) (by omega) _ _ _ _ _) $$ [HB HO]
  · isplitl [HB]; · iexact HB
    iexact HO
  iintro ⟨HB, HO⟩
  iapply (wait_step c arg1 arg8 f1 y G1 (4 * t.val + 1 + 1) (by omega) _ _ _ _ _) $$ [HB HO]
  · isplitl [HB]; · iexact HB
    iexact HO
  iintro ⟨HB, HO⟩
  iapply (wait_step c arg1 arg8 f1 y G1 (4 * t.val + 1 + 1 + 1) (by omega) _ _ _ _ _) $$ [HB HO]
  · isplitl [HB]; · iexact HB
    iexact HO
  iintro ⟨HB, HO⟩
  sl_step
  rw [show 4 * (t.val + 1) = 4 * t.val + 1 + 1 + 1 + 1 by omega]
  isplitl [HB]; · iexact HB
  iexists _; iexact HO

/-- What the copies leave aside: the experts' rows less one row for each copy, and the last share. -/
def restPt : sProp 𝕄 :=
  iprop(((c : Thread nD τ).loc main_arg4 ↦[Finset.univ]{shareDrop fullShare 1024} y)
    ∗ bigSep (Finset.univ : Finset (Fin 1024)) fun j => (c : Thread nD τ).loc main_arg4 ↦[Finset.univ \ yset c (wd c arg1 f1 j)]{shareTokN fullShare j.val} y)

/-- The rows of the scratch buffer are the whole of it. -/
theorem slots_univ : (Finset.univ : Finset (Idx ((c : Thread nD τ).loc cc0_scratch0)))
    = Finset.univ.biUnion fun j : Fin 1024 => slotSet c (j.val % 4) (j.val / 4) := by
  ext x
  have h0 : (x 0).val < 4 := (x 0).isLt
  have h1 : (x 1).val < 256 := (x 1).isLt
  simp only [Finset.mem_univ, Finset.mem_biUnion, true_and, true_iff]
  refine ⟨⟨4 * (x 1).val + (x 0).val, by omega⟩, Finset.mem_filter.2 ⟨Finset.mem_univ _, ?_, ?_⟩⟩
  · show (x 0).val = (4 * (x 1).val + (x 0).val) % 4; omega
  · show (x 1).val = (4 * (x 1).val + (x 0).val) / 4; omega

theorem split_eq (G : Buf (Elt F) ((c : Thread nD τ).loc cc0_scratch0)) :
    iprop(((c : Thread nD τ).loc cc0_scratch0 ↦[Finset.univ]{fullShare} G) ∗ ((c : Thread nD τ).loc main_arg4 ↦[Finset.univ]{fullShare} y))
      ⊣⊢ iprop(bigSep Finset.univ (pairPt c arg1 f1 y G) ∗ restPt c arg1 f1 y) := by
  have h2 : ((c : Thread nD τ).loc cc0_scratch0 ↦[Finset.univ]{fullShare} G : sProp 𝕄) = bigSep Finset.univ fun j : Fin 1024 => slotPt c G (j.val % 4) (j.val / 4) := by
    rw [slots_univ c]
    unfold slotPt
    refine pointsTo_biUnion _ _ fun j _ j' _ hne => ?_
    rw [Finset.disjoint_left]
    intro x hx hx'
    have e := (Finset.mem_filter.1 hx).2
    have e' := (Finset.mem_filter.1 hx').2
    exact hne (Fin.ext (by omega))
  have h3 := Transfers.pointsTo_toks_range (Val := Elt F) (Ix := Unit) (Name := ℕ) (U := Pipeline.UD sig nD τ) (Lvl := ℕ) (ℓ := (c : Thread nD τ).loc main_arg4) (S := Finset.univ) (f := y) fullShare 1024
  have h4 : bigSep (Finset.range 1024) (fun i => ((c : Thread nD τ).loc main_arg4 ↦[Finset.univ]{shareTokN fullShare i} y : sProp 𝕄))
      = bigSep (Finset.univ : Finset (Fin 1024)) fun j => ((c : Thread nD τ).loc main_arg4 ↦[Finset.univ]{shareTokN fullShare j.val} y : sProp 𝕄) :=
    (Ring.bigSep_fin_eq_range 1024 _ _ fun _ _ => rfl).symm
  have h5 : ∀ j : Fin 1024, ((c : Thread nD τ).loc main_arg4 ↦[Finset.univ]{shareTokN fullShare j.val} y : sProp 𝕄)
      = iprop(yPt c y (shareTokN fullShare j.val) (wd c arg1 f1 j) ∗ ((c : Thread nD τ).loc main_arg4 ↦[Finset.univ \ yset c (wd c arg1 f1 j)]{shareTokN fullShare j.val} y)) := by
    intro j
    have h := pointsTo_split_subset (Val := Elt F) (Ix := Unit) (Name := ℕ) (U := Pipeline.UD sig nD τ) (Lvl := ℕ) (q := shareTokN fullShare j.val) (f := y)
      (Finset.subset_univ (yset c (wd c arg1 f1 j)))
    exact BI.equiv_iff.mp ⟨h.1, h.2⟩
  rw [h4] at h3
  have h6 : (bigSep (Finset.univ : Finset (Fin 1024)) fun j => ((c : Thread nD τ).loc main_arg4 ↦[Finset.univ]{shareTokN fullShare j.val} y : sProp 𝕄))
      = iprop((bigSep Finset.univ fun j : Fin 1024 => yPt c y (shareTokN fullShare j.val) (wd c arg1 f1 j))
        ∗ bigSep Finset.univ fun j : Fin 1024 => ((c : Thread nD τ).loc main_arg4 ↦[Finset.univ \ yset c (wd c arg1 f1 j)]{shareTokN fullShare j.val} y)) := by
    rw [show (fun j : Fin 1024 => ((c : Thread nD τ).loc main_arg4 ↦[Finset.univ]{shareTokN fullShare j.val} y : sProp 𝕄)) = _ from funext h5]
    exact BI.bigSep_sep _ _ _
  rw [h6] at h3
  have h7 : bigSep Finset.univ (pairPt c arg1 f1 y G) = iprop((bigSep Finset.univ fun j : Fin 1024 => slotPt c G (j.val % 4) (j.val / 4))
      ∗ bigSep Finset.univ fun j : Fin 1024 => yPt c y (shareTokN fullShare j.val) (wd c arg1 f1 j)) := BI.bigSep_sep _ _ _
  rw [h7, ← h2]
  unfold restPt
  constructor
  · iintro ⟨HA, HB⟩
    ihave HB := h3.1 $$ HB
    icases HB with ⟨HB1, HB2, HB3⟩
    isplitl [HA HB2]
    · isplitl [HA] <;> iassumption
    isplitl [HB1] <;> iassumption
  · iintro ⟨⟨HA, HB2⟩, HB1, HB3⟩
    isplitl [HA]; · iexact HA
    iapply h3.2
    isplitl [HB1]; · iexact HB1
    isplitl [HB2] <;> iassumption

end

/-- What the body computes of the gates, the residual stream, the modulation and the scratch buffer. -/
def out (x1 : FVec F S256x128 .f32) (x2 : FVec F S256x2048 .f32) (x3 : FVec F S1x1x2048 .f32) (G : S4x256x2048.Idx → F .f32) : FVec F S256x2048 .f32 :=
  k0_pay1 x2 (k0_pay2 x1
    (sM.view.readAt (Elt F) (Rect.unit (s := S4x256x2048) ![0, 0, 0] S1x256x2048.size inb_S4x256x2048_S1x256x2048_0_0_0).toLoadRect G)
    (sM.view.readAt (Elt F) (Rect.unit (s := S4x256x2048) ![1, 0, 0] S1x256x2048.size inb_S4x256x2048_S1x256x2048_1_0_0).toLoadRect G)
    (sM.view.readAt (Elt F) (Rect.unit (s := S4x256x2048) ![2, 0, 0] S1x256x2048.size inb_S4x256x2048_S1x256x2048_2_0_0).toLoadRect G)
    (sM.view.readAt (Elt F) (Rect.unit (s := S4x256x2048) ![3, 0, 0] S1x256x2048.size inb_S4x256x2048_S1x256x2048_3_0_0).toLoadRect G) x3)

theorem left_block (v : View sig .tc .vmem S256x2048 .f32) (f : v.ty.Contents (Elt F)) (inb : ∀ a, (![0, 0] : Fin 2 → ℕ) a + S256x2048.size a ≤ S256x2048.size a)
    (w : S256x2048.Idx → Elt F .f32) : v.read (Elt F) (v.writes (Elt F) f [⟨Rect.unit (s := S256x2048) ![0, 0] S256x2048.size inb, w⟩]) = w := by
  have h0 : (![0, 0] : Fin 2 → ℕ) = fun _ => 0 := by funext a; match a with | 0 => rfl | 1 => rfl
  rw [View.read_writes_eq_canon _ _ _ (fun y => ⟨_, List.mem_singleton_self _, View.mem_set_unit_zero h0 inb y⟩)]
  exact View.canon_unit_zero h0 inb w

set_option maxHeartbeats 8000000 in
/-- One grid point: the expert rows the block's words name are fetched, weighted, summed and added. -/
theorem body_run (c : Dev nD) (i : grid0.Coords) (arg1 : Memref sig .tc .smem S1024 .i32) (harg1 : arg1.IsWhole)
    (arg2 : Memref sig .tc .vmem S256x128 .f32) (harg2 : arg2.IsWhole) (arg3 : Memref sig .tc .vmem S256x2048 .f32) (harg3 : arg3.IsWhole)
    (arg4 : Memref sig .tc .vmem S1x1x2048 .f32) (harg4 : arg4.IsWhole) (h5) (arg6 : Memref sig .tc .vmem S256x2048 .f32) (harg6 : arg6.IsWhole) (h7)
    (arg8 : DmaSems sig S_)
    (x0 : S1024.Idx → Elt F .i32) (x1 : S256x128.Idx → Elt F .f32) (x2 : S256x2048.Idx → Elt F .f32) (x3 : S1x1x2048.Idx → Elt F .f32)
    (y : Buf (Elt F) ((c : Thread nD τ).loc main_arg4)) (G0 G1 : Buf (Elt F) ((c : Thread nD τ).loc cc0_scratch0))
    (hlt : ∀ j, wd c arg1 (arg1.view.rep x0) j < 74752)
    (hG : ∀ (j : Fin 1024) (x : S4x256x2048.Idx), (x 0).val = j.val % 4 → (x 1).val = j.val / 4 →
      G1 x = y (ix2 (⟨wd c arg1 (arg1.view.rep x0) j, hlt j⟩ : Fin 74752) (x 2)))
    (Wt : Waits sig Unit) (K : PUnit → sProp 𝕄) :
    iprop((arg1.view.loc (c : Thread nD τ) ↦[arg1.view.set]{fullShare} arg1.view.rep x0)
          ∗ (arg2.view.loc (c : Thread nD τ) ↦[arg2.view.set]{fullShare} arg2.view.rep x1)
          ∗ (arg3.view.loc (c : Thread nD τ) ↦[arg3.view.set]{fullShare} arg3.view.rep x2)
          ∗ (arg4.view.loc (c : Thread nD τ) ↦[arg4.view.set]{fullShare} arg4.view.rep x3)
          ∗ (∃ d, owns (c : Thread nD τ) arg6 fullShare d)
          ∗ ((c : Thread nD τ).loc main_arg4 ↦[Finset.univ]{fullShare} y)
          ∗ ((c : Thread nD τ).loc cc0_scratch0 ↦[Finset.univ]{fullShare} G0)
          ∗ semVal ((c : Thread nD τ), SemLoc.dma arg8.sem) 0 ∗ owes (c : Thread nD τ) 0 Wt
          ∗ (iprop((arg1.view.loc (c : Thread nD τ) ↦[arg1.view.set]{fullShare} arg1.view.rep x0)
              ∗ (arg2.view.loc (c : Thread nD τ) ↦[arg2.view.set]{fullShare} arg2.view.rep x1)
              ∗ (arg3.view.loc (c : Thread nD τ) ↦[arg3.view.set]{fullShare} arg3.view.rep x2)
              ∗ (arg4.view.loc (c : Thread nD τ) ↦[arg4.view.set]{fullShare} arg4.view.rep x3)
              ∗ owns (c : Thread nD τ) arg6 fullShare (out x1 x2 x3 G1)
              ∗ ((c : Thread nD τ).loc main_arg4 ↦[Finset.univ]{fullShare} y)
              ∗ ((c : Thread nD τ).loc cc0_scratch0 ↦[Finset.univ]{fullShare} G1)
              ∗ semVal ((c : Thread nD τ), SemLoc.dma arg8.sem) 0 ∗ (∃ W, owes (c : Thread nD τ) 0 W)) -∗ K ⟨⟩))
      ⊢ wp frame (wpE (defs₀ (F := F)) Variants.none c none) Set.univ
        (cc0_moe_combine i arg1 harg1 arg2 harg2 arg3 harg3 arg4 harg4 yM h5 arg6 harg6 sM h7 arg8) K := by
  unfold owns
  rw [cc0_moe_combine_eq_skeleton]; unfold cc0_moe_combine_skel
  rw [k0_part1_eq_skeleton, wp_bind]; unfold k0_part1_skel
  iintro ⟨H1, H2, H3, H4, ⟨%d6, %f6, -, H6⟩, HY, HS, Hc, HO, Hk⟩
  ihave HP := (split_eq c arg1 (arg1.view.rep x0) y G0).1 $$ [HS HY]
  · isplitl [HS] <;> iassumption
  icases HP with ⟨HP, HR⟩
  imod (Transfers.batch_alloc' (Lvl := ℕ) (countersEmb (U := Pipeline.UD sig nD τ)) (c : Thread nD τ) () rowU (pairPt c arg1 (arg1.view.rep x0) y G1) (sm := .dma arg8.sem) (E := Set.univ)) $$ Hc with HB
  iapply (Scf.wp_for_bind (M := 𝕄) Idealize.ShloMosaic.frame (wpE (defs₀ (F := F)) Variants.none (c : Thread nD τ) none) Set.univ _ _ _ k0_t1_ok () _
    (issueAt c arg1 arg8 (arg1.view.rep x0) y G0 G1) (issue_trip c arg1 arg8 (arg1.view.rep x0) y G0 G1 i harg1 arg2 harg2 arg3 harg3 arg4 harg4 h5 arg6 harg6 h7 hlt hG)) $$ [H1 HB HP]
  · unfold issueAt
    isplitl [H1]; · iexact H1
    isplitl [HB]; · iexact HB
    iapply (Entails.of_eq (Transfers.bigSep_pending_zero (pairPt c arg1 (arg1.view.rep x0) y G0)))
    iexact HP
  iintro %acc HI
  unfold issueAt
  icases HI with ⟨H1, HB, -⟩
  iapply (Scf.wp_for_bind (M := 𝕄) Idealize.ShloMosaic.frame (wpE (defs₀ (F := F)) Variants.none (c : Thread nD τ) none) Set.univ _ _ _ k0_t2_ok () _
    (drainAt c arg1 arg8 (arg1.view.rep x0) y G1) (drain_trip c arg1 arg8 (arg1.view.rep x0) y G1 i harg1 arg2 harg2 arg3 harg3 arg4 harg4 h5 arg6 harg6 h7)) $$ [HB HO]
  · unfold drainAt
    rw [show 4 * 0 * rowU = 0 by rw [Nat.mul_zero, Nat.zero_mul], show 4 * Scf.trips k0_t1_loop.lb k0_t1_loop.ub k0_t1_loop.st = 1024 from congrArg (4 * ·) t1_trips]
    isplitl [HB]; · iexact HB
    iexists _; iexact HO
  iintro %acc2 HD
  unfold drainAt
  icases HD with ⟨HB, HO⟩
  rw [show 4 * Scf.trips k0_t2_loop.lb k0_t2_loop.ub k0_t2_loop.st * rowU = rowU * 1024 from (congrArg (4 * · * rowU) t2_trips).trans (Nat.mul_comm _ _)]
  imod (Transfers.batch_collect' (countersEmb (U := Pipeline.UD sig nD τ)) (c : Thread nD τ) rowU_pos) $$ HB with ⟨HP, Hc⟩
  ihave HS := (split_eq c arg1 (arg1.view.rep x0) y G1).2 $$ [HP HR]
  · isplitl [HP] <;> iassumption
  icases HS with ⟨HS, HY⟩
  sl_exec!
  sl_step
  sl_exec!
  sl_step
  iapply Hk
  isplitl [H1]; · iexact H1
  isplitl [H2]; · iexact H2
  isplitl [H3]; · iexact H3
  isplitl [H4]; · iexact H4
  isplitl [H6]
  · iexists _; isplitr; swap
    · iexact H6
    · ipureintro
      refine (left_block _ _ _ _).trans ?_
      exact congr (congrArg k0_pay1 (View.readAt_rep_full _ _ inb_S256x2048_S256x2048_0_0))
        (congr (congrArg (fun a => k0_pay2 a _ _ _ _) (View.readAt_rep_full _ _ inb_S256x128_S256x128_0_0)) (View.readAt_rep_full _ _ inb_S1x1x2048_S1x1x2048_0_0_0))
  isplitl [HY]; · iexact HY
  isplitl [HS]; · iexact HS
  isplitl [Hc]; · iexact Hc
  iexact HO

end Cert.Kernel3Ideal.Hand
end
-- ==== Proof.CombRun.lean ====
module

public import proofs.«01_k».proof.Proof.CombBody
public import proofs.«01_k».proof.Proof.Gen.Kernel3Ideal.Frame
public import Idealize.ShloMosaic.Lib.Pipeline.Frame
public import Idealize.ShloMosaic.Lib.Pipeline.TableIdle
public import Idealize.ShloMosaic.Adequacy
public import Idealize.ShloMosaic.Init

/-! # The launch of the combine: its blocks, and the array it leaves -/

@[expose] public section

set_option maxRecDepth 16384

noncomputable section

namespace Cert.Kernel3Ideal.Hand

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix1 ix2 ix3)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The `j`-th word of the first argument. -/
def word (c : Dev nD) (j : Fin 67584) : BitVec 32 := m ((c : Thread nD τ).loc main_arg0) (ix1 j)

/-- What the call asks of its words: rows of the experts' output. -/
def Good : Prop := ∀ c j, (word m c j).toNat < 74752

/-- The row the `j`-th word names. -/
def src (c : Dev nD) (j : Fin 67584) : Fin 74752 := ⟨(word m c j).toNat % 74752, Nat.mod_lt _ (by decide)⟩

/-- The word for expert `k` of the token in row `r` of point `t`. -/
def pos (t : Fin cfg0.N) (r : Fin 256) (k : Fin 4) : Fin 67584 := ⟨1024 * t.val + 4 * r.val + k.val, by
  have h : t.val < 66 := t.isLt
  omega⟩

/-- The scratch buffer when point `t`'s copies have landed. -/
def landedAt (c : Dev nD) (t : Fin cfg0.N) : S4x256x2048.Idx → F .f32 := fun x =>
  m ((c : Thread nD τ).loc main_arg4) (ix2 (src m c (pos t (x 1) (x 0))) (x 2 : Fin 2048))

theorem idx0 (t : Fin cfg0.N) : win0_0.index t (0 : Fin 1) = t.val :=
  (by decide +kernel : ∀ t : Fin 66, win0_0.index t (0 : Fin 1) = t.val) t

/-- The copy of point `t` with number `j` within the point. -/
def gl (t : Fin cfg0.N) (j : Fin 1024) : Fin 67584 := ⟨1024 * t.val + j.val, by
  have h : t.val < 66 := t.isLt
  omega⟩

theorem iblk0_apply (c : Dev nD) (t : Fin cfg0.N) (j : Fin 1024) : (show BitVec 32 from iblk m c 0 t (ix1 j)) = word m c (gl t j) := by
  unfold word
  show (show BitVec 32 from V m c main_arg0 (((cfg0.win 0).blk t).view.emb (ix1 j))) = _
  rw [V_main_arg0]
  rw [show ((cfg0.win 0).blk t).view.emb (ix1 j) = ix1 (gl t j) from funext fun (a : Fin 1) => by
    obtain rfl : a = 0 := Subsingleton.elim _ _
    apply Fin.ext
    show win0_0.index t (0 : Fin 1) * 1024 + 1 * j.val = 1024 * t.val + j.val
    rw [idx0 t]; omega]

/-! ## The proof data -/

/-- The one semaphore the body waits on. -/
def osem0 : Fin 1 → SemLoc sig := ![SemLoc.dma 10]
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = semVal ((c : Thread nD τ), SemLoc.dma 10) 0 := by
  rw [Pipeline.ownSems0_eq_of_list c osem0 [0] (by decide) (by decide)]; rfl

def H0 : Finset (Ref sig .tc) := {main_arg4}
theorem H0_sub : H0 ⊆ Pipeline.restRefs sig spec0 := by decide

theorem Phi_eq (c : Dev nD) :
    (Pipeline.ΦD osem0 spec0 H0 (V m) c : sProp 𝕄)
      = iprop((∃ f, (c : Thread nD τ).loc cc0_scratch0 ↦{fullShare} f) ∗ (∃ r, prngReg c r) ∗ semVal ((c : Thread nD τ), SemLoc.dma 10) 0
          ∗ ((c : Thread nD τ).loc main_arg4 ↦{fullShare} m ((c : Thread nD τ).loc main_arg4))) := by
  rw [Pipeline.ΦD_eq, scopedRest0_eq, ownSems00_eq]
  unfold H0
  rw [bigSep_singleton]

/-- What point `t` leaves in the result's block. -/
def oblk (c : Dev nD) (t : Fin cfg0.N) : S256x2048.Idx → Elt F .f32 :=
  out (F := F) (iblk m c 1 t) (iblk m c 2 t) (iblk m c 3 t) (landedAt m c t)

/-- The proof data on core `c`: the arrays as the call finds them, each input's block left in place, the result's block as the body leaves it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => oblk m c t
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = oblk m c t := by dsimp only [dats]

theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
theorem sound_body (hg : Good m) (c : Dev nD) (t : Fin cfg0.N) :
    bodyPre m c t ⊢ wp frame (wpE (defs₀ (F := F)) Variants.none c none) Set.univ (bodyAt0 t) (fun _ => bodyPost m c t) := by
  have hw : ∀ j, wd c (st0_0 t) ((st0_0 t).view.rep (iblk m c 0 t)) j = (word m c (gl t j)).toNat := fun j => by
    unfold wd
    rw [View.read_rep, ← iblk0_apply]
  have hlt : ∀ j, wd c (st0_0 t) ((st0_0 t).view.rep (iblk m c 0 t)) j < 74752 := fun j => by rw [hw]; exact hg c _
  have hG : ∀ (j : Fin 1024) (x : S4x256x2048.Idx), (x 0).val = j.val % 4 → (x 1).val = j.val / 4 →
      landedAt m c t x = (m ((c : Thread nD τ).loc main_arg4) : S74752x2048.Idx → F .f32) (ix2 (⟨wd c (st0_0 t) ((st0_0 t).view.rep (iblk m c 0 t)) j, hlt j⟩ : Fin 74752) (x 2)) := by
    intro j x h0 h1
    unfold landedAt
    congr 2
    apply Fin.ext
    show (word m c (pos t (x 1) (x 0))).toNat % 74752 = wd c (st0_0 t) _ j
    rw [hw, show pos t (x 1) (x 0) = gl t j from Fin.ext (by
      show 1024 * t.val + 4 * (x 1).val + (x 0).val = 1024 * t.val + j.val
      rw [h0, h1]; omega)]
    exact Nat.mod_eq_of_lt (hg c _)
  unfold bodyPre bodyPost
  rw [after0_0, after0_1, after0_2, after0_3, after0_4]
  simp only [before0_0, before0_1, before0_2, before0_3]
  rw [show (dats m 0 c).Φ t.castSucc = Pipeline.ΦD osem0 spec0 H0 (V m) c from rfl,
    show (dats m 0 c).Φ t.succ = Pipeline.ΦD osem0 spec0 H0 (V m) c from rfl, Phi_eq]
  unfold Dat.owesAt Pipeline.owesWithin
  rw [show (dats m 0 c).owed t.castSucc = 0 from rfl, show (dats m 0 c).owed t.succ = 0 from rfl]
  iintro ⟨⟨⟨%G0, HS⟩, Hg, Hq, HY⟩, ⟨%W, -, HW⟩, ⟨%d0, H0⟩, ⟨%d1, H1⟩, ⟨%d2, H2⟩, ⟨%d3, H3⟩, ⟨%d4, H4⟩⟩
  have hb := fun h5 h7 => body_run c (grid0.coords t) (st0_0 t) (hstage0_0 ((cfg0.slots t 0).cast nbuf0_0)) (st0_1 t) (hstage0_1 ((cfg0.slots t 1).cast nbuf0_1))
    (st0_2 t) (hstage0_2 ((cfg0.slots t 2).cast nbuf0_2)) (st0_3 t) (hstage0_3 ((cfg0.slots t 3).cast nbuf0_3)) h5 (st0_4 t) (hstage0_4 ((cfg0.slots t 4).cast nbuf0_4)) h7 cc0_scratch1
    (iblk m c 0 t) (iblk m c 1 t) (iblk m c 2 t) (iblk m c 3 t) (m ((c : Thread nD τ).loc main_arg4)) G0 (landedAt m c t) hlt hG W
  unfold bodyAt0
  iapply (hb _ _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iexists _; iexact H4
  isplitl [HY]; · iexact HY
  isplitl [HS]; · iexact HS
  isplitl [Hq]; · iexact Hq
  isplitl [HW]; · iexact HW
  iintro ⟨H0, H1, H2, H3, H4, HY, HS, Hq, ⟨%W', HW'⟩⟩
  isplitl [HS Hg Hq HY]
  · isplitl [HS]; · iexists _; iexact HS
    isplitl [Hg]; · iexact Hg
    isplitl [Hq]; · iexact Hq
    iexact HY
  isplitl [HW']
  · iexists W'; isplitr; · ipureintro; exact fun _ _ => Or.inl trivial
    iexact HW'
  isplitl [H0]
  · iapply owns_of_rep; iexact H0
  isplitl [H1]
  · iapply owns_of_rep; iexact H1
  isplitl [H2]
  · iapply owns_of_rep; iexact H2
  isplitl [H3]
  · iapply owns_of_rep; iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (hg : Good m) (c : Dev nD) : BodyObligation (dats (F := F) m 0 c) (defs₀ (F := F)) Variants.none () Set.univ := fun t => by
  rw [bigSep_W0, bigSep_W0, defs₀_row]
  exact triple_restated (sound_body m hg c t) rfl .rfl fun _ => .rfl

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

set_option backward.isDefEq.respectTransparency.types false in
theorem run_main (hg : Good m) : θ_run defs (onTc (τ := τ) (main (F := F))) (s₀ m ρ)
    (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hg c).loose) (hshare := fun c => (dats m 0 c).share_full fun _ => rfl)
    (howed := fun _ _ => rfl) (V := V m) (hmain := hmainD m Variants.none) (hA := A_eq m)
    (hin := fun c => .rfl)
    (hout := fun _ => .rfl) (hQ' := fun _ h => h)

/-- The run, read at the argument arrays and the result. -/
theorem run_all (hg : Good m) : θ_run defs (onTc (τ := τ) (main (F := F))) ⟨m, fun _ => 0, ρ⟩ (fun r => (∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨
      (h.1 c).1 4,
      ((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      ((h.1 c).1 2).trans (((dats m 0 c).arrAt_in 2 rfl _).trans ((A_eq m c 2).trans (V_main_arg2 m c))),
      ((h.1 c).1 3).trans (((dats m 0 c).arrAt_in 3 rfl _).trans ((A_eq m c 3).trans (V_main_arg3 m c))),
      (h.1 c).2 main_arg4 (H0_sub (Finset.mem_singleton_self _))⟩, h.2⟩) (run_main m ρ hg)

end Cert.Kernel3Ideal.Hand

end
-- ==== Proof.CombUnit.lean ====
module

public import proofs.«01_k».proof.Proof.CombRun
public import Idealize.ShloMosaic.Lib.IdealHost
public import Idealize.ShloMosaic.Lib.Pipeline.Value
public import Idealize.ShloMosaic.Lib.Pipeline.Covers
public import Idealize.ShloMosaic.Lib.Pipeline.ValueKit.Geometry
public import Idealize.ShloMosaic.Lib.ValueIdx
public import Idealize.ShloMosaic.PureOps.Ideal.Laws

/-! # The array the combine leaves, element by element -/

@[expose] public section

set_option maxRecDepth 16384

noncomputable section

namespace Cert.Comb

open Idealize.ShloMosaic

/-- A token's element: what it held, plus the modulation times the weighted sum of its four experts' elements. -/
def comb (g b : Fin 4 → EReal) (gt x : EReal) : EReal := x + gt * (g 0 * b 0 + g 1 * b 1 + g 2 * b 2 + g 3 * b 3)

end Cert.Comb

namespace Cert.Kernel3Ideal.Hand

open Cert.Kernel3Ideal Cert.Kernel3Ideal.Gen Cert.Comb
open Idealize.ShloMosaic Idealize.ShloMosaic.TcCoe
open Idealize.SL Idealize.SL.Sem
open Idealize.ShloMosaic.Pipeline (Dat Cfg Window)
open Idealize.ShloMosaic.ValueIdx (ix1 ix2 ix3 eq_ix2)

theorem gate_at (x1 : FVec Ideal S256x128 .f32) (k : Fin 4) (h : S256x128.Slices ![0, k.val] S256x1) (r : Fin 256) (n : Fin 2048) :
    broadcastTo S256x2048 (extractStridedSlice S256x1 ![0, k.val] x1 h) broadcasts_S256x1_S256x2048 (ix2 r n) = x1 (ix2 r (⟨k.val, by omega⟩ : Fin 128)) := by
  refine (broadcastTo_apply _ _ _ (ix2 r (0 : Fin 1)) fun (a : Fin 2) => ?_).trans (extractStridedSlice_apply _ x1 _ _ _ fun (a : Fin 2) => ?_)
  · match a with
    | ⟨0, _⟩ => rfl
    | ⟨1, _⟩ => rfl
  · match a with
    | ⟨0, _⟩ => show r.val = 0 + r.val; omega
    | ⟨1, _⟩ => rfl

theorem slab_at (G : S4x256x2048.Idx → EReal) (k : Fin 4) (inb : ∀ a, (![k.val, 0, 0] : Fin 3 → ℕ) a + S1x256x2048.size a ≤ S4x256x2048.size a)
    (r : Fin 256) (n : Fin 2048) :
    shapeCast S256x2048 (sM.view.readAt (Elt Ideal) (Rect.unit (s := S4x256x2048) ![k.val, 0, 0] S1x256x2048.size inb).toLoadRect G : S1x256x2048.Idx → EReal)
      shapeCasts_S1x256x2048_S256x2048 (ix2 r n) = G (ix3 k r n) := by
  refine (shapeCast_apply _ _ _ (ix3 (0 : Fin 1) r n) ?_).trans ?_
  · rw [Shape.rowMajor_val_two, Shape.rowMajor_val_three]
    show ((0 * 256 + r.val) * 2048 + n.val) = r.val * 2048 + n.val
    omega
  · rw [View.readAt_apply]
    show G _ = _
    refine congrArg G (funext fun (a : Fin 3) => Fin.ext ?_)
    match a with
    | ⟨0, _⟩ => show k.val + 1 * 0 = k.val; omega
    | ⟨1, _⟩ => show 0 + 1 * r.val = r.val; omega
    | ⟨2, _⟩ => show 0 + 1 * n.val = n.val; omega

theorem mod_at (x3 : FVec Ideal S1x1x2048 .f32) (r : Fin 256) (n : Fin 2048) :
    broadcastTo S256x2048 (shapeCast S1x2048 x3 shapeCasts_S1x1x2048_S1x2048) broadcasts_S1x2048_S256x2048 (ix2 r n) = x3 (ix3 (0 : Fin 1) (0 : Fin 1) n) := by
  refine (broadcastTo_apply _ _ _ (ix2 (0 : Fin 1) n) fun (a : Fin 2) => ?_).trans (shapeCast_apply x3 _ _ _ ?_)
  · match a with
    | ⟨0, _⟩ => rfl
    | ⟨1, _⟩ => rfl
  · rw [Shape.rowMajor_val_two, Shape.rowMajor_val_three]
    show ((0 * 1 + 0) * 2048 + n.val) = 0 * 2048 + n.val
    omega

theorem out_at (x1 : FVec Ideal S256x128 .f32) (x2 : FVec Ideal S256x2048 .f32) (x3 : FVec Ideal S1x1x2048 .f32) (G : S4x256x2048.Idx → EReal)
    (r : Fin 256) (n : Fin 2048) :
    out (F := Ideal) x1 x2 x3 G (ix2 r n)
      = comb (fun k => x1 (ix2 r (⟨k.val, by omega⟩ : Fin 128))) (fun k => G (ix3 k r n)) (x3 (ix3 (0 : Fin 1) (0 : Fin 1) n)) (x2 (ix2 r n)) := by
  unfold comb
  refine congrArg (x2 (ix2 r n) + ·) (congr (congrArg HMul.hMul (mod_at x3 r n)) ?_)
  refine congr (congrArg HAdd.hAdd (congr (congrArg HAdd.hAdd (congr (congrArg HAdd.hAdd ?_) ?_)) ?_)) ?_
  · exact congr (congrArg HMul.hMul (gate_at x1 0 _ r n)) (slab_at G 0 _ r n)
  · exact congr (congrArg HMul.hMul (gate_at x1 1 _ r n)) (slab_at G 1 _ r n)
  · exact congr (congrArg HMul.hMul (gate_at x1 2 _ r n)) (slab_at G 2 _ r n)
  · exact congr (congrArg HMul.hMul (gate_at x1 3 _ r n)) (slab_at G 3 _ r n)

variable (m : (ℓ : Loc nD τ sig) → Buf (Elt Ideal) ℓ)

/-- The arguments as arrays. -/
def argG (c : Dev nD) : S16896x128.Idx → EReal := m ((c.tc : Thread nD τ).loc main_arg1)
def argX (c : Dev nD) : S16896x2048.Idx → EReal := m ((c.tc : Thread nD τ).loc main_arg2)
def argM (c : Dev nD) : S2x1x12288.Idx → EReal := m ((c.tc : Thread nD τ).loc main_arg3)
def argY (c : Dev nD) : S74752x2048.Idx → EReal := m ((c.tc : Thread nD τ).loc main_arg4)

/-- The stream row `R` belongs to, and the word for its expert `k`. -/
def stream (R : Fin 16896) : Fin 2 := if R.val < 16384 then 0 else 1
def posn (R : Fin 16896) (k : Fin 4) : Fin 67584 := ⟨4 * R.val + k.val, by omega⟩

/-- One element of the result. -/
def elem (c : Dev nD) (R : Fin 16896) (n : Fin 2048) : EReal :=
  comb (fun k => argG m c (ix2 R (⟨k.val, by omega⟩ : Fin 128))) (fun k => argY m c (ix2 (src m c (posn R k)) n))
    (argM m c (ix3 (stream R) (0 : Fin 1) (⟨10240 + n.val, by omega⟩ : Fin 12288))) (argX m c (ix2 R n))

/-- The result. -/
def fin (c : Dev nD) : S16896x2048.Idx → EReal := fun i => elem m c (i 0) (i 1)

/-- Row `r` of point `t`, among all the rows. -/
def rowOf (t : Fin cfg0.N) (r : Fin 256) : Fin 16896 := ⟨t.val * 256 + r.val, by
  have h : t.val < 66 := t.isLt
  omega⟩

theorem idx_all (t : Fin cfg0.N) : (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = (if t.val < 64 then 0 else 1) ∧ win0_3.index t (1 : Fin 3) = 0 ∧ win0_3.index t (2 : Fin 3) = 5)
    ∧ (win0_4.index t (0 : Fin 2) = t.val ∧ win0_4.index t (1 : Fin 2) = 0) :=
  (by decide +kernel : ∀ t : Fin 66, (win0_1.index t (0 : Fin 2) = t.val ∧ win0_1.index t (1 : Fin 2) = 0)
    ∧ (win0_2.index t (0 : Fin 2) = t.val ∧ win0_2.index t (1 : Fin 2) = 0)
    ∧ (win0_3.index t (0 : Fin 3) = (if t.val < 64 then 0 else 1) ∧ win0_3.index t (1 : Fin 3) = 0 ∧ win0_3.index t (2 : Fin 3) = 5)
    ∧ (win0_4.index t (0 : Fin 2) = t.val ∧ win0_4.index t (1 : Fin 2) = 0)) t

theorem iblk1_at (c : Dev nD) (t : Fin cfg0.N) (r : Fin 256) (k : Fin 128) : iblk m c 1 t (ix2 r k) = argG m c (ix2 (rowOf t r) k) := by
  unfold argG
  show V m c main_arg1 (((cfg0.win 1).blk t).view.emb (ix2 r k)) = _
  refine congrArg (m ((c.tc : Thread nD τ).loc main_arg1)) (funext fun (a : Fin 2) => Fin.ext ?_)
  match a with
  | ⟨0, _⟩ =>
    show win0_1.index t (0 : Fin 2) * 256 + 1 * r.val = t.val * 256 + r.val
    rw [(idx_all t).1.1]; omega
  | ⟨1, _⟩ =>
    show win0_1.index t (1 : Fin 2) * 128 + 1 * k.val = k.val
    rw [(idx_all t).1.2]; omega

theorem iblk2_at (c : Dev nD) (t : Fin cfg0.N) (r : Fin 256) (n : Fin 2048) : iblk m c 2 t (ix2 r n) = argX m c (ix2 (rowOf t r) n) := by
  unfold argX
  show V m c main_arg2 (((cfg0.win 2).blk t).view.emb (ix2 r n)) = _
  refine congrArg (m ((c.tc : Thread nD τ).loc main_arg2)) (funext fun (a : Fin 2) => Fin.ext ?_)
  match a with
  | ⟨0, _⟩ =>
    show win0_2.index t (0 : Fin 2) * 256 + 1 * r.val = t.val * 256 + r.val
    rw [(idx_all t).2.1.1]; omega
  | ⟨1, _⟩ =>
    show win0_2.index t (1 : Fin 2) * 2048 + 1 * n.val = n.val
    rw [(idx_all t).2.1.2]; omega

theorem iblk3_at (c : Dev nD) (t : Fin cfg0.N) (r : Fin 256) (n : Fin 2048) :
    iblk m c 3 t (ix3 (0 : Fin 1) (0 : Fin 1) n) = argM m c (ix3 (stream (rowOf t r)) (0 : Fin 1) (⟨10240 + n.val, by omega⟩ : Fin 12288)) := by
  unfold argM
  show V m c main_arg3 (((cfg0.win 3).blk t).view.emb (ix3 (0 : Fin 1) (0 : Fin 1) n)) = _
  refine congrArg (m ((c.tc : Thread nD τ).loc main_arg3)) (funext fun (a : Fin 3) => Fin.ext ?_)
  match a with
  | ⟨0, _⟩ =>
    show win0_3.index t (0 : Fin 3) * 1 + 1 * 0 = (stream (rowOf t r)).val
    rw [(idx_all t).2.2.1.1]
    unfold stream
    have hR : (rowOf t r).val = t.val * 256 + r.val := rfl
    by_cases h : t.val < 64
    · rw [if_pos h, if_pos (by omega)]; rfl
    · rw [if_neg h, if_neg (by omega)]; rfl
  | ⟨1, _⟩ =>
    show win0_3.index t (1 : Fin 3) * 1 + 1 * 0 = 0
    rw [(idx_all t).2.2.1.2.1]
  | ⟨2, _⟩ =>
    show win0_3.index t (2 : Fin 3) * 2048 + 1 * n.val = 10240 + n.val
    rw [(idx_all t).2.2.1.2.2]; omega

theorem oblk_at (c : Dev nD) (t : Fin cfg0.N) (r : Fin 256) (n : Fin 2048) : oblk m c t (ix2 r n) = elem m c (rowOf t r) n := by
  unfold oblk elem
  refine (out_at _ _ _ _ r n).trans ?_
  refine congr (congr (congr (congrArg comb (funext fun k => iblk1_at m c t r _)) (funext fun k => ?_)) (iblk3_at m c t r n)) (iblk2_at m c t r n)
  unfold landedAt argY
  refine congrArg (fun p : Fin 67584 => (m ((c.tc : Thread nD τ).loc main_arg4) : S74752x2048.Idx → EReal) (ix2 (src m c p) n)) (Fin.ext ?_ : pos t r k = posn (rowOf t r) k)
  show 1024 * t.val + 4 * r.val + k.val = 4 * (t.val * 256 + r.val) + k.val
  omega

theorem emb4 (t : Fin cfg0.N) (r : Fin 256) (n : Fin 2048) :
    ((cfg0.win 4).blk t).view.emb (ix2 r n) = (ix2 (rowOf t r) n : S16896x2048.Idx) := by
  refine funext fun (a : Fin 2) => Fin.ext ?_
  match a with
  | ⟨0, _⟩ =>
    show win0_4.index t (0 : Fin 2) * 256 + 1 * r.val = t.val * 256 + r.val
    rw [(idx_all t).2.2.2.1]; omega
  | ⟨1, _⟩ =>
    show win0_4.index t (1 : Fin 2) * 2048 + 1 * n.val = n.val
    rw [(idx_all t).2.2.2.2]; omega

/-- The array the launch leaves is the result. -/
theorem final (c : Dev nD) : (dats m 0 c).arrAt 4 cfg0.N = fin m c := by
  refine Dat.arrAt_eq_of_emb (dats m 0 c) 4 (fin m c) (fun t _ y => ?_) (fun i => ?_)
  · obtain ⟨r, n, rfl⟩ : ∃ (r : Fin 256) (n : Fin 2048), y = ix2 r n := ⟨y 0, y 1, eq_ix2 _⟩
    exact Eq.trans (oblk_at m c t r n) (congrArg (fin m c) (emb4 t r n)).symm
  · obtain ⟨R, n, rfl⟩ : ∃ (R : Fin 16896) (n : Fin 2048), i = ix2 R n := ⟨i 0, i 1, eq_ix2 _⟩
    have hR := R.isLt
    refine ⟨⟨R.val / 256, show R.val / 256 < 66 by omega⟩, flush0_4 _, ?_⟩
    have e := emb4 ⟨R.val / 256, show R.val / 256 < 66 by omega⟩ (⟨R.val % 256, by omega⟩ : Fin 256) n
    have e' : (ix2 (rowOf ⟨R.val / 256, show R.val / 256 < 66 by omega⟩ (⟨R.val % 256, by omega⟩ : Fin 256)) n : S16896x2048.Idx) = ix2 R n := by
      refine congrArg (fun q => (ix2 q n : S16896x2048.Idx)) (Fin.ext ?_)
      show R.val / 256 * 256 + R.val % 256 = R.val
      omega
    rw [← e', ← e]
    exact View.emb_mem_set _ _

end Cert.Kernel3Ideal.Hand

end
-- ==== Proof.CombFrame.lean ====
module

public import proofs.«01_k».proof.Proof.Gen.Kernel3
public import proofs.«01_k».proof.Proof.CombUnit
public import Idealize.ShloMosaic.PureOps.BitExact

/-! # The combine at the hardware's floats: the program as printed runs as the other one does -/

@[expose] public section

set_option maxRecDepth 16384

noncomputable section

namespace Cert.Kernel3Ideal.Hand

open Cert.Kernel3Ideal Cert.Kernel3Ideal.Gen
open Idealize.ShloMosaic Idealize.ShloMosaic.TcCoe
open Idealize.SL Idealize.SL.Sem

/-- The two programs call the same body. -/
theorem bodies_same : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, _ => rfl

theorem defs_same : Cert.Kernel3.defs (F := Bits) = Cert.Kernel3Ideal.defs (F := Bits) := congrArg (Pipeline.defs Cert.Kernel3Ideal.pcfgs) bodies_same

theorem run_kernel (m : (ℓ : Loc nD τ sig) → Buf (Elt Bits) ℓ) (ρ : Dev nD → PrngReg) (hg : Good m) :
    θ_run (Cert.Kernel3.defs (F := Bits)) (onTc (τ := τ) (Cert.Kernel3.main (F := Bits))) ⟨m, fun _ => 0, ρ⟩ (fun r => (∀ c : Dev nD,
      r.2.mem ((c.tc : Thread nD τ).loc main_v0) = (dats m 0 c).arrAt 4 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact run_all (F := Bits) m ρ hg

end Cert.Kernel3Ideal.Hand

end
-- ==== Proof.CombPre.lean ====
module

public import proofs.«01_k».proof.Pre_rows_in_range
public import Idealize.ShloMosaic.Lib.ReduceAll
public import Idealize.ShloMosaic.Lib.SortFacts
public import Idealize.ShloMosaic.Lib.ValueIdxCore

/-! # What the precondition says: every word names a row of the experts' output -/

@[expose] public section

set_option maxRecDepth 16384

noncomputable section

namespace Cert.Pre_rows_in_range.Hand

open Cert.Pre_rows_in_range
open Idealize.ShloMosaic
open Idealize.ShloMosaic.ValueIdx (ix1)

theorem facts : Cert.Pre_rows_in_range.Facts where
  bcast_S_S67584 := by decide
  reducesTo_S67584_S_d0 := by decide
  h_S_ := by decide

instance : Subsingleton S_.Idx := ⟨fun a b => funext fun i => i.elim0⟩

theorem good [Facts] {F : FTy → Type} [FloatOps F] (e : IVec S67584 32) (g : FVec F S16896x128 .f32) (x : FVec F S16896x2048 .f32) (mod : FVec F S2x1x12288 .f32)
    (y : FVec F S74752x2048 .f32) (hp : fn (F := F) e g x mod y = fun _ => 1#1) (b : Fin 67584) : (e (ix1 b)).toNat < 74752 := by
  have h := congrFun hp (fun i => i.elim0)
  unfold fn at h
  dsimp only at h
  obtain ⟨p, q⟩ := IntOp.andi_eq_one.1 (Host.reduce_andi_all _ _ _ _ _ h (ix1 b))
  have p' := IntOp.cmpi_sge.1 p
  have q' := IntOp.cmpi_slt.1 q
  have hz : (broadcastInDim S67584 ![] Facts.bcast_S_S67584 (constantI S_ 32 0#32) (ix1 b)).toInt = 0 := rfl
  have hn : (broadcastInDim S67584 ![] Facts.bcast_S_S67584 (constantI S_ 32 74752#32) (ix1 b)).toInt = 74752 := rfl
  rw [hz] at p'
  rw [hn] at q'
  rw [BitVec.toInt_eq_toNat_cond] at p' q'
  have := (e (ix1 b)).isLt
  split at p' <;> omega

end Cert.Pre_rows_in_range.Hand

end
-- ==== Proof.CombRef.lean ====
module

public import proofs.«01_k».proof.Proof.Gen.Reference3Ideal.Run
public import proofs.«01_k».proof.Proof.CombUnit
public import Idealize.ShloMosaic.Lib.Pointwise.Reduce

/-! # The reference's combine, element by element -/

@[expose] public section

set_option maxRecDepth 16384

noncomputable section

namespace Cert.Reference3Ideal.Hand

open Cert.Reference3Ideal Cert.Reference3Ideal.Gen Cert.Comb
open Idealize.ShloMosaic hiding ix0 ix1 ix2 ix3 ix4
open Idealize.ShloMosaic.ValueIdx (ix0 ix1 ix2 ix3 ix4)
open scoped BigOperators

/-- The reference's take of whole rows: at token `R` and expert `k`, the row at the word held there, clamped into the table. -/
theorem take_rows (x : S74752x2048.Idx → EReal) (idx : IVec S16896x4x1 32) (R : Fin 16896) (k : Fin 4) (n : Fin 2048) (e : Fin 74752)
    (he : (idx (ix3 R k (0 : Fin 1))).toInt = (e.val : Int)) :
    Host.gather gather_S74752x2048_S16896x4x1_S16896x4x2048_2_0_n_n_0_2_12048 x idx (ix3 R k n) = x (ix2 e n) := by
  unfold Host.gather
  congr 1
  funext a
  refine Fin.ext ?_
  show gather_S74752x2048_S16896x4x1_S16896x4x2048_2_0_n_n_0_2_12048.start (ix3 R k n) idx a + gather_S74752x2048_S16896x4x1_S16896x4x2048_2_0_n_n_0_2_12048.batchCoord (ix3 R k n) a
      + gather_S74752x2048_S16896x4x1_S16896x4x2048_2_0_n_n_0_2_12048.offCoord (ix3 R k n) a = _
  rw [GatherDims.batchCoord_eq_zero _ _ _ List.not_mem_nil]
  have h01 : a = 0 ∨ a = 1 := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S74752x2048_S16896x4x1_S16896x4x2048_2_0_n_n_0_2_12048.startIndexMap from List.mem_singleton.mpr rfl)]
    have hsi : gather_S74752x2048_S16896x4x1_S16896x4x2048_2_0_n_n_0_2_12048.siIdx (ix3 R k n) ⟨List.idxOf (0 : Fin 2) gather_S74752x2048_S16896x4x1_S16896x4x2048_2_0_n_n_0_2_12048.startIndexMap,
        List.idxOf_lt_length_iff.2 (List.mem_singleton.mpr rfl)⟩ = ix3 R k (0 : Fin 1) := by
      funext b; refine Fin.ext ?_
      match b with
      | ⟨0, _⟩ => rfl
      | ⟨1, _⟩ => rfl
      | ⟨2, _⟩ => rfl
    rw [hsi, he]
    have := e.isLt
    show min (e.val : Int).toNat 74751 = e.val
    omega
  · have hs : gather_S74752x2048_S16896x4x1_S16896x4x2048_2_0_n_n_0_2_12048.start (ix3 R k n) idx 1 = 0 := by
      unfold GatherDims.start
      exact dif_neg (by decide)
    rw [hs]
    simp only [Nat.zero_add, Nat.add_zero]
    unfold GatherDims.offCoord
    rw [dif_pos (show (1 : Fin 2) ∈ gather_S74752x2048_S16896x4x1_S16896x4x2048_2_0_n_n_0_2_12048.sKept from (GatherDims.mem_sKept _ _).mpr ⟨by decide, by decide⟩)]
    rfl

/-- The words by token and expert, the weights spread over the columns, and the weighted sum. -/
def words (d : IVec S67584 32) : IVec S16896x4 32 := shapeCast _ d shapeCasts_S67584_S16896x4
def starts (d : IVec S67584 32) : IVec S16896x4x1 32 :=
  broadcastInDim S16896x4x1 ![0, 1] bcast_S16896x4_S16896x4x1_0_1 (select (cmpi .slt (words d) (broadcastInDim S16896x4 ![] bcast_S_S16896x4 (constantI S_ 32 0#32)))
    (addi (words d) (broadcastInDim S16896x4 ![] bcast_S_S16896x4 (constantI S_ 32 74752#32))) (words d))
def weights (g : FVec Ideal S16896x128 .f32) : FVec Ideal S16896x4x2048 .f32 :=
  broadcastInDim S16896x4x2048 ![0, 1, 2] bcast_S16896x4x1_S16896x4x2048_0_1_2 (broadcastInDim S16896x4x1 ![0, 1] bcast_S16896x4_S16896x4x1_0_1
    (extractStridedSlice S16896x4 ![0, 0] g slices_S16896x128_S16896x4_0_0))
def summed (d : IVec S67584 32) (g : FVec Ideal S16896x128 .f32) (y : FVec Ideal S74752x2048 .f32) : FVec Ideal S16896x2048 .f32 :=
  Host.reduceAdd (mulf (Host.gather gather_S74752x2048_S16896x4x1_S16896x4x2048_2_0_n_n_0_2_12048 y (starts d)) (weights g))
    (constant S_ .f32 0x00000000#32) reducesTo_S16896x4x2048_S16896x2048_d1 h_S_

/-- The word for expert `k` of token `R`. -/
def posn (R : Fin 16896) (k : Fin 4) : Fin 67584 := ⟨4 * R.val + k.val, by omega⟩

theorem words_at (d : IVec S67584 32) (R : Fin 16896) (k : Fin 4) : words d (ix2 R k) = d (ix1 (posn R k)) :=
  shapeCast_apply d _ _ _ (by
    rw [Shape.rowMajor_val_two, Shape.rowMajor_val_one]
    show 4 * R.val + k.val = R.val * 4 + k.val
    omega)

theorem starts_at (d : IVec S67584 32) (R : Fin 16896) (k : Fin 4) (h : (d (ix1 (posn R k))).toNat < 74752) :
    starts d (ix3 R k (0 : Fin 1)) = d (ix1 (posn R k)) := by
  unfold starts
  refine (broadcastInDim_apply _ _ _ _ (ix2 R k) fun (a : Fin 2) => ?_).trans ?_
  · match a with
    | ⟨0, _⟩ => rfl
    | ⟨1, _⟩ => rfl
  have hw := words_at d R k
  generalize words d = w at hw
  rw [← hw] at h ⊢
  show (if IntOp.cmpi .slt (w (ix2 R k)) 0#32 = 1#1 then _ else w (ix2 R k)) = _
  refine if_neg ?_
  rw [IntOp.cmpi_slt, BitVec.toInt_eq_toNat_cond, if_pos (by omega)]
  show ¬ ((w (ix2 R k)).toNat : Int) < 0
  omega

theorem weights_at (g : FVec Ideal S16896x128 .f32) (R : Fin 16896) (k : Fin 4) (n : Fin 2048) :
    weights g (ix3 R k n) = g (ix2 R (⟨k.val, by omega⟩ : Fin 128)) := by
  unfold weights
  refine (broadcastInDim_apply _ _ _ _ (ix3 R k (0 : Fin 1)) fun (a : Fin 3) => ?_).trans
    ((broadcastInDim_apply _ _ _ _ (ix2 R k) fun (a : Fin 2) => ?_).trans (extractStridedSlice_apply _ g _ _ _ fun (a : Fin 2) => ?_))
  · match a with
    | ⟨0, _⟩ => rfl
    | ⟨1, _⟩ => rfl
    | ⟨2, _⟩ => rfl
  · match a with
    | ⟨0, _⟩ => rfl
    | ⟨1, _⟩ => rfl
  · match a with
    | ⟨0, _⟩ => show R.val = 0 + R.val; omega
    | ⟨1, _⟩ => show k.val = 0 + k.val; omega

theorem zero_eq : Ideal.ofBits .f32 0x00000000#32 = 0 := by simp [Ideal.ofBits, Ideal.ieee]

theorem summed_at (d : IVec S67584 32) (g : FVec Ideal S16896x128 .f32) (y : FVec Ideal S74752x2048 .f32) (hd : ∀ j, (d (ix1 j)).toNat < 74752)
    (R : Fin 16896) (n : Fin 2048) (b : Fin 4 → EReal) (hb : ∀ k, b k = y (ix2 (⟨(d (ix1 (posn R k))).toNat, hd _⟩ : Fin 74752) n)) :
    summed d g y (ix2 R n) = g (ix2 R (⟨(0 : Fin 4).val, by omega⟩ : Fin 128)) * b 0 + g (ix2 R (⟨(1 : Fin 4).val, by omega⟩ : Fin 128)) * b 1
      + g (ix2 R (⟨(2 : Fin 4).val, by omega⟩ : Fin 128)) * b 2 + g (ix2 R (⟨(3 : Fin 4).val, by omega⟩ : Fin 128)) * b 3 := by
  have he : ∀ k : Fin 4, mulf (Host.gather gather_S74752x2048_S16896x4x1_S16896x4x2048_2_0_n_n_0_2_12048 y (starts d)) (weights g) (ix3 R k n)
      = g (ix2 R (⟨k.val, by omega⟩ : Fin 128)) * b k := by
    intro k
    show (Host.gather gather_S74752x2048_S16896x4x1_S16896x4x2048_2_0_n_n_0_2_12048 y (starts d) (ix3 R k n) : EReal) * weights g (ix3 R k n) = _
    refine Eq.trans (congr (congrArg (HMul.hMul (α := EReal)) (take_rows y (starts d) R k n ⟨(d (ix1 (posn R k))).toNat, hd _⟩ ?_)) (weights_at g R k n)) ?_
    · have := hd (posn R k)
      rw [starts_at d R k (hd _), BitVec.toInt_eq_toNat_cond, if_pos (by omega)]
    · rw [← hb]; exact mul_comm _ _
  unfold summed
  rw [Host.reduceAdd_apply]
  refine (Ideal.hostReduceAdd_r3_a1 (n0 := 16896) (n1 := 4) (n2 := 2048) reducesTo_S16896x4x2048_S16896x2048_d1 _ _ (ix2 R n)).trans ?_
  refine (congrArg (· + _) zero_eq).trans ((zero_add _).trans ?_)
  refine (Finset.sum_congr rfl fun k _ => he k).trans ?_
  exact Fin.sum_univ_four _

/-- One stream's modulation of its rows. -/
def resid (x : FVec Ideal S16896x2048 .f32) (t : FVec Ideal S16896x2048 .f32) (mod : FVec Ideal S2x1x12288 .f32) : FVec Ideal S16384x2048 .f32 :=
  addf (extractStridedSlice S16384x2048 ![0, 0] x slices_S16896x2048_S16384x2048_0_0) (mulf (broadcastInDim S16384x2048 ![0, 1] bcast_S1x2048_S16384x2048_0_1
    (shapeCast _ (extractStridedSlice S1x1x2048 ![0, 0, 10240] mod slices_S2x1x12288_S1x1x2048_0_0_10240) shapeCasts_S1x1x2048_S1x2048))
    (extractStridedSlice S16384x2048 ![0, 0] t slices_S16896x2048_S16384x2048_0_0))
def residC (x : FVec Ideal S16896x2048 .f32) (t : FVec Ideal S16896x2048 .f32) (mod : FVec Ideal S2x1x12288 .f32) : FVec Ideal S512x2048 .f32 :=
  addf (extractStridedSlice S512x2048 ![16384, 0] x slices_S16896x2048_S512x2048_16384_0) (mulf (broadcastInDim S512x2048 ![0, 1] bcast_S1x2048_S512x2048_0_1
    (shapeCast _ (extractStridedSlice S1x1x2048 ![1, 0, 10240] mod slices_S2x1x12288_S1x1x2048_1_0_10240) shapeCasts_S1x1x2048_S1x2048))
    (extractStridedSlice S512x2048 ![16384, 0] t slices_S16896x2048_S512x2048_16384_0))

/-- The reference's result. -/
def result (d : IVec S67584 32) (g : FVec Ideal S16896x128 .f32) (x : FVec Ideal S16896x2048 .f32) (mod : FVec Ideal S2x1x12288 .f32)
    (y : FVec Ideal S74752x2048 .f32) : FVec Ideal S16896x2048 .f32 :=
  concatenate S16896x2048 0 [⟨S16384x2048, resid x (summed d g y) mod⟩, ⟨S512x2048, residC x (summed d g y) mod⟩] concatenates_S16384x2048_S512x2048_S16896x2048_d0

theorem resid_at (x t : FVec Ideal S16896x2048 .f32) (mod : FVec Ideal S2x1x12288 .f32) (r : Fin 16384) (n : Fin 2048) (R : Fin 16896) (hR : R.val = r.val) :
    resid x t mod (ix2 r n) = x (ix2 R n) + mod (ix3 (0 : Fin 2) (0 : Fin 1) (⟨10240 + n.val, by omega⟩ : Fin 12288)) * t (ix2 R n) := by
  have hs : ∀ v : FVec Ideal S16896x2048 .f32, extractStridedSlice S16384x2048 ![0, 0] v slices_S16896x2048_S16384x2048_0_0 (ix2 r n) = v (ix2 R n) := fun v =>
    extractStridedSlice_apply _ v _ _ _ fun (a : Fin 2) => by
      match a with
      | ⟨0, _⟩ => show R.val = 0 + r.val; omega
      | ⟨1, _⟩ => show n.val = 0 + n.val; omega
  refine congr (congrArg HAdd.hAdd (hs x)) (congr (congrArg HMul.hMul ?_) (hs t))
  refine (broadcastInDim_apply _ _ _ _ (ix2 (0 : Fin 1) n) fun (a : Fin 2) => ?_).trans
    ((shapeCast_apply _ _ _ (ix3 (0 : Fin 1) (0 : Fin 1) n) ?_).trans (extractStridedSlice_apply _ mod _ _ _ fun (a : Fin 3) => ?_))
  · match a with
    | ⟨0, _⟩ => rfl
    | ⟨1, _⟩ => rfl
  · rw [Shape.rowMajor_val_two, Shape.rowMajor_val_three]
    show ((0 * 1 + 0) * 2048 + n.val) = 0 * 2048 + n.val
    omega
  · match a with
    | ⟨0, _⟩ => rfl
    | ⟨1, _⟩ => rfl
    | ⟨2, _⟩ => rfl

theorem residC_at (x t : FVec Ideal S16896x2048 .f32) (mod : FVec Ideal S2x1x12288 .f32) (r : Fin 512) (n : Fin 2048) (R : Fin 16896) (hR : R.val = 16384 + r.val) :
    residC x t mod (ix2 r n) = x (ix2 R n) + mod (ix3 (1 : Fin 2) (0 : Fin 1) (⟨10240 + n.val, by omega⟩ : Fin 12288)) * t (ix2 R n) := by
  have hs : ∀ v : FVec Ideal S16896x2048 .f32, extractStridedSlice S512x2048 ![16384, 0] v slices_S16896x2048_S512x2048_16384_0 (ix2 r n) = v (ix2 R n) := fun v =>
    extractStridedSlice_apply _ v _ _ _ fun (a : Fin 2) => by
      match a with
      | ⟨0, _⟩ => exact hR
      | ⟨1, _⟩ => show n.val = 0 + n.val; omega
  refine congr (congrArg HAdd.hAdd (hs x)) (congr (congrArg HMul.hMul ?_) (hs t))
  refine (broadcastInDim_apply _ _ _ _ (ix2 (0 : Fin 1) n) fun (a : Fin 2) => ?_).trans
    ((shapeCast_apply _ _ _ (ix3 (0 : Fin 1) (0 : Fin 1) n) ?_).trans (extractStridedSlice_apply _ mod _ _ _ fun (a : Fin 3) => ?_))
  · match a with
    | ⟨0, _⟩ => rfl
    | ⟨1, _⟩ => rfl
  · rw [Shape.rowMajor_val_two, Shape.rowMajor_val_three]
    show ((0 * 1 + 0) * 2048 + n.val) = 0 * 2048 + n.val
    omega
  · match a with
    | ⟨0, _⟩ => rfl
    | ⟨1, _⟩ => rfl
    | ⟨2, _⟩ => rfl

theorem result_at (d : IVec S67584 32) (g : FVec Ideal S16896x128 .f32) (x : FVec Ideal S16896x2048 .f32) (mod : FVec Ideal S2x1x12288 .f32)
    (y : FVec Ideal S74752x2048 .f32) (R : Fin 16896) (n : Fin 2048) :
    result d g x mod y (ix2 R n) = x (ix2 R n) + mod (ix3 (if R.val < 16384 then (0 : Fin 2) else 1) (0 : Fin 1) (⟨10240 + n.val, by omega⟩ : Fin 12288)) * summed d g y (ix2 R n) := by
  unfold result
  have hR := R.isLt
  by_cases h : R.val < 16384
  · rw [if_pos h]
    refine (concatenate_pair_apply_left (t := S16896x2048) (s₁ := S16384x2048) (s₂ := S512x2048) (0 : Fin 2) _ _ _ _ rfl (ix2 (⟨R.val, h⟩ : Fin 16384) n) (fun b => by
      match b with
      | ⟨0, _⟩ => rfl
      | ⟨1, _⟩ => rfl)).trans ?_
    exact resid_at x _ mod _ n R rfl
  · rw [if_neg h]
    refine (concatenate_pair_apply_right (t := S16896x2048) (s₁ := S16384x2048) (s₂ := S512x2048) (0 : Fin 2) _ _ _ _ rfl rfl (ix2 (⟨R.val - 16384, by omega⟩ : Fin 512) n) (fun b hb => by
      match b with
      | ⟨0, _⟩ => exact absurd rfl hb
      | ⟨1, _⟩ => rfl) (by show R.val - 16384 + 16384 = R.val; omega)).trans ?_
    exact residC_at x _ mod _ n R (by show R.val = 16384 + (R.val - 16384); omega)

end Cert.Reference3Ideal.Hand

end
-- ==== Proof.Mix.lean ====
module

public import Idealize.ShloMosaic.Lib.MatmulPlain
public import Idealize.ShloMosaic.Lib.StackMember
public import Idealize.ShloMosaic.Lib.IdealHost
public import Idealize.ShloMosaic.Lib.Pipeline.Value
public import Idealize.ShloMosaic.Lib.ValueIdx
public import Idealize.ShloMosaic.PureOps.Ideal.Laws

/-! # Reading the projections' arrays at an index, at any extents -/

@[expose] public section

set_option maxRecDepth 16384

noncomputable section

namespace Cert.Mix

open Idealize.ShloMosaic
open Idealize.ShloMosaic.ValueIdx (ix1 ix2 ix3 eq_ix2)
open Idealize.ShloMosaic.StackMember (dotGeneral_plain_apply)
open scoped BigOperators

variable {α : Type} {M N K : ℕ}

theorem zero_eq : Ideal.ofBits .f32 0x00000000#32 = 0 := by simp [Ideal.ofBits, Ideal.ieee]

/-- The stream a row belongs to: the first 16384 rows are the latent's, the rest the context's. -/
def stream (R : Fin 16896) : Fin 2 := if R.val < 16384 then 0 else 1

/-- A row spread over the rows. -/
theorem row_at (hN : N ≠ 1) (x : (⟨2, ![1, N]⟩ : Shape).Idx → α) (h : (⟨2, ![1, N]⟩ : Shape).Broadcasts ⟨2, ![M, N]⟩) (r : Fin M) (n : Fin N) :
    broadcastTo ⟨2, ![M, N]⟩ x h (ix2 r n) = x (ix2 (0 : Fin 1) n) :=
  broadcastTo_apply _ _ _ (ix2 (0 : Fin 1) n) fun (a : Fin 2) => by
    match a with
    | ⟨0, _⟩ => rfl
    | ⟨1, _⟩ => exact (if_neg hN).symm

/-- A column spread over the columns. -/
theorem col_at (hM : M ≠ 1) (x : (⟨2, ![M, 1]⟩ : Shape).Idx → α) (h : (⟨2, ![M, 1]⟩ : Shape).Broadcasts ⟨2, ![M, N]⟩) (r : Fin M) (n : Fin N) :
    broadcastTo ⟨2, ![M, N]⟩ x h (ix2 r n) = x (ix2 r (0 : Fin 1)) :=
  broadcastTo_apply _ _ _ (ix2 r (0 : Fin 1)) fun (a : Fin 2) => by
    match a with
    | ⟨0, _⟩ => exact (if_neg hM).symm
    | ⟨1, _⟩ => rfl

/-- The same two on the host. -/
theorem hrow_at (hN : N ≠ 1) (x : (⟨2, ![1, N]⟩ : Shape).Idx → α) (h : (⟨2, ![1, N]⟩ : Shape).BroadcastsInDim ⟨2, ![M, N]⟩ ![0, 1]) (r : Fin M) (n : Fin N) :
    broadcastInDim ⟨2, ![M, N]⟩ ![0, 1] h x (ix2 r n) = x (ix2 (0 : Fin 1) n) :=
  broadcastInDim_apply _ _ _ _ (ix2 (0 : Fin 1) n) fun (a : Fin 2) => by
    match a with
    | ⟨0, _⟩ => rfl
    | ⟨1, _⟩ => exact (if_neg hN).symm

theorem hcol_at (hM : M ≠ 1) (x : (⟨2, ![M, 1]⟩ : Shape).Idx → α) (h : (⟨2, ![M, 1]⟩ : Shape).BroadcastsInDim ⟨2, ![M, N]⟩ ![0, 1]) (r : Fin M) (n : Fin N) :
    broadcastInDim ⟨2, ![M, N]⟩ ![0, 1] h x (ix2 r n) = x (ix2 r (0 : Fin 1)) :=
  broadcastInDim_apply _ _ _ _ (ix2 r (0 : Fin 1)) fun (a : Fin 2) => by
    match a with
    | ⟨0, _⟩ => exact (if_neg hM).symm
    | ⟨1, _⟩ => rfl

/-- A vector as a row, and as a column. -/
theorem hvec_at (hN : N ≠ 1) (x : (⟨1, ![N]⟩ : Shape).Idx → α) (h : (⟨1, ![N]⟩ : Shape).BroadcastsInDim ⟨2, ![1, N]⟩ ![1]) (n : Fin N) :
    broadcastInDim ⟨2, ![1, N]⟩ ![1] h x (ix2 (0 : Fin 1) n) = x (ix1 n) :=
  broadcastInDim_apply _ _ _ _ (ix1 n) fun (a : Fin 1) => by
    match a with
    | ⟨0, _⟩ => exact (if_neg hN).symm

theorem hvecc_at (hM : M ≠ 1) (x : (⟨1, ![M]⟩ : Shape).Idx → α) (h : (⟨1, ![M]⟩ : Shape).BroadcastsInDim ⟨2, ![M, 1]⟩ ![0]) (r : Fin M) :
    broadcastInDim ⟨2, ![M, 1]⟩ ![0] h x (ix2 r (0 : Fin 1)) = x (ix1 r) :=
  broadcastInDim_apply _ _ _ _ (ix1 r) fun (a : Fin 1) => by
    match a with
    | ⟨0, _⟩ => exact (if_neg hM).symm

theorem cast_vec (x : (⟨1, ![N]⟩ : Shape).Idx → α) (h : (⟨1, ![N]⟩ : Shape).ShapeCasts ⟨2, ![1, N]⟩) (n : Fin N) :
    shapeCast ⟨2, ![1, N]⟩ x h (ix2 (0 : Fin 1) n) = x (ix1 n) :=
  shapeCast_apply x _ _ _ (by
    rw [Shape.rowMajor_val_two, Shape.rowMajor_val_one]
    show n.val = 0 * N + n.val
    omega)

theorem cast_col (x : (⟨1, ![M]⟩ : Shape).Idx → α) (h : (⟨1, ![M]⟩ : Shape).ShapeCasts ⟨2, ![M, 1]⟩) (r : Fin M) :
    shapeCast ⟨2, ![M, 1]⟩ x h (ix2 r (0 : Fin 1)) = x (ix1 r) :=
  shapeCast_apply x _ _ _ (by
    rw [Shape.rowMajor_val_two, Shape.rowMajor_val_one]
    show r.val = r.val * 1 + 0
    omega)

theorem cast_id {s : Shape} (x : s.Idx → α) (h : s.ShapeCasts s) (j : s.Idx) : shapeCast s x h j = x j := shapeCast_apply x h j j rfl

theorem cast_mod (x : (⟨3, ![1, 1, N]⟩ : Shape).Idx → α) (h : (⟨3, ![1, 1, N]⟩ : Shape).ShapeCasts ⟨2, ![1, N]⟩) (n : Fin N) :
    shapeCast ⟨2, ![1, N]⟩ x h (ix2 (0 : Fin 1) n) = x (ix3 (0 : Fin 1) (0 : Fin 1) n) :=
  shapeCast_apply x _ _ _ (by
    rw [Shape.rowMajor_val_two, Shape.rowMajor_val_three]
    show ((0 * 1 + 0) * N + n.val) = 0 * N + n.val
    omega)

/-- The rows from `o` on. -/
theorem rows_at {P o : ℕ} (x : (⟨2, ![P, N]⟩ : Shape).Idx → α) (h : (⟨2, ![P, N]⟩ : Shape).Slices ![o, 0] ⟨2, ![M, N]⟩) (r : Fin M) (n : Fin N)
    (R : Fin P) (hR : R.val = o + r.val) :
    extractStridedSlice ⟨2, ![M, N]⟩ ![o, 0] x h (ix2 r n) = x (ix2 R n) :=
  extractStridedSlice_apply _ x _ _ _ fun (a : Fin 2) => by
    match a with
    | ⟨0, _⟩ => exact hR
    | ⟨1, _⟩ => show n.val = 0 + n.val; omega

/-- One stream's chunk of the modulation, as a row. -/
theorem chunk_at {P : ℕ} {s o : ℕ} (x : (⟨3, ![2, 1, P]⟩ : Shape).Idx → α) (h : (⟨3, ![2, 1, P]⟩ : Shape).Slices ![s, 0, o] ⟨3, ![1, 1, N]⟩)
    (hc : (⟨3, ![1, 1, N]⟩ : Shape).ShapeCasts ⟨2, ![1, N]⟩) (n : Fin N) (S : Fin 2) (hS : S.val = s) (p : Fin P) (hp : p.val = o + n.val) :
    shapeCast ⟨2, ![1, N]⟩ (extractStridedSlice ⟨3, ![1, 1, N]⟩ ![s, 0, o] x h) hc (ix2 (0 : Fin 1) n) = x (ix3 S (0 : Fin 1) p) :=
  (cast_mod _ _ n).trans (extractStridedSlice_apply _ x _ _ _ fun (a : Fin 3) => by
    match a with
    | ⟨0, _⟩ => show S.val = s + 0; omega
    | ⟨1, _⟩ => rfl
    | ⟨2, _⟩ => exact hp)

/-- The streams one after the other. -/
theorem streams_at (x₁ : (⟨2, ![16384, N]⟩ : Shape).Idx → α) (x₂ : (⟨2, ![512, N]⟩ : Shape).Idx → α)
    (h : Shape.Concatenates [(⟨2, ![16384, N]⟩ : Shape), (⟨2, ![512, N]⟩ : Shape)] (⟨2, ![16896, N]⟩ : Shape) (0 : Fin 2)) (R : Fin 16896) (n : Fin N) (v : α)
    (h₁ : ∀ r : Fin 16384, R.val = 0 + r.val → stream R = 0 → x₁ (ix2 r n) = v)
    (h₂ : ∀ r : Fin 512, R.val = 16384 + r.val → stream R = 1 → x₂ (ix2 r n) = v) :
    concatenate (⟨2, ![16896, N]⟩ : Shape) (0 : Fin 2) [⟨(⟨2, ![16384, N]⟩ : Shape), x₁⟩, ⟨(⟨2, ![512, N]⟩ : Shape), x₂⟩] h (ix2 R n) = v := by
  have hR := R.isLt
  by_cases hlt : R.val < 16384
  · refine (concatenate_pair_apply_left (t := (⟨2, ![16896, N]⟩ : Shape)) (s₁ := (⟨2, ![16384, N]⟩ : Shape)) (s₂ := (⟨2, ![512, N]⟩ : Shape)) (0 : Fin 2) _ _ _ _ rfl
      (ix2 (⟨R.val, hlt⟩ : Fin 16384) n) (fun b => by
        match b with
        | ⟨0, _⟩ => rfl
        | ⟨1, _⟩ => rfl)).trans ?_
    exact h₁ ⟨R.val, hlt⟩ (by show R.val = 0 + R.val; omega) (if_pos hlt)
  · refine (concatenate_pair_apply_right (t := (⟨2, ![16896, N]⟩ : Shape)) (s₁ := (⟨2, ![16384, N]⟩ : Shape)) (s₂ := (⟨2, ![512, N]⟩ : Shape)) (0 : Fin 2) _ _ _ _ rfl rfl
      (ix2 (⟨R.val - 16384, by omega⟩ : Fin 512) n) (fun b hb => by
        match b with
        | ⟨0, _⟩ => exact absurd rfl hb
        | ⟨1, _⟩ => rfl) (by show R.val - 16384 + 16384 = R.val; omega)).trans ?_
    exact h₂ ⟨R.val - 16384, by omega⟩ (by show R.val = 16384 + (R.val - 16384); omega) (if_neg hlt)

/-- A product onto zeros, the matrix given through an identity reshape. -/
theorem mat_at {φ₁ φ₂ : FTy} (lhs : FVec Ideal ⟨2, ![M, K]⟩ φ₁) (rhs : FVec Ideal ⟨2, ![K, N]⟩ φ₂) (h : (⟨2, ![K, N]⟩ : Shape).ShapeCasts ⟨2, ![K, N]⟩)
    (r : Fin M) (n : Fin N) :
    matmul (DotDims.plain M K N) none lhs (shapeCast ⟨2, ![K, N]⟩ rhs h) (constant ⟨2, ![M, N]⟩ .f32 0x00000000#32) (ix2 r n)
      = ∑ k : Fin K, (lhs (ix2 r k) : EReal) * rhs (ix2 k n) := by
  refine (Ideal.matmul_plain_apply (M := M) (K := K) (N := N) none _ _ _ r n).trans ?_
  refine (congrArg (· + _) zero_eq).trans ((zero_add _).trans ?_)
  exact Finset.sum_congr rfl fun k _ => congrArg (HMul.hMul (α := EReal) _) (cast_id rhs h _)

/-- A bias row, through an identity reshape, spread over the rows. -/
theorem bias_at (hN : N ≠ 1) (x : (⟨2, ![1, N]⟩ : Shape).Idx → α) (hc : (⟨2, ![1, N]⟩ : Shape).ShapeCasts ⟨2, ![1, N]⟩)
    (h : (⟨2, ![1, N]⟩ : Shape).Broadcasts ⟨2, ![M, N]⟩) (r : Fin M) (n : Fin N) :
    broadcastTo ⟨2, ![M, N]⟩ (shapeCast ⟨2, ![1, N]⟩ x hc) h (ix2 r n) = x (ix2 (0 : Fin 1) n) :=
  (row_at hN _ h r n).trans (cast_id x hc _)

/-- A modulation block spread over the rows. -/
theorem gate_at (hN : N ≠ 1) (x : (⟨3, ![1, 1, N]⟩ : Shape).Idx → α) (hc : (⟨3, ![1, 1, N]⟩ : Shape).ShapeCasts ⟨2, ![1, N]⟩)
    (h : (⟨2, ![1, N]⟩ : Shape).Broadcasts ⟨2, ![M, N]⟩) (r : Fin M) (n : Fin N) :
    broadcastTo ⟨2, ![M, N]⟩ (shapeCast ⟨2, ![1, N]⟩ x hc) h (ix2 r n) = x (ix3 (0 : Fin 1) (0 : Fin 1) n) :=
  (row_at hN _ h r n).trans (cast_mod x hc n)

end Cert.Mix

end
-- ==== Proof.ProjUnit.lean ====
module

public import proofs.«01_k».proof.Proof.Mix
public import proofs.«01_k».proof.Proof.Gen.Kernel4Ideal.Frame
public import Idealize.ShloMosaic.Lib.Pipeline.Covers
public import Idealize.ShloMosaic.Lib.Pipeline.ValueKit.Geometry

/-! # The array the residual projection leaves, element by element -/

@[expose] public section

set_option maxRecDepth 16384

noncomputable section

namespace Cert.Kernel4Ideal.Hand

open Cert.Kernel4Ideal Cert.Kernel4Ideal.Gen Cert.Mix
open Idealize.ShloMosaic Idealize.ShloMosaic.TcCoe
open Idealize.SL Idealize.SL.Sem
open Idealize.ShloMosaic.Pipeline (Dat Cfg Window)
open Idealize.ShloMosaic.ValueIdx (ix1 ix2 ix3 eq_ix2)
open scoped BigOperators

theorem pay_at (x0 : FVec Ideal S512x2048 .bf16) (x1 : FVec Ideal S2048x1024 .bf16) (x2 : FVec Ideal S1x1024 .f32) (x3 : FVec Ideal S512x1024 .f32)
    (x4 : FVec Ideal S1x1x1024 .f32) (r : Fin 512) (n : Fin 1024) :
    k0_pay1 (F := Ideal) x0 x1 x2 x3 x4 (ix2 r n)
      = (x3 (ix2 r n) : EReal) + x4 (ix3 (0 : Fin 1) (0 : Fin 1) n) * ((∑ k : Fin 2048, (x0 (ix2 r k) : EReal) * x1 (ix2 k n)) + x2 (ix2 (0 : Fin 1) n)) := by
  unfold k0_pay1
  refine congrArg (x3 (ix2 r n) + ·) (congr (congrArg (HMul.hMul (α := EReal)) (gate_at (by decide) x4 _ _ r n)) ?_)
  exact congr (congrArg (HAdd.hAdd (α := EReal)) (mat_at (M := 512) (K := 2048) (N := 1024) x0 x1 _ r n)) (bias_at (by decide) x2 _ _ r n)

variable (m : (ℓ : Loc nD τ sig) → Buf (Elt Ideal) ℓ)

/-- The arguments as arrays. -/
def argA (c : Dev nD) : S16896x2048.Idx → EReal := m ((c.tc : Thread nD τ).loc main_arg0)
def argW (c : Dev nD) : S2048x2048.Idx → EReal := m ((c.tc : Thread nD τ).loc main_arg1)
def argX (c : Dev nD) : S16896x2048.Idx → EReal := m ((c.tc : Thread nD τ).loc main_arg2)
def argM (c : Dev nD) : S2x1x12288.Idx → EReal := m ((c.tc : Thread nD τ).loc main_arg3)

theorem V_w (c : Dev nD) : V m c main_v0 = (truncf .bf16 (m ((c.tc : Thread nD τ).loc main_arg1) : S2048x2048.Idx → Ideal .f32) bitsLt_bf16_f32 : S2048x2048.Idx → Ideal .bf16) := by
  unfold V hostOps0
  after_results <;> rfl
theorem V_b (c : Dev nD) : V m c main_v2 = (shapeCast S1x2048 (broadcastInDim S2048 ![] bcast_S_S2048 (constant S_ .f32 0x00000000#32) : S2048.Idx → Ideal .f32) shapeCasts_S2048_S1x2048 : S1x2048.Idx → Ideal .f32) := by
  unfold V hostOps0
  after_results <;> rfl

/-- One element of the result. -/
def elem (c : Dev nD) (R : Fin 16896) (n : Fin 2048) : EReal :=
  argX m c (ix2 R n) + argM m c (ix3 (stream R) (0 : Fin 1) (⟨4096 + n.val, by omega⟩ : Fin 12288)) * ∑ k : Fin 2048, argA m c (ix2 R k) * argW m c (ix2 k n)

/-- The result. -/
def fin (c : Dev nD) : S16896x2048.Idx → EReal := fun i => elem m c (i 0) (i 1)

/-- Row `r` and column `n` of point `t`, among all of them. -/
def rowOf (t : Fin cfg0.N) (r : Fin 512) : Fin 16896 := ⟨t.val / 2 * 512 + r.val, by
  have h : t.val < 66 := t.isLt
  omega⟩
def colOf (t : Fin cfg0.N) (n : Fin 1024) : Fin 2048 := ⟨t.val % 2 * 1024 + n.val, by omega⟩

theorem idx0 (t : Fin cfg0.N) : win0_0.index t (0 : Fin 2) = t.val / 2 ∧ win0_0.index t (1 : Fin 2) = 0 :=
  (by decide +kernel : ∀ t : Fin 66, win0_0.index t (0 : Fin 2) = t.val / 2 ∧ win0_0.index t (1 : Fin 2) = 0) t
theorem idx1 (t : Fin cfg0.N) : win0_1.index t (0 : Fin 2) = 0 ∧ win0_1.index t (1 : Fin 2) = t.val % 2 :=
  (by decide +kernel : ∀ t : Fin 66, win0_1.index t (0 : Fin 2) = 0 ∧ win0_1.index t (1 : Fin 2) = t.val % 2) t
theorem idx2 (t : Fin cfg0.N) : win0_2.index t (0 : Fin 2) = 0 ∧ win0_2.index t (1 : Fin 2) = t.val % 2 :=
  (by decide +kernel : ∀ t : Fin 66, win0_2.index t (0 : Fin 2) = 0 ∧ win0_2.index t (1 : Fin 2) = t.val % 2) t
theorem idx3 (t : Fin cfg0.N) : win0_3.index t (0 : Fin 2) = t.val / 2 ∧ win0_3.index t (1 : Fin 2) = t.val % 2 :=
  (by decide +kernel : ∀ t : Fin 66, win0_3.index t (0 : Fin 2) = t.val / 2 ∧ win0_3.index t (1 : Fin 2) = t.val % 2) t
theorem idx4 (t : Fin cfg0.N) : win0_4.index t (0 : Fin 3) = (if t.val / 2 < 32 then 0 else 1) ∧ win0_4.index t (1 : Fin 3) = 0 ∧ win0_4.index t (2 : Fin 3) = 4 + t.val % 2 :=
  (by decide +kernel : ∀ t : Fin 66, win0_4.index t (0 : Fin 3) = (if t.val / 2 < 32 then 0 else 1) ∧ win0_4.index t (1 : Fin 3) = 0 ∧ win0_4.index t (2 : Fin 3) = 4 + t.val % 2) t
theorem idx5 (t : Fin cfg0.N) : win0_5.index t (0 : Fin 2) = t.val / 2 ∧ win0_5.index t (1 : Fin 2) = t.val % 2 :=
  (by decide +kernel : ∀ t : Fin 66, win0_5.index t (0 : Fin 2) = t.val / 2 ∧ win0_5.index t (1 : Fin 2) = t.val % 2) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val / 2 * 512 + r.val
    rw [(idx0 t).1]; omega
  | ⟨1, _⟩ =>
    show win0_0.index t (1 : Fin 2) * 2048 + 1 * k.val = k.val
    rw [(idx0 t).2]; omega
theorem emb1 (t : Fin cfg0.N) (k : Fin 2048) (n : Fin 1024) : ((cfg0.win 1).blk t).view.emb (ix2 k n) = (ix2 k (colOf t n) : S2048x2048.Idx) := by
  refine funext fun (a : Fin 2) => Fin.ext ?_
  match a with
  | ⟨0, _⟩ =>
    show win0_1.index t (0 : Fin 2) * 2048 + 1 * k.val = k.val
    rw [(idx1 t).1]; omega
  | ⟨1, _⟩ =>
    show win0_1.index t (1 : Fin 2) * 1024 + 1 * n.val = t.val % 2 * 1024 + n.val
    rw [(idx1 t).2]; omega
theorem emb2 (t : Fin cfg0.N) (n : Fin 1024) : ((cfg0.win 2).blk t).view.emb (ix2 (0 : Fin 1) n) = (ix2 (0 : Fin 1) (colOf t n) : S1x2048.Idx) := by
  refine funext fun (a : Fin 2) => Fin.ext ?_
  match a with
  | ⟨0, _⟩ =>
    show win0_2.index t (0 : Fin 2) * 1 + 1 * 0 = 0
    rw [(idx2 t).1]
  | ⟨1, _⟩ =>
    show win0_2.index t (1 : Fin 2) * 1024 + 1 * n.val = t.val % 2 * 1024 + n.val
    rw [(idx2 t).2]; omega
theorem emb3 (t : Fin cfg0.N) (r : Fin 512) (n : Fin 1024) : ((cfg0.win 3).blk t).view.emb (ix2 r n) = (ix2 (rowOf t r) (colOf t n) : S16896x2048.Idx) := by
  refine funext fun (a : Fin 2) => Fin.ext ?_
  match a with
  | ⟨0, _⟩ =>
    show win0_3.index t (0 : Fin 2) * 512 + 1 * r.val = t.val / 2 * 512 + r.val
    rw [(idx3 t).1]; omega
  | ⟨1, _⟩ =>
    show win0_3.index t (1 : Fin 2) * 1024 + 1 * n.val = t.val % 2 * 1024 + n.val
    rw [(idx3 t).2]; omega
theorem emb4 (t : Fin cfg0.N) (r : Fin 512) (n : Fin 1024) :
    ((cfg0.win 4).blk t).view.emb (ix3 (0 : Fin 1) (0 : Fin 1) n)
      = (ix3 (stream (rowOf t r)) (0 : Fin 1) (⟨4096 + (colOf t n).val, by omega⟩ : Fin 12288) : S2x1x12288.Idx) := by
  refine funext fun (a : Fin 3) => Fin.ext ?_
  match a with
  | ⟨0, _⟩ =>
    show win0_4.index t (0 : Fin 3) * 1 + 1 * 0 = (stream (rowOf t r)).val
    rw [(idx4 t).1]
    unfold stream
    have hR : (rowOf t r).val = t.val / 2 * 512 + r.val := rfl
    by_cases h : t.val / 2 < 32
    · rw [if_pos h, if_pos (by omega)]; rfl
    · rw [if_neg h, if_neg (by omega)]; rfl
  | ⟨1, _⟩ =>
    show win0_4.index t (1 : Fin 3) * 1 + 1 * 0 = 0
    rw [(idx4 t).2.1]
  | ⟨2, _⟩ =>
    show win0_4.index t (2 : Fin 3) * 1024 + 1 * n.val = 4096 + (t.val % 2 * 1024 + n.val)
    rw [(idx4 t).2.2]; omega
theorem emb5 (t : Fin cfg0.N) (r : Fin 512) (n : Fin 1024) : ((cfg0.win 5).blk t).view.emb (ix2 r n) = (ix2 (rowOf t r) (colOf t n) : S16896x2048.Idx) := by
  refine funext fun (a : Fin 2) => Fin.ext ?_
  match a with
  | ⟨0, _⟩ =>
    show win0_5.index t (0 : Fin 2) * 512 + 1 * r.val = t.val / 2 * 512 + r.val
    rw [(idx5 t).1]; omega
  | ⟨1, _⟩ =>
    show win0_5.index t (1 : Fin 2) * 1024 + 1 * n.val = t.val % 2 * 1024 + n.val
    rw [(idx5 t).2]; omega

theorem iblk0_at (c : Dev nD) (t : Fin cfg0.N) (r : Fin 512) (k : Fin 2048) : iblk m c 0 t (ix2 r k) = argA m c (ix2 (rowOf t r) k) :=
  (show iblk m c 0 t (ix2 r k) = V m c main_arg0 (((cfg0.win 0).blk t).view.emb (ix2 r k)) from rfl).trans
    ((congrFun (V_main_arg0 m c) _).trans (congrArg (argA m c) (emb0 t r k)))
theorem iblk1_at (c : Dev nD) (t : Fin cfg0.N) (k : Fin 2048) (n : Fin 1024) : iblk m c 1 t (ix2 k n) = argW m c (ix2 k (colOf t n)) :=
  (show iblk m c 1 t (ix2 k n) = V m c main_v0 (((cfg0.win 1).blk t).view.emb (ix2 k n)) from rfl).trans
    ((congrFun (V_w m c) _).trans (congrArg (argW m c) (emb1 t k n)))
theorem iblk2_at (c : Dev nD) (t : Fin cfg0.N) (n : Fin 1024) : iblk m c 2 t (ix2 (0 : Fin 1) n) = (0 : EReal) := by
  refine (show iblk m c 2 t (ix2 (0 : Fin 1) n) = V m c main_v2 (((cfg0.win 2).blk t).view.emb (ix2 (0 : Fin 1) n)) from rfl).trans ((congrFun (V_b m c) _).trans ?_)
  rw [emb2 t n]
  refine (cast_vec (N := 2048) _ _ _).trans ((broadcastInDim_apply _ _ _ _ (fun a => a.elim0) fun a => a.elim0).trans ?_)
  exact zero_eq
theorem iblk3_at (c : Dev nD) (t : Fin cfg0.N) (r : Fin 512) (n : Fin 1024) : iblk m c 3 t (ix2 r n) = argX m c (ix2 (rowOf t r) (colOf t n)) :=
  (show iblk m c 3 t (ix2 r n) = V m c main_arg2 (((cfg0.win 3).blk t).view.emb (ix2 r n)) from rfl).trans
    ((congrFun (V_main_arg2 m c) _).trans (congrArg (argX m c) (emb3 t r n)))
theorem iblk4_at (c : Dev nD) (t : Fin cfg0.N) (r : Fin 512) (n : Fin 1024) :
    iblk m c 4 t (ix3 (0 : Fin 1) (0 : Fin 1) n) = argM m c (ix3 (stream (rowOf t r)) (0 : Fin 1) (⟨4096 + (colOf t n).val, by omega⟩ : Fin 12288)) :=
  (show iblk m c 4 t (ix3 (0 : Fin 1) (0 : Fin 1) n) = V m c main_arg3 (((cfg0.win 4).blk t).view.emb (ix3 (0 : Fin 1) (0 : Fin 1) n)) from rfl).trans
    ((congrFun (V_main_arg3 m c) _).trans (congrArg (argM m c) (emb4 t r n)))

theorem hz2 : (![0, 0] : Fin 2 → ℕ) = fun _ => 0 := by decide
theorem hz3 : (![0, 0, 0] : Fin 3 → ℕ) = fun _ => 0 := by decide

theorem after_eq (c : Dev nD) (t : Fin cfg0.N) : (dats m 0 c).after 5 t = k0_pay1 (iblk m c 0 t) (iblk m c 1 t) (iblk m c 2 t) (iblk m c 3 t) (iblk m c 4 t) := by
  refine (after0_5 m c t).trans ?_
  unfold out0_5
  rw [View.canon_unit_zero (S := S512x1024) hz2, View.ld_unit_zero (S := S512x2048) hz2, View.ld_unit_zero (S := S2048x1024) hz2, View.ld_unit_zero (S := S1x1024) hz2,
    View.ld_unit_zero (S := S512x1024) hz2, View.ld_unit_zero (S := S1x1x1024) hz3]

theorem oblk_at (c : Dev nD) (t : Fin cfg0.N) (r : Fin 512) (n : Fin 1024) : (dats m 0 c).after 5 t (ix2 r n) = elem m c (rowOf t r) (colOf t n) := by
  refine (congrFun (after_eq m c t) _).trans ((pay_at _ _ _ _ _ r n).trans ?_)
  unfold elem
  refine congr (congrArg (HAdd.hAdd (α := EReal)) (iblk3_at m c t r n)) (congr (congrArg (HMul.hMul (α := EReal)) (iblk4_at m c t r n)) ?_)
  refine (congr (congrArg (HAdd.hAdd (α := EReal)) ?_) (iblk2_at m c t n)).trans (add_zero _)
  exact Finset.sum_congr rfl fun k _ => congr (congrArg (HMul.hMul (α := EReal)) (iblk0_at m c t r k)) (iblk1_at m c t k n)

/-- The array the launch leaves is the result. -/
theorem final (c : Dev nD) : (dats m 0 c).arrAt 5 cfg0.N = fin m c := by
  refine Dat.arrAt_eq_of_emb (dats m 0 c) 5 (fin m c) (fun t _ y => ?_) (fun i => ?_)
  · obtain ⟨r, n, rfl⟩ : ∃ (r : Fin 512) (n : Fin 1024), y = ix2 r n := ⟨y 0, y 1, eq_ix2 _⟩
    exact Eq.trans (oblk_at m c t r n) (congrArg (fin m c) (emb5 t r n)).symm
  · obtain ⟨R, n, rfl⟩ : ∃ (R : Fin 16896) (n : Fin 2048), i = ix2 R n := ⟨i 0, i 1, eq_ix2 _⟩
    have hR := R.isLt
    have hn := n.isLt
    have ht : R.val / 512 * 2 + n.val / 1024 < 66 := by omega
    refine ⟨⟨R.val / 512 * 2 + n.val / 1024, ht⟩, flush0_5 _, ?_⟩
    have e := emb5 ⟨R.val / 512 * 2 + n.val / 1024, ht⟩ (⟨R.val % 512, by omega⟩ : Fin 512) (⟨n.val % 1024, by omega⟩ : Fin 1024)
    have e1 : rowOf ⟨R.val / 512 * 2 + n.val / 1024, ht⟩ (⟨R.val % 512, by omega⟩ : Fin 512) = R := Fin.ext (by
      show (R.val / 512 * 2 + n.val / 1024) / 2 * 512 + R.val % 512 = R.val
      omega)
    have e2 : colOf ⟨R.val / 512 * 2 + n.val / 1024, ht⟩ (⟨n.val % 1024, by omega⟩ : Fin 1024) = n := Fin.ext (by
      show (R.val / 512 * 2 + n.val / 1024) % 2 * 1024 + n.val % 1024 = n.val
      omega)
    rw [e1, e2] at e
    rw [← e]
    exact View.emb_mem_set _ _

end Cert.Kernel4Ideal.Hand

end
-- ==== Proof.GatedUnit.lean ====
module

public import proofs.«01_k».proof.Proof.Mix
public import proofs.«01_k».proof.Proof.Gen.Kernel5Ideal.Frame
public import Idealize.ShloMosaic.Lib.Pipeline.Covers
public import Idealize.ShloMosaic.Lib.Pipeline.ValueKit.Geometry

/-! # The array the gated projection leaves, element by element -/

@[expose] public section

set_option maxRecDepth 16384

noncomputable section

namespace Cert.Kernel5Ideal.Hand

open Cert.Kernel5Ideal Cert.Kernel5Ideal.Gen Cert.Mix
open Idealize.ShloMosaic Idealize.ShloMosaic.TcCoe
open Idealize.SL Idealize.SL.Sem
open Idealize.ShloMosaic.Pipeline (Dat Cfg Window)
open Idealize.ShloMosaic.ValueIdx (ix1 ix2 ix3 eq_ix2)
open scoped BigOperators

theorem pay_at (x0 : FVec Ideal S512x2048 .bf16) (x1 x2 : FVec Ideal S512x2048 .f32) (x3 : FVec Ideal S1x2048 .f32) (x4 : FVec Ideal S2048x1024 .bf16)
    (x5 : FVec Ideal S1x1024 .f32) (x6 : FVec Ideal S512x1024 .f32) (x7 : FVec Ideal S1x1x1024 .f32) (r : Fin 512) (n : Fin 1024) :
    k0_pay1 (F := Ideal) x0 x1 x2 x3 x4 x5 x6 x7 (ix2 r n)
      = (x6 (ix2 r n) : EReal) + x7 (ix3 (0 : Fin 1) (0 : Fin 1) n)
        * ((∑ k : Fin 2048, ((x0 (ix2 r k) : EReal) * (x1 (ix2 r k) + x2 (ix2 r k) * x3 (ix2 (0 : Fin 1) k))) * x4 (ix2 k n)) + x5 (ix2 (0 : Fin 1) n)) := by
  unfold k0_pay1
  refine congrArg (x6 (ix2 r n) + ·) (congr (congrArg (HMul.hMul (α := EReal)) (gate_at (by decide) x7 _ _ r n)) ?_)
  refine congr (congrArg (HAdd.hAdd (α := EReal)) ((mat_at (M := 512) (K := 2048) (N := 1024) _ x4 _ r n).trans ?_)) (bias_at (by decide) x5 _ _ r n)
  refine Finset.sum_congr rfl fun k _ => congrArg (fun z : EReal => z * x4 (ix2 k n)) ?_
  exact congrArg (fun z : EReal => (x0 (ix2 r k) : EReal) * (x1 (ix2 r k) + x2 (ix2 r k) * z)) (bias_at (M := 512) (N := 2048) (by decide) x3 _ _ r k)

variable (m : (ℓ : Loc nD τ sig) → Buf (Elt Ideal) ℓ)

/-- The arguments as arrays. -/
def argA (c : Dev nD) : S16896x2048.Idx → EReal := m ((c.tc : Thread nD τ).loc main_arg0)
def argY (c : Dev nD) : S16896x2048.Idx → EReal := m ((c.tc : Thread nD τ).loc main_arg1)
def argU (c : Dev nD) : S16896x2048.Idx → EReal := m ((c.tc : Thread nD τ).loc main_arg2)
def argS (c : Dev nD) : S2048.Idx → EReal := m ((c.tc : Thread nD τ).loc main_arg3)
def argW (c : Dev nD) : S2048x2048.Idx → EReal := m ((c.tc : Thread nD τ).loc main_arg4)
def argB (c : Dev nD) : S2048.Idx → EReal := m ((c.tc : Thread nD τ).loc main_arg5)
def argX (c : Dev nD) : S16896x2048.Idx → EReal := m ((c.tc : Thread nD τ).loc main_arg6)
def argM (c : Dev nD) : S2x1x12288.Idx → EReal := m ((c.tc : Thread nD τ).loc main_arg7)

theorem V_w (c : Dev nD) : V m c main_v0 = (truncf .bf16 (m ((c.tc : Thread nD τ).loc main_arg4) : S2048x2048.Idx → Ideal .f32) bitsLt_bf16_f32 : S2048x2048.Idx → Ideal .bf16) := by
  unfold V hostOps0
  after_results <;> rfl
theorem V_s (c : Dev nD) : V m c main_v1 = (shapeCast S1x2048 (m ((c.tc : Thread nD τ).loc main_arg3) : S2048.Idx → Ideal .f32) shapeCasts_S2048_S1x2048 : S1x2048.Idx → Ideal .f32) := by
  unfold V hostOps0
  after_results <;> rfl
theorem V_b (c : Dev nD) : V m c main_v2 = (shapeCast S1x2048 (m ((c.tc : Thread nD τ).loc main_arg5) : S2048.Idx → Ideal .f32) shapeCasts_S2048_S1x2048 : S1x2048.Idx → Ideal .f32) := by
  unfold V hostOps0
  after_results <;> rfl

/-- One element of the result. -/
def elem (c : Dev nD) (R : Fin 16896) (n : Fin 2048) : EReal :=
  argX m c (ix2 R n) + argM m c (ix3 (stream R) (0 : Fin 1) (⟨4096 + n.val, by omega⟩ : Fin 12288))
    * ((∑ k : Fin 2048, (argA m c (ix2 R k) * (argY m c (ix2 R k) + argU m c (ix2 R k) * argS m c (ix1 k))) * argW m c (ix2 k n)) + argB m c (ix1 n))

/-- The result. -/
def fin (c : Dev nD) : S16896x2048.Idx → EReal := fun i => elem m c (i 0) (i 1)

/-- Row `r` and column `n` of point `t`, among all of them. -/
def rowOf (t : Fin cfg0.N) (r : Fin 512) : Fin 16896 := ⟨t.val / 2 * 512 + r.val, by
  have h : t.val < 66 := t.isLt
  omega⟩
def colOf (t : Fin cfg0.N) (n : Fin 1024) : Fin 2048 := ⟨t.val % 2 * 1024 + n.val, by omega⟩

theorem idx0 (t : Fin cfg0.N) : win0_0.index t (0 : Fin 2) = t.val / 2 ∧ win0_0.index t (1 : Fin 2) = 0 :=
  (by decide +kernel : ∀ t : Fin 66, win0_0.index t (0 : Fin 2) = t.val / 2 ∧ win0_0.index t (1 : Fin 2) = 0) t
theorem idx1 (t : Fin cfg0.N) : win0_1.index t (0 : Fin 2) = t.val / 2 ∧ win0_1.index t (1 : Fin 2) = 0 :=
  (by decide +kernel : ∀ t : Fin 66, win0_1.index t (0 : Fin 2) = t.val / 2 ∧ win0_1.index t (1 : Fin 2) = 0) t
theorem idx2 (t : Fin cfg0.N) : win0_2.index t (0 : Fin 2) = t.val / 2 ∧ win0_2.index t (1 : Fin 2) = 0 :=
  (by decide +kernel : ∀ t : Fin 66, win0_2.index t (0 : Fin 2) = t.val / 2 ∧ win0_2.index t (1 : Fin 2) = 0) t
theorem idx3 (t : Fin cfg0.N) : win0_3.index t (0 : Fin 2) = 0 ∧ win0_3.index t (1 : Fin 2) = 0 :=
  (by decide +kernel : ∀ t : Fin 66, win0_3.index t (0 : Fin 2) = 0 ∧ win0_3.index t (1 : Fin 2) = 0) t
theorem idx4 (t : Fin cfg0.N) : win0_4.index t (0 : Fin 2) = 0 ∧ win0_4.index t (1 : Fin 2) = t.val % 2 :=
  (by decide +kernel : ∀ t : Fin 66, win0_4.index t (0 : Fin 2) = 0 ∧ win0_4.index t (1 : Fin 2) = t.val % 2) t
theorem idx5 (t : Fin cfg0.N) : win0_5.index t (0 : Fin 2) = 0 ∧ win0_5.index t (1 : Fin 2) = t.val % 2 :=
  (by decide +kernel : ∀ t : Fin 66, win0_5.index t (0 : Fin 2) = 0 ∧ win0_5.index t (1 : Fin 2) = t.val % 2) t
theorem idx6 (t : Fin cfg0.N) : win0_6.index t (0 : Fin 2) = t.val / 2 ∧ win0_6.index t (1 : Fin 2) = t.val % 2 :=
  (by decide +kernel : ∀ t : Fin 66, win0_6.index t (0 : Fin 2) = t.val / 2 ∧ win0_6.index t (1 : Fin 2) = t.val % 2) t
theorem idx7 (t : Fin cfg0.N) : win0_7.index t (0 : Fin 3) = (if t.val / 2 < 32 then 0 else 1) ∧ win0_7.index t (1 : Fin 3) = 0 ∧ win0_7.index t (2 : Fin 3) = 4 + t.val % 2 :=
  (by decide +kernel : ∀ t : Fin 66, win0_7.index t (0 : Fin 3) = (if t.val / 2 < 32 then 0 else 1) ∧ win0_7.index t (1 : Fin 3) = 0 ∧ win0_7.index t (2 : Fin 3) = 4 + t.val % 2) t
theorem idx8 (t : Fin cfg0.N) : win0_8.index t (0 : Fin 2) = t.val / 2 ∧ win0_8.index t (1 : Fin 2) = t.val % 2 :=
  (by decide +kernel : ∀ t : Fin 66, win0_8.index t (0 : Fin 2) = t.val / 2 ∧ win0_8.index t (1 : Fin 2) = t.val % 2) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val / 2 * 512 + r.val
    rw [(idx0 t).1]; omega
  | ⟨1, _⟩ =>
    show win0_0.index t (1 : Fin 2) * 2048 + 1 * k.val = k.val
    rw [(idx0 t).2]; omega
theorem emb1 (t : Fin cfg0.N) (r : Fin 512) (k : Fin 2048) : ((cfg0.win 1).blk t).view.emb (ix2 r k) = (ix2 (rowOf t r) k : S16896x2048.Idx) := by
  refine funext fun (a : Fin 2) => Fin.ext ?_
  match a with
  | ⟨0, _⟩ =>
    show win0_1.index t (0 : Fin 2) * 512 + 1 * r.val = t.val / 2 * 512 + r.val
    rw [(idx1 t).1]; omega
  | ⟨1, _⟩ =>
    show win0_1.index t (1 : Fin 2) * 2048 + 1 * k.val = k.val
    rw [(idx1 t).2]; omega
theorem emb2 (t : Fin cfg0.N) (r : Fin 512) (k : Fin 2048) : ((cfg0.win 2).blk t).view.emb (ix2 r k) = (ix2 (rowOf t r) k : S16896x2048.Idx) := by
  refine funext fun (a : Fin 2) => Fin.ext ?_
  match a with
  | ⟨0, _⟩ =>
    show win0_2.index t (0 : Fin 2) * 512 + 1 * r.val = t.val / 2 * 512 + r.val
    rw [(idx2 t).1]; omega
  | ⟨1, _⟩ =>
    show win0_2.index t (1 : Fin 2) * 2048 + 1 * k.val = k.val
    rw [(idx2 t).2]; omega
theorem emb3 (t : Fin cfg0.N) (k : Fin 2048) : ((cfg0.win 3).blk t).view.emb (ix2 (0 : Fin 1) k) = (ix2 (0 : Fin 1) k : S1x2048.Idx) := by
  refine funext fun (a : Fin 2) => Fin.ext ?_
  match a with
  | ⟨0, _⟩ =>
    show win0_3.index t (0 : Fin 2) * 1 + 1 * 0 = 0
    rw [(idx3 t).1]
  | ⟨1, _⟩ =>
    show win0_3.index t (1 : Fin 2) * 2048 + 1 * k.val = k.val
    rw [(idx3 t).2]; omega
theorem emb4 (t : Fin cfg0.N) (k : Fin 2048) (n : Fin 1024) : ((cfg0.win 4).blk t).view.emb (ix2 k n) = (ix2 k (colOf t n) : S2048x2048.Idx) := by
  refine funext fun (a : Fin 2) => Fin.ext ?_
  match a with
  | ⟨0, _⟩ =>
    show win0_4.index t (0 : Fin 2) * 2048 + 1 * k.val = k.val
    rw [(idx4 t).1]; omega
  | ⟨1, _⟩ =>
    show win0_4.index t (1 : Fin 2) * 1024 + 1 * n.val = t.val % 2 * 1024 + n.val
    rw [(idx4 t).2]; omega
theorem emb5 (t : Fin cfg0.N) (n : Fin 1024) : ((cfg0.win 5).blk t).view.emb (ix2 (0 : Fin 1) n) = (ix2 (0 : Fin 1) (colOf t n) : S1x2048.Idx) := by
  refine funext fun (a : Fin 2) => Fin.ext ?_
  match a with
  | ⟨0, _⟩ =>
    show win0_5.index t (0 : Fin 2) * 1 + 1 * 0 = 0
    rw [(idx5 t).1]
  | ⟨1, _⟩ =>
    show win0_5.index t (1 : Fin 2) * 1024 + 1 * n.val = t.val % 2 * 1024 + n.val
    rw [(idx5 t).2]; omega
theorem emb6 (t : Fin cfg0.N) (r : Fin 512) (n : Fin 1024) : ((cfg0.win 6).blk t).view.emb (ix2 r n) = (ix2 (rowOf t r) (colOf t n) : S16896x2048.Idx) := by
  refine funext fun (a : Fin 2) => Fin.ext ?_
  match a with
  | ⟨0, _⟩ =>
    show win0_6.index t (0 : Fin 2) * 512 + 1 * r.val = t.val / 2 * 512 + r.val
    rw [(idx6 t).1]; omega
  | ⟨1, _⟩ =>
    show win0_6.index t (1 : Fin 2) * 1024 + 1 * n.val = t.val % 2 * 1024 + n.val
    rw [(idx6 t).2]; omega
theorem emb7 (t : Fin cfg0.N) (r : Fin 512) (n : Fin 1024) :
    ((cfg0.win 7).blk t).view.emb (ix3 (0 : Fin 1) (0 : Fin 1) n)
      = (ix3 (stream (rowOf t r)) (0 : Fin 1) (⟨4096 + (colOf t n).val, by omega⟩ : Fin 12288) : S2x1x12288.Idx) := by
  refine funext fun (a : Fin 3) => Fin.ext ?_
  match a with
  | ⟨0, _⟩ =>
    show win0_7.index t (0 : Fin 3) * 1 + 1 * 0 = (stream (rowOf t r)).val
    rw [(idx7 t).1]
    unfold stream
    have hR : (rowOf t r).val = t.val / 2 * 512 + r.val := rfl
    by_cases h : t.val / 2 < 32
    · rw [if_pos h, if_pos (by omega)]; rfl
    · rw [if_neg h, if_neg (by omega)]; rfl
  | ⟨1, _⟩ =>
    show win0_7.index t (1 : Fin 3) * 1 + 1 * 0 = 0
    rw [(idx7 t).2.1]
  | ⟨2, _⟩ =>
    show win0_7.index t (2 : Fin 3) * 1024 + 1 * n.val = 4096 + (t.val % 2 * 1024 + n.val)
    rw [(idx7 t).2.2]; omega
theorem emb8 (t : Fin cfg0.N) (r : Fin 512) (n : Fin 1024) : ((cfg0.win 8).blk t).view.emb (ix2 r n) = (ix2 (rowOf t r) (colOf t n) : S16896x2048.Idx) := by
  refine funext fun (a : Fin 2) => Fin.ext ?_
  match a with
  | ⟨0, _⟩ =>
    show win0_8.index t (0 : Fin 2) * 512 + 1 * r.val = t.val / 2 * 512 + r.val
    rw [(idx8 t).1]; omega
  | ⟨1, _⟩ =>
    show win0_8.index t (1 : Fin 2) * 1024 + 1 * n.val = t.val % 2 * 1024 + n.val
    rw [(idx8 t).2]; omega

theorem iblk0_at (c : Dev nD) (t : Fin cfg0.N) (r : Fin 512) (k : Fin 2048) : iblk m c 0 t (ix2 r k) = argA m c (ix2 (rowOf t r) k) :=
  (show iblk m c 0 t (ix2 r k) = V m c main_arg0 (((cfg0.win 0).blk t).view.emb (ix2 r k)) from rfl).trans
    ((congrFun (V_main_arg0 m c) _).trans (congrArg (argA m c) (emb0 t r k)))
theorem iblk1_at (c : Dev nD) (t : Fin cfg0.N) (r : Fin 512) (k : Fin 2048) : iblk m c 1 t (ix2 r k) = argY m c (ix2 (rowOf t r) k) :=
  (show iblk m c 1 t (ix2 r k) = V m c main_arg1 (((cfg0.win 1).blk t).view.emb (ix2 r k)) from rfl).trans
    ((congrFun (V_main_arg1 m c) _).trans (congrArg (argY m c) (emb1 t r k)))
theorem iblk2_at (c : Dev nD) (t : Fin cfg0.N) (r : Fin 512) (k : Fin 2048) : iblk m c 2 t (ix2 r k) = argU m c (ix2 (rowOf t r) k) :=
  (show iblk m c 2 t (ix2 r k) = V m c main_arg2 (((cfg0.win 2).blk t).view.emb (ix2 r k)) from rfl).trans
    ((congrFun (V_main_arg2 m c) _).trans (congrArg (argU m c) (emb2 t r k)))
theorem iblk3_at (c : Dev nD) (t : Fin cfg0.N) (k : Fin 2048) : iblk m c 3 t (ix2 (0 : Fin 1) k) = argS m c (ix1 k) := by
  refine (show iblk m c 3 t (ix2 (0 : Fin 1) k) = V m c main_v1 (((cfg0.win 3).blk t).view.emb (ix2 (0 : Fin 1) k)) from rfl).trans ((congrFun (V_s m c) _).trans ?_)
  rw [emb3 t k]
  exact cast_vec (N := 2048) _ _ _
theorem iblk4_at (c : Dev nD) (t : Fin cfg0.N) (k : Fin 2048) (n : Fin 1024) : iblk m c 4 t (ix2 k n) = argW m c (ix2 k (colOf t n)) :=
  (show iblk m c 4 t (ix2 k n) = V m c main_v0 (((cfg0.win 4).blk t).view.emb (ix2 k n)) from rfl).trans
    ((congrFun (V_w m c) _).trans (congrArg (argW m c) (emb4 t k n)))
theorem iblk5_at (c : Dev nD) (t : Fin cfg0.N) (n : Fin 1024) : iblk m c 5 t (ix2 (0 : Fin 1) n) = argB m c (ix1 (colOf t n)) := by
  refine (show iblk m c 5 t (ix2 (0 : Fin 1) n) = V m c main_v2 (((cfg0.win 5).blk t).view.emb (ix2 (0 : Fin 1) n)) from rfl).trans ((congrFun (V_b m c) _).trans ?_)
  rw [emb5 t n]
  exact cast_vec (N := 2048) _ _ _
theorem iblk6_at (c : Dev nD) (t : Fin cfg0.N) (r : Fin 512) (n : Fin 1024) : iblk m c 6 t (ix2 r n) = argX m c (ix2 (rowOf t r) (colOf t n)) :=
  (show iblk m c 6 t (ix2 r n) = V m c main_arg6 (((cfg0.win 6).blk t).view.emb (ix2 r n)) from rfl).trans
    ((congrFun (V_main_arg6 m c) _).trans (congrArg (argX m c) (emb6 t r n)))
theorem iblk7_at (c : Dev nD) (t : Fin cfg0.N) (r : Fin 512) (n : Fin 1024) : iblk m c 7 t (ix3 (0 : Fin 1) (0 : Fin 1) n) = argM m c (ix3 (stream (rowOf t r)) (0 : Fin 1) (⟨4096 + (colOf t n).val, by omega⟩ : Fin 12288)) :=
  (show iblk m c 7 t (ix3 (0 : Fin 1) (0 : Fin 1) n) = V m c main_arg7 (((cfg0.win 7).blk t).view.emb (ix3 (0 : Fin 1) (0 : Fin 1) n)) from rfl).trans
    ((congrFun (V_main_arg7 m c) _).trans (congrArg (argM m c) (emb7 t r n)))

theorem hz2 : (![0, 0] : Fin 2 → ℕ) = fun _ => 0 := by decide
theorem hz3 : (![0, 0, 0] : Fin 3 → ℕ) = fun _ => 0 := by decide

theorem after_eq (c : Dev nD) (t : Fin cfg0.N) : (dats m 0 c).after 8 t
    = k0_pay1 (iblk m c 0 t) (iblk m c 1 t) (iblk m c 2 t) (iblk m c 3 t) (iblk m c 4 t) (iblk m c 5 t) (iblk m c 6 t) (iblk m c 7 t) := by
  refine (after0_8 m c t).trans ?_
  unfold out0_8
  rw [View.canon_unit_zero (S := S512x1024) hz2]
  simp only [View.ld_unit_zero (S := S512x2048) hz2, View.ld_unit_zero (S := S2048x1024) hz2, View.ld_unit_zero (S := S1x1024) hz2, View.ld_unit_zero (S := S1x2048) hz2,
    View.ld_unit_zero (S := S512x1024) hz2, View.ld_unit_zero (S := S1x1x1024) hz3]

theorem oblk_at (c : Dev nD) (t : Fin cfg0.N) (r : Fin 512) (n : Fin 1024) : (dats m 0 c).after 8 t (ix2 r n) = elem m c (rowOf t r) (colOf t n) := by
  refine (congrFun (after_eq m c t) _).trans ((pay_at _ _ _ _ _ _ _ _ r n).trans ?_)
  unfold elem
  refine congr (congrArg (HAdd.hAdd (α := EReal)) (iblk6_at m c t r n)) (congr (congrArg (HMul.hMul (α := EReal)) (iblk7_at m c t r n)) ?_)
  refine congr (congrArg (HAdd.hAdd (α := EReal)) ?_) (iblk5_at m c t n)
  refine Finset.sum_congr rfl fun k _ => congr (congrArg (HMul.hMul (α := EReal)) ?_) (iblk4_at m c t k n)
  exact congr (congrArg (HMul.hMul (α := EReal)) (iblk0_at m c t r k)) (congr (congrArg (HAdd.hAdd (α := EReal)) (iblk1_at m c t r k))
    (congr (congrArg (HMul.hMul (α := EReal)) (iblk2_at m c t r k)) (iblk3_at m c t k)))

/-- The array the launch leaves is the result. -/
theorem final (c : Dev nD) : (dats m 0 c).arrAt 8 cfg0.N = fin m c := by
  refine Dat.arrAt_eq_of_emb (dats m 0 c) 8 (fin m c) (fun t _ y => ?_) (fun i => ?_)
  · obtain ⟨r, n, rfl⟩ : ∃ (r : Fin 512) (n : Fin 1024), y = ix2 r n := ⟨y 0, y 1, eq_ix2 _⟩
    exact Eq.trans (oblk_at m c t r n) (congrArg (fin m c) (emb8 t r n)).symm
  · obtain ⟨R, n, rfl⟩ : ∃ (R : Fin 16896) (n : Fin 2048), i = ix2 R n := ⟨i 0, i 1, eq_ix2 _⟩
    have hR := R.isLt
    have hn := n.isLt
    have ht : R.val / 512 * 2 + n.val / 1024 < 66 := by omega
    refine ⟨⟨R.val / 512 * 2 + n.val / 1024, ht⟩, flush0_8 _, ?_⟩
    have e := emb8 ⟨R.val / 512 * 2 + n.val / 1024, ht⟩ (⟨R.val % 512, by omega⟩ : Fin 512) (⟨n.val % 1024, by omega⟩ : Fin 1024)
    have e1 : rowOf ⟨R.val / 512 * 2 + n.val / 1024, ht⟩ (⟨R.val % 512, by omega⟩ : Fin 512) = R := Fin.ext (by
      show (R.val / 512 * 2 + n.val / 1024) / 2 * 512 + R.val % 512 = R.val
      omega)
    have e2 : colOf ⟨R.val / 512 * 2 + n.val / 1024, ht⟩ (⟨n.val % 1024, by omega⟩ : Fin 1024) = n := Fin.ext (by
      show (R.val / 512 * 2 + n.val / 1024) % 2 * 1024 + n.val % 1024 = n.val
      omega)
    rw [e1, e2] at e
    rw [← e]
    exact View.emb_mem_set _ _

end Cert.Kernel5Ideal.Hand

end
-- ==== Proof.Norm.lean ====
module

public import proofs.«01_k».proof.Proof.Mix
public import Idealize.ShloMosaic.Lib.Pointwise.Reduce

/-! # The modulated norm of a row, as the kernels and as the references compute it -/

@[expose] public section

set_option maxRecDepth 16384

noncomputable section

namespace Cert.Mix

open Idealize.ShloMosaic hiding ix0 ix1 ix2 ix3 ix4
open Idealize.ShloMosaic.ValueIdx (ix1 ix2 ix3)
open scoped BigOperators

variable {M : ℕ}

/-- The reciprocal root of a row's mean square. -/
def rs (f : Fin 2048 → EReal) : EReal :=
  Ideal.rsqrt (Ideal.div (∑ k : Fin 2048, f k * f k) (Ideal.ofBits .f32 0x45000000#32) + Ideal.ofBits .f32 0x358637BD#32)

/-- The row normed, scaled by the gain and modulated. -/
def normed (f g sc sh : Fin 2048 → EReal) (n : Fin 2048) : EReal := f n * rs f * g n * (Ideal.ofBits .f32 0x3F800000#32 + sc n) + sh n

theorem rs_at (x : FVec Ideal ⟨2, ![M, 2048]⟩ .f32) (h : (⟨2, ![M, 2048]⟩ : Shape).Reduces [1] ⟨1, ![M]⟩) (hφ : FKind.Formats .f32)
    (hacc : (0x00000000#32 : BitVec (FTy.f32).bits) = FKind.add.neutral .f32 hφ) (hc : (⟨1, ![M]⟩ : Shape).ShapeCasts ⟨2, ![M, 1]⟩) (r : Fin M) :
    rsqrt (addf (divf (shapeCast ⟨2, ![M, 1]⟩ (multiReduction .add [1] ⟨1, ![M]⟩ (mulf x x) 0x00000000#32 h hφ hacc) hc)
      (broadcast ⟨2, ![M, 1]⟩ (Scalar.ofBits .f32 0x45000000#32))) (broadcast ⟨2, ![M, 1]⟩ (Scalar.ofBits .f32 0x358637BD#32))) (ix2 r (0 : Fin 1))
      = rs fun k => x (ix2 r k) := by
  refine congrArg (fun z : EReal => Ideal.rsqrt (Ideal.div z (Ideal.ofBits .f32 0x45000000#32) + Ideal.ofBits .f32 0x358637BD#32)) ?_
  refine (cast_col _ hc r).trans ((multiReduction_add_apply _ _ h hφ hacc (ix1 r)).trans ?_)
  exact Ideal.reduceAdd_r2_a1 (n0 := M) (n1 := 2048) h (mulf x x) (ix1 r)

theorem norm_at (hM : M ≠ 1) (x : FVec Ideal ⟨2, ![M, 2048]⟩ .f32) (g : FVec Ideal ⟨2, ![1, 2048]⟩ .f32) (sc sh : FVec Ideal ⟨3, ![1, 1, 2048]⟩ .f32)
    (h : (⟨2, ![M, 2048]⟩ : Shape).Reduces [1] ⟨1, ![M]⟩) (hφ : FKind.Formats .f32)
    (hacc : (0x00000000#32 : BitVec (FTy.f32).bits) = FKind.add.neutral .f32 hφ) (hc : (⟨1, ![M]⟩ : Shape).ShapeCasts ⟨2, ![M, 1]⟩)
    (hb : (⟨2, ![M, 1]⟩ : Shape).Broadcasts ⟨2, ![M, 2048]⟩) (hr : (⟨2, ![1, 2048]⟩ : Shape).Broadcasts ⟨2, ![M, 2048]⟩)
    (hg : (⟨2, ![1, 2048]⟩ : Shape).ShapeCasts ⟨2, ![1, 2048]⟩) (hs : (⟨3, ![1, 1, 2048]⟩ : Shape).ShapeCasts ⟨2, ![1, 2048]⟩) (r : Fin M) (n : Fin 2048) :
    addf (mulf (mulf (mulf x (broadcastTo ⟨2, ![M, 2048]⟩ (rsqrt (addf (divf (shapeCast ⟨2, ![M, 1]⟩ (multiReduction .add [1] ⟨1, ![M]⟩ (mulf x x) 0x00000000#32 h hφ hacc) hc)
        (broadcast ⟨2, ![M, 1]⟩ (Scalar.ofBits .f32 0x45000000#32))) (broadcast ⟨2, ![M, 1]⟩ (Scalar.ofBits .f32 0x358637BD#32)))) hb))
        (broadcastTo ⟨2, ![M, 2048]⟩ (shapeCast ⟨2, ![1, 2048]⟩ g hg) hr))
        (broadcastTo ⟨2, ![M, 2048]⟩ (addf (broadcast ⟨2, ![1, 2048]⟩ (Scalar.ofBits .f32 0x3F800000#32)) (shapeCast ⟨2, ![1, 2048]⟩ sc hs)) hr))
        (broadcastTo ⟨2, ![M, 2048]⟩ (shapeCast ⟨2, ![1, 2048]⟩ sh hs) hr) (ix2 r n)
      = normed (fun k => x (ix2 r k)) (fun k => g (ix2 (0 : Fin 1) k)) (fun k => sc (ix3 (0 : Fin 1) (0 : Fin 1) k)) (fun k => sh (ix3 (0 : Fin 1) (0 : Fin 1) k)) n := by
  unfold normed
  refine congr (congrArg (HAdd.hAdd (α := EReal)) (congr (congrArg (HMul.hMul (α := EReal)) (congr (congrArg (HMul.hMul (α := EReal)) (congrArg (fun z : EReal => x (ix2 r n) * z) ?_)) ?_)) ?_)) ?_
  · exact (col_at hM _ hb r n).trans (rs_at x h hφ hacc hc r)
  · exact bias_at (by decide) g hg hr r n
  · exact (row_at (by decide) _ hr r n).trans (congrArg (fun z : EReal => Ideal.ofBits .f32 0x3F800000#32 + z) (cast_mod sc hs n))
  · exact gate_at (by decide) sh hs hr r n

theorem hrs_at (hM : M ≠ 1) (x : FVec Ideal ⟨2, ![M, 2048]⟩ .f32) (h : (⟨2, ![M, 2048]⟩ : Shape).ReducesTo [1] ⟨1, ![M]⟩) (h0 : 0 < (⟨0, ![]⟩ : Shape).numel)
    (hc : (⟨1, ![M]⟩ : Shape).BroadcastsInDim ⟨2, ![M, 1]⟩ ![0]) (he : (⟨0, ![]⟩ : Shape).BroadcastsInDim ⟨2, ![M, 1]⟩ ![]) (r : Fin M) :
    Host.rsqrt (addf (Host.divf (broadcastInDim ⟨2, ![M, 1]⟩ ![0] hc (Host.reduceAdd (mulf x x) (constant ⟨0, ![]⟩ .f32 0x00000000#32) h h0))
      (broadcastInDim ⟨2, ![M, 1]⟩ ![] he (constant ⟨0, ![]⟩ .f32 0x45000000#32))) (broadcastInDim ⟨2, ![M, 1]⟩ ![] he (constant ⟨0, ![]⟩ .f32 0x358637BD#32))) (ix2 r (0 : Fin 1))
      = rs fun k => x (ix2 r k) := by
  refine congrArg (fun z : EReal => Ideal.rsqrt (Ideal.div z (Ideal.ofBits .f32 0x45000000#32) + Ideal.ofBits .f32 0x358637BD#32)) ?_
  refine (hvecc_at hM _ hc r).trans ?_
  rw [Host.reduceAdd_apply]
  refine (Ideal.hostReduceAdd_r2_a1 (n0 := M) (n1 := 2048) h _ _ (ix1 r)).trans ?_
  exact (congrArg (· + _) zero_eq).trans (zero_add _)

theorem hnorm_at (hM : M ≠ 1) (x : FVec Ideal ⟨2, ![M, 2048]⟩ .f32) (g : FVec Ideal ⟨1, ![2048]⟩ .f32) (sc sh : FVec Ideal ⟨2, ![1, 2048]⟩ .f32)
    (h : (⟨2, ![M, 2048]⟩ : Shape).ReducesTo [1] ⟨1, ![M]⟩) (h0 : 0 < (⟨0, ![]⟩ : Shape).numel)
    (hc : (⟨1, ![M]⟩ : Shape).BroadcastsInDim ⟨2, ![M, 1]⟩ ![0]) (he : (⟨0, ![]⟩ : Shape).BroadcastsInDim ⟨2, ![M, 1]⟩ ![])
    (hb : (⟨2, ![M, 1]⟩ : Shape).BroadcastsInDim ⟨2, ![M, 2048]⟩ ![0, 1]) (hr : (⟨2, ![1, 2048]⟩ : Shape).BroadcastsInDim ⟨2, ![M, 2048]⟩ ![0, 1])
    (hg : (⟨1, ![2048]⟩ : Shape).BroadcastsInDim ⟨2, ![1, 2048]⟩ ![1]) (ho : (⟨0, ![]⟩ : Shape).BroadcastsInDim ⟨2, ![1, 2048]⟩ ![]) (r : Fin M) (n : Fin 2048) :
    addf (mulf (mulf (mulf x (broadcastInDim ⟨2, ![M, 2048]⟩ ![0, 1] hb (Host.rsqrt (addf (Host.divf (broadcastInDim ⟨2, ![M, 1]⟩ ![0] hc (Host.reduceAdd (mulf x x) (constant ⟨0, ![]⟩ .f32 0x00000000#32) h h0))
        (broadcastInDim ⟨2, ![M, 1]⟩ ![] he (constant ⟨0, ![]⟩ .f32 0x45000000#32))) (broadcastInDim ⟨2, ![M, 1]⟩ ![] he (constant ⟨0, ![]⟩ .f32 0x358637BD#32))))))
        (broadcastInDim ⟨2, ![M, 2048]⟩ ![0, 1] hr (broadcastInDim ⟨2, ![1, 2048]⟩ ![1] hg g)))
        (broadcastInDim ⟨2, ![M, 2048]⟩ ![0, 1] hr (addf (broadcastInDim ⟨2, ![1, 2048]⟩ ![] ho (constant ⟨0, ![]⟩ .f32 0x3F800000#32)) sc)))
        (broadcastInDim ⟨2, ![M, 2048]⟩ ![0, 1] hr sh) (ix2 r n)
      = normed (fun k => x (ix2 r k)) (fun k => g (ix1 k)) (fun k => sc (ix2 (0 : Fin 1) k)) (fun k => sh (ix2 (0 : Fin 1) k)) n := by
  unfold normed
  refine congr (congrArg (HAdd.hAdd (α := EReal)) (congr (congrArg (HMul.hMul (α := EReal)) (congr (congrArg (HMul.hMul (α := EReal)) (congrArg (fun z : EReal => x (ix2 r n) * z) ?_)) ?_)) ?_)) ?_
  · exact (hcol_at hM _ hb r n).trans (hrs_at hM x h h0 hc he r)
  · exact (hrow_at (by decide) _ hr r n).trans (hvec_at (by decide) g hg n)
  · exact hrow_at (by decide) _ hr r n
  · exact hrow_at (by decide) _ hr r n

end Cert.Mix

end
-- ==== Proof.NormUnit.lean ====
module

public import proofs.«01_k».proof.Proof.Norm
public import proofs.«01_k».proof.Proof.Gen.Kernel6Ideal.Frame
public import Idealize.ShloMosaic.Lib.Pipeline.Covers
public import Idealize.ShloMosaic.Lib.Pipeline.ValueKit.Geometry
public import Idealize.ShloMosaic.Lib.Tactic

/-! # The array the modulated norm and its projection leave, element by element -/

@[expose] public section

set_option maxRecDepth 16384

noncomputable section

namespace Cert.Kernel6Ideal.Hand

open Cert.Kernel6Ideal Cert.Kernel6Ideal.Gen Cert.Mix
open Idealize.ShloMosaic hiding ix0 ix1 ix2 ix3 ix4 eq_ix2
open Idealize.ShloMosaic.TcCoe
open Idealize.SL Idealize.SL.Sem
open Idealize.ShloMosaic.Pipeline (Dat Cfg Window)
open Idealize.ShloMosaic.ValueIdx (ix1 ix2 ix3 eq_ix2)
open scoped BigOperators

theorem scr_at (x0 : FVec Ideal S512x2048 .f32) (x1 : FVec Ideal S1x2048 .f32) (x2 x3 : FVec Ideal S1x1x2048 .f32) (r : Fin 512) (n : Fin 2048) :
    k0_pay1 (F := Ideal) x0 x1 x2 x3 (ix2 r n)
      = normed (fun k => x0 (ix2 r k)) (fun k => x1 (ix2 (0 : Fin 1) k)) (fun k => x2 (ix3 (0 : Fin 1) (0 : Fin 1) k)) (fun k => x3 (ix3 (0 : Fin 1) (0 : Fin 1) k)) n := by
  unfold k0_pay1
  exact (cast_id _ _ _).trans (norm_at (M := 512) (by decide) x0 x1 x2 x3 _ _ _ _ _ _ _ _ r n)

theorem pay_at (z : FVec Ideal S512x2048 .bf16) (x4 : FVec Ideal S2048x1024 .bf16) (x5 : FVec Ideal S1x1024 .f32) (r : Fin 512) (n : Fin 1024) :
    k0_pay2 (F := Ideal) z x4 x5 (ix2 r n) = (∑ k : Fin 2048, (z (ix2 r k) : EReal) * x4 (ix2 k n)) + x5 (ix2 (0 : Fin 1) n) := by
  unfold k0_pay2
  exact congr (congrArg (HAdd.hAdd (α := EReal)) (mat_at (M := 512) (K := 2048) (N := 1024) z x4 _ r n)) (bias_at (by decide) x5 _ _ r n)

theorem hz2 : (![0, 0] : Fin 2 → ℕ) = fun _ => 0 := by decide
theorem hz3 : (![0, 0, 0] : Fin 3 → ℕ) = fun _ => 0 := by decide

/-- What the first point of a row of blocks leaves in the scratch and in the result, and what the others do. -/
theorem sout_A (c : Dev nD) (i : grid0.Coords) (a2 : Memref sig .tc .vmem S512x2048 .f32) (h2 : a2.IsWhole) (a3 : Memref sig .tc .vmem S1x2048 .f32) (h3 : a3.IsWhole)
    (a4 : Memref sig .tc .vmem S1x1x2048 .f32) (h4 : a4.IsWhole) (a5 : Memref sig .tc .vmem S1x1x2048 .f32) (h5 : a5.IsWhole) (a6 : Memref sig .tc .vmem S2048x1024 .bf16) (h6 : a6.IsWhole)
    (a7 : Memref sig .tc .vmem S1x1024 .f32) (h7 : a7.IsWhole) (a8 : Memref sig .tc .vmem S512x1024 .bf16) (h8 : a8.IsWhole) (a9 : Memref sig .tc .vmem S512x2048 .bf16) (h9 : a9.IsWhole) (hc : cond0_0 i)
    (x0 : Vec Ideal S512x2048 .f32) (x1 : Vec Ideal S1x2048 .f32) (x2 : Vec Ideal S1x1x2048 .f32) (x3 : Vec Ideal S1x1x2048 .f32) (x4 : Vec Ideal S2048x1024 .bf16) (x5 : Vec Ideal S1x1024 .f32) : sout0_A_0 c i a2 h2 a3 h3 a4 h4 a5 h5 a6 h6 a7 h7 a8 h8 a9 h9 hc x0 x1 x2 x3 x4 x5 = k0_pay1 x0 x1 x2 x3 := by
  unfold sout0_A_0
  rw [View.read_writes_eq_canon _ _ _ (scover0_A_0 c i a2 h2 a3 h3 a4 h4 a5 h5 a6 h6 a7 h7 a8 h8 a9 h9 hc x0 x1 x2 x3 x4 x5)]
  unfold kernelRun0_A
  dsimp only
  sl_unfold_words
  rw [View.canon_unit_zero (S := S512x2048) hz2]
  simp only [View.readAt_eq_ld, h2.read_unread, h3.read_unread, h4.read_unread, h5.read_unread, h6.read_unread, h7.read_unread, h9.read_unread,
    View.ld_unit_zero (S := S512x2048) hz2, View.ld_unit_zero (S := S1x2048) hz2, View.ld_unit_zero (S := S2048x1024) hz2, View.ld_unit_zero (S := S1x1024) hz2,
    View.ld_unit_zero (S := S1x1x2048) hz3, shapeCast_self]

theorem out_A (c : Dev nD) (i : grid0.Coords) (a2 : Memref sig .tc .vmem S512x2048 .f32) (h2 : a2.IsWhole) (a3 : Memref sig .tc .vmem S1x2048 .f32) (h3 : a3.IsWhole)
    (a4 : Memref sig .tc .vmem S1x1x2048 .f32) (h4 : a4.IsWhole) (a5 : Memref sig .tc .vmem S1x1x2048 .f32) (h5 : a5.IsWhole) (a6 : Memref sig .tc .vmem S2048x1024 .bf16) (h6 : a6.IsWhole)
    (a7 : Memref sig .tc .vmem S1x1024 .f32) (h7 : a7.IsWhole) (a8 : Memref sig .tc .vmem S512x1024 .bf16) (h8 : a8.IsWhole) (a9 : Memref sig .tc .vmem S512x2048 .bf16) (h9 : a9.IsWhole) (hc : cond0_0 i)
    (x0 : Vec Ideal S512x2048 .f32) (x1 : Vec Ideal S1x2048 .f32) (x2 : Vec Ideal S1x1x2048 .f32) (x3 : Vec Ideal S1x1x2048 .f32) (x4 : Vec Ideal S2048x1024 .bf16) (x5 : Vec Ideal S1x1024 .f32) : out0_A_6 c i a2 h2 a3 h3 a4 h4 a5 h5 a6 h6 a7 h7 a8 h8 a9 h9 hc x0 x1 x2 x3 x4 x5 = k0_pay2 (k0_pay1 x0 x1 x2 x3) x4 x5 := by
  unfold out0_A_6
  rw [View.read_writes_eq_canon _ _ _ (cover0_A_6 c i a2 h2 a3 h3 a4 h4 a5 h5 a6 h6 a7 h7 a8 h8 a9 h9 hc x0 x1 x2 x3 x4 x5)]
  unfold kernelRun0_A
  dsimp only
  sl_unfold_words
  rw [View.canon_unit_zero (S := S512x1024) hz2, View.readCov_unit_zero (S := S512x2048) _ hz2]
  simp only [View.readAt_eq_ld, h2.read_unread, h3.read_unread, h4.read_unread, h5.read_unread, h6.read_unread, h7.read_unread, h9.read_unread,
    View.ld_unit_zero (S := S512x2048) hz2, View.ld_unit_zero (S := S1x2048) hz2, View.ld_unit_zero (S := S2048x1024) hz2, View.ld_unit_zero (S := S1x1024) hz2,
    View.ld_unit_zero (S := S1x1x2048) hz3, shapeCast_self]

theorem out_B (c : Dev nD) (i : grid0.Coords) (a2 : Memref sig .tc .vmem S512x2048 .f32) (h2 : a2.IsWhole) (a3 : Memref sig .tc .vmem S1x2048 .f32) (h3 : a3.IsWhole)
    (a4 : Memref sig .tc .vmem S1x1x2048 .f32) (h4 : a4.IsWhole) (a5 : Memref sig .tc .vmem S1x1x2048 .f32) (h5 : a5.IsWhole) (a6 : Memref sig .tc .vmem S2048x1024 .bf16) (h6 : a6.IsWhole)
    (a7 : Memref sig .tc .vmem S1x1024 .f32) (h7 : a7.IsWhole) (a8 : Memref sig .tc .vmem S512x1024 .bf16) (h8 : a8.IsWhole) (a9 : Memref sig .tc .vmem S512x2048 .bf16) (h9 : a9.IsWhole) (hc : ¬cond0_0 i)
    (x0 : Vec Ideal S512x2048 .f32) (x1 : Vec Ideal S1x2048 .f32) (x2 : Vec Ideal S1x1x2048 .f32) (x3 : Vec Ideal S1x1x2048 .f32) (x4 : Vec Ideal S2048x1024 .bf16) (x5 : Vec Ideal S1x1024 .f32) (xs : Vec Ideal S512x2048 .bf16) : out0_B_6 c i a2 h2 a3 h3 a4 h4 a5 h5 a6 h6 a7 h7 a8 h8 a9 h9 hc x0 x1 x2 x3 x4 x5 xs = k0_pay2 xs x4 x5 := by
  unfold out0_B_6
  rw [View.read_writes_eq_canon _ _ _ (cover0_B_6 c i a2 h2 a3 h3 a4 h4 a5 h5 a6 h6 a7 h7 a8 h8 a9 h9 hc x0 x1 x2 x3 x4 x5 xs)]
  unfold kernelRun0_B
  dsimp only
  rw [View.canon_unit_zero (S := S512x1024) hz2]
  simp only [View.readAt_eq_ld, h2.read_unread, h3.read_unread, h4.read_unread, h5.read_unread, h6.read_unread, h7.read_unread, h9.read_unread,
    View.ld_unit_zero (S := S512x2048) hz2, View.ld_unit_zero (S := S1x2048) hz2, View.ld_unit_zero (S := S2048x1024) hz2, View.ld_unit_zero (S := S1x1024) hz2,
    View.ld_unit_zero (S := S1x1x2048) hz3, shapeCast_self]

variable (m : (ℓ : Loc nD τ sig) → Buf (Elt Ideal) ℓ)

/-- The arguments as arrays. -/
def argX (c : Dev nD) : S16896x2048.Idx → EReal := m ((c.tc : Thread nD τ).loc main_arg0)
def argG (c : Dev nD) : S2048.Idx → EReal := m ((c.tc : Thread nD τ).loc main_arg1)
def argM (c : Dev nD) : S2x1x12288.Idx → EReal := m ((c.tc : Thread nD τ).loc main_arg2)
def argW (c : Dev nD) : S2048x6144.Idx → EReal := m ((c.tc : Thread nD τ).loc main_arg3)
def argB (c : Dev nD) : S6144.Idx → EReal := m ((c.tc : Thread nD τ).loc main_arg4)

theorem V_w (c : Dev nD) : V m c main_v0 = (truncf .bf16 (m ((c.tc : Thread nD τ).loc main_arg3) : S2048x6144.Idx → Ideal .f32) bitsLt_bf16_f32 : S2048x6144.Idx → Ideal .bf16) := by
  unfold V hostOps0
  after_results <;> rfl
theorem V_g (c : Dev nD) : V m c main_v1 = (shapeCast S1x2048 (m ((c.tc : Thread nD τ).loc main_arg1) : S2048.Idx → Ideal .f32) shapeCasts_S2048_S1x2048 : S1x2048.Idx → Ideal .f32) := by
  unfold V hostOps0
  after_results <;> rfl
theorem V_b (c : Dev nD) : V m c main_v2 = (shapeCast S1x6144 (m ((c.tc : Thread nD τ).loc main_arg4) : S6144.Idx → Ideal .f32) shapeCasts_S6144_S1x6144 : S1x6144.Idx → Ideal .f32) := by
  unfold V hostOps0
  after_results <;> rfl

/-- The normed row, and one element of the result. -/
def row (c : Dev nD) (R : Fin 16896) (k : Fin 2048) : EReal :=
  normed (fun k => argX m c (ix2 R k)) (fun k => argG m c (ix1 k)) (fun k => argM m c (ix3 (stream R) (0 : Fin 1) (⟨2048 + k.val, by omega⟩ : Fin 12288)))
    (fun k => argM m c (ix3 (stream R) (0 : Fin 1) (⟨0 + k.val, by omega⟩ : Fin 12288))) k
def elem (c : Dev nD) (R : Fin 16896) (n : Fin 6144) : EReal := (∑ k : Fin 2048, row m c R k * argW m c (ix2 k n)) + argB m c (ix1 n)

/-- The result. -/
def fin (c : Dev nD) : S16896x6144.Idx → EReal := fun i => elem m c (i 0) (i 1)

/-- Row `r` and column `n` of point `t`, among all of them. -/
def rowOf (t : Fin cfg0.N) (r : Fin 512) : Fin 16896 := ⟨t.val / 6 * 512 + r.val, by
  have h : t.val < 198 := t.isLt
  omega⟩
def colOf (t : Fin cfg0.N) (n : Fin 1024) : Fin 6144 := ⟨t.val % 6 * 1024 + n.val, by omega⟩

theorem idx0 (t : Fin cfg0.N) : win0_0.index t (0 : Fin 2) = t.val / 6 ∧ win0_0.index t (1 : Fin 2) = 0 :=
  (by decide +kernel : ∀ t : Fin 198, win0_0.index t (0 : Fin 2) = t.val / 6 ∧ win0_0.index t (1 : Fin 2) = 0) t
theorem idx1 (t : Fin cfg0.N) : win0_1.index t (0 : Fin 2) = 0 ∧ win0_1.index t (1 : Fin 2) = 0 :=
  (by decide +kernel : ∀ t : Fin 198, win0_1.index t (0 : Fin 2) = 0 ∧ win0_1.index t (1 : Fin 2) = 0) t
theorem idx2 (t : Fin cfg0.N) : win0_2.index t (0 : Fin 3) = (if t.val / 6 < 32 then 0 else 1) ∧ win0_2.index t (1 : Fin 3) = 0 ∧ win0_2.index t (2 : Fin 3) = 1 :=
  (by decide +kernel : ∀ t : Fin 198, win0_2.index t (0 : Fin 3) = (if t.val / 6 < 32 then 0 else 1) ∧ win0_2.index t (1 : Fin 3) = 0 ∧ win0_2.index t (2 : Fin 3) = 1) t
theorem idx3 (t : Fin cfg0.N) : win0_3.index t (0 : Fin 3) = (if t.val / 6 < 32 then 0 else 1) ∧ win0_3.index t (1 : Fin 3) = 0 ∧ win0_3.index t (2 : Fin 3) = 0 :=
  (by decide +kernel : ∀ t : Fin 198, win0_3.index t (0 : Fin 3) = (if t.val / 6 < 32 then 0 else 1) ∧ win0_3.index t (1 : Fin 3) = 0 ∧ win0_3.index t (2 : Fin 3) = 0) t
theorem idx4 (t : Fin cfg0.N) : win0_4.index t (0 : Fin 2) = 0 ∧ win0_4.index t (1 : Fin 2) = t.val % 6 :=
  (by decide +kernel : ∀ t : Fin 198, win0_4.index t (0 : Fin 2) = 0 ∧ win0_4.index t (1 : Fin 2) = t.val % 6) t
theorem idx5 (t : Fin cfg0.N) : win0_5.index t (0 : Fin 2) = 0 ∧ win0_5.index t (1 : Fin 2) = t.val % 6 :=
  (by decide +kernel : ∀ t : Fin 198, win0_5.index t (0 : Fin 2) = 0 ∧ win0_5.index t (1 : Fin 2) = t.val % 6) t
theorem idx6 (t : Fin cfg0.N) : win0_6.index t (0 : Fin 2) = t.val / 6 ∧ win0_6.index t (1 : Fin 2) = t.val % 6 :=
  (by decide +kernel : ∀ t : Fin 198, win0_6.index t (0 : Fin 2) = t.val / 6 ∧ win0_6.index t (1 : Fin 2) = t.val % 6) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val / 6 * 512 + r.val
    rw [(idx0 t).1]; omega
  | ⟨1, _⟩ =>
    show win0_0.index t (1 : Fin 2) * 2048 + 1 * k.val = k.val
    rw [(idx0 t).2]; omega
theorem emb1 (t : Fin cfg0.N) (k : Fin 2048) : ((cfg0.win 1).blk t).view.emb (ix2 (0 : Fin 1) k) = (ix2 (0 : Fin 1) k : S1x2048.Idx) := by
  refine funext fun (a : Fin 2) => Fin.ext ?_
  match a with
  | ⟨0, _⟩ =>
    show win0_1.index t (0 : Fin 2) * 1 + 1 * 0 = 0
    rw [(idx1 t).1]
  | ⟨1, _⟩ =>
    show win0_1.index t (1 : Fin 2) * 2048 + 1 * k.val = k.val
    rw [(idx1 t).2]; omega
theorem emb2 (t : Fin cfg0.N) (r : Fin 512) (n : Fin 2048) :
    ((cfg0.win 2).blk t).view.emb (ix3 (0 : Fin 1) (0 : Fin 1) n)
      = (ix3 (stream (rowOf t r)) (0 : Fin 1) (⟨2048 + n.val, by omega⟩ : Fin 12288) : S2x1x12288.Idx) := by
  refine funext fun (a : Fin 3) => Fin.ext ?_
  match a with
  | ⟨0, _⟩ =>
    show win0_2.index t (0 : Fin 3) * 1 + 1 * 0 = (stream (rowOf t r)).val
    rw [(idx2 t).1]
    unfold stream
    have hR : (rowOf t r).val = t.val / 6 * 512 + r.val := rfl
    by_cases h : t.val / 6 < 32
    · rw [if_pos h, if_pos (by omega)]; rfl
    · rw [if_neg h, if_neg (by omega)]; rfl
  | ⟨1, _⟩ =>
    show win0_2.index t (1 : Fin 3) * 1 + 1 * 0 = 0
    rw [(idx2 t).2.1]
  | ⟨2, _⟩ =>
    show win0_2.index t (2 : Fin 3) * 2048 + 1 * n.val = 2048 + n.val
    rw [(idx2 t).2.2]; omega
theorem emb3 (t : Fin cfg0.N) (r : Fin 512) (n : Fin 2048) :
    ((cfg0.win 3).blk t).view.emb (ix3 (0 : Fin 1) (0 : Fin 1) n)
      = (ix3 (stream (rowOf t r)) (0 : Fin 1) (⟨0 + n.val, by omega⟩ : Fin 12288) : S2x1x12288.Idx) := by
  refine funext fun (a : Fin 3) => Fin.ext ?_
  match a with
  | ⟨0, _⟩ =>
    show win0_3.index t (0 : Fin 3) * 1 + 1 * 0 = (stream (rowOf t r)).val
    rw [(idx3 t).1]
    unfold stream
    have hR : (rowOf t r).val = t.val / 6 * 512 + r.val := rfl
    by_cases h : t.val / 6 < 32
    · rw [if_pos h, if_pos (by omega)]; rfl
    · rw [if_neg h, if_neg (by omega)]; rfl
  | ⟨1, _⟩ =>
    show win0_3.index t (1 : Fin 3) * 1 + 1 * 0 = 0
    rw [(idx3 t).2.1]
  | ⟨2, _⟩ =>
    show win0_3.index t (2 : Fin 3) * 2048 + 1 * n.val = 0 + n.val
    rw [(idx3 t).2.2]; omega
theorem emb4 (t : Fin cfg0.N) (k : Fin 2048) (n : Fin 1024) : ((cfg0.win 4).blk t).view.emb (ix2 k n) = (ix2 k (colOf t n) : S2048x6144.Idx) := by
  refine funext fun (a : Fin 2) => Fin.ext ?_
  match a with
  | ⟨0, _⟩ =>
    show win0_4.index t (0 : Fin 2) * 2048 + 1 * k.val = k.val
    rw [(idx4 t).1]; omega
  | ⟨1, _⟩ =>
    show win0_4.index t (1 : Fin 2) * 1024 + 1 * n.val = t.val % 6 * 1024 + n.val
    rw [(idx4 t).2]; omega
theorem emb5 (t : Fin cfg0.N) (n : Fin 1024) : ((cfg0.win 5).blk t).view.emb (ix2 (0 : Fin 1) n) = (ix2 (0 : Fin 1) (colOf t n) : S1x6144.Idx) := by
  refine funext fun (a : Fin 2) => Fin.ext ?_
  match a with
  | ⟨0, _⟩ =>
    show win0_5.index t (0 : Fin 2) * 1 + 1 * 0 = 0
    rw [(idx5 t).1]
  | ⟨1, _⟩ =>
    show win0_5.index t (1 : Fin 2) * 1024 + 1 * n.val = t.val % 6 * 1024 + n.val
    rw [(idx5 t).2]; omega
theorem emb6 (t : Fin cfg0.N) (r : Fin 512) (n : Fin 1024) : ((cfg0.win 6).blk t).view.emb (ix2 r n) = (ix2 (rowOf t r) (colOf t n) : S16896x6144.Idx) := by
  refine funext fun (a : Fin 2) => Fin.ext ?_
  match a with
  | ⟨0, _⟩ =>
    show win0_6.index t (0 : Fin 2) * 512 + 1 * r.val = t.val / 6 * 512 + r.val
    rw [(idx6 t).1]; omega
  | ⟨1, _⟩ =>
    show win0_6.index t (1 : Fin 2) * 1024 + 1 * n.val = t.val % 6 * 1024 + n.val
    rw [(idx6 t).2]; omega

theorem iblk0_at (c : Dev nD) (t : Fin cfg0.N) (r : Fin 512) (k : Fin 2048) : iblk m c 0 t (ix2 r k) = argX m c (ix2 (rowOf t r) k) :=
  (show iblk m c 0 t (ix2 r k) = V m c main_arg0 (((cfg0.win 0).blk t).view.emb (ix2 r k)) from rfl).trans
    ((congrFun (V_main_arg0 m c) _).trans (congrArg (argX m c) (emb0 t r k)))
theorem iblk1_at (c : Dev nD) (t : Fin cfg0.N) (k : Fin 2048) : iblk m c 1 t (ix2 (0 : Fin 1) k) = argG m c (ix1 k) := by
  refine (show iblk m c 1 t (ix2 (0 : Fin 1) k) = V m c main_v1 (((cfg0.win 1).blk t).view.emb (ix2 (0 : Fin 1) k)) from rfl).trans ((congrFun (V_g m c) _).trans ?_)
  rw [emb1 t k]
  exact cast_vec (N := 2048) _ _ _
theorem iblk2_at (c : Dev nD) (t : Fin cfg0.N) (r : Fin 512) (n : Fin 2048) : iblk m c 2 t (ix3 (0 : Fin 1) (0 : Fin 1) n) = argM m c (ix3 (stream (rowOf t r)) (0 : Fin 1) (⟨2048 + n.val, by omega⟩ : Fin 12288)) :=
  (show iblk m c 2 t (ix3 (0 : Fin 1) (0 : Fin 1) n) = V m c main_arg2 (((cfg0.win 2).blk t).view.emb (ix3 (0 : Fin 1) (0 : Fin 1) n)) from rfl).trans
    ((congrFun (V_main_arg2 m c) _).trans (congrArg (argM m c) (emb2 t r n)))
theorem iblk3_at (c : Dev nD) (t : Fin cfg0.N) (r : Fin 512) (n : Fin 2048) : iblk m c 3 t (ix3 (0 : Fin 1) (0 : Fin 1) n) = argM m c (ix3 (stream (rowOf t r)) (0 : Fin 1) (⟨0 + n.val, by omega⟩ : Fin 12288)) :=
  (show iblk m c 3 t (ix3 (0 : Fin 1) (0 : Fin 1) n) = V m c main_arg2 (((cfg0.win 3).blk t).view.emb (ix3 (0 : Fin 1) (0 : Fin 1) n)) from rfl).trans
    ((congrFun (V_main_arg2 m c) _).trans (congrArg (argM m c) (emb3 t r n)))
theorem iblk4_at (c : Dev nD) (t : Fin cfg0.N) (k : Fin 2048) (n : Fin 1024) : iblk m c 4 t (ix2 k n) = argW m c (ix2 k (colOf t n)) :=
  (show iblk m c 4 t (ix2 k n) = V m c main_v0 (((cfg0.win 4).blk t).view.emb (ix2 k n)) from rfl).trans
    ((congrFun (V_w m c) _).trans (congrArg (argW m c) (emb4 t k n)))
theorem iblk5_at (c : Dev nD) (t : Fin cfg0.N) (n : Fin 1024) : iblk m c 5 t (ix2 (0 : Fin 1) n) = argB m c (ix1 (colOf t n)) := by
  refine (show iblk m c 5 t (ix2 (0 : Fin 1) n) = V m c main_v2 (((cfg0.win 5).blk t).view.emb (ix2 (0 : Fin 1) n)) from rfl).trans ((congrFun (V_b m c) _).trans ?_)
  rw [emb5 t n]
  exact cast_vec (N := 6144) _ _ _

theorem scr_row (c : Dev nD) (t : Fin cfg0.N) (r : Fin 512) (k : Fin 2048) :
    k0_pay1 (F := Ideal) (iblk m c 0 t) (iblk m c 1 t) (iblk m c 2 t) (iblk m c 3 t) (ix2 r k) = row m c (rowOf t r) k := by
  refine (scr_at _ _ _ _ r k).trans ?_
  unfold row
  have e0 : (fun k => iblk m c 0 t (ix2 r k)) = fun k => argX m c (ix2 (rowOf t r) k) := funext fun k => iblk0_at m c t r k
  have e1 : (fun k => iblk m c 1 t (ix2 (0 : Fin 1) k)) = fun k => argG m c (ix1 k) := funext fun k => iblk1_at m c t k
  have e2 : (fun k : Fin 2048 => iblk m c 2 t (ix3 (0 : Fin 1) (0 : Fin 1) k)) = fun k : Fin 2048 => argM m c (ix3 (stream (rowOf t r)) (0 : Fin 1) (⟨2048 + k.val, by omega⟩ : Fin 12288)) :=
    funext fun k => iblk2_at m c t r k
  have e3 : (fun k : Fin 2048 => iblk m c 3 t (ix3 (0 : Fin 1) (0 : Fin 1) k)) = fun k : Fin 2048 => argM m c (ix3 (stream (rowOf t r)) (0 : Fin 1) (⟨0 + k.val, by omega⟩ : Fin 12288)) :=
    funext fun k => iblk3_at m c t r k
  exact congrFun (congr (congr (congr (congrArg normed e0) e1) e2) e3) k

theorem outs_A (c : Dev nD) (t : Fin cfg0.N) (h0 : t.val % 6 = 0) : outsAt0 m c t.val t.isLt
    = (k0_pay2 (k0_pay1 (iblk m c 0 t) (iblk m c 1 t) (iblk m c 2 t) (iblk m c 3 t)) (iblk m c 4 t) (iblk m c 5 t), k0_pay1 (iblk m c 0 t) (iblk m c 1 t) (iblk m c 2 t) (iblk m c 3 t)) := by
  rw [outsAt0_A m c t h0, out_A, sout_A]

theorem outs_B (c : Dev nD) (t : Fin cfg0.N) (h0 : ¬t.val % 6 = 0) : outsAt0 m c t.val t.isLt
    = (k0_pay2 (outsAt0 m c (t.val - 1) (Nat.lt_of_le_of_lt (Nat.sub_le _ _) t.isLt)).2 (iblk m c 4 t) (iblk m c 5 t),
      (outsAt0 m c (t.val - 1) (Nat.lt_of_le_of_lt (Nat.sub_le _ _) t.isLt)).2) := by
  rw [outsAt0_B m c t h0, out_B]
  unfold sout0_B_0
  rfl

/-- The scratch holds the normed rows of the point's row of blocks. -/
theorem scratch (c : Dev nD) : ∀ (n : ℕ) (h : n < cfg0.N) (r : Fin 512) (k : Fin 2048), (outsAt0 m c n h).2 (ix2 r k) = row m c (rowOf ⟨n, h⟩ r) k := by
  intro n
  induction n with
  | zero =>
    intro h r k
    exact (congrFun (congrArg Prod.snd (outs_A m c ⟨0, h⟩ rfl)) (ix2 r k)).trans (scr_row m c ⟨0, h⟩ r k)
  | succ n ih =>
    intro h r k
    by_cases h0 : (n + 1) % 6 = 0
    · exact (congrFun (congrArg Prod.snd (outs_A m c ⟨n + 1, h⟩ h0)) (ix2 r k)).trans (scr_row m c ⟨n + 1, h⟩ r k)
    · refine (congrFun (congrArg Prod.snd (outs_B m c ⟨n + 1, h⟩ h0)) (ix2 r k)).trans ((ih (Nat.lt_of_succ_lt h) r k).trans ?_)
      refine congrArg (fun R => row m c R k) (Fin.ext ?_)
      show n / 6 * 512 + r.val = (n + 1) / 6 * 512 + r.val
      have : (n + 1) / 6 = n / 6 := by omega
      rw [this]

theorem block_at (c : Dev nD) (t : Fin cfg0.N) (z : FVec Ideal S512x2048 .bf16) (hz : ∀ r k, z (ix2 r k) = row m c (rowOf t r) k) (r : Fin 512) (n : Fin 1024) :
    k0_pay2 (F := Ideal) z (iblk m c 4 t) (iblk m c 5 t) (ix2 r n) = elem m c (rowOf t r) (colOf t n) := by
  refine (pay_at _ _ _ r n).trans ?_
  unfold elem
  refine congr (congrArg (HAdd.hAdd (α := EReal)) ?_) (iblk5_at m c t n)
  exact Finset.sum_congr rfl fun k _ => congr (congrArg (HMul.hMul (α := EReal)) (hz r k)) (iblk4_at m c t k n)

theorem oblk_at (c : Dev nD) (t : Fin cfg0.N) (r : Fin 512) (n : Fin 1024) : (dats m 0 c).after 6 t (ix2 r n) = elem m c (rowOf t r) (colOf t n) := by
  refine (congrFun (after0_6 m c t) _).trans ?_
  by_cases h0 : t.val % 6 = 0
  · refine (congrFun (congrArg Prod.fst (outs_A m c t h0)) (ix2 r n)).trans ?_
    exact block_at m c t _ (fun r k => scr_row m c t r k) r n
  · refine (congrFun (congrArg Prod.fst (outs_B m c t h0)) (ix2 r n)).trans ?_
    refine block_at m c t _ (fun r k => ?_) r n
    refine (scratch m c (t.val - 1) _ r k).trans (congrArg (fun R => row m c R k) (Fin.ext ?_))
    show (t.val - 1) / 6 * 512 + r.val = t.val / 6 * 512 + r.val
    have : (t.val - 1) / 6 = t.val / 6 := by omega
    rw [this]

/-- The array the launch leaves is the result. -/
theorem final (c : Dev nD) : (dats m 0 c).arrAt 6 cfg0.N = fin m c := by
  refine Dat.arrAt_eq_of_emb (dats m 0 c) 6 (fin m c) (fun t _ y => ?_) (fun i => ?_)
  · obtain ⟨r, n, rfl⟩ : ∃ (r : Fin 512) (n : Fin 1024), y = ix2 r n := ⟨y 0, y 1, eq_ix2 _⟩
    exact Eq.trans (oblk_at m c t r n) (congrArg (fin m c) (emb6 t r n)).symm
  · obtain ⟨R, n, rfl⟩ : ∃ (R : Fin 16896) (n : Fin 6144), i = ix2 R n := ⟨i 0, i 1, eq_ix2 _⟩
    have hR := R.isLt
    have hn := n.isLt
    have ht : R.val / 512 * 6 + n.val / 1024 < 198 := by omega
    refine ⟨⟨R.val / 512 * 6 + n.val / 1024, ht⟩, flush0_6 _, ?_⟩
    have e := emb6 ⟨R.val / 512 * 6 + n.val / 1024, ht⟩ (⟨R.val % 512, by omega⟩ : Fin 512) (⟨n.val % 1024, by omega⟩ : Fin 1024)
    have e1 : rowOf ⟨R.val / 512 * 6 + n.val / 1024, ht⟩ (⟨R.val % 512, by omega⟩ : Fin 512) = R := Fin.ext (by
      show (R.val / 512 * 6 + n.val / 1024) / 6 * 512 + R.val % 512 = R.val
      omega)
    have e2 : colOf ⟨R.val / 512 * 6 + n.val / 1024, ht⟩ (⟨n.val % 1024, by omega⟩ : Fin 1024) = n := Fin.ext (by
      show (R.val / 512 * 6 + n.val / 1024) % 6 * 1024 + n.val % 1024 = n.val
      omega)
    rw [e1, e2] at e
    rw [← e]
    exact View.emb_mem_set _ _

end Cert.Kernel6Ideal.Hand

end
-- ==== Proof.Glu.lean ====
module

public import proofs.«01_k».proof.Proof.Norm

/-! # The activations of the gated linear unit, and the slices the reference makes for it -/

@[expose] public section

set_option maxRecDepth 16384

noncomputable section

namespace Cert.Mix

open Idealize.ShloMosaic hiding ix0 ix1 ix2 ix3 ix4
open Idealize.ShloMosaic.ValueIdx (ix1 ix2 ix3)

/-- The tanh form of gelu. -/
def gelu (p : EReal) : EReal :=
  p * (Ideal.ofBits .f32 0x3F000000#32 * (Ideal.ofBits .f32 0x3F800000#32
    + Ideal.tanh (Ideal.ofBits .f32 0x3F4C422A#32 * (p + Ideal.ofBits .f32 0x3D372713#32 * (p * (p * p))))))

/-- The sigmoid. -/
def sigm (z : EReal) : EReal := Ideal.div (Ideal.ofBits .f32 0x3F800000#32) (Ideal.ofBits .f32 0x3F800000#32 + Ideal.exp (-z))

variable {M N P : ℕ} {α : Type}

theorem cols_at {o : ℕ} (x : (⟨2, ![M, P]⟩ : Shape).Idx → α) (h : (⟨2, ![M, P]⟩ : Shape).Slices ![0, o] ⟨2, ![M, N]⟩) (r : Fin M) (n : Fin N)
    (p : Fin P) (hp : p.val = o + n.val) :
    extractStridedSlice ⟨2, ![M, N]⟩ ![0, o] x h (ix2 r n) = x (ix2 r p) :=
  extractStridedSlice_apply _ x _ _ _ fun (a : Fin 2) => by
    match a with
    | ⟨0, _⟩ => show r.val = 0 + r.val; omega
    | ⟨1, _⟩ => exact hp

/-- A chunk of one stream's modulation, cut from the stream's whole row. -/
theorem wide_at {s o : ℕ} (x : (⟨3, ![2, 1, P]⟩ : Shape).Idx → α) (h : (⟨3, ![2, 1, P]⟩ : Shape).Slices ![s, 0, 0] ⟨3, ![1, 1, P]⟩)
    (hc : (⟨3, ![1, 1, P]⟩ : Shape).ShapeCasts ⟨2, ![1, P]⟩) (hs : (⟨2, ![1, P]⟩ : Shape).Slices ![0, o] ⟨2, ![1, N]⟩) (n : Fin N) (S : Fin 2) (hS : S.val = s)
    (p : Fin P) (hp : p.val = o + n.val) :
    extractStridedSlice ⟨2, ![1, N]⟩ ![0, o] (shapeCast ⟨2, ![1, P]⟩ (extractStridedSlice ⟨3, ![1, 1, P]⟩ ![s, 0, 0] x h) hc) hs (ix2 (0 : Fin 1) n) = x (ix3 S (0 : Fin 1) p) :=
  (cols_at (M := 1) _ hs 0 n p hp).trans (chunk_at (N := P) x h hc p S hS p (Nat.zero_add _).symm)

end Cert.Mix

end
-- ==== Proof.GluUnit.lean ====
module

public import proofs.«01_k».proof.Proof.Glu
public import proofs.«01_k».proof.Proof.Gen.Kernel7Ideal.Frame
public import Idealize.ShloMosaic.Lib.Pipeline.Covers
public import Idealize.ShloMosaic.Lib.Pipeline.ValueKit.Geometry
public import Idealize.ShloMosaic.Lib.Tactic

/-! # The array the gated linear unit leaves, element by element -/

@[expose] public section

set_option maxRecDepth 16384

noncomputable section

namespace Cert.Kernel7Ideal.Hand

open Cert.Kernel7Ideal Cert.Kernel7Ideal.Gen Cert.Mix
open Idealize.ShloMosaic hiding ix0 ix1 ix2 ix3 ix4 eq_ix2
open Idealize.ShloMosaic.TcCoe
open Idealize.SL Idealize.SL.Sem
open Idealize.ShloMosaic.Pipeline (Dat Cfg Window)
open Idealize.ShloMosaic.ValueIdx (ix1 ix2 ix3 eq_ix2)
open scoped BigOperators

theorem scr_at (x0 : FVec Ideal S512x2048 .f32) (x1 : FVec Ideal S1x2048 .f32) (x2 x3 : FVec Ideal S1x1x2048 .f32) (x5 : FVec Ideal S1x2048 .f32) (x4 : FVec Ideal S512x2048 .f32)
    (r : Fin 512) (n : Fin 2048) :
    k0_pay3 (F := Ideal) (k0_pay1 x0 x1 x2 x3 x5 x4) (k0_pay2 x0 x1 x2 x3 x5 x4) (Scalar.ofBits .f32 0x3F800000#32) (ix2 r n)
      = gelu (x5 (ix2 (0 : Fin 1) n) * normed (fun k => x0 (ix2 r k)) (fun k => x1 (ix2 (0 : Fin 1) k)) (fun k => x2 (ix3 (0 : Fin 1) (0 : Fin 1) k)) (fun k => x3 (ix3 (0 : Fin 1) (0 : Fin 1) k)) n
        + x4 (ix2 r n)) := by
  unfold k0_pay3
  refine (cast_id _ _ _).trans ?_
  have e : k0_pay1 (F := Ideal) x0 x1 x2 x3 x5 x4 (ix2 r n)
      = x5 (ix2 (0 : Fin 1) n) * normed (fun k => x0 (ix2 r k)) (fun k => x1 (ix2 (0 : Fin 1) k)) (fun k => x2 (ix3 (0 : Fin 1) (0 : Fin 1) k)) (fun k => x3 (ix3 (0 : Fin 1) (0 : Fin 1) k)) n
        + x4 (ix2 r n) := by
    unfold k0_pay1
    exact congrArg (fun z : EReal => z + x4 (ix2 r n)) (congr (congrArg (HMul.hMul (α := EReal)) (bias_at (M := 512) (N := 2048) (by decide) x5 _ _ r n))
      (norm_at (M := 512) (by decide) x0 x1 x2 x3 _ _ _ _ _ _ _ _ r n))
  refine Eq.trans ?_ (congrArg gelu e)
  unfold k0_pay2
  rfl

theorem pay_at (z : FVec Ideal S512x2048 .bf16) (x6 : FVec Ideal S2048x512 .bf16) (x8 : FVec Ideal S1x512 .f32) (x7 : FVec Ideal S2048x512 .bf16) (x9 : FVec Ideal S1x512 .f32)
    (x10 : FVec Ideal S512x512 .f32) (x11 : FVec Ideal S1x1x512 .f32) (r : Fin 512) (n : Fin 512) :
    k0_pay4 (F := Ideal) z x6 x8 x7 x9 x10 x11 (ix2 r n) = x10 (ix2 r n) + x11 (ix3 (0 : Fin 1) (0 : Fin 1) n)
      * (((∑ k : Fin 2048, (z (ix2 r k) : EReal) * x6 (ix2 k n)) + x8 (ix2 (0 : Fin 1) n)) * sigm ((∑ k : Fin 2048, (z (ix2 r k) : EReal) * x7 (ix2 k n)) + x9 (ix2 (0 : Fin 1) n))) := by
  unfold k0_pay4
  refine congrArg (x10 (ix2 r n) + ·) (congr (congrArg (HMul.hMul (α := EReal)) (gate_at (by decide) x11 _ _ r n)) (congr (congrArg (HMul.hMul (α := EReal)) ?_) ?_))
  · exact congr (congrArg (HAdd.hAdd (α := EReal)) (mat_at (M := 512) (K := 2048) (N := 512) z x6 _ r n)) (bias_at (by decide) x8 _ _ r n)
  · unfold sigm
    refine congrArg (fun y : EReal => Ideal.div (Ideal.ofBits .f32 0x3F800000#32) (Ideal.ofBits .f32 0x3F800000#32 + Ideal.exp y)) ?_
    refine Eq.trans (b := Ideal.ofBits .f32 0x00000000#32 - ((∑ k : Fin 2048, (z (ix2 r k) : EReal) * x7 (ix2 k n)) + x9 (ix2 (0 : Fin 1) n))) ?_ ?_
    · exact congrArg (fun y : EReal => Ideal.ofBits .f32 0x00000000#32 - y)
        (congr (congrArg (HAdd.hAdd (α := EReal)) (mat_at (M := 512) (K := 2048) (N := 512) z x7 _ r n)) (bias_at (by decide) x9 _ _ r n))
    · rw [zero_eq, zero_sub]

theorem hz2 : (![0, 0] : Fin 2 → ℕ) = fun _ => 0 := by decide
theorem hz3 : (![0, 0, 0] : Fin 3 → ℕ) = fun _ => 0 := by decide

/-- What the first point of a row of blocks leaves in the scratch and in the result, and what the others do. -/
theorem sout_A (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S512x2048 .f32) (h6 : a6.IsWhole) (a7 : Memref sig .tc .vmem S1x2048 .f32) (h7 : a7.IsWhole)
    (a8 : Memref sig .tc .vmem S2048x512 .bf16) (h8 : a8.IsWhole) (a9 : Memref sig .tc .vmem S2048x512 .bf16) (h9 : a9.IsWhole) (a10 : Memref sig .tc .vmem S1x512 .f32) (h10 : a10.IsWhole)
    (a11 : Memref sig .tc .vmem S1x512 .f32) (h11 : a11.IsWhole) (a12 : Memref sig .tc .vmem S512x512 .f32) (h12 : a12.IsWhole) (a13 : Memref sig .tc .vmem S1x1x512 .f32) (h13 : a13.IsWhole)
    (a14 : Memref sig .tc .vmem S512x512 .f32) (h14 : a14.IsWhole) (a15 : Memref sig .tc .vmem S512x2048 .bf16) (h15 : a15.IsWhole) (hc : cond0_0 i)
    (x0 : Vec Ideal S512x2048 .f32) (x1 : Vec Ideal S1x2048 .f32) (x2 : Vec Ideal S1x1x2048 .f32) (x3 : Vec Ideal S1x1x2048 .f32) (x4 : Vec Ideal S512x2048 .f32) (x5 : Vec Ideal S1x2048 .f32) (x6 : Vec Ideal S2048x512 .bf16) (x7 : Vec Ideal S2048x512 .bf16) (x8 : Vec Ideal S1x512 .f32) (x9 : Vec Ideal S1x512 .f32) (x10 : Vec Ideal S512x512 .f32) (x11 : Vec Ideal S1x1x512 .f32) :
    sout0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay3 (k0_pay1 x0 x1 x2 x3 x5 x4) (k0_pay2 x0 x1 x2 x3 x5 x4) (Scalar.ofBits .f32 0x3F800000#32) := by
  unfold sout0_A_0
  rw [View.read_writes_eq_canon _ _ _ (scover0_A_0 c i a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_unit_zero (S := S512x2048) hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread,
    View.ld_unit_zero (S := S512x2048) hz2, View.ld_unit_zero (S := S1x2048) hz2, View.ld_unit_zero (S := S2048x512) hz2, View.ld_unit_zero (S := S1x512) hz2,
    View.ld_unit_zero (S := S512x512) hz2, View.ld_unit_zero (S := S1x1x512) hz3, View.ld_unit_zero (S := S1x1x2048) hz3, shapeCast_self]

theorem out_A (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S512x2048 .f32) (h6 : a6.IsWhole) (a7 : Memref sig .tc .vmem S1x2048 .f32) (h7 : a7.IsWhole)
    (a8 : Memref sig .tc .vmem S2048x512 .bf16) (h8 : a8.IsWhole) (a9 : Memref sig .tc .vmem S2048x512 .bf16) (h9 : a9.IsWhole) (a10 : Memref sig .tc .vmem S1x512 .f32) (h10 : a10.IsWhole)
    (a11 : Memref sig .tc .vmem S1x512 .f32) (h11 : a11.IsWhole) (a12 : Memref sig .tc .vmem S512x512 .f32) (h12 : a12.IsWhole) (a13 : Memref sig .tc .vmem S1x1x512 .f32) (h13 : a13.IsWhole)
    (a14 : Memref sig .tc .vmem S512x512 .f32) (h14 : a14.IsWhole) (a15 : Memref sig .tc .vmem S512x2048 .bf16) (h15 : a15.IsWhole) (hc : cond0_0 i)
    (x0 : Vec Ideal S512x2048 .f32) (x1 : Vec Ideal S1x2048 .f32) (x2 : Vec Ideal S1x1x2048 .f32) (x3 : Vec Ideal S1x1x2048 .f32) (x4 : Vec Ideal S512x2048 .f32) (x5 : Vec Ideal S1x2048 .f32) (x6 : Vec Ideal S2048x512 .bf16) (x7 : Vec Ideal S2048x512 .bf16) (x8 : Vec Ideal S1x512 .f32) (x9 : Vec Ideal S1x512 .f32) (x10 : Vec Ideal S512x512 .f32) (x11 : Vec Ideal S1x1x512 .f32) :
    out0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 = k0_pay4 (k0_pay3 (k0_pay1 x0 x1 x2 x3 x5 x4) (k0_pay2 x0 x1 x2 x3 x5 x4) (Scalar.ofBits .f32 0x3F800000#32)) x6 x8 x7 x9 x10 x11 := by
  unfold out0_A_12
  rw [View.read_writes_eq_canon _ _ _ (cover0_A_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11)]
  unfold kernelRun0_A
  dsimp only
  sl_unfold_words
  rw [View.canon_unit_zero (S := S512x512) hz2, View.readCov_unit_zero (S := S512x2048) _ hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread,
    View.ld_unit_zero (S := S512x2048) hz2, View.ld_unit_zero (S := S1x2048) hz2, View.ld_unit_zero (S := S2048x512) hz2, View.ld_unit_zero (S := S1x512) hz2,
    View.ld_unit_zero (S := S512x512) hz2, View.ld_unit_zero (S := S1x1x512) hz3, View.ld_unit_zero (S := S1x1x2048) hz3, shapeCast_self]

theorem out_B (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S512x2048 .f32) (h6 : a6.IsWhole) (a7 : Memref sig .tc .vmem S1x2048 .f32) (h7 : a7.IsWhole)
    (a8 : Memref sig .tc .vmem S2048x512 .bf16) (h8 : a8.IsWhole) (a9 : Memref sig .tc .vmem S2048x512 .bf16) (h9 : a9.IsWhole) (a10 : Memref sig .tc .vmem S1x512 .f32) (h10 : a10.IsWhole)
    (a11 : Memref sig .tc .vmem S1x512 .f32) (h11 : a11.IsWhole) (a12 : Memref sig .tc .vmem S512x512 .f32) (h12 : a12.IsWhole) (a13 : Memref sig .tc .vmem S1x1x512 .f32) (h13 : a13.IsWhole)
    (a14 : Memref sig .tc .vmem S512x512 .f32) (h14 : a14.IsWhole) (a15 : Memref sig .tc .vmem S512x2048 .bf16) (h15 : a15.IsWhole) (hc : ¬cond0_0 i)
    (x0 : Vec Ideal S512x2048 .f32) (x1 : Vec Ideal S1x2048 .f32) (x2 : Vec Ideal S1x1x2048 .f32) (x3 : Vec Ideal S1x1x2048 .f32) (x4 : Vec Ideal S512x2048 .f32) (x5 : Vec Ideal S1x2048 .f32) (x6 : Vec Ideal S2048x512 .bf16) (x7 : Vec Ideal S2048x512 .bf16) (x8 : Vec Ideal S1x512 .f32) (x9 : Vec Ideal S1x512 .f32) (x10 : Vec Ideal S512x512 .f32) (x11 : Vec Ideal S1x1x512 .f32) (xs : Vec Ideal S512x2048 .bf16) :
    out0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 xs = k0_pay4 xs x6 x8 x7 x9 x10 x11 := by
  unfold out0_B_12
  rw [View.read_writes_eq_canon _ _ _ (cover0_B_12 c i a2 h2 a3 h3 a4 h4 a5 h5 a6 h6 a7 h7 a8 h8 a9 h9 a10 h10 a11 h11 a12 h12 a13 h13 a14 h14 a15 h15 hc x0 x1 x2 x3 x4 x5 x6 x7 x8 x9 x10 x11 xs)]
  unfold kernelRun0_B
  dsimp only
  sl_unfold_words
  rw [View.canon_unit_zero (S := S512x512) hz2]
  simp only [View.readAt_eq_ld, h2.read_unread, h3.read_unread, h4.read_unread, h5.read_unread, h6.read_unread, h7.read_unread, h8.read_unread, h9.read_unread, h10.read_unread, h11.read_unread, h12.read_unread, h13.read_unread, h15.read_unread,
    View.ld_unit_zero (S := S512x2048) hz2, View.ld_unit_zero (S := S1x2048) hz2, View.ld_unit_zero (S := S2048x512) hz2, View.ld_unit_zero (S := S1x512) hz2,
    View.ld_unit_zero (S := S512x512) hz2, View.ld_unit_zero (S := S1x1x512) hz3, View.ld_unit_zero (S := S1x1x2048) hz3, shapeCast_self]

variable (m : (ℓ : Loc nD τ sig) → Buf (Elt Ideal) ℓ)

/-- The arguments as arrays. -/
def argX (c : Dev nD) : S16896x2048.Idx → EReal := m ((c.tc : Thread nD τ).loc main_arg0)
def argG (c : Dev nD) : S2048.Idx → EReal := m ((c.tc : Thread nD τ).loc main_arg1)
def argM (c : Dev nD) : S2x1x12288.Idx → EReal := m ((c.tc : Thread nD τ).loc main_arg2)
def argY (c : Dev nD) : S16896x2048.Idx → EReal := m ((c.tc : Thread nD τ).loc main_arg3)
def argS (c : Dev nD) : S2048.Idx → EReal := m ((c.tc : Thread nD τ).loc main_arg4)
def argW (c : Dev nD) : S2048x4096.Idx → EReal := m ((c.tc : Thread nD τ).loc main_arg5)
def argB (c : Dev nD) : S4096.Idx → EReal := m ((c.tc : Thread nD τ).loc main_arg6)

theorem V_w (c : Dev nD) : V m c main_v0 = (truncf .bf16 (m ((c.tc : Thread nD τ).loc main_arg5) : S2048x4096.Idx → Ideal .f32) bitsLt_bf16_f32 : S2048x4096.Idx → Ideal .bf16) := by
  unfold V hostOps0
  after_results <;> rfl
theorem V_b (c : Dev nD) : V m c main_v1 = (shapeCast S1x4096 (m ((c.tc : Thread nD τ).loc main_arg6) : S4096.Idx → Ideal .f32) shapeCasts_S4096_S1x4096 : S1x4096.Idx → Ideal .f32) := by
  unfold V hostOps0
  after_results <;> rfl
theorem V_g (c : Dev nD) : V m c main_v2 = (shapeCast S1x2048 (m ((c.tc : Thread nD τ).loc main_arg1) : S2048.Idx → Ideal .f32) shapeCasts_S2048_S1x2048 : S1x2048.Idx → Ideal .f32) := by
  unfold V hostOps0
  after_results <;> rfl
theorem V_s (c : Dev nD) : V m c main_v3 = (shapeCast S1x2048 (m ((c.tc : Thread nD τ).loc main_arg4) : S2048.Idx → Ideal .f32) shapeCasts_S2048_S1x2048 : S1x2048.Idx → Ideal .f32) := by
  unfold V hostOps0
  after_results <;> rfl

/-- A column of the value's half of the weights, and of the gate's. -/
def lo (n : Fin 2048) : Fin 4096 := ⟨n.val, by omega⟩
def hi (n : Fin 2048) : Fin 4096 := ⟨2048 + n.val, by omega⟩

/-- The activated row, and one element of the result. -/
def row (c : Dev nD) (R : Fin 16896) (k : Fin 2048) : EReal :=
  gelu (argS m c (ix1 k) * normed (fun k => argX m c (ix2 R k)) (fun k => argG m c (ix1 k)) (fun k => argM m c (ix3 (stream R) (0 : Fin 1) (⟨2048 + k.val, by omega⟩ : Fin 12288)))
    (fun k => argM m c (ix3 (stream R) (0 : Fin 1) (⟨0 + k.val, by omega⟩ : Fin 12288))) k + argY m c (ix2 R k))
def elem (c : Dev nD) (R : Fin 16896) (n : Fin 2048) : EReal :=
  argX m c (ix2 R n) + argM m c (ix3 (stream R) (0 : Fin 1) (⟨4096 + n.val, by omega⟩ : Fin 12288))
    * (((∑ k : Fin 2048, row m c R k * argW m c (ix2 k (lo n))) + argB m c (ix1 (lo n))) * sigm ((∑ k : Fin 2048, row m c R k * argW m c (ix2 k (hi n))) + argB m c (ix1 (hi n))))

/-- The result. -/
def fin (c : Dev nD) : S16896x2048.Idx → EReal := fun i => elem m c (i 0) (i 1)

/-- Row `r` and column `n` of point `t`, among all of them. -/
def rowOf (t : Fin cfg0.N) (r : Fin 512) : Fin 16896 := ⟨t.val / 4 * 512 + r.val, by
  have h : t.val < 132 := t.isLt
  omega⟩
def colOf (t : Fin cfg0.N) (n : Fin 512) : Fin 2048 := ⟨t.val % 4 * 512 + n.val, by omega⟩
def loOf (t : Fin cfg0.N) (n : Fin 512) : Fin 4096 := lo (colOf t n)
def hiOf (t : Fin cfg0.N) (n : Fin 512) : Fin 4096 := hi (colOf t n)

theorem idx0 (t : Fin cfg0.N) : win0_0.index t (0 : Fin 2) = t.val / 4 ∧ win0_0.index t (1 : Fin 2) = 0 :=
  (by decide +kernel : ∀ t : Fin 132, win0_0.index t (0 : Fin 2) = t.val / 4 ∧ win0_0.index t (1 : Fin 2) = 0) t
theorem idx1 (t : Fin cfg0.N) : win0_1.index t (0 : Fin 2) = 0 ∧ win0_1.index t (1 : Fin 2) = 0 :=
  (by decide +kernel : ∀ t : Fin 132, win0_1.index t (0 : Fin 2) = 0 ∧ win0_1.index t (1 : Fin 2) = 0) t
theorem idx2 (t : Fin cfg0.N) : win0_2.index t (0 : Fin 3) = (if t.val / 4 < 32 then 0 else 1) ∧ win0_2.index t (1 : Fin 3) = 0 ∧ win0_2.index t (2 : Fin 3) = 1 :=
  (by decide +kernel : ∀ t : Fin 132, win0_2.index t (0 : Fin 3) = (if t.val / 4 < 32 then 0 else 1) ∧ win0_2.index t (1 : Fin 3) = 0 ∧ win0_2.index t (2 : Fin 3) = 1) t
theorem idx3 (t : Fin cfg0.N) : win0_3.index t (0 : Fin 3) = (if t.val / 4 < 32 then 0 else 1) ∧ win0_3.index t (1 : Fin 3) = 0 ∧ win0_3.index t (2 : Fin 3) = 0 :=
  (by decide +kernel : ∀ t : Fin 132, win0_3.index t (0 : Fin 3) = (if t.val / 4 < 32 then 0 else 1) ∧ win0_3.index t (1 : Fin 3) = 0 ∧ win0_3.index t (2 : Fin 3) = 0) t
theorem idx4 (t : Fin cfg0.N) : win0_4.index t (0 : Fin 2) = t.val / 4 ∧ win0_4.index t (1 : Fin 2) = 0 :=
  (by decide +kernel : ∀ t : Fin 132, win0_4.index t (0 : Fin 2) = t.val / 4 ∧ win0_4.index t (1 : Fin 2) = 0) t
theorem idx5 (t : Fin cfg0.N) : win0_5.index t (0 : Fin 2) = 0 ∧ win0_5.index t (1 : Fin 2) = 0 :=
  (by decide +kernel : ∀ t : Fin 132, win0_5.index t (0 : Fin 2) = 0 ∧ win0_5.index t (1 : Fin 2) = 0) t
theorem idx6 (t : Fin cfg0.N) : win0_6.index t (0 : Fin 2) = 0 ∧ win0_6.index t (1 : Fin 2) = t.val % 4 :=
  (by decide +kernel : ∀ t : Fin 132, win0_6.index t (0 : Fin 2) = 0 ∧ win0_6.index t (1 : Fin 2) = t.val % 4) t
theorem idx7 (t : Fin cfg0.N) : win0_7.index t (0 : Fin 2) = 0 ∧ win0_7.index t (1 : Fin 2) = 4 + t.val % 4 :=
  (by decide +kernel : ∀ t : Fin 132, win0_7.index t (0 : Fin 2) = 0 ∧ win0_7.index t (1 : Fin 2) = 4 + t.val % 4) t
theorem idx8 (t : Fin cfg0.N) : win0_8.index t (0 : Fin 2) = 0 ∧ win0_8.index t (1 : Fin 2) = t.val % 4 :=
  (by decide +kernel : ∀ t : Fin 132, win0_8.index t (0 : Fin 2) = 0 ∧ win0_8.index t (1 : Fin 2) = t.val % 4) t
theorem idx9 (t : Fin cfg0.N) : win0_9.index t (0 : Fin 2) = 0 ∧ win0_9.index t (1 : Fin 2) = 4 + t.val % 4 :=
  (by decide +kernel : ∀ t : Fin 132, win0_9.index t (0 : Fin 2) = 0 ∧ win0_9.index t (1 : Fin 2) = 4 + t.val % 4) t
theorem idx10 (t : Fin cfg0.N) : win0_10.index t (0 : Fin 2) = t.val / 4 ∧ win0_10.index t (1 : Fin 2) = t.val % 4 :=
  (by decide +kernel : ∀ t : Fin 132, win0_10.index t (0 : Fin 2) = t.val / 4 ∧ win0_10.index t (1 : Fin 2) = t.val % 4) t
theorem idx11 (t : Fin cfg0.N) : win0_11.index t (0 : Fin 3) = (if t.val / 4 < 32 then 0 else 1) ∧ win0_11.index t (1 : Fin 3) = 0 ∧ win0_11.index t (2 : Fin 3) = 8 + t.val % 4 :=
  (by decide +kernel : ∀ t : Fin 132, win0_11.index t (0 : Fin 3) = (if t.val / 4 < 32 then 0 else 1) ∧ win0_11.index t (1 : Fin 3) = 0 ∧ win0_11.index t (2 : Fin 3) = 8 + t.val % 4) t
theorem idx12 (t : Fin cfg0.N) : win0_12.index t (0 : Fin 2) = t.val / 4 ∧ win0_12.index t (1 : Fin 2) = t.val % 4 :=
  (by decide +kernel : ∀ t : Fin 132, win0_12.index t (0 : Fin 2) = t.val / 4 ∧ win0_12.index t (1 : Fin 2) = t.val % 4) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val / 4 * 512 + r.val
    rw [(idx0 t).1]; omega
  | ⟨1, _⟩ =>
    show win0_0.index t (1 : Fin 2) * 2048 + 1 * k.val = k.val
    rw [(idx0 t).2]; omega
theorem emb1 (t : Fin cfg0.N) (k : Fin 2048) : ((cfg0.win 1).blk t).view.emb (ix2 (0 : Fin 1) k) = (ix2 (0 : Fin 1) k : S1x2048.Idx) := by
  refine funext fun (a : Fin 2) => Fin.ext ?_
  match a with
  | ⟨0, _⟩ =>
    show win0_1.index t (0 : Fin 2) * 1 + 1 * 0 = 0
    rw [(idx1 t).1]
  | ⟨1, _⟩ =>
    show win0_1.index t (1 : Fin 2) * 2048 + 1 * k.val = k.val
    rw [(idx1 t).2]; omega
theorem emb2 (t : Fin cfg0.N) (r : Fin 512) (n : Fin 2048) :
    ((cfg0.win 2).blk t).view.emb (ix3 (0 : Fin 1) (0 : Fin 1) n)
      = (ix3 (stream (rowOf t r)) (0 : Fin 1) (⟨2048 + n.val, by omega⟩ : Fin 12288) : S2x1x12288.Idx) := by
  refine funext fun (a : Fin 3) => Fin.ext ?_
  match a with
  | ⟨0, _⟩ =>
    show win0_2.index t (0 : Fin 3) * 1 + 1 * 0 = (stream (rowOf t r)).val
    rw [(idx2 t).1]
    unfold stream
    have hR : (rowOf t r).val = t.val / 4 * 512 + r.val := rfl
    by_cases h : t.val / 4 < 32
    · rw [if_pos h, if_pos (by omega)]; rfl
    · rw [if_neg h, if_neg (by omega)]; rfl
  | ⟨1, _⟩ =>
    show win0_2.index t (1 : Fin 3) * 1 + 1 * 0 = 0
    rw [(idx2 t).2.1]
  | ⟨2, _⟩ =>
    show win0_2.index t (2 : Fin 3) * 2048 + 1 * n.val = 2048 + n.val
    rw [(idx2 t).2.2]; omega
theorem emb3 (t : Fin cfg0.N) (r : Fin 512) (n : Fin 2048) :
    ((cfg0.win 3).blk t).view.emb (ix3 (0 : Fin 1) (0 : Fin 1) n)
      = (ix3 (stream (rowOf t r)) (0 : Fin 1) (⟨0 + n.val, by omega⟩ : Fin 12288) : S2x1x12288.Idx) := by
  refine funext fun (a : Fin 3) => Fin.ext ?_
  match a with
  | ⟨0, _⟩ =>
    show win0_3.index t (0 : Fin 3) * 1 + 1 * 0 = (stream (rowOf t r)).val
    rw [(idx3 t).1]
    unfold stream
    have hR : (rowOf t r).val = t.val / 4 * 512 + r.val := rfl
    by_cases h : t.val / 4 < 32
    · rw [if_pos h, if_pos (by omega)]; rfl
    · rw [if_neg h, if_neg (by omega)]; rfl
  | ⟨1, _⟩ =>
    show win0_3.index t (1 : Fin 3) * 1 + 1 * 0 = 0
    rw [(idx3 t).2.1]
  | ⟨2, _⟩ =>
    show win0_3.index t (2 : Fin 3) * 2048 + 1 * n.val = 0 + n.val
    rw [(idx3 t).2.2]; omega
theorem emb4 (t : Fin cfg0.N) (r : Fin 512) (k : Fin 2048) : ((cfg0.win 4).blk t).view.emb (ix2 r k) = (ix2 (rowOf t r) k : S16896x2048.Idx) := by
  refine funext fun (a : Fin 2) => Fin.ext ?_
  match a with
  | ⟨0, _⟩ =>
    show win0_4.index t (0 : Fin 2) * 512 + 1 * r.val = t.val / 4 * 512 + r.val
    rw [(idx4 t).1]; omega
  | ⟨1, _⟩ =>
    show win0_4.index t (1 : Fin 2) * 2048 + 1 * k.val = k.val
    rw [(idx4 t).2]; omega
theorem emb5 (t : Fin cfg0.N) (k : Fin 2048) : ((cfg0.win 5).blk t).view.emb (ix2 (0 : Fin 1) k) = (ix2 (0 : Fin 1) k : S1x2048.Idx) := by
  refine funext fun (a : Fin 2) => Fin.ext ?_
  match a with
  | ⟨0, _⟩ =>
    show win0_5.index t (0 : Fin 2) * 1 + 1 * 0 = 0
    rw [(idx5 t).1]
  | ⟨1, _⟩ =>
    show win0_5.index t (1 : Fin 2) * 2048 + 1 * k.val = k.val
    rw [(idx5 t).2]; omega
theorem emb6 (t : Fin cfg0.N) (k : Fin 2048) (n : Fin 512) : ((cfg0.win 6).blk t).view.emb (ix2 k n) = (ix2 k (loOf t n) : S2048x4096.Idx) := by
  refine funext fun (a : Fin 2) => Fin.ext ?_
  match a with
  | ⟨0, _⟩ =>
    show win0_6.index t (0 : Fin 2) * 2048 + 1 * k.val = k.val
    rw [(idx6 t).1]; omega
  | ⟨1, _⟩ =>
    show win0_6.index t (1 : Fin 2) * 512 + 1 * n.val = t.val % 4 * 512 + n.val
    rw [(idx6 t).2]; omega
theorem emb7 (t : Fin cfg0.N) (k : Fin 2048) (n : Fin 512) : ((cfg0.win 7).blk t).view.emb (ix2 k n) = (ix2 k (hiOf t n) : S2048x4096.Idx) := by
  refine funext fun (a : Fin 2) => Fin.ext ?_
  match a with
  | ⟨0, _⟩ =>
    show win0_7.index t (0 : Fin 2) * 2048 + 1 * k.val = k.val
    rw [(idx7 t).1]; omega
  | ⟨1, _⟩ =>
    show win0_7.index t (1 : Fin 2) * 512 + 1 * n.val = 2048 + (t.val % 4 * 512 + n.val)
    rw [(idx7 t).2]; omega
theorem emb8 (t : Fin cfg0.N) (n : Fin 512) : ((cfg0.win 8).blk t).view.emb (ix2 (0 : Fin 1) n) = (ix2 (0 : Fin 1) (loOf t n) : S1x4096.Idx) := by
  refine funext fun (a : Fin 2) => Fin.ext ?_
  match a with
  | ⟨0, _⟩ =>
    show win0_8.index t (0 : Fin 2) * 1 + 1 * 0 = 0
    rw [(idx8 t).1]
  | ⟨1, _⟩ =>
    show win0_8.index t (1 : Fin 2) * 512 + 1 * n.val = t.val % 4 * 512 + n.val
    rw [(idx8 t).2]; omega
theorem emb9 (t : Fin cfg0.N) (n : Fin 512) : ((cfg0.win 9).blk t).view.emb (ix2 (0 : Fin 1) n) = (ix2 (0 : Fin 1) (hiOf t n) : S1x4096.Idx) := by
  refine funext fun (a : Fin 2) => Fin.ext ?_
  match a with
  | ⟨0, _⟩ =>
    show win0_9.index t (0 : Fin 2) * 1 + 1 * 0 = 0
    rw [(idx9 t).1]
  | ⟨1, _⟩ =>
    show win0_9.index t (1 : Fin 2) * 512 + 1 * n.val = 2048 + (t.val % 4 * 512 + n.val)
    rw [(idx9 t).2]; omega
theorem emb10 (t : Fin cfg0.N) (r : Fin 512) (n : Fin 512) : ((cfg0.win 10).blk t).view.emb (ix2 r n) = (ix2 (rowOf t r) (colOf t n) : S16896x2048.Idx) := by
  refine funext fun (a : Fin 2) => Fin.ext ?_
  match a with
  | ⟨0, _⟩ =>
    show win0_10.index t (0 : Fin 2) * 512 + 1 * r.val = t.val / 4 * 512 + r.val
    rw [(idx10 t).1]; omega
  | ⟨1, _⟩ =>
    show win0_10.index t (1 : Fin 2) * 512 + 1 * n.val = t.val % 4 * 512 + n.val
    rw [(idx10 t).2]; omega
theorem emb11 (t : Fin cfg0.N) (r : Fin 512) (n : Fin 512) :
    ((cfg0.win 11).blk t).view.emb (ix3 (0 : Fin 1) (0 : Fin 1) n)
      = (ix3 (stream (rowOf t r)) (0 : Fin 1) (⟨4096 + (colOf t n).val, by omega⟩ : Fin 12288) : S2x1x12288.Idx) := by
  refine funext fun (a : Fin 3) => Fin.ext ?_
  match a with
  | ⟨0, _⟩ =>
    show win0_11.index t (0 : Fin 3) * 1 + 1 * 0 = (stream (rowOf t r)).val
    rw [(idx11 t).1]
    unfold stream
    have hR : (rowOf t r).val = t.val / 4 * 512 + r.val := rfl
    by_cases h : t.val / 4 < 32
    · rw [if_pos h, if_pos (by omega)]; rfl
    · rw [if_neg h, if_neg (by omega)]; rfl
  | ⟨1, _⟩ =>
    show win0_11.index t (1 : Fin 3) * 1 + 1 * 0 = 0
    rw [(idx11 t).2.1]
  | ⟨2, _⟩ =>
    show win0_11.index t (2 : Fin 3) * 512 + 1 * n.val = 4096 + (t.val % 4 * 512 + n.val)
    rw [(idx11 t).2.2]; omega
theorem emb12 (t : Fin cfg0.N) (r : Fin 512) (n : Fin 512) : ((cfg0.win 12).blk t).view.emb (ix2 r n) = (ix2 (rowOf t r) (colOf t n) : S16896x2048.Idx) := by
  refine funext fun (a : Fin 2) => Fin.ext ?_
  match a with
  | ⟨0, _⟩ =>
    show win0_12.index t (0 : Fin 2) * 512 + 1 * r.val = t.val / 4 * 512 + r.val
    rw [(idx12 t).1]; omega
  | ⟨1, _⟩ =>
    show win0_12.index t (1 : Fin 2) * 512 + 1 * n.val = t.val % 4 * 512 + n.val
    rw [(idx12 t).2]; omega

theorem iblk0_at (c : Dev nD) (t : Fin cfg0.N) (r : Fin 512) (k : Fin 2048) : iblk m c 0 t (ix2 r k) = argX m c (ix2 (rowOf t r) k) :=
  (show iblk m c 0 t (ix2 r k) = V m c main_arg0 (((cfg0.win 0).blk t).view.emb (ix2 r k)) from rfl).trans
    ((congrFun (V_main_arg0 m c) _).trans (congrArg (argX m c) (emb0 t r k)))
theorem iblk1_at (c : Dev nD) (t : Fin cfg0.N) (k : Fin 2048) : iblk m c 1 t (ix2 (0 : Fin 1) k) = argG m c (ix1 k) := by
  refine (show iblk m c 1 t (ix2 (0 : Fin 1) k) = V m c main_v2 (((cfg0.win 1).blk t).view.emb (ix2 (0 : Fin 1) k)) from rfl).trans ((congrFun (V_g m c) _).trans ?_)
  rw [emb1 t k]
  exact cast_vec (N := 2048) _ _ _
theorem iblk2_at (c : Dev nD) (t : Fin cfg0.N) (r : Fin 512) (n : Fin 2048) : iblk m c 2 t (ix3 (0 : Fin 1) (0 : Fin 1) n) = argM m c (ix3 (stream (rowOf t r)) (0 : Fin 1) (⟨2048 + n.val, by omega⟩ : Fin 12288)) :=
  (show iblk m c 2 t (ix3 (0 : Fin 1) (0 : Fin 1) n) = V m c main_arg2 (((cfg0.win 2).blk t).view.emb (ix3 (0 : Fin 1) (0 : Fin 1) n)) from rfl).trans
    ((congrFun (V_main_arg2 m c) _).trans (congrArg (argM m c) (emb2 t r n)))
theorem iblk3_at (c : Dev nD) (t : Fin cfg0.N) (r : Fin 512) (n : Fin 2048) : iblk m c 3 t (ix3 (0 : Fin 1) (0 : Fin 1) n) = argM m c (ix3 (stream (rowOf t r)) (0 : Fin 1) (⟨0 + n.val, by omega⟩ : Fin 12288)) :=
  (show iblk m c 3 t (ix3 (0 : Fin 1) (0 : Fin 1) n) = V m c main_arg2 (((cfg0.win 3).blk t).view.emb (ix3 (0 : Fin 1) (0 : Fin 1) n)) from rfl).trans
    ((congrFun (V_main_arg2 m c) _).trans (congrArg (argM m c) (emb3 t r n)))
theorem iblk4_at (c : Dev nD) (t : Fin cfg0.N) (r : Fin 512) (k : Fin 2048) : iblk m c 4 t (ix2 r k) = argY m c (ix2 (rowOf t r) k) :=
  (show iblk m c 4 t (ix2 r k) = V m c main_arg3 (((cfg0.win 4).blk t).view.emb (ix2 r k)) from rfl).trans
    ((congrFun (V_main_arg3 m c) _).trans (congrArg (argY m c) (emb4 t r k)))
theorem iblk5_at (c : Dev nD) (t : Fin cfg0.N) (k : Fin 2048) : iblk m c 5 t (ix2 (0 : Fin 1) k) = argS m c (ix1 k) := by
  refine (show iblk m c 5 t (ix2 (0 : Fin 1) k) = V m c main_v3 (((cfg0.win 5).blk t).view.emb (ix2 (0 : Fin 1) k)) from rfl).trans ((congrFun (V_s m c) _).trans ?_)
  rw [emb5 t k]
  exact cast_vec (N := 2048) _ _ _
theorem iblk6_at (c : Dev nD) (t : Fin cfg0.N) (k : Fin 2048) (n : Fin 512) : iblk m c 6 t (ix2 k n) = argW m c (ix2 k (lo (colOf t n))) :=
  (show iblk m c 6 t (ix2 k n) = V m c main_v0 (((cfg0.win 6).blk t).view.emb (ix2 k n)) from rfl).trans
    ((congrFun (V_w m c) _).trans (congrArg (argW m c) (emb6 t k n)))
theorem iblk7_at (c : Dev nD) (t : Fin cfg0.N) (k : Fin 2048) (n : Fin 512) : iblk m c 7 t (ix2 k n) = argW m c (ix2 k (hi (colOf t n))) :=
  (show iblk m c 7 t (ix2 k n) = V m c main_v0 (((cfg0.win 7).blk t).view.emb (ix2 k n)) from rfl).trans
    ((congrFun (V_w m c) _).trans (congrArg (argW m c) (emb7 t k n)))
theorem iblk8_at (c : Dev nD) (t : Fin cfg0.N) (n : Fin 512) : iblk m c 8 t (ix2 (0 : Fin 1) n) = argB m c (ix1 (lo (colOf t n))) := by
  refine (show iblk m c 8 t (ix2 (0 : Fin 1) n) = V m c main_v1 (((cfg0.win 8).blk t).view.emb (ix2 (0 : Fin 1) n)) from rfl).trans ((congrFun (V_b m c) _).trans ?_)
  rw [emb8 t n]
  exact cast_vec (N := 4096) _ _ _
theorem iblk9_at (c : Dev nD) (t : Fin cfg0.N) (n : Fin 512) : iblk m c 9 t (ix2 (0 : Fin 1) n) = argB m c (ix1 (hi (colOf t n))) := by
  refine (show iblk m c 9 t (ix2 (0 : Fin 1) n) = V m c main_v1 (((cfg0.win 9).blk t).view.emb (ix2 (0 : Fin 1) n)) from rfl).trans ((congrFun (V_b m c) _).trans ?_)
  rw [emb9 t n]
  exact cast_vec (N := 4096) _ _ _
theorem iblk10_at (c : Dev nD) (t : Fin cfg0.N) (r : Fin 512) (n : Fin 512) : iblk m c 10 t (ix2 r n) = argX m c (ix2 (rowOf t r) (colOf t n)) :=
  (show iblk m c 10 t (ix2 r n) = V m c main_arg0 (((cfg0.win 10).blk t).view.emb (ix2 r n)) from rfl).trans
    ((congrFun (V_main_arg0 m c) _).trans (congrArg (argX m c) (emb10 t r n)))
theorem iblk11_at (c : Dev nD) (t : Fin cfg0.N) (r : Fin 512) (n : Fin 512) : iblk m c 11 t (ix3 (0 : Fin 1) (0 : Fin 1) n) = argM m c (ix3 (stream (rowOf t r)) (0 : Fin 1) (⟨4096 + (colOf t n).val, by omega⟩ : Fin 12288)) :=
  (show iblk m c 11 t (ix3 (0 : Fin 1) (0 : Fin 1) n) = V m c main_arg2 (((cfg0.win 11).blk t).view.emb (ix3 (0 : Fin 1) (0 : Fin 1) n)) from rfl).trans
    ((congrFun (V_main_arg2 m c) _).trans (congrArg (argM m c) (emb11 t r n)))

theorem scr_row (c : Dev nD) (t : Fin cfg0.N) (r : Fin 512) (k : Fin 2048) :
    k0_pay3 (F := Ideal) (k0_pay1 (iblk m c 0 t) (iblk m c 1 t) (iblk m c 2 t) (iblk m c 3 t) (iblk m c 5 t) (iblk m c 4 t)) (k0_pay2 (iblk m c 0 t) (iblk m c 1 t) (iblk m c 2 t) (iblk m c 3 t) (iblk m c 5 t) (iblk m c 4 t)) (Scalar.ofBits .f32 0x3F800000#32) (ix2 r k) = row m c (rowOf t r) k := by
  refine (scr_at _ _ _ _ _ _ r k).trans ?_
  unfold row
  have e0 : (fun k => iblk m c 0 t (ix2 r k)) = fun k => argX m c (ix2 (rowOf t r) k) := funext fun k => iblk0_at m c t r k
  have e1 : (fun k => iblk m c 1 t (ix2 (0 : Fin 1) k)) = fun k => argG m c (ix1 k) := funext fun k => iblk1_at m c t k
  have e2 : (fun k : Fin 2048 => iblk m c 2 t (ix3 (0 : Fin 1) (0 : Fin 1) k)) = fun k : Fin 2048 => argM m c (ix3 (stream (rowOf t r)) (0 : Fin 1) (⟨2048 + k.val, by omega⟩ : Fin 12288)) :=
    funext fun k => iblk2_at m c t r k
  have e3 : (fun k : Fin 2048 => iblk m c 3 t (ix3 (0 : Fin 1) (0 : Fin 1) k)) = fun k : Fin 2048 => argM m c (ix3 (stream (rowOf t r)) (0 : Fin 1) (⟨0 + k.val, by omega⟩ : Fin 12288)) :=
    funext fun k => iblk3_at m c t r k
  exact congrArg gelu (congr (congrArg (HAdd.hAdd (α := EReal)) (congr (congrArg (HMul.hMul (α := EReal)) (iblk5_at m c t k))
    (congrFun (congr (congr (congr (congrArg normed e0) e1) e2) e3) k))) (iblk4_at m c t r k))

theorem outs_A (c : Dev nD) (t : Fin cfg0.N) (h0 : t.val % 4 = 0) : outsAt0 m c t.val t.isLt
    = (k0_pay4 (k0_pay3 (k0_pay1 (iblk m c 0 t) (iblk m c 1 t) (iblk m c 2 t) (iblk m c 3 t) (iblk m c 5 t) (iblk m c 4 t)) (k0_pay2 (iblk m c 0 t) (iblk m c 1 t) (iblk m c 2 t) (iblk m c 3 t) (iblk m c 5 t) (iblk m c 4 t)) (Scalar.ofBits .f32 0x3F800000#32)) (iblk m c 6 t) (iblk m c 8 t) (iblk m c 7 t) (iblk m c 9 t) (iblk m c 10 t) (iblk m c 11 t),
      k0_pay3 (k0_pay1 (iblk m c 0 t) (iblk m c 1 t) (iblk m c 2 t) (iblk m c 3 t) (iblk m c 5 t) (iblk m c 4 t)) (k0_pay2 (iblk m c 0 t) (iblk m c 1 t) (iblk m c 2 t) (iblk m c 3 t) (iblk m c 5 t) (iblk m c 4 t)) (Scalar.ofBits .f32 0x3F800000#32)) := by
  rw [outsAt0_A m c t h0, out_A, sout_A]

theorem outs_B (c : Dev nD) (t : Fin cfg0.N) (h0 : ¬t.val % 4 = 0) : outsAt0 m c t.val t.isLt
    = (k0_pay4 (outsAt0 m c (t.val - 1) (Nat.lt_of_le_of_lt (Nat.sub_le _ _) t.isLt)).2 (iblk m c 6 t) (iblk m c 8 t) (iblk m c 7 t) (iblk m c 9 t) (iblk m c 10 t) (iblk m c 11 t),
      (outsAt0 m c (t.val - 1) (Nat.lt_of_le_of_lt (Nat.sub_le _ _) t.isLt)).2) := by
  rw [outsAt0_B m c t h0, out_B]
  unfold sout0_B_0
  rfl

/-- The scratch holds the activated rows of the point's row of blocks. -/
theorem scratch (c : Dev nD) : ∀ (n : ℕ) (h : n < cfg0.N) (r : Fin 512) (k : Fin 2048), (outsAt0 m c n h).2 (ix2 r k) = row m c (rowOf ⟨n, h⟩ r) k := by
  intro n
  induction n with
  | zero =>
    intro h r k
    exact (congrFun (congrArg Prod.snd (outs_A m c ⟨0, h⟩ rfl)) (ix2 r k)).trans (scr_row m c ⟨0, h⟩ r k)
  | succ n ih =>
    intro h r k
    by_cases h0 : (n + 1) % 4 = 0
    · exact (congrFun (congrArg Prod.snd (outs_A m c ⟨n + 1, h⟩ h0)) (ix2 r k)).trans (scr_row m c ⟨n + 1, h⟩ r k)
    · refine (congrFun (congrArg Prod.snd (outs_B m c ⟨n + 1, h⟩ h0)) (ix2 r k)).trans ((ih (Nat.lt_of_succ_lt h) r k).trans ?_)
      refine congrArg (fun R => row m c R k) (Fin.ext ?_)
      show n / 4 * 512 + r.val = (n + 1) / 4 * 512 + r.val
      have : (n + 1) / 4 = n / 4 := by omega
      rw [this]

theorem block_at (c : Dev nD) (t : Fin cfg0.N) (z : FVec Ideal S512x2048 .bf16) (hz : ∀ r k, z (ix2 r k) = row m c (rowOf t r) k) (r : Fin 512) (n : Fin 512) :
    k0_pay4 (F := Ideal) z (iblk m c 6 t) (iblk m c 8 t) (iblk m c 7 t) (iblk m c 9 t) (iblk m c 10 t) (iblk m c 11 t) (ix2 r n) = elem m c (rowOf t r) (colOf t n) := by
  refine (pay_at _ _ _ _ _ _ _ r n).trans ?_
  unfold elem
  refine congr (congrArg (HAdd.hAdd (α := EReal)) (iblk10_at m c t r n)) (congr (congrArg (HMul.hMul (α := EReal)) (iblk11_at m c t r n))
    (congr (congrArg (HMul.hMul (α := EReal)) (congr (congrArg (HAdd.hAdd (α := EReal)) ?_) (iblk8_at m c t n)))
      (congrArg sigm (congr (congrArg (HAdd.hAdd (α := EReal)) ?_) (iblk9_at m c t n)))))
  · exact Finset.sum_congr rfl fun k _ => congr (congrArg (HMul.hMul (α := EReal)) (hz r k)) (iblk6_at m c t k n)
  · exact Finset.sum_congr rfl fun k _ => congr (congrArg (HMul.hMul (α := EReal)) (hz r k)) (iblk7_at m c t k n)

theorem oblk_at (c : Dev nD) (t : Fin cfg0.N) (r : Fin 512) (n : Fin 512) : (dats m 0 c).after 12 t (ix2 r n) = elem m c (rowOf t r) (colOf t n) := by
  refine (congrFun (after0_12 m c t) _).trans ?_
  by_cases h0 : t.val % 4 = 0
  · refine (congrFun (congrArg Prod.fst (outs_A m c t h0)) (ix2 r n)).trans ?_
    exact block_at m c t _ (fun r k => scr_row m c t r k) r n
  · refine (congrFun (congrArg Prod.fst (outs_B m c t h0)) (ix2 r n)).trans ?_
    refine block_at m c t _ (fun r k => ?_) r n
    refine (scratch m c (t.val - 1) _ r k).trans (congrArg (fun R => row m c R k) (Fin.ext ?_))
    show (t.val - 1) / 4 * 512 + r.val = t.val / 4 * 512 + r.val
    have : (t.val - 1) / 4 = t.val / 4 := by omega
    rw [this]

/-- The array the launch leaves is the result. -/
theorem final (c : Dev nD) : (dats m 0 c).arrAt 12 cfg0.N = fin m c := by
  refine Dat.arrAt_eq_of_emb (dats m 0 c) 12 (fin m c) (fun t _ y => ?_) (fun i => ?_)
  · obtain ⟨r, n, rfl⟩ : ∃ (r : Fin 512) (n : Fin 512), y = ix2 r n := ⟨y 0, y 1, eq_ix2 _⟩
    exact Eq.trans (oblk_at m c t r n) (congrArg (fin m c) (emb12 t r n)).symm
  · obtain ⟨R, n, rfl⟩ : ∃ (R : Fin 16896) (n : Fin 2048), i = ix2 R n := ⟨i 0, i 1, eq_ix2 _⟩
    have hR := R.isLt
    have hn := n.isLt
    have ht : R.val / 512 * 4 + n.val / 512 < 132 := by omega
    refine ⟨⟨R.val / 512 * 4 + n.val / 512, ht⟩, flush0_12 _, ?_⟩
    have e := emb12 ⟨R.val / 512 * 4 + n.val / 512, ht⟩ (⟨R.val % 512, by omega⟩ : Fin 512) (⟨n.val % 512, by omega⟩ : Fin 512)
    have e1 : rowOf ⟨R.val / 512 * 4 + n.val / 512, ht⟩ (⟨R.val % 512, by omega⟩ : Fin 512) = R := Fin.ext (by
      show (R.val / 512 * 4 + n.val / 512) / 4 * 512 + R.val % 512 = R.val
      omega)
    have e2 : colOf ⟨R.val / 512 * 4 + n.val / 512, ht⟩ (⟨n.val % 512, by omega⟩ : Fin 512) = n := Fin.ext (by
      show (R.val / 512 * 4 + n.val / 512) % 4 * 512 + n.val % 512 = n.val
      omega)
    rw [e1, e2] at e
    rw [← e]
    exact View.emb_mem_set _ _

end Cert.Kernel7Ideal.Hand

end
-- ==== Proof.Qkv.lean ====
module

public import proofs.«01_k».proof.Proof.Glu

/-! # The heads of the query, key and value projection: each normed on its own, turned by its row's angles -/

@[expose] public section

set_option maxRecDepth 16384

noncomputable section

namespace Cert.Mix

open Idealize.ShloMosaic hiding ix0 ix1 ix2 ix3 ix4
open Idealize.ShloMosaic.ValueIdx (ix1 ix2 ix3)
open scoped BigOperators

/-- The reciprocal root of a head's mean square, and the head normed. -/
def hrs (f : Fin 128 → EReal) : EReal :=
  Ideal.rsqrt (Ideal.div (∑ k : Fin 128, f k * f k) (Ideal.ofBits .f32 0x43000000#32) + Ideal.ofBits .f32 0x358637BD#32)
def hn (f g : Fin 128 → EReal) (k : Fin 128) : EReal := f k * hrs f * g k

/-- The lane half a head away, and a lane of a half. -/
def other (k : Fin 128) : Fin 128 := ⟨(k.val + 64) % 128, by omega⟩
def half (k : Fin 128) : Fin 64 := ⟨k.val % 64, by omega⟩

/-- A head turned by the angles whose cosines and sines are given. -/
def turned (y : Fin 128 → EReal) (c s : Fin 64 → EReal) (k : Fin 128) : EReal :=
  if k.val < 64 then y k * c (half k) - y (other k) * s (half k) else y k * c (half k) + y (other k) * s (half k)

/-- The first stream's heads are turned, the second's are not. -/
def turn (S : Fin 2) (y : Fin 128 → EReal) (c s : Fin 64 → EReal) (k : Fin 128) : EReal := if S = 0 then turned y c s k else y k

/-- The row of angles a row has. -/
def angle (R : Fin 16896) : Fin 16384 := ⟨R.val % 16384, by omega⟩

/-- Lane `k` of head `h` among the projection's columns. -/
def lane (h : Fin 24) (k : Fin 128) : Fin 3072 := ⟨h.val * 128 + k.val, by omega⟩
def headOf (p : Fin 3072) : Fin 24 := ⟨p.val / 128, by omega⟩
def laneOf (p : Fin 3072) : Fin 128 := ⟨p.val % 128, by omega⟩
theorem lane_of (p : Fin 3072) : lane (headOf p) (laneOf p) = p := Fin.ext (by
  show p.val / 128 * 128 + p.val % 128 = p.val
  omega)

/-- Lane `k` of head `h`: sixteen heads of queries, four of keys, four of values. -/
def qkv (A : Fin 3072 → EReal) (qg kg : Fin 128 → EReal) (S : Fin 2) (c s : Fin 64 → EReal) (h : Fin 24) (k : Fin 128) : EReal :=
  if h.val < 16 then turn S (hn (fun k => A (lane h k)) qg) c s k * Ideal.ofBits .f32 0x3E0293EE#32
  else if h.val < 20 then turn S (hn (fun k => A (lane h k)) kg) c s k else A (lane h k)

variable {M N P H : ℕ} {α : Type}

/-- The cosines and the signed sines laid out for both halves. -/
theorem both_at (x y : (⟨2, ![P, 64]⟩ : Shape).Idx → α)
    (h : Shape.Concatenates [(⟨2, ![P, 64]⟩ : Shape), (⟨2, ![P, 64]⟩ : Shape)] (⟨2, ![P, 128]⟩ : Shape) (1 : Fin 2)) (r : Fin P) (k : Fin 128) :
    concatenate (⟨2, ![P, 128]⟩ : Shape) (1 : Fin 2) [⟨(⟨2, ![P, 64]⟩ : Shape), x⟩, ⟨(⟨2, ![P, 64]⟩ : Shape), y⟩] h (ix2 r k)
      = if k.val < 64 then x (ix2 r (half k)) else y (ix2 r (half k)) := by
  have hk := k.isLt
  by_cases hlt : k.val < 64
  · rw [if_pos hlt]
    refine concatenate_pair_apply_left (t := (⟨2, ![P, 128]⟩ : Shape)) (s₁ := (⟨2, ![P, 64]⟩ : Shape)) (s₂ := (⟨2, ![P, 64]⟩ : Shape)) (1 : Fin 2) _ _ _ _ rfl
      (ix2 r (half k)) (fun b => by
        match b with
        | ⟨0, _⟩ => rfl
        | ⟨1, _⟩ => show k.val % 64 = k.val; omega)
  · rw [if_neg hlt]
    refine concatenate_pair_apply_right (t := (⟨2, ![P, 128]⟩ : Shape)) (s₁ := (⟨2, ![P, 64]⟩ : Shape)) (s₂ := (⟨2, ![P, 64]⟩ : Shape)) (1 : Fin 2) _ _ _ _ rfl rfl
      (ix2 r (half k)) (fun b hb => by
        match b with
        | ⟨0, _⟩ => rfl
        | ⟨1, _⟩ => exact absurd rfl hb) (by show k.val % 64 + 64 = k.val; omega)

/-- The turn as the kernel computes it: the sines carry the sign, the other half comes by a rotation. -/
theorem turned_eq (y : Fin 128 → EReal) (c s : Fin 64 → EReal) (k : Fin 128) :
    y k * (if k.val < 64 then c (half k) else c (half k)) + y (other k) * (if k.val < 64 then -s (half k) else s (half k)) = turned y c s k := by
  unfold turned
  by_cases hlt : k.val < 64
  · rw [if_pos hlt, if_pos hlt, if_pos hlt, mul_neg, ← sub_eq_add_neg]
  · rw [if_neg hlt, if_neg hlt, if_neg hlt]

/-! ## A head on the device -/

theorem hrs_dev (x : FVec Ideal ⟨2, ![M, 128]⟩ .f32) (h : (⟨2, ![M, 128]⟩ : Shape).Reduces [1] ⟨1, ![M]⟩) (hφ : FKind.Formats .f32)
    (hacc : (0x00000000#32 : BitVec (FTy.f32).bits) = FKind.add.neutral .f32 hφ) (hc : (⟨1, ![M]⟩ : Shape).ShapeCasts ⟨2, ![M, 1]⟩) (r : Fin M) :
    rsqrt (addf (divf (shapeCast ⟨2, ![M, 1]⟩ (multiReduction .add [1] ⟨1, ![M]⟩ (mulf x x) 0x00000000#32 h hφ hacc) hc)
      (broadcast ⟨2, ![M, 1]⟩ (Scalar.ofBits .f32 0x43000000#32))) (broadcast ⟨2, ![M, 1]⟩ (Scalar.ofBits .f32 0x358637BD#32))) (ix2 r (0 : Fin 1))
      = hrs fun k => x (ix2 r k) := by
  refine congrArg (fun z : EReal => Ideal.rsqrt (Ideal.div z (Ideal.ofBits .f32 0x43000000#32) + Ideal.ofBits .f32 0x358637BD#32)) ?_
  refine (cast_col _ hc r).trans ((multiReduction_add_apply _ _ h hφ hacc (ix1 r)).trans ?_)
  exact Ideal.reduceAdd_r2_a1 (n0 := M) (n1 := 128) h (mulf x x) (ix1 r)

theorem hn_dev (hM : M ≠ 1) (x : FVec Ideal ⟨2, ![M, 128]⟩ .f32) (g : FVec Ideal ⟨2, ![1, 128]⟩ .f32)
    (h : (⟨2, ![M, 128]⟩ : Shape).Reduces [1] ⟨1, ![M]⟩) (hφ : FKind.Formats .f32)
    (hacc : (0x00000000#32 : BitVec (FTy.f32).bits) = FKind.add.neutral .f32 hφ) (hc : (⟨1, ![M]⟩ : Shape).ShapeCasts ⟨2, ![M, 1]⟩)
    (hb : (⟨2, ![M, 1]⟩ : Shape).Broadcasts ⟨2, ![M, 128]⟩) (hr : (⟨2, ![1, 128]⟩ : Shape).Broadcasts ⟨2, ![M, 128]⟩) (r : Fin M) (k : Fin 128) :
    mulf (mulf x (broadcastTo ⟨2, ![M, 128]⟩ (rsqrt (addf (divf (shapeCast ⟨2, ![M, 1]⟩ (multiReduction .add [1] ⟨1, ![M]⟩ (mulf x x) 0x00000000#32 h hφ hacc) hc)
        (broadcast ⟨2, ![M, 1]⟩ (Scalar.ofBits .f32 0x43000000#32))) (broadcast ⟨2, ![M, 1]⟩ (Scalar.ofBits .f32 0x358637BD#32)))) hb))
        (broadcastTo ⟨2, ![M, 128]⟩ g hr) (ix2 r k)
      = hn (fun k => x (ix2 r k)) (fun k => g (ix2 (0 : Fin 1) k)) k := by
  unfold hn
  refine congr (congrArg (HMul.hMul (α := EReal)) (congrArg (fun z : EReal => x (ix2 r k) * z) ?_)) ?_
  · exact (col_at hM _ hb r k).trans (hrs_dev x h hφ hacc hc r)
  · exact row_at (by decide) g hr r k

theorem rot_at (x : (⟨2, ![M, 128]⟩ : Shape).Idx → α) (h : (⟨2, ![M, 128]⟩ : Shape).Rotates (1 : Fin 2) none) (r : Fin M) (k : Fin 128) :
    dynamicRotate (s := ⟨2, ![M, 128]⟩) (1 : Fin 2) 64#32 none x h (ix2 r k) = x (ix2 r (other k)) := by
  unfold dynamicRotate
  refine congrArg x (funext fun (a : Fin 2) => Fin.ext ?_)
  match a with
  | ⟨0, _⟩ => rfl
  | ⟨1, _⟩ =>
    show (k.val + 128 - 64 % 128) % 128 = (k.val + 64) % 128
    omega

/-! ## The heads on the host, at rank three -/

theorem split_at {o : ℕ} (x : (⟨2, ![M, P]⟩ : Shape).Idx → α) (hs : (⟨2, ![M, P]⟩ : Shape).Slices ![0, o] ⟨2, ![M, N]⟩)
    (hc : (⟨2, ![M, N]⟩ : Shape).ShapeCasts ⟨3, ![M, H, 128]⟩) (hN : N = H * 128) (r : Fin M) (h : Fin H) (k : Fin 128) (p : Fin P) (hp : p.val = o + (h.val * 128 + k.val)) :
    shapeCast ⟨3, ![M, H, 128]⟩ (extractStridedSlice ⟨2, ![M, N]⟩ ![0, o] x hs) hc (ix3 r h k) = x (ix2 r p) := by
  subst hN
  have hh := h.isLt
  have hk := k.isLt
  refine (shapeCast_apply (t := ⟨3, ![M, H, 128]⟩) _ _ (ix3 r h k) (ix2 r (⟨h.val * 128 + k.val, by omega⟩ : Fin (H * 128))) ?_).trans (cols_at _ hs r _ p hp)
  rw [Shape.rowMajor_val_two, Shape.rowMajor_val_three]
  show r.val * (H * 128) + (h.val * 128 + k.val) = (r.val * H + h.val) * 128 + k.val
  ring

theorem spread_at (hM : M ≠ 1) (x : (⟨3, ![M, 1, N]⟩ : Shape).Idx → α) (hb : (⟨3, ![M, 1, N]⟩ : Shape).BroadcastsInDim ⟨3, ![M, H, N]⟩ ![0, 1, 2]) (hN : N ≠ 1)
    (r : Fin M) (h : Fin H) (k : Fin N) : broadcastInDim ⟨3, ![M, H, N]⟩ ![0, 1, 2] hb x (ix3 r h k) = x (ix3 r (0 : Fin 1) k) :=
  broadcastInDim_apply _ _ _ _ (ix3 r (0 : Fin 1) k) fun (a : Fin 3) => by
    match a with
    | ⟨0, _⟩ => exact (if_neg hM).symm
    | ⟨1, _⟩ => rfl
    | ⟨2, _⟩ => exact (if_neg hN).symm

theorem angles_at (hM : M ≠ 1) (hN : N ≠ 1) (x : (⟨2, ![M, N]⟩ : Shape).Idx → α) (ha : (⟨2, ![M, N]⟩ : Shape).BroadcastsInDim ⟨3, ![M, 1, N]⟩ ![0, 2])
    (hb : (⟨3, ![M, 1, N]⟩ : Shape).BroadcastsInDim ⟨3, ![M, H, N]⟩ ![0, 1, 2]) (r : Fin M) (h : Fin H) (k : Fin N) :
    broadcastInDim ⟨3, ![M, H, N]⟩ ![0, 1, 2] hb (broadcastInDim ⟨3, ![M, 1, N]⟩ ![0, 2] ha x) (ix3 r h k) = x (ix2 r k) :=
  (spread_at hM _ hb hN r h k).trans (broadcastInDim_apply _ _ _ _ (ix2 r k) fun (a : Fin 2) => by
    match a with
    | ⟨0, _⟩ => exact (if_neg hM).symm
    | ⟨1, _⟩ => exact (if_neg hN).symm)

theorem gain_at (hN : N ≠ 1) (x : (⟨1, ![N]⟩ : Shape).Idx → α) (ha : (⟨1, ![N]⟩ : Shape).BroadcastsInDim ⟨3, ![1, 1, N]⟩ ![2])
    (hb : (⟨3, ![1, 1, N]⟩ : Shape).BroadcastsInDim ⟨3, ![M, H, N]⟩ ![0, 1, 2]) (r : Fin M) (h : Fin H) (k : Fin N) :
    broadcastInDim ⟨3, ![M, H, N]⟩ ![0, 1, 2] hb (broadcastInDim ⟨3, ![1, 1, N]⟩ ![2] ha x) (ix3 r h k) = x (ix1 k) :=
  (broadcastInDim_apply _ _ _ _ (ix3 (0 : Fin 1) (0 : Fin 1) k) fun (a : Fin 3) => by
    match a with
    | ⟨0, _⟩ => rfl
    | ⟨1, _⟩ => rfl
    | ⟨2, _⟩ => exact (if_neg hN).symm).trans (broadcastInDim_apply _ _ _ _ (ix1 k) fun (a : Fin 1) => by
    match a with
    | ⟨0, _⟩ => exact (if_neg hN).symm)

theorem spread1_at (hM : M ≠ 1) (hH : H ≠ 1) (x : (⟨3, ![M, H, 1]⟩ : Shape).Idx → α) (hb : (⟨3, ![M, H, 1]⟩ : Shape).BroadcastsInDim ⟨3, ![M, H, N]⟩ ![0, 1, 2])
    (r : Fin M) (h : Fin H) (k : Fin N) : broadcastInDim ⟨3, ![M, H, N]⟩ ![0, 1, 2] hb x (ix3 r h k) = x (ix3 r h (0 : Fin 1)) :=
  broadcastInDim_apply _ _ _ _ (ix3 r h (0 : Fin 1)) fun (a : Fin 3) => by
    match a with
    | ⟨0, _⟩ => exact (if_neg hM).symm
    | ⟨1, _⟩ => exact (if_neg hH).symm
    | ⟨2, _⟩ => rfl

theorem keep_at (hM : M ≠ 1) (hH : H ≠ 1) (x : (⟨2, ![M, H]⟩ : Shape).Idx → α) (hb : (⟨2, ![M, H]⟩ : Shape).BroadcastsInDim ⟨3, ![M, H, 1]⟩ ![0, 1])
    (r : Fin M) (h : Fin H) : broadcastInDim ⟨3, ![M, H, 1]⟩ ![0, 1] hb x (ix3 r h (0 : Fin 1)) = x (ix2 r h) :=
  broadcastInDim_apply _ _ _ _ (ix2 r h) fun (a : Fin 2) => by
    match a with
    | ⟨0, _⟩ => exact (if_neg hM).symm
    | ⟨1, _⟩ => exact (if_neg hH).symm

theorem hrs_host (hM : M ≠ 1) (hH : H ≠ 1) (x : FVec Ideal ⟨3, ![M, H, 128]⟩ .f32) (hd : (⟨3, ![M, H, 128]⟩ : Shape).ReducesTo [2] ⟨2, ![M, H]⟩) (h0 : 0 < (⟨0, ![]⟩ : Shape).numel)
    (hc : (⟨2, ![M, H]⟩ : Shape).BroadcastsInDim ⟨3, ![M, H, 1]⟩ ![0, 1]) (he : (⟨0, ![]⟩ : Shape).BroadcastsInDim ⟨3, ![M, H, 1]⟩ ![]) (r : Fin M) (h : Fin H) :
    Host.rsqrt (addf (Host.divf (broadcastInDim ⟨3, ![M, H, 1]⟩ ![0, 1] hc (Host.reduceAdd (mulf x x) (constant ⟨0, ![]⟩ .f32 0x00000000#32) hd h0))
      (broadcastInDim ⟨3, ![M, H, 1]⟩ ![] he (constant ⟨0, ![]⟩ .f32 0x43000000#32))) (broadcastInDim ⟨3, ![M, H, 1]⟩ ![] he (constant ⟨0, ![]⟩ .f32 0x358637BD#32))) (ix3 r h (0 : Fin 1))
      = hrs fun k => x (ix3 r h k) := by
  refine congrArg (fun z : EReal => Ideal.rsqrt (Ideal.div z (Ideal.ofBits .f32 0x43000000#32) + Ideal.ofBits .f32 0x358637BD#32)) ?_
  refine (keep_at hM hH _ hc r h).trans ?_
  rw [Host.reduceAdd_apply]
  refine (Ideal.hostReduceAdd_r3_a2 (n0 := M) (n1 := H) (n2 := 128) hd _ _ (ix2 r h)).trans ?_
  exact (congrArg (· + _) zero_eq).trans (zero_add _)

theorem hn_host (hM : M ≠ 1) (hH : H ≠ 1) (x : FVec Ideal ⟨3, ![M, H, 128]⟩ .f32) (g : FVec Ideal ⟨1, ![128]⟩ .f32) (hd : (⟨3, ![M, H, 128]⟩ : Shape).ReducesTo [2] ⟨2, ![M, H]⟩)
    (h0 : 0 < (⟨0, ![]⟩ : Shape).numel) (hc : (⟨2, ![M, H]⟩ : Shape).BroadcastsInDim ⟨3, ![M, H, 1]⟩ ![0, 1]) (he : (⟨0, ![]⟩ : Shape).BroadcastsInDim ⟨3, ![M, H, 1]⟩ ![])
    (hb : (⟨3, ![M, H, 1]⟩ : Shape).BroadcastsInDim ⟨3, ![M, H, 128]⟩ ![0, 1, 2]) (ha : (⟨1, ![128]⟩ : Shape).BroadcastsInDim ⟨3, ![1, 1, 128]⟩ ![2])
    (hg : (⟨3, ![1, 1, 128]⟩ : Shape).BroadcastsInDim ⟨3, ![M, H, 128]⟩ ![0, 1, 2]) (r : Fin M) (h : Fin H) (k : Fin 128) :
    mulf (mulf x (broadcastInDim ⟨3, ![M, H, 128]⟩ ![0, 1, 2] hb (Host.rsqrt (addf (Host.divf (broadcastInDim ⟨3, ![M, H, 1]⟩ ![0, 1] hc (Host.reduceAdd (mulf x x) (constant ⟨0, ![]⟩ .f32 0x00000000#32) hd h0))
      (broadcastInDim ⟨3, ![M, H, 1]⟩ ![] he (constant ⟨0, ![]⟩ .f32 0x43000000#32))) (broadcastInDim ⟨3, ![M, H, 1]⟩ ![] he (constant ⟨0, ![]⟩ .f32 0x358637BD#32))))))
      (broadcastInDim ⟨3, ![M, H, 128]⟩ ![0, 1, 2] hg (broadcastInDim ⟨3, ![1, 1, 128]⟩ ![2] ha g)) (ix3 r h k)
      = hn (fun k => x (ix3 r h k)) (fun k => g (ix1 k)) k := by
  unfold hn
  refine congr (congrArg (HMul.hMul (α := EReal)) (congrArg (fun z : EReal => x (ix3 r h k) * z) ?_)) ?_
  · exact (spread1_at hM hH _ hb r h k).trans (hrs_host hM hH x hd h0 hc he r h)
  · exact gain_at (by decide) g ha hg r h k

theorem part_at {o : ℕ} (x : (⟨3, ![M, H, 128]⟩ : Shape).Idx → α) (hs : (⟨3, ![M, H, 128]⟩ : Shape).Slices ![0, 0, o] ⟨3, ![M, H, 64]⟩) (r : Fin M) (h : Fin H) (j : Fin 64)
    (k : Fin 128) (hk : k.val = o + j.val) : extractStridedSlice ⟨3, ![M, H, 64]⟩ ![0, 0, o] x hs (ix3 r h j) = x (ix3 r h k) :=
  extractStridedSlice_apply _ x _ _ _ fun (a : Fin 3) => by
    match a with
    | ⟨0, _⟩ => show r.val = 0 + r.val; omega
    | ⟨1, _⟩ => show h.val = 0 + h.val; omega
    | ⟨2, _⟩ => exact hk

theorem turned_host (hM : M ≠ 1) (y : FVec Ideal ⟨3, ![M, H, 128]⟩ .f32) (c s : FVec Ideal ⟨2, ![M, 64]⟩ .f32)
    (h₁ : (⟨3, ![M, H, 128]⟩ : Shape).Slices ![0, 0, 0] ⟨3, ![M, H, 64]⟩) (h₂ : (⟨3, ![M, H, 128]⟩ : Shape).Slices ![0, 0, 64] ⟨3, ![M, H, 64]⟩)
    (ha : (⟨2, ![M, 64]⟩ : Shape).BroadcastsInDim ⟨3, ![M, 1, 64]⟩ ![0, 2]) (hb : (⟨3, ![M, 1, 64]⟩ : Shape).BroadcastsInDim ⟨3, ![M, H, 64]⟩ ![0, 1, 2])
    (hc : Shape.Concatenates [(⟨3, ![M, H, 64]⟩ : Shape), (⟨3, ![M, H, 64]⟩ : Shape)] (⟨3, ![M, H, 128]⟩ : Shape) (2 : Fin 3)) (r : Fin M) (h : Fin H) (k : Fin 128) :
    concatenate (⟨3, ![M, H, 128]⟩ : Shape) (2 : Fin 3)
      [⟨(⟨3, ![M, H, 64]⟩ : Shape), subf (mulf (extractStridedSlice ⟨3, ![M, H, 64]⟩ ![0, 0, 0] y h₁) (broadcastInDim ⟨3, ![M, H, 64]⟩ ![0, 1, 2] hb (broadcastInDim ⟨3, ![M, 1, 64]⟩ ![0, 2] ha c)))
          (mulf (extractStridedSlice ⟨3, ![M, H, 64]⟩ ![0, 0, 64] y h₂) (broadcastInDim ⟨3, ![M, H, 64]⟩ ![0, 1, 2] hb (broadcastInDim ⟨3, ![M, 1, 64]⟩ ![0, 2] ha s)))⟩,
       ⟨(⟨3, ![M, H, 64]⟩ : Shape), addf (mulf (extractStridedSlice ⟨3, ![M, H, 64]⟩ ![0, 0, 64] y h₂) (broadcastInDim ⟨3, ![M, H, 64]⟩ ![0, 1, 2] hb (broadcastInDim ⟨3, ![M, 1, 64]⟩ ![0, 2] ha c)))
          (mulf (extractStridedSlice ⟨3, ![M, H, 64]⟩ ![0, 0, 0] y h₁) (broadcastInDim ⟨3, ![M, H, 64]⟩ ![0, 1, 2] hb (broadcastInDim ⟨3, ![M, 1, 64]⟩ ![0, 2] ha s)))⟩] hc (ix3 r h k)
      = turned (fun k => y (ix3 r h k)) (fun j => c (ix2 r j)) (fun j => s (ix2 r j)) k := by
  have hk := k.isLt
  unfold turned
  by_cases hlt : k.val < 64
  · rw [if_pos hlt]
    refine (concatenate_pair_apply_left (t := (⟨3, ![M, H, 128]⟩ : Shape)) (s₁ := (⟨3, ![M, H, 64]⟩ : Shape)) (s₂ := (⟨3, ![M, H, 64]⟩ : Shape)) (2 : Fin 3) _ _ _ _ rfl
      (ix3 r h (half k)) (fun b => by
        match b with
        | ⟨0, _⟩ => rfl
        | ⟨1, _⟩ => rfl
        | ⟨2, _⟩ => show k.val % 64 = k.val; omega)).trans ?_
    refine congr (congrArg (HSub.hSub (α := EReal)) (congr (congrArg (HMul.hMul (α := EReal)) ?_) (angles_at hM (by decide) c ha hb r h (half k))))
      (congr (congrArg (HMul.hMul (α := EReal)) ?_) (angles_at hM (by decide) s ha hb r h (half k)))
    · exact part_at y h₁ r h (half k) k (by show k.val = 0 + k.val % 64; omega)
    · exact part_at y h₂ r h (half k) (other k) (by show (k.val + 64) % 128 = 64 + k.val % 64; omega)
  · rw [if_neg hlt]
    refine (concatenate_pair_apply_right (t := (⟨3, ![M, H, 128]⟩ : Shape)) (s₁ := (⟨3, ![M, H, 64]⟩ : Shape)) (s₂ := (⟨3, ![M, H, 64]⟩ : Shape)) (2 : Fin 3) _ _ _ _ rfl rfl
      (ix3 r h (half k)) (fun b hb => by
        match b with
        | ⟨0, _⟩ => rfl
        | ⟨1, _⟩ => rfl
        | ⟨2, _⟩ => exact absurd rfl hb) (by show k.val % 64 + 64 = k.val; omega)).trans ?_
    refine congr (congrArg (HAdd.hAdd (α := EReal)) (congr (congrArg (HMul.hMul (α := EReal)) ?_) (angles_at hM (by decide) c ha hb r h (half k))))
      (congr (congrArg (HMul.hMul (α := EReal)) ?_) (angles_at hM (by decide) s ha hb r h (half k)))
    · exact part_at y h₂ r h (half k) k (by show k.val = 64 + k.val % 64; omega)
    · exact part_at y h₁ r h (half k) (other k) (by show (k.val + 64) % 128 = 0 + k.val % 64; omega)

/-- Queries, keys and values one after the other. -/
theorem heads_at (q : (⟨3, ![M, 16, 128]⟩ : Shape).Idx → α) (k v : (⟨3, ![M, 4, 128]⟩ : Shape).Idx → α)
    (hc : Shape.Concatenates [(⟨3, ![M, 16, 128]⟩ : Shape), (⟨3, ![M, 4, 128]⟩ : Shape), (⟨3, ![M, 4, 128]⟩ : Shape)] (⟨3, ![M, 24, 128]⟩ : Shape) (1 : Fin 3))
    (r : Fin M) (h : Fin 24) (l : Fin 128) (e : α) (hq : ∀ j : Fin 16, h.val = j.val → q (ix3 r j l) = e) (hk : ∀ j : Fin 4, h.val = 16 + j.val → k (ix3 r j l) = e)
    (hv : ∀ j : Fin 4, h.val = 20 + j.val → v (ix3 r j l) = e) :
    concatenate (⟨3, ![M, 24, 128]⟩ : Shape) (1 : Fin 3) [⟨(⟨3, ![M, 16, 128]⟩ : Shape), q⟩, ⟨(⟨3, ![M, 4, 128]⟩ : Shape), k⟩, ⟨(⟨3, ![M, 4, 128]⟩ : Shape), v⟩] hc (ix3 r h l) = e := by
  have hh := h.isLt
  by_cases h1 : h.val < 16
  · refine (concatenate_apply_piece (t := (⟨3, ![M, 24, 128]⟩ : Shape)) (1 : Fin 3) [⟨(⟨3, ![M, 16, 128]⟩ : Shape), q⟩, ⟨(⟨3, ![M, 4, 128]⟩ : Shape), k⟩, ⟨(⟨3, ![M, 4, 128]⟩ : Shape), v⟩] hc (ix3 r h l) 0 (by show 0 < 3; decide) (⟨3, ![M, 16, 128]⟩ : Shape) q rfl rfl 0 rfl
      (ix3 r (⟨h.val, h1⟩ : Fin 16) l) (fun b hb => by
        match b with
        | ⟨0, _⟩ => rfl
        | ⟨1, _⟩ => exact absurd rfl hb
        | ⟨2, _⟩ => rfl) (by show 0 + h.val = h.val; omega)).trans (hq _ rfl)
  · by_cases h2 : h.val < 20
    · refine (concatenate_apply_piece (t := (⟨3, ![M, 24, 128]⟩ : Shape)) (1 : Fin 3) [⟨(⟨3, ![M, 16, 128]⟩ : Shape), q⟩, ⟨(⟨3, ![M, 4, 128]⟩ : Shape), k⟩, ⟨(⟨3, ![M, 4, 128]⟩ : Shape), v⟩] hc (ix3 r h l) 1 (by show 1 < 3; decide) (⟨3, ![M, 4, 128]⟩ : Shape) k rfl rfl 16 rfl
        (ix3 r (⟨h.val - 16, by omega⟩ : Fin 4) l) (fun b hb => by
          match b with
          | ⟨0, _⟩ => rfl
          | ⟨1, _⟩ => exact absurd rfl hb
          | ⟨2, _⟩ => rfl) (by show 16 + (h.val - 16) = h.val; omega)).trans (hk _ (by show h.val = 16 + (h.val - 16); omega))
    · refine (concatenate_apply_piece (t := (⟨3, ![M, 24, 128]⟩ : Shape)) (1 : Fin 3) [⟨(⟨3, ![M, 16, 128]⟩ : Shape), q⟩, ⟨(⟨3, ![M, 4, 128]⟩ : Shape), k⟩, ⟨(⟨3, ![M, 4, 128]⟩ : Shape), v⟩] hc (ix3 r h l) 2 (by show 2 < 3; decide) (⟨3, ![M, 4, 128]⟩ : Shape) v rfl rfl 20 rfl
        (ix3 r (⟨h.val - 20, by omega⟩ : Fin 4) l) (fun b hb => by
          match b with
          | ⟨0, _⟩ => rfl
          | ⟨1, _⟩ => exact absurd rfl hb
          | ⟨2, _⟩ => rfl) (by show 20 + (h.val - 20) = h.val; omega)).trans (hv _ (by show h.val = 20 + (h.val - 20); omega))

/-- The streams one after the other, head by head, and the heads laid out as columns. -/
theorem stream3_at (x₁ : (⟨3, ![16384, 24, 128]⟩ : Shape).Idx → α) (x₂ : (⟨3, ![512, 24, 128]⟩ : Shape).Idx → α)
    (h : Shape.Concatenates [(⟨3, ![16384, 24, 128]⟩ : Shape), (⟨3, ![512, 24, 128]⟩ : Shape)] (⟨3, ![16896, 24, 128]⟩ : Shape) (0 : Fin 3))
    (hc : (⟨3, ![16896, 24, 128]⟩ : Shape).ShapeCasts ⟨2, ![16896, 3072]⟩) (R : Fin 16896) (p : Fin 3072) (v : α)
    (h₁ : ∀ r : Fin 16384, R.val = 0 + r.val → stream R = 0 → x₁ (ix3 r (headOf p) (laneOf p)) = v)
    (h₂ : ∀ r : Fin 512, R.val = 16384 + r.val → stream R = 1 → x₂ (ix3 r (headOf p) (laneOf p)) = v) :
    shapeCast ⟨2, ![16896, 3072]⟩ (concatenate (⟨3, ![16896, 24, 128]⟩ : Shape) (0 : Fin 3) [⟨(⟨3, ![16384, 24, 128]⟩ : Shape), x₁⟩, ⟨(⟨3, ![512, 24, 128]⟩ : Shape), x₂⟩] h) hc (ix2 R p) = v := by
  have hR := R.isLt
  refine (shapeCast_apply (t := ⟨2, ![16896, 3072]⟩) _ _ (ix2 R p) (ix3 R (headOf p) (laneOf p)) (by
    rw [Shape.rowMajor_val_two, Shape.rowMajor_val_three]
    show (R.val * 24 + p.val / 128) * 128 + p.val % 128 = R.val * 3072 + p.val
    omega)).trans ?_
  by_cases hlt : R.val < 16384
  · refine (concatenate_pair_apply_left (t := (⟨3, ![16896, 24, 128]⟩ : Shape)) (s₁ := (⟨3, ![16384, 24, 128]⟩ : Shape)) (s₂ := (⟨3, ![512, 24, 128]⟩ : Shape)) (0 : Fin 3) _ _ _ _ rfl
      (ix3 (⟨R.val, hlt⟩ : Fin 16384) (headOf p) (laneOf p)) (fun b => by
        match b with
        | ⟨0, _⟩ => rfl
        | ⟨1, _⟩ => rfl
        | ⟨2, _⟩ => rfl)).trans ?_
    exact h₁ ⟨R.val, hlt⟩ (by show R.val = 0 + R.val; omega) (if_pos hlt)
  · refine (concatenate_pair_apply_right (t := (⟨3, ![16896, 24, 128]⟩ : Shape)) (s₁ := (⟨3, ![16384, 24, 128]⟩ : Shape)) (s₂ := (⟨3, ![512, 24, 128]⟩ : Shape)) (0 : Fin 3) _ _ _ _ rfl rfl
      (ix3 (⟨R.val - 16384, by omega⟩ : Fin 512) (headOf p) (laneOf p)) (fun b hb => by
        match b with
        | ⟨0, _⟩ => exact absurd rfl hb
        | ⟨1, _⟩ => rfl
        | ⟨2, _⟩ => rfl) (by show R.val - 16384 + 16384 = R.val; omega)).trans ?_
    exact h₂ ⟨R.val - 16384, by omega⟩ (by show R.val = 16384 + (R.val - 16384); omega) (if_neg hlt)

end Cert.Mix

end
-- ==== Proof.QkvUnit.lean ====
module

public import proofs.«01_k».proof.Proof.Qkv
public import proofs.«01_k».proof.Proof.Gen.Kernel8Ideal.Frame
public import Idealize.ShloMosaic.Lib.Pipeline.Covers
public import Idealize.ShloMosaic.Lib.Pipeline.ValueKit.Geometry
public import Idealize.ShloMosaic.Lib.Tactic

/-! # The array the query, key and value projection leaves, element by element -/

@[expose] public section

set_option maxRecDepth 16384

noncomputable section

namespace Cert.Kernel8Ideal.Hand

open Cert.Kernel8Ideal Cert.Kernel8Ideal.Gen Cert.Mix
open Idealize.ShloMosaic hiding ix0 ix1 ix2 ix3 ix4 eq_ix2
open Idealize.ShloMosaic.TcCoe
open Idealize.SL Idealize.SL.Sem
open Idealize.ShloMosaic.Pipeline (Dat Cfg Window)
open Idealize.ShloMosaic.ValueIdx (ix1 ix2 ix3 eq_ix2)
open scoped BigOperators

theorem scr_at (x0 : FVec Ideal S512x2048 .f32) (x1 : FVec Ideal S1x2048 .f32) (x2 x3 : FVec Ideal S1x1x2048 .f32) (r : Fin 512) (n : Fin 2048) :
    k0_pay1 (F := Ideal) x0 x1 x2 x3 (ix2 r n)
      = normed (fun k => x0 (ix2 r k)) (fun k => x1 (ix2 (0 : Fin 1) k)) (fun k => x2 (ix3 (0 : Fin 1) (0 : Fin 1) k)) (fun k => x3 (ix3 (0 : Fin 1) (0 : Fin 1) k)) n := by
  unfold k0_pay1
  exact (cast_id _ _ _).trans (norm_at (M := 512) (by decide) x0 x1 x2 x3 _ _ _ _ _ _ _ _ r n)

theorem acc_at (z : FVec Ideal S512x2048 .bf16) (x4 : FVec Ideal S2048x512 .bf16) (r : Fin 512) (n : Fin 512) :
    k0_pay2 (F := Ideal) z x4 (ix2 r n) = ∑ k : Fin 2048, (z (ix2 r k) : EReal) * x4 (ix2 k n) := by
  unfold k0_pay2
  exact mat_at (M := 512) (K := 2048) (N := 512) z x4 _ r n

/-- A lane of a head of a block: normed, turned or not, scaled. -/
def one (A : Fin 512 → EReal) (g : Fin 128 → EReal) (b : BitVec 1) (q : EReal) (C S : Fin 128 → EReal) (j : Fin 4) (k : Fin 128) : EReal :=
  Scalar.select b (hn (fun k => A ⟨j.val * 128 + k.val, by omega⟩) g k * C k + hn (fun k => A ⟨j.val * 128 + k.val, by omega⟩) g (other k) * S k)
    (hn (fun k => A ⟨j.val * 128 + k.val, by omega⟩) g k) * q

/-- The normed heads of a block from column `o` on, and what is stored of them. -/
def normArr (o : ℕ) (hs : S512x512.Slices ![0, o] S512x128) (acc : FVec Ideal S512x512 .f32) (g : FVec Ideal S1x128 .f32) : FVec Ideal S512x128 .f32 :=
  mulf (mulf (extractStridedSlice S512x128 ![0, o] acc hs) (broadcastTo S512x128 (rsqrt (addf (divf (shapeCast S512x1
    (multiReduction .add [1] S512 (mulf (extractStridedSlice S512x128 ![0, o] acc hs) (extractStridedSlice S512x128 ![0, o] acc hs)) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 g broadcasts_S1x128_S512x128)
def headArr (o : ℕ) (hs : S512x512.Slices ![0, o] S512x128) (acc : FVec Ideal S512x512 .f32) (g : FVec Ideal S1x128 .f32) (b : BitVec 1) (q : Ideal .f32) (C S : FVec Ideal S512x128 .f32) :
    FVec Ideal S512x128 .bf16 :=
  truncf .bf16 (mulf (Scalar.select b (addf (mulf (normArr o hs acc g) (shapeCast S512x128 C shapeCasts_S512x128_S512x128))
    (mulf (dynamicRotate 1 64#32 none (normArr o hs acc g) rotates_S512x128_d1) (shapeCast S512x128 S shapeCasts_S512x128_S512x128))) (normArr o hs acc g)) (broadcast S512x128 q)) bitsLt_bf16_f32

theorem norm_lane (o : ℕ) (hs : S512x512.Slices ![0, o] S512x128) (acc : FVec Ideal S512x512 .f32) (g : FVec Ideal S1x128 .f32) (j : Fin 4) (hj : o = j.val * 128) (r : Fin 512) (k : Fin 128) :
    normArr o hs acc g (ix2 r k) = hn (fun k => acc (ix2 r (⟨j.val * 128 + k.val, by omega⟩ : Fin 512))) (fun k => g (ix2 (0 : Fin 1) k)) k := by
  unfold normArr
  refine (hn_dev (M := 512) (by decide) _ g _ _ _ _ _ _ r k).trans ?_
  exact congrFun (congr (congrArg hn (funext fun k => cols_at (M := 512) (N := 128) (P := 512) acc hs r k _ (by show j.val * 128 + k.val = o + k.val; omega))) rfl) k

theorem select_at {s : Shape} {α : Type} (b : BitVec 1) (x y : s.Idx → α) (i : s.Idx) : Scalar.select b x y i = Scalar.select b (x i) (y i) := by
  unfold Scalar.select
  by_cases h : b = 1
  · rw [if_pos h, if_pos h]
  · rw [if_neg h, if_neg h]

theorem head_lane (o : ℕ) (hs : S512x512.Slices ![0, o] S512x128) (acc : FVec Ideal S512x512 .f32) (g : FVec Ideal S1x128 .f32) (b : BitVec 1) (q : Ideal .f32) (C S : FVec Ideal S512x128 .f32)
    (j : Fin 4) (hj : o = j.val * 128) (r : Fin 512) (k : Fin 128) :
    headArr o hs acc g b q C S (ix2 r k)
      = one (fun n => acc (ix2 r n)) (fun k => g (ix2 (0 : Fin 1) k)) b q (fun k => C (ix2 r k)) (fun k => S (ix2 r k)) j k := by
  unfold headArr one
  refine congrArg (fun z : EReal => z * q) ((select_at b _ _ _).trans ?_)
  refine congr (congrArg (Scalar.select b) ?_) (norm_lane o hs acc g j hj r k)
  refine congr (congrArg (HAdd.hAdd (α := EReal)) (congr (congrArg (HMul.hMul (α := EReal)) (norm_lane o hs acc g j hj r k)) (cast_id C _ _)))
    (congr (congrArg (HMul.hMul (α := EReal)) ((rot_at (M := 512) _ _ r k).trans (norm_lane o hs acc g j hj r (other k)))) (cast_id S _ _))

theorem store0 (a0 a1 : BitVec 32) (v6 : FVec Ideal S512x512 .f32) (g1 g2 : FVec Ideal S1x128 .f32) (C S : FVec Ideal S512x128 .f32) :
    k0_pay8 (F := Ideal) a0 a1 v6 g1 g2 C S = headArr 0 slices_S512x512_o0_0_S512x128 v6 (k0_pay6 a1 g1 g2) (Scalar.cmpi .slt a0 32#32) (k0_pay7 (F := Ideal) a1) C S := rfl
theorem store1 (b : BitVec 1) (q : Ideal .f32) (v6 : FVec Ideal S512x512 .f32) (g : FVec Ideal S1x128 .f32) (C S : FVec Ideal S512x128 .f32) :
    k0_pay11 (F := Ideal) g q b (k0_pay9 v6) (k0_pay10 v6) C S = headArr 128 slices_S512x512_o0_128_S512x128 v6 g b q C S := rfl
theorem store2 (b : BitVec 1) (q : Ideal .f32) (v6 : FVec Ideal S512x512 .f32) (g : FVec Ideal S1x128 .f32) (C S : FVec Ideal S512x128 .f32) :
    k0_pay3 (F := Ideal) q b (k0_pay12 v6 g) (k0_pay13 v6 g C) (k0_pay14 v6 g S) = headArr 256 slices_S512x512_o0_256_S512x128 v6 g b q C S := rfl
theorem store3 (b : BitVec 1) (q : Ideal .f32) (z : FVec Ideal S512x2048 .bf16) (x4 : FVec Ideal S2048x512 .bf16) (g : FVec Ideal S1x128 .f32) (C S : FVec Ideal S512x128 .f32) :
    k0_pay4 (F := Ideal) z x4 g q b C S = headArr 384 slices_S512x512_o0_384_S512x128 (k0_pay2 z x4) g b q C S := rfl

theorem hz2 : (![0, 0] : Fin 2 → ℕ) = fun _ => 0 := by decide
theorem hz3 : (![0, 0, 0] : Fin 3 → ℕ) = fun _ => 0 := by decide

/-- The block of queries or of keys a point leaves. -/
def blk (i : grid0.Coords) (z : FVec Ideal S512x2048 .bf16) (x4 : FVec Ideal S2048x512 .bf16) (x5 x6 : FVec Ideal S1x128 .f32) (x7 x8 : FVec Ideal S512x128 .f32) : FVec Ideal S512x512 .bf16 :=
  fun y => one (fun n => k0_pay2 (F := Ideal) z x4 (ix2 (y 0) n)) (fun k => k0_pay6 (F := Ideal) (BitVec.ofNat 32 (i 1).val) x5 x6 (ix2 (0 : Fin 1) k))
    (Scalar.cmpi .slt (BitVec.ofNat 32 (i 0).val) 32#32) (k0_pay7 (F := Ideal) (BitVec.ofNat 32 (i 1).val)) (fun k => x7 (ix2 (y 0) k)) (fun k => x8 (ix2 (y 0) k))
    (⟨(y 1).val / 128, by have h : (y 1).val < 512 := (y 1).isLt; omega⟩ : Fin 4) (⟨(y 1).val % 128, by omega⟩ : Fin 128)

theorem blk_at (i : grid0.Coords) (z : FVec Ideal S512x2048 .bf16) (x4 : FVec Ideal S2048x512 .bf16) (x5 x6 : FVec Ideal S1x128 .f32) (x7 x8 : FVec Ideal S512x128 .f32) (r n : Fin 512) :
    blk i z x4 x5 x6 x7 x8 (ix2 r n) = one (fun n => k0_pay2 (F := Ideal) z x4 (ix2 r n)) (fun k => k0_pay6 (F := Ideal) (BitVec.ofNat 32 (i 1).val) x5 x6 (ix2 (0 : Fin 1) k))
      (Scalar.cmpi .slt (BitVec.ofNat 32 (i 0).val) 32#32) (k0_pay7 (F := Ideal) (BitVec.ofNat 32 (i 1).val)) (fun k => x7 (ix2 r k)) (fun k => x8 (ix2 r k))
      (⟨n.val / 128, by have := n.isLt; omega⟩ : Fin 4) (⟨n.val % 128, by omega⟩ : Fin 128) := rfl

theorem blk_piece (i : grid0.Coords) (z : FVec Ideal S512x2048 .bf16) (x4 : FVec Ideal S2048x512 .bf16) (x5 x6 : FVec Ideal S1x128 .f32) (x7 x8 : FVec Ideal S512x128 .f32)
    (o : ℕ) (hs : S512x512.Slices ![0, o] S512x128) (inb : ∀ a, (![0, o] : Fin 2 → ℕ) a + S512x128.size a ≤ S512x512.size a) (j : Fin 4) (hj : o = j.val * 128)
    {pay : FVec Ideal S512x128 .bf16} (hpay : pay = headArr o hs (k0_pay2 (F := Ideal) z x4) (k0_pay6 (F := Ideal) (BitVec.ofNat 32 (i 1).val) x5 x6)
      (Scalar.cmpi .slt (BitVec.ofNat 32 (i 0).val) 32#32) (k0_pay7 (F := Ideal) (BitVec.ofNat 32 (i 1).val)) x7 x8) (x : S512x128.Idx) :
    pay x = blk i z x4 x5 x6 x7 x8 ((Rect.unit (s := S512x512) ![0, o] S512x128.size inb).emb x) := by
  obtain ⟨r, k, rfl⟩ : ∃ (r : Fin 512) (k : Fin 128), x = ix2 r k := ⟨x 0, x 1, eq_ix2 _⟩
  have hk := k.isLt
  have hj4 := j.isLt
  have e : (Rect.unit (s := S512x512) ![0, o] S512x128.size inb).emb (ix2 r k) = (ix2 r (⟨j.val * 128 + k.val, by omega⟩ : Fin 512) : S512x512.Idx) := by
    refine funext fun (a : Fin 2) => Fin.ext ?_
    match a with
    | ⟨0, _⟩ => show 0 + 1 * r.val = r.val; omega
    | ⟨1, _⟩ => show o + 1 * k.val = j.val * 128 + k.val; omega
  rw [e, hpay, head_lane o hs _ _ _ _ _ _ j hj r k]
  unfold blk
  refine congr (congrArg _ (Fin.ext ?_)) (Fin.ext ?_)
  · show j.val = (j.val * 128 + k.val) / 128
    omega
  · show k.val = (j.val * 128 + k.val) % 128
    omega

/-- What the first point of a row of blocks leaves in the scratch and in the result, and what the others do. -/
theorem sout_A (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S2048x512 .bf16) (h6 : a6.IsWhole) (a7 : Memref sig .tc .vmem S1x128 .f32) (h7 : a7.IsWhole)
    (a8 : Memref sig .tc .vmem S1x128 .f32) (h8 : a8.IsWhole) (a9 : Memref sig .tc .vmem S512x128 .f32) (h9 : a9.IsWhole) (a10 : Memref sig .tc .vmem S512x128 .f32) (h10 : a10.IsWhole)
    (a11 : Memref sig .tc .vmem S512x512 .bf16) (h11 : a11.IsWhole) (a12 : Memref sig .tc .vmem S512x2048 .bf16) (h12 : a12.IsWhole) (hc0 : cond0_0 i) (hc1 : cond0_1 i) (hc2 : ¬cond0_2 i)
    (x0 : Vec Ideal S512x2048 .f32) (x1 : Vec Ideal S1x2048 .f32) (x2 : Vec Ideal S1x1x2048 .f32) (x3 : Vec Ideal S1x1x2048 .f32) (x4 : Vec Ideal S2048x512 .bf16) (x5 : Vec Ideal S1x128 .f32) (x6 : Vec Ideal S1x128 .f32) (x7 : Vec Ideal S512x128 .f32) (x8 : Vec Ideal S512x128 .f32) :
    sout0_A_0 c i a2 h2 a3 h3 a4 h4 a5 h5 a6 h6 a7 h7 a8 h8 a9 h9 a10 h10 a11 h11 a12 h12 hc0 hc1 hc2 x0 x1 x2 x3 x4 x5 x6 x7 x8 = k0_pay1 x0 x1 x2 x3 := by
  unfold sout0_A_0
  rw [View.read_writes_eq_canon _ _ _ (scover0_A_0 c i a2 h2 a3 h3 a4 h4 a5 h5 a6 h6 a7 h7 a8 h8 a9 h9 a10 h10 a11 h11 a12 h12 hc0 hc1 hc2 x0 x1 x2 x3 x4 x5 x6 x7 x8)]
  unfold kernelRun0_A
  dsimp only
  sl_unfold_words
  rw [View.canon_unit_zero (S := S512x2048) hz2]
  simp only [View.readAt_eq_ld, h2.read_unread, h3.read_unread, h4.read_unread, h5.read_unread, h6.read_unread, h7.read_unread, h8.read_unread, h9.read_unread, h10.read_unread, h12.read_unread,
    View.ld_unit_zero (S := S512x2048) hz2, View.ld_unit_zero (S := S1x2048) hz2, View.ld_unit_zero (S := S2048x512) hz2, View.ld_unit_zero (S := S1x128) hz2,
    View.ld_unit_zero (S := S512x128) hz2, View.ld_unit_zero (S := S1x1x2048) hz3, shapeCast_self]

theorem out_A (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S2048x512 .bf16) (h6 : a6.IsWhole) (a7 : Memref sig .tc .vmem S1x128 .f32) (h7 : a7.IsWhole)
    (a8 : Memref sig .tc .vmem S1x128 .f32) (h8 : a8.IsWhole) (a9 : Memref sig .tc .vmem S512x128 .f32) (h9 : a9.IsWhole) (a10 : Memref sig .tc .vmem S512x128 .f32) (h10 : a10.IsWhole)
    (a11 : Memref sig .tc .vmem S512x512 .bf16) (h11 : a11.IsWhole) (a12 : Memref sig .tc .vmem S512x2048 .bf16) (h12 : a12.IsWhole) (hc0 : cond0_0 i) (hc1 : cond0_1 i) (hc2 : ¬cond0_2 i)
    (x0 : Vec Ideal S512x2048 .f32) (x1 : Vec Ideal S1x2048 .f32) (x2 : Vec Ideal S1x1x2048 .f32) (x3 : Vec Ideal S1x1x2048 .f32) (x4 : Vec Ideal S2048x512 .bf16) (x5 : Vec Ideal S1x128 .f32) (x6 : Vec Ideal S1x128 .f32) (x7 : Vec Ideal S512x128 .f32) (x8 : Vec Ideal S512x128 .f32) :
    out0_A_9 c i a2 h2 a3 h3 a4 h4 a5 h5 a6 h6 a7 h7 a8 h8 a9 h9 a10 h10 a11 h11 a12 h12 hc0 hc1 hc2 x0 x1 x2 x3 x4 x5 x6 x7 x8 = blk i (k0_pay1 x0 x1 x2 x3) x4 x5 x6 x7 x8 := by
  unfold out0_A_9
  rw [View.read_writes_eq_canon _ _ _ (cover0_A_9 c i a2 h2 a3 h3 a4 h4 a5 h5 a6 h6 a7 h7 a8 h8 a9 h9 a10 h10 a11 h11 a12 h12 hc0 hc1 hc2 x0 x1 x2 x3 x4 x5 x6 x7 x8)]
  have hcov := cover0_A_9 c i a2 h2 a3 h3 a4 h4 a5 h5 a6 h6 a7 h7 a8 h8 a9 h9 a10 h10 a11 h11 a12 h12 hc0 hc1 hc2 x0 x1 x2 x3 x4 x5 x6 x7 x8
  revert hcov
  unfold kernelRun0_A
  dsimp only
  sl_unfold_words
  rw [View.readCov_unit_zero (S := S512x2048) _ hz2]
  simp only [View.readAt_eq_ld, h2.read_unread, h3.read_unread, h4.read_unread, h5.read_unread, h6.read_unread, h7.read_unread, h8.read_unread, h9.read_unread, h10.read_unread, h12.read_unread,
    View.ld_unit_zero (S := S512x2048) hz2, View.ld_unit_zero (S := S1x2048) hz2, View.ld_unit_zero (S := S2048x512) hz2, View.ld_unit_zero (S := S1x128) hz2,
    View.ld_unit_zero (S := S512x128) hz2, View.ld_unit_zero (S := S1x1x2048) hz3, shapeCast_self]
  intro hcov
  refine funext fun y => View.canon_apply_of_pieces _ _ (fun p hp => ?_) y (hcov y)
  simp only [List.mem_cons, List.not_mem_nil, or_false] at hp
  rcases hp with rfl | rfl | rfl | rfl
  · exact fun x => blk_piece i _ x4 x5 x6 x7 x8 384 slices_S512x512_o0_384_S512x128 inb_S512x512_S512x128_0_384 3 rfl (store3 _ _ _ x4 _ x7 x8) x
  · exact fun x => blk_piece i _ x4 x5 x6 x7 x8 256 slices_S512x512_o0_256_S512x128 inb_S512x512_S512x128_0_256 2 rfl (store2 _ _ _ _ x7 x8) x
  · exact fun x => blk_piece i _ x4 x5 x6 x7 x8 128 slices_S512x512_o0_128_S512x128 inb_S512x512_S512x128_0_128 1 rfl (store1 _ _ _ _ x7 x8) x
  · exact fun x => blk_piece i _ x4 x5 x6 x7 x8 0 slices_S512x512_o0_0_S512x128 inb_S512x512_S512x128_0_0 0 rfl (store0 _ _ _ x5 x6 x7 x8) x

theorem out_B (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S2048x512 .bf16) (h6 : a6.IsWhole) (a7 : Memref sig .tc .vmem S1x128 .f32) (h7 : a7.IsWhole)
    (a8 : Memref sig .tc .vmem S1x128 .f32) (h8 : a8.IsWhole) (a9 : Memref sig .tc .vmem S512x128 .f32) (h9 : a9.IsWhole) (a10 : Memref sig .tc .vmem S512x128 .f32) (h10 : a10.IsWhole)
    (a11 : Memref sig .tc .vmem S512x512 .bf16) (h11 : a11.IsWhole) (a12 : Memref sig .tc .vmem S512x2048 .bf16) (h12 : a12.IsWhole) (hc0 : ¬cond0_0 i) (hc1 : cond0_1 i) (hc2 : ¬cond0_2 i)
    (x0 : Vec Ideal S512x2048 .f32) (x1 : Vec Ideal S1x2048 .f32) (x2 : Vec Ideal S1x1x2048 .f32) (x3 : Vec Ideal S1x1x2048 .f32) (x4 : Vec Ideal S2048x512 .bf16) (x5 : Vec Ideal S1x128 .f32) (x6 : Vec Ideal S1x128 .f32) (x7 : Vec Ideal S512x128 .f32) (x8 : Vec Ideal S512x128 .f32) (xs : Vec Ideal S512x2048 .bf16) :
    out0_B_9 c i a2 h2 a3 h3 a4 h4 a5 h5 a6 h6 a7 h7 a8 h8 a9 h9 a10 h10 a11 h11 a12 h12 hc0 hc1 hc2 x0 x1 x2 x3 x4 x5 x6 x7 x8 xs = blk i (xs) x4 x5 x6 x7 x8 := by
  unfold out0_B_9
  rw [View.read_writes_eq_canon _ _ _ (cover0_B_9 c i a2 h2 a3 h3 a4 h4 a5 h5 a6 h6 a7 h7 a8 h8 a9 h9 a10 h10 a11 h11 a12 h12 hc0 hc1 hc2 x0 x1 x2 x3 x4 x5 x6 x7 x8 xs)]
  have hcov := cover0_B_9 c i a2 h2 a3 h3 a4 h4 a5 h5 a6 h6 a7 h7 a8 h8 a9 h9 a10 h10 a11 h11 a12 h12 hc0 hc1 hc2 x0 x1 x2 x3 x4 x5 x6 x7 x8 xs
  revert hcov
  unfold kernelRun0_B
  dsimp only
  sl_unfold_words
  simp only [View.readAt_eq_ld, h2.read_unread, h3.read_unread, h4.read_unread, h5.read_unread, h6.read_unread, h7.read_unread, h8.read_unread, h9.read_unread, h10.read_unread, h12.read_unread,
    View.ld_unit_zero (S := S512x2048) hz2, View.ld_unit_zero (S := S1x2048) hz2, View.ld_unit_zero (S := S2048x512) hz2, View.ld_unit_zero (S := S1x128) hz2,
    View.ld_unit_zero (S := S512x128) hz2, View.ld_unit_zero (S := S1x1x2048) hz3, shapeCast_self]
  intro hcov
  refine funext fun y => View.canon_apply_of_pieces _ _ (fun p hp => ?_) y (hcov y)
  simp only [List.mem_cons, List.not_mem_nil, or_false] at hp
  rcases hp with rfl | rfl | rfl | rfl
  · exact fun x => blk_piece i _ x4 x5 x6 x7 x8 384 slices_S512x512_o0_384_S512x128 inb_S512x512_S512x128_0_384 3 rfl (store3 _ _ _ x4 _ x7 x8) x
  · exact fun x => blk_piece i _ x4 x5 x6 x7 x8 256 slices_S512x512_o0_256_S512x128 inb_S512x512_S512x128_0_256 2 rfl (store2 _ _ _ _ x7 x8) x
  · exact fun x => blk_piece i _ x4 x5 x6 x7 x8 128 slices_S512x512_o0_128_S512x128 inb_S512x512_S512x128_0_128 1 rfl (store1 _ _ _ _ x7 x8) x
  · exact fun x => blk_piece i _ x4 x5 x6 x7 x8 0 slices_S512x512_o0_0_S512x128 inb_S512x512_S512x128_0_0 0 rfl (store0 _ _ _ x5 x6 x7 x8) x

theorem out_C (c : Dev nD) (i : grid0.Coords)
    (a2 : Memref sig .tc .vmem S512x2048 .f32) (h2 : a2.IsWhole) (a3 : Memref sig .tc .vmem S1x2048 .f32) (h3 : a3.IsWhole) (a4 : Memref sig .tc .vmem S1x1x2048 .f32) (h4 : a4.IsWhole)
    (a5 : Memref sig .tc .vmem S1x1x2048 .f32) (h5 : a5.IsWhole) (a6 : Memref sig .tc .vmem S2048x512 .bf16) (h6 : a6.IsWhole) (a7 : Memref sig .tc .vmem S1x128 .f32) (h7 : a7.IsWhole)
    (a8 : Memref sig .tc .vmem S1x128 .f32) (h8 : a8.IsWhole) (a9 : Memref sig .tc .vmem S512x128 .f32) (h9 : a9.IsWhole) (a10 : Memref sig .tc .vmem S512x128 .f32) (h10 : a10.IsWhole)
    (a11 : Memref sig .tc .vmem S512x512 .bf16) (h11 : a11.IsWhole) (a12 : Memref sig .tc .vmem S512x2048 .bf16) (h12 : a12.IsWhole) (hc0 : ¬cond0_0 i) (hc1 : ¬cond0_1 i) (hc2 : cond0_2 i)
    (x0 : Vec Ideal S512x2048 .f32) (x1 : Vec Ideal S1x2048 .f32) (x2 : Vec Ideal S1x1x2048 .f32) (x3 : Vec Ideal S1x1x2048 .f32) (x4 : Vec Ideal S2048x512 .bf16) (x5 : Vec Ideal S1x128 .f32) (x6 : Vec Ideal S1x128 .f32) (x7 : Vec Ideal S512x128 .f32) (x8 : Vec Ideal S512x128 .f32) (xs : Vec Ideal S512x2048 .bf16) :
    out0_C_9 c i a2 h2 a3 h3 a4 h4 a5 h5 a6 h6 a7 h7 a8 h8 a9 h9 a10 h10 a11 h11 a12 h12 hc0 hc1 hc2 x0 x1 x2 x3 x4 x5 x6 x7 x8 xs = k0_pay5 xs x4 := by
  unfold out0_C_9
  rw [View.read_writes_eq_canon _ _ _ (cover0_C_9 c i a2 h2 a3 h3 a4 h4 a5 h5 a6 h6 a7 h7 a8 h8 a9 h9 a10 h10 a11 h11 a12 h12 hc0 hc1 hc2 x0 x1 x2 x3 x4 x5 x6 x7 x8 xs)]
  unfold kernelRun0_C
  dsimp only
  sl_unfold_words
  rw [View.canon_unit_zero (S := S512x512) hz2]
  simp only [View.readAt_eq_ld, h2.read_unread, h3.read_unread, h4.read_unread, h5.read_unread, h6.read_unread, h7.read_unread, h8.read_unread, h9.read_unread, h10.read_unread, h12.read_unread,
    View.ld_unit_zero (S := S512x2048) hz2, View.ld_unit_zero (S := S1x2048) hz2, View.ld_unit_zero (S := S2048x512) hz2, View.ld_unit_zero (S := S1x128) hz2,
    View.ld_unit_zero (S := S512x128) hz2, View.ld_unit_zero (S := S1x1x2048) hz3, shapeCast_self]

variable (m : (ℓ : Loc nD τ sig) → Buf (Elt Ideal) ℓ)

/-- The arguments as arrays. -/
def argX (c : Dev nD) : S16896x2048.Idx → EReal := m ((c.tc : Thread nD τ).loc main_arg0)
def argG (c : Dev nD) : S2048.Idx → EReal := m ((c.tc : Thread nD τ).loc main_arg1)
def argM (c : Dev nD) : S2x1x12288.Idx → EReal := m ((c.tc : Thread nD τ).loc main_arg2)
def argW (c : Dev nD) : S2048x3072.Idx → EReal := m ((c.tc : Thread nD τ).loc main_arg3)
def argQ (c : Dev nD) : S128.Idx → EReal := m ((c.tc : Thread nD τ).loc main_arg4)
def argK (c : Dev nD) : S128.Idx → EReal := m ((c.tc : Thread nD τ).loc main_arg5)
def argC (c : Dev nD) : S16384x64.Idx → EReal := m ((c.tc : Thread nD τ).loc main_arg6)
def argS (c : Dev nD) : S16384x64.Idx → EReal := m ((c.tc : Thread nD τ).loc main_arg7)

theorem V_w (c : Dev nD) : V m c main_v3 = (truncf .bf16 (m ((c.tc : Thread nD τ).loc main_arg3) : S2048x3072.Idx → Ideal .f32) bitsLt_bf16_f32 : S2048x3072.Idx → Ideal .bf16) := by
  unfold V hostOps0
  after_results <;> rfl
theorem V_g (c : Dev nD) : V m c main_v4 = (shapeCast S1x2048 (m ((c.tc : Thread nD τ).loc main_arg1) : S2048.Idx → Ideal .f32) shapeCasts_S2048_S1x2048 : S1x2048.Idx → Ideal .f32) := by
  unfold V hostOps0
  after_results <;> rfl
theorem V_q (c : Dev nD) : V m c main_v5 = (shapeCast S1x128 (m ((c.tc : Thread nD τ).loc main_arg4) : S128.Idx → Ideal .f32) shapeCasts_S128_S1x128 : S1x128.Idx → Ideal .f32) := by
  unfold V hostOps0
  after_results <;> rfl
theorem V_k (c : Dev nD) : V m c main_v6 = (shapeCast S1x128 (m ((c.tc : Thread nD τ).loc main_arg5) : S128.Idx → Ideal .f32) shapeCasts_S128_S1x128 : S1x128.Idx → Ideal .f32) := by
  unfold V hostOps0
  after_results <;> rfl
theorem V_c (c : Dev nD) : V m c main_v0 = (concatenate S16384x128 1 [⟨S16384x64, (m ((c.tc : Thread nD τ).loc main_arg6) : S16384x64.Idx → Ideal .f32)⟩,
    ⟨S16384x64, (m ((c.tc : Thread nD τ).loc main_arg6) : S16384x64.Idx → Ideal .f32)⟩] concatenates_S16384x64_S16384x64_S16384x128_d1 : S16384x128.Idx → Ideal .f32) := by
  unfold V hostOps0
  after_results <;> rfl
theorem V_s (c : Dev nD) : V m c main_v2 = (concatenate S16384x128 1 [⟨S16384x64, (Host.negf (m ((c.tc : Thread nD τ).loc main_arg7) : S16384x64.Idx → Ideal .f32) : S16384x64.Idx → Ideal .f32)⟩,
    ⟨S16384x64, (m ((c.tc : Thread nD τ).loc main_arg7) : S16384x64.Idx → Ideal .f32)⟩] concatenates_S16384x64_S16384x64_S16384x128_d1 : S16384x128.Idx → Ideal .f32) := by
  unfold V hostOps0
  after_results <;> rfl

/-- The normed row, its projection, and one element of the result. -/
def row (c : Dev nD) (R : Fin 16896) (k : Fin 2048) : EReal :=
  normed (fun k => argX m c (ix2 R k)) (fun k => argG m c (ix1 k)) (fun k => argM m c (ix3 (stream R) (0 : Fin 1) (⟨2048 + k.val, by omega⟩ : Fin 12288)))
    (fun k => argM m c (ix3 (stream R) (0 : Fin 1) (⟨0 + k.val, by omega⟩ : Fin 12288))) k
def proj (c : Dev nD) (R : Fin 16896) (p : Fin 3072) : EReal := ∑ k : Fin 2048, row m c R k * argW m c (ix2 k p)
def elem (c : Dev nD) (R : Fin 16896) (p : Fin 3072) : EReal :=
  qkv (proj m c R) (fun k => argQ m c (ix1 k)) (fun k => argK m c (ix1 k)) (stream R) (fun j => argC m c (ix2 (angle R) j)) (fun j => argS m c (ix2 (angle R) j)) (headOf p) (laneOf p)

/-- The result. -/
def fin (c : Dev nD) : S16896x3072.Idx → EReal := fun i => elem m c (i 0) (i 1)

/-- Row `r` and column `n` of point `t`, among all of them. -/
def rowOf (t : Fin cfg0.N) (r : Fin 512) : Fin 16896 := ⟨t.val / 6 * 512 + r.val, by
  have h : t.val < 198 := t.isLt
  omega⟩
def colOf (t : Fin cfg0.N) (n : Fin 512) : Fin 3072 := ⟨t.val % 6 * 512 + n.val, by omega⟩

theorem scal0 (t : Fin cfg0.N) : Scalar.cmpi .slt (BitVec.ofNat 32 ((grid0.coords t) 0).val) 32#32 = if t.val / 6 < 32 then 1#1 else 0#1 :=
  (by decide +kernel : ∀ t : Fin 198, Scalar.cmpi .slt (BitVec.ofNat 32 ((grid0.coords t) 0).val) 32#32 = if t.val / 6 < 32 then 1#1 else 0#1) t
theorem scal1 (t : Fin cfg0.N) : Scalar.cmpi .slt (BitVec.ofNat 32 ((grid0.coords t) 1).val) 4#32 = if t.val % 6 < 4 then 1#1 else 0#1 :=
  (by decide +kernel : ∀ t : Fin 198, Scalar.cmpi .slt (BitVec.ofNat 32 ((grid0.coords t) 1).val) 4#32 = if t.val % 6 < 4 then 1#1 else 0#1) t

theorem idx0 (t : Fin cfg0.N) : win0_0.index t (0 : Fin 2) = t.val / 6 ∧ win0_0.index t (1 : Fin 2) = 0 :=
  (by decide +kernel : ∀ t : Fin 198, win0_0.index t (0 : Fin 2) = t.val / 6 ∧ win0_0.index t (1 : Fin 2) = 0) t
theorem idx1 (t : Fin cfg0.N) : win0_1.index t (0 : Fin 2) = 0 ∧ win0_1.index t (1 : Fin 2) = 0 :=
  (by decide +kernel : ∀ t : Fin 198, win0_1.index t (0 : Fin 2) = 0 ∧ win0_1.index t (1 : Fin 2) = 0) t
theorem idx2 (t : Fin cfg0.N) : win0_2.index t (0 : Fin 3) = (if t.val / 6 < 32 then 0 else 1) ∧ win0_2.index t (1 : Fin 3) = 0 ∧ win0_2.index t (2 : Fin 3) = 1 :=
  (by decide +kernel : ∀ t : Fin 198, win0_2.index t (0 : Fin 3) = (if t.val / 6 < 32 then 0 else 1) ∧ win0_2.index t (1 : Fin 3) = 0 ∧ win0_2.index t (2 : Fin 3) = 1) t
theorem idx3 (t : Fin cfg0.N) : win0_3.index t (0 : Fin 3) = (if t.val / 6 < 32 then 0 else 1) ∧ win0_3.index t (1 : Fin 3) = 0 ∧ win0_3.index t (2 : Fin 3) = 0 :=
  (by decide +kernel : ∀ t : Fin 198, win0_3.index t (0 : Fin 3) = (if t.val / 6 < 32 then 0 else 1) ∧ win0_3.index t (1 : Fin 3) = 0 ∧ win0_3.index t (2 : Fin 3) = 0) t
theorem idx4 (t : Fin cfg0.N) : win0_4.index t (0 : Fin 2) = 0 ∧ win0_4.index t (1 : Fin 2) = t.val % 6 :=
  (by decide +kernel : ∀ t : Fin 198, win0_4.index t (0 : Fin 2) = 0 ∧ win0_4.index t (1 : Fin 2) = t.val % 6) t
theorem idx5 (t : Fin cfg0.N) : win0_5.index t (0 : Fin 2) = 0 ∧ win0_5.index t (1 : Fin 2) = 0 :=
  (by decide +kernel : ∀ t : Fin 198, win0_5.index t (0 : Fin 2) = 0 ∧ win0_5.index t (1 : Fin 2) = 0) t
theorem idx6 (t : Fin cfg0.N) : win0_6.index t (0 : Fin 2) = 0 ∧ win0_6.index t (1 : Fin 2) = 0 :=
  (by decide +kernel : ∀ t : Fin 198, win0_6.index t (0 : Fin 2) = 0 ∧ win0_6.index t (1 : Fin 2) = 0) t
theorem idx7 (t : Fin cfg0.N) : win0_7.index t (0 : Fin 2) = min (t.val / 6) 31 ∧ win0_7.index t (1 : Fin 2) = 0 :=
  (by decide +kernel : ∀ t : Fin 198, win0_7.index t (0 : Fin 2) = min (t.val / 6) 31 ∧ win0_7.index t (1 : Fin 2) = 0) t
theorem idx8 (t : Fin cfg0.N) : win0_8.index t (0 : Fin 2) = min (t.val / 6) 31 ∧ win0_8.index t (1 : Fin 2) = 0 :=
  (by decide +kernel : ∀ t : Fin 198, win0_8.index t (0 : Fin 2) = min (t.val / 6) 31 ∧ win0_8.index t (1 : Fin 2) = 0) t
theorem idx9 (t : Fin cfg0.N) : win0_9.index t (0 : Fin 2) = t.val / 6 ∧ win0_9.index t (1 : Fin 2) = t.val % 6 :=
  (by decide +kernel : ∀ t : Fin 198, win0_9.index t (0 : Fin 2) = t.val / 6 ∧ win0_9.index t (1 : Fin 2) = t.val % 6) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val / 6 * 512 + r.val
    rw [(idx0 t).1]; omega
  | ⟨1, _⟩ =>
    show win0_0.index t (1 : Fin 2) * 2048 + 1 * k.val = k.val
    rw [(idx0 t).2]; omega
theorem emb1 (t : Fin cfg0.N) (k : Fin 2048) : ((cfg0.win 1).blk t).view.emb (ix2 (0 : Fin 1) k) = (ix2 (0 : Fin 1) k : S1x2048.Idx) := by
  refine funext fun (a : Fin 2) => Fin.ext ?_
  match a with
  | ⟨0, _⟩ =>
    show win0_1.index t (0 : Fin 2) * 1 + 1 * 0 = 0
    rw [(idx1 t).1]
  | ⟨1, _⟩ =>
    show win0_1.index t (1 : Fin 2) * 2048 + 1 * k.val = k.val
    rw [(idx1 t).2]; omega
theorem emb2 (t : Fin cfg0.N) (r : Fin 512) (n : Fin 2048) :
    ((cfg0.win 2).blk t).view.emb (ix3 (0 : Fin 1) (0 : Fin 1) n)
      = (ix3 (stream (rowOf t r)) (0 : Fin 1) (⟨2048 + n.val, by omega⟩ : Fin 12288) : S2x1x12288.Idx) := by
  refine funext fun (a : Fin 3) => Fin.ext ?_
  match a with
  | ⟨0, _⟩ =>
    show win0_2.index t (0 : Fin 3) * 1 + 1 * 0 = (stream (rowOf t r)).val
    rw [(idx2 t).1]
    unfold stream
    have hR : (rowOf t r).val = t.val / 6 * 512 + r.val := rfl
    by_cases h : t.val / 6 < 32
    · rw [if_pos h, if_pos (by omega)]; rfl
    · rw [if_neg h, if_neg (by omega)]; rfl
  | ⟨1, _⟩ =>
    show win0_2.index t (1 : Fin 3) * 1 + 1 * 0 = 0
    rw [(idx2 t).2.1]
  | ⟨2, _⟩ =>
    show win0_2.index t (2 : Fin 3) * 2048 + 1 * n.val = 2048 + n.val
    rw [(idx2 t).2.2]; omega
theorem emb3 (t : Fin cfg0.N) (r : Fin 512) (n : Fin 2048) :
    ((cfg0.win 3).blk t).view.emb (ix3 (0 : Fin 1) (0 : Fin 1) n)
      = (ix3 (stream (rowOf t r)) (0 : Fin 1) (⟨0 + n.val, by omega⟩ : Fin 12288) : S2x1x12288.Idx) := by
  refine funext fun (a : Fin 3) => Fin.ext ?_
  match a with
  | ⟨0, _⟩ =>
    show win0_3.index t (0 : Fin 3) * 1 + 1 * 0 = (stream (rowOf t r)).val
    rw [(idx3 t).1]
    unfold stream
    have hR : (rowOf t r).val = t.val / 6 * 512 + r.val := rfl
    by_cases h : t.val / 6 < 32
    · rw [if_pos h, if_pos (by omega)]; rfl
    · rw [if_neg h, if_neg (by omega)]; rfl
  | ⟨1, _⟩ =>
    show win0_3.index t (1 : Fin 3) * 1 + 1 * 0 = 0
    rw [(idx3 t).2.1]
  | ⟨2, _⟩ =>
    show win0_3.index t (2 : Fin 3) * 2048 + 1 * n.val = 0 + n.val
    rw [(idx3 t).2.2]; omega
theorem emb4 (t : Fin cfg0.N) (k : Fin 2048) (n : Fin 512) : ((cfg0.win 4).blk t).view.emb (ix2 k n) = (ix2 k (colOf t n) : S2048x3072.Idx) := by
  refine funext fun (a : Fin 2) => Fin.ext ?_
  match a with
  | ⟨0, _⟩ =>
    show win0_4.index t (0 : Fin 2) * 2048 + 1 * k.val = k.val
    rw [(idx4 t).1]; omega
  | ⟨1, _⟩ =>
    show win0_4.index t (1 : Fin 2) * 512 + 1 * n.val = t.val % 6 * 512 + n.val
    rw [(idx4 t).2]; omega
theorem emb5 (t : Fin cfg0.N) (k : Fin 128) : ((cfg0.win 5).blk t).view.emb (ix2 (0 : Fin 1) k) = (ix2 (0 : Fin 1) k : S1x128.Idx) := by
  refine funext fun (a : Fin 2) => Fin.ext ?_
  match a with
  | ⟨0, _⟩ =>
    show win0_5.index t (0 : Fin 2) * 1 + 1 * 0 = 0
    rw [(idx5 t).1]
  | ⟨1, _⟩ =>
    show win0_5.index t (1 : Fin 2) * 128 + 1 * k.val = k.val
    rw [(idx5 t).2]; omega
theorem emb6 (t : Fin cfg0.N) (k : Fin 128) : ((cfg0.win 6).blk t).view.emb (ix2 (0 : Fin 1) k) = (ix2 (0 : Fin 1) k : S1x128.Idx) := by
  refine funext fun (a : Fin 2) => Fin.ext ?_
  match a with
  | ⟨0, _⟩ =>
    show win0_6.index t (0 : Fin 2) * 1 + 1 * 0 = 0
    rw [(idx6 t).1]
  | ⟨1, _⟩ =>
    show win0_6.index t (1 : Fin 2) * 128 + 1 * k.val = k.val
    rw [(idx6 t).2]; omega
theorem emb7 (t : Fin cfg0.N) (h : t.val / 6 < 32) (r : Fin 512) (k : Fin 128) : ((cfg0.win 7).blk t).view.emb (ix2 r k) = (ix2 (angle (rowOf t r)) k : S16384x128.Idx) := by
  refine funext fun (a : Fin 2) => Fin.ext ?_
  match a with
  | ⟨0, _⟩ =>
    show win0_7.index t (0 : Fin 2) * 512 + 1 * r.val = (t.val / 6 * 512 + r.val) % 16384
    rw [(idx7 t).1]; omega
  | ⟨1, _⟩ =>
    show win0_7.index t (1 : Fin 2) * 128 + 1 * k.val = k.val
    rw [(idx7 t).2]; omega
theorem emb8 (t : Fin cfg0.N) (h : t.val / 6 < 32) (r : Fin 512) (k : Fin 128) : ((cfg0.win 8).blk t).view.emb (ix2 r k) = (ix2 (angle (rowOf t r)) k : S16384x128.Idx) := by
  refine funext fun (a : Fin 2) => Fin.ext ?_
  match a with
  | ⟨0, _⟩ =>
    show win0_8.index t (0 : Fin 2) * 512 + 1 * r.val = (t.val / 6 * 512 + r.val) % 16384
    rw [(idx8 t).1]; omega
  | ⟨1, _⟩ =>
    show win0_8.index t (1 : Fin 2) * 128 + 1 * k.val = k.val
    rw [(idx8 t).2]; omega
theorem emb9 (t : Fin cfg0.N) (r : Fin 512) (n : Fin 512) : ((cfg0.win 9).blk t).view.emb (ix2 r n) = (ix2 (rowOf t r) (colOf t n) : S16896x3072.Idx) := by
  refine funext fun (a : Fin 2) => Fin.ext ?_
  match a with
  | ⟨0, _⟩ =>
    show win0_9.index t (0 : Fin 2) * 512 + 1 * r.val = t.val / 6 * 512 + r.val
    rw [(idx9 t).1]; omega
  | ⟨1, _⟩ =>
    show win0_9.index t (1 : Fin 2) * 512 + 1 * n.val = t.val % 6 * 512 + n.val
    rw [(idx9 t).2]; omega

theorem iblk0_at (c : Dev nD) (t : Fin cfg0.N) (r : Fin 512) (k : Fin 2048) : iblk m c 0 t (ix2 r k) = argX m c (ix2 (rowOf t r) k) :=
  (show iblk m c 0 t (ix2 r k) = V m c main_arg0 (((cfg0.win 0).blk t).view.emb (ix2 r k)) from rfl).trans
    ((congrFun (V_main_arg0 m c) _).trans (congrArg (argX m c) (emb0 t r k)))
theorem iblk1_at (c : Dev nD) (t : Fin cfg0.N) (k : Fin 2048) : iblk m c 1 t (ix2 (0 : Fin 1) k) = argG m c (ix1 k) := by
  refine (show iblk m c 1 t (ix2 (0 : Fin 1) k) = V m c main_v4 (((cfg0.win 1).blk t).view.emb (ix2 (0 : Fin 1) k)) from rfl).trans ((congrFun (V_g m c) _).trans ?_)
  rw [emb1 t k]
  exact cast_vec (N := 2048) _ _ _
theorem iblk2_at (c : Dev nD) (t : Fin cfg0.N) (r : Fin 512) (n : Fin 2048) : iblk m c 2 t (ix3 (0 : Fin 1) (0 : Fin 1) n) = argM m c (ix3 (stream (rowOf t r)) (0 : Fin 1) (⟨2048 + n.val, by omega⟩ : Fin 12288)) :=
  (show iblk m c 2 t (ix3 (0 : Fin 1) (0 : Fin 1) n) = V m c main_arg2 (((cfg0.win 2).blk t).view.emb (ix3 (0 : Fin 1) (0 : Fin 1) n)) from rfl).trans
    ((congrFun (V_main_arg2 m c) _).trans (congrArg (argM m c) (emb2 t r n)))
theorem iblk3_at (c : Dev nD) (t : Fin cfg0.N) (r : Fin 512) (n : Fin 2048) : iblk m c 3 t (ix3 (0 : Fin 1) (0 : Fin 1) n) = argM m c (ix3 (stream (rowOf t r)) (0 : Fin 1) (⟨0 + n.val, by omega⟩ : Fin 12288)) :=
  (show iblk m c 3 t (ix3 (0 : Fin 1) (0 : Fin 1) n) = V m c main_arg2 (((cfg0.win 3).blk t).view.emb (ix3 (0 : Fin 1) (0 : Fin 1) n)) from rfl).trans
    ((congrFun (V_main_arg2 m c) _).trans (congrArg (argM m c) (emb3 t r n)))
theorem iblk4_at (c : Dev nD) (t : Fin cfg0.N) (k : Fin 2048) (n : Fin 512) : iblk m c 4 t (ix2 k n) = argW m c (ix2 k (colOf t n)) :=
  (show iblk m c 4 t (ix2 k n) = V m c main_v3 (((cfg0.win 4).blk t).view.emb (ix2 k n)) from rfl).trans
    ((congrFun (V_w m c) _).trans (congrArg (argW m c) (emb4 t k n)))
theorem iblk5_at (c : Dev nD) (t : Fin cfg0.N) (k : Fin 128) : iblk m c 5 t (ix2 (0 : Fin 1) k) = argQ m c (ix1 k) := by
  refine (show iblk m c 5 t (ix2 (0 : Fin 1) k) = V m c main_v5 (((cfg0.win 5).blk t).view.emb (ix2 (0 : Fin 1) k)) from rfl).trans ((congrFun (V_q m c) _).trans ?_)
  rw [emb5 t k]
  exact cast_vec (N := 128) _ _ _
theorem iblk6_at (c : Dev nD) (t : Fin cfg0.N) (k : Fin 128) : iblk m c 6 t (ix2 (0 : Fin 1) k) = argK m c (ix1 k) := by
  refine (show iblk m c 6 t (ix2 (0 : Fin 1) k) = V m c main_v6 (((cfg0.win 6).blk t).view.emb (ix2 (0 : Fin 1) k)) from rfl).trans ((congrFun (V_k m c) _).trans ?_)
  rw [emb6 t k]
  exact cast_vec (N := 128) _ _ _
theorem iblk7_at (c : Dev nD) (t : Fin cfg0.N) (h : t.val / 6 < 32) (r : Fin 512) (k : Fin 128) :
    (iblk m c 7 t (ix2 r k) : EReal) = if k.val < 64 then argC m c (ix2 (angle (rowOf t r)) (half k)) else argC m c (ix2 (angle (rowOf t r)) (half k)) := by
  refine (show iblk m c 7 t (ix2 r k) = V m c main_v0 (((cfg0.win 7).blk t).view.emb (ix2 r k)) from rfl).trans ((congrFun (V_c m c) _).trans ?_)
  rw [emb7 t h r k]
  exact both_at (P := 16384) _ _ _ _ k
theorem iblk8_at (c : Dev nD) (t : Fin cfg0.N) (h : t.val / 6 < 32) (r : Fin 512) (k : Fin 128) :
    (iblk m c 8 t (ix2 r k) : EReal) = if k.val < 64 then -argS m c (ix2 (angle (rowOf t r)) (half k)) else argS m c (ix2 (angle (rowOf t r)) (half k)) := by
  refine (show iblk m c 8 t (ix2 r k) = V m c main_v2 (((cfg0.win 8).blk t).view.emb (ix2 r k)) from rfl).trans ((congrFun (V_s m c) _).trans ?_)
  rw [emb8 t h r k]
  exact both_at (P := 16384) _ _ _ _ k

theorem scr_row (c : Dev nD) (t : Fin cfg0.N) (r : Fin 512) (k : Fin 2048) :
    k0_pay1 (F := Ideal) (iblk m c 0 t) (iblk m c 1 t) (iblk m c 2 t) (iblk m c 3 t) (ix2 r k) = row m c (rowOf t r) k := by
  refine (scr_at _ _ _ _ r k).trans ?_
  unfold row
  have e0 : (fun k => iblk m c 0 t (ix2 r k)) = fun k => argX m c (ix2 (rowOf t r) k) := funext fun k => iblk0_at m c t r k
  have e1 : (fun k => iblk m c 1 t (ix2 (0 : Fin 1) k)) = fun k => argG m c (ix1 k) := funext fun k => iblk1_at m c t k
  have e2 : (fun k : Fin 2048 => iblk m c 2 t (ix3 (0 : Fin 1) (0 : Fin 1) k)) = fun k : Fin 2048 => argM m c (ix3 (stream (rowOf t r)) (0 : Fin 1) (⟨2048 + k.val, by omega⟩ : Fin 12288)) :=
    funext fun k => iblk2_at m c t r k
  have e3 : (fun k : Fin 2048 => iblk m c 3 t (ix3 (0 : Fin 1) (0 : Fin 1) k)) = fun k : Fin 2048 => argM m c (ix3 (stream (rowOf t r)) (0 : Fin 1) (⟨0 + k.val, by omega⟩ : Fin 12288)) :=
    funext fun k => iblk3_at m c t r k
  exact congrFun (congr (congr (congr (congrArg normed e0) e1) e2) e3) k

theorem outs_A (c : Dev nD) (t : Fin cfg0.N) (h0 : t.val % 6 = 0) : outsAt0 m c t.val t.isLt
    = (blk (grid0.coords t) (k0_pay1 (iblk m c 0 t) (iblk m c 1 t) (iblk m c 2 t) (iblk m c 3 t)) (iblk m c 4 t) (iblk m c 5 t) (iblk m c 6 t) (iblk m c 7 t) (iblk m c 8 t), k0_pay1 (iblk m c 0 t) (iblk m c 1 t) (iblk m c 2 t) (iblk m c 3 t)) := by
  rw [outsAt0_A m c t h0 (by omega) (by omega), out_A, sout_A]

theorem outs_B (c : Dev nD) (t : Fin cfg0.N) (h0 : ¬t.val % 6 = 0) (h2 : ¬t.val % 6 = 5) : outsAt0 m c t.val t.isLt
    = (blk (grid0.coords t) (outsAt0 m c (t.val - 1) (Nat.lt_of_le_of_lt (Nat.sub_le _ _) t.isLt)).2 (iblk m c 4 t) (iblk m c 5 t) (iblk m c 6 t) (iblk m c 7 t) (iblk m c 8 t), (outsAt0 m c (t.val - 1) (Nat.lt_of_le_of_lt (Nat.sub_le _ _) t.isLt)).2) := by
  rw [outsAt0_B m c t h0 (by omega) h2, out_B]
  unfold sout0_B_0
  rfl

theorem outs_C (c : Dev nD) (t : Fin cfg0.N) (h2 : t.val % 6 = 5) : outsAt0 m c t.val t.isLt
    = (k0_pay5 (outsAt0 m c (t.val - 1) (Nat.lt_of_le_of_lt (Nat.sub_le _ _) t.isLt)).2 (iblk m c 4 t), (outsAt0 m c (t.val - 1) (Nat.lt_of_le_of_lt (Nat.sub_le _ _) t.isLt)).2) := by
  rw [outsAt0_C m c t (by omega) (by omega) h2, out_C]
  unfold sout0_C_0
  rfl

/-- The scratch holds the normed rows of the point's row of blocks. -/
theorem scratch (c : Dev nD) : ∀ (n : ℕ) (h : n < cfg0.N) (r : Fin 512) (k : Fin 2048), (outsAt0 m c n h).2 (ix2 r k) = row m c (rowOf ⟨n, h⟩ r) k := by
  intro n
  induction n with
  | zero =>
    intro h r k
    exact (congrFun (congrArg Prod.snd (outs_A m c ⟨0, h⟩ rfl)) (ix2 r k)).trans (scr_row m c ⟨0, h⟩ r k)
  | succ n ih =>
    intro h r k
    by_cases h0 : (n + 1) % 6 = 0
    · exact (congrFun (congrArg Prod.snd (outs_A m c ⟨n + 1, h⟩ h0)) (ix2 r k)).trans (scr_row m c ⟨n + 1, h⟩ r k)
    · refine Eq.trans ?_ ((ih (Nat.lt_of_succ_lt h) r k).trans ?_)
      · by_cases h2 : (n + 1) % 6 = 5
        · exact congrFun (congrArg Prod.snd (outs_C m c ⟨n + 1, h⟩ h2)) (ix2 r k)
        · exact congrFun (congrArg Prod.snd (outs_B m c ⟨n + 1, h⟩ h0 h2)) (ix2 r k)
      · refine congrArg (fun R => row m c R k) (Fin.ext ?_)
        show n / 6 * 512 + r.val = (n + 1) / 6 * 512 + r.val
        have : (n + 1) / 6 = n / 6 := by omega
        rw [this]

theorem proj_at (c : Dev nD) (t : Fin cfg0.N) (z : FVec Ideal S512x2048 .bf16) (hz : ∀ r k, z (ix2 r k) = row m c (rowOf t r) k) (r : Fin 512) (n : Fin 512) :
    k0_pay2 (F := Ideal) z (iblk m c 4 t) (ix2 r n) = proj m c (rowOf t r) (colOf t n) := by
  refine (acc_at _ _ r n).trans ?_
  unfold proj
  exact Finset.sum_congr rfl fun k _ => congr (congrArg (HMul.hMul (α := EReal)) (hz r k)) (iblk4_at m c t k n)

theorem one_eq : (Ideal.ofBits .f32 0x3F800000#32 : EReal) = 1 := by
  simp [Ideal.ofBits, Ideal.ieee]
  rw [← EReal.coe_mul]
  norm_num

/-- The gain and the scale a point uses. -/
theorem gain_q (c : Dev nD) (t : Fin cfg0.N) (h : t.val % 6 < 4) (k : Fin 128) :
    k0_pay6 (F := Ideal) (BitVec.ofNat 32 ((grid0.coords t) 1).val) (iblk m c 5 t) (iblk m c 6 t) (ix2 (0 : Fin 1) k) = argQ m c (ix1 k) := by
  unfold k0_pay6
  dsimp only
  rw [scal1 t, if_pos h]
  exact (cast_id _ _ _).trans (iblk5_at m c t k)
theorem gain_k (c : Dev nD) (t : Fin cfg0.N) (h : ¬t.val % 6 < 4) (k : Fin 128) :
    k0_pay6 (F := Ideal) (BitVec.ofNat 32 ((grid0.coords t) 1).val) (iblk m c 5 t) (iblk m c 6 t) (ix2 (0 : Fin 1) k) = argK m c (ix1 k) := by
  unfold k0_pay6
  dsimp only
  rw [scal1 t, if_neg h]
  exact (cast_id _ _ _).trans (iblk6_at m c t k)
theorem scale_q (t : Fin cfg0.N) (h : t.val % 6 < 4) : k0_pay7 (F := Ideal) (BitVec.ofNat 32 ((grid0.coords t) 1).val) = Ideal.ofBits .f32 0x3E0293EE#32 := by
  unfold k0_pay7
  dsimp only
  rw [scal1 t, if_pos h]
  rfl
theorem scale_k (t : Fin cfg0.N) (h : ¬t.val % 6 < 4) : k0_pay7 (F := Ideal) (BitVec.ofNat 32 ((grid0.coords t) 1).val) = (1 : EReal) := by
  unfold k0_pay7
  dsimp only
  rw [scal1 t, if_neg h]
  exact one_eq

theorem stream_of (t : Fin cfg0.N) (r : Fin 512) : stream (rowOf t r) = if t.val / 6 < 32 then 0 else 1 := by
  have hR : (rowOf t r).val = t.val / 6 * 512 + r.val := rfl
  have hr := r.isLt
  unfold stream
  by_cases h : t.val / 6 < 32
  · rw [if_pos h, if_pos (by omega)]
  · rw [if_neg h, if_neg (by omega)]

/-- A head's lane of a point, turned or not as its row says. -/
theorem turn_at (c : Dev nD) (t : Fin cfg0.N) (r : Fin 512) (A : Fin 512 → EReal) (g : Fin 128 → EReal) (q : EReal) (j : Fin 4) (k : Fin 128) :
    one A g (Scalar.cmpi .slt (BitVec.ofNat 32 ((grid0.coords t) 0).val) 32#32) q (fun k => iblk m c 7 t (ix2 r k)) (fun k => iblk m c 8 t (ix2 r k)) j k
      = turn (stream (rowOf t r)) (hn (fun k => A ⟨j.val * 128 + k.val, by omega⟩) g) (fun l => argC m c (ix2 (angle (rowOf t r)) l)) (fun l => argS m c (ix2 (angle (rowOf t r)) l)) k * q := by
  unfold one turn
  refine congrArg (fun z : EReal => z * q) ?_
  rw [scal0 t, stream_of t r]
  by_cases h : t.val / 6 < 32
  · rw [if_pos h, if_pos h, if_pos rfl]
    refine Eq.trans (b := hn (fun k => A ⟨j.val * 128 + k.val, by omega⟩) g k * iblk m c 7 t (ix2 r k) + hn (fun k => A ⟨j.val * 128 + k.val, by omega⟩) g (other k) * iblk m c 8 t (ix2 r k)) rfl ?_
    rw [iblk7_at m c t h r k, iblk8_at m c t h r k]
    exact turned_eq _ (fun l => argC m c (ix2 (angle (rowOf t r)) l)) (fun l => argS m c (ix2 (angle (rowOf t r)) l)) k
  · rw [if_neg h, if_neg h, if_neg (by decide)]
    rfl

theorem block_at (c : Dev nD) (t : Fin cfg0.N) (h5 : ¬t.val % 6 = 5) (z : FVec Ideal S512x2048 .bf16) (hz : ∀ r k, z (ix2 r k) = row m c (rowOf t r) k) (r : Fin 512) (n : Fin 512) :
    blk (grid0.coords t) z (iblk m c 4 t) (iblk m c 5 t) (iblk m c 6 t) (iblk m c 7 t) (iblk m c 8 t) (ix2 r n) = elem m c (rowOf t r) (colOf t n) := by
  have hn := n.isLt
  have hA : (fun n => k0_pay2 (F := Ideal) z (iblk m c 4 t) (ix2 r n)) = fun n => proj m c (rowOf t r) (colOf t n) := funext fun n => proj_at m c t z hz r n
  have eh : (headOf (colOf t n)).val = t.val % 6 * 4 + n.val / 128 := by
    show (t.val % 6 * 512 + n.val) / 128 = _
    omega
  have el : laneOf (colOf t n) = (⟨n.val % 128, by omega⟩ : Fin 128) := Fin.ext (by
    show (t.val % 6 * 512 + n.val) % 128 = n.val % 128
    omega)
  have ef : (fun k : Fin 128 => proj m c (rowOf t r) (colOf t (⟨n.val / 128 * 128 + k.val, by omega⟩ : Fin 512))) = fun k => proj m c (rowOf t r) (lane (headOf (colOf t n)) k) :=
    funext fun k => congrArg (proj m c (rowOf t r)) (Fin.ext (by
      show t.val % 6 * 512 + (n.val / 128 * 128 + k.val) = (headOf (colOf t n)).val * 128 + k.val
      rw [eh]; omega))
  refine (blk_at (grid0.coords t) z (iblk m c 4 t) (iblk m c 5 t) (iblk m c 6 t) (iblk m c 7 t) (iblk m c 8 t) r n).trans ?_
  rw [hA]
  refine (turn_at m c t r _ _ _ _ _).trans ?_
  unfold elem qkv
  rw [el]
  by_cases h4 : t.val % 6 < 4
  · rw [if_pos (by rw [eh]; omega), scale_q t h4]
    refine congrArg (fun z : EReal => z * Ideal.ofBits .f32 0x3E0293EE#32) ?_
    rw [show (fun k => k0_pay6 (F := Ideal) (BitVec.ofNat 32 ((grid0.coords t) 1).val) (iblk m c 5 t) (iblk m c 6 t) (ix2 (0 : Fin 1) k)) = fun k => argQ m c (ix1 k) from funext (gain_q m c t h4)]
    exact congrArg (fun f => turn (stream (rowOf t r)) (Mix.hn f (fun k => argQ m c (ix1 k))) (fun l => argC m c (ix2 (angle (rowOf t r)) l)) (fun l => argS m c (ix2 (angle (rowOf t r)) l)) (⟨n.val % 128, by omega⟩ : Fin 128)) ef
  · rw [if_neg (by rw [eh]; omega), if_pos (by rw [eh]; omega), scale_k t h4, mul_one]
    rw [show (fun k => k0_pay6 (F := Ideal) (BitVec.ofNat 32 ((grid0.coords t) 1).val) (iblk m c 5 t) (iblk m c 6 t) (ix2 (0 : Fin 1) k)) = fun k => argK m c (ix1 k) from funext (gain_k m c t h4)]
    exact congrArg (fun f => turn (stream (rowOf t r)) (Mix.hn f (fun k => argK m c (ix1 k))) (fun l => argC m c (ix2 (angle (rowOf t r)) l)) (fun l => argS m c (ix2 (angle (rowOf t r)) l)) (⟨n.val % 128, by omega⟩ : Fin 128)) ef

theorem oblk_at (c : Dev nD) (t : Fin cfg0.N) (r : Fin 512) (n : Fin 512) : (dats m 0 c).after 9 t (ix2 r n) = elem m c (rowOf t r) (colOf t n) := by
  refine (congrFun (after0_9 m c t) _).trans ?_
  by_cases h0 : t.val % 6 = 0
  · refine (congrFun (congrArg Prod.fst (outs_A m c t h0)) (ix2 r n)).trans ?_
    exact block_at m c t (by omega) _ (fun r k => scr_row m c t r k) r n
  · have hz : ∀ r k, (outsAt0 m c (t.val - 1) (Nat.lt_of_le_of_lt (Nat.sub_le _ _) t.isLt)).2 (ix2 r k) = row m c (rowOf t r) k := fun r k => by
      refine (scratch m c (t.val - 1) _ r k).trans (congrArg (fun R => row m c R k) (Fin.ext ?_))
      show (t.val - 1) / 6 * 512 + r.val = t.val / 6 * 512 + r.val
      have : (t.val - 1) / 6 = t.val / 6 := by omega
      rw [this]
    by_cases h5 : t.val % 6 = 5
    · refine (congrFun (congrArg Prod.fst (outs_C m c t h5)) (ix2 r n)).trans ?_
      have hn := n.isLt
      have eh : (headOf (colOf t n)).val = t.val % 6 * 4 + n.val / 128 := by
        show (t.val % 6 * 512 + n.val) / 128 = _
        omega
      unfold elem qkv
      rw [if_neg (by rw [eh]; omega), if_neg (by rw [eh]; omega), lane_of]
      exact proj_at m c t _ hz r n
    · refine (congrFun (congrArg Prod.fst (outs_B m c t h0 h5)) (ix2 r n)).trans ?_
      exact block_at m c t h5 _ hz r n

/-- The array the launch leaves is the result. -/
theorem final (c : Dev nD) : (dats m 0 c).arrAt 9 cfg0.N = fin m c := by
  refine Dat.arrAt_eq_of_emb (dats m 0 c) 9 (fin m c) (fun t _ y => ?_) (fun i => ?_)
  · obtain ⟨r, n, rfl⟩ : ∃ (r : Fin 512) (n : Fin 512), y = ix2 r n := ⟨y 0, y 1, eq_ix2 _⟩
    exact Eq.trans (oblk_at m c t r n) (congrArg (fin m c) (emb9 t r n)).symm
  · obtain ⟨R, n, rfl⟩ : ∃ (R : Fin 16896) (n : Fin 3072), i = ix2 R n := ⟨i 0, i 1, eq_ix2 _⟩
    have hR := R.isLt
    have hn := n.isLt
    have ht : R.val / 512 * 6 + n.val / 512 < 198 := by omega
    refine ⟨⟨R.val / 512 * 6 + n.val / 512, ht⟩, flush0_9 _, ?_⟩
    have e := emb9 ⟨R.val / 512 * 6 + n.val / 512, ht⟩ (⟨R.val % 512, by omega⟩ : Fin 512) (⟨n.val % 512, by omega⟩ : Fin 512)
    have e1 : rowOf ⟨R.val / 512 * 6 + n.val / 512, ht⟩ (⟨R.val % 512, by omega⟩ : Fin 512) = R := Fin.ext (by
      show (R.val / 512 * 6 + n.val / 512) / 6 * 512 + R.val % 512 = R.val
      omega)
    have e2 : colOf ⟨R.val / 512 * 6 + n.val / 512, ht⟩ (⟨n.val % 512, by omega⟩ : Fin 512) = n := Fin.ext (by
      show (R.val / 512 * 6 + n.val / 512) % 6 * 512 + n.val % 512 = n.val
      omega)
    rw [e1, e2] at e
    rw [← e]
    exact View.emb_mem_set _ _

end Cert.Kernel8Ideal.Hand

end
-- ==== Proof.RowsUnit.lean ====
module

public import proofs.«01_k».proof.Proof.Norm
public import proofs.«01_k».proof.Proof.Gen.Kernel9Ideal.Frame
public import Idealize.ShloMosaic.Lib.Pipeline.Covers
public import Idealize.ShloMosaic.Lib.Pipeline.ValueKit.Geometry
public import Idealize.ShloMosaic.Lib.Tactic

/-! # The array the modulated norm of all the rows leaves, element by element -/

@[expose] public section

set_option maxRecDepth 16384

noncomputable section

namespace Cert.Kernel9Ideal.Hand

open Cert.Kernel9Ideal Cert.Kernel9Ideal.Gen Cert.Mix
open Idealize.ShloMosaic hiding ix0 ix1 ix2 ix3 ix4 eq_ix2
open Idealize.ShloMosaic.TcCoe
open Idealize.SL Idealize.SL.Sem
open Idealize.ShloMosaic.Pipeline (Dat Cfg Window)
open Idealize.ShloMosaic.ValueIdx (ix1 ix2 ix3 eq_ix2)
open scoped BigOperators

theorem pay_at (x0 : FVec Ideal S512x2048 .f32) (x1 : FVec Ideal S1x2048 .f32) (x2 x3 : FVec Ideal S1x1x2048 .f32) (r : Fin 512) (n : Fin 2048) :
    k0_pay1 (F := Ideal) x0 x1 x2 x3 (ix2 r n)
      = normed (fun k => x0 (ix2 r k)) (fun k => x1 (ix2 (0 : Fin 1) k)) (fun k => x2 (ix3 (0 : Fin 1) (0 : Fin 1) k)) (fun k => x3 (ix3 (0 : Fin 1) (0 : Fin 1) k)) n := by
  unfold k0_pay1
  exact (norm_at (M := 512) (by decide) x0 x1 x2 x3 _ _ _ _ _ _ _ _ r n)

theorem hz2 : (![0, 0] : Fin 2 → ℕ) = fun _ => 0 := by decide
theorem hz3 : (![0, 0, 0] : Fin 3 → ℕ) = fun _ => 0 := by decide

variable (m : (ℓ : Loc nD τ sig) → Buf (Elt Ideal) ℓ)

/-- The arguments as arrays. -/
def argX (c : Dev nD) : S16896x2048.Idx → EReal := m ((c.tc : Thread nD τ).loc main_arg0)
def argG (c : Dev nD) : S2048.Idx → EReal := m ((c.tc : Thread nD τ).loc main_arg1)
def argM (c : Dev nD) : S2x1x12288.Idx → EReal := m ((c.tc : Thread nD τ).loc main_arg2)

theorem V_g (c : Dev nD) : V m c main_v0 = (shapeCast S1x2048 (m ((c.tc : Thread nD τ).loc main_arg1) : S2048.Idx → Ideal .f32) shapeCasts_S2048_S1x2048 : S1x2048.Idx → Ideal .f32) := by
  unfold V hostOps0
  after_results <;> rfl

/-- One element of the result. -/
def elem (c : Dev nD) (R : Fin 16896) (k : Fin 2048) : EReal :=
  normed (fun k => argX m c (ix2 R k)) (fun k => argG m c (ix1 k)) (fun k => argM m c (ix3 (stream R) (0 : Fin 1) (⟨2048 + k.val, by omega⟩ : Fin 12288)))
    (fun k => argM m c (ix3 (stream R) (0 : Fin 1) (⟨0 + k.val, by omega⟩ : Fin 12288))) k

/-- The result. -/
def fin (c : Dev nD) : S16896x2048.Idx → EReal := fun i => elem m c (i 0) (i 1)

/-- Row `r` of point `t`, among all of them. -/
def rowOf (t : Fin cfg0.N) (r : Fin 512) : Fin 16896 := ⟨t.val * 512 + r.val, by
  have h : t.val < 33 := t.isLt
  omega⟩

theorem idx0 (t : Fin cfg0.N) : win0_0.index t (0 : Fin 2) = t.val ∧ win0_0.index t (1 : Fin 2) = 0 :=
  (by decide +kernel : ∀ t : Fin 33, win0_0.index t (0 : Fin 2) = t.val ∧ win0_0.index t (1 : Fin 2) = 0) t
theorem idx1 (t : Fin cfg0.N) : win0_1.index t (0 : Fin 2) = 0 ∧ win0_1.index t (1 : Fin 2) = 0 :=
  (by decide +kernel : ∀ t : Fin 33, win0_1.index t (0 : Fin 2) = 0 ∧ win0_1.index t (1 : Fin 2) = 0) t
theorem idx2 (t : Fin cfg0.N) : win0_2.index t (0 : Fin 3) = (if t.val < 32 then 0 else 1) ∧ win0_2.index t (1 : Fin 3) = 0 ∧ win0_2.index t (2 : Fin 3) = 1 :=
  (by decide +kernel : ∀ t : Fin 33, win0_2.index t (0 : Fin 3) = (if t.val < 32 then 0 else 1) ∧ win0_2.index t (1 : Fin 3) = 0 ∧ win0_2.index t (2 : Fin 3) = 1) t
theorem idx3 (t : Fin cfg0.N) : win0_3.index t (0 : Fin 3) = (if t.val < 32 then 0 else 1) ∧ win0_3.index t (1 : Fin 3) = 0 ∧ win0_3.index t (2 : Fin 3) = 0 :=
  (by decide +kernel : ∀ t : Fin 33, win0_3.index t (0 : Fin 3) = (if t.val < 32 then 0 else 1) ∧ win0_3.index t (1 : Fin 3) = 0 ∧ win0_3.index t (2 : Fin 3) = 0) t
theorem idx4 (t : Fin cfg0.N) : win0_4.index t (0 : Fin 2) = t.val ∧ win0_4.index t (1 : Fin 2) = 0 :=
  (by decide +kernel : ∀ t : Fin 33, win0_4.index t (0 : Fin 2) = t.val ∧ win0_4.index t (1 : Fin 2) = 0) t

theorem emb0 (t : Fin cfg0.N) (r : Fin 512) (k : Fin 2048) : ((cfg0.win 0).blk t).view.emb (ix2 r k) = (ix2 (rowOf t r) k : S16896x2048.Idx) := by
  refine funext fun (a : Fin 2) => Fin.ext ?_
  match a with
  | ⟨0, _⟩ =>
    show win0_0.index t (0 : Fin 2) * 512 + 1 * r.val = t.val * 512 + r.val
    rw [(idx0 t).1]; omega
  | ⟨1, _⟩ =>
    show win0_0.index t (1 : Fin 2) * 2048 + 1 * k.val = k.val
    rw [(idx0 t).2]; omega
theorem emb1 (t : Fin cfg0.N) (k : Fin 2048) : ((cfg0.win 1).blk t).view.emb (ix2 (0 : Fin 1) k) = (ix2 (0 : Fin 1) k : S1x2048.Idx) := by
  refine funext fun (a : Fin 2) => Fin.ext ?_
  match a with
  | ⟨0, _⟩ =>
    show win0_1.index t (0 : Fin 2) * 1 + 1 * 0 = 0
    rw [(idx1 t).1]
  | ⟨1, _⟩ =>
    show win0_1.index t (1 : Fin 2) * 2048 + 1 * k.val = k.val
    rw [(idx1 t).2]; omega
theorem emb2 (t : Fin cfg0.N) (r : Fin 512) (n : Fin 2048) :
    ((cfg0.win 2).blk t).view.emb (ix3 (0 : Fin 1) (0 : Fin 1) n)
      = (ix3 (stream (rowOf t r)) (0 : Fin 1) (⟨2048 + n.val, by omega⟩ : Fin 12288) : S2x1x12288.Idx) := by
  refine funext fun (a : Fin 3) => Fin.ext ?_
  match a with
  | ⟨0, _⟩ =>
    show win0_2.index t (0 : Fin 3) * 1 + 1 * 0 = (stream (rowOf t r)).val
    rw [(idx2 t).1]
    unfold stream
    have hR : (rowOf t r).val = t.val * 512 + r.val := rfl
    by_cases h : t.val < 32
    · rw [if_pos h, if_pos (by omega)]; rfl
    · rw [if_neg h, if_neg (by omega)]; rfl
  | ⟨1, _⟩ =>
    show win0_2.index t (1 : Fin 3) * 1 + 1 * 0 = 0
    rw [(idx2 t).2.1]
  | ⟨2, _⟩ =>
    show win0_2.index t (2 : Fin 3) * 2048 + 1 * n.val = 2048 + n.val
    rw [(idx2 t).2.2]; omega
theorem emb3 (t : Fin cfg0.N) (r : Fin 512) (n : Fin 2048) :
    ((cfg0.win 3).blk t).view.emb (ix3 (0 : Fin 1) (0 : Fin 1) n)
      = (ix3 (stream (rowOf t r)) (0 : Fin 1) (⟨0 + n.val, by omega⟩ : Fin 12288) : S2x1x12288.Idx) := by
  refine funext fun (a : Fin 3) => Fin.ext ?_
  match a with
  | ⟨0, _⟩ =>
    show win0_3.index t (0 : Fin 3) * 1 + 1 * 0 = (stream (rowOf t r)).val
    rw [(idx3 t).1]
    unfold stream
    have hR : (rowOf t r).val = t.val * 512 + r.val := rfl
    by_cases h : t.val < 32
    · rw [if_pos h, if_pos (by omega)]; rfl
    · rw [if_neg h, if_neg (by omega)]; rfl
  | ⟨1, _⟩ =>
    show win0_3.index t (1 : Fin 3) * 1 + 1 * 0 = 0
    rw [(idx3 t).2.1]
  | ⟨2, _⟩ =>
    show win0_3.index t (2 : Fin 3) * 2048 + 1 * n.val = 0 + n.val
    rw [(idx3 t).2.2]; omega
theorem emb4 (t : Fin cfg0.N) (r : Fin 512) (k : Fin 2048) : ((cfg0.win 4).blk t).view.emb (ix2 r k) = (ix2 (rowOf t r) k : S16896x2048.Idx) := by
  refine funext fun (a : Fin 2) => Fin.ext ?_
  match a with
  | ⟨0, _⟩ =>
    show win0_4.index t (0 : Fin 2) * 512 + 1 * r.val = t.val * 512 + r.val
    rw [(idx4 t).1]; omega
  | ⟨1, _⟩ =>
    show win0_4.index t (1 : Fin 2) * 2048 + 1 * k.val = k.val
    rw [(idx4 t).2]; omega

theorem iblk0_at (c : Dev nD) (t : Fin cfg0.N) (r : Fin 512) (k : Fin 2048) : iblk m c 0 t (ix2 r k) = argX m c (ix2 (rowOf t r) k) :=
  (show iblk m c 0 t (ix2 r k) = V m c main_arg0 (((cfg0.win 0).blk t).view.emb (ix2 r k)) from rfl).trans
    ((congrFun (V_main_arg0 m c) _).trans (congrArg (argX m c) (emb0 t r k)))
theorem iblk1_at (c : Dev nD) (t : Fin cfg0.N) (k : Fin 2048) : iblk m c 1 t (ix2 (0 : Fin 1) k) = argG m c (ix1 k) := by
  refine (show iblk m c 1 t (ix2 (0 : Fin 1) k) = V m c main_v0 (((cfg0.win 1).blk t).view.emb (ix2 (0 : Fin 1) k)) from rfl).trans ((congrFun (V_g m c) _).trans ?_)
  rw [emb1 t k]
  exact cast_vec (N := 2048) _ _ _
theorem iblk2_at (c : Dev nD) (t : Fin cfg0.N) (r : Fin 512) (n : Fin 2048) : iblk m c 2 t (ix3 (0 : Fin 1) (0 : Fin 1) n) = argM m c (ix3 (stream (rowOf t r)) (0 : Fin 1) (⟨2048 + n.val, by omega⟩ : Fin 12288)) :=
  (show iblk m c 2 t (ix3 (0 : Fin 1) (0 : Fin 1) n) = V m c main_arg2 (((cfg0.win 2).blk t).view.emb (ix3 (0 : Fin 1) (0 : Fin 1) n)) from rfl).trans
    ((congrFun (V_main_arg2 m c) _).trans (congrArg (argM m c) (emb2 t r n)))
theorem iblk3_at (c : Dev nD) (t : Fin cfg0.N) (r : Fin 512) (n : Fin 2048) : iblk m c 3 t (ix3 (0 : Fin 1) (0 : Fin 1) n) = argM m c (ix3 (stream (rowOf t r)) (0 : Fin 1) (⟨0 + n.val, by omega⟩ : Fin 12288)) :=
  (show iblk m c 3 t (ix3 (0 : Fin 1) (0 : Fin 1) n) = V m c main_arg2 (((cfg0.win 3).blk t).view.emb (ix3 (0 : Fin 1) (0 : Fin 1) n)) from rfl).trans
    ((congrFun (V_main_arg2 m c) _).trans (congrArg (argM m c) (emb3 t r n)))

theorem after_eq (c : Dev nD) (t : Fin cfg0.N) : (dats m 0 c).after 4 t
    = k0_pay1 (iblk m c 0 t) (iblk m c 1 t) (iblk m c 2 t) (iblk m c 3 t) := by
  refine (after0_4 m c t).trans ?_
  unfold out0_4
  rw [View.canon_unit_zero (S := S512x2048) hz2]
  simp only [View.ld_unit_zero (S := S512x2048) hz2, View.ld_unit_zero (S := S1x2048) hz2, View.ld_unit_zero (S := S1x1x2048) hz3]

theorem oblk_at (c : Dev nD) (t : Fin cfg0.N) (r : Fin 512) (k : Fin 2048) : (dats m 0 c).after 4 t (ix2 r k) = elem m c (rowOf t r) k := by
  refine (congrFun (after_eq m c t) _).trans ((pay_at _ _ _ _ r k).trans ?_)
  unfold elem
  have e0 : (fun k => iblk m c 0 t (ix2 r k)) = fun k => argX m c (ix2 (rowOf t r) k) := funext fun k => iblk0_at m c t r k
  have e1 : (fun k => iblk m c 1 t (ix2 (0 : Fin 1) k)) = fun k => argG m c (ix1 k) := funext fun k => iblk1_at m c t k
  have e2 : (fun k : Fin 2048 => iblk m c 2 t (ix3 (0 : Fin 1) (0 : Fin 1) k)) = fun k : Fin 2048 => argM m c (ix3 (stream (rowOf t r)) (0 : Fin 1) (⟨2048 + k.val, by omega⟩ : Fin 12288)) :=
    funext fun k => iblk2_at m c t r k
  have e3 : (fun k : Fin 2048 => iblk m c 3 t (ix3 (0 : Fin 1) (0 : Fin 1) k)) = fun k : Fin 2048 => argM m c (ix3 (stream (rowOf t r)) (0 : Fin 1) (⟨0 + k.val, by omega⟩ : Fin 12288)) :=
    funext fun k => iblk3_at m c t r k
  exact congrFun (congr (congr (congr (congrArg normed e0) e1) e2) e3) k

/-- The array the launch leaves is the result. -/
theorem final (c : Dev nD) : (dats m 0 c).arrAt 4 cfg0.N = fin m c := by
  refine Dat.arrAt_eq_of_emb (dats m 0 c) 4 (fin m c) (fun t _ y => ?_) (fun i => ?_)
  · obtain ⟨r, n, rfl⟩ : ∃ (r : Fin 512) (n : Fin 2048), y = ix2 r n := ⟨y 0, y 1, eq_ix2 _⟩
    exact Eq.trans (oblk_at m c t r n) (congrArg (fin m c) (emb4 t r n)).symm
  · obtain ⟨R, n, rfl⟩ : ∃ (R : Fin 16896) (n : Fin 2048), i = ix2 R n := ⟨i 0, i 1, eq_ix2 _⟩
    have hR := R.isLt
    have ht : R.val / 512 < 33 := by omega
    refine ⟨⟨R.val / 512, ht⟩, flush0_4 _, ?_⟩
    have e := emb4 ⟨R.val / 512, ht⟩ (⟨R.val % 512, by omega⟩ : Fin 512) n
    have e1 : rowOf ⟨R.val / 512, ht⟩ (⟨R.val % 512, by omega⟩ : Fin 512) = R := Fin.ext (by
      show R.val / 512 * 512 + R.val % 512 = R.val
      omega)
    rw [e1] at e
    rw [← e]
    exact View.emb_mem_set _ _

end Cert.Kernel9Ideal.Hand

end
-- ==== Proof.ModUnit.lean ====
module

public import proofs.«01_k».proof.Proof.Glu
public import proofs.«01_k».proof.Proof.Gen.Kernel10Ideal.Frame
public import Idealize.ShloMosaic.Lib.Pipeline.Covers
public import Idealize.ShloMosaic.Lib.Pipeline.ValueKit.Geometry
public import Idealize.ShloMosaic.Lib.Tactic

/-! # The array the modulation leaves, element by element -/

@[expose] public section

set_option maxRecDepth 16384

noncomputable section

namespace Cert.Kernel10Ideal.Hand

open Cert.Kernel10Ideal Cert.Kernel10Ideal.Gen Cert.Mix
open Idealize.ShloMosaic hiding ix0 ix1 ix2 ix3 ix4 eq_ix2 eq_ix3
open Idealize.ShloMosaic.TcCoe
open Idealize.SL Idealize.SL.Sem
open Idealize.ShloMosaic.Pipeline (Dat Cfg Window)
open Idealize.ShloMosaic.ValueIdx (ix1 ix2 ix3 eq_ix2 eq_ix3)
open scoped BigOperators

theorem pay_at (x0 : FVec Ideal S8x2048 .f32) (x1 : FVec Ideal S1x2048x1024 .f32) (x2 : FVec Ideal S1x1x1024 .f32) (r : Fin 8) (n : Fin 1024) :
    k0_pay1 (F := Ideal) x0 x1 x2 (ix3 (0 : Fin 1) r n)
      = (∑ k : Fin 2048, ((x0 (ix2 r k) : EReal) * sigm (x0 (ix2 r k))) * x1 (ix3 (0 : Fin 1) k n)) + x2 (ix3 (0 : Fin 1) (0 : Fin 1) n) := by
  unfold k0_pay1
  refine (shapeCast_apply (t := S1x8x1024) (s := S8x1024) _ _ (ix3 (0 : Fin 1) r n) (ix2 r n) (by
    rw [Shape.rowMajor_val_two, Shape.rowMajor_val_three]
    show r.val * 1024 + n.val = ((0 * 8 + r.val) * 1024 + n.val)
    omega)).trans ?_
  refine congr (congrArg (HAdd.hAdd (α := EReal)) ?_) (gate_at (M := 8) (N := 1024) (by decide) x2 _ _ r n)
  refine (Ideal.matmul_plain_apply (M := 8) (K := 2048) (N := 1024) none _ _ _ r n).trans ?_
  refine (congrArg (· + _) zero_eq).trans ((zero_add _).trans ?_)
  refine Finset.sum_congr rfl fun k _ => congr (congrArg (HMul.hMul (α := EReal)) ?_) ?_
  · refine congrArg (fun z : EReal => (x0 (ix2 r k) : EReal) * z) ?_
    unfold sigm
    refine congrArg (fun z : EReal => Ideal.div (Ideal.ofBits .f32 0x3F800000#32) (Ideal.ofBits .f32 0x3F800000#32 + Ideal.exp z)) ?_
    refine Eq.trans (b := Ideal.ofBits .f32 0x00000000#32 - (x0 (ix2 r k) : EReal)) rfl ?_
    rw [zero_eq, zero_sub]
  · exact shapeCast_apply (s := S1x2048x1024) (t := S2048x1024) x1 _ (ix2 k n) (ix3 (0 : Fin 1) k n) (by
      rw [Shape.rowMajor_val_two, Shape.rowMajor_val_three]
      show ((0 * 2048 + k.val) * 1024 + n.val) = k.val * 1024 + n.val
      omega)

theorem hz2 : (![0, 0] : Fin 2 → ℕ) = fun _ => 0 := by decide
theorem hz3 : (![0, 0, 0] : Fin 3 → ℕ) = fun _ => 0 := by decide

variable (m : (ℓ : Loc nD τ sig) → Buf (Elt Ideal) ℓ)

/-- The arguments as arrays. -/
def argC (c : Dev nD) : S8x2048.Idx → EReal := m ((c.tc : Thread nD τ).loc main_arg0)
def argW (c : Dev nD) : S4x2048x12288.Idx → EReal := m ((c.tc : Thread nD τ).loc main_arg1)
def argB (c : Dev nD) : S4x12288.Idx → EReal := m ((c.tc : Thread nD τ).loc main_arg2)

theorem V_b (c : Dev nD) : V m c main_v0 = (shapeCast S4x1x12288 (m ((c.tc : Thread nD τ).loc main_arg2) : S4x12288.Idx → Ideal .f32) shapeCasts_S4x12288_S4x1x12288 : S4x1x12288.Idx → Ideal .f32) := by
  unfold V hostOps0
  after_results <;> rfl

/-- One element of the result. -/
def elem (c : Dev nD) (l : Fin 4) (r : Fin 8) (n : Fin 12288) : EReal :=
  (∑ k : Fin 2048, (argC m c (ix2 r k) * sigm (argC m c (ix2 r k))) * argW m c (ix3 l k n)) + argB m c (ix2 l n)

/-- The result. -/
def fin (c : Dev nD) : S4x8x12288.Idx → EReal := fun i => elem m c (i 0) (i 1) (i 2)

/-- The layer of point `t`, and column `n` of it among all of them. -/
def layerOf (t : Fin cfg0.N) : Fin 4 := ⟨t.val / 12, by
  have h : t.val < 48 := t.isLt
  omega⟩
def colOf (t : Fin cfg0.N) (n : Fin 1024) : Fin 12288 := ⟨t.val % 12 * 1024 + n.val, by omega⟩

theorem idx0 (t : Fin cfg0.N) : win0_0.index t (0 : Fin 2) = 0 ∧ win0_0.index t (1 : Fin 2) = 0 :=
  (by decide +kernel : ∀ t : Fin 48, win0_0.index t (0 : Fin 2) = 0 ∧ win0_0.index t (1 : Fin 2) = 0) t
theorem idx1 (t : Fin cfg0.N) : win0_1.index t (0 : Fin 3) = t.val / 12 ∧ win0_1.index t (1 : Fin 3) = 0 ∧ win0_1.index t (2 : Fin 3) = t.val % 12 :=
  (by decide +kernel : ∀ t : Fin 48, win0_1.index t (0 : Fin 3) = t.val / 12 ∧ win0_1.index t (1 : Fin 3) = 0 ∧ win0_1.index t (2 : Fin 3) = t.val % 12) t
theorem idx2 (t : Fin cfg0.N) : win0_2.index t (0 : Fin 3) = t.val / 12 ∧ win0_2.index t (1 : Fin 3) = 0 ∧ win0_2.index t (2 : Fin 3) = t.val % 12 :=
  (by decide +kernel : ∀ t : Fin 48, win0_2.index t (0 : Fin 3) = t.val / 12 ∧ win0_2.index t (1 : Fin 3) = 0 ∧ win0_2.index t (2 : Fin 3) = t.val % 12) t
theorem idx3 (t : Fin cfg0.N) : win0_3.index t (0 : Fin 3) = t.val / 12 ∧ win0_3.index t (1 : Fin 3) = 0 ∧ win0_3.index t (2 : Fin 3) = t.val % 12 :=
  (by decide +kernel : ∀ t : Fin 48, win0_3.index t (0 : Fin 3) = t.val / 12 ∧ win0_3.index t (1 : Fin 3) = 0 ∧ win0_3.index t (2 : Fin 3) = t.val % 12) t

theorem emb0 (t : Fin cfg0.N) (r : Fin 8) (k : Fin 2048) : ((cfg0.win 0).blk t).view.emb (ix2 r k) = (ix2 r k : S8x2048.Idx) := by
  refine funext fun (a : Fin 2) => Fin.ext ?_
  match a with
  | ⟨0, _⟩ =>
    show win0_0.index t (0 : Fin 2) * 8 + 1 * r.val = r.val
    rw [(idx0 t).1]; omega
  | ⟨1, _⟩ =>
    show win0_0.index t (1 : Fin 2) * 2048 + 1 * k.val = k.val
    rw [(idx0 t).2]; omega
theorem emb1 (t : Fin cfg0.N) (k : Fin 2048) (n : Fin 1024) : ((cfg0.win 1).blk t).view.emb (ix3 (0 : Fin 1) k n) = (ix3 (layerOf t) k (colOf t n) : S4x2048x12288.Idx) := by
  refine funext fun (a : Fin 3) => Fin.ext ?_
  match a with
  | ⟨0, _⟩ =>
    show win0_1.index t (0 : Fin 3) * 1 + 1 * 0 = t.val / 12
    rw [(idx1 t).1]; omega
  | ⟨1, _⟩ =>
    show win0_1.index t (1 : Fin 3) * 2048 + 1 * k.val = k.val
    rw [(idx1 t).2.1]; omega
  | ⟨2, _⟩ =>
    show win0_1.index t (2 : Fin 3) * 1024 + 1 * n.val = t.val % 12 * 1024 + n.val
    rw [(idx1 t).2.2]; omega
theorem emb2 (t : Fin cfg0.N) (n : Fin 1024) : ((cfg0.win 2).blk t).view.emb (ix3 (0 : Fin 1) (0 : Fin 1) n) = (ix3 (layerOf t) (0 : Fin 1) (colOf t n) : S4x1x12288.Idx) := by
  refine funext fun (a : Fin 3) => Fin.ext ?_
  match a with
  | ⟨0, _⟩ =>
    show win0_2.index t (0 : Fin 3) * 1 + 1 * 0 = t.val / 12
    rw [(idx2 t).1]; omega
  | ⟨1, _⟩ =>
    show win0_2.index t (1 : Fin 3) * 1 + 1 * 0 = 0
    rw [(idx2 t).2.1]
  | ⟨2, _⟩ =>
    show win0_2.index t (2 : Fin 3) * 1024 + 1 * n.val = t.val % 12 * 1024 + n.val
    rw [(idx2 t).2.2]; omega
theorem emb3 (t : Fin cfg0.N) (r : Fin 8) (n : Fin 1024) : ((cfg0.win 3).blk t).view.emb (ix3 (0 : Fin 1) r n) = (ix3 (layerOf t) r (colOf t n) : S4x8x12288.Idx) := by
  refine funext fun (a : Fin 3) => Fin.ext ?_
  match a with
  | ⟨0, _⟩ =>
    show win0_3.index t (0 : Fin 3) * 1 + 1 * 0 = t.val / 12
    rw [(idx3 t).1]; omega
  | ⟨1, _⟩ =>
    show win0_3.index t (1 : Fin 3) * 8 + 1 * r.val = r.val
    rw [(idx3 t).2.1]; omega
  | ⟨2, _⟩ =>
    show win0_3.index t (2 : Fin 3) * 1024 + 1 * n.val = t.val % 12 * 1024 + n.val
    rw [(idx3 t).2.2]; omega

theorem iblk0_at (c : Dev nD) (t : Fin cfg0.N) (r : Fin 8) (k : Fin 2048) : iblk m c 0 t (ix2 r k) = argC m c (ix2 r k) :=
  (show iblk m c 0 t (ix2 r k) = V m c main_arg0 (((cfg0.win 0).blk t).view.emb (ix2 r k)) from rfl).trans
    ((congrFun (V_main_arg0 m c) _).trans (congrArg (argC m c) (emb0 t r k)))
theorem iblk1_at (c : Dev nD) (t : Fin cfg0.N) (k : Fin 2048) (n : Fin 1024) : iblk m c 1 t (ix3 (0 : Fin 1) k n) = argW m c (ix3 (layerOf t) k (colOf t n)) :=
  (show iblk m c 1 t (ix3 (0 : Fin 1) k n) = V m c main_arg1 (((cfg0.win 1).blk t).view.emb (ix3 (0 : Fin 1) k n)) from rfl).trans
    ((congrFun (V_main_arg1 m c) _).trans (congrArg (argW m c) (emb1 t k n)))
theorem iblk2_at (c : Dev nD) (t : Fin cfg0.N) (n : Fin 1024) : iblk m c 2 t (ix3 (0 : Fin 1) (0 : Fin 1) n) = argB m c (ix2 (layerOf t) (colOf t n)) := by
  refine (show iblk m c 2 t (ix3 (0 : Fin 1) (0 : Fin 1) n) = V m c main_v0 (((cfg0.win 2).blk t).view.emb (ix3 (0 : Fin 1) (0 : Fin 1) n)) from rfl).trans ((congrFun (V_b m c) _).trans ?_)
  rw [emb2 t n]
  exact shapeCast_apply (s := S4x12288) (t := S4x1x12288) _ _ _ _ (by
    rw [Shape.rowMajor_val_two, Shape.rowMajor_val_three]
    show (layerOf t).val * 12288 + (colOf t n).val = (((layerOf t).val * 1 + 0) * 12288 + (colOf t n).val)
    omega)

theorem after_eq (c : Dev nD) (t : Fin cfg0.N) : (dats m 0 c).after 3 t = k0_pay1 (iblk m c 0 t) (iblk m c 1 t) (iblk m c 2 t) := by
  refine (after0_3 m c t).trans ?_
  unfold out0_3
  rw [View.canon_unit_zero (S := S1x8x1024) hz3]
  simp only [View.ld_unit_zero (S := S8x2048) hz2, View.ld_unit_zero (S := S1x2048x1024) hz3, View.ld_unit_zero (S := S1x1x1024) hz3]

theorem oblk_at (c : Dev nD) (t : Fin cfg0.N) (r : Fin 8) (n : Fin 1024) : (dats m 0 c).after 3 t (ix3 (0 : Fin 1) r n) = elem m c (layerOf t) r (colOf t n) := by
  refine (congrFun (after_eq m c t) _).trans ((pay_at _ _ _ r n).trans ?_)
  unfold elem
  refine congr (congrArg (HAdd.hAdd (α := EReal)) ?_) (iblk2_at m c t n)
  exact Finset.sum_congr rfl fun k _ => congr (congrArg (HMul.hMul (α := EReal)) (congrArg (fun z : EReal => z * sigm z) (iblk0_at m c t r k))) (iblk1_at m c t k n)

/-- The array the launch leaves is the result. -/
theorem final (c : Dev nD) : (dats m 0 c).arrAt 3 cfg0.N = fin m c := by
  refine Dat.arrAt_eq_of_emb (dats m 0 c) 3 (fin m c) (fun t _ y => ?_) (fun i => ?_)
  · obtain ⟨o, r, n, rfl⟩ : ∃ (o : Fin 1) (r : Fin 8) (n : Fin 1024), y = ix3 o r n := ⟨y 0, y 1, y 2, eq_ix3 _⟩
    obtain rfl : o = 0 := Subsingleton.elim _ _
    exact Eq.trans (oblk_at m c t r n) (congrArg (fin m c) (emb3 t r n)).symm
  · obtain ⟨l, r, n, rfl⟩ : ∃ (l : Fin 4) (r : Fin 8) (n : Fin 12288), i = ix3 l r n := ⟨i 0, i 1, i 2, eq_ix3 _⟩
    have hl := l.isLt
    have hn := n.isLt
    have ht : l.val * 12 + n.val / 1024 < 48 := by omega
    refine ⟨⟨l.val * 12 + n.val / 1024, ht⟩, flush0_3 _, ?_⟩
    have e := emb3 ⟨l.val * 12 + n.val / 1024, ht⟩ r (⟨n.val % 1024, by omega⟩ : Fin 1024)
    have e1 : layerOf ⟨l.val * 12 + n.val / 1024, ht⟩ = l := Fin.ext (by
      show (l.val * 12 + n.val / 1024) / 12 = l.val
      omega)
    have e2 : colOf ⟨l.val * 12 + n.val / 1024, ht⟩ (⟨n.val % 1024, by omega⟩ : Fin 1024) = n := Fin.ext (by
      show (l.val * 12 + n.val / 1024) % 12 * 1024 + n.val % 1024 = n.val
      omega)
    rw [e1, e2] at e
    rw [← e]
    exact View.emb_mem_set _ _

end Cert.Kernel10Ideal.Hand

end
-- ==== Proof.MixFrame.lean ====
module

public import proofs.«01_k».proof.Proof.Gen.Kernel4
public import proofs.«01_k».proof.Proof.ProjUnit
public import proofs.«01_k».proof.Proof.Gen.Kernel5
public import proofs.«01_k».proof.Proof.GatedUnit
public import proofs.«01_k».proof.Proof.Gen.Kernel6
public import proofs.«01_k».proof.Proof.NormUnit
public import proofs.«01_k».proof.Proof.Gen.Kernel7
public import proofs.«01_k».proof.Proof.GluUnit
public import proofs.«01_k».proof.Proof.Gen.Kernel8
public import proofs.«01_k».proof.Proof.QkvUnit
public import proofs.«01_k».proof.Proof.Gen.Kernel9
public import proofs.«01_k».proof.Proof.RowsUnit
public import proofs.«01_k».proof.Proof.Gen.Kernel10
public import proofs.«01_k».proof.Proof.ModUnit
public import Idealize.ShloMosaic.PureOps.BitExact

/-! # The mixers' calls run to the end: what they leave, at both floats -/

@[expose] public section

set_option maxRecDepth 16384

noncomputable section

namespace Cert.Kernel4Ideal.Hand

open Cert.Kernel4Ideal Cert.Kernel4Ideal.Gen
open Idealize.ShloMosaic Idealize.ShloMosaic.TcCoe
open Idealize.SL Idealize.SL.Sem

theorem bodies_same : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, _ => rfl

theorem defs_same : Cert.Kernel4.defs (F := Bits) = Cert.Kernel4Ideal.defs (F := Bits) := congrArg (Pipeline.defs Cert.Kernel4Ideal.pcfgs) bodies_same

theorem frame_bits (m : (ℓ : Loc nD τ sig) → Buf (Elt Bits) ℓ) (ρ : Dev nD → PrngReg) :
    θ_run (Cert.Kernel4.defs (F := Bits)) (onTc (τ := τ) (Cert.Kernel4.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_same]
  exact Cert.Kernel4Ideal.Gen.frame (F := Bits) m ρ

theorem run_result (m : (ℓ : Loc nD τ sig) → Buf (Elt Ideal) ℓ) (ρ : Dev nD → PrngReg) :
    θ_run (Cert.Kernel4Ideal.defs (F := Ideal)) (onTc (τ := τ) (Cert.Kernel4Ideal.main (F := Ideal))) ⟨m, fun _ => 0, ρ⟩ (fun r => ∀ c : Dev nD,
      r.2.mem ((c.tc : Thread nD τ).loc main_v3) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.2.1 c).1 5).trans (final m c), h.1.1 c⟩)
    (θ_run_and (Cert.Kernel4Ideal.Gen.frame (F := Ideal) m ρ) (run_main_quiescent m ρ))

end Cert.Kernel4Ideal.Hand

namespace Cert.Kernel5Ideal.Hand

open Cert.Kernel5Ideal Cert.Kernel5Ideal.Gen
open Idealize.ShloMosaic Idealize.ShloMosaic.TcCoe
open Idealize.SL Idealize.SL.Sem

theorem bodies_same : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, _ => rfl

theorem defs_same : Cert.Kernel5.defs (F := Bits) = Cert.Kernel5Ideal.defs (F := Bits) := congrArg (Pipeline.defs Cert.Kernel5Ideal.pcfgs) bodies_same

theorem frame_bits (m : (ℓ : Loc nD τ sig) → Buf (Elt Bits) ℓ) (ρ : Dev nD → PrngReg) :
    θ_run (Cert.Kernel5.defs (F := Bits)) (onTc (τ := τ) (Cert.Kernel5.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_same]
  exact Cert.Kernel5Ideal.Gen.frame (F := Bits) m ρ

theorem run_result (m : (ℓ : Loc nD τ sig) → Buf (Elt Ideal) ℓ) (ρ : Dev nD → PrngReg) :
    θ_run (Cert.Kernel5Ideal.defs (F := Ideal)) (onTc (τ := τ) (Cert.Kernel5Ideal.main (F := Ideal))) ⟨m, fun _ => 0, ρ⟩ (fun r => ∀ c : Dev nD,
      r.2.mem ((c.tc : Thread nD τ).loc main_v3) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.2.1 c).1 8).trans (final m c), h.1.1 c⟩)
    (θ_run_and (Cert.Kernel5Ideal.Gen.frame (F := Ideal) m ρ) (run_main_quiescent m ρ))

end Cert.Kernel5Ideal.Hand

namespace Cert.Kernel6Ideal.Hand

open Cert.Kernel6Ideal Cert.Kernel6Ideal.Gen
open Idealize.ShloMosaic Idealize.ShloMosaic.TcCoe
open Idealize.SL Idealize.SL.Sem

theorem bodies_same : Cert.Kernel6.defs₀ (F := Bits) = Cert.Kernel6Ideal.defs₀ (F := Bits) := by
  unfold Cert.Kernel6.defs₀ Cert.Kernel6Ideal.defs₀
  refine congrArg Defs.onTc ?_
  funext l a
  match l, a with
  | 0, _ => rfl

theorem defs_same : Cert.Kernel6.defs (F := Bits) = Cert.Kernel6Ideal.defs (F := Bits) := congrArg (Pipeline.defs Cert.Kernel6Ideal.pcfgs) bodies_same

theorem frame_bits (m : (ℓ : Loc nD τ sig) → Buf (Elt Bits) ℓ) (ρ : Dev nD → PrngReg) :
    θ_run (Cert.Kernel6.defs (F := Bits)) (onTc (τ := τ) (Cert.Kernel6.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [defs_same]
  exact Cert.Kernel6Ideal.Gen.frame (F := Bits) m ρ

theorem run_result (m : (ℓ : Loc nD τ sig) → Buf (Elt Ideal) ℓ) (ρ : Dev nD → PrngReg) :
    θ_run (Cert.Kernel6Ideal.defs (F := Ideal)) (onTc (τ := τ) (Cert.Kernel6Ideal.main (F := Ideal))) ⟨m, fun _ => 0, ρ⟩ (fun r => ∀ c : Dev nD,
      r.2.mem ((c.tc : Thread nD τ).loc main_v3) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h.2.1 c).1 6).trans (final m c), h.1.1 c⟩)
    (θ_run_and (Cert.Kernel6Ideal.Gen.frame (F := Ideal) m ρ) (run_main_quiescent m ρ))

end Cert.Kernel6Ideal.Hand

namespace Cert.Kernel7Ideal.Hand

open Cert.Kernel7Ideal Cert.Kernel7Ideal.Gen
open Idealize.ShloMosaic Idealize.ShloMosaic.TcCoe
open Idealize.SL Idealize.SL.Sem

theorem bodies_same : Cert.Kernel7.defs₀ (F := Bits) = Cert.Kernel7Ideal.defs₀ (F := Bits) := by
  unfold Cert.Kernel7.defs₀ Cert.Kernel7Ideal.defs₀
  refine congrArg Defs.onTc ?_
  funext l a
  match l, a with
  | 0, _ => rfl

theorem defs_same : Cert.Kernel7.defs (F := Bits) = Cert.Kernel7Ideal.defs (F := Bits) := congrArg (Pipeline.defs Cert.Kernel7Ideal.pcfgs) bodies_same

theorem frame_bits (m : (ℓ : Loc nD τ sig) → Buf (Elt Bits) ℓ) (ρ : Dev nD → PrngReg) :
    θ_run (Cert.Kernel7.defs (F := Bits)) (onTc (τ := τ) (Cert.Kernel7.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  rw [defs_same]
  exact Cert.Kernel7Ideal.Gen.frame (F := Bits) m ρ

theorem run_result (m : (ℓ : Loc nD τ sig) → Buf (Elt Ideal) ℓ) (ρ : Dev nD → PrngReg) :
    θ_run (Cert.Kernel7Ideal.defs (F := Ideal)) (onTc (τ := τ) (Cert.Kernel7Ideal.main (F := Ideal))) ⟨m, fun _ => 0, ρ⟩ (fun r => ∀ c : Dev nD,
      r.2.mem ((c.tc : Thread nD τ).loc main_v4) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h.2.1 c).1 12).trans (final m c), h.1.1 c⟩)
    (θ_run_and (Cert.Kernel7Ideal.Gen.frame (F := Ideal) m ρ) (run_main_quiescent m ρ))

end Cert.Kernel7Ideal.Hand

namespace Cert.Kernel8Ideal.Hand

open Cert.Kernel8Ideal Cert.Kernel8Ideal.Gen
open Idealize.ShloMosaic Idealize.ShloMosaic.TcCoe
open Idealize.SL Idealize.SL.Sem

theorem bodies_same : Cert.Kernel8.defs₀ (F := Bits) = Cert.Kernel8Ideal.defs₀ (F := Bits) := by
  unfold Cert.Kernel8.defs₀ Cert.Kernel8Ideal.defs₀
  refine congrArg Defs.onTc ?_
  funext l a
  match l, a with
  | 0, _ => rfl

theorem defs_same : Cert.Kernel8.defs (F := Bits) = Cert.Kernel8Ideal.defs (F := Bits) := congrArg (Pipeline.defs Cert.Kernel8Ideal.pcfgs) bodies_same

theorem frame_bits (m : (ℓ : Loc nD τ sig) → Buf (Elt Bits) ℓ) (ρ : Dev nD → PrngReg) :
    θ_run (Cert.Kernel8.defs (F := Bits)) (onTc (τ := τ) (Cert.Kernel8.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_same]
  exact Cert.Kernel8Ideal.Gen.frame (F := Bits) m ρ

theorem run_result (m : (ℓ : Loc nD τ sig) → Buf (Elt Ideal) ℓ) (ρ : Dev nD → PrngReg) :
    θ_run (Cert.Kernel8Ideal.defs (F := Ideal)) (onTc (τ := τ) (Cert.Kernel8Ideal.main (F := Ideal))) ⟨m, fun _ => 0, ρ⟩ (fun r => ∀ c : Dev nD,
      r.2.mem ((c.tc : Thread nD τ).loc main_v7) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.2.1 c).1 9).trans (final m c), h.1.1 c⟩)
    (θ_run_and (Cert.Kernel8Ideal.Gen.frame (F := Ideal) m ρ) (run_main_quiescent m ρ))

end Cert.Kernel8Ideal.Hand

namespace Cert.Kernel9Ideal.Hand

open Cert.Kernel9Ideal Cert.Kernel9Ideal.Gen
open Idealize.ShloMosaic Idealize.ShloMosaic.TcCoe
open Idealize.SL Idealize.SL.Sem

theorem bodies_same : Cert.Kernel9.defs₀ (F := Bits) = Cert.Kernel9Ideal.defs₀ (F := Bits) := by
  unfold Cert.Kernel9.defs₀ Cert.Kernel9Ideal.defs₀
  refine congrArg Defs.onTc ?_
  funext l a
  match l, a with
  | 0, _ => rfl

theorem defs_same : Cert.Kernel9.defs (F := Bits) = Cert.Kernel9Ideal.defs (F := Bits) := congrArg (Pipeline.defs Cert.Kernel9Ideal.pcfgs) bodies_same

theorem frame_bits (m : (ℓ : Loc nD τ sig) → Buf (Elt Bits) ℓ) (ρ : Dev nD → PrngReg) :
    θ_run (Cert.Kernel9.defs (F := Bits)) (onTc (τ := τ) (Cert.Kernel9.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.Kernel9Ideal.Gen.frame (F := Bits) m ρ

theorem run_result (m : (ℓ : Loc nD τ sig) → Buf (Elt Ideal) ℓ) (ρ : Dev nD → PrngReg) :
    θ_run (Cert.Kernel9Ideal.defs (F := Ideal)) (onTc (τ := τ) (Cert.Kernel9Ideal.main (F := Ideal))) ⟨m, fun _ => 0, ρ⟩ (fun r => ∀ c : Dev nD,
      r.2.mem ((c.tc : Thread nD τ).loc main_v1) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 4).trans (final m c), h.1.1 c⟩)
    (θ_run_and (Cert.Kernel9Ideal.Gen.frame (F := Ideal) m ρ) (run_main_quiescent m ρ))

end Cert.Kernel9Ideal.Hand

namespace Cert.Kernel10Ideal.Hand

open Cert.Kernel10Ideal Cert.Kernel10Ideal.Gen
open Idealize.ShloMosaic Idealize.ShloMosaic.TcCoe
open Idealize.SL Idealize.SL.Sem

theorem bodies_same : Cert.Kernel10.defs₀ (F := Bits) = Cert.Kernel10Ideal.defs₀ (F := Bits) := by
  unfold Cert.Kernel10.defs₀ Cert.Kernel10Ideal.defs₀
  refine congrArg Defs.onTc ?_
  funext l a
  match l, a with
  | 0, _ => rfl

theorem defs_same : Cert.Kernel10.defs (F := Bits) = Cert.Kernel10Ideal.defs (F := Bits) := congrArg (Pipeline.defs Cert.Kernel10Ideal.pcfgs) bodies_same

theorem frame_bits (m : (ℓ : Loc nD τ sig) → Buf (Elt Bits) ℓ) (ρ : Dev nD → PrngReg) :
    θ_run (Cert.Kernel10.defs (F := Bits)) (onTc (τ := τ) (Cert.Kernel10.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.Kernel10Ideal.Gen.frame (F := Bits) m ρ

theorem run_result (m : (ℓ : Loc nD τ sig) → Buf (Elt Ideal) ℓ) (ρ : Dev nD → PrngReg) :
    θ_run (Cert.Kernel10Ideal.defs (F := Ideal)) (onTc (τ := τ) (Cert.Kernel10Ideal.main (F := Ideal))) ⟨m, fun _ => 0, ρ⟩ (fun r => ∀ c : Dev nD,
      r.2.mem ((c.tc : Thread nD τ).loc main_v1) = fin m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 3).trans (final m c), h.1.1 c⟩)
    (θ_run_and (Cert.Kernel10Ideal.Gen.frame (F := Ideal) m ρ) (run_main_quiescent m ρ))

end Cert.Kernel10Ideal.Hand

end
-- ==== Proof.ProjRef.lean ====
module

public import proofs.«01_k».proof.Proof.Mix
public import proofs.«01_k».proof.Proof.Gen.Reference4Ideal.Run

/-! # The reference's residual projection, element by element -/

@[expose] public section

set_option maxRecDepth 16384

noncomputable section

namespace Cert.Reference4Ideal.Hand

open Cert.Reference4Ideal Cert.Reference4Ideal.Gen Cert.Mix
open Idealize.ShloMosaic
open Idealize.ShloMosaic.ValueIdx (ix1 ix2 ix3)
open Idealize.ShloMosaic.StackMember (dotGeneral_plain_apply)
open scoped BigOperators

/-- Each stream's rows. -/
def latent (a : FVec Ideal S16896x2048 .bf16) (w : FVec Ideal S2048x2048 .f32) (x : FVec Ideal S16896x2048 .f32) (mod : FVec Ideal S2x1x12288 .f32) : FVec Ideal S16384x2048 .f32 :=
  addf (extractStridedSlice S16384x2048 ![0, 0] x slices_S16896x2048_S16384x2048_0_0) (mulf (broadcastInDim S16384x2048 ![0, 1] bcast_S1x2048_S16384x2048_0_1
    (shapeCast _ (extractStridedSlice S1x1x2048 ![0, 0, 4096] mod slices_S2x1x12288_S1x1x2048_0_0_4096) shapeCasts_S1x1x2048_S1x2048))
    (Host.dotGeneral dot_S16384x2048_S2048x2048_S16384x2048_1_0_0_1_n_n none
      (extractStridedSlice S16384x2048 ![0, 0] (extf .f32 a bitsLt_bf16_f32) slices_S16896x2048_S16384x2048_0_0) w))
def context (a : FVec Ideal S16896x2048 .bf16) (w : FVec Ideal S2048x2048 .f32) (x : FVec Ideal S16896x2048 .f32) (mod : FVec Ideal S2x1x12288 .f32) : FVec Ideal S512x2048 .f32 :=
  addf (extractStridedSlice S512x2048 ![16384, 0] x slices_S16896x2048_S512x2048_16384_0) (mulf (broadcastInDim S512x2048 ![0, 1] bcast_S1x2048_S512x2048_0_1
    (shapeCast _ (extractStridedSlice S1x1x2048 ![1, 0, 4096] mod slices_S2x1x12288_S1x1x2048_1_0_4096) shapeCasts_S1x1x2048_S1x2048))
    (Host.dotGeneral dot_S512x2048_S2048x2048_S512x2048_1_0_0_1_n_n none
      (extractStridedSlice S512x2048 ![16384, 0] (extf .f32 a bitsLt_bf16_f32) slices_S16896x2048_S512x2048_16384_0) w))

/-- The reference's result. -/
def result (a : FVec Ideal S16896x2048 .bf16) (w : FVec Ideal S2048x2048 .f32) (x : FVec Ideal S16896x2048 .f32) (mod : FVec Ideal S2x1x12288 .f32) : FVec Ideal S16896x2048 .f32 :=
  concatenate S16896x2048 0 [⟨S16384x2048, latent a w x mod⟩, ⟨S512x2048, context a w x mod⟩] concatenates_S16384x2048_S512x2048_S16896x2048_d0

theorem result_at (a : FVec Ideal S16896x2048 .bf16) (w : FVec Ideal S2048x2048 .f32) (x : FVec Ideal S16896x2048 .f32) (mod : FVec Ideal S2x1x12288 .f32)
    (R : Fin 16896) (n : Fin 2048) :
    result a w x mod (ix2 R n) = (x (ix2 R n) : EReal) + mod (ix3 (stream R) (0 : Fin 1) (⟨4096 + n.val, by omega⟩ : Fin 12288))
      * ∑ k : Fin 2048, (a (ix2 R k) : EReal) * w (ix2 k n) := by
  unfold result
  refine streams_at (N := 2048) _ _ _ R n _ (fun r hr hs => ?_) (fun r hr hs => ?_)
  · unfold latent
    refine congr (congrArg (HAdd.hAdd (α := EReal)) (rows_at (M := 16384) (N := 2048) x _ r n R hr)) (congr (congrArg (HMul.hMul (α := EReal)) ?_) ?_)
    · exact (hrow_at (M := 16384) (N := 2048) (by decide) _ _ r n).trans (chunk_at (N := 2048) mod _ _ n (stream R) (by rw [hs]; rfl) _ rfl)
    · refine (dotGeneral_plain_apply (m := 16384) (k := 2048) (n := 2048) none _ _ r n).trans ?_
      exact Finset.sum_congr rfl fun k _ => congrArg (fun z : EReal => z * w (ix2 k n)) (rows_at (M := 16384) (N := 2048) (extf .f32 a bitsLt_bf16_f32) _ r k R hr)
  · unfold context
    refine congr (congrArg (HAdd.hAdd (α := EReal)) (rows_at (M := 512) (N := 2048) x _ r n R hr)) (congr (congrArg (HMul.hMul (α := EReal)) ?_) ?_)
    · exact (hrow_at (M := 512) (N := 2048) (by decide) _ _ r n).trans (chunk_at (N := 2048) mod _ _ n (stream R) (by rw [hs]; rfl) _ rfl)
    · refine (dotGeneral_plain_apply (m := 512) (k := 2048) (n := 2048) none _ _ r n).trans ?_
      exact Finset.sum_congr rfl fun k _ => congrArg (fun z : EReal => z * w (ix2 k n)) (rows_at (M := 512) (N := 2048) (extf .f32 a bitsLt_bf16_f32) _ r k R hr)

end Cert.Reference4Ideal.Hand

end
-- ==== Proof.GatedRef.lean ====
module

public import proofs.«01_k».proof.Proof.Mix
public import proofs.«01_k».proof.Proof.Gen.Reference5Ideal.Run

/-! # The reference's gated projection, element by element -/

@[expose] public section

set_option maxRecDepth 16384

noncomputable section

namespace Cert.Reference5Ideal.Hand

open Cert.Reference5Ideal Cert.Reference5Ideal.Gen Cert.Mix
open Idealize.ShloMosaic
open Idealize.ShloMosaic.ValueIdx (ix1 ix2 ix3)
open Idealize.ShloMosaic.StackMember (dotGeneral_plain_apply)
open scoped BigOperators

/-- What is projected. -/
def gated (a : FVec Ideal S16896x2048 .bf16) (y u : FVec Ideal S16896x2048 .f32) (sk : FVec Ideal S2048 .f32) : FVec Ideal S16896x2048 .f32 :=
  mulf (extf .f32 a bitsLt_bf16_f32) (addf y (mulf u (broadcastInDim S16896x2048 ![0, 1] bcast_S1x2048_S16896x2048_0_1 (broadcastInDim S1x2048 ![1] bcast_S2048_S1x2048_1 sk))))

theorem gated_at (a : FVec Ideal S16896x2048 .bf16) (y u : FVec Ideal S16896x2048 .f32) (sk : FVec Ideal S2048 .f32) (R : Fin 16896) (k : Fin 2048) :
    gated a y u sk (ix2 R k) = (a (ix2 R k) : EReal) * (y (ix2 R k) + u (ix2 R k) * sk (ix1 k)) :=
  congrArg (fun z : EReal => (a (ix2 R k) : EReal) * (y (ix2 R k) + u (ix2 R k) * z))
    ((hrow_at (M := 16896) (N := 2048) (by decide) _ _ R k).trans (hvec_at (N := 2048) (by decide) sk _ k))

/-- Each stream's rows. -/
def latent (g : FVec Ideal S16896x2048 .f32) (w : FVec Ideal S2048x2048 .f32) (b : FVec Ideal S2048 .f32) (x : FVec Ideal S16896x2048 .f32) (mod : FVec Ideal S2x1x12288 .f32) :
    FVec Ideal S16384x2048 .f32 :=
  addf (extractStridedSlice S16384x2048 ![0, 0] x slices_S16896x2048_S16384x2048_0_0) (mulf (broadcastInDim S16384x2048 ![0, 1] bcast_S1x2048_S16384x2048_0_1
    (shapeCast _ (extractStridedSlice S1x1x2048 ![0, 0, 4096] mod slices_S2x1x12288_S1x1x2048_0_0_4096) shapeCasts_S1x1x2048_S1x2048))
    (addf (Host.dotGeneral dot_S16384x2048_S2048x2048_S16384x2048_1_0_0_1_n_n none (extractStridedSlice S16384x2048 ![0, 0] g slices_S16896x2048_S16384x2048_0_0) w)
      (broadcastInDim S16384x2048 ![0, 1] bcast_S1x2048_S16384x2048_0_1 (broadcastInDim S1x2048 ![1] bcast_S2048_S1x2048_1 b))))
def context (g : FVec Ideal S16896x2048 .f32) (w : FVec Ideal S2048x2048 .f32) (b : FVec Ideal S2048 .f32) (x : FVec Ideal S16896x2048 .f32) (mod : FVec Ideal S2x1x12288 .f32) :
    FVec Ideal S512x2048 .f32 :=
  addf (extractStridedSlice S512x2048 ![16384, 0] x slices_S16896x2048_S512x2048_16384_0) (mulf (broadcastInDim S512x2048 ![0, 1] bcast_S1x2048_S512x2048_0_1
    (shapeCast _ (extractStridedSlice S1x1x2048 ![1, 0, 4096] mod slices_S2x1x12288_S1x1x2048_1_0_4096) shapeCasts_S1x1x2048_S1x2048))
    (addf (Host.dotGeneral dot_S512x2048_S2048x2048_S512x2048_1_0_0_1_n_n none (extractStridedSlice S512x2048 ![16384, 0] g slices_S16896x2048_S512x2048_16384_0) w)
      (broadcastInDim S512x2048 ![0, 1] bcast_S1x2048_S512x2048_0_1 (broadcastInDim S1x2048 ![1] bcast_S2048_S1x2048_1 b))))

/-- The reference's result. -/
def result (a : FVec Ideal S16896x2048 .bf16) (y u : FVec Ideal S16896x2048 .f32) (sk : FVec Ideal S2048 .f32) (w : FVec Ideal S2048x2048 .f32) (b : FVec Ideal S2048 .f32)
    (x : FVec Ideal S16896x2048 .f32) (mod : FVec Ideal S2x1x12288 .f32) : FVec Ideal S16896x2048 .f32 :=
  concatenate S16896x2048 0 [⟨S16384x2048, latent (gated a y u sk) w b x mod⟩, ⟨S512x2048, context (gated a y u sk) w b x mod⟩] concatenates_S16384x2048_S512x2048_S16896x2048_d0

theorem result_at (a : FVec Ideal S16896x2048 .bf16) (y u : FVec Ideal S16896x2048 .f32) (sk : FVec Ideal S2048 .f32) (w : FVec Ideal S2048x2048 .f32) (b : FVec Ideal S2048 .f32)
    (x : FVec Ideal S16896x2048 .f32) (mod : FVec Ideal S2x1x12288 .f32) (R : Fin 16896) (n : Fin 2048) :
    result a y u sk w b x mod (ix2 R n) = (x (ix2 R n) : EReal) + mod (ix3 (stream R) (0 : Fin 1) (⟨4096 + n.val, by omega⟩ : Fin 12288))
      * ((∑ k : Fin 2048, ((a (ix2 R k) : EReal) * (y (ix2 R k) + u (ix2 R k) * sk (ix1 k))) * w (ix2 k n)) + b (ix1 n)) := by
  unfold result
  refine streams_at (N := 2048) _ _ _ R n _ (fun r hr hs => ?_) (fun r hr hs => ?_)
  · unfold latent
    refine congr (congrArg (HAdd.hAdd (α := EReal)) (rows_at (M := 16384) (N := 2048) x _ r n R hr)) (congr (congrArg (HMul.hMul (α := EReal)) ?_)
      (congr (congrArg (HAdd.hAdd (α := EReal)) ?_) ?_))
    · exact (hrow_at (M := 16384) (N := 2048) (by decide) _ _ r n).trans (chunk_at (N := 2048) mod _ _ n (stream R) (by rw [hs]; rfl) _ rfl)
    · refine (dotGeneral_plain_apply (m := 16384) (k := 2048) (n := 2048) none _ _ r n).trans ?_
      exact Finset.sum_congr rfl fun k _ => congrArg (fun z : EReal => z * w (ix2 k n)) ((rows_at (M := 16384) (N := 2048) (gated a y u sk) _ r k R hr).trans (gated_at a y u sk R k))
    · exact (hrow_at (M := 16384) (N := 2048) (by decide) _ _ r n).trans (hvec_at (N := 2048) (by decide) b _ n)
  · unfold context
    refine congr (congrArg (HAdd.hAdd (α := EReal)) (rows_at (M := 512) (N := 2048) x _ r n R hr)) (congr (congrArg (HMul.hMul (α := EReal)) ?_)
      (congr (congrArg (HAdd.hAdd (α := EReal)) ?_) ?_))
    · exact (hrow_at (M := 512) (N := 2048) (by decide) _ _ r n).trans (chunk_at (N := 2048) mod _ _ n (stream R) (by rw [hs]; rfl) _ rfl)
    · refine (dotGeneral_plain_apply (m := 512) (k := 2048) (n := 2048) none _ _ r n).trans ?_
      exact Finset.sum_congr rfl fun k _ => congrArg (fun z : EReal => z * w (ix2 k n)) ((rows_at (M := 512) (N := 2048) (gated a y u sk) _ r k R hr).trans (gated_at a y u sk R k))
    · exact (hrow_at (M := 512) (N := 2048) (by decide) _ _ r n).trans (hvec_at (N := 2048) (by decide) b _ n)

end Cert.Reference5Ideal.Hand

end
-- ==== Proof.NormRef.lean ====
module

public import proofs.«01_k».proof.Proof.Norm
public import proofs.«01_k».proof.Proof.Gen.Reference6Ideal.Run

/-! # The reference's modulated norm and its projection, element by element -/

@[expose] public section

set_option maxRecDepth 16384

noncomputable section

namespace Cert.Reference6Ideal.Hand

open Cert.Reference6Ideal Cert.Reference6Ideal.Gen Cert.Mix
open Idealize.ShloMosaic hiding ix0 ix1 ix2 ix3 ix4 eq_ix2
open Idealize.ShloMosaic.ValueIdx (ix1 ix2 ix3)
open Idealize.ShloMosaic.StackMember (dotGeneral_plain_apply)
open scoped BigOperators

/-- Each stream's rows, normed. -/
def latentN (x : FVec Ideal S16896x2048 .f32) (g : FVec Ideal S2048 .f32) (mod : FVec Ideal S2x1x12288 .f32) : FVec Ideal S16384x2048 .f32 :=
  addf (mulf (mulf (mulf (extractStridedSlice S16384x2048 ![0, 0] x slices_S16896x2048_S16384x2048_0_0) (broadcastInDim S16384x2048 ![0, 1] bcast_S16384x1_S16384x2048_0_1
    (Host.rsqrt (addf (Host.divf (broadcastInDim S16384x1 ![0] bcast_S16384_S16384x1_0 (Host.reduceAdd (mulf (extractStridedSlice S16384x2048 ![0, 0] x slices_S16896x2048_S16384x2048_0_0)
      (extractStridedSlice S16384x2048 ![0, 0] x slices_S16896x2048_S16384x2048_0_0)) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (addf (broadcastInDim S1x2048 ![] bcast_S_S1x2048 (constant S_ .f32 0x3F800000#32))
      (shapeCast _ (extractStridedSlice S1x1x2048 ![0, 0, 2048] mod slices_S2x1x12288_S1x1x2048_0_0_2048) shapeCasts_S1x1x2048_S1x2048))))
    (broadcastInDim S16384x2048 ![0, 1] bcast_S1x2048_S16384x2048_0_1
      (shapeCast _ (extractStridedSlice S1x1x2048 ![0, 0, 0] mod slices_S2x1x12288_S1x1x2048_0_0_0) shapeCasts_S1x1x2048_S1x2048))
def contextN (x : FVec Ideal S16896x2048 .f32) (g : FVec Ideal S2048 .f32) (mod : FVec Ideal S2x1x12288 .f32) : FVec Ideal S512x2048 .f32 :=
  addf (mulf (mulf (mulf (extractStridedSlice S512x2048 ![16384, 0] x slices_S16896x2048_S512x2048_16384_0) (broadcastInDim S512x2048 ![0, 1] bcast_S512x1_S512x2048_0_1
    (Host.rsqrt (addf (Host.divf (broadcastInDim S512x1 ![0] bcast_S512_S512x1_0 (Host.reduceAdd (mulf (extractStridedSlice S512x2048 ![16384, 0] x slices_S16896x2048_S512x2048_16384_0)
      (extractStridedSlice S512x2048 ![16384, 0] x slices_S16896x2048_S512x2048_16384_0)) (constant S_ .f32 0x00000000#32) reducesTo_S512x2048_S512_d1 h_S_))
      (broadcastInDim S512x1 ![] bcast_S_S512x1 (constant S_ .f32 0x45000000#32))) (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g)))
    (broadcastInDim S512x2048 ![0, 1] bcast_S1x2048_S512x2048_0_1 (addf (broadcastInDim S1x2048 ![] bcast_S_S1x2048 (constant S_ .f32 0x3F800000#32))
      (shapeCast _ (extractStridedSlice S1x1x2048 ![1, 0, 2048] mod slices_S2x1x12288_S1x1x2048_1_0_2048) shapeCasts_S1x1x2048_S1x2048))))
    (broadcastInDim S512x2048 ![0, 1] bcast_S1x2048_S512x2048_0_1
      (shapeCast _ (extractStridedSlice S1x1x2048 ![1, 0, 0] mod slices_S2x1x12288_S1x1x2048_1_0_0) shapeCasts_S1x1x2048_S1x2048))

/-- … and projected. -/
def latent (x : FVec Ideal S16896x2048 .f32) (g : FVec Ideal S2048 .f32) (mod : FVec Ideal S2x1x12288 .f32) (w : FVec Ideal S2048x6144 .f32) (b : FVec Ideal S6144 .f32) :
    FVec Ideal S16384x6144 .f32 :=
  addf (Host.dotGeneral dot_S16384x2048_S2048x6144_S16384x6144_1_0_0_1_n_n none (latentN x g mod) w)
    (broadcastInDim S16384x6144 ![0, 1] bcast_S1x6144_S16384x6144_0_1 (broadcastInDim S1x6144 ![1] bcast_S6144_S1x6144_1 b))
def context (x : FVec Ideal S16896x2048 .f32) (g : FVec Ideal S2048 .f32) (mod : FVec Ideal S2x1x12288 .f32) (w : FVec Ideal S2048x6144 .f32) (b : FVec Ideal S6144 .f32) :
    FVec Ideal S512x6144 .f32 :=
  addf (Host.dotGeneral dot_S512x2048_S2048x6144_S512x6144_1_0_0_1_n_n none (contextN x g mod) w)
    (broadcastInDim S512x6144 ![0, 1] bcast_S1x6144_S512x6144_0_1 (broadcastInDim S1x6144 ![1] bcast_S6144_S1x6144_1 b))

/-- A row normed. -/
def row (x : FVec Ideal S16896x2048 .f32) (g : FVec Ideal S2048 .f32) (mod : FVec Ideal S2x1x12288 .f32) (R : Fin 16896) (k : Fin 2048) : EReal :=
  normed (fun k => x (ix2 R k)) (fun k => g (ix1 k)) (fun k => mod (ix3 (stream R) (0 : Fin 1) (⟨2048 + k.val, by omega⟩ : Fin 12288)))
    (fun k => mod (ix3 (stream R) (0 : Fin 1) (⟨0 + k.val, by omega⟩ : Fin 12288))) k

theorem latentN_at (x : FVec Ideal S16896x2048 .f32) (g : FVec Ideal S2048 .f32) (mod : FVec Ideal S2x1x12288 .f32) (R : Fin 16896) (r : Fin 16384) (k : Fin 2048)
    (hr : R.val = 0 + r.val) (hs : stream R = 0) : latentN x g mod (ix2 r k) = row x g mod R k := by
  unfold latentN row
  refine (hnorm_at (M := 16384) (by decide) _ g _ _ _ _ _ _ _ _ _ _ r k).trans ?_
  refine congrFun (congr (congr (congr (congrArg normed ?_) rfl) ?_) ?_) k
  · exact funext fun k => rows_at (M := 16384) (N := 2048) x _ r k R hr
  · exact funext fun k => chunk_at (N := 2048) mod _ _ k (stream R) (by rw [hs]; rfl) _ rfl
  · exact funext fun k => chunk_at (N := 2048) mod _ _ k (stream R) (by rw [hs]; rfl) _ rfl

theorem contextN_at (x : FVec Ideal S16896x2048 .f32) (g : FVec Ideal S2048 .f32) (mod : FVec Ideal S2x1x12288 .f32) (R : Fin 16896) (r : Fin 512) (k : Fin 2048)
    (hr : R.val = 16384 + r.val) (hs : stream R = 1) : contextN x g mod (ix2 r k) = row x g mod R k := by
  unfold contextN row
  refine (hnorm_at (M := 512) (by decide) _ g _ _ _ _ _ _ _ _ _ _ r k).trans ?_
  refine congrFun (congr (congr (congr (congrArg normed ?_) rfl) ?_) ?_) k
  · exact funext fun k => rows_at (M := 512) (N := 2048) x _ r k R hr
  · exact funext fun k => chunk_at (N := 2048) mod _ _ k (stream R) (by rw [hs]; rfl) _ rfl
  · exact funext fun k => chunk_at (N := 2048) mod _ _ k (stream R) (by rw [hs]; rfl) _ rfl

/-- The reference's result. -/
def result (x : FVec Ideal S16896x2048 .f32) (g : FVec Ideal S2048 .f32) (mod : FVec Ideal S2x1x12288 .f32) (w : FVec Ideal S2048x6144 .f32) (b : FVec Ideal S6144 .f32) :
    FVec Ideal S16896x6144 .bf16 :=
  truncf .bf16 (concatenate S16896x6144 0 [⟨S16384x6144, latent x g mod w b⟩, ⟨S512x6144, context x g mod w b⟩] concatenates_S16384x6144_S512x6144_S16896x6144_d0) bitsLt_bf16_f32

theorem result_at (x : FVec Ideal S16896x2048 .f32) (g : FVec Ideal S2048 .f32) (mod : FVec Ideal S2x1x12288 .f32) (w : FVec Ideal S2048x6144 .f32) (b : FVec Ideal S6144 .f32)
    (R : Fin 16896) (n : Fin 6144) :
    result x g mod w b (ix2 R n) = (∑ k : Fin 2048, row x g mod R k * w (ix2 k n)) + b (ix1 n) := by
  unfold result
  refine streams_at (N := 6144) (latent x g mod w b) (context x g mod w b) concatenates_S16384x6144_S512x6144_S16896x6144_d0 R n _ (fun r hr hs => ?_) (fun r hr hs => ?_)
  · unfold latent
    refine congr (congrArg (HAdd.hAdd (α := EReal)) ?_) ((hrow_at (M := 16384) (N := 6144) (by decide) _ _ r n).trans (hvec_at (N := 6144) (by decide) b _ n))
    refine (dotGeneral_plain_apply (m := 16384) (k := 2048) (n := 6144) none _ _ r n).trans ?_
    exact Finset.sum_congr rfl fun k _ => congrArg (fun z : EReal => z * w (ix2 k n)) (latentN_at x g mod R r k hr hs)
  · unfold context
    refine congr (congrArg (HAdd.hAdd (α := EReal)) ?_) ((hrow_at (M := 512) (N := 6144) (by decide) _ _ r n).trans (hvec_at (N := 6144) (by decide) b _ n))
    refine (dotGeneral_plain_apply (m := 512) (k := 2048) (n := 6144) none _ _ r n).trans ?_
    exact Finset.sum_congr rfl fun k _ => congrArg (fun z : EReal => z * w (ix2 k n)) (contextN_at x g mod R r k hr hs)

end Cert.Reference6Ideal.Hand

end
-- ==== Proof.GluRef.lean ====
module

public import proofs.«01_k».proof.Proof.Glu
public import proofs.«01_k».proof.Proof.Gen.Reference7Ideal.Run

/-! # The reference's gated linear unit, element by element -/

@[expose] public section

set_option maxRecDepth 16384

noncomputable section

namespace Cert.Reference7Ideal.Hand

open Cert.Reference7Ideal Cert.Reference7Ideal.Gen Cert.Mix
open Idealize.ShloMosaic hiding ix0 ix1 ix2 ix3 ix4 eq_ix2
open Idealize.ShloMosaic.ValueIdx (ix1 ix2 ix3)
open Idealize.ShloMosaic.StackMember (dotGeneral_plain_apply)
open scoped BigOperators

/-- Each stream's rows: normed, with the skip and the scan's output, activated, projected, gated. -/
def latentN (x : FVec Ideal S16896x2048 .f32) (g : FVec Ideal S2048 .f32) (mod : FVec Ideal S2x1x12288 .f32) : FVec Ideal S16384x2048 .f32 :=
  addf (mulf (mulf (mulf (extractStridedSlice S16384x2048 ![0, 0] x slices_S16896x2048_S16384x2048_0_0) (broadcastInDim S16384x2048 ![0, 1] bcast_S16384x1_S16384x2048_0_1
    (Host.rsqrt (addf (Host.divf (broadcastInDim S16384x1 ![0] bcast_S16384_S16384x1_0 (Host.reduceAdd (mulf (extractStridedSlice S16384x2048 ![0, 0] x slices_S16896x2048_S16384x2048_0_0)
      (extractStridedSlice S16384x2048 ![0, 0] x slices_S16896x2048_S16384x2048_0_0)) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (addf (broadcastInDim S1x2048 ![] bcast_S_S1x2048 (constant S_ .f32 0x3F800000#32))
      (extractStridedSlice S1x2048 ![0, 2048] (shapeCast _ (extractStridedSlice S1x1x12288 ![0, 0, 0] mod slices_S2x1x12288_S1x1x12288_0_0_0) shapeCasts_S1x1x12288_S1x12288) slices_S1x12288_S1x2048_0_2048))))
    (broadcastInDim S16384x2048 ![0, 1] bcast_S1x2048_S16384x2048_0_1
      (extractStridedSlice S1x2048 ![0, 0] (shapeCast _ (extractStridedSlice S1x1x12288 ![0, 0, 0] mod slices_S2x1x12288_S1x1x12288_0_0_0) shapeCasts_S1x1x12288_S1x12288) slices_S1x12288_S1x2048_0_0))
def latentP (x : FVec Ideal S16896x2048 .f32) (g : FVec Ideal S2048 .f32) (mod : FVec Ideal S2x1x12288 .f32) (ys : FVec Ideal S16896x2048 .f32) (sk : FVec Ideal S2048 .f32) : FVec Ideal S16384x2048 .f32 :=
  addf (mulf (broadcastInDim S16384x2048 ![0, 1] bcast_S1x2048_S16384x2048_0_1 (broadcastInDim S1x2048 ![1] bcast_S2048_S1x2048_1 sk)) (latentN x g mod))
    (extractStridedSlice S16384x2048 ![0, 0] ys slices_S16896x2048_S16384x2048_0_0)
def latentZ (x : FVec Ideal S16896x2048 .f32) (g : FVec Ideal S2048 .f32) (mod : FVec Ideal S2x1x12288 .f32) (ys : FVec Ideal S16896x2048 .f32) (sk : FVec Ideal S2048 .f32) : FVec Ideal S16384x2048 .f32 :=
  mulf (latentP x g mod ys sk) (mulf (broadcastInDim S16384x2048 ![] bcast_S_S16384x2048 (constant S_ .f32 0x3F000000#32)) (addf (broadcastInDim S16384x2048 ![] bcast_S_S16384x2048 (constant S_ .f32 0x3F800000#32)) (Host.tanh (mulf (broadcastInDim S16384x2048 ![] bcast_S_S16384x2048 (constant S_ .f32 0x3F4C422A#32)) (addf (latentP x g mod ys sk) (mulf (broadcastInDim S16384x2048 ![] bcast_S_S16384x2048 (constant S_ .f32 0x3D372713#32)) (mulf (mulf (latentP x g mod ys sk) (latentP x g mod ys sk)) (latentP x g mod ys sk))))))))
def latentG (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) : FVec Ideal S16384x4096 .f32 :=
  addf (Host.dotGeneral dot_S16384x2048_S2048x4096_S16384x4096_1_0_0_1_n_n none (latentZ x g mod ys sk) w)
    (broadcastInDim S16384x4096 ![0, 1] bcast_S1x4096_S16384x4096_0_1 (broadcastInDim S1x4096 ![1] bcast_S4096_S1x4096_1 b))
def latent (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) : FVec Ideal S16384x2048 .f32 :=
  addf (extractStridedSlice S16384x2048 ![0, 0] x slices_S16896x2048_S16384x2048_0_0) (mulf (broadcastInDim S16384x2048 ![0, 1] bcast_S1x2048_S16384x2048_0_1 (extractStridedSlice S1x2048 ![0, 4096] (shapeCast _ (extractStridedSlice S1x1x12288 ![0, 0, 0] mod slices_S2x1x12288_S1x1x12288_0_0_0) shapeCasts_S1x1x12288_S1x12288) slices_S1x12288_S1x2048_0_4096))
    (mulf (extractStridedSlice S16384x2048 ![0, 0] (latentG x g mod ys sk w b) slices_S16384x4096_S16384x2048_0_0)
      (Host.divf (broadcastInDim S16384x2048 ![] bcast_S_S16384x2048 (constant S_ .f32 0x3F800000#32)) (addf (broadcastInDim S16384x2048 ![] bcast_S_S16384x2048 (constant S_ .f32 0x3F800000#32)) (Host.exp (Host.negf (extractStridedSlice S16384x2048 ![0, 2048] (latentG x g mod ys sk w b) slices_S16384x4096_S16384x2048_0_2048)))))))

def contextN (x : FVec Ideal S16896x2048 .f32) (g : FVec Ideal S2048 .f32) (mod : FVec Ideal S2x1x12288 .f32) : FVec Ideal S512x2048 .f32 :=
  addf (mulf (mulf (mulf (extractStridedSlice S512x2048 ![16384, 0] x slices_S16896x2048_S512x2048_16384_0) (broadcastInDim S512x2048 ![0, 1] bcast_S512x1_S512x2048_0_1
    (Host.rsqrt (addf (Host.divf (broadcastInDim S512x1 ![0] bcast_S512_S512x1_0 (Host.reduceAdd (mulf (extractStridedSlice S512x2048 ![16384, 0] x slices_S16896x2048_S512x2048_16384_0)
      (extractStridedSlice S512x2048 ![16384, 0] x slices_S16896x2048_S512x2048_16384_0)) (constant S_ .f32 0x00000000#32) reducesTo_S512x2048_S512_d1 h_S_))
      (broadcastInDim S512x1 ![] bcast_S_S512x1 (constant S_ .f32 0x45000000#32))) (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g)))
    (broadcastInDim S512x2048 ![0, 1] bcast_S1x2048_S512x2048_0_1 (addf (broadcastInDim S1x2048 ![] bcast_S_S1x2048 (constant S_ .f32 0x3F800000#32))
      (extractStridedSlice S1x2048 ![0, 2048] (shapeCast _ (extractStridedSlice S1x1x12288 ![1, 0, 0] mod slices_S2x1x12288_S1x1x12288_1_0_0) shapeCasts_S1x1x12288_S1x12288) slices_S1x12288_S1x2048_0_2048))))
    (broadcastInDim S512x2048 ![0, 1] bcast_S1x2048_S512x2048_0_1
      (extractStridedSlice S1x2048 ![0, 0] (shapeCast _ (extractStridedSlice S1x1x12288 ![1, 0, 0] mod slices_S2x1x12288_S1x1x12288_1_0_0) shapeCasts_S1x1x12288_S1x12288) slices_S1x12288_S1x2048_0_0))
def contextP (x : FVec Ideal S16896x2048 .f32) (g : FVec Ideal S2048 .f32) (mod : FVec Ideal S2x1x12288 .f32) (ys : FVec Ideal S16896x2048 .f32) (sk : FVec Ideal S2048 .f32) : FVec Ideal S512x2048 .f32 :=
  addf (mulf (broadcastInDim S512x2048 ![0, 1] bcast_S1x2048_S512x2048_0_1 (broadcastInDim S1x2048 ![1] bcast_S2048_S1x2048_1 sk)) (contextN x g mod))
    (extractStridedSlice S512x2048 ![16384, 0] ys slices_S16896x2048_S512x2048_16384_0)
def contextZ (x : FVec Ideal S16896x2048 .f32) (g : FVec Ideal S2048 .f32) (mod : FVec Ideal S2x1x12288 .f32) (ys : FVec Ideal S16896x2048 .f32) (sk : FVec Ideal S2048 .f32) : FVec Ideal S512x2048 .f32 :=
  mulf (contextP x g mod ys sk) (mulf (broadcastInDim S512x2048 ![] bcast_S_S512x2048 (constant S_ .f32 0x3F000000#32)) (addf (broadcastInDim S512x2048 ![] bcast_S_S512x2048 (constant S_ .f32 0x3F800000#32)) (Host.tanh (mulf (broadcastInDim S512x2048 ![] bcast_S_S512x2048 (constant S_ .f32 0x3F4C422A#32)) (addf (contextP x g mod ys sk) (mulf (broadcastInDim S512x2048 ![] bcast_S_S512x2048 (constant S_ .f32 0x3D372713#32)) (mulf (mulf (contextP x g mod ys sk) (contextP x g mod ys sk)) (contextP x g mod ys sk))))))))
def contextG (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) : FVec Ideal S512x4096 .f32 :=
  addf (Host.dotGeneral dot_S512x2048_S2048x4096_S512x4096_1_0_0_1_n_n none (contextZ x g mod ys sk) w)
    (broadcastInDim S512x4096 ![0, 1] bcast_S1x4096_S512x4096_0_1 (broadcastInDim S1x4096 ![1] bcast_S4096_S1x4096_1 b))
def context (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) : FVec Ideal S512x2048 .f32 :=
  addf (extractStridedSlice S512x2048 ![16384, 0] x slices_S16896x2048_S512x2048_16384_0) (mulf (broadcastInDim S512x2048 ![0, 1] bcast_S1x2048_S512x2048_0_1 (extractStridedSlice S1x2048 ![0, 4096] (shapeCast _ (extractStridedSlice S1x1x12288 ![1, 0, 0] mod slices_S2x1x12288_S1x1x12288_1_0_0) shapeCasts_S1x1x12288_S1x12288) slices_S1x12288_S1x2048_0_4096))
    (mulf (extractStridedSlice S512x2048 ![0, 0] (contextG x g mod ys sk w b) slices_S512x4096_S512x2048_0_0)
      (Host.divf (broadcastInDim S512x2048 ![] bcast_S_S512x2048 (constant S_ .f32 0x3F800000#32)) (addf (broadcastInDim S512x2048 ![] bcast_S_S512x2048 (constant S_ .f32 0x3F800000#32)) (Host.exp (Host.negf (extractStridedSlice S512x2048 ![0, 2048] (contextG x g mod ys sk w b) slices_S512x4096_S512x2048_0_2048)))))))

/-- A row normed, and activated. -/
def nrow (x : FVec Ideal S16896x2048 .f32) (g : FVec Ideal S2048 .f32) (mod : FVec Ideal S2x1x12288 .f32) (R : Fin 16896) (k : Fin 2048) : EReal :=
  normed (fun k => x (ix2 R k)) (fun k => g (ix1 k)) (fun k => mod (ix3 (stream R) (0 : Fin 1) (⟨2048 + k.val, by omega⟩ : Fin 12288)))
    (fun k => mod (ix3 (stream R) (0 : Fin 1) (⟨0 + k.val, by omega⟩ : Fin 12288))) k
def row (x : FVec Ideal S16896x2048 .f32) (g : FVec Ideal S2048 .f32) (mod : FVec Ideal S2x1x12288 .f32) (ys : FVec Ideal S16896x2048 .f32) (sk : FVec Ideal S2048 .f32) (R : Fin 16896) (k : Fin 2048) : EReal := gelu (sk (ix1 k) * nrow x g mod R k + ys (ix2 R k))

/-- A column of the value's half, and of the gate's. -/
def lo (n : Fin 2048) : Fin 4096 := ⟨n.val, by omega⟩
def hi (n : Fin 2048) : Fin 4096 := ⟨2048 + n.val, by omega⟩

theorem latentN_at (x : FVec Ideal S16896x2048 .f32) (g : FVec Ideal S2048 .f32) (mod : FVec Ideal S2x1x12288 .f32) (R : Fin 16896) (r : Fin 16384) (k : Fin 2048)
    (hr : R.val = 0 + r.val) (hs : stream R = 0) : latentN x g mod (ix2 r k) = nrow x g mod R k := by
  unfold latentN nrow
  refine (hnorm_at (M := 16384) (by decide) _ g _ _ _ _ _ _ _ _ _ _ r k).trans ?_
  refine congrFun (congr (congr (congr (congrArg normed ?_) rfl) ?_) ?_) k
  · exact funext fun k => rows_at (M := 16384) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

theorem latentZ_at (x : FVec Ideal S16896x2048 .f32) (g : FVec Ideal S2048 .f32) (mod : FVec Ideal S2x1x12288 .f32) (ys : FVec Ideal S16896x2048 .f32) (sk : FVec Ideal S2048 .f32) (R : Fin 16896) (r : Fin 16384) (k : Fin 2048)
    (hr : R.val = 0 + r.val) (hs : stream R = 0) : latentZ x g mod ys sk (ix2 r k) = row x g mod ys sk R k := by
  have e : latentP x g mod ys sk (ix2 r k) = sk (ix1 k) * nrow x g mod R k + ys (ix2 R k) := by
    unfold latentP
    exact congr (congrArg (HAdd.hAdd (α := EReal)) (congr (congrArg (HMul.hMul (α := EReal)) ((hrow_at (M := 16384) (N := 2048) (by decide) _ _ r k).trans (hvec_at (N := 2048) (by decide) sk _ k)))
      (latentN_at x g mod R r k hr hs))) (rows_at (M := 16384) (N := 2048) ys _ r k R hr)
  unfold row
  refine Eq.trans ?_ (congrArg gelu e)
  unfold latentZ gelu
  refine congrArg (fun z : EReal => latentP x g mod ys sk (ix2 r k) * (Ideal.ofBits .f32 0x3F000000#32 * (Ideal.ofBits .f32 0x3F800000#32
    + Ideal.tanh (Ideal.ofBits .f32 0x3F4C422A#32 * (latentP x g mod ys sk (ix2 r k) + Ideal.ofBits .f32 0x3D372713#32 * z))))) ?_
  exact mul_comm (G := EReal) _ _

theorem latentG_at (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) (R : Fin 16896) (r : Fin 16384) (n : Fin 4096)
    (hr : R.val = 0 + r.val) (hs : stream R = 0) : latentG x g mod ys sk w b (ix2 r n) = (∑ k : Fin 2048, row x g mod ys sk R k * w (ix2 k n)) + b (ix1 n) := by
  unfold latentG
  refine congr (congrArg (HAdd.hAdd (α := EReal)) ?_) ((hrow_at (M := 16384) (N := 4096) (by decide) _ _ r n).trans (hvec_at (N := 4096) (by decide) b _ n))
  refine (dotGeneral_plain_apply (m := 16384) (k := 2048) (n := 4096) none _ _ r n).trans ?_
  exact Finset.sum_congr rfl fun k _ => congrArg (fun z : EReal => z * w (ix2 k n)) (latentZ_at x g mod ys sk R r k hr hs)

theorem contextN_at (x : FVec Ideal S16896x2048 .f32) (g : FVec Ideal S2048 .f32) (mod : FVec Ideal S2x1x12288 .f32) (R : Fin 16896) (r : Fin 512) (k : Fin 2048)
    (hr : R.val = 16384 + r.val) (hs : stream R = 1) : contextN x g mod (ix2 r k) = nrow x g mod R k := by
  unfold contextN nrow
  refine (hnorm_at (M := 512) (by decide) _ g _ _ _ _ _ _ _ _ _ _ r k).trans ?_
  refine congrFun (congr (congr (congr (congrArg normed ?_) rfl) ?_) ?_) k
  · exact funext fun k => rows_at (M := 512) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

theorem contextZ_at (x : FVec Ideal S16896x2048 .f32) (g : FVec Ideal S2048 .f32) (mod : FVec Ideal S2x1x12288 .f32) (ys : FVec Ideal S16896x2048 .f32) (sk : FVec Ideal S2048 .f32) (R : Fin 16896) (r : Fin 512) (k : Fin 2048)
    (hr : R.val = 16384 + r.val) (hs : stream R = 1) : contextZ x g mod ys sk (ix2 r k) = row x g mod ys sk R k := by
  have e : contextP x g mod ys sk (ix2 r k) = sk (ix1 k) * nrow x g mod R k + ys (ix2 R k) := by
    unfold contextP
    exact congr (congrArg (HAdd.hAdd (α := EReal)) (congr (congrArg (HMul.hMul (α := EReal)) ((hrow_at (M := 512) (N := 2048) (by decide) _ _ r k).trans (hvec_at (N := 2048) (by decide) sk _ k)))
      (contextN_at x g mod R r k hr hs))) (rows_at (M := 512) (N := 2048) ys _ r k R hr)
  unfold row
  refine Eq.trans ?_ (congrArg gelu e)
  unfold contextZ gelu
  refine congrArg (fun z : EReal => contextP x g mod ys sk (ix2 r k) * (Ideal.ofBits .f32 0x3F000000#32 * (Ideal.ofBits .f32 0x3F800000#32
    + Ideal.tanh (Ideal.ofBits .f32 0x3F4C422A#32 * (contextP x g mod ys sk (ix2 r k) + Ideal.ofBits .f32 0x3D372713#32 * z))))) ?_
  exact mul_comm (G := EReal) _ _

theorem contextG_at (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) (R : Fin 16896) (r : Fin 512) (n : Fin 4096)
    (hr : R.val = 16384 + r.val) (hs : stream R = 1) : contextG x g mod ys sk w b (ix2 r n) = (∑ k : Fin 2048, row x g mod ys sk R k * w (ix2 k n)) + b (ix1 n) := by
  unfold contextG
  refine congr (congrArg (HAdd.hAdd (α := EReal)) ?_) ((hrow_at (M := 512) (N := 4096) (by decide) _ _ r n).trans (hvec_at (N := 4096) (by decide) b _ n))
  refine (dotGeneral_plain_apply (m := 512) (k := 2048) (n := 4096) none _ _ r n).trans ?_
  exact Finset.sum_congr rfl fun k _ => congrArg (fun z : EReal => z * w (ix2 k n)) (contextZ_at x g mod ys sk R r k hr hs)

/-- The reference's result. -/
def result (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32) : FVec Ideal S16896x2048 .f32 :=
  concatenate S16896x2048 0 [⟨S16384x2048, latent x g mod ys sk w b⟩, ⟨S512x2048, context x g mod ys sk w b⟩] concatenates_S16384x2048_S512x2048_S16896x2048_d0

theorem result_at (x : FVec Ideal S16896x2048 .f32) (g : FVec Ideal S2048 .f32) (mod : FVec Ideal S2x1x12288 .f32) (ys : FVec Ideal S16896x2048 .f32) (sk : FVec Ideal S2048 .f32) (w : FVec Ideal S2048x4096 .f32) (b : FVec Ideal S4096 .f32)
    (R : Fin 16896) (n : Fin 2048) :
    result x g mod ys sk w b (ix2 R n) = x (ix2 R n) + mod (ix3 (stream R) (0 : Fin 1) (⟨4096 + n.val, by omega⟩ : Fin 12288))
      * (((∑ k : Fin 2048, row x g mod ys sk R k * w (ix2 k (lo n))) + b (ix1 (lo n))) * sigm ((∑ k : Fin 2048, row x g mod ys sk R k * w (ix2 k (hi n))) + b (ix1 (hi n)))) := by
  unfold result
  refine streams_at (N := 2048) (latent x g mod ys sk w b) (context x g mod ys sk w b) concatenates_S16384x2048_S512x2048_S16896x2048_d0 R n _ (fun r hr hs => ?_) (fun r hr hs => ?_)
  · unfold latent
    refine congr (congrArg (HAdd.hAdd (α := EReal)) (rows_at (M := 16384) (N := 2048) x _ r n R hr)) (congr (congrArg (HMul.hMul (α := EReal)) ?_)
      (congr (congrArg (HMul.hMul (α := EReal)) ?_) ?_))
    · exact (hrow_at (M := 16384) (N := 2048) (by decide) _ _ r n).trans (wide_at (N := 2048) (P := 12288) mod _ _ _ n (stream R) (by rw [hs]; rfl) _ rfl)
    · exact (cols_at (M := 16384) (N := 2048) (P := 4096) _ _ r n (lo n) (Nat.zero_add _).symm).trans (latentG_at x g mod ys sk w b R r (lo n) hr hs)
    · exact congrArg sigm ((cols_at (M := 16384) (N := 2048) (P := 4096) _ _ r n (hi n) rfl).trans (latentG_at x g mod ys sk w b R r (hi n) hr hs))
  · unfold context
    refine congr (congrArg (HAdd.hAdd (α := EReal)) (rows_at (M := 512) (N := 2048) x _ r n R hr)) (congr (congrArg (HMul.hMul (α := EReal)) ?_)
      (congr (congrArg (HMul.hMul (α := EReal)) ?_) ?_))
    · exact (hrow_at (M := 512) (N := 2048) (by decide) _ _ r n).trans (wide_at (N := 2048) (P := 12288) mod _ _ _ n (stream R) (by rw [hs]; rfl) _ rfl)
    · exact (cols_at (M := 512) (N := 2048) (P := 4096) _ _ r n (lo n) (Nat.zero_add _).symm).trans (contextG_at x g mod ys sk w b R r (lo n) hr hs)
    · exact congrArg sigm ((cols_at (M := 512) (N := 2048) (P := 4096) _ _ r n (hi n) rfl).trans (contextG_at x g mod ys sk w b R r (hi n) hr hs))

end Cert.Reference7Ideal.Hand

end
-- ==== Proof.QkvRef.lean ====
module

public import proofs.«01_k».proof.Proof.Qkv
public import proofs.«01_k».proof.Proof.Gen.Reference8Ideal.Run

/-! # The reference's queries, keys and values, element by element -/

@[expose] public section

set_option maxRecDepth 16384

noncomputable section

namespace Cert.Reference8Ideal.Hand

open Cert.Reference8Ideal Cert.Reference8Ideal.Gen Cert.Mix
open Idealize.ShloMosaic hiding ix0 ix1 ix2 ix3 ix4 eq_ix2
open Idealize.ShloMosaic.ValueIdx (ix1 ix2 ix3)
open Idealize.ShloMosaic.StackMember (dotGeneral_plain_apply)
open scoped BigOperators

/-- Each stream's rows: normed, modulated, projected; and its heads, normed and turned. -/
def turnQ (y : FVec Ideal S16384x16x128 .f32) (cs sn : FVec Ideal S16384x64 .f32) : FVec Ideal S16384x16x128 .f32 :=
  concatenate S16384x16x128 2 [⟨S16384x16x64, subf (mulf (extractStridedSlice S16384x16x64 ![0, 0, 0] y slices_S16384x16x128_S16384x16x64_0_0_0) (broadcastInDim S16384x16x64 ![0, 1, 2] bcast_S16384x1x64_S16384x16x64_0_1_2 (broadcastInDim S16384x1x64 ![0, 2] bcast_S16384x64_S16384x1x64_0_2 cs))) (mulf (extractStridedSlice S16384x16x64 ![0, 0, 64] y slices_S16384x16x128_S16384x16x64_0_0_64) (broadcastInDim S16384x16x64 ![0, 1, 2] bcast_S16384x1x64_S16384x16x64_0_1_2 (broadcastInDim S16384x1x64 ![0, 2] bcast_S16384x64_S16384x1x64_0_2 sn)))⟩,
    ⟨S16384x16x64, addf (mulf (extractStridedSlice S16384x16x64 ![0, 0, 64] y slices_S16384x16x128_S16384x16x64_0_0_64) (broadcastInDim S16384x16x64 ![0, 1, 2] bcast_S16384x1x64_S16384x16x64_0_1_2 (broadcastInDim S16384x1x64 ![0, 2] bcast_S16384x64_S16384x1x64_0_2 cs))) (mulf (extractStridedSlice S16384x16x64 ![0, 0, 0] y slices_S16384x16x128_S16384x16x64_0_0_0) (broadcastInDim S16384x16x64 ![0, 1, 2] bcast_S16384x1x64_S16384x16x64_0_1_2 (broadcastInDim S16384x1x64 ![0, 2] bcast_S16384x64_S16384x1x64_0_2 sn)))⟩] concatenates_S16384x16x64_S16384x16x64_S16384x16x128_d2
theorem turnQ_at (y : FVec Ideal S16384x16x128 .f32) (cs sn : FVec Ideal S16384x64 .f32) (r : Fin 16384) (h : Fin 16) (k : Fin 128) :
    turnQ y cs sn (ix3 r h k) = turned (fun k => y (ix3 r h k)) (fun j => cs (ix2 r j)) (fun j => sn (ix2 r j)) k := by
  unfold turnQ
  exact turned_host (M := 16384) (H := 16) (by decide) y cs sn _ _ _ _ _ r h k
def turnK (y : FVec Ideal S16384x4x128 .f32) (cs sn : FVec Ideal S16384x64 .f32) : FVec Ideal S16384x4x128 .f32 :=
  concatenate S16384x4x128 2 [⟨S16384x4x64, subf (mulf (extractStridedSlice S16384x4x64 ![0, 0, 0] y slices_S16384x4x128_S16384x4x64_0_0_0) (broadcastInDim S16384x4x64 ![0, 1, 2] bcast_S16384x1x64_S16384x4x64_0_1_2 (broadcastInDim S16384x1x64 ![0, 2] bcast_S16384x64_S16384x1x64_0_2 cs))) (mulf (extractStridedSlice S16384x4x64 ![0, 0, 64] y slices_S16384x4x128_S16384x4x64_0_0_64) (broadcastInDim S16384x4x64 ![0, 1, 2] bcast_S16384x1x64_S16384x4x64_0_1_2 (broadcastInDim S16384x1x64 ![0, 2] bcast_S16384x64_S16384x1x64_0_2 sn)))⟩,
    ⟨S16384x4x64, addf (mulf (extractStridedSlice S16384x4x64 ![0, 0, 64] y slices_S16384x4x128_S16384x4x64_0_0_64) (broadcastInDim S16384x4x64 ![0, 1, 2] bcast_S16384x1x64_S16384x4x64_0_1_2 (broadcastInDim S16384x1x64 ![0, 2] bcast_S16384x64_S16384x1x64_0_2 cs))) (mulf (extractStridedSlice S16384x4x64 ![0, 0, 0] y slices_S16384x4x128_S16384x4x64_0_0_0) (broadcastInDim S16384x4x64 ![0, 1, 2] bcast_S16384x1x64_S16384x4x64_0_1_2 (broadcastInDim S16384x1x64 ![0, 2] bcast_S16384x64_S16384x1x64_0_2 sn)))⟩] concatenates_S16384x4x64_S16384x4x64_S16384x4x128_d2
theorem turnK_at (y : FVec Ideal S16384x4x128 .f32) (cs sn : FVec Ideal S16384x64 .f32) (r : Fin 16384) (h : Fin 4) (k : Fin 128) :
    turnK y cs sn (ix3 r h k) = turned (fun k => y (ix3 r h k)) (fun j => cs (ix2 r j)) (fun j => sn (ix2 r j)) k := by
  unfold turnK
  exact turned_host (M := 16384) (H := 4) (by decide) y cs sn _ _ _ _ _ r h k

def latentN (x : FVec Ideal S16896x2048 .f32) (g : FVec Ideal S2048 .f32) (mod : FVec Ideal S2x1x12288 .f32) : FVec Ideal S16384x2048 .f32 :=
  addf (mulf (mulf (mulf (extractStridedSlice S16384x2048 ![0, 0] x slices_S16896x2048_S16384x2048_0_0) (broadcastInDim S16384x2048 ![0, 1] bcast_S16384x1_S16384x2048_0_1
    (Host.rsqrt (addf (Host.divf (broadcastInDim S16384x1 ![0] bcast_S16384_S16384x1_0 (Host.reduceAdd (mulf (extractStridedSlice S16384x2048 ![0, 0] x slices_S16896x2048_S16384x2048_0_0)
      (extractStridedSlice S16384x2048 ![0, 0] x slices_S16896x2048_S16384x2048_0_0)) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (addf (broadcastInDim S1x2048 ![] bcast_S_S1x2048 (constant S_ .f32 0x3F800000#32))
      (extractStridedSlice S1x2048 ![0, 2048] (shapeCast _ (extractStridedSlice S1x1x12288 ![0, 0, 0] mod slices_S2x1x12288_S1x1x12288_0_0_0) shapeCasts_S1x1x12288_S1x12288) slices_S1x12288_S1x2048_0_2048))))
    (broadcastInDim S16384x2048 ![0, 1] bcast_S1x2048_S16384x2048_0_1
      (extractStridedSlice S1x2048 ![0, 0] (shapeCast _ (extractStridedSlice S1x1x12288 ![0, 0, 0] mod slices_S2x1x12288_S1x1x12288_0_0_0) shapeCasts_S1x1x12288_S1x12288) slices_S1x12288_S1x2048_0_0))
def latentA (x : FVec Ideal S16896x2048 .f32) (g : FVec Ideal S2048 .f32) (mod : FVec Ideal S2x1x12288 .f32) (w : FVec Ideal S2048x3072 .f32) : FVec Ideal S16384x3072 .f32 :=
  Host.dotGeneral dot_S16384x2048_S2048x3072_S16384x3072_1_0_0_1_n_n none (latentN x g mod) w
def latentQN (a : FVec Ideal S16384x3072 .f32) (g : FVec Ideal S128 .f32) : FVec Ideal S16384x16x128 .f32 :=
  mulf (mulf (shapeCast S16384x16x128 (extractStridedSlice S16384x2048 ![0, 0] (a : FVec Ideal S16384x3072 .f32) slices_S16384x3072_S16384x2048_0_0) shapeCasts_S16384x2048_S16384x16x128) (broadcastInDim S16384x16x128 ![0, 1, 2] bcast_S16384x16x1_S16384x16x128_0_1_2
    (Host.rsqrt (addf (Host.divf (broadcastInDim S16384x16x1 ![0, 1] bcast_S16384x16_S16384x16x1_0_1 (Host.reduceAdd (mulf (shapeCast S16384x16x128 (extractStridedSlice S16384x2048 ![0, 0] (a : FVec Ideal S16384x3072 .f32) slices_S16384x3072_S16384x2048_0_0) shapeCasts_S16384x2048_S16384x16x128) (shapeCast S16384x16x128 (extractStridedSlice S16384x2048 ![0, 0] (a : FVec Ideal S16384x3072 .f32) slices_S16384x3072_S16384x2048_0_0) shapeCasts_S16384x2048_S16384x16x128))
      (constant S_ .f32 0x00000000#32) reducesTo_S16384x16x128_S16384x16_d2 h_S_)) (broadcastInDim S16384x16x1 ![] bcast_S_S16384x16x1 (constant S_ .f32 0x43000000#32)))
      (broadcastInDim S16384x16x1 ![] bcast_S_S16384x16x1 (constant S_ .f32 0x358637BD#32))))))
    (broadcastInDim S16384x16x128 ![0, 1, 2] bcast_S1x1x128_S16384x16x128_0_1_2 (broadcastInDim S1x1x128 ![2] bcast_S128_S1x1x128_2 g))
def latentKN (a : FVec Ideal S16384x3072 .f32) (g : FVec Ideal S128 .f32) : FVec Ideal S16384x4x128 .f32 :=
  mulf (mulf (shapeCast S16384x4x128 (extractStridedSlice S16384x512 ![0, 2048] (a : FVec Ideal S16384x3072 .f32) slices_S16384x3072_S16384x512_0_2048) shapeCasts_S16384x512_S16384x4x128) (broadcastInDim S16384x4x128 ![0, 1, 2] bcast_S16384x4x1_S16384x4x128_0_1_2
    (Host.rsqrt (addf (Host.divf (broadcastInDim S16384x4x1 ![0, 1] bcast_S16384x4_S16384x4x1_0_1 (Host.reduceAdd (mulf (shapeCast S16384x4x128 (extractStridedSlice S16384x512 ![0, 2048] (a : FVec Ideal S16384x3072 .f32) slices_S16384x3072_S16384x512_0_2048) shapeCasts_S16384x512_S16384x4x128) (shapeCast S16384x4x128 (extractStridedSlice S16384x512 ![0, 2048] (a : FVec Ideal S16384x3072 .f32) slices_S16384x3072_S16384x512_0_2048) shapeCasts_S16384x512_S16384x4x128))
      (constant S_ .f32 0x00000000#32) reducesTo_S16384x4x128_S16384x4_d2 h_S_)) (broadcastInDim S16384x4x1 ![] bcast_S_S16384x4x1 (constant S_ .f32 0x43000000#32)))
      (broadcastInDim S16384x4x1 ![] bcast_S_S16384x4x1 (constant S_ .f32 0x358637BD#32))))))
    (broadcastInDim S16384x4x128 ![0, 1, 2] bcast_S1x1x128_S16384x4x128_0_1_2 (broadcastInDim S1x1x128 ![2] bcast_S128_S1x1x128_2 g))
def latentV (a : FVec Ideal S16384x3072 .f32) : FVec Ideal S16384x4x128 .f32 :=
  (shapeCast S16384x4x128 (extractStridedSlice S16384x512 ![0, 2560] (a : FVec Ideal S16384x3072 .f32) slices_S16384x3072_S16384x512_0_2560) shapeCasts_S16384x512_S16384x4x128)
def latent (a : FVec Ideal S16384x3072 .f32) (qg kg : FVec Ideal S128 .f32) (cs sn : FVec Ideal S16384x64 .f32) : FVec Ideal S16384x24x128 .f32 :=
  concatenate S16384x24x128 1 [⟨S16384x16x128, mulf (turnQ (latentQN a qg) cs sn) (broadcastInDim S16384x16x128 ![] bcast_S_S16384x16x128 (constant S_ .f32 0x3E0293EE#32))⟩, ⟨S16384x4x128, turnK (latentKN a kg) cs sn⟩, ⟨S16384x4x128, latentV a⟩]
    concatenates_S16384x16x128_S16384x4x128_S16384x4x128_S16384x24x128_d1

def contextN (x : FVec Ideal S16896x2048 .f32) (g : FVec Ideal S2048 .f32) (mod : FVec Ideal S2x1x12288 .f32) : FVec Ideal S512x2048 .f32 :=
  addf (mulf (mulf (mulf (extractStridedSlice S512x2048 ![16384, 0] x slices_S16896x2048_S512x2048_16384_0) (broadcastInDim S512x2048 ![0, 1] bcast_S512x1_S512x2048_0_1
    (Host.rsqrt (addf (Host.divf (broadcastInDim S512x1 ![0] bcast_S512_S512x1_0 (Host.reduceAdd (mulf (extractStridedSlice S512x2048 ![16384, 0] x slices_S16896x2048_S512x2048_16384_0)
      (extractStridedSlice S512x2048 ![16384, 0] x slices_S16896x2048_S512x2048_16384_0)) (constant S_ .f32 0x00000000#32) reducesTo_S512x2048_S512_d1 h_S_))
      (broadcastInDim S512x1 ![] bcast_S_S512x1 (constant S_ .f32 0x45000000#32))) (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g)))
    (broadcastInDim S512x2048 ![0, 1] bcast_S1x2048_S512x2048_0_1 (addf (broadcastInDim S1x2048 ![] bcast_S_S1x2048 (constant S_ .f32 0x3F800000#32))
      (extractStridedSlice S1x2048 ![0, 2048] (shapeCast _ (extractStridedSlice S1x1x12288 ![1, 0, 0] mod slices_S2x1x12288_S1x1x12288_1_0_0) shapeCasts_S1x1x12288_S1x12288) slices_S1x12288_S1x2048_0_2048))))
    (broadcastInDim S512x2048 ![0, 1] bcast_S1x2048_S512x2048_0_1
      (extractStridedSlice S1x2048 ![0, 0] (shapeCast _ (extractStridedSlice S1x1x12288 ![1, 0, 0] mod slices_S2x1x12288_S1x1x12288_1_0_0) shapeCasts_S1x1x12288_S1x12288) slices_S1x12288_S1x2048_0_0))
def contextA (x : FVec Ideal S16896x2048 .f32) (g : FVec Ideal S2048 .f32) (mod : FVec Ideal S2x1x12288 .f32) (w : FVec Ideal S2048x3072 .f32) : FVec Ideal S512x3072 .f32 :=
  Host.dotGeneral dot_S512x2048_S2048x3072_S512x3072_1_0_0_1_n_n none (contextN x g mod) w
def contextQN (a : FVec Ideal S512x3072 .f32) (g : FVec Ideal S128 .f32) : FVec Ideal S512x16x128 .f32 :=
  mulf (mulf (shapeCast S512x16x128 (extractStridedSlice S512x2048 ![0, 0] (a : FVec Ideal S512x3072 .f32) slices_S512x3072_S512x2048_0_0) shapeCasts_S512x2048_S512x16x128) (broadcastInDim S512x16x128 ![0, 1, 2] bcast_S512x16x1_S512x16x128_0_1_2
    (Host.rsqrt (addf (Host.divf (broadcastInDim S512x16x1 ![0, 1] bcast_S512x16_S512x16x1_0_1 (Host.reduceAdd (mulf (shapeCast S512x16x128 (extractStridedSlice S512x2048 ![0, 0] (a : FVec Ideal S512x3072 .f32) slices_S512x3072_S512x2048_0_0) shapeCasts_S512x2048_S512x16x128) (shapeCast S512x16x128 (extractStridedSlice S512x2048 ![0, 0] (a : FVec Ideal S512x3072 .f32) slices_S512x3072_S512x2048_0_0) shapeCasts_S512x2048_S512x16x128))
      (constant S_ .f32 0x00000000#32) reducesTo_S512x16x128_S512x16_d2 h_S_)) (broadcastInDim S512x16x1 ![] bcast_S_S512x16x1 (constant S_ .f32 0x43000000#32)))
      (broadcastInDim S512x16x1 ![] bcast_S_S512x16x1 (constant S_ .f32 0x358637BD#32))))))
    (broadcastInDim S512x16x128 ![0, 1, 2] bcast_S1x1x128_S512x16x128_0_1_2 (broadcastInDim S1x1x128 ![2] bcast_S128_S1x1x128_2 g))
def contextKN (a : FVec Ideal S512x3072 .f32) (g : FVec Ideal S128 .f32) : FVec Ideal S512x4x128 .f32 :=
  mulf (mulf (shapeCast S512x4x128 (extractStridedSlice S512x512 ![0, 2048] (a : FVec Ideal S512x3072 .f32) slices_S512x3072_S512x512_0_2048) shapeCasts_S512x512_S512x4x128) (broadcastInDim S512x4x128 ![0, 1, 2] bcast_S512x4x1_S512x4x128_0_1_2
    (Host.rsqrt (addf (Host.divf (broadcastInDim S512x4x1 ![0, 1] bcast_S512x4_S512x4x1_0_1 (Host.reduceAdd (mulf (shapeCast S512x4x128 (extractStridedSlice S512x512 ![0, 2048] (a : FVec Ideal S512x3072 .f32) slices_S512x3072_S512x512_0_2048) shapeCasts_S512x512_S512x4x128) (shapeCast S512x4x128 (extractStridedSlice S512x512 ![0, 2048] (a : FVec Ideal S512x3072 .f32) slices_S512x3072_S512x512_0_2048) shapeCasts_S512x512_S512x4x128))
      (constant S_ .f32 0x00000000#32) reducesTo_S512x4x128_S512x4_d2 h_S_)) (broadcastInDim S512x4x1 ![] bcast_S_S512x4x1 (constant S_ .f32 0x43000000#32)))
      (broadcastInDim S512x4x1 ![] bcast_S_S512x4x1 (constant S_ .f32 0x358637BD#32))))))
    (broadcastInDim S512x4x128 ![0, 1, 2] bcast_S1x1x128_S512x4x128_0_1_2 (broadcastInDim S1x1x128 ![2] bcast_S128_S1x1x128_2 g))
def contextV (a : FVec Ideal S512x3072 .f32) : FVec Ideal S512x4x128 .f32 :=
  (shapeCast S512x4x128 (extractStridedSlice S512x512 ![0, 2560] (a : FVec Ideal S512x3072 .f32) slices_S512x3072_S512x512_0_2560) shapeCasts_S512x512_S512x4x128)
def context (a : FVec Ideal S512x3072 .f32) (qg kg : FVec Ideal S128 .f32) : FVec Ideal S512x24x128 .f32 :=
  concatenate S512x24x128 1 [⟨S512x16x128, mulf (contextQN a qg) (broadcastInDim S512x16x128 ![] bcast_S_S512x16x128 (constant S_ .f32 0x3E0293EE#32))⟩, ⟨S512x4x128, contextKN a kg⟩, ⟨S512x4x128, contextV a⟩]
    concatenates_S512x16x128_S512x4x128_S512x4x128_S512x24x128_d1

/-- A row normed and modulated, and projected. -/
def nrow (x : FVec Ideal S16896x2048 .f32) (g : FVec Ideal S2048 .f32) (mod : FVec Ideal S2x1x12288 .f32) (R : Fin 16896) (k : Fin 2048) : EReal :=
  normed (fun k => x (ix2 R k)) (fun k => g (ix1 k)) (fun k => mod (ix3 (stream R) (0 : Fin 1) (⟨2048 + k.val, by omega⟩ : Fin 12288)))
    (fun k => mod (ix3 (stream R) (0 : Fin 1) (⟨0 + k.val, by omega⟩ : Fin 12288))) k
def proj (x : FVec Ideal S16896x2048 .f32) (g : FVec Ideal S2048 .f32) (mod : FVec Ideal S2x1x12288 .f32) (w : FVec Ideal S2048x3072 .f32) (R : Fin 16896) (p : Fin 3072) : EReal := ∑ k : Fin 2048, nrow x g mod R k * w (ix2 k p)

theorem latentN_at (x : FVec Ideal S16896x2048 .f32) (g : FVec Ideal S2048 .f32) (mod : FVec Ideal S2x1x12288 .f32) (R : Fin 16896) (r : Fin 16384) (k : Fin 2048)
    (hr : R.val = 0 + r.val) (hs : stream R = 0) : latentN x g mod (ix2 r k) = nrow x g mod R k := by
  unfold latentN nrow
  refine (hnorm_at (M := 16384) (by decide) _ g _ _ _ _ _ _ _ _ _ _ r k).trans ?_
  refine congrFun (congr (congr (congr (congrArg normed ?_) rfl) ?_) ?_) k
  · exact funext fun k => rows_at (M := 16384) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

theorem latentA_at (x : FVec Ideal S16896x2048 .f32) (g : FVec Ideal S2048 .f32) (mod : FVec Ideal S2x1x12288 .f32) (w : FVec Ideal S2048x3072 .f32) (R : Fin 16896) (r : Fin 16384) (p : Fin 3072) (hr : R.val = 0 + r.val) (hs : stream R = 0) :
    latentA x g mod w (ix2 r p) = proj x g mod w R p := by
  unfold latentA proj
  refine (dotGeneral_plain_apply (m := 16384) (k := 2048) (n := 3072) none _ _ r p).trans ?_
  exact Finset.sum_congr rfl fun k _ => congrArg (fun z : EReal => z * w (ix2 k p)) (latentN_at x g mod R r k hr hs)

theorem latentQN_at (a : FVec Ideal S16384x3072 .f32) (g : FVec Ideal S128 .f32) (r : Fin 16384) (j : Fin 16) (k : Fin 128) (h : Fin 24) (hh : h.val = 0 + j.val) :
    latentQN a g (ix3 r j k) = hn (fun k => a (ix2 r (lane h k))) (fun k => g (ix1 k)) k := by
  unfold latentQN
  refine (hn_host (M := 16384) (H := 16) (by decide) (by decide) _ g _ _ _ _ _ _ _ r j k).trans ?_
  exact congrFun (congr (congrArg hn (funext fun k => split_at (M := 16384) (P := 3072) (N := 2048) (H := 16) a _ _ rfl r j k (lane h k) (by
    show h.val * 128 + k.val = 0 + (j.val * 128 + k.val)
    omega))) rfl) k

theorem latentKN_at (a : FVec Ideal S16384x3072 .f32) (g : FVec Ideal S128 .f32) (r : Fin 16384) (j : Fin 4) (k : Fin 128) (h : Fin 24) (hh : h.val = 16 + j.val) :
    latentKN a g (ix3 r j k) = hn (fun k => a (ix2 r (lane h k))) (fun k => g (ix1 k)) k := by
  unfold latentKN
  refine (hn_host (M := 16384) (H := 4) (by decide) (by decide) _ g _ _ _ _ _ _ _ r j k).trans ?_
  exact congrFun (congr (congrArg hn (funext fun k => split_at (M := 16384) (P := 3072) (N := 512) (H := 4) a _ _ rfl r j k (lane h k) (by
    show h.val * 128 + k.val = 2048 + (j.val * 128 + k.val)
    omega))) rfl) k

theorem latent_at (a : FVec Ideal S16384x3072 .f32) (qg kg : FVec Ideal S128 .f32) (cs sn : FVec Ideal S16384x64 .f32) (r : Fin 16384) (h : Fin 24) (l : Fin 128) :
    latent a qg kg cs sn (ix3 r h l) = if h.val < 16 then turned (hn (fun k => a (ix2 r (lane h k))) (fun k => qg (ix1 k))) (fun l => cs (ix2 r l)) (fun l => sn (ix2 r l)) l * Ideal.ofBits .f32 0x3E0293EE#32
      else if h.val < 20 then turned (hn (fun k => a (ix2 r (lane h k))) (fun k => kg (ix1 k))) (fun l => cs (ix2 r l)) (fun l => sn (ix2 r l)) l else a (ix2 r (lane h l)) := by
  unfold latent
  refine heads_at (M := 16384) _ _ _ concatenates_S16384x16x128_S16384x4x128_S16384x4x128_S16384x24x128_d1 r h l _ (fun j hj => ?_) (fun j hj => ?_) (fun j hj => ?_)
  · rw [if_pos (by omega)]
    exact congrArg (fun z : EReal => z * Ideal.ofBits .f32 0x3E0293EE#32) ((turnQ_at _ cs sn r j l).trans (congrArg (fun f => turned f (fun l => cs (ix2 r l)) (fun l => sn (ix2 r l)) l) (funext fun k => latentQN_at a qg r j k h (by omega))))
  · rw [if_neg (by omega), if_pos (by omega)]
    exact (turnK_at _ cs sn r j l).trans (congrArg (fun f => turned f (fun l => cs (ix2 r l)) (fun l => sn (ix2 r l)) l) (funext fun k => latentKN_at a kg r j k h hj))
  · rw [if_neg (by omega), if_neg (by omega)]
    unfold latentV
    exact split_at (M := 16384) (P := 3072) (N := 512) (H := 4) a _ _ rfl r j l (lane h l) (by
      show h.val * 128 + l.val = 2560 + (j.val * 128 + l.val)
      omega)

theorem contextN_at (x : FVec Ideal S16896x2048 .f32) (g : FVec Ideal S2048 .f32) (mod : FVec Ideal S2x1x12288 .f32) (R : Fin 16896) (r : Fin 512) (k : Fin 2048)
    (hr : R.val = 16384 + r.val) (hs : stream R = 1) : contextN x g mod (ix2 r k) = nrow x g mod R k := by
  unfold contextN nrow
  refine (hnorm_at (M := 512) (by decide) _ g _ _ _ _ _ _ _ _ _ _ r k).trans ?_
  refine congrFun (congr (congr (congr (congrArg normed ?_) rfl) ?_) ?_) k
  · exact funext fun k => rows_at (M := 512) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

theorem contextA_at (x : FVec Ideal S16896x2048 .f32) (g : FVec Ideal S2048 .f32) (mod : FVec Ideal S2x1x12288 .f32) (w : FVec Ideal S2048x3072 .f32) (R : Fin 16896) (r : Fin 512) (p : Fin 3072) (hr : R.val = 16384 + r.val) (hs : stream R = 1) :
    contextA x g mod w (ix2 r p) = proj x g mod w R p := by
  unfold contextA proj
  refine (dotGeneral_plain_apply (m := 512) (k := 2048) (n := 3072) none _ _ r p).trans ?_
  exact Finset.sum_congr rfl fun k _ => congrArg (fun z : EReal => z * w (ix2 k p)) (contextN_at x g mod R r k hr hs)

theorem contextQN_at (a : FVec Ideal S512x3072 .f32) (g : FVec Ideal S128 .f32) (r : Fin 512) (j : Fin 16) (k : Fin 128) (h : Fin 24) (hh : h.val = 0 + j.val) :
    contextQN a g (ix3 r j k) = hn (fun k => a (ix2 r (lane h k))) (fun k => g (ix1 k)) k := by
  unfold contextQN
  refine (hn_host (M := 512) (H := 16) (by decide) (by decide) _ g _ _ _ _ _ _ _ r j k).trans ?_
  exact congrFun (congr (congrArg hn (funext fun k => split_at (M := 512) (P := 3072) (N := 2048) (H := 16) a _ _ rfl r j k (lane h k) (by
    show h.val * 128 + k.val = 0 + (j.val * 128 + k.val)
    omega))) rfl) k

theorem contextKN_at (a : FVec Ideal S512x3072 .f32) (g : FVec Ideal S128 .f32) (r : Fin 512) (j : Fin 4) (k : Fin 128) (h : Fin 24) (hh : h.val = 16 + j.val) :
    contextKN a g (ix3 r j k) = hn (fun k => a (ix2 r (lane h k))) (fun k => g (ix1 k)) k := by
  unfold contextKN
  refine (hn_host (M := 512) (H := 4) (by decide) (by decide) _ g _ _ _ _ _ _ _ r j k).trans ?_
  exact congrFun (congr (congrArg hn (funext fun k => split_at (M := 512) (P := 3072) (N := 512) (H := 4) a _ _ rfl r j k (lane h k) (by
    show h.val * 128 + k.val = 2048 + (j.val * 128 + k.val)
    omega))) rfl) k

theorem context_at (a : FVec Ideal S512x3072 .f32) (qg kg : FVec Ideal S128 .f32) (r : Fin 512) (h : Fin 24) (l : Fin 128) :
    context a qg kg (ix3 r h l) = if h.val < 16 then hn (fun k => a (ix2 r (lane h k))) (fun k => qg (ix1 k)) l * Ideal.ofBits .f32 0x3E0293EE#32
      else if h.val < 20 then hn (fun k => a (ix2 r (lane h k))) (fun k => kg (ix1 k)) l else a (ix2 r (lane h l)) := by
  unfold context
  refine heads_at (M := 512) _ _ _ concatenates_S512x16x128_S512x4x128_S512x4x128_S512x24x128_d1 r h l _ (fun j hj => ?_) (fun j hj => ?_) (fun j hj => ?_)
  · rw [if_pos (by omega)]
    exact congrArg (fun z : EReal => z * Ideal.ofBits .f32 0x3E0293EE#32) (contextQN_at a qg r j l h (by omega))
  · rw [if_neg (by omega), if_pos (by omega)]
    exact contextKN_at a kg r j l h hj
  · rw [if_neg (by omega), if_neg (by omega)]
    unfold contextV
    exact split_at (M := 512) (P := 3072) (N := 512) (H := 4) a _ _ rfl r j l (lane h l) (by
      show h.val * 128 + l.val = 2560 + (j.val * 128 + l.val)
      omega)

/-- The reference's result. -/
def result (x : FVec Ideal S16896x2048 .f32) (g : FVec Ideal S2048 .f32) (mod : FVec Ideal S2x1x12288 .f32) (w : FVec Ideal S2048x3072 .f32) (qg kg : FVec Ideal S128 .f32) (cs sn : FVec Ideal S16384x64 .f32) : FVec Ideal S16896x3072 .bf16 :=
  truncf .bf16 (shapeCast S16896x3072 (concatenate S16896x24x128 0 [⟨S16384x24x128, latent (latentA x g mod w) qg kg cs sn⟩, ⟨S512x24x128, context (contextA x g mod w) qg kg⟩]
    concatenates_S16384x24x128_S512x24x128_S16896x24x128_d0) shapeCasts_S16896x24x128_S16896x3072) bitsLt_bf16_f32

theorem result_at (x : FVec Ideal S16896x2048 .f32) (g : FVec Ideal S2048 .f32) (mod : FVec Ideal S2x1x12288 .f32) (w : FVec Ideal S2048x3072 .f32) (qg kg : FVec Ideal S128 .f32) (cs sn : FVec Ideal S16384x64 .f32) (R : Fin 16896) (p : Fin 3072) :
    result x g mod w qg kg cs sn (ix2 R p) = qkv (proj x g mod w R) (fun k => qg (ix1 k)) (fun k => kg (ix1 k)) (stream R)
      (fun j => cs (ix2 (angle R) j)) (fun j => sn (ix2 (angle R) j)) (headOf p) (laneOf p) := by
  unfold result
  refine stream3_at (latent (latentA x g mod w) qg kg cs sn) (context (contextA x g mod w) qg kg) concatenates_S16384x24x128_S512x24x128_S16896x24x128_d0 shapeCasts_S16896x24x128_S16896x3072 R p _ (fun r hr hs => ?_) (fun r hr hs => ?_)
  · have ha : angle R = r := Fin.ext (by
      show R.val % 16384 = r.val
      have := r.isLt
      omega)
    have hA : (fun k => latentA x g mod w (ix2 r (lane (headOf p) k))) = fun k => proj x g mod w R (lane (headOf p) k) := funext fun k => latentA_at x g mod w R r _ hr hs
    refine (latent_at _ qg kg cs sn r (headOf p) (laneOf p)).trans ?_
    unfold qkv turn
    rw [hA, latentA_at x g mod w R r _ hr hs, hs, ha, if_pos rfl, if_pos rfl]
  · have hA : (fun k => contextA x g mod w (ix2 r (lane (headOf p) k))) = fun k => proj x g mod w R (lane (headOf p) k) := funext fun k => contextA_at x g mod w R r _ hr hs
    refine (context_at _ qg kg r (headOf p) (laneOf p)).trans ?_
    unfold qkv turn
    rw [hA, contextA_at x g mod w R r _ hr hs, hs]
    simp only [if_neg (show ¬(1 : Fin 2) = 0 by decide)]

end Cert.Reference8Ideal.Hand

end
-- ==== Proof.RowsRef.lean ====
module

public import proofs.«01_k».proof.Proof.Qkv
public import proofs.«01_k».proof.Proof.Gen.Reference9Ideal.Run

/-! # The reference's modulated norm of all the rows, element by element -/

@[expose] public section

set_option maxRecDepth 16384

noncomputable section

namespace Cert.Reference9Ideal.Hand

open Cert.Reference9Ideal Cert.Reference9Ideal.Gen Cert.Mix
open Idealize.ShloMosaic hiding ix0 ix1 ix2 ix3 ix4 eq_ix2
open Idealize.ShloMosaic.ValueIdx (ix1 ix2 ix3)
open Idealize.ShloMosaic.StackMember (dotGeneral_plain_apply)
open scoped BigOperators

/-- Each stream's rows, normed. -/
def latentN (x : FVec Ideal S16896x2048 .f32) (g : FVec Ideal S2048 .f32) (mod : FVec Ideal S2x1x12288 .f32) : FVec Ideal S16384x2048 .f32 :=
  addf (mulf (mulf (mulf (extractStridedSlice S16384x2048 ![0, 0] x slices_S16896x2048_S16384x2048_0_0) (broadcastInDim S16384x2048 ![0, 1] bcast_S16384x1_S16384x2048_0_1
    (Host.rsqrt (addf (Host.divf (broadcastInDim S16384x1 ![0] bcast_S16384_S16384x1_0 (Host.reduceAdd (mulf (extractStridedSlice S16384x2048 ![0, 0] x slices_S16896x2048_S16384x2048_0_0)
      (extractStridedSlice S16384x2048 ![0, 0] x slices_S16896x2048_S16384x2048_0_0)) (constant S_ .f32 0x00000000#32) reducesTo_S16384x2048_S16384_d1 h_S_))
      (broadcastInDim S16384x1 ![] bcast_S_S16384x1 (constant S_ .f32 0x45000000#32))) (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1 g)))
    (broadcastInDim S16384x2048 ![0, 1] bcast_S1x2048_S16384x2048_0_1 (addf (broadcastInDim S1x2048 ![] bcast_S_S1x2048 (constant S_ .f32 0x3F800000#32))
      (extractStridedSlice S1x2048 ![0, 2048] (shapeCast _ (extractStridedSlice S1x1x12288 ![0, 0, 0] mod slices_S2x1x12288_S1x1x12288_0_0_0) shapeCasts_S1x1x12288_S1x12288) slices_S1x12288_S1x2048_0_2048))))
    (broadcastInDim S16384x2048 ![0, 1] bcast_S1x2048_S16384x2048_0_1
      (extractStridedSlice S1x2048 ![0, 0] (shapeCast _ (extractStridedSlice S1x1x12288 ![0, 0, 0] mod slices_S2x1x12288_S1x1x12288_0_0_0) shapeCasts_S1x1x12288_S1x12288) slices_S1x12288_S1x2048_0_0))
def contextN (x : FVec Ideal S16896x2048 .f32) (g : FVec Ideal S2048 .f32) (mod : FVec Ideal S2x1x12288 .f32) : FVec Ideal S512x2048 .f32 :=
  addf (mulf (mulf (mulf (extractStridedSlice S512x2048 ![16384, 0] x slices_S16896x2048_S512x2048_16384_0) (broadcastInDim S512x2048 ![0, 1] bcast_S512x1_S512x2048_0_1
    (Host.rsqrt (addf (Host.divf (broadcastInDim S512x1 ![0] bcast_S512_S512x1_0 (Host.reduceAdd (mulf (extractStridedSlice S512x2048 ![16384, 0] x slices_S16896x2048_S512x2048_16384_0)
      (extractStridedSlice S512x2048 ![16384, 0] x slices_S16896x2048_S512x2048_16384_0)) (constant S_ .f32 0x00000000#32) reducesTo_S512x2048_S512_d1 h_S_))
      (broadcastInDim S512x1 ![] bcast_S_S512x1 (constant S_ .f32 0x45000000#32))) (broadcastInDim S512x1 ![] bcast_S_S512x1 (constant S_ .f32 0x358637BD#32))))))
    (broadcastInDim S512x2048 ![0, 1] bcast_S1x2048_S512x2048_0_1 (broadcastInDim S1x2048 ![1] bcast_S2048_S1x2048_1 g)))
    (broadcastInDim S512x2048 ![0, 1] bcast_S1x2048_S512x2048_0_1 (addf (broadcastInDim S1x2048 ![] bcast_S_S1x2048 (constant S_ .f32 0x3F800000#32))
      (extractStridedSlice S1x2048 ![0, 2048] (shapeCast _ (extractStridedSlice S1x1x12288 ![1, 0, 0] mod slices_S2x1x12288_S1x1x12288_1_0_0) shapeCasts_S1x1x12288_S1x12288) slices_S1x12288_S1x2048_0_2048))))
    (broadcastInDim S512x2048 ![0, 1] bcast_S1x2048_S512x2048_0_1
      (extractStridedSlice S1x2048 ![0, 0] (shapeCast _ (extractStridedSlice S1x1x12288 ![1, 0, 0] mod slices_S2x1x12288_S1x1x12288_1_0_0) shapeCasts_S1x1x12288_S1x12288) slices_S1x12288_S1x2048_0_0))

/-- A row normed. -/
def nrow (x : FVec Ideal S16896x2048 .f32) (g : FVec Ideal S2048 .f32) (mod : FVec Ideal S2x1x12288 .f32) (R : Fin 16896) (k : Fin 2048) : EReal :=
  normed (fun k => x (ix2 R k)) (fun k => g (ix1 k)) (fun k => mod (ix3 (stream R) (0 : Fin 1) (⟨2048 + k.val, by omega⟩ : Fin 12288)))
    (fun k => mod (ix3 (stream R) (0 : Fin 1) (⟨0 + k.val, by omega⟩ : Fin 12288))) k

theorem latentN_at (x : FVec Ideal S16896x2048 .f32) (g : FVec Ideal S2048 .f32) (mod : FVec Ideal S2x1x12288 .f32) (R : Fin 16896) (r : Fin 16384) (k : Fin 2048)
    (hr : R.val = 0 + r.val) (hs : stream R = 0) : latentN x g mod (ix2 r k) = nrow x g mod R k := by
  unfold latentN nrow
  refine (hnorm_at (M := 16384) (by decide) _ g _ _ _ _ _ _ _ _ _ _ r k).trans ?_
  refine congrFun (congr (congr (congr (congrArg normed ?_) rfl) ?_) ?_) k
  · exact funext fun k => rows_at (M := 16384) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

theorem contextN_at (x : FVec Ideal S16896x2048 .f32) (g : FVec Ideal S2048 .f32) (mod : FVec Ideal S2x1x12288 .f32) (R : Fin 16896) (r : Fin 512) (k : Fin 2048)
    (hr : R.val = 16384 + r.val) (hs : stream R = 1) : contextN x g mod (ix2 r k) = nrow x g mod R k := by
  unfold contextN nrow
  refine (hnorm_at (M := 512) (by decide) _ g _ _ _ _ _ _ _ _ _ _ r k).trans ?_
  refine congrFun (congr (congr (congr (congrArg normed ?_) rfl) ?_) ?_) k
  · exact funext fun k => rows_at (M := 512) (N := 2048) x _ r k R hr
  · exact funext fun k => wide_at (N := 2048) (P := 12288) mod _ _ _ k (stream R) (by rw [hs]; rfl) _ rfl
  · exact funext fun k => wide_at (N := 2048) (P := 12288) mod _ _ _ k (stream R) (by rw [hs]; rfl) _ rfl

/-- The reference's result. -/
def result (x : FVec Ideal S16896x2048 .f32) (g : FVec Ideal S2048 .f32) (mod : FVec Ideal S2x1x12288 .f32) : FVec Ideal S16896x2048 .f32 :=
  concatenate S16896x2048 0 [⟨S16384x2048, latentN x g mod⟩, ⟨S512x2048, contextN x g mod⟩] concatenates_S16384x2048_S512x2048_S16896x2048_d0

theorem result_at (x : FVec Ideal S16896x2048 .f32) (g : FVec Ideal S2048 .f32) (mod : FVec Ideal S2x1x12288 .f32) (R : Fin 16896) (n : Fin 2048) :
    result x g mod (ix2 R n) = nrow x g mod R n :=
  streams_at (N := 2048) (latentN x g mod) (contextN x g mod) concatenates_S16384x2048_S512x2048_S16896x2048_d0 R n _
    (fun r hr hs => latentN_at x g mod R r n hr hs) (fun r hr hs => contextN_at x g mod R r n hr hs)

end Cert.Reference9Ideal.Hand

end
-- ==== Proof.ModRef.lean ====
module

public import proofs.«01_k».proof.Proof.Glu
public import proofs.«01_k».proof.Proof.Gen.Reference10Ideal.Run

/-! # The reference's modulation, element by element -/

@[expose] public section

set_option maxRecDepth 16384

noncomputable section

namespace Cert.Reference10Ideal.Hand

open Cert.Reference10Ideal Cert.Reference10Ideal.Gen Cert.Mix
open Idealize.ShloMosaic hiding ix0 ix1 ix2 ix3 ix4 eq_ix2
open Idealize.ShloMosaic.ValueIdx (ix1 ix2 ix3)
open Idealize.ShloMosaic.StackMember (dotGeneral_plain_apply)
open scoped BigOperators

/-- The conditioning vectors, activated. -/
def act (x : FVec Ideal S8x2048 .f32) : FVec Ideal S8x2048 .f32 :=
  mulf x (Host.divf (broadcastInDim S8x2048 ![] bcast_S_S8x2048 (constant S_ .f32 0x3F800000#32))
    (addf (broadcastInDim S8x2048 ![] bcast_S_S8x2048 (constant S_ .f32 0x3F800000#32)) (Host.exp (Host.negf x))))

/-- One layer's modulation, of its projection `w` and its bias `b`. -/
def layer (x : FVec Ideal S8x2048 .f32) (w : FVec Ideal S1x2048x12288 .f32) (b : FVec Ideal S1x12288 .f32) : FVec Ideal S1x8x12288 .f32 :=
  broadcastInDim S1x8x12288 ![1, 2] bcast_S8x12288_S1x8x12288_1_2
    (addf (Host.dotGeneral dot_S8x2048_S2048x12288_S8x12288_1_0_0_1_n_n none (act x) (shapeCast S2048x12288 w shapeCasts_S1x2048x12288_S2048x12288))
      (broadcastInDim S8x12288 ![0, 1] bcast_S1x12288_S8x12288_0_1 (broadcastInDim S1x12288 ![1] bcast_S12288_S1x12288_1 (shapeCast S12288 b shapeCasts_S1x12288_S12288))))

/-- One element of a layer's modulation. -/
def elem (x : FVec Ideal S8x2048 .f32) (w : FVec Ideal S4x2048x12288 .f32) (b : FVec Ideal S4x12288 .f32) (l : Fin 4) (r : Fin 8) (n : Fin 12288) : EReal :=
  (∑ k : Fin 2048, ((x (ix2 r k) : EReal) * sigm (x (ix2 r k))) * w (ix3 l k n)) + b (ix2 l n)

theorem layer_at (x : FVec Ideal S8x2048 .f32) (w : FVec Ideal S1x2048x12288 .f32) (b : FVec Ideal S1x12288 .f32) (r : Fin 8) (n : Fin 12288) :
    layer x w b (ix3 (0 : Fin 1) r n)
      = (∑ k : Fin 2048, ((x (ix2 r k) : EReal) * sigm (x (ix2 r k))) * w (ix3 (0 : Fin 1) k n)) + b (ix2 (0 : Fin 1) n) := by
  unfold layer
  refine (broadcastInDim_apply _ _ _ _ (ix2 r n) fun (a : Fin 2) => by
    match a with
    | ⟨0, _⟩ => exact (if_neg (show ¬(8 : ℕ) = 1 by decide)).symm
    | ⟨1, _⟩ => exact (if_neg (show ¬(12288 : ℕ) = 1 by decide)).symm).trans ?_
  refine congr (congrArg (HAdd.hAdd (α := EReal)) ?_) ?_
  · refine (dotGeneral_plain_apply (m := 8) (k := 2048) (n := 12288) none _ _ r n).trans ?_
    refine Finset.sum_congr rfl fun k _ => congr (congrArg (HMul.hMul (α := EReal)) rfl) ?_
    exact shapeCast_apply (s := S1x2048x12288) (t := S2048x12288) w _ (ix2 k n) (ix3 (0 : Fin 1) k n) (by
      rw [Shape.rowMajor_val_two, Shape.rowMajor_val_three]
      show ((0 * 2048 + k.val) * 12288 + n.val) = k.val * 12288 + n.val
      omega)
  · refine (hrow_at (M := 8) (N := 12288) (by decide) _ _ r n).trans ((hvec_at (N := 12288) (by decide) _ _ n).trans ?_)
    exact shapeCast_apply (s := S1x12288) (t := S12288) b _ (ix1 n) (ix2 (0 : Fin 1) n) (by
      rw [Shape.rowMajor_val_two, Shape.rowMajor_val_one]
      show 0 * 12288 + n.val = n.val
      omega)

/-- Layer `o` of the stacked projections and biases. -/
theorem slice_at {o : ℕ} (x : FVec Ideal S8x2048 .f32) (w : FVec Ideal S4x2048x12288 .f32) (b : FVec Ideal S4x12288 .f32) (hw : S4x2048x12288.Slices ![o, 0, 0] S1x2048x12288)
    (hb : S4x12288.Slices ![o, 0] S1x12288) (l : Fin 4) (hl : l.val = o) (r : Fin 8) (n : Fin 12288) :
    layer x (extractStridedSlice S1x2048x12288 ![o, 0, 0] w hw) (extractStridedSlice S1x12288 ![o, 0] b hb) (ix3 (0 : Fin 1) r n) = elem x w b l r n := by
  refine (layer_at _ _ _ r n).trans ?_
  unfold elem
  refine congr (congrArg (HAdd.hAdd (α := EReal)) ?_) (rows_at (M := 1) (N := 12288) (P := 4) b hb (0 : Fin 1) n l hl)
  refine Finset.sum_congr rfl fun k _ => congrArg (HMul.hMul (α := EReal) _) ?_
  exact extractStridedSlice_apply _ w _ _ _ fun (a : Fin 3) => by
    match a with
    | ⟨0, _⟩ => exact hl
    | ⟨1, _⟩ => show k.val = 0 + k.val; omega
    | ⟨2, _⟩ => show n.val = 0 + n.val; omega

/-- The reference's result: the four layers, stacked. -/
def result (x : FVec Ideal S8x2048 .f32) (w : FVec Ideal S4x2048x12288 .f32) (b : FVec Ideal S4x12288 .f32) : FVec Ideal S4x8x12288 .f32 :=
  concatenate S4x8x12288 0
    [⟨S1x8x12288, layer x (extractStridedSlice S1x2048x12288 ![0, 0, 0] w slices_S4x2048x12288_S1x2048x12288_0_0_0) (extractStridedSlice S1x12288 ![0, 0] b slices_S4x12288_S1x12288_0_0)⟩,
      ⟨S1x8x12288, layer x (extractStridedSlice S1x2048x12288 ![1, 0, 0] w slices_S4x2048x12288_S1x2048x12288_1_0_0) (extractStridedSlice S1x12288 ![1, 0] b slices_S4x12288_S1x12288_1_0)⟩,
      ⟨S1x8x12288, layer x (extractStridedSlice S1x2048x12288 ![2, 0, 0] w slices_S4x2048x12288_S1x2048x12288_2_0_0) (extractStridedSlice S1x12288 ![2, 0] b slices_S4x12288_S1x12288_2_0)⟩,
      ⟨S1x8x12288, layer x (extractStridedSlice S1x2048x12288 ![3, 0, 0] w slices_S4x2048x12288_S1x2048x12288_3_0_0) (extractStridedSlice S1x12288 ![3, 0] b slices_S4x12288_S1x12288_3_0)⟩] concatenates_S1x8x12288_S1x8x12288_S1x8x12288_S1x8x12288_S4x8x12288_d0

theorem stack_at (y0 y1 y2 y3 : FVec Ideal S1x8x12288 .f32) (l : Fin 4) (r : Fin 8) (n : Fin 12288) (e : EReal)
    (h0 : l.val = 0 → y0 (ix3 (0 : Fin 1) r n) = e) (h1 : l.val = 1 → y1 (ix3 (0 : Fin 1) r n) = e)
    (h2 : l.val = 2 → y2 (ix3 (0 : Fin 1) r n) = e) (h3 : l.val = 3 → y3 (ix3 (0 : Fin 1) r n) = e) :
    concatenate S4x8x12288 0 [⟨S1x8x12288, y0⟩, ⟨S1x8x12288, y1⟩, ⟨S1x8x12288, y2⟩, ⟨S1x8x12288, y3⟩] concatenates_S1x8x12288_S1x8x12288_S1x8x12288_S1x8x12288_S4x8x12288_d0 (ix3 l r n) = e := by
  have hl := l.isLt
  have key : ∀ (k : ℕ) (hk : k < 4) (y : FVec Ideal S1x8x12288 .f32), [(⟨S1x8x12288, y0⟩ : (s : Shape) × (s.Idx → EReal)), ⟨S1x8x12288, y1⟩, ⟨S1x8x12288, y2⟩, ⟨S1x8x12288, y3⟩][k]'hk = ⟨S1x8x12288, y⟩ →
      ((([(⟨S1x8x12288, y0⟩ : (s : Shape) × (s.Idx → EReal)), ⟨S1x8x12288, y1⟩, ⟨S1x8x12288, y2⟩, ⟨S1x8x12288, y3⟩].take k).map (·.1)).map fun s => if h : s.rank = S4x8x12288.rank then s.size ((0 : Fin 3).cast h.symm) else 0).sum = k →
      l.val = k → y (ix3 (0 : Fin 1) r n) = e →
      concatenate S4x8x12288 0 [⟨S1x8x12288, y0⟩, ⟨S1x8x12288, y1⟩, ⟨S1x8x12288, y2⟩, ⟨S1x8x12288, y3⟩] concatenates_S1x8x12288_S1x8x12288_S1x8x12288_S1x8x12288_S4x8x12288_d0 (ix3 l r n) = e := by
    intro k hk y hy hp hlk he
    refine (concatenate_apply_piece (t := S4x8x12288) (0 : Fin 3) [⟨S1x8x12288, y0⟩, ⟨S1x8x12288, y1⟩, ⟨S1x8x12288, y2⟩, ⟨S1x8x12288, y3⟩] _ (ix3 l r n) k hk S1x8x12288 y hy rfl k hp
      (ix3 (0 : Fin 1) r n) (fun b hb => by
        match b with
        | ⟨0, _⟩ => exact absurd rfl hb
        | ⟨1, _⟩ => rfl
        | ⟨2, _⟩ => rfl) (by show k + 0 = l.val; omega)).trans he
  rcases (by omega : l.val = 0 ∨ l.val = 1 ∨ l.val = 2 ∨ l.val = 3) with h | h | h | h
  · exact key 0 (by decide) y0 rfl rfl h (h0 h)
  · exact key 1 (by decide) y1 rfl rfl h (h1 h)
  · exact key 2 (by decide) y2 rfl rfl h (h2 h)
  · exact key 3 (by decide) y3 rfl rfl h (h3 h)

theorem result_at (x : FVec Ideal S8x2048 .f32) (w : FVec Ideal S4x2048x12288 .f32) (b : FVec Ideal S4x12288 .f32) (l : Fin 4) (r : Fin 8) (n : Fin 12288) :
    result x w b (ix3 l r n) = elem x w b l r n :=
  stack_at _ _ _ _ l r n _ (fun h => slice_at x w b _ _ l h r n) (fun h => slice_at x w b _ _ l h r n) (fun h => slice_at x w b _ _ l h r n)
    (fun h => slice_at x w b _ _ l h r n)

end Cert.Reference10Ideal.Hand

end
-- ==== Proof.MixClaims.lean ====
module

public import proofs.«01_k».proof.Defs
public import proofs.«01_k».proof.Proof.MixFrame
public import proofs.«01_k».proof.Proof.ProjRef
public import proofs.«01_k».proof.Proof.GatedRef
public import proofs.«01_k».proof.Proof.NormRef
public import proofs.«01_k».proof.Proof.GluRef
public import proofs.«01_k».proof.Proof.QkvRef
public import proofs.«01_k».proof.Proof.RowsRef
public import proofs.«01_k».proof.Proof.ModRef
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Reference10Ideal
public import proofs.«01_k».proof.Proof.Gen.Reference10Ideal.Run
public import Idealize.ShloMosaic.Adequacy

/-! # The mixers' claims -/

@[expose] public section

set_option maxRecDepth 16384

noncomputable section

namespace Cert.Proof

open Idealize.ShloMosaic hiding ix0 ix1 ix2 ix3 ix4 eq_ix2
open Idealize.ShloMosaic.TcCoe
open Idealize.SL Idealize.SL.Sem
open Idealize.ShloMosaic.ValueIdx (ix1 ix2 ix3)

section

open Cert.Kernel4Ideal Cert.Kernel4Ideal.Gen

theorem frame_kernel4Ideal : Cert.quiescent_Kernel4Ideal := fun m ρ _ => Cert.Kernel4Ideal.Gen.frame (F := Ideal) m ρ

theorem frame_kernel4 : Cert.quiescent_Kernel4 := fun m ρ _ => Cert.Kernel4Ideal.Hand.frame_bits m ρ

theorem frame_reference4Ideal : Cert.quiescent_Reference4Ideal := fun m ρ _ =>
  (θ_run Cert.Reference4Ideal.defs _ _).mono (fun r h => ⟨fun c => (h c).2, sem_eq_zero_of_no_sems (by decide) r.2⟩) (Cert.Reference4Ideal.Value.run (F := Ideal) m ρ)

/-- The residual projection: what the reference computes of the call's arguments is the array the call leaves. -/
theorem same4 (m : (ℓ : Loc nD τ sig) → Buf (Elt Ideal) ℓ) (c : Dev nD) :
    Cert.Reference4Ideal.Hand.result (m ((c.tc : Thread nD τ).loc main_arg0)) (m ((c.tc : Thread nD τ).loc main_arg1)) (m ((c.tc : Thread nD τ).loc main_arg2)) (m ((c.tc : Thread nD τ).loc main_arg3))
      = Cert.Kernel4Ideal.Hand.fin m c := by
  funext x
  obtain ⟨R, n, rfl⟩ : ∃ (R : Fin 16896) (n : Fin 2048), x = ix2 R n := ⟨x 0, x 1, funext fun b => match b with | ⟨0, _⟩ => rfl | ⟨1, _⟩ => rfl⟩
  exact Cert.Reference4Ideal.Hand.result_at _ _ _ _ R n

theorem algebraic4 : Cert.algebraic_Kernel4Ideal_Reference4Ideal := fun m ρ m' ρ' _ hm =>
  ⟨fun c => Cert.Kernel4Ideal.Hand.fin m c, Cert.Kernel4Ideal.Hand.run_result m ρ,
    (θ_run Cert.Reference4Ideal.defs _ _).mono (fun _ h c => ⟨(h c).1.trans (by
      refine Eq.trans ?_ (same4 m c)
      obtain ⟨h0, h1, h2, h3⟩ := hm c
      have e : ∀ a0 a1 a2 a3, a0 = m ((c.tc : Thread nD τ).loc main_arg0) → a1 = m ((c.tc : Thread nD τ).loc main_arg1) → a2 = m ((c.tc : Thread nD τ).loc main_arg2) → a3 = m ((c.tc : Thread nD τ).loc main_arg3) → Cert.Reference4Ideal.Hand.result a0 a1 a2 a3
          = Cert.Reference4Ideal.Hand.result (m ((c.tc : Thread nD τ).loc main_arg0)) (m ((c.tc : Thread nD τ).loc main_arg1)) (m ((c.tc : Thread nD τ).loc main_arg2)) (m ((c.tc : Thread nD τ).loc main_arg3)) := by
        rintro _ _ _ _ rfl rfl rfl rfl; rfl
      exact e _ _ _ _ h0 h1 h2 h3), (h c).2⟩)
      (Cert.Reference4Ideal.Value.run (F := Ideal) m' ρ')⟩

end

section

open Cert.Kernel5Ideal Cert.Kernel5Ideal.Gen

theorem frame_kernel5Ideal : Cert.quiescent_Kernel5Ideal := fun m ρ _ => Cert.Kernel5Ideal.Gen.frame (F := Ideal) m ρ

theorem frame_kernel5 : Cert.quiescent_Kernel5 := fun m ρ _ => Cert.Kernel5Ideal.Hand.frame_bits m ρ

theorem frame_reference5Ideal : Cert.quiescent_Reference5Ideal := fun m ρ _ =>
  (θ_run Cert.Reference5Ideal.defs _ _).mono (fun r h => ⟨fun c => (h c).2, sem_eq_zero_of_no_sems (by decide) r.2⟩) (Cert.Reference5Ideal.Value.run (F := Ideal) m ρ)

/-- The gated projection: what the reference computes of the call's arguments is the array the call leaves. -/
theorem same5 (m : (ℓ : Loc nD τ sig) → Buf (Elt Ideal) ℓ) (c : Dev nD) :
    Cert.Reference5Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = Cert.Kernel5Ideal.Hand.fin m c := by
  funext x
  obtain ⟨R, n, rfl⟩ : ∃ (R : Fin 16896) (n : Fin 2048), x = ix2 R n := ⟨x 0, x 1, funext fun b => match b with | ⟨0, _⟩ => rfl | ⟨1, _⟩ => rfl⟩
  exact Cert.Reference5Ideal.Hand.result_at _ _ _ _ _ _ _ _ R n

theorem algebraic5 : Cert.algebraic_Kernel5Ideal_Reference5Ideal := fun m ρ m' ρ' _ hm =>
  ⟨fun c => Cert.Kernel5Ideal.Hand.fin m c, Cert.Kernel5Ideal.Hand.run_result m ρ,
    (θ_run Cert.Reference5Ideal.defs _ _).mono (fun _ h c => ⟨(h c).1.trans (by
      refine Eq.trans ?_ (same5 m c)
      obtain ⟨h0, h1, h2, h3, h4, h5, h6, h7⟩ := hm c
      have e : ∀ a0 a1 a2 a3 a4 a5 a6 a7, a0 = m ((c.tc : Thread nD τ).loc main_arg0) → a1 = m ((c.tc : Thread nD τ).loc main_arg1) → a2 = m ((c.tc : Thread nD τ).loc main_arg2) → a3 = m ((c.tc : Thread nD τ).loc main_arg3) → a4 = m ((c.tc : Thread nD τ).loc main_arg4) → a5 = m ((c.tc : Thread nD τ).loc main_arg5) → a6 = m ((c.tc : Thread nD τ).loc main_arg6) → a7 = m ((c.tc : Thread nD τ).loc main_arg7) → Cert.Reference5Ideal.Hand.result a0 a1 a2 a3 a4 a5 a6 a7
          = Cert.Reference5Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
        rintro _ _ _ _ _ _ _ _ rfl rfl rfl rfl rfl rfl rfl rfl; rfl
      exact e _ _ _ _ _ _ _ _ h0 h1 h2 h3 h4 h5 h6 h7), (h c).2⟩)
      (Cert.Reference5Ideal.Value.run (F := Ideal) m' ρ')⟩

end

section

open Cert.Kernel6Ideal Cert.Kernel6Ideal.Gen

theorem frame_kernel6Ideal : Cert.quiescent_Kernel6Ideal := fun m ρ _ => Cert.Kernel6Ideal.Gen.frame (F := Ideal) m ρ

theorem frame_kernel6 : Cert.quiescent_Kernel6 := fun m ρ _ => Cert.Kernel6Ideal.Hand.frame_bits m ρ

theorem frame_reference6Ideal : Cert.quiescent_Reference6Ideal := fun m ρ _ =>
  (θ_run Cert.Reference6Ideal.defs _ _).mono (fun r h => ⟨fun c => (h c).2, sem_eq_zero_of_no_sems (by decide) r.2⟩) (Cert.Reference6Ideal.Value.run (F := Ideal) m ρ)

/-- The modulated norm with its projection: what the reference computes of the call's arguments is the array the call leaves. -/
theorem same6 (m : (ℓ : Loc nD τ sig) → Buf (Elt Ideal) ℓ) (c : Dev nD) :
    Cert.Reference6Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      = Cert.Kernel6Ideal.Hand.fin m c := by
  funext x
  obtain ⟨R, n, rfl⟩ : ∃ (R : Fin 16896) (n : Fin 6144), x = ix2 R n := ⟨x 0, x 1, funext fun b => match b with | ⟨0, _⟩ => rfl | ⟨1, _⟩ => rfl⟩
  exact Cert.Reference6Ideal.Hand.result_at _ _ _ _ _ R n

theorem algebraic6 : Cert.algebraic_Kernel6Ideal_Reference6Ideal := fun m ρ m' ρ' _ hm =>
  ⟨fun c => Cert.Kernel6Ideal.Hand.fin m c, Cert.Kernel6Ideal.Hand.run_result m ρ,
    (θ_run Cert.Reference6Ideal.defs _ _).mono (fun _ h c => ⟨(h c).1.trans (by
      refine Eq.trans ?_ (same6 m c)
      obtain ⟨h0, h1, h2, h3, h4⟩ := hm c
      have e : ∀ a0 a1 a2 a3 a4, a0 = m ((c.tc : Thread nD τ).loc main_arg0) → a1 = m ((c.tc : Thread nD τ).loc main_arg1) → a2 = m ((c.tc : Thread nD τ).loc main_arg2) → a3 = m ((c.tc : Thread nD τ).loc main_arg3) → a4 = m ((c.tc : Thread nD τ).loc main_arg4) → Cert.Reference6Ideal.Hand.result a0 a1 a2 a3 a4
          = Cert.Reference6Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
        rintro _ _ _ _ _ rfl rfl rfl rfl rfl; rfl
      exact e _ _ _ _ _ h0 h1 h2 h3 h4), (h c).2⟩)
      (Cert.Reference6Ideal.Value.run (F := Ideal) m' ρ')⟩

end

section

open Cert.Kernel7Ideal Cert.Kernel7Ideal.Gen

theorem frame_kernel7Ideal : Cert.quiescent_Kernel7Ideal := fun m ρ _ => Cert.Kernel7Ideal.Gen.frame (F := Ideal) m ρ

theorem frame_kernel7 : Cert.quiescent_Kernel7 := fun m ρ _ => Cert.Kernel7Ideal.Hand.frame_bits m ρ

theorem frame_reference7Ideal : Cert.quiescent_Reference7Ideal := fun m ρ _ =>
  (θ_run Cert.Reference7Ideal.defs _ _).mono (fun r h => ⟨fun c => (h c).2, sem_eq_zero_of_no_sems (by decide) r.2⟩) (Cert.Reference7Ideal.Value.run (F := Ideal) m ρ)

/-- The gated linear unit: what the reference computes of the call's arguments is the array the call leaves. -/
theorem same7 (m : (ℓ : Loc nD τ sig) → Buf (Elt Ideal) ℓ) (c : Dev nD) :
    Cert.Reference7Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      = Cert.Kernel7Ideal.Hand.fin m c := by
  funext x
  obtain ⟨R, n, rfl⟩ : ∃ (R : Fin 16896) (n : Fin 2048), x = ix2 R n := ⟨x 0, x 1, funext fun b => match b with | ⟨0, _⟩ => rfl | ⟨1, _⟩ => rfl⟩
  exact Cert.Reference7Ideal.Hand.result_at _ _ _ _ _ _ _ R n

theorem algebraic7 : Cert.algebraic_Kernel7Ideal_Reference7Ideal := fun m ρ m' ρ' _ hm =>
  ⟨fun c => Cert.Kernel7Ideal.Hand.fin m c, Cert.Kernel7Ideal.Hand.run_result m ρ,
    (θ_run Cert.Reference7Ideal.defs _ _).mono (fun _ h c => ⟨(h c).1.trans (by
      refine Eq.trans ?_ (same7 m c)
      obtain ⟨h0, h1, h2, h3, h4, h5, h6⟩ := hm c
      have e : ∀ a0 a1 a2 a3 a4 a5 a6, a0 = m ((c.tc : Thread nD τ).loc main_arg0) → a1 = m ((c.tc : Thread nD τ).loc main_arg1) → a2 = m ((c.tc : Thread nD τ).loc main_arg2) → a3 = m ((c.tc : Thread nD τ).loc main_arg3) → a4 = m ((c.tc : Thread nD τ).loc main_arg4) → a5 = m ((c.tc : Thread nD τ).loc main_arg5) → a6 = m ((c.tc : Thread nD τ).loc main_arg6) → Cert.Reference7Ideal.Hand.result a0 a1 a2 a3 a4 a5 a6
          = Cert.Reference7Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
        rintro _ _ _ _ _ _ _ rfl rfl rfl rfl rfl rfl rfl; rfl
      exact e _ _ _ _ _ _ _ h0 h1 h2 h3 h4 h5 h6), (h c).2⟩)
      (Cert.Reference7Ideal.Value.run (F := Ideal) m' ρ')⟩

end

section

open Cert.Kernel8Ideal Cert.Kernel8Ideal.Gen

theorem frame_kernel8Ideal : Cert.quiescent_Kernel8Ideal := fun m ρ _ => Cert.Kernel8Ideal.Gen.frame (F := Ideal) m ρ

theorem frame_kernel8 : Cert.quiescent_Kernel8 := fun m ρ _ => Cert.Kernel8Ideal.Hand.frame_bits m ρ

theorem frame_reference8Ideal : Cert.quiescent_Reference8Ideal := fun m ρ _ =>
  (θ_run Cert.Reference8Ideal.defs _ _).mono (fun r h => ⟨fun c => (h c).2, sem_eq_zero_of_no_sems (by decide) r.2⟩) (Cert.Reference8Ideal.Value.run (F := Ideal) m ρ)

/-- The query, key and value projection: what the reference computes of the call's arguments is the array the call leaves. -/
theorem same8 (m : (ℓ : Loc nD τ sig) → Buf (Elt Ideal) ℓ) (c : Dev nD) :
    Cert.Reference8Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      = Cert.Kernel8Ideal.Hand.fin m c := by
  funext x
  obtain ⟨R, n, rfl⟩ : ∃ (R : Fin 16896) (n : Fin 3072), x = ix2 R n := ⟨x 0, x 1, funext fun b => match b with | ⟨0, _⟩ => rfl | ⟨1, _⟩ => rfl⟩
  exact Cert.Reference8Ideal.Hand.result_at _ _ _ _ _ _ _ _ R n

theorem algebraic8 : Cert.algebraic_Kernel8Ideal_Reference8Ideal := fun m ρ m' ρ' _ hm =>
  ⟨fun c => Cert.Kernel8Ideal.Hand.fin m c, Cert.Kernel8Ideal.Hand.run_result m ρ,
    (θ_run Cert.Reference8Ideal.defs _ _).mono (fun _ h c => ⟨(h c).1.trans (by
      refine Eq.trans ?_ (same8 m c)
      obtain ⟨h0, h1, h2, h3, h4, h5, h6, h7⟩ := hm c
      have e : ∀ a0 a1 a2 a3 a4 a5 a6 a7, a0 = m ((c.tc : Thread nD τ).loc main_arg0) → a1 = m ((c.tc : Thread nD τ).loc main_arg1) → a2 = m ((c.tc : Thread nD τ).loc main_arg2) → a3 = m ((c.tc : Thread nD τ).loc main_arg3) → a4 = m ((c.tc : Thread nD τ).loc main_arg4) → a5 = m ((c.tc : Thread nD τ).loc main_arg5) → a6 = m ((c.tc : Thread nD τ).loc main_arg6) → a7 = m ((c.tc : Thread nD τ).loc main_arg7) → Cert.Reference8Ideal.Hand.result a0 a1 a2 a3 a4 a5 a6 a7
          = Cert.Reference8Ideal.Hand.result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
        rintro _ _ _ _ _ _ _ _ rfl rfl rfl rfl rfl rfl rfl rfl; rfl
      exact e _ _ _ _ _ _ _ _ h0 h1 h2 h3 h4 h5 h6 h7), (h c).2⟩)
      (Cert.Reference8Ideal.Value.run (F := Ideal) m' ρ')⟩

end

section

open Cert.Kernel9Ideal Cert.Kernel9Ideal.Gen

theorem frame_kernel9Ideal : Cert.quiescent_Kernel9Ideal := fun m ρ _ => Cert.Kernel9Ideal.Gen.frame (F := Ideal) m ρ

theorem frame_kernel9 : Cert.quiescent_Kernel9 := fun m ρ _ => Cert.Kernel9Ideal.Hand.frame_bits m ρ

theorem frame_reference9Ideal : Cert.quiescent_Reference9Ideal := fun m ρ _ =>
  (θ_run Cert.Reference9Ideal.defs _ _).mono (fun r h => ⟨fun c => (h c).2, sem_eq_zero_of_no_sems (by decide) r.2⟩) (Cert.Reference9Ideal.Value.run (F := Ideal) m ρ)

/-- The modulated norm of all the rows: what the reference computes of the call's arguments is the array the call leaves. -/
theorem same9 (m : (ℓ : Loc nD τ sig) → Buf (Elt Ideal) ℓ) (c : Dev nD) :
    Cert.Reference9Ideal.Hand.result (m ((c.tc : Thread nD τ).loc main_arg0)) (m ((c.tc : Thread nD τ).loc main_arg1)) (m ((c.tc : Thread nD τ).loc main_arg2))
      = Cert.Kernel9Ideal.Hand.fin m c := by
  funext x
  obtain ⟨R, n, rfl⟩ : ∃ (R : Fin 16896) (n : Fin 2048), x = ix2 R n := ⟨x 0, x 1, funext fun b => match b with | ⟨0, _⟩ => rfl | ⟨1, _⟩ => rfl⟩
  exact Cert.Reference9Ideal.Hand.result_at _ _ _ R n

theorem algebraic9 : Cert.algebraic_Kernel9Ideal_Reference9Ideal := fun m ρ m' ρ' _ hm =>
  ⟨fun c => Cert.Kernel9Ideal.Hand.fin m c, Cert.Kernel9Ideal.Hand.run_result m ρ,
    (θ_run Cert.Reference9Ideal.defs _ _).mono (fun _ h c => ⟨(h c).1.trans (by
      refine Eq.trans ?_ (same9 m c)
      obtain ⟨h0, h1, h2⟩ := hm c
      have e : ∀ a0 a1 a2, a0 = m ((c.tc : Thread nD τ).loc main_arg0) → a1 = m ((c.tc : Thread nD τ).loc main_arg1) → a2 = m ((c.tc : Thread nD τ).loc main_arg2) → Cert.Reference9Ideal.Hand.result a0 a1 a2
          = Cert.Reference9Ideal.Hand.result (m ((c.tc : Thread nD τ).loc main_arg0)) (m ((c.tc : Thread nD τ).loc main_arg1)) (m ((c.tc : Thread nD τ).loc main_arg2)) := by
        rintro _ _ _ rfl rfl rfl; rfl
      exact e _ _ _ h0 h1 h2), (h c).2⟩)
      (Cert.Reference9Ideal.Value.run (F := Ideal) m' ρ')⟩

end

section

open Cert.Kernel10Ideal Cert.Kernel10Ideal.Gen

theorem frame_kernel10Ideal : Cert.quiescent_Kernel10Ideal := fun m ρ _ => Cert.Kernel10Ideal.Gen.frame (F := Ideal) m ρ

theorem frame_kernel10 : Cert.quiescent_Kernel10 := fun m ρ _ => Cert.Kernel10Ideal.Hand.frame_bits m ρ

theorem frame_reference10Ideal : Cert.quiescent_Reference10Ideal := fun m ρ _ =>
  (θ_run Cert.Reference10Ideal.defs _ _).mono (fun r h => ⟨fun c => (h c).2, sem_eq_zero_of_no_sems (by decide) r.2⟩) (Cert.Reference10Ideal.Value.run (F := Ideal) m ρ)

/-- The modulation: what the reference computes of the call's arguments is the array the call leaves. -/
theorem same10 (m : (ℓ : Loc nD τ sig) → Buf (Elt Ideal) ℓ) (c : Dev nD) :
    Cert.Reference10Ideal.Hand.result (m ((c.tc : Thread nD τ).loc main_arg0)) (m ((c.tc : Thread nD τ).loc main_arg1)) (m ((c.tc : Thread nD τ).loc main_arg2))
      = Cert.Kernel10Ideal.Hand.fin m c := by
  funext x
  obtain ⟨l, r, n, rfl⟩ : ∃ (l : Fin 4) (r : Fin 8) (n : Fin 12288), x = ix3 l r n :=
    ⟨x 0, x 1, x 2, funext fun b => match b with | ⟨0, _⟩ => rfl | ⟨1, _⟩ => rfl | ⟨2, _⟩ => rfl⟩
  exact Cert.Reference10Ideal.Hand.result_at _ _ _ l r n

theorem algebraic10 : Cert.algebraic_Kernel10Ideal_Reference10Ideal := fun m ρ m' ρ' _ hm =>
  ⟨fun c => Cert.Kernel10Ideal.Hand.fin m c, Cert.Kernel10Ideal.Hand.run_result m ρ,
    (θ_run Cert.Reference10Ideal.defs _ _).mono (fun _ h c => ⟨(h c).1.trans (by
      refine Eq.trans ?_ (same10 m c)
      obtain ⟨h0, h1, h2⟩ := hm c
      have e : ∀ a0 a1 a2, a0 = m ((c.tc : Thread nD τ).loc main_arg0) → a1 = m ((c.tc : Thread nD τ).loc main_arg1) → a2 = m ((c.tc : Thread nD τ).loc main_arg2) → Cert.Reference10Ideal.Hand.result a0 a1 a2
          = Cert.Reference10Ideal.Hand.result (m ((c.tc : Thread nD τ).loc main_arg0)) (m ((c.tc : Thread nD τ).loc main_arg1)) (m ((c.tc : Thread nD τ).loc main_arg2)) := by
        rintro _ _ _ rfl rfl rfl; rfl
      exact e _ _ _ h0 h1 h2), (h c).2⟩)
      (Cert.Reference10Ideal.Value.run (F := Ideal) m' ρ')⟩

end

end Cert.Proof

end
-- ==== Proof.Conv.lean ====
module

public import proofs.«01_k».proof.Proof.Qkv

/-! # The short convolution, element by element -/

@[expose] public section

set_option maxRecDepth 16384

noncomputable section

namespace Cert.Mix

open Idealize.ShloMosaic hiding ix0 ix1 ix2 ix3 ix4
open Idealize.ShloMosaic.ValueIdx (ix1 ix2 ix3)

variable {α : Type} {N T Q S : ℕ}

/-- Column `n` of row `i`, zero past the context's rows. -/
def zrow (z : (⟨2, ![16896, 6144]⟩ : Shape).Idx → EReal) (n : Fin 6144) (i : ℕ) : EReal :=
  if h : i < 16640 then z (ix2 (⟨i, by omega⟩ : Fin 16896) n) else 0

/-- The row before and the row after in the same stream, zero where there is none. -/
def above (z : (⟨2, ![16896, 6144]⟩ : Shape).Idx → EReal) (n : Fin 6144) (i : ℕ) : EReal := if i = 0 ∨ i = 16384 then 0 else zrow z n (i - 1)
def below (z : (⟨2, ![16896, 6144]⟩ : Shape).Idx → EReal) (n : Fin 6144) (i : ℕ) : EReal := if i = 16383 then 0 else zrow z n (i + 1)

/-- The convolution at row `i`. -/
def conv (z : (⟨2, ![16896, 6144]⟩ : Shape).Idx → EReal) (w : (⟨2, ![3, 6144]⟩ : Shape).Idx → EReal) (b : (⟨1, ![6144]⟩ : Shape).Idx → EReal) (i : ℕ) (n : Fin 6144) : EReal :=
  above z n i * w (ix2 (0 : Fin 3) n) + zrow z n i * w (ix2 (1 : Fin 3) n) + below z n i * w (ix2 (2 : Fin 3) n) + b (ix1 n)

theorem zrow_lt (z : (⟨2, ![16896, 6144]⟩ : Shape).Idx → EReal) (n : Fin 6144) (i : ℕ) (R : Fin 16896) (h : R.val = i) (hi : i < 16640) : zrow z n i = z (ix2 R n) := by
  subst h
  exact dif_pos hi

theorem zrow_ge (z : (⟨2, ![16896, 6144]⟩ : Shape).Idx → EReal) (n : Fin 6144) (i : ℕ) (hi : ¬i < 16640) : zrow z n i = 0 := dif_neg hi

/-- A row, an array and another array, one after the other. -/
theorem three_at (y0 : (⟨2, ![1, N]⟩ : Shape).Idx → α) (y1 : (⟨2, ![Q, N]⟩ : Shape).Idx → α) (y2 : (⟨2, ![S, N]⟩ : Shape).Idx → α)
    (h : Shape.Concatenates [(⟨2, ![1, N]⟩ : Shape), (⟨2, ![Q, N]⟩ : Shape), (⟨2, ![S, N]⟩ : Shape)] (⟨2, ![T, N]⟩ : Shape) (0 : Fin 2)) (i : Fin T) (n : Fin N) (v : α)
    (hT : T = 1 + Q + S) (h0 : i.val = 0 → y0 (ix2 (0 : Fin 1) n) = v) (h1 : ∀ q : Fin Q, i.val = 1 + q.val → y1 (ix2 q n) = v)
    (h2 : ∀ q : Fin S, i.val = 1 + Q + q.val → y2 (ix2 q n) = v) :
    concatenate (⟨2, ![T, N]⟩ : Shape) (0 : Fin 2) [⟨(⟨2, ![1, N]⟩ : Shape), y0⟩, ⟨(⟨2, ![Q, N]⟩ : Shape), y1⟩, ⟨(⟨2, ![S, N]⟩ : Shape), y2⟩] h (ix2 i n) = v := by
  have hi := i.isLt
  by_cases c0 : i.val = 0
  · exact (concatenate_apply_piece (t := (⟨2, ![T, N]⟩ : Shape)) (0 : Fin 2) [⟨(⟨2, ![1, N]⟩ : Shape), y0⟩, ⟨(⟨2, ![Q, N]⟩ : Shape), y1⟩, ⟨(⟨2, ![S, N]⟩ : Shape), y2⟩] h (ix2 i n)
      0 (by show 0 < 3; decide) (⟨2, ![1, N]⟩ : Shape) y0 rfl rfl (0) (rfl) (ix2 (0 : Fin 1) n) (fun b hb => by
        match b with
        | ⟨0, _⟩ => exact absurd rfl hb
        | ⟨1, _⟩ => rfl) (by show 0 + 0 = i.val; omega)).trans (h0 c0)
  · by_cases c1 : i.val < 1 + Q
    · exact (concatenate_apply_piece (t := (⟨2, ![T, N]⟩ : Shape)) (0 : Fin 2) [⟨(⟨2, ![1, N]⟩ : Shape), y0⟩, ⟨(⟨2, ![Q, N]⟩ : Shape), y1⟩, ⟨(⟨2, ![S, N]⟩ : Shape), y2⟩] h (ix2 i n)
      1 (by show 1 < 3; decide) (⟨2, ![Q, N]⟩ : Shape) y1 rfl rfl (1) (rfl) (ix2 (⟨i.val - 1, by omega⟩ : Fin Q) n) (fun b hb => by
        match b with
        | ⟨0, _⟩ => exact absurd rfl hb
        | ⟨1, _⟩ => rfl) (by show 1 + (i.val - 1) = i.val; omega)).trans (h1 ⟨i.val - 1, by omega⟩ (by show i.val = 1 + (i.val - 1); omega))
    · exact (concatenate_apply_piece (t := (⟨2, ![T, N]⟩ : Shape)) (0 : Fin 2) [⟨(⟨2, ![1, N]⟩ : Shape), y0⟩, ⟨(⟨2, ![Q, N]⟩ : Shape), y1⟩, ⟨(⟨2, ![S, N]⟩ : Shape), y2⟩] h (ix2 i n)
      2 (by show 2 < 3; decide) (⟨2, ![S, N]⟩ : Shape) y2 rfl rfl (1 + Q) (by show 1 + (Q + 0) = 1 + Q; omega) (ix2 (⟨i.val - (1 + Q), by omega⟩ : Fin S) n) (fun b hb => by
        match b with
        | ⟨0, _⟩ => exact absurd rfl hb
        | ⟨1, _⟩ => rfl) (by show 1 + Q + (i.val - (1 + Q)) = i.val; omega)).trans (h2 ⟨i.val - (1 + Q), by omega⟩ (by show i.val = 1 + Q + (i.val - (1 + Q)); omega))

/-- One of three rows, through a vector, spread over the rows. -/
theorem wrow_at {M o : ℕ} (hN : N ≠ 1) (w : (⟨2, ![3, N]⟩ : Shape).Idx → α) (hs : (⟨2, ![3, N]⟩ : Shape).Slices ![o, 0] ⟨2, ![1, N]⟩)
    (hc : (⟨2, ![1, N]⟩ : Shape).ShapeCasts ⟨1, ![N]⟩) (h1 : (⟨1, ![N]⟩ : Shape).BroadcastsInDim ⟨2, ![1, N]⟩ ![1])
    (h2 : (⟨2, ![1, N]⟩ : Shape).BroadcastsInDim ⟨2, ![M, N]⟩ ![0, 1]) (r : Fin M) (n : Fin N) (k : Fin 3) (hk : k.val = o) :
    broadcastInDim ⟨2, ![M, N]⟩ ![0, 1] h2 (broadcastInDim ⟨2, ![1, N]⟩ ![1] h1 (shapeCast ⟨1, ![N]⟩ (extractStridedSlice ⟨2, ![1, N]⟩ ![o, 0] w hs) hc)) (ix2 r n)
      = w (ix2 k n) := by
  refine (hrow_at hN _ h2 r n).trans ((hvec_at hN _ h1 n).trans ?_)
  refine (shapeCast_apply _ hc (ix1 n) (ix2 (0 : Fin 1) n) (by
    rw [Shape.rowMajor_val_two, Shape.rowMajor_val_one]
    show 0 * N + n.val = n.val
    omega)).trans ?_
  exact rows_at w hs (0 : Fin 1) n k (by show k.val = o + 0; omega)

end Cert.Mix

end
-- ==== Proof.ConvUnit.lean ====
module

public import proofs.«01_k».proof.Proof.Conv
public import proofs.«01_k».proof.Proof.Gen.Kernel11Ideal.Frame
public import Idealize.ShloMosaic.Lib.Pipeline.Covers
public import Idealize.ShloMosaic.Lib.Pipeline.ValueKit.Geometry
public import Idealize.ShloMosaic.Lib.Pipeline.ValueKit.Tiles
public import Idealize.ShloMosaic.Lib.Tactic

/-! # The arrays the short convolution leaves, element by element -/

@[expose] public section

set_option maxRecDepth 16384

noncomputable section

namespace Cert.Kernel11Ideal.Hand

open Cert.Kernel11Ideal Cert.Kernel11Ideal.Gen Cert.Mix
open Idealize.ShloMosaic hiding ix0 ix1 ix2 ix3 ix4 eq_ix2
open Idealize.ShloMosaic.TcCoe
open Idealize.SL Idealize.SL.Sem
open Idealize.ShloMosaic.Pipeline (Dat Cfg Window)
open Idealize.ShloMosaic.ValueIdx (ix1 ix2 ix3 eq_ix2)

/-! ## One of the three parts of a block -/

/-- The rows' numbers within the block. -/
def num : IVec S512x1 32 := iota .tc S512x1 32 [0] iota_S512x1_d0_w32

theorem num_at (r : Fin 512) : num (ix2 r (0 : Fin 1)) = BitVec.ofNat 32 r.val := iota_single_apply _ _ _ _ _ _

/-- The block's own rows, the rows past the context's taken as zero. -/
def own (u : IVec S512x1 1) (A : FVec Ideal S512x512 .bf16) : FVec Ideal S512x512 .f32 :=
  select (broadcastTo S512x512 (shapeCast S512x1 u shapeCasts_S512x1_S512x1) broadcasts_S512x1_S512x512) (extf .f32 A bitsLt_bf16_f32)
    (broadcast S512x512 (Scalar.ofBits .f32 0x00000000#32))

/-- The rows turned by `k`, row `e` taken from the neighbouring block or zero. -/
def turned (e k : BitVec 32) (v : BitVec 1) (C : FVec Ideal S512x512 .f32) (p : FVec Ideal S1x512 .bf16) : FVec Ideal S512x512 .f32 :=
  select (broadcastTo S512x512 (shapeCast S512x1 (cmpi .eq num (broadcast S512x1 e)) shapeCasts_S512x1_S512x1) broadcasts_S512x1_S512x512)
    (broadcastTo S512x512 (shapeCast S1x512 (Scalar.select v (extf .f32 p bitsLt_bf16_f32) (broadcast S1x512 (Scalar.ofBits .f32 0x00000000#32))) shapeCasts_S1x512_S1x512)
      broadcasts_S1x512_S512x512)
    (dynamicRotate 0 k none C rotates_S512x512_d0)

/-- One part convolved. -/
def part (u : IVec S512x1 1) (v4 v5 : BitVec 1) (A : FVec Ideal S512x512 .bf16) (p q : FVec Ideal S1x512 .bf16) (w : FVec Ideal S1x3x512 .f32) (b : FVec Ideal S1x1x512 .f32) :
    FVec Ideal S512x512 .f32 :=
  addf (addf (addf
    (mulf (turned 0#32 1#32 v4 (own u A) p) (broadcastTo S512x512 (extractStridedSlice S1x512 ![0, 0] (shapeCast S3x512 w shapeCasts_S1x3x512_S3x512) slices_S3x512_o0_0_S1x512) broadcasts_S1x512_S512x512))
    (mulf (own u A) (broadcastTo S512x512 (extractStridedSlice S1x512 ![1, 0] (shapeCast S3x512 w shapeCasts_S1x3x512_S3x512) slices_S3x512_o1_0_S1x512) broadcasts_S1x512_S512x512)))
    (mulf (turned 511#32 511#32 v5 (own u A) q) (broadcastTo S512x512 (extractStridedSlice S1x512 ![2, 0] (shapeCast S3x512 w shapeCasts_S1x3x512_S3x512) slices_S3x512_o2_0_S1x512) broadcasts_S1x512_S512x512)))
    (broadcastTo S512x512 (shapeCast S1x512 b shapeCasts_S1x1x512_S1x512) broadcasts_S1x512_S512x512)

/-- The two neighbours' conditions. -/
def up (i : grid0.Coords) : BitVec 1 := Scalar.andi (Scalar.cmpi .sgt (BitVec.ofNat 32 (i 0).val) 0#32) (Scalar.cmpi .ne (BitVec.ofNat 32 (i 0).val) 32#32)
def dn (i : grid0.Coords) : BitVec 1 := Scalar.cmpi .slt (BitVec.ofNat 32 (i 0).val) 31#32

theorem pay_a (i : grid0.Coords) (A : FVec Ideal S512x512 .bf16) (p q : FVec Ideal S1x512 .bf16) (w : FVec Ideal S1x3x512 .f32) (b : FVec Ideal S1x1x512 .f32) :
    k0_pay1 (F := Ideal) (k0_pay9 (k0_pay4 i A) (k0_pay5 i A p) (k0_pay6 i A) k0_pay7 (k0_pay8 i q) w b) = part (k0_pay3 i) (up i) (dn i) A p q w b := rfl

theorem pay_b (i : grid0.Coords) (A : FVec Ideal S512x512 .bf16) (p q : FVec Ideal S1x512 .bf16) (w : FVec Ideal S1x3x512 .f32) (b : FVec Ideal S1x1x512 .f32) :
    k0_pay14 (F := Ideal) num (k0_pay10 (k0_pay3 i) A) (k0_pay11 (dn i) q) (k0_pay12 num (up i) (k0_pay3 i) A p) k0_pay13 w b = part (k0_pay3 i) (up i) (dn i) A p q w b := rfl

theorem pay_c (i : grid0.Coords) (X : FVec Ideal S512x512 .f32) (A : FVec Ideal S512x512 .bf16) (p q : FVec Ideal S1x512 .bf16) (w : FVec Ideal S1x3x512 .f32) (b : FVec Ideal S1x1x512 .f32) :
    k0_pay2 (F := Ideal) num X (k0_pay15 (k0_pay3 i) A) (k0_pay16 (up i) p) (k0_pay17 (dn i) q) (k0_pay18 (k0_pay3 i) A) (k0_pay19 num) w b
      = mulf X (part (k0_pay3 i) (up i) (dn i) A p q w b) := rfl

theorem own_at (u : IVec S512x1 1) (A : FVec Ideal S512x512 .bf16) (r n : Fin 512) :
    own u A (ix2 r n) = if u (ix2 r (0 : Fin 1)) = 1#1 then A (ix2 r n) else (0 : EReal) := by
  unfold own
  refine Eq.trans (b := Scalar.select (broadcastTo S512x512 (shapeCast S512x1 u shapeCasts_S512x1_S512x1) broadcasts_S512x1_S512x512 (ix2 r n)) (A (ix2 r n) : EReal) (Ideal.ofBits .f32 0x00000000#32)) rfl ?_
  rw [(col_at (M := 512) (by decide) (shapeCast S512x1 u shapeCasts_S512x1_S512x1) broadcasts_S512x1_S512x512 r n).trans (cast_id u _ _), zero_eq]
  rfl

theorem pick_at (v : BitVec 1) (x y : S1x512.Idx → EReal) (j : S1x512.Idx) : Scalar.select v x y j = if v = 1#1 then x j else y j := by
  by_cases h : v = 1#1
  · subst h; rfl
  · rw [if_neg h]
    exact congrFun (if_neg h : (if v = 1 then x else y) = y) j

theorem turned_at (e k : BitVec 32) (o : ℕ) (v : BitVec 1) (C : FVec Ideal S512x512 .f32) (p : FVec Ideal S1x512 .bf16) (r n s : Fin 512)
    (hs : s.val = (r.val + 512 - k.toNat % 512) % 512) (ho : e = BitVec.ofNat 32 o) (hl : o < 512) :
    turned e k v C p (ix2 r n) = if r.val = o then (if v = 1#1 then p (ix2 (0 : Fin 1) n) else (0 : EReal)) else C (ix2 s n) := by
  have hr := r.isLt
  unfold turned
  refine Eq.trans (b := Scalar.select (broadcastTo S512x512 (shapeCast S512x1 (cmpi .eq num (broadcast S512x1 e)) shapeCasts_S512x1_S512x1) broadcasts_S512x1_S512x512 (ix2 r n))
    (broadcastTo S512x512 (shapeCast S1x512 (Scalar.select v (extf .f32 p bitsLt_bf16_f32) (broadcast S1x512 (Scalar.ofBits (F := Ideal) .f32 0x00000000#32))) shapeCasts_S1x512_S1x512)
      broadcasts_S1x512_S512x512 (ix2 r n) : EReal)
    (dynamicRotate 0 k none C rotates_S512x512_d0 (ix2 r n))) rfl ?_
  rw [(col_at (M := 512) (by decide) (shapeCast S512x1 (cmpi .eq num (broadcast S512x1 e)) shapeCasts_S512x1_S512x1) broadcasts_S512x1_S512x512 r n).trans (cast_id _ _ _)]
  have e1 : cmpi .eq num (broadcast S512x1 e) (ix2 r (0 : Fin 1)) = if r.val = o then 1#1 else 0#1 := by
    refine Eq.trans (b := IntOp.cmpi .eq (num (ix2 r (0 : Fin 1))) e) rfl ?_
    rw [num_at, ho]
    by_cases h : r.val = o
    · rw [if_pos h, h]
      simp [IntOp.cmpi]
    · rw [if_neg h]
      have hne : BitVec.ofNat 32 r.val ≠ BitVec.ofNat 32 o := fun hh => h (by
        have := congrArg BitVec.toNat hh
        rw [BitVec.toNat_ofNat, BitVec.toNat_ofNat, Nat.mod_eq_of_lt (by omega), Nat.mod_eq_of_lt (by omega)] at this
        exact this)
      refine Eq.trans (b := BitVec.ofBool (BitVec.ofNat 32 r.val == BitVec.ofNat 32 o)) rfl ?_
      rw [beq_eq_false_iff_ne.mpr hne]
      rfl
  rw [e1]
  by_cases h : r.val = o
  · rw [if_pos h, if_pos h]
    refine ((row_at (M := 512) (N := 512) (by decide) _ broadcasts_S1x512_S512x512 r n).trans (cast_id _ _ _)).trans ((pick_at v _ _ _).trans ?_)
    by_cases hv : v = 1#1
    · rw [if_pos hv, if_pos hv]; rfl
    · rw [if_neg hv, if_neg hv]; exact zero_eq
  · rw [if_neg h, if_neg h]
    refine Eq.trans (b := dynamicRotate 0 k none C rotates_S512x512_d0 (ix2 r n)) rfl ?_
    unfold dynamicRotate
    refine congrArg C (funext fun (a : Fin 2) => Fin.ext ?_)
    match a with
    | ⟨0, _⟩ => exact hs.symm
    | ⟨1, _⟩ => rfl

theorem tap_at (w : FVec Ideal S1x3x512 .f32) (k : Fin 3) (h : S3x512.Slices ![k.val, 0] S1x512) (r n : Fin 512) :
    broadcastTo S512x512 (extractStridedSlice S1x512 ![k.val, 0] (shapeCast S3x512 w shapeCasts_S1x3x512_S3x512) h) broadcasts_S1x512_S512x512 (ix2 r n) = w (ix3 (0 : Fin 1) k n) := by
  refine (row_at (M := 512) (N := 512) (by decide) _ _ r n).trans ((rows_at (M := 1) (N := 512) _ h (0 : Fin 1) n k rfl).trans ?_)
  refine shapeCast_apply w _ (ix2 k n) (ix3 (0 : Fin 1) k n) ?_
  rw [Shape.rowMajor_val_two, Shape.rowMajor_val_three]
  show (0 * 3 + k.val) * 512 + n.val = k.val * 512 + n.val
  omega

theorem part_at (u : IVec S512x1 1) (v4 v5 : BitVec 1) (A : FVec Ideal S512x512 .bf16) (p q : FVec Ideal S1x512 .bf16) (w : FVec Ideal S1x3x512 .f32) (b : FVec Ideal S1x1x512 .f32)
    (r n : Fin 512) : part u v4 v5 A p q w b (ix2 r n)
      = turned 0#32 1#32 v4 (own u A) p (ix2 r n) * w (ix3 (0 : Fin 1) (0 : Fin 3) n) + own u A (ix2 r n) * w (ix3 (0 : Fin 1) (1 : Fin 3) n)
        + turned 511#32 511#32 v5 (own u A) q (ix2 r n) * w (ix3 (0 : Fin 1) (2 : Fin 3) n) + b (ix3 (0 : Fin 1) (0 : Fin 1) n) := by
  unfold part
  refine congr (congrArg (HAdd.hAdd (α := EReal)) ?_) (Cert.Mix.gate_at (by decide) b _ _ r n)
  refine congr (congrArg (HAdd.hAdd (α := EReal)) (congr (congrArg (HAdd.hAdd (α := EReal)) ?_) ?_)) ?_
  · exact congrArg (fun z : EReal => turned 0#32 1#32 v4 (own u A) p (ix2 r n) * z) (tap_at w 0 _ r n)
  · exact congrArg (fun z : EReal => own u A (ix2 r n) * z) (tap_at w 1 _ r n)
  · exact congrArg (fun z : EReal => turned 511#32 511#32 v5 (own u A) q (ix2 r n) * z) (tap_at w 2 _ r n)

/-! ## A part at a point -/

/-- Row `r` of point `t`, among all of them. -/
def rowOf (t : Fin cfg0.N) (r : Fin 512) : Fin 16896 := ⟨t.val / 4 * 512 + r.val, by
  have h : t.val < 132 := t.isLt
  omega⟩
def colOf (t : Fin cfg0.N) (n : Fin 512) : Fin 2048 := ⟨t.val % 4 * 512 + n.val, by omega⟩

/-- The rows before and after the point's, kept inside the array. -/
def preOf (t : Fin cfg0.N) : Fin 16896 := ⟨(t.val / 4 * 32 - 1) * 16 + 15, by
  have h : t.val < 132 := t.isLt
  omega⟩
def sucOf (t : Fin cfg0.N) : Fin 16896 := ⟨min ((t.val / 4 + 1) * 32) 1055 * 16, by omega⟩

theorem up_eq (t : Fin cfg0.N) : up (grid0.coords t) = if 0 < t.val / 4 ∧ t.val / 4 ≠ 32 then 1#1 else 0#1 :=
  (by decide +kernel : ∀ t : Fin 132, up (grid0.coords t) = if 0 < t.val / 4 ∧ t.val / 4 ≠ 32 then 1#1 else 0#1) t
theorem dn_eq (t : Fin cfg0.N) : dn (grid0.coords t) = if t.val / 4 < 31 then 1#1 else 0#1 :=
  (by decide +kernel : ∀ t : Fin 132, dn (grid0.coords t) = if t.val / 4 < 31 then 1#1 else 0#1) t
theorem inside (t : Fin cfg0.N) : Scalar.xori (Scalar.cmpi .sge (BitVec.ofNat 32 ((grid0.coords t) 0).val) 32#32) 1#1 = if t.val / 4 < 32 then 1#1 else 0#1 :=
  (by decide +kernel : ∀ t : Fin 132, Scalar.xori (Scalar.cmpi .sge (BitVec.ofNat 32 ((grid0.coords t) 0).val) 32#32) 1#1 = if t.val / 4 < 32 then 1#1 else 0#1) t
theorem half (r : Fin 512) : IntOp.cmpi .slt (BitVec.ofNat 32 r.val) 256#32 = if r.val < 256 then 1#1 else 0#1 :=
  (by decide +kernel : ∀ r : Fin 512, IntOp.cmpi .slt (BitVec.ofNat 32 r.val) 256#32 = if r.val < 256 then 1#1 else 0#1) r

theorem mask_at (t : Fin cfg0.N) (r : Fin 512) : k0_pay3 (grid0.coords t) (ix2 r (0 : Fin 1)) = 1#1 ↔ (rowOf t r).val < 16640 := by
  have ht : t.val < 132 := t.isLt
  have hr := r.isLt
  have e : k0_pay3 (grid0.coords t) (ix2 r (0 : Fin 1))
      = Scalar.xori (Scalar.cmpi .sge (BitVec.ofNat 32 ((grid0.coords t) 0).val) 32#32) 1#1 ||| IntOp.cmpi .slt (num (ix2 r (0 : Fin 1))) 256#32 := rfl
  have hR : (rowOf t r).val = t.val / 4 * 512 + r.val := rfl
  rw [e, num_at, inside, half, hR]
  by_cases h : t.val / 4 < 32 <;> by_cases h' : r.val < 256
  · rw [if_pos h, if_pos h']; exact ⟨fun _ => by omega, fun _ => by decide⟩
  · rw [if_pos h, if_neg h']; exact ⟨fun _ => by omega, fun _ => by decide⟩
  · rw [if_neg h, if_pos h']; exact ⟨fun _ => by omega, fun _ => by decide⟩
  · rw [if_neg h, if_neg h']; exact ⟨fun hh => absurd hh (by decide), fun hh => by omega⟩

theorem own_row (t : Fin cfg0.N) (z : S16896x6144.Idx → EReal) (N : Fin 6144) (A : FVec Ideal S512x512 .bf16) (n : Fin 512)
    (hA : ∀ r : Fin 512, A (ix2 r n) = z (ix2 (rowOf t r) N)) (r : Fin 512) : own (k0_pay3 (grid0.coords t)) A (ix2 r n) = zrow z N (rowOf t r).val := by
  refine (own_at _ A r n).trans ?_
  by_cases h : (rowOf t r).val < 16640
  · rw [if_pos ((mask_at t r).mpr h), hA r]
    exact (zrow_lt z N _ (rowOf t r) rfl h).symm
  · rw [if_neg (fun hh => h ((mask_at t r).mp hh))]
    exact (zrow_ge z N _ h).symm

theorem part_row (t : Fin cfg0.N) (z : S16896x6144.Idx → EReal) (W : S3x6144.Idx → EReal) (B : S6144.Idx → EReal) (N : Fin 6144) (A : FVec Ideal S512x512 .bf16) (p q : FVec Ideal S1x512 .bf16)
    (w : FVec Ideal S1x3x512 .f32) (b : FVec Ideal S1x1x512 .f32) (n : Fin 512) (hA : ∀ r : Fin 512, A (ix2 r n) = z (ix2 (rowOf t r) N))
    (hp : p (ix2 (0 : Fin 1) n) = z (ix2 (preOf t) N)) (hq : q (ix2 (0 : Fin 1) n) = z (ix2 (sucOf t) N)) (hw : ∀ k : Fin 3, w (ix3 (0 : Fin 1) k n) = W (ix2 k N))
    (hb : b (ix3 (0 : Fin 1) (0 : Fin 1) n) = B (ix1 N)) (r : Fin 512) :
    part (k0_pay3 (grid0.coords t)) (up (grid0.coords t)) (dn (grid0.coords t)) A p q w b (ix2 r n) = conv z W B (rowOf t r).val N := by
  have ht : t.val < 132 := t.isLt
  have hr := r.isLt
  have hR : (rowOf t r).val = t.val / 4 * 512 + r.val := rfl
  refine (part_at _ _ _ A p q w b r n).trans ?_
  unfold conv
  rw [hw 0, hw 1, hw 2, hb, own_row t z N A n hA r]
  refine congrArg (fun y : EReal => y + B (ix1 N)) ?_
  refine congr (congrArg (HAdd.hAdd (α := EReal)) (congrArg (fun y : EReal => y + zrow z N (rowOf t r).val * W (ix2 (1 : Fin 3) N)) (congrArg (fun y : EReal => y * W (ix2 (0 : Fin 3) N)) ?_)))
    (congrArg (fun y : EReal => y * W (ix2 (2 : Fin 3) N)) ?_)
  · refine (turned_at 0#32 1#32 0 (up (grid0.coords t)) _ p r n (⟨(r.val + 511) % 512, by omega⟩ : Fin 512) (by show (r.val + 511) % 512 = (r.val + 512 - 1 % 512) % 512; omega) rfl (by decide)).trans ?_
    unfold above
    by_cases h : r.val = 0
    · rw [if_pos h, up_eq, hp]
      by_cases h' : 0 < t.val / 4 ∧ t.val / 4 ≠ 32
      · rw [if_pos h', if_pos rfl, if_neg (by omega)]
        have hP : (preOf t).val = (t.val / 4 * 32 - 1) * 16 + 15 := rfl
        exact (zrow_lt z N _ (preOf t) (by omega) (by omega)).symm
      · rw [if_neg h', if_neg (by decide), if_pos (by omega)]
    · rw [if_neg h, if_neg (by omega), own_row t z N A n hA]
      refine congrArg (zrow z N) ?_
      show t.val / 4 * 512 + (r.val + 511) % 512 = _
      omega
  · refine (turned_at 511#32 511#32 511 (dn (grid0.coords t)) _ q r n (⟨(r.val + 1) % 512, by omega⟩ : Fin 512) (by show (r.val + 1) % 512 = (r.val + 512 - 511 % 512) % 512; omega) rfl (by decide)).trans ?_
    unfold below
    by_cases h : r.val = 511
    · rw [if_pos h, dn_eq, hq]
      by_cases h' : t.val / 4 < 31
      · rw [if_pos h', if_pos rfl, if_neg (by omega)]
        have hP : (sucOf t).val = min ((t.val / 4 + 1) * 32) 1055 * 16 := rfl
        exact (zrow_lt z N _ (sucOf t) (by omega) (by omega)).symm
      · rw [if_neg h', if_neg (by decide)]
        by_cases h31 : t.val / 4 = 31
        · rw [if_pos (by omega)]
        · rw [if_neg (by omega)]
          exact (zrow_ge z N _ (by omega)).symm
    · rw [if_neg h, if_neg (by omega), own_row t z N A n hA]
      refine congrArg (zrow z N) ?_
      show t.val / 4 * 512 + (r.val + 1) % 512 = _
      omega

/-! ## The blocks -/

variable (m : (ℓ : Loc nD τ sig) → Buf (Elt Ideal) ℓ)

/-- The arguments as arrays. -/
def argZ (c : Dev nD) : S16896x6144.Idx → EReal := m ((c.tc : Thread nD τ).loc main_arg0)
def argW (c : Dev nD) : S3x6144.Idx → EReal := m ((c.tc : Thread nD τ).loc main_arg1)
def argB (c : Dev nD) : S6144.Idx → EReal := m ((c.tc : Thread nD τ).loc main_arg2)

theorem V_w (c : Dev nD) : V m c main_v1 = (transpose S3x3x2048 [1, 0, 2] (shapeCast S3x3x2048 (m ((c.tc : Thread nD τ).loc main_arg1) : S3x6144.Idx → Ideal .f32) shapeCasts_S3x6144_S3x3x2048)
    transposes_S3x3x2048_S3x3x2048_1_0_2 : S3x3x2048.Idx → Ideal .f32) := by
  unfold V hostOps0
  after_results <;> rfl
theorem V_b (c : Dev nD) : V m c main_v2 = (shapeCast S3x1x2048 (m ((c.tc : Thread nD τ).loc main_arg2) : S6144.Idx → Ideal .f32) shapeCasts_S6144_S3x1x2048 : S3x1x2048.Idx → Ideal .f32) := by
  unfold V hostOps0
  after_results <;> rfl

/-- Column `n` of part `a`, and of the point's in part `a`. -/
def col (a : Fin 3) (n : Fin 2048) : Fin 6144 := ⟨a.val * 2048 + n.val, by omega⟩

theorem V_w_at (c : Dev nD) (a k : Fin 3) (n : Fin 2048) : V m c main_v1 (ix3 a k n) = argW m c (ix2 k (col a n)) := by
  refine (congrFun (V_w m c) _).trans ((transpose_apply [1, 0, 2] _ _ (ix3 a k n) (ix3 k a n) fun (b : Fin 3) => ?_).trans ?_)
  · match b with
    | ⟨0, _⟩ => rfl
    | ⟨1, _⟩ => rfl
    | ⟨2, _⟩ => rfl
  · refine shapeCast_apply _ _ (ix3 k a n) (ix2 k (col a n)) ?_
    rw [Shape.rowMajor_val_two, Shape.rowMajor_val_three]
    show k.val * 6144 + (a.val * 2048 + n.val) = (k.val * 3 + a.val) * 2048 + n.val
    omega
theorem V_b_at (c : Dev nD) (a : Fin 3) (n : Fin 2048) : V m c main_v2 (ix3 a (0 : Fin 1) n) = argB m c (ix1 (col a n)) := by
  refine (congrFun (V_b m c) _).trans (shapeCast_apply _ _ (ix3 a (0 : Fin 1) n) (ix1 (col a n)) ?_)
  rw [Shape.rowMajor_val_one, Shape.rowMajor_val_three]
  show a.val * 2048 + n.val = (a.val * 1 + 0) * 2048 + n.val
  omega

/-- The results' elements. -/
def elemG (c : Dev nD) (R : Fin 16896) (n : Fin 2048) : EReal := conv (argZ m c) (argW m c) (argB m c) R.val (col 0 n)
def elemS (c : Dev nD) (R : Fin 16896) (n : Fin 2048) : EReal := conv (argZ m c) (argW m c) (argB m c) R.val (col 1 n) * conv (argZ m c) (argW m c) (argB m c) R.val (col 2 n)

/-- The results. -/
def finG (c : Dev nD) : S16896x2048.Idx → EReal := fun i => elemG m c (i 0) (i 1)
def finS (c : Dev nD) : S16896x2048.Idx → EReal := fun i => elemS m c (i 0) (i 1)

theorem idx0 (t : Fin cfg0.N) : win0_0.index t (0 : Fin 2) = t.val / 4 ∧ win0_0.index t (1 : Fin 2) = t.val % 4 :=
  (by decide +kernel : ∀ t : Fin 132, win0_0.index t (0 : Fin 2) = t.val / 4 ∧ win0_0.index t (1 : Fin 2) = t.val % 4) t
theorem idx1 (t : Fin cfg0.N) : win0_1.index t (0 : Fin 2) = t.val / 4 * 32 - 1 ∧ win0_1.index t (1 : Fin 2) = t.val % 4 :=
  (by decide +kernel : ∀ t : Fin 132, win0_1.index t (0 : Fin 2) = t.val / 4 * 32 - 1 ∧ win0_1.index t (1 : Fin 2) = t.val % 4) t
theorem idx2 (t : Fin cfg0.N) : win0_2.index t (0 : Fin 2) = min ((t.val / 4 + 1) * 32) 1055 ∧ win0_2.index t (1 : Fin 2) = t.val % 4 :=
  (by decide +kernel : ∀ t : Fin 132, win0_2.index t (0 : Fin 2) = min ((t.val / 4 + 1) * 32) 1055 ∧ win0_2.index t (1 : Fin 2) = t.val % 4) t
theorem idx3 (t : Fin cfg0.N) : win0_3.index t (0 : Fin 2) = t.val / 4 ∧ win0_3.index t (1 : Fin 2) = 4 + t.val % 4 :=
  (by decide +kernel : ∀ t : Fin 132, win0_3.index t (0 : Fin 2) = t.val / 4 ∧ win0_3.index t (1 : Fin 2) = 4 + t.val % 4) t
theorem idx4 (t : Fin cfg0.N) : win0_4.index t (0 : Fin 2) = t.val / 4 * 32 - 1 ∧ win0_4.index t (1 : Fin 2) = 4 + t.val % 4 :=
  (by decide +kernel : ∀ t : Fin 132, win0_4.index t (0 : Fin 2) = t.val / 4 * 32 - 1 ∧ win0_4.index t (1 : Fin 2) = 4 + t.val % 4) t
theorem idx5 (t : Fin cfg0.N) : win0_5.index t (0 : Fin 2) = min ((t.val / 4 + 1) * 32) 1055 ∧ win0_5.index t (1 : Fin 2) = 4 + t.val % 4 :=
  (by decide +kernel : ∀ t : Fin 132, win0_5.index t (0 : Fin 2) = min ((t.val / 4 + 1) * 32) 1055 ∧ win0_5.index t (1 : Fin 2) = 4 + t.val % 4) t
theorem idx6 (t : Fin cfg0.N) : win0_6.index t (0 : Fin 2) = t.val / 4 ∧ win0_6.index t (1 : Fin 2) = 8 + t.val % 4 :=
  (by decide +kernel : ∀ t : Fin 132, win0_6.index t (0 : Fin 2) = t.val / 4 ∧ win0_6.index t (1 : Fin 2) = 8 + t.val % 4) t
theorem idx7 (t : Fin cfg0.N) : win0_7.index t (0 : Fin 2) = t.val / 4 * 32 - 1 ∧ win0_7.index t (1 : Fin 2) = 8 + t.val % 4 :=
  (by decide +kernel : ∀ t : Fin 132, win0_7.index t (0 : Fin 2) = t.val / 4 * 32 - 1 ∧ win0_7.index t (1 : Fin 2) = 8 + t.val % 4) t
theorem idx8 (t : Fin cfg0.N) : win0_8.index t (0 : Fin 2) = min ((t.val / 4 + 1) * 32) 1055 ∧ win0_8.index t (1 : Fin 2) = 8 + t.val % 4 :=
  (by decide +kernel : ∀ t : Fin 132, win0_8.index t (0 : Fin 2) = min ((t.val / 4 + 1) * 32) 1055 ∧ win0_8.index t (1 : Fin 2) = 8 + t.val % 4) t
theorem idx9 (t : Fin cfg0.N) : win0_9.index t (0 : Fin 3) = 0 ∧ win0_9.index t (1 : Fin 3) = 0 ∧ win0_9.index t (2 : Fin 3) = t.val % 4 :=
  (by decide +kernel : ∀ t : Fin 132, win0_9.index t (0 : Fin 3) = 0 ∧ win0_9.index t (1 : Fin 3) = 0 ∧ win0_9.index t (2 : Fin 3) = t.val % 4) t
theorem idx10 (t : Fin cfg0.N) : win0_10.index t (0 : Fin 3) = 0 ∧ win0_10.index t (1 : Fin 3) = 0 ∧ win0_10.index t (2 : Fin 3) = t.val % 4 :=
  (by decide +kernel : ∀ t : Fin 132, win0_10.index t (0 : Fin 3) = 0 ∧ win0_10.index t (1 : Fin 3) = 0 ∧ win0_10.index t (2 : Fin 3) = t.val % 4) t
theorem idx11 (t : Fin cfg0.N) : win0_11.index t (0 : Fin 2) = t.val / 4 ∧ win0_11.index t (1 : Fin 2) = t.val % 4 :=
  (by decide +kernel : ∀ t : Fin 132, win0_11.index t (0 : Fin 2) = t.val / 4 ∧ win0_11.index t (1 : Fin 2) = t.val % 4) t
theorem idx12 (t : Fin cfg0.N) : win0_12.index t (0 : Fin 2) = t.val / 4 ∧ win0_12.index t (1 : Fin 2) = t.val % 4 :=
  (by decide +kernel : ∀ t : Fin 132, win0_12.index t (0 : Fin 2) = t.val / 4 ∧ win0_12.index t (1 : Fin 2) = t.val % 4) t

theorem emb0 (t : Fin cfg0.N) (r n : Fin 512) : ((cfg0.win 0).blk t).view.emb (ix2 r n) = (ix2 (rowOf t r) (col 0 (colOf t n)) : S16896x6144.Idx) := by
  refine funext fun (a : Fin 2) => Fin.ext ?_
  match a with
  | ⟨0, _⟩ =>
    show win0_0.index t (0 : Fin 2) * 512 + 1 * r.val = t.val / 4 * 512 + r.val
    rw [(idx0 t).1]; omega
  | ⟨1, _⟩ =>
    show win0_0.index t (1 : Fin 2) * 512 + 1 * n.val = 0 * 2048 + (t.val % 4 * 512 + n.val)
    rw [(idx0 t).2]; omega
theorem emb1 (t : Fin cfg0.N) (n : Fin 512) : ((cfg0.win 1).blk t).view.emb (ix2 (15 : Fin 16) n) = (ix2 (preOf t) (col 0 (colOf t n)) : S16896x6144.Idx) := by
  refine funext fun (a : Fin 2) => Fin.ext ?_
  match a with
  | ⟨0, _⟩ =>
    show win0_1.index t (0 : Fin 2) * 16 + 1 * 15 = (t.val / 4 * 32 - 1) * 16 + 15
    rw [(idx1 t).1]
  | ⟨1, _⟩ =>
    show win0_1.index t (1 : Fin 2) * 512 + 1 * n.val = 0 * 2048 + (t.val % 4 * 512 + n.val)
    rw [(idx1 t).2]; omega
theorem emb2 (t : Fin cfg0.N) (n : Fin 512) : ((cfg0.win 2).blk t).view.emb (ix2 (0 : Fin 16) n) = (ix2 (sucOf t) (col 0 (colOf t n)) : S16896x6144.Idx) := by
  refine funext fun (a : Fin 2) => Fin.ext ?_
  match a with
  | ⟨0, _⟩ =>
    show win0_2.index t (0 : Fin 2) * 16 + 1 * 0 = min ((t.val / 4 + 1) * 32) 1055 * 16
    rw [(idx2 t).1]; omega
  | ⟨1, _⟩ =>
    show win0_2.index t (1 : Fin 2) * 512 + 1 * n.val = 0 * 2048 + (t.val % 4 * 512 + n.val)
    rw [(idx2 t).2]; omega
theorem emb3 (t : Fin cfg0.N) (r n : Fin 512) : ((cfg0.win 3).blk t).view.emb (ix2 r n) = (ix2 (rowOf t r) (col 1 (colOf t n)) : S16896x6144.Idx) := by
  refine funext fun (a : Fin 2) => Fin.ext ?_
  match a with
  | ⟨0, _⟩ =>
    show win0_3.index t (0 : Fin 2) * 512 + 1 * r.val = t.val / 4 * 512 + r.val
    rw [(idx3 t).1]; omega
  | ⟨1, _⟩ =>
    show win0_3.index t (1 : Fin 2) * 512 + 1 * n.val = 1 * 2048 + (t.val % 4 * 512 + n.val)
    rw [(idx3 t).2]; omega
theorem emb4 (t : Fin cfg0.N) (n : Fin 512) : ((cfg0.win 4).blk t).view.emb (ix2 (15 : Fin 16) n) = (ix2 (preOf t) (col 1 (colOf t n)) : S16896x6144.Idx) := by
  refine funext fun (a : Fin 2) => Fin.ext ?_
  match a with
  | ⟨0, _⟩ =>
    show win0_4.index t (0 : Fin 2) * 16 + 1 * 15 = (t.val / 4 * 32 - 1) * 16 + 15
    rw [(idx4 t).1]
  | ⟨1, _⟩ =>
    show win0_4.index t (1 : Fin 2) * 512 + 1 * n.val = 1 * 2048 + (t.val % 4 * 512 + n.val)
    rw [(idx4 t).2]; omega
theorem emb5 (t : Fin cfg0.N) (n : Fin 512) : ((cfg0.win 5).blk t).view.emb (ix2 (0 : Fin 16) n) = (ix2 (sucOf t) (col 1 (colOf t n)) : S16896x6144.Idx) := by
  refine funext fun (a : Fin 2) => Fin.ext ?_
  match a with
  | ⟨0, _⟩ =>
    show win0_5.index t (0 : Fin 2) * 16 + 1 * 0 = min ((t.val / 4 + 1) * 32) 1055 * 16
    rw [(idx5 t).1]; omega
  | ⟨1, _⟩ =>
    show win0_5.index t (1 : Fin 2) * 512 + 1 * n.val = 1 * 2048 + (t.val % 4 * 512 + n.val)
    rw [(idx5 t).2]; omega
theorem emb6 (t : Fin cfg0.N) (r n : Fin 512) : ((cfg0.win 6).blk t).view.emb (ix2 r n) = (ix2 (rowOf t r) (col 2 (colOf t n)) : S16896x6144.Idx) := by
  refine funext fun (a : Fin 2) => Fin.ext ?_
  match a with
  | ⟨0, _⟩ =>
    show win0_6.index t (0 : Fin 2) * 512 + 1 * r.val = t.val / 4 * 512 + r.val
    rw [(idx6 t).1]; omega
  | ⟨1, _⟩ =>
    show win0_6.index t (1 : Fin 2) * 512 + 1 * n.val = 2 * 2048 + (t.val % 4 * 512 + n.val)
    rw [(idx6 t).2]; omega
theorem emb7 (t : Fin cfg0.N) (n : Fin 512) : ((cfg0.win 7).blk t).view.emb (ix2 (15 : Fin 16) n) = (ix2 (preOf t) (col 2 (colOf t n)) : S16896x6144.Idx) := by
  refine funext fun (a : Fin 2) => Fin.ext ?_
  match a with
  | ⟨0, _⟩ =>
    show win0_7.index t (0 : Fin 2) * 16 + 1 * 15 = (t.val / 4 * 32 - 1) * 16 + 15
    rw [(idx7 t).1]
  | ⟨1, _⟩ =>
    show win0_7.index t (1 : Fin 2) * 512 + 1 * n.val = 2 * 2048 + (t.val % 4 * 512 + n.val)
    rw [(idx7 t).2]; omega
theorem emb8 (t : Fin cfg0.N) (n : Fin 512) : ((cfg0.win 8).blk t).view.emb (ix2 (0 : Fin 16) n) = (ix2 (sucOf t) (col 2 (colOf t n)) : S16896x6144.Idx) := by
  refine funext fun (a : Fin 2) => Fin.ext ?_
  match a with
  | ⟨0, _⟩ =>
    show win0_8.index t (0 : Fin 2) * 16 + 1 * 0 = min ((t.val / 4 + 1) * 32) 1055 * 16
    rw [(idx8 t).1]; omega
  | ⟨1, _⟩ =>
    show win0_8.index t (1 : Fin 2) * 512 + 1 * n.val = 2 * 2048 + (t.val % 4 * 512 + n.val)
    rw [(idx8 t).2]; omega
theorem emb9 (t : Fin cfg0.N) (a : Fin 3) (k : Fin 3) (n : Fin 512) : ((cfg0.win 9).blk t).view.emb (ix3 a k n) = (ix3 a k (colOf t n) : S3x3x2048.Idx) := by
  refine funext fun (b : Fin 3) => Fin.ext ?_
  match b with
  | ⟨0, _⟩ =>
    show win0_9.index t (0 : Fin 3) * 3 + 1 * a.val = a.val
    rw [(idx9 t).1]; omega
  | ⟨1, _⟩ =>
    show win0_9.index t (1 : Fin 3) * 3 + 1 * k.val = k.val
    rw [(idx9 t).2.1]; omega
  | ⟨2, _⟩ =>
    show win0_9.index t (2 : Fin 3) * 512 + 1 * n.val = t.val % 4 * 512 + n.val
    rw [(idx9 t).2.2]; omega
theorem emb10 (t : Fin cfg0.N) (a : Fin 3)  (n : Fin 512) : ((cfg0.win 10).blk t).view.emb (ix3 a (0 : Fin 1) n) = (ix3 a (0 : Fin 1) (colOf t n) : S3x1x2048.Idx) := by
  refine funext fun (b : Fin 3) => Fin.ext ?_
  match b with
  | ⟨0, _⟩ =>
    show win0_10.index t (0 : Fin 3) * 3 + 1 * a.val = a.val
    rw [(idx10 t).1]; omega
  | ⟨1, _⟩ =>
    show win0_10.index t (1 : Fin 3) * 1 + 1 * 0 = 0
    rw [(idx10 t).2.1]
  | ⟨2, _⟩ =>
    show win0_10.index t (2 : Fin 3) * 512 + 1 * n.val = t.val % 4 * 512 + n.val
    rw [(idx10 t).2.2]; omega
theorem emb11 (t : Fin cfg0.N) (r n : Fin 512) : ((cfg0.win 11).blk t).view.emb (ix2 r n) = (ix2 (rowOf t r) (colOf t n) : S16896x2048.Idx) := by
  refine funext fun (a : Fin 2) => Fin.ext ?_
  match a with
  | ⟨0, _⟩ =>
    show win0_11.index t (0 : Fin 2) * 512 + 1 * r.val = t.val / 4 * 512 + r.val
    rw [(idx11 t).1]; omega
  | ⟨1, _⟩ =>
    show win0_11.index t (1 : Fin 2) * 512 + 1 * n.val = t.val % 4 * 512 + n.val
    rw [(idx11 t).2]; omega
theorem emb12 (t : Fin cfg0.N) (r n : Fin 512) : ((cfg0.win 12).blk t).view.emb (ix2 r n) = (ix2 (rowOf t r) (colOf t n) : S16896x2048.Idx) := by
  refine funext fun (a : Fin 2) => Fin.ext ?_
  match a with
  | ⟨0, _⟩ =>
    show win0_12.index t (0 : Fin 2) * 512 + 1 * r.val = t.val / 4 * 512 + r.val
    rw [(idx12 t).1]; omega
  | ⟨1, _⟩ =>
    show win0_12.index t (1 : Fin 2) * 512 + 1 * n.val = t.val % 4 * 512 + n.val
    rw [(idx12 t).2]; omega

theorem iblk0_at (c : Dev nD) (t : Fin cfg0.N) (r n : Fin 512) : iblk m c 0 t (ix2 r n) = argZ m c (ix2 (rowOf t r) (col 0 (colOf t n))) :=
  (show iblk m c 0 t (ix2 r n) = V m c main_arg0 (((cfg0.win 0).blk t).view.emb (ix2 r n)) from rfl).trans
    ((congrFun (V_main_arg0 m c) _).trans (congrArg (argZ m c) (emb0 t r n)))
theorem iblk1_at (c : Dev nD) (t : Fin cfg0.N) (n : Fin 512) : iblk m c 1 t (ix2 (15 : Fin 16) n) = argZ m c (ix2 (preOf t) (col 0 (colOf t n))) :=
  (show iblk m c 1 t (ix2 (15 : Fin 16) n) = V m c main_arg0 (((cfg0.win 1).blk t).view.emb (ix2 (15 : Fin 16) n)) from rfl).trans
    ((congrFun (V_main_arg0 m c) _).trans (congrArg (argZ m c) (emb1 t n)))
theorem iblk2_at (c : Dev nD) (t : Fin cfg0.N) (n : Fin 512) : iblk m c 2 t (ix2 (0 : Fin 16) n) = argZ m c (ix2 (sucOf t) (col 0 (colOf t n))) :=
  (show iblk m c 2 t (ix2 (0 : Fin 16) n) = V m c main_arg0 (((cfg0.win 2).blk t).view.emb (ix2 (0 : Fin 16) n)) from rfl).trans
    ((congrFun (V_main_arg0 m c) _).trans (congrArg (argZ m c) (emb2 t n)))
theorem iblk3_at (c : Dev nD) (t : Fin cfg0.N) (r n : Fin 512) : iblk m c 3 t (ix2 r n) = argZ m c (ix2 (rowOf t r) (col 1 (colOf t n))) :=
  (show iblk m c 3 t (ix2 r n) = V m c main_arg0 (((cfg0.win 3).blk t).view.emb (ix2 r n)) from rfl).trans
    ((congrFun (V_main_arg0 m c) _).trans (congrArg (argZ m c) (emb3 t r n)))
theorem iblk4_at (c : Dev nD) (t : Fin cfg0.N) (n : Fin 512) : iblk m c 4 t (ix2 (15 : Fin 16) n) = argZ m c (ix2 (preOf t) (col 1 (colOf t n))) :=
  (show iblk m c 4 t (ix2 (15 : Fin 16) n) = V m c main_arg0 (((cfg0.win 4).blk t).view.emb (ix2 (15 : Fin 16) n)) from rfl).trans
    ((congrFun (V_main_arg0 m c) _).trans (congrArg (argZ m c) (emb4 t n)))
theorem iblk5_at (c : Dev nD) (t : Fin cfg0.N) (n : Fin 512) : iblk m c 5 t (ix2 (0 : Fin 16) n) = argZ m c (ix2 (sucOf t) (col 1 (colOf t n))) :=
  (show iblk m c 5 t (ix2 (0 : Fin 16) n) = V m c main_arg0 (((cfg0.win 5).blk t).view.emb (ix2 (0 : Fin 16) n)) from rfl).trans
    ((congrFun (V_main_arg0 m c) _).trans (congrArg (argZ m c) (emb5 t n)))
theorem iblk6_at (c : Dev nD) (t : Fin cfg0.N) (r n : Fin 512) : iblk m c 6 t (ix2 r n) = argZ m c (ix2 (rowOf t r) (col 2 (colOf t n))) :=
  (show iblk m c 6 t (ix2 r n) = V m c main_arg0 (((cfg0.win 6).blk t).view.emb (ix2 r n)) from rfl).trans
    ((congrFun (V_main_arg0 m c) _).trans (congrArg (argZ m c) (emb6 t r n)))
theorem iblk7_at (c : Dev nD) (t : Fin cfg0.N) (n : Fin 512) : iblk m c 7 t (ix2 (15 : Fin 16) n) = argZ m c (ix2 (preOf t) (col 2 (colOf t n))) :=
  (show iblk m c 7 t (ix2 (15 : Fin 16) n) = V m c main_arg0 (((cfg0.win 7).blk t).view.emb (ix2 (15 : Fin 16) n)) from rfl).trans
    ((congrFun (V_main_arg0 m c) _).trans (congrArg (argZ m c) (emb7 t n)))
theorem iblk8_at (c : Dev nD) (t : Fin cfg0.N) (n : Fin 512) : iblk m c 8 t (ix2 (0 : Fin 16) n) = argZ m c (ix2 (sucOf t) (col 2 (colOf t n))) :=
  (show iblk m c 8 t (ix2 (0 : Fin 16) n) = V m c main_arg0 (((cfg0.win 8).blk t).view.emb (ix2 (0 : Fin 16) n)) from rfl).trans
    ((congrFun (V_main_arg0 m c) _).trans (congrArg (argZ m c) (emb8 t n)))
theorem iblk9_at (c : Dev nD) (t : Fin cfg0.N) (a k : Fin 3) (n : Fin 512) : iblk m c 9 t (ix3 a k n) = argW m c (ix2 k (col a (colOf t n))) :=
  (show iblk m c 9 t (ix3 a k n) = V m c main_v1 (((cfg0.win 9).blk t).view.emb (ix3 a k n)) from rfl).trans
    ((congrArg (V m c main_v1) (emb9 t a k n)).trans (V_w_at m c a k (colOf t n)))
theorem iblk10_at (c : Dev nD) (t : Fin cfg0.N) (a : Fin 3) (n : Fin 512) : iblk m c 10 t (ix3 a (0 : Fin 1) n) = argB m c (ix1 (col a (colOf t n))) :=
  (show iblk m c 10 t (ix3 a (0 : Fin 1) n) = V m c main_v2 (((cfg0.win 10).blk t).view.emb (ix3 a (0 : Fin 1) n)) from rfl).trans
    ((congrArg (V m c main_v2) (emb10 t a n)).trans (V_b_at m c a (colOf t n)))

theorem hz2 : (![0, 0] : Fin 2 → ℕ) = fun _ => 0 := by decide

theorem ld_pre (x : Vec Ideal S16x512 .bf16) (n : Fin 512) : View.ld x r0_1 (ix2 (0 : Fin 1) n) = x (ix2 (15 : Fin 16) n) :=
  View.ld_unit_apply_of x _ _ _ _ _ fun (a : Fin 2) => by
    match a with
    | ⟨0, _⟩ => rfl
    | ⟨1, _⟩ => show n.val = 0 + n.val; omega
theorem ld_suc (x : Vec Ideal S16x512 .bf16) (n : Fin 512) : View.ld x r0_2 (ix2 (0 : Fin 1) n) = x (ix2 (0 : Fin 16) n) :=
  View.ld_unit_apply_of x _ _ _ _ _ fun (a : Fin 2) => by
    match a with
    | ⟨0, _⟩ => rfl
    | ⟨1, _⟩ => show n.val = 0 + n.val; omega
theorem ld_w0 (x : Vec Ideal S3x3x512 .f32) (k : Fin 3) (n : Fin 512) : View.ld x r0_3 (ix3 (0 : Fin 1) k n) = x (ix3 (0 : Fin 3) k n) :=
  View.ld_unit_apply_of x _ _ _ _ _ fun (b : Fin 3) => by
    match b with
    | ⟨0, _⟩ => rfl
    | ⟨1, _⟩ => show k.val = 0 + k.val; omega
    | ⟨2, _⟩ => show n.val = 0 + n.val; omega
theorem ld_b0 (x : Vec Ideal S3x1x512 .f32)  (n : Fin 512) : View.ld x r0_4 (ix3 (0 : Fin 1) (0 : Fin 1) n) = x (ix3 (0 : Fin 3) (0 : Fin 1) n) :=
  View.ld_unit_apply_of x _ _ _ _ _ fun (b : Fin 3) => by
    match b with
    | ⟨0, _⟩ => rfl
    | ⟨1, _⟩ => rfl
    | ⟨2, _⟩ => show n.val = 0 + n.val; omega
theorem ld_w1 (x : Vec Ideal S3x3x512 .f32) (k : Fin 3) (n : Fin 512) : View.ld x r0_5 (ix3 (0 : Fin 1) k n) = x (ix3 (1 : Fin 3) k n) :=
  View.ld_unit_apply_of x _ _ _ _ _ fun (b : Fin 3) => by
    match b with
    | ⟨0, _⟩ => rfl
    | ⟨1, _⟩ => show k.val = 0 + k.val; omega
    | ⟨2, _⟩ => show n.val = 0 + n.val; omega
theorem ld_b1 (x : Vec Ideal S3x1x512 .f32)  (n : Fin 512) : View.ld x r0_6 (ix3 (0 : Fin 1) (0 : Fin 1) n) = x (ix3 (1 : Fin 3) (0 : Fin 1) n) :=
  View.ld_unit_apply_of x _ _ _ _ _ fun (b : Fin 3) => by
    match b with
    | ⟨0, _⟩ => rfl
    | ⟨1, _⟩ => rfl
    | ⟨2, _⟩ => show n.val = 0 + n.val; omega
theorem ld_w2 (x : Vec Ideal S3x3x512 .f32) (k : Fin 3) (n : Fin 512) : View.ld x r0_7 (ix3 (0 : Fin 1) k n) = x (ix3 (2 : Fin 3) k n) :=
  View.ld_unit_apply_of x _ _ _ _ _ fun (b : Fin 3) => by
    match b with
    | ⟨0, _⟩ => rfl
    | ⟨1, _⟩ => show k.val = 0 + k.val; omega
    | ⟨2, _⟩ => show n.val = 0 + n.val; omega
theorem ld_b2 (x : Vec Ideal S3x1x512 .f32)  (n : Fin 512) : View.ld x r0_8 (ix3 (0 : Fin 1) (0 : Fin 1) n) = x (ix3 (2 : Fin 3) (0 : Fin 1) n) :=
  View.ld_unit_apply_of x _ _ _ _ _ fun (b : Fin 3) => by
    match b with
    | ⟨0, _⟩ => rfl
    | ⟨1, _⟩ => rfl
    | ⟨2, _⟩ => show n.val = 0 + n.val; omega

theorem part0_at (c : Dev nD) (t : Fin cfg0.N) (r n : Fin 512) :
    part (k0_pay3 (grid0.coords t)) (up (grid0.coords t)) (dn (grid0.coords t)) (iblk m c 0 t) (View.ld (iblk m c 1 t) r0_1) (View.ld (iblk m c 2 t) r0_2) (View.ld (iblk m c 9 t) r0_3)
      (View.ld (iblk m c 10 t) r0_4) (ix2 r n) = conv (argZ m c) (argW m c) (argB m c) (rowOf t r).val (col 0 (colOf t n)) :=
  part_row t (argZ m c) (argW m c) (argB m c) (col 0 (colOf t n)) _ _ _ _ _ n (fun r => iblk0_at m c t r n) ((ld_pre _ n).trans (iblk1_at m c t n)) ((ld_suc _ n).trans (iblk2_at m c t n))
    (fun k => (ld_w0 _ k n).trans (iblk9_at m c t 0 k n)) ((ld_b0 _ n).trans (iblk10_at m c t 0 n)) r
theorem part1_at (c : Dev nD) (t : Fin cfg0.N) (r n : Fin 512) :
    part (k0_pay3 (grid0.coords t)) (up (grid0.coords t)) (dn (grid0.coords t)) (iblk m c 3 t) (View.ld (iblk m c 4 t) r0_1) (View.ld (iblk m c 5 t) r0_2) (View.ld (iblk m c 9 t) r0_5)
      (View.ld (iblk m c 10 t) r0_6) (ix2 r n) = conv (argZ m c) (argW m c) (argB m c) (rowOf t r).val (col 1 (colOf t n)) :=
  part_row t (argZ m c) (argW m c) (argB m c) (col 1 (colOf t n)) _ _ _ _ _ n (fun r => iblk3_at m c t r n) ((ld_pre _ n).trans (iblk4_at m c t n)) ((ld_suc _ n).trans (iblk5_at m c t n))
    (fun k => (ld_w1 _ k n).trans (iblk9_at m c t 1 k n)) ((ld_b1 _ n).trans (iblk10_at m c t 1 n)) r
theorem part2_at (c : Dev nD) (t : Fin cfg0.N) (r n : Fin 512) :
    part (k0_pay3 (grid0.coords t)) (up (grid0.coords t)) (dn (grid0.coords t)) (iblk m c 6 t) (View.ld (iblk m c 7 t) r0_1) (View.ld (iblk m c 8 t) r0_2) (View.ld (iblk m c 9 t) r0_7)
      (View.ld (iblk m c 10 t) r0_8) (ix2 r n) = conv (argZ m c) (argW m c) (argB m c) (rowOf t r).val (col 2 (colOf t n)) :=
  part_row t (argZ m c) (argW m c) (argB m c) (col 2 (colOf t n)) _ _ _ _ _ n (fun r => iblk6_at m c t r n) ((ld_pre _ n).trans (iblk7_at m c t n)) ((ld_suc _ n).trans (iblk8_at m c t n))
    (fun k => (ld_w2 _ k n).trans (iblk9_at m c t 2 k n)) ((ld_b2 _ n).trans (iblk10_at m c t 2 n)) r

theorem outG_eq (c : Dev nD) (t : Fin cfg0.N) : out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) =
    part (k0_pay3 (grid0.coords t)) (up (grid0.coords t)) (dn (grid0.coords t)) (iblk m c 0 t) (View.ld (iblk m c 1 t) r0_1) (View.ld (iblk m c 2 t) r0_2) (View.ld (iblk m c 9 t) r0_3) (View.ld (iblk m c 10 t) r0_4) := by
  unfold out0_11
  rw [View.canon_unit_zero (S := S512x512) hz2, View.ld_unit_zero (S := S512x512) hz2]
  exact pay_a (grid0.coords t) _ _ _ _ _

theorem outS_eq (c : Dev nD) (t : Fin cfg0.N) : out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) =
    mulf (F := Ideal) (part (k0_pay3 (grid0.coords t)) (up (grid0.coords t)) (dn (grid0.coords t)) (iblk m c 3 t) (View.ld (iblk m c 4 t) r0_1) (View.ld (iblk m c 5 t) r0_2) (View.ld (iblk m c 9 t) r0_5) (View.ld (iblk m c 10 t) r0_6))
      (part (k0_pay3 (grid0.coords t)) (up (grid0.coords t)) (dn (grid0.coords t)) (iblk m c 6 t) (View.ld (iblk m c 7 t) r0_1) (View.ld (iblk m c 8 t) r0_2) (View.ld (iblk m c 9 t) r0_7) (View.ld (iblk m c 10 t) r0_8)) := by
  unfold out0_12
  rw [View.canon_unit_zero (S := S512x512) hz2, View.ld_unit_zero (S := S512x512) hz2, View.ld_unit_zero (S := S512x512) hz2]
  refine (pay_c (grid0.coords t) _ _ _ _ _ _).trans ?_
  exact congrArg (fun X => mulf (F := Ideal) X _) (pay_b (grid0.coords t) _ _ _ _ _)

theorem oblkG_at (c : Dev nD) (t : Fin cfg0.N) (r n : Fin 512) : (dats m 0 c).after 11 t (ix2 r n) = elemG m c (rowOf t r) (colOf t n) :=
  (congrFun ((after0_11 m c t).trans (outG_eq m c t)) _).trans (part0_at m c t r n)

theorem oblkS_at (c : Dev nD) (t : Fin cfg0.N) (r n : Fin 512) : (dats m 0 c).after 12 t (ix2 r n) = elemS m c (rowOf t r) (colOf t n) :=
  (congrFun ((after0_12 m c t).trans (outS_eq m c t)) _).trans
    (congr (congrArg (HMul.hMul (α := EReal)) (part1_at m c t r n)) (part2_at m c t r n))

/-- The array the launch leaves is the result. -/
theorem finalG (c : Dev nD) : (dats m 0 c).arrAt 11 cfg0.N = finG m c := by
  refine Dat.arrAt_eq_of_emb (dats m 0 c) 11 (finG m c) (fun t _ y => ?_) (fun i => ?_)
  · obtain ⟨r, n, rfl⟩ : ∃ (r : Fin 512) (n : Fin 512), y = ix2 r n := ⟨y 0, y 1, eq_ix2 _⟩
    exact Eq.trans (oblkG_at m c t r n) (congrArg (finG m c) (emb11 t r n)).symm
  · obtain ⟨R, n, rfl⟩ : ∃ (R : Fin 16896) (n : Fin 2048), i = ix2 R n := ⟨i 0, i 1, eq_ix2 _⟩
    have hR := R.isLt
    have hn := n.isLt
    have ht : R.val / 512 * 4 + n.val / 512 < 132 := by omega
    refine ⟨⟨R.val / 512 * 4 + n.val / 512, ht⟩, flush0_11 _, ?_⟩
    have e := emb11 ⟨R.val / 512 * 4 + n.val / 512, ht⟩ (⟨R.val % 512, by omega⟩ : Fin 512) (⟨n.val % 512, by omega⟩ : Fin 512)
    have e1 : rowOf ⟨R.val / 512 * 4 + n.val / 512, ht⟩ (⟨R.val % 512, by omega⟩ : Fin 512) = R := Fin.ext (by
      show (R.val / 512 * 4 + n.val / 512) / 4 * 512 + R.val % 512 = R.val
      omega)
    have e2 : colOf ⟨R.val / 512 * 4 + n.val / 512, ht⟩ (⟨n.val % 512, by omega⟩ : Fin 512) = n := Fin.ext (by
      show (R.val / 512 * 4 + n.val / 512) % 4 * 512 + n.val % 512 = n.val
      omega)
    rw [e1, e2] at e
    rw [← e]
    exact View.emb_mem_set _ _

/-- The array the launch leaves is the result. -/
theorem finalS (c : Dev nD) : (dats m 0 c).arrAt 12 cfg0.N = finS m c := by
  refine Dat.arrAt_eq_of_emb (dats m 0 c) 12 (finS m c) (fun t _ y => ?_) (fun i => ?_)
  · obtain ⟨r, n, rfl⟩ : ∃ (r : Fin 512) (n : Fin 512), y = ix2 r n := ⟨y 0, y 1, eq_ix2 _⟩
    exact Eq.trans (oblkS_at m c t r n) (congrArg (finS m c) (emb12 t r n)).symm
  · obtain ⟨R, n, rfl⟩ : ∃ (R : Fin 16896) (n : Fin 2048), i = ix2 R n := ⟨i 0, i 1, eq_ix2 _⟩
    have hR := R.isLt
    have hn := n.isLt
    have ht : R.val / 512 * 4 + n.val / 512 < 132 := by omega
    refine ⟨⟨R.val / 512 * 4 + n.val / 512, ht⟩, flush0_12 _, ?_⟩
    have e := emb12 ⟨R.val / 512 * 4 + n.val / 512, ht⟩ (⟨R.val % 512, by omega⟩ : Fin 512) (⟨n.val % 512, by omega⟩ : Fin 512)
    have e1 : rowOf ⟨R.val / 512 * 4 + n.val / 512, ht⟩ (⟨R.val % 512, by omega⟩ : Fin 512) = R := Fin.ext (by
      show (R.val / 512 * 4 + n.val / 512) / 4 * 512 + R.val % 512 = R.val
      omega)
    have e2 : colOf ⟨R.val / 512 * 4 + n.val / 512, ht⟩ (⟨n.val % 512, by omega⟩ : Fin 512) = n := Fin.ext (by
      show (R.val / 512 * 4 + n.val / 512) % 4 * 512 + n.val % 512 = n.val
      omega)
    rw [e1, e2] at e
    rw [← e]
    exact View.emb_mem_set _ _

end Cert.Kernel11Ideal.Hand

end
-- ==== Proof.ConvRef.lean ====
module

public import proofs.«01_k».proof.Proof.Conv
public import proofs.«01_k».proof.Proof.Gen.Reference11Ideal.Run

/-! # The reference's short convolution, element by element -/

@[expose] public section

set_option maxRecDepth 16384

noncomputable section

namespace Cert.Reference11Ideal.Hand

open Cert.Reference11Ideal Cert.Reference11Ideal.Gen Cert.Mix
open Idealize.ShloMosaic hiding ix0 ix1 ix2 ix3 ix4 eq_ix2
open Idealize.ShloMosaic.ValueIdx (ix1 ix2 ix3)

/-! Each stream between its zeros, and convolved. -/

def latentP (z : FVec Ideal S16896x6144 .bf16) : FVec Ideal S16386x6144 .f32 :=
  concatenate S16386x6144 0 [⟨S1x6144, broadcastInDim S1x6144 ![] bcast_S_S1x6144 (constant S_ .f32 0x00000000#32)⟩,
    ⟨S16384x6144, extf .f32 (extractStridedSlice S16384x6144 ![0, 0] z slices_S16896x6144_S16384x6144_0_0) bitsLt_bf16_f32⟩,
    ⟨S1x6144, broadcastInDim S1x6144 ![] bcast_S_S1x6144 (constant S_ .f32 0x00000000#32)⟩] concatenates_S1x6144_S16384x6144_S1x6144_S16386x6144_d0

def latent (z : FVec Ideal S16896x6144 .bf16) (w : FVec Ideal S3x6144 .f32) (b : FVec Ideal S6144 .f32) : FVec Ideal S16384x6144 .f32 :=
  addf (addf (addf
    (mulf (extractStridedSlice S16384x6144 ![0, 0] (latentP z) slices_S16386x6144_S16384x6144_0_0) (broadcastInDim S16384x6144 ![0, 1] bcast_S1x6144_S16384x6144_0_1 (broadcastInDim S1x6144 ![1] bcast_S6144_S1x6144_1
      (shapeCast S6144 (extractStridedSlice S1x6144 ![0, 0] w slices_S3x6144_S1x6144_0_0) shapeCasts_S1x6144_S6144))))
    (mulf (extractStridedSlice S16384x6144 ![1, 0] (latentP z) slices_S16386x6144_S16384x6144_1_0) (broadcastInDim S16384x6144 ![0, 1] bcast_S1x6144_S16384x6144_0_1 (broadcastInDim S1x6144 ![1] bcast_S6144_S1x6144_1
      (shapeCast S6144 (extractStridedSlice S1x6144 ![1, 0] w slices_S3x6144_S1x6144_1_0) shapeCasts_S1x6144_S6144)))))
    (mulf (extractStridedSlice S16384x6144 ![2, 0] (latentP z) slices_S16386x6144_S16384x6144_2_0) (broadcastInDim S16384x6144 ![0, 1] bcast_S1x6144_S16384x6144_0_1 (broadcastInDim S1x6144 ![1] bcast_S6144_S1x6144_1
      (shapeCast S6144 (extractStridedSlice S1x6144 ![2, 0] w slices_S3x6144_S1x6144_2_0) shapeCasts_S1x6144_S6144)))))
    (broadcastInDim S16384x6144 ![0, 1] bcast_S1x6144_S16384x6144_0_1 (broadcastInDim S1x6144 ![1] bcast_S6144_S1x6144_1 b))

theorem latentP_at (z : FVec Ideal S16896x6144 .bf16) (i : Fin 16386) (n : Fin 6144) (v : EReal) (h0 : i.val = 0 → v = 0)
    (h1 : ∀ R : Fin 16896, 1 ≤ i.val → i.val < 1 + 16384 → R.val + 1 = 0 + i.val → z (ix2 R n) = v) (h2 : 1 + 16384 ≤ i.val → v = 0) : latentP z (ix2 i n) = v := by
  unfold latentP
  refine three_at (N := 6144) (Q := 16384) (S := 1) (T := 16386) _ _ _ _ i n v (by decide) (fun h => ?_) (fun q h => ?_) (fun q h => ?_)
  · exact zero_eq.trans (h0 h).symm
  · have hq := q.isLt
    exact (rows_at (M := 16384) (N := 6144) z slices_S16896x6144_S16384x6144_0_0 q n (⟨0 + q.val, by omega⟩ : Fin 16896) rfl).trans
      (h1 _ (by omega) (by omega) (by show 0 + q.val + 1 = _; omega))
  · exact zero_eq.trans (h2 (by omega)).symm

theorem latent_at (z : FVec Ideal S16896x6144 .bf16) (w : FVec Ideal S3x6144 .f32) (b : FVec Ideal S6144 .f32) (r : Fin 16384) (n : Fin 6144) :
    latent z w b (ix2 r n) = conv z w b (0 + r.val) n := by
  have hr := r.isLt
  unfold latent conv
  refine congr (congrArg (HAdd.hAdd (α := EReal)) ?_) ((hrow_at (M := 16384) (N := 6144) (by decide) _ _ r n).trans (hvec_at (N := 6144) (by decide) b _ n))
  refine congr (congrArg (HAdd.hAdd (α := EReal)) (congr (congrArg (HAdd.hAdd (α := EReal)) ?_) ?_)) ?_
  · refine congr (congrArg (HMul.hMul (α := EReal)) ?_) (wrow_at (N := 6144) (M := 16384) (by decide) w _ _ _ _ r n (0 : Fin 3) rfl)
    refine (rows_at (M := 16384) (N := 6144) (latentP z) _ r n (⟨0 + r.val, by omega⟩ : Fin 16386) rfl).trans ?_
    refine latentP_at z _ n _ (fun h => ?_) (fun R h1 h2 hR => ?_) (fun h => ?_)
    · have h' : 0 + r.val = 0 := h
      unfold above
      exact if_pos (by omega)
    · have h1' : 1 ≤ 0 + r.val := h1
      have h2' : 0 + r.val < 1 + 16384 := h2
      have hR' : R.val + 1 = 0 + (0 + r.val) := hR
      unfold above
      rw [if_neg (by omega)]
      exact (zrow_lt z n _ R (by omega) (by omega)).symm
    · have h' : 1 + 16384 ≤ 0 + r.val := h
      unfold above
      omega
  · refine congr (congrArg (HMul.hMul (α := EReal)) ?_) (wrow_at (N := 6144) (M := 16384) (by decide) w _ _ _ _ r n (1 : Fin 3) rfl)
    refine (rows_at (M := 16384) (N := 6144) (latentP z) _ r n (⟨1 + r.val, by omega⟩ : Fin 16386) rfl).trans ?_
    refine latentP_at z _ n _ (fun h => ?_) (fun R h1 h2 hR => ?_) (fun h => ?_)
    · have h' : 1 + r.val = 0 := h
      omega
    · have h2' : 1 + r.val < 1 + 16384 := h2
      have hR' : R.val + 1 = 0 + (1 + r.val) := hR
      exact (zrow_lt z n _ R (by omega) (by omega)).symm
    · have h' : 1 + 16384 ≤ 1 + r.val := h
      omega
  · refine congr (congrArg (HMul.hMul (α := EReal)) ?_) (wrow_at (N := 6144) (M := 16384) (by decide) w _ _ _ _ r n (2 : Fin 3) rfl)
    refine (rows_at (M := 16384) (N := 6144) (latentP z) _ r n (⟨2 + r.val, by omega⟩ : Fin 16386) rfl).trans ?_
    refine latentP_at z _ n _ (fun h => ?_) (fun R h1 h2 hR => ?_) (fun h => ?_)
    · have h' : 2 + r.val = 0 := h
      omega
    · have h2' : 2 + r.val < 1 + 16384 := h2
      have hR' : R.val + 1 = 0 + (2 + r.val) := hR
      unfold below
      rw [if_neg (by omega)]
      exact (zrow_lt z n _ R (by omega) (by omega)).symm
    · have h' : 1 + 16384 ≤ 2 + r.val := h
      unfold below
      exact if_pos (by omega)

def contextP (z : FVec Ideal S16896x6144 .bf16) : FVec Ideal S514x6144 .f32 :=
  concatenate S514x6144 0 [⟨S1x6144, broadcastInDim S1x6144 ![] bcast_S_S1x6144 (constant S_ .f32 0x00000000#32)⟩,
    ⟨S256x6144, extf .f32 (extractStridedSlice S256x6144 ![16384, 0] z slices_S16896x6144_S256x6144_16384_0) bitsLt_bf16_f32⟩,
    ⟨S257x6144, broadcastInDim S257x6144 ![] bcast_S_S257x6144 (constant S_ .f32 0x00000000#32)⟩] concatenates_S1x6144_S256x6144_S257x6144_S514x6144_d0

def context (z : FVec Ideal S16896x6144 .bf16) (w : FVec Ideal S3x6144 .f32) (b : FVec Ideal S6144 .f32) : FVec Ideal S512x6144 .f32 :=
  addf (addf (addf
    (mulf (extractStridedSlice S512x6144 ![0, 0] (contextP z) slices_S514x6144_S512x6144_0_0) (broadcastInDim S512x6144 ![0, 1] bcast_S1x6144_S512x6144_0_1 (broadcastInDim S1x6144 ![1] bcast_S6144_S1x6144_1
      (shapeCast S6144 (extractStridedSlice S1x6144 ![0, 0] w slices_S3x6144_S1x6144_0_0) shapeCasts_S1x6144_S6144))))
    (mulf (extractStridedSlice S512x6144 ![1, 0] (contextP z) slices_S514x6144_S512x6144_1_0) (broadcastInDim S512x6144 ![0, 1] bcast_S1x6144_S512x6144_0_1 (broadcastInDim S1x6144 ![1] bcast_S6144_S1x6144_1
      (shapeCast S6144 (extractStridedSlice S1x6144 ![1, 0] w slices_S3x6144_S1x6144_1_0) shapeCasts_S1x6144_S6144)))))
    (mulf (extractStridedSlice S512x6144 ![2, 0] (contextP z) slices_S514x6144_S512x6144_2_0) (broadcastInDim S512x6144 ![0, 1] bcast_S1x6144_S512x6144_0_1 (broadcastInDim S1x6144 ![1] bcast_S6144_S1x6144_1
      (shapeCast S6144 (extractStridedSlice S1x6144 ![2, 0] w slices_S3x6144_S1x6144_2_0) shapeCasts_S1x6144_S6144)))))
    (broadcastInDim S512x6144 ![0, 1] bcast_S1x6144_S512x6144_0_1 (broadcastInDim S1x6144 ![1] bcast_S6144_S1x6144_1 b))

theorem contextP_at (z : FVec Ideal S16896x6144 .bf16) (i : Fin 514) (n : Fin 6144) (v : EReal) (h0 : i.val = 0 → v = 0)
    (h1 : ∀ R : Fin 16896, 1 ≤ i.val → i.val < 1 + 256 → R.val + 1 = 16384 + i.val → z (ix2 R n) = v) (h2 : 1 + 256 ≤ i.val → v = 0) : contextP z (ix2 i n) = v := by
  unfold contextP
  refine three_at (N := 6144) (Q := 256) (S := 257) (T := 514) _ _ _ _ i n v (by decide) (fun h => ?_) (fun q h => ?_) (fun q h => ?_)
  · exact zero_eq.trans (h0 h).symm
  · have hq := q.isLt
    exact (rows_at (M := 256) (N := 6144) z slices_S16896x6144_S256x6144_16384_0 q n (⟨16384 + q.val, by omega⟩ : Fin 16896) rfl).trans
      (h1 _ (by omega) (by omega) (by show 16384 + q.val + 1 = _; omega))
  · exact zero_eq.trans (h2 (by omega)).symm

theorem context_at (z : FVec Ideal S16896x6144 .bf16) (w : FVec Ideal S3x6144 .f32) (b : FVec Ideal S6144 .f32) (r : Fin 512) (n : Fin 6144) :
    context z w b (ix2 r n) = conv z w b (16384 + r.val) n := by
  have hr := r.isLt
  unfold context conv
  refine congr (congrArg (HAdd.hAdd (α := EReal)) ?_) ((hrow_at (M := 512) (N := 6144) (by decide) _ _ r n).trans (hvec_at (N := 6144) (by decide) b _ n))
  refine congr (congrArg (HAdd.hAdd (α := EReal)) (congr (congrArg (HAdd.hAdd (α := EReal)) ?_) ?_)) ?_
  · refine congr (congrArg (HMul.hMul (α := EReal)) ?_) (wrow_at (N := 6144) (M := 512) (by decide) w _ _ _ _ r n (0 : Fin 3) rfl)
    refine (rows_at (M := 512) (N := 6144) (contextP z) _ r n (⟨0 + r.val, by omega⟩ : Fin 514) rfl).trans ?_
    refine contextP_at z _ n _ (fun h => ?_) (fun R h1 h2 hR => ?_) (fun h => ?_)
    · have h' : 0 + r.val = 0 := h
      unfold above
      exact if_pos (by omega)
    · have h1' : 1 ≤ 0 + r.val := h1
      have h2' : 0 + r.val < 1 + 256 := h2
      have hR' : R.val + 1 = 16384 + (0 + r.val) := hR
      unfold above
      rw [if_neg (by omega)]
      exact (zrow_lt z n _ R (by omega) (by omega)).symm
    · have h' : 1 + 256 ≤ 0 + r.val := h
      unfold above
      rw [if_neg (by omega)]
      exact zrow_ge z n _ (by omega)
  · refine congr (congrArg (HMul.hMul (α := EReal)) ?_) (wrow_at (N := 6144) (M := 512) (by decide) w _ _ _ _ r n (1 : Fin 3) rfl)
    refine (rows_at (M := 512) (N := 6144) (contextP z) _ r n (⟨1 + r.val, by omega⟩ : Fin 514) rfl).trans ?_
    refine contextP_at z _ n _ (fun h => ?_) (fun R h1 h2 hR => ?_) (fun h => ?_)
    · have h' : 1 + r.val = 0 := h
      omega
    · have h2' : 1 + r.val < 1 + 256 := h2
      have hR' : R.val + 1 = 16384 + (1 + r.val) := hR
      exact (zrow_lt z n _ R (by omega) (by omega)).symm
    · have h' : 1 + 256 ≤ 1 + r.val := h
      exact zrow_ge z n _ (by omega)
  · refine congr (congrArg (HMul.hMul (α := EReal)) ?_) (wrow_at (N := 6144) (M := 512) (by decide) w _ _ _ _ r n (2 : Fin 3) rfl)
    refine (rows_at (M := 512) (N := 6144) (contextP z) _ r n (⟨2 + r.val, by omega⟩ : Fin 514) rfl).trans ?_
    refine contextP_at z _ n _ (fun h => ?_) (fun R h1 h2 hR => ?_) (fun h => ?_)
    · have h' : 2 + r.val = 0 := h
      omega
    · have h2' : 2 + r.val < 1 + 256 := h2
      have hR' : R.val + 1 = 16384 + (2 + r.val) := hR
      unfold below
      rw [if_neg (by omega)]
      exact (zrow_lt z n _ R (by omega) (by omega)).symm
    · have h' : 1 + 256 ≤ 2 + r.val := h
      unfold below
      rw [if_neg (by omega)]
      exact zrow_ge z n _ (by omega)

/-- Both streams. -/
def whole (z : FVec Ideal S16896x6144 .bf16) (w : FVec Ideal S3x6144 .f32) (b : FVec Ideal S6144 .f32) : FVec Ideal S16896x6144 .f32 :=
  concatenate S16896x6144 0 [⟨S16384x6144, latent z w b⟩, ⟨S512x6144, context z w b⟩] concatenates_S16384x6144_S512x6144_S16896x6144_d0

theorem whole_at (z : FVec Ideal S16896x6144 .bf16) (w : FVec Ideal S3x6144 .f32) (b : FVec Ideal S6144 .f32) (R : Fin 16896) (n : Fin 6144) :
    whole z w b (ix2 R n) = conv z w b R.val n :=
  streams_at (N := 6144) (latent z w b) (context z w b) concatenates_S16384x6144_S512x6144_S16896x6144_d0 R n _
    (fun r hr _ => (latent_at z w b r n).trans (congrArg (conv z w b · n) hr.symm)) (fun r hr _ => (context_at z w b r n).trans (congrArg (conv z w b · n) hr.symm))

/-- The reference's two results. -/
def gate (z : FVec Ideal S16896x6144 .bf16) (w : FVec Ideal S3x6144 .f32) (b : FVec Ideal S6144 .f32) : FVec Ideal S16896x2048 .bf16 :=
  truncf .bf16 (extractStridedSlice S16896x2048 ![0, 0] (whole z w b) slices_S16896x6144_S16896x2048_0_0) bitsLt_bf16_f32
def signal (z : FVec Ideal S16896x6144 .bf16) (w : FVec Ideal S3x6144 .f32) (b : FVec Ideal S6144 .f32) : FVec Ideal S16896x2048 .f32 :=
  mulf (extractStridedSlice S16896x2048 ![0, 2048] (whole z w b) slices_S16896x6144_S16896x2048_0_2048)
    (extractStridedSlice S16896x2048 ![0, 4096] (whole z w b) slices_S16896x6144_S16896x2048_0_4096)

theorem gate_at (z : FVec Ideal S16896x6144 .bf16) (w : FVec Ideal S3x6144 .f32) (b : FVec Ideal S6144 .f32) (R : Fin 16896) (n : Fin 2048) :
    gate z w b (ix2 R n) = conv z w b R.val (⟨0 + n.val, by omega⟩ : Fin 6144) :=
  (cols_at (M := 16896) (N := 2048) (whole z w b) slices_S16896x6144_S16896x2048_0_0 R n (⟨0 + n.val, by omega⟩ : Fin 6144) rfl).trans (whole_at z w b R _)

theorem signal_at (z : FVec Ideal S16896x6144 .bf16) (w : FVec Ideal S3x6144 .f32) (b : FVec Ideal S6144 .f32) (R : Fin 16896) (n : Fin 2048) :
    signal z w b (ix2 R n) = conv z w b R.val (⟨2048 + n.val, by omega⟩ : Fin 6144) * conv z w b R.val (⟨4096 + n.val, by omega⟩ : Fin 6144) :=
  congr (congrArg (HMul.hMul (α := EReal))
    ((cols_at (M := 16896) (N := 2048) (whole z w b) slices_S16896x6144_S16896x2048_0_2048 R n (⟨2048 + n.val, by omega⟩ : Fin 6144) rfl).trans (whole_at z w b R _)))
    ((cols_at (M := 16896) (N := 2048) (whole z w b) slices_S16896x6144_S16896x2048_0_4096 R n (⟨4096 + n.val, by omega⟩ : Fin 6144) rfl).trans (whole_at z w b R _))

end Cert.Reference11Ideal.Hand

end
-- ==== Proof.ConvClaims.lean ====
module

public import proofs.«01_k».proof.Defs
public import proofs.«01_k».proof.Proof.ConvUnit
public import proofs.«01_k».proof.Proof.ConvRef
public import proofs.«01_k».proof.Proof.Gen.Kernel11
public import proofs.«01_k».proof.Proof.Gen.Kernel11Ideal
public import proofs.«01_k».proof.Proof.Gen.Reference11Ideal
public import proofs.«01_k».proof.Proof.Gen.Reference11Ideal.Run
public import Idealize.ShloMosaic.PureOps.BitExact
public import Idealize.ShloMosaic.Adequacy

/-! # The short convolution's call run to the end, and its claims -/

@[expose] public section

set_option maxRecDepth 16384

noncomputable section

namespace Cert.Kernel11Ideal.Hand

open Cert.Kernel11Ideal Cert.Kernel11Ideal.Gen
open Idealize.ShloMosaic Idealize.ShloMosaic.TcCoe
open Idealize.SL Idealize.SL.Sem

theorem bodies_same : Cert.Kernel11.defs₀ (F := Bits) = Cert.Kernel11Ideal.defs₀ (F := Bits) := by
  unfold Cert.Kernel11.defs₀ Cert.Kernel11Ideal.defs₀
  refine congrArg Defs.onTc ?_
  funext l a
  match l, a with
  | 0, _ => rfl

theorem defs_same : Cert.Kernel11.defs (F := Bits) = Cert.Kernel11Ideal.defs (F := Bits) := congrArg (Pipeline.defs Cert.Kernel11Ideal.pcfgs) bodies_same

theorem frame_bits (m : (ℓ : Loc nD τ sig) → Buf (Elt Bits) ℓ) (ρ : Dev nD → PrngReg) :
    θ_run (Cert.Kernel11.defs (F := Bits)) (onTc (τ := τ) (Cert.Kernel11.main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  rw [defs_same]
  exact Cert.Kernel11Ideal.Gen.frame (F := Bits) m ρ

theorem run_result (m : (ℓ : Loc nD τ sig) → Buf (Elt Ideal) ℓ) (ρ : Dev nD → PrngReg) :
    θ_run (Cert.Kernel11Ideal.defs (F := Ideal)) (onTc (τ := τ) (Cert.Kernel11Ideal.main (F := Ideal))) ⟨m, fun _ => 0, ρ⟩ (fun r => ∀ c : Dev nD,
      r.2.mem ((c.tc : Thread nD τ).loc main_v3_0) = finG m c
      ∧ r.2.mem ((c.tc : Thread nD τ).loc main_v3_1) = finS m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 11).trans (finalG m c), ((h.2.1 c).1 12).trans (finalS m c), h.1.1 c⟩)
    (θ_run_and (Cert.Kernel11Ideal.Gen.frame (F := Ideal) m ρ) (run_main_quiescent m ρ))

end Cert.Kernel11Ideal.Hand

namespace Cert.Proof

open Idealize.ShloMosaic hiding ix0 ix1 ix2 ix3 ix4 eq_ix2
open Idealize.ShloMosaic.TcCoe
open Idealize.SL Idealize.SL.Sem
open Idealize.ShloMosaic.ValueIdx (ix1 ix2 ix3)

section

open Cert.Kernel11Ideal Cert.Kernel11Ideal.Gen

theorem frame_kernel11Ideal : Cert.quiescent_Kernel11Ideal := fun m ρ _ => Cert.Kernel11Ideal.Gen.frame (F := Ideal) m ρ

theorem frame_kernel11 : Cert.quiescent_Kernel11 := fun m ρ _ => Cert.Kernel11Ideal.Hand.frame_bits m ρ

theorem frame_reference11Ideal : Cert.quiescent_Reference11Ideal := fun m ρ _ =>
  (θ_run Cert.Reference11Ideal.defs _ _).mono (fun r h => ⟨fun c => (h c).2.2, sem_eq_zero_of_no_sems (by decide) r.2⟩) (Cert.Reference11Ideal.Value.run (F := Ideal) m ρ)

theorem same_gate (m : (ℓ : Loc nD τ sig) → Buf (Elt Ideal) ℓ) (c : Dev nD) :
    Cert.Reference11Ideal.Hand.gate (m ((c.tc : Thread nD τ).loc main_arg0)) (m ((c.tc : Thread nD τ).loc main_arg1)) (m ((c.tc : Thread nD τ).loc main_arg2)) = Cert.Kernel11Ideal.Hand.finG m c := by
  funext x
  obtain ⟨R, n, rfl⟩ : ∃ (R : Fin 16896) (n : Fin 2048), x = ix2 R n := ⟨x 0, x 1, funext fun b => match b with | ⟨0, _⟩ => rfl | ⟨1, _⟩ => rfl⟩
  refine (Cert.Reference11Ideal.Hand.gate_at _ _ _ R n).trans ?_
  unfold Cert.Kernel11Ideal.Hand.finG Cert.Kernel11Ideal.Hand.elemG
  exact congrArg (Cert.Mix.conv _ _ _ R.val) (Fin.ext (by show 0 + n.val = 0 * 2048 + n.val; omega))

theorem same_signal (m : (ℓ : Loc nD τ sig) → Buf (Elt Ideal) ℓ) (c : Dev nD) :
    Cert.Reference11Ideal.Hand.signal (m ((c.tc : Thread nD τ).loc main_arg0)) (m ((c.tc : Thread nD τ).loc main_arg1)) (m ((c.tc : Thread nD τ).loc main_arg2)) = Cert.Kernel11Ideal.Hand.finS m c := by
  funext x
  obtain ⟨R, n, rfl⟩ : ∃ (R : Fin 16896) (n : Fin 2048), x = ix2 R n := ⟨x 0, x 1, funext fun b => match b with | ⟨0, _⟩ => rfl | ⟨1, _⟩ => rfl⟩
  refine (Cert.Reference11Ideal.Hand.signal_at _ _ _ R n).trans ?_
  unfold Cert.Kernel11Ideal.Hand.finS Cert.Kernel11Ideal.Hand.elemS
  exact congr (congrArg (HMul.hMul (α := EReal)) (congrArg (Cert.Mix.conv _ _ _ R.val) (Fin.ext (by show 2048 + n.val = 1 * 2048 + n.val; omega))))
    (congrArg (Cert.Mix.conv _ _ _ R.val) (Fin.ext (by show 4096 + n.val = 2 * 2048 + n.val; omega)))

theorem algebraic11 : Cert.algebraic_Kernel11Ideal_Reference11Ideal := fun m ρ m' ρ' _ hm =>
  ⟨fun c => Cert.Kernel11Ideal.Hand.finG m c, fun c => Cert.Kernel11Ideal.Hand.finS m c, Cert.Kernel11Ideal.Hand.run_result m ρ,
    (θ_run Cert.Reference11Ideal.defs _ _).mono (fun _ h c => ⟨(h c).1.trans (by
      refine Eq.trans ?_ (same_gate m c)
      obtain ⟨h0, h1, h2⟩ := hm c
      have e : ∀ a0 a1 a2, a0 = m ((c.tc : Thread nD τ).loc main_arg0) → a1 = m ((c.tc : Thread nD τ).loc main_arg1) → a2 = m ((c.tc : Thread nD τ).loc main_arg2) →
          Cert.Reference11Ideal.Hand.gate a0 a1 a2 = Cert.Reference11Ideal.Hand.gate (m ((c.tc : Thread nD τ).loc main_arg0)) (m ((c.tc : Thread nD τ).loc main_arg1)) (m ((c.tc : Thread nD τ).loc main_arg2)) := by
        rintro _ _ _ rfl rfl rfl; rfl
      exact e _ _ _ h0 h1 h2), (h c).2.1.trans (by
      refine Eq.trans ?_ (same_signal m c)
      obtain ⟨h0, h1, h2⟩ := hm c
      have e : ∀ a0 a1 a2, a0 = m ((c.tc : Thread nD τ).loc main_arg0) → a1 = m ((c.tc : Thread nD τ).loc main_arg1) → a2 = m ((c.tc : Thread nD τ).loc main_arg2) →
          Cert.Reference11Ideal.Hand.signal a0 a1 a2 = Cert.Reference11Ideal.Hand.signal (m ((c.tc : Thread nD τ).loc main_arg0)) (m ((c.tc : Thread nD τ).loc main_arg1)) (m ((c.tc : Thread nD τ).loc main_arg2)) := by
        rintro _ _ _ rfl rfl rfl; rfl
      exact e _ _ _ h0 h1 h2), (h c).2.2⟩)
      (Cert.Reference11Ideal.Value.run (F := Ideal) m' ρ')⟩

end

end Cert.Proof

end
-- ==== Proof.lean ====
module

public import proofs.«01_k».proof.Defs
public import proofs.«01_k».proof.Proof.Run
public import proofs.«01_k».proof.Proof.Pre
public import proofs.«01_k».proof.Proof.Value
public import proofs.«01_k».proof.Proof.FfnFrame
public import proofs.«01_k».proof.Proof.FfnPre
public import proofs.«01_k».proof.Proof.FfnRef
public import proofs.«01_k».proof.Proof.CombFrame
public import proofs.«01_k».proof.Proof.CombPre
public import proofs.«01_k».proof.Proof.CombRef
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Reference.Run
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Loops
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.MixClaims
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Kernel9
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Reference9Ideal
public import proofs.«01_k».proof.Proof.Gen.Reference9Ideal.Run
public import proofs.«01_k».proof.Proof.Gen.Kernel10
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Reference10Ideal
public import proofs.«01_k».proof.Proof.Gen.Reference10Ideal.Run
public import proofs.«01_k».proof.Proof.ConvClaims
public import proofs.«01_k».proof.Proof.Gen.Kernel11
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Reference11Ideal
public import proofs.«01_k».proof.Proof.Gen.Reference11Ideal.Run
public import Idealize.ShloMosaic.Adequacy
public import Idealize.ShloMosaic.Init

/-! # The claim, put together -/

@[expose] public section

set_option maxRecDepth 16384

noncomputable section

namespace Cert.Proof

open Idealize.ShloMosaic hiding ix1 ix2
open Idealize.ShloMosaic.TcCoe Idealize.ShloMosaic.Tactic
open Idealize.SL Idealize.SL.Sem
open Idealize.ShloMosaic.ValueIdx (ix1 ix2)

variable {F : FTy → Type} [FloatOps F]

instance : Cert.Pre_rows_apart.Facts := Cert.Pre_rows_apart.Hand.facts

section dispatch

open Cert.KernelIdeal Cert.KernelIdeal.Gen Cert.KernelIdeal.Hand

/-- The result's buffer begins as zeros. -/
theorem zeros (m : (ℓ : Loc nD τ sig) → Buf (Elt F) ℓ) (c : Dev nD) (x : S74752x2048.Idx) :
    (V m c main_v0 : S74752x2048.Idx → F .f32) x = FloatOps.ofBits .f32 0x00000000#32 := by
  have h : V m c main_v0 = broadcastInDim S74752x2048 ![] bcast_S_S74752x2048 (constant S_ .f32 0x00000000#32) := by
    after_results <;> rfl
  exact congrFun h x

/-- What the 65 points leave is what the reference gathers. -/
theorem final (m : (ℓ : Loc nD τ sig) → Buf (Elt F) ℓ) (hg : Good m) (c : Dev nD) :
    stage m 65 c = Cert.ReferenceIdeal.Hand.result (F := F) (m ((c.tc : Thread nD τ).loc main_arg0)) (m ((c.tc : Thread nD τ).loc main_arg1)) := by
  have hw : ∀ j, (Cert.ReferenceIdeal.Hand.words (m ((c.tc : Thread nD τ).loc main_arg0)) (ix1 j)).toNat = dst m c j := fun j =>
    congrArg BitVec.toNat (Cert.ReferenceIdeal.Hand.words_at _ j)
  have hlt := (hg c).1
  have hinj := (hg c).2
  funext x
  obtain ⟨r, k, rfl⟩ : ∃ r k, x = ix2 r k := ⟨x 0, x 1, funext fun b => match b with | ⟨0, _⟩ => rfl | ⟨1, _⟩ => rfl⟩
  by_cases hx : ∃ j, dst m c j = r.val
  · obtain ⟨j, hj⟩ := hx
    refine (stage_hit m hg 65 c (ix2 r k) j (by have := j.isLt; omega) hj).trans ?_
    exact (Cert.ReferenceIdeal.Hand.result_hit _ _ (fun j => by rw [hw]; exact hlt j)
      (fun a b hab => hinj (by rw [← hw, ← hw]; exact hab)) j r (by rw [hw]; exact hj) k).symm
  · refine (stage_miss m 65 c (ix2 r k) (fun j _ h => hx ⟨j, h⟩)).trans ((zeros m c _).trans ?_)
    exact (Cert.ReferenceIdeal.Hand.result_miss _ _ (fun j => by rw [hw]; exact hlt j) r (fun j h => hx ⟨j, by rw [← hw]; exact h⟩) k).symm

theorem good_of (m : (ℓ : Loc nD τ sig) → Buf (Elt F) ℓ)
    (h : ∀ c : Dev nD, Cert.Pre_rows_apart.fn (F := F) (m ((c.tc : Thread nD τ).loc main_arg0)) (m ((c.tc : Thread nD τ).loc main_arg1)) = fun _ => 1#1) :
    Good m := fun c => Cert.Pre_rows_apart.Hand.good _ _ (h c)

theorem frame_kernelIdeal : Cert.quiescent_KernelIdeal := fun m ρ hp =>
  (θ_run Cert.KernelIdeal.defs _ _).mono (fun _ h => ⟨fun c => (h.1 c).2, h.2⟩) (run_all (F := Ideal) m ρ (good_of m hp))

/-- The two kernel programs call the same body. -/
theorem bodies_same : Cert.Kernel.defs₀ (F := Bits) = Cert.KernelIdeal.defs₀ (F := Bits) := by
  unfold Cert.Kernel.defs₀ Cert.KernelIdeal.defs₀
  refine congrArg Defs.onTc ?_
  funext l a
  match l, a with
  | 0, _ => rfl
theorem defs_same : Cert.Kernel.defs (F := Bits) = Cert.KernelIdeal.defs (F := Bits) := congrArg (Pipeline.defs _) bodies_same

/-- The run, for the program as printed at the hardware's floats. -/
theorem run_kernel (m : (ℓ : Loc nD τ sig) → Buf (Elt Bits) ℓ) (ρ : Dev nD → PrngReg) (hg : Good m) :
    θ_run (Cert.Kernel.defs (F := Bits)) (onTc (τ := τ) (Cert.Kernel.main (F := Bits))) ⟨m, fun _ => 0, ρ⟩ (fun r => (∀ c : Dev nD,
      r.2.mem ((c.tc : Thread nD τ).loc main_v0) = (stage m 65 c : Buf (Elt Bits) ((c : Thread nD τ).loc main_v0))
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_same]
  exact run_all (F := Bits) m ρ hg

theorem frame_kernel : Cert.quiescent_Kernel := fun m ρ hp =>
  (θ_run (Cert.Kernel.defs (F := Bits)) _ _).mono (fun _ h => ⟨fun c => (h.1 c).2, h.2⟩) (run_kernel m ρ (good_of m hp))

end dispatch

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem frame_reference : Cert.quiescent_Reference := fun m ρ _ =>
  (θ_run Cert.Reference.defs _ _).mono (fun r h => ⟨fun c => (h c).2, sem_eq_zero_of_no_sems (by decide) r.2⟩)
    (Cert.Reference.Value.run (F := Bits) m ρ)

theorem algebraic : Cert.algebraic_KernelIdeal_ReferenceIdeal := fun m ρ m' ρ' hp hm =>
  ⟨fun c => Cert.KernelIdeal.Hand.stage m 65 c,
    (θ_run Cert.KernelIdeal.defs _ _).mono (fun _ h c => h.1 c) (Cert.KernelIdeal.Hand.run_all (F := Ideal) m ρ (good_of m hp)),
    (θ_run Cert.ReferenceIdeal.defs _ _).mono (fun _ h c => ⟨(h c).1.trans (by
      refine Eq.trans ?_ (final (F := Ideal) m (good_of m hp) c).symm
      refine Eq.trans ?_ (congr (congrArg (Cert.ReferenceIdeal.Hand.result (F := Ideal)) (hm c).1) (hm c).2)
      rfl), (h c).2⟩)
      (Cert.ReferenceIdeal.Value.run (F := Ideal) m' ρ')⟩

theorem bitexact : Cert.bitexact_Kernel_Reference := fun m ρ m' ρ' hp hm =>
  ⟨fun c => Cert.KernelIdeal.Hand.stage (F := Bits) m 65 c,
    (θ_run Cert.Kernel.defs _ _).mono (fun _ h c => h.1 c) (run_kernel m ρ (good_of m hp)),
    (θ_run Cert.Reference.defs _ _).mono (fun _ h c => ⟨(h c).1.trans (by
      refine Eq.trans ?_ (final (F := Bits) m (good_of m hp) c).symm
      refine Eq.trans ?_ (congr (congrArg (Cert.ReferenceIdeal.Hand.result (F := Bits)) (hm c).1) (hm c).2)
      rfl), (h c).2⟩)
      (Cert.Reference.Value.run (F := Bits) m' ρ')⟩

section feedForward

open Cert.Kernel2Ideal Cert.Kernel2Ideal.Gen Cert.Kernel2Ideal.Hand

instance : Cert.Pre_experts_in_range.Facts := Cert.Pre_experts_in_range.Hand.facts

theorem good_experts (m : (ℓ : Loc nD τ sig) → Buf (Elt F) ℓ)
    (h : ∀ c : Dev nD, Cert.Pre_experts_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) = fun _ => 1#1) :
    Good m := fun c b => Cert.Pre_experts_in_range.Hand.good _ _ _ _ _ _ _ (h c) b

theorem frame_kernel2Ideal : Cert.quiescent_Kernel2Ideal := fun m ρ hp =>
  (θ_run Cert.Kernel2Ideal.defs _ _).mono (fun _ h => ⟨fun c => (h.1 c).2, h.2⟩) (run_args (F := Ideal) m ρ (good_experts m hp))

theorem frame_kernel2 : Cert.quiescent_Kernel2 := fun m ρ hp =>
  (θ_run (Cert.Kernel2.defs (F := Bits)) _ _).mono (fun _ h => ⟨fun c => (h.1 c).2, h.2⟩) (Cert.Kernel2Ideal.Hand.run_kernel m ρ (good_experts m hp))

theorem frame_reference2Ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- What the reference computes of the call's arguments is the array the call leaves. -/
theorem feedForward_same (m : (ℓ : Loc nD τ sig) → Buf (Elt Ideal) ℓ) (hg : Good m) (c : Dev nD) :
    Cert.Reference2Ideal.Hand.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6))
      = fin m hg c := by
  funext x
  obtain ⟨R, n, rfl⟩ : ∃ (R : Fin 74752) (n : Fin 2048), x = ix2 R n := ⟨x 0, x 1, funext fun b => match b with | ⟨0, _⟩ => rfl | ⟨1, _⟩ => rfl⟩
  have hR := R.isLt
  obtain ⟨b, r, rfl⟩ : ∃ (b : Fin 292) (r : Fin 256), R = Cert.Reference2Ideal.Hand.rowOf b r :=
    ⟨⟨R.val / 256, by omega⟩, ⟨R.val % 256, by omega⟩, Fin.ext (show R.val = R.val / 256 * 256 + R.val % 256 by omega)⟩
  refine (Cert.Reference2Ideal.Hand.result_at _ _ _ _ _ _ _ b (hg c b) r n).trans ?_
  have hb : (⟨(Cert.Reference2Ideal.Hand.rowOf b r).val / 256, by omega⟩ : Fin 292) = b :=
    Fin.ext (show (b.val * 256 + r.val) / 256 = b.val by omega)
  show _ = elem m hg c (⟨(Cert.Reference2Ideal.Hand.rowOf b r).val / 256, _⟩ : Fin 292) (Cert.Reference2Ideal.Hand.rowOf b r) n
  rw [hb]
  unfold elem
  by_cases h : IntOp.cmpi .slt (BitVec.ofNat 32 b.val) (used m c) = 1#1
  · exact (if_pos h).trans (if_pos h).symm
  · exact (if_neg h).trans (if_neg h).symm

theorem algebraic2 : Cert.algebraic_Kernel2Ideal_Reference2Ideal := fun m ρ m' ρ' hp hm =>
  ⟨fun c => fin m (good_experts m hp) c,
    (θ_run Cert.Kernel2Ideal.defs _ _).mono (fun _ h c => ⟨(h.1 c).1.trans (Cert.Kernel2Ideal.Hand.final m (good_experts m hp) c), (h.1 c).2⟩)
      (run_args (F := Ideal) m ρ (good_experts m hp)),
    (θ_run Cert.Reference2Ideal.defs _ _).mono (fun _ h c => ⟨(h c).1.trans (by
      refine Eq.trans ?_ (feedForward_same m (good_experts m hp) c)
      obtain ⟨h0, h1, h2, h3, h4, h5, h6⟩ := hm c
      refine (Cert.Reference2Ideal.Hand.res_eq m' c).trans ?_
      exact congr (congr (congr (congr (congr (congr (congrArg Cert.Reference2Ideal.Hand.result h0) h1) h2) h3) h4) h5) h6), (h c).2⟩)
      (Cert.Reference2Ideal.Value.run (F := Ideal) m' ρ')⟩

end feedForward

section combine

open Cert.Kernel3Ideal Cert.Kernel3Ideal.Gen Cert.Kernel3Ideal.Hand

instance : Cert.Pre_rows_in_range.Facts := Cert.Pre_rows_in_range.Hand.facts

theorem good_rows (m : (ℓ : Loc nD τ sig) → Buf (Elt F) ℓ)
    (h : ∀ c : Dev nD, Cert.Pre_rows_in_range.fn (F := F) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    Cert.Kernel3Ideal.Hand.Good m := fun c j => Cert.Pre_rows_in_range.Hand.good _ _ _ _ _ (h c) j

theorem frame_kernel3Ideal : Cert.quiescent_Kernel3Ideal := fun m ρ hp =>
  (θ_run Cert.Kernel3Ideal.defs _ _).mono (fun _ h => ⟨fun c => (h.1 c).2, h.2⟩) (Cert.Kernel3Ideal.Hand.run_all (F := Ideal) m ρ (good_rows m hp))

theorem frame_kernel3 : Cert.quiescent_Kernel3 := fun m ρ hp =>
  (θ_run (Cert.Kernel3.defs (F := Bits)) _ _).mono (fun _ h => ⟨fun c => (h.1 c).2, h.2⟩) (Cert.Kernel3Ideal.Hand.run_kernel m ρ (good_rows m hp))

theorem frame_reference3Ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- What the reference computes of the call's arguments is the array the call leaves. -/
theorem combine_same (m : (ℓ : Loc nD τ sig) → Buf (Elt Ideal) ℓ) (hg : Cert.Kernel3Ideal.Hand.Good m) (c : Dev nD) :
    Cert.Reference3Ideal.Hand.result (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) = Cert.Kernel3Ideal.Hand.fin m c := by
  funext x
  obtain ⟨R, n, rfl⟩ : ∃ (R : Fin 16896) (n : Fin 2048), x = ix2 R n := ⟨x 0, x 1, funext fun b => match b with | ⟨0, _⟩ => rfl | ⟨1, _⟩ => rfl⟩
  refine (Cert.Reference3Ideal.Hand.result_at _ _ _ _ _ R n).trans ?_
  refine congrArg (HAdd.hAdd _) (congrArg (HMul.hMul _) ?_)
  refine Cert.Reference3Ideal.Hand.summed_at _ _ _ (hg c) R n
    (fun k => Cert.Kernel3Ideal.Hand.argY m c (ix2 (Cert.Kernel3Ideal.Hand.src m c (Cert.Kernel3Ideal.Hand.posn R k)) n)) fun k => ?_
  refine congrArg (fun e : Fin 74752 => Cert.Kernel3Ideal.Hand.argY m c (ix2 e n)) (Fin.ext ?_)
  exact Nat.mod_eq_of_lt (hg c _)

theorem algebraic3 : Cert.algebraic_Kernel3Ideal_Reference3Ideal := fun m ρ m' ρ' hp hm =>
  ⟨fun c => Cert.Kernel3Ideal.Hand.fin m c,
    (θ_run Cert.Kernel3Ideal.defs _ _).mono (fun _ h c => ⟨(h.1 c).1.trans (Cert.Kernel3Ideal.Hand.final m c), (h.1 c).2⟩)
      (Cert.Kernel3Ideal.Hand.run_all (F := Ideal) m ρ (good_rows m hp)),
    (θ_run Cert.Reference3Ideal.defs _ _).mono (fun _ h c => ⟨(h c).1.trans (by
      refine Eq.trans ?_ (combine_same m (good_rows m hp) c)
      obtain ⟨h0, h1, h2, h3, h4⟩ := hm c
      have e : ∀ d g x mod y, d = m ((c.tc : Thread nD τ).loc main_arg0) → g = m ((c.tc : Thread nD τ).loc main_arg1) → x = m ((c.tc : Thread nD τ).loc main_arg2)
          → mod = m ((c.tc : Thread nD τ).loc main_arg3) → y = m ((c.tc : Thread nD τ).loc main_arg4) → Cert.Reference3Ideal.Hand.result d g x mod y
          = Cert.Reference3Ideal.Hand.result (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) := by
        rintro _ _ _ _ _ rfl rfl rfl rfl rfl; rfl
      exact e _ _ _ _ _ h0 h1 h2 h3 h4), (h c).2⟩)
      (Cert.Reference3Ideal.Value.run (F := Ideal) m' ρ')⟩

end combine

theorem claim : Cert.Claim :=
  ⟨inferInstance, inferInstance, inferInstance, inferInstance, inferInstance, inferInstance, inferInstance, inferInstance, inferInstance,
    inferInstance, inferInstance, inferInstance, inferInstance, inferInstance, inferInstance, inferInstance, inferInstance, inferInstance,
    inferInstance, inferInstance, inferInstance, inferInstance, inferInstance, inferInstance, inferInstance, inferInstance, inferInstance,
    inferInstance, inferInstance, inferInstance, inferInstance, inferInstance, inferInstance, inferInstance, inferInstance, inferInstance, inferInstance,
    frame_kernel, frame_kernelIdeal, frame_referenceIdeal, frame_reference, frame_kernel2, frame_kernel2Ideal, frame_reference2Ideal,
    frame_kernel3, frame_kernel3Ideal, frame_reference3Ideal,
    frame_kernel4, frame_kernel4Ideal, frame_reference4Ideal,
    frame_kernel5, frame_kernel5Ideal, frame_reference5Ideal,
    frame_kernel6, frame_kernel6Ideal, frame_reference6Ideal,
    frame_kernel7, frame_kernel7Ideal, frame_reference7Ideal,
    frame_kernel8, frame_kernel8Ideal, frame_reference8Ideal,
    frame_kernel9, frame_kernel9Ideal, frame_reference9Ideal,
    frame_kernel10, frame_kernel10Ideal, frame_reference10Ideal,
    frame_kernel11, frame_kernel11Ideal, frame_reference11Ideal,
    trivial, bitexact, algebraic, trivial, algebraic2, trivial, algebraic3, trivial, algebraic4, trivial, algebraic5, trivial, algebraic6, trivial, algebraic7, trivial, algebraic8, trivial, algebraic9, trivial, algebraic10, trivial, algebraic11⟩

end Cert.Proof

end
